-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInARefIdeal (m : (ℓ : Loc Cert.DwInARefIdeal.nD Cert.DwInARefIdeal.τ Cert.DwInARefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradIdeal_down_finite [hPre_down_finite : Cert.Pre_down_finite.Facts] (m : (ℓ : Loc Cert.DownGradIdeal.nD Cert.DownGradIdeal.τ Cert.DownGradIdeal.sig) → Buf (Elt Ideal) ℓ) : Prop :=
  ∀ c : Dev Cert.DownGradIdeal.nD,
    (Cert.Pre_down_finite.fn (F := Ideal) (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)) (m ((c.tc : Thread Cert.DownGradIdeal.nD Cert.DownGradIdeal.τ).loc Cert.DownGradIdeal.main_arg2))) = (fun _ => 1#1)

def Pre_DownGradRefIdeal (m : (ℓ : Loc Cert.DownGradRefIdeal.nD Cert.DownGradRefIdeal.τ Cert.DownGradRefIdeal.sig) → Buf (Elt Ideal) ℓ) : Prop :=
  True

def Pre_DownGradRefIdeal_down_finite [hPre_down_finite : Cert.Pre_down_finite.Facts] (m : (ℓ : Loc Cert.DownGradRefIdeal.nD Cert.DownGradRefIdeal.τ Cert.DownGradRefIdeal.sig) → Buf (Elt Ideal) ℓ) : Prop :=
  ∀ c : Dev Cert.DownGradRefIdeal.nD,
    (Cert.Pre_down_finite.fn (F := Ideal) (m ((c.tc : Thread Cert.DownGradRefIdeal.nD Cert.DownGradRefIdeal.τ).loc Cert.DownGradRefIdeal.main_arg0)) (m ((c.tc : Thread Cert.DownGradRefIdeal.nD Cert.DownGradRefIdeal.τ).loc Cert.DownGradRefIdeal.main_arg1)) (m ((c.tc : Thread Cert.DownGradRefIdeal.nD Cert.DownGradRefIdeal.τ).loc Cert.DownGradRefIdeal.main_arg2))) = (fun _ => 1#1)

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInRefIdeal (m : (ℓ : Loc Cert.CastInRefIdeal.nD Cert.CastInRefIdeal.τ Cert.CastInRefIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutRefIdeal (m : (ℓ : Loc Cert.CastOutRefIdeal.nD Cert.CastOutRefIdeal.τ Cert.CastOutRefIdeal.sig) → Buf (Elt Ideal) ℓ) : Prop :=
  True

def Pre_CastUp (m : (ℓ : Loc Cert.CastUp.nD Cert.CastUp.τ Cert.CastUp.sig) → Buf (Elt Bits) ℓ) : Prop :=
  True

def Pre_CastUpIdeal (m : (ℓ : Loc Cert.CastUpIdeal.nD Cert.CastUpIdeal.τ Cert.CastUpIdeal.sig) → Buf (Elt Ideal) ℓ) : Prop :=
  True

def Pre_CastUpRefIdeal (m : (ℓ : Loc Cert.CastUpRefIdeal.nD Cert.CastUpRefIdeal.τ Cert.CastUpRefIdeal.sig) → Buf (Elt Ideal) ℓ) : Prop :=
  True

def Pre_CastDown (m : (ℓ : Loc Cert.CastDown.nD Cert.CastDown.τ Cert.CastDown.sig) → Buf (Elt Bits) ℓ) : Prop :=
  True

def Pre_CastDownIdeal (m : (ℓ : Loc Cert.CastDownIdeal.nD Cert.CastDownIdeal.τ Cert.CastDownIdeal.sig) → Buf (Elt Ideal) ℓ) : Prop :=
  True

def Pre_CastDownRefIdeal (m : (ℓ : Loc Cert.CastDownRefIdeal.nD Cert.CastDownRefIdeal.τ Cert.CastDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2)
      ∧ r.2.mem ((c.tc : Thread Cert.UpGrad.nD Cert.UpGrad.τ).loc Cert.UpGrad.main_arg3) = m ((c.tc : Thread Cert.UpGrad.nD Cert.UpGrad.τ).loc Cert.UpGrad.main_arg3)
      ∧ r.2.mem ((c.tc : Thread Cert.UpGrad.nD Cert.UpGrad.τ).loc Cert.UpGrad.main_arg4) = m ((c.tc : Thread Cert.UpGrad.nD Cert.UpGrad.τ).loc Cert.UpGrad.main_arg4)
      ∧ r.2.mem ((c.tc : Thread Cert.UpGrad.nD Cert.UpGrad.τ).loc Cert.UpGrad.main_arg5) = m ((c.tc : Thread Cert.UpGrad.nD Cert.UpGrad.τ).loc Cert.UpGrad.main_arg5))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
      ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
      ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4)
      ∧ r.2.mem ((c.tc : Thread Cert.UpGradIdeal.nD Cert.UpGradIdeal.τ).loc Cert.UpGradIdeal.main_arg5) = m ((c.tc : Thread Cert.UpGradIdeal.nD Cert.UpGradIdeal.τ).loc Cert.UpGradIdeal.main_arg5))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2)
      ∧ r.2.mem ((c.tc : Thread Cert.UpGradRefIdeal.nD Cert.UpGradRefIdeal.τ).loc Cert.UpGradRefIdeal.main_arg3) = m ((c.tc : Thread Cert.UpGradRefIdeal.nD Cert.UpGradRefIdeal.τ).loc Cert.UpGradRefIdeal.main_arg3)
      ∧ r.2.mem ((c.tc : Thread Cert.UpGradRefIdeal.nD Cert.UpGradRefIdeal.τ).loc Cert.UpGradRefIdeal.main_arg4) = m ((c.tc : Thread Cert.UpGradRefIdeal.nD Cert.UpGradRefIdeal.τ).loc Cert.UpGradRefIdeal.main_arg4)
      ∧ r.2.mem ((c.tc : Thread Cert.UpGradRefIdeal.nD Cert.UpGradRefIdeal.τ).loc Cert.UpGradRefIdeal.main_arg5) = m ((c.tc : Thread Cert.UpGradRefIdeal.nD Cert.UpGradRefIdeal.τ).loc Cert.UpGradRefIdeal.main_arg5))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1)
      ∧ r.2.mem ((c.tc : Thread Cert.DwInA.nD Cert.DwInA.τ).loc Cert.DwInA.main_arg2) = m ((c.tc : Thread Cert.DwInA.nD Cert.DwInA.τ).loc Cert.DwInA.main_arg2))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
      ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ r.2.sem = fun _ => 0)

def quiescent_DwInARefIdeal [hDwInARefIdeal : Cert.DwInARefIdeal.Facts] : Prop :=
  ∀ (m : (ℓ : Loc Cert.DwInARefIdeal.nD Cert.DwInARefIdeal.τ Cert.DwInARefIdeal.sig) → Buf (Elt Ideal) ℓ) (g : Dev Cert.DwInARefIdeal.nD → PrngReg), Pre_DwInARefIdeal m →
    θ_run (Cert.DwInARefIdeal.defs (F := Ideal)) (onTc (τ := Cert.DwInARefIdeal.τ) (Cert.DwInARefIdeal.main (F := Ideal))) ⟨m, fun _ => 0, g⟩ (fun r => (∀ c : Dev Cert.DwInARefIdeal.nD,
      r.2.mem ((c.tc : Thread Cert.DwInARefIdeal.nD Cert.DwInARefIdeal.τ).loc Cert.DwInARefIdeal.main_arg0) = m ((c.tc : Thread Cert.DwInARefIdeal.nD Cert.DwInARefIdeal.τ).loc Cert.DwInARefIdeal.main_arg0)
      ∧ r.2.mem ((c.tc : Thread Cert.DwInARefIdeal.nD Cert.DwInARefIdeal.τ).loc Cert.DwInARefIdeal.main_arg1) = m ((c.tc : Thread Cert.DwInARefIdeal.nD Cert.DwInARefIdeal.τ).loc Cert.DwInARefIdeal.main_arg1)
      ∧ r.2.mem ((c.tc : Thread Cert.DwInARefIdeal.nD Cert.DwInARefIdeal.τ).loc Cert.DwInARefIdeal.main_arg2) = m ((c.tc : Thread Cert.DwInARefIdeal.nD Cert.DwInARefIdeal.τ).loc Cert.DwInARefIdeal.main_arg2))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1)
      ∧ r.2.mem ((c.tc : Thread Cert.DwInB.nD Cert.DwInB.τ).loc Cert.DwInB.main_arg2) = m ((c.tc : Thread Cert.DwInB.nD Cert.DwInB.τ).loc Cert.DwInB.main_arg2))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
      ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1)
      ∧ r.2.mem ((c.tc : Thread Cert.DwInBRefIdeal.nD Cert.DwInBRefIdeal.τ).loc Cert.DwInBRefIdeal.main_arg2) = m ((c.tc : Thread Cert.DwInBRefIdeal.nD Cert.DwInBRefIdeal.τ).loc Cert.DwInBRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3)
      ∧ r.2.mem ((c.tc : Thread Cert.DwOut.nD Cert.DwOut.τ).loc Cert.DwOut.main_arg4) = m ((c.tc : Thread Cert.DwOut.nD Cert.DwOut.τ).loc Cert.DwOut.main_arg4)
      ∧ r.2.mem ((c.tc : Thread Cert.DwOut.nD Cert.DwOut.τ).loc Cert.DwOut.main_arg5) = m ((c.tc : Thread Cert.DwOut.nD Cert.DwOut.τ).loc Cert.DwOut.main_arg5))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
      ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
      ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3)
      ∧ r.2.mem ((c.tc : Thread Cert.DwOutRefIdeal.nD Cert.DwOutRefIdeal.τ).loc Cert.DwOutRefIdeal.main_arg4) = m ((c.tc : Thread Cert.DwOutRefIdeal.nD Cert.DwOutRefIdeal.τ).loc Cert.DwOutRefIdeal.main_arg4)
      ∧ r.2.mem ((c.tc : Thread Cert.DwOutRefIdeal.nD Cert.DwOutRefIdeal.τ).loc Cert.DwOutRefIdeal.main_arg5) = m ((c.tc : Thread Cert.DwOutRefIdeal.nD Cert.DwOutRefIdeal.τ).loc Cert.DwOutRefIdeal.main_arg5))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1)
      ∧ r.2.mem ((c.tc : Thread Cert.DownGrad.nD Cert.DownGrad.τ).loc Cert.DownGrad.main_arg2) = m ((c.tc : Thread Cert.DownGrad.nD Cert.DownGrad.τ).loc Cert.DownGrad.main_arg2))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ r.2.sem = fun _ => 0)

def quiescent_DownGradIdeal_pre_down_finite [hDownGradIdeal : Cert.DownGradIdeal.Facts] [hPre_down_finite : Cert.Pre_down_finite.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal_down_finite m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1)
      ∧ r.2.mem ((c.tc : Thread Cert.DownGradRefIdeal.nD Cert.DownGradRefIdeal.τ).loc Cert.DownGradRefIdeal.main_arg2) = m ((c.tc : Thread Cert.DownGradRefIdeal.nD Cert.DownGradRefIdeal.τ).loc Cert.DownGradRefIdeal.main_arg2))
      ∧ r.2.sem = fun _ => 0)

def quiescent_DownGradRefIdeal_pre_down_finite [hDownGradRefIdeal : Cert.DownGradRefIdeal.Facts] [hPre_down_finite : Cert.Pre_down_finite.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal_down_finite m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1)
      ∧ r.2.mem ((c.tc : Thread Cert.DownGradRefIdeal.nD Cert.DownGradRefIdeal.τ).loc Cert.DownGradRefIdeal.main_arg2) = m ((c.tc : Thread Cert.DownGradRefIdeal.nD Cert.DownGradRefIdeal.τ).loc Cert.DownGradRefIdeal.main_arg2))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2)
      ∧ r.2.mem ((c.tc : Thread Cert.MixGrad.nD Cert.MixGrad.τ).loc Cert.MixGrad.main_arg3) = m ((c.tc : Thread Cert.MixGrad.nD Cert.MixGrad.τ).loc Cert.MixGrad.main_arg3)
      ∧ r.2.mem ((c.tc : Thread Cert.MixGrad.nD Cert.MixGrad.τ).loc Cert.MixGrad.main_arg4) = m ((c.tc : Thread Cert.MixGrad.nD Cert.MixGrad.τ).loc Cert.MixGrad.main_arg4)
      ∧ r.2.mem ((c.tc : Thread Cert.MixGrad.nD Cert.MixGrad.τ).loc Cert.MixGrad.main_arg5) = m ((c.tc : Thread Cert.MixGrad.nD Cert.MixGrad.τ).loc Cert.MixGrad.main_arg5))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1)
      ∧ r.2.mem ((c.tc : Thread Cert.MixGradRefIdeal.nD Cert.MixGradRefIdeal.τ).loc Cert.MixGradRefIdeal.main_arg2) = m ((c.tc : Thread Cert.MixGradRefIdeal.nD Cert.MixGradRefIdeal.τ).loc Cert.MixGradRefIdeal.main_arg2)
      ∧ r.2.mem ((c.tc : Thread Cert.MixGradRefIdeal.nD Cert.MixGradRefIdeal.τ).loc Cert.MixGradRefIdeal.main_arg3) = m ((c.tc : Thread Cert.MixGradRefIdeal.nD Cert.MixGradRefIdeal.τ).loc Cert.MixGradRefIdeal.main_arg3)
      ∧ r.2.mem ((c.tc : Thread Cert.MixGradRefIdeal.nD Cert.MixGradRefIdeal.τ).loc Cert.MixGradRefIdeal.main_arg4) = m ((c.tc : Thread Cert.MixGradRefIdeal.nD Cert.MixGradRefIdeal.τ).loc Cert.MixGradRefIdeal.main_arg4)
      ∧ r.2.mem ((c.tc : Thread Cert.MixGradRefIdeal.nD Cert.MixGradRefIdeal.τ).loc Cert.MixGradRefIdeal.main_arg5) = m ((c.tc : Thread Cert.MixGradRefIdeal.nD Cert.MixGradRefIdeal.τ).loc Cert.MixGradRefIdeal.main_arg5))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3)
      ∧ r.2.mem ((c.tc : Thread Cert.UpFwd.nD Cert.UpFwd.τ).loc Cert.UpFwd.main_arg4) = m ((c.tc : Thread Cert.UpFwd.nD Cert.UpFwd.τ).loc Cert.UpFwd.main_arg4))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3)
      ∧ r.2.mem ((c.tc : Thread Cert.UpFwdIdeal.nD Cert.UpFwdIdeal.τ).loc Cert.UpFwdIdeal.main_arg4) = m ((c.tc : Thread Cert.UpFwdIdeal.nD Cert.UpFwdIdeal.τ).loc Cert.UpFwdIdeal.main_arg4))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2)
      ∧ r.2.mem ((c.tc : Thread Cert.UpFwdRefIdeal.nD Cert.UpFwdRefIdeal.τ).loc Cert.UpFwdRefIdeal.main_arg3) = m ((c.tc : Thread Cert.UpFwdRefIdeal.nD Cert.UpFwdRefIdeal.τ).loc Cert.UpFwdRefIdeal.main_arg3)
      ∧ r.2.mem ((c.tc : Thread Cert.UpFwdRefIdeal.nD Cert.UpFwdRefIdeal.τ).loc Cert.UpFwdRefIdeal.main_arg4) = m ((c.tc : Thread Cert.UpFwdRefIdeal.nD Cert.UpFwdRefIdeal.τ).loc Cert.UpFwdRefIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutRefIdeal [hCastOutRefIdeal : Cert.CastOutRefIdeal.Facts] : Prop :=
  ∀ (m : (ℓ : Loc Cert.CastOutRefIdeal.nD Cert.CastOutRefIdeal.τ Cert.CastOutRefIdeal.sig) → Buf (Elt Ideal) ℓ) (g : Dev Cert.CastOutRefIdeal.nD → PrngReg), Pre_CastOutRefIdeal m →
    θ_run (Cert.CastOutRefIdeal.defs (F := Ideal)) (onTc (τ := Cert.CastOutRefIdeal.τ) (Cert.CastOutRefIdeal.main (F := Ideal))) ⟨m, fun _ => 0, g⟩ (fun r => (∀ c : Dev Cert.CastOutRefIdeal.nD,
      r.2.mem ((c.tc : Thread Cert.CastOutRefIdeal.nD Cert.CastOutRefIdeal.τ).loc Cert.CastOutRefIdeal.main_arg0) = m ((c.tc : Thread Cert.CastOutRefIdeal.nD Cert.CastOutRefIdeal.τ).loc Cert.CastOutRefIdeal.main_arg0))
      ∧ r.2.sem = fun _ => 0)

def quiescent_CastUp [hCastUp : Cert.CastUp.Facts] : Prop :=
  ∀ (m : (ℓ : Loc Cert.CastUp.nD Cert.CastUp.τ Cert.CastUp.sig) → Buf (Elt Bits) ℓ) (g : Dev Cert.CastUp.nD → PrngReg), Pre_CastUp m →
    θ_run (Cert.CastUp.defs (F := Bits)) (onTc (τ := Cert.CastUp.τ) (Cert.CastUp.main (F := Bits))) ⟨m, fun _ => 0, g⟩ (fun r => (∀ c : Dev Cert.CastUp.nD,
      r.2.mem ((c.tc : Thread Cert.CastUp.nD Cert.CastUp.τ).loc Cert.CastUp.main_arg0) = m ((c.tc : Thread Cert.CastUp.nD Cert.CastUp.τ).loc Cert.CastUp.main_arg0))
      ∧ r.2.sem = fun _ => 0)

def quiescent_CastUpIdeal [hCastUpIdeal : Cert.CastUpIdeal.Facts] : Prop :=
  ∀ (m : (ℓ : Loc Cert.CastUpIdeal.nD Cert.CastUpIdeal.τ Cert.CastUpIdeal.sig) → Buf (Elt Ideal) ℓ) (g : Dev Cert.CastUpIdeal.nD → PrngReg), Pre_CastUpIdeal m →
    θ_run (Cert.CastUpIdeal.defs (F := Ideal)) (onTc (τ := Cert.CastUpIdeal.τ) (Cert.CastUpIdeal.main (F := Ideal))) ⟨m, fun _ => 0, g⟩ (fun r => (∀ c : Dev Cert.CastUpIdeal.nD,
      r.2.mem ((c.tc : Thread Cert.CastUpIdeal.nD Cert.CastUpIdeal.τ).loc Cert.CastUpIdeal.main_arg0) = m ((c.tc : Thread Cert.CastUpIdeal.nD Cert.CastUpIdeal.τ).loc Cert.CastUpIdeal.main_arg0))
      ∧ r.2.sem = fun _ => 0)

def quiescent_CastUpRefIdeal [hCastUpRefIdeal : Cert.CastUpRefIdeal.Facts] : Prop :=
  ∀ (m : (ℓ : Loc Cert.CastUpRefIdeal.nD Cert.CastUpRefIdeal.τ Cert.CastUpRefIdeal.sig) → Buf (Elt Ideal) ℓ) (g : Dev Cert.CastUpRefIdeal.nD → PrngReg), Pre_CastUpRefIdeal m →
    θ_run (Cert.CastUpRefIdeal.defs (F := Ideal)) (onTc (τ := Cert.CastUpRefIdeal.τ) (Cert.CastUpRefIdeal.main (F := Ideal))) ⟨m, fun _ => 0, g⟩ (fun r => (∀ c : Dev Cert.CastUpRefIdeal.nD,
      r.2.mem ((c.tc : Thread Cert.CastUpRefIdeal.nD Cert.CastUpRefIdeal.τ).loc Cert.CastUpRefIdeal.main_arg0) = m ((c.tc : Thread Cert.CastUpRefIdeal.nD Cert.CastUpRefIdeal.τ).loc Cert.CastUpRefIdeal.main_arg0))
      ∧ r.2.sem = fun _ => 0)

def quiescent_CastDown [hCastDown : Cert.CastDown.Facts] : Prop :=
  ∀ (m : (ℓ : Loc Cert.CastDown.nD Cert.CastDown.τ Cert.CastDown.sig) → Buf (Elt Bits) ℓ) (g : Dev Cert.CastDown.nD → PrngReg), Pre_CastDown m →
    θ_run (Cert.CastDown.defs (F := Bits)) (onTc (τ := Cert.CastDown.τ) (Cert.CastDown.main (F := Bits))) ⟨m, fun _ => 0, g⟩ (fun r => (∀ c : Dev Cert.CastDown.nD,
      r.2.mem ((c.tc : Thread Cert.CastDown.nD Cert.CastDown.τ).loc Cert.CastDown.main_arg0) = m ((c.tc : Thread Cert.CastDown.nD Cert.CastDown.τ).loc Cert.CastDown.main_arg0))
      ∧ r.2.sem = fun _ => 0)

def quiescent_CastDownIdeal [hCastDownIdeal : Cert.CastDownIdeal.Facts] : Prop :=
  ∀ (m : (ℓ : Loc Cert.CastDownIdeal.nD Cert.CastDownIdeal.τ Cert.CastDownIdeal.sig) → Buf (Elt Ideal) ℓ) (g : Dev Cert.CastDownIdeal.nD → PrngReg), Pre_CastDownIdeal m →
    θ_run (Cert.CastDownIdeal.defs (F := Ideal)) (onTc (τ := Cert.CastDownIdeal.τ) (Cert.CastDownIdeal.main (F := Ideal))) ⟨m, fun _ => 0, g⟩ (fun r => (∀ c : Dev Cert.CastDownIdeal.nD,
      r.2.mem ((c.tc : Thread Cert.CastDownIdeal.nD Cert.CastDownIdeal.τ).loc Cert.CastDownIdeal.main_arg0) = m ((c.tc : Thread Cert.CastDownIdeal.nD Cert.CastDownIdeal.τ).loc Cert.CastDownIdeal.main_arg0))
      ∧ r.2.sem = fun _ => 0)

def quiescent_CastDownRefIdeal [hCastDownRefIdeal : Cert.CastDownRefIdeal.Facts] : Prop :=
  ∀ (m : (ℓ : Loc Cert.CastDownRefIdeal.nD Cert.CastDownRefIdeal.τ Cert.CastDownRefIdeal.sig) → Buf (Elt Ideal) ℓ) (g : Dev Cert.CastDownRefIdeal.nD → PrngReg), Pre_CastDownRefIdeal m →
    θ_run (Cert.CastDownRefIdeal.defs (F := Ideal)) (onTc (τ := Cert.CastDownRefIdeal.τ) (Cert.CastDownRefIdeal.main (F := Ideal))) ⟨m, fun _ => 0, g⟩ (fun r => (∀ c : Dev Cert.CastDownRefIdeal.nD,
      r.2.mem ((c.tc : Thread Cert.CastDownRefIdeal.nD Cert.CastDownRefIdeal.τ).loc Cert.CastDownRefIdeal.main_arg0) = m ((c.tc : Thread Cert.CastDownRefIdeal.nD Cert.CastDownRefIdeal.τ).loc Cert.CastDownRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v146) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)
      ∧ m' ((c.tc : Thread Cert.UpGradRefIdeal.nD Cert.UpGradRefIdeal.τ).loc Cert.UpGradRefIdeal.main_arg2) = m ((c.tc : Thread Cert.UpGradIdeal.nD Cert.UpGradIdeal.τ).loc Cert.UpGradIdeal.main_arg2)
      ∧ m' ((c.tc : Thread Cert.UpGradRefIdeal.nD Cert.UpGradRefIdeal.τ).loc Cert.UpGradRefIdeal.main_arg3) = m ((c.tc : Thread Cert.UpGradIdeal.nD Cert.UpGradIdeal.τ).loc Cert.UpGradIdeal.main_arg3)
      ∧ m' ((c.tc : Thread Cert.UpGradRefIdeal.nD Cert.UpGradRefIdeal.τ).loc Cert.UpGradRefIdeal.main_arg4) = m ((c.tc : Thread Cert.UpGradIdeal.nD Cert.UpGradIdeal.τ).loc Cert.UpGradIdeal.main_arg4)
      ∧ m' ((c.tc : Thread Cert.UpGradRefIdeal.nD Cert.UpGradRefIdeal.τ).loc Cert.UpGradRefIdeal.main_arg5) = m ((c.tc : Thread Cert.UpGradIdeal.nD Cert.UpGradIdeal.τ).loc Cert.UpGradIdeal.main_arg5)) →
    ∃ (v0 : (c : Dev Cert.UpGradIdeal.nD) → Buf (Elt Ideal) ((c.tc : Thread Cert.UpGradIdeal.nD Cert.UpGradIdeal.τ).loc Cert.UpGradIdeal.main_v17_0)) (v1 : (c : Dev Cert.UpGradIdeal.nD) → Buf (Elt Ideal) ((c.tc : Thread Cert.UpGradIdeal.nD Cert.UpGradIdeal.τ).loc Cert.UpGradIdeal.main_v17_1)) (v2 : (c : Dev Cert.UpGradIdeal.nD) → Buf (Elt Ideal) ((c.tc : Thread Cert.UpGradIdeal.nD Cert.UpGradIdeal.τ).loc Cert.UpGradIdeal.main_v17_2)) (v3 : (c : Dev Cert.UpGradIdeal.nD) → Buf (Elt Ideal) ((c.tc : Thread Cert.UpGradIdeal.nD Cert.UpGradIdeal.τ).loc Cert.UpGradIdeal.main_v17_3)) (v4 : (c : Dev Cert.UpGradIdeal.nD) → Buf (Elt Ideal) ((c.tc : Thread Cert.UpGradIdeal.nD Cert.UpGradIdeal.τ).loc Cert.UpGradIdeal.main_v17_4)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v17_0) = v0 c
          ∧ r.2.mem ((c.tc : Thread Cert.UpGradIdeal.nD Cert.UpGradIdeal.τ).loc Cert.UpGradIdeal.main_v17_1) = v1 c
          ∧ r.2.mem ((c.tc : Thread Cert.UpGradIdeal.nD Cert.UpGradIdeal.τ).loc Cert.UpGradIdeal.main_v17_2) = v2 c
          ∧ r.2.mem ((c.tc : Thread Cert.UpGradIdeal.nD Cert.UpGradIdeal.τ).loc Cert.UpGradIdeal.main_v17_3) = v3 c
          ∧ r.2.mem ((c.tc : Thread Cert.UpGradIdeal.nD Cert.UpGradIdeal.τ).loc Cert.UpGradIdeal.main_v17_4) = v4 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
          ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
          ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4)
          ∧ r.2.mem ((c.tc : Thread Cert.UpGradIdeal.nD Cert.UpGradIdeal.τ).loc Cert.UpGradIdeal.main_arg5) = m ((c.tc : Thread Cert.UpGradIdeal.nD Cert.UpGradIdeal.τ).loc Cert.UpGradIdeal.main_arg5))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v109) = v0 c
          ∧ r.2.mem ((c.tc : Thread Cert.UpGradRefIdeal.nD Cert.UpGradRefIdeal.τ).loc Cert.UpGradRefIdeal.main_v110) = v1 c
          ∧ r.2.mem ((c.tc : Thread Cert.UpGradRefIdeal.nD Cert.UpGradRefIdeal.τ).loc Cert.UpGradRefIdeal.main_v111) = v2 c
          ∧ r.2.mem ((c.tc : Thread Cert.UpGradRefIdeal.nD Cert.UpGradRefIdeal.τ).loc Cert.UpGradRefIdeal.main_v80) = v3 c
          ∧ r.2.mem ((c.tc : Thread Cert.UpGradRefIdeal.nD Cert.UpGradRefIdeal.τ).loc Cert.UpGradRefIdeal.main_v112) = v4 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1)
          ∧ r.2.mem ((c.tc : Thread Cert.UpGradRefIdeal.nD Cert.UpGradRefIdeal.τ).loc Cert.UpGradRefIdeal.main_arg2) = m' ((c.tc : Thread Cert.UpGradRefIdeal.nD Cert.UpGradRefIdeal.τ).loc Cert.UpGradRefIdeal.main_arg2)
          ∧ r.2.mem ((c.tc : Thread Cert.UpGradRefIdeal.nD Cert.UpGradRefIdeal.τ).loc Cert.UpGradRefIdeal.main_arg3) = m' ((c.tc : Thread Cert.UpGradRefIdeal.nD Cert.UpGradRefIdeal.τ).loc Cert.UpGradRefIdeal.main_arg3)
          ∧ r.2.mem ((c.tc : Thread Cert.UpGradRefIdeal.nD Cert.UpGradRefIdeal.τ).loc Cert.UpGradRefIdeal.main_arg4) = m' ((c.tc : Thread Cert.UpGradRefIdeal.nD Cert.UpGradRefIdeal.τ).loc Cert.UpGradRefIdeal.main_arg4)
          ∧ r.2.mem ((c.tc : Thread Cert.UpGradRefIdeal.nD Cert.UpGradRefIdeal.τ).loc Cert.UpGradRefIdeal.main_arg5) = m' ((c.tc : Thread Cert.UpGradRefIdeal.nD Cert.UpGradRefIdeal.τ).loc Cert.UpGradRefIdeal.main_arg5))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v14)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v14) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v18) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v6)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v6) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v9) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwInA_DwInAIdeal : Prop :=
  True

def algebraic_DwInAIdeal_DwInARefIdeal [hDwInAIdeal : Cert.DwInAIdeal.Facts] [hDwInARefIdeal : Cert.DwInARefIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInARefIdeal.nD Cert.DwInARefIdeal.τ Cert.DwInARefIdeal.sig) → Buf (Elt Ideal) ℓ) (g' : Dev Cert.DwInARefIdeal.nD → PrngReg), Pre_DwInAIdeal m →
    (∀ c : Dev Cert.DwInAIdeal.nD,
      m' ((c.tc : Thread Cert.DwInARefIdeal.nD Cert.DwInARefIdeal.τ).loc Cert.DwInARefIdeal.main_arg0) = m ((c.tc : Thread Cert.DwInAIdeal.nD Cert.DwInAIdeal.τ).loc Cert.DwInAIdeal.main_arg0)
      ∧ m' ((c.tc : Thread Cert.DwInARefIdeal.nD Cert.DwInARefIdeal.τ).loc Cert.DwInARefIdeal.main_arg1) = m ((c.tc : Thread Cert.DwInAIdeal.nD Cert.DwInAIdeal.τ).loc Cert.DwInAIdeal.main_arg1)
      ∧ m' ((c.tc : Thread Cert.DwInARefIdeal.nD Cert.DwInARefIdeal.τ).loc Cert.DwInARefIdeal.main_arg2) = m ((c.tc : Thread Cert.DwInAIdeal.nD Cert.DwInAIdeal.τ).loc Cert.DwInAIdeal.main_arg2)) →
    ∃ (v0 : (c : Dev Cert.DwInAIdeal.nD) → Buf (Elt Ideal) ((c.tc : Thread Cert.DwInAIdeal.nD Cert.DwInAIdeal.τ).loc Cert.DwInAIdeal.main_v14)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v14) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
          ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ θ_run (Cert.DwInARefIdeal.defs (F := Ideal)) (onTc (τ := Cert.DwInARefIdeal.τ) (Cert.DwInARefIdeal.main (F := Ideal))) ⟨m', fun _ => 0, g'⟩ (fun r => ∀ c : Dev Cert.DwInARefIdeal.nD,
          r.2.mem ((c.tc : Thread Cert.DwInARefIdeal.nD Cert.DwInARefIdeal.τ).loc Cert.DwInARefIdeal.main_v18) = v0 c
          ∧ r.2.mem ((c.tc : Thread Cert.DwInARefIdeal.nD Cert.DwInARefIdeal.τ).loc Cert.DwInARefIdeal.main_arg0) = m' ((c.tc : Thread Cert.DwInARefIdeal.nD Cert.DwInARefIdeal.τ).loc Cert.DwInARefIdeal.main_arg0)
          ∧ r.2.mem ((c.tc : Thread Cert.DwInARefIdeal.nD Cert.DwInARefIdeal.τ).loc Cert.DwInARefIdeal.main_arg1) = m' ((c.tc : Thread Cert.DwInARefIdeal.nD Cert.DwInARefIdeal.τ).loc Cert.DwInARefIdeal.main_arg1)
          ∧ r.2.mem ((c.tc : Thread Cert.DwInARefIdeal.nD Cert.DwInARefIdeal.τ).loc Cert.DwInARefIdeal.main_arg2) = m' ((c.tc : Thread Cert.DwInARefIdeal.nD Cert.DwInARefIdeal.τ).loc Cert.DwInARefIdeal.main_arg2))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)
      ∧ m' ((c.tc : Thread Cert.DwInBRefIdeal.nD Cert.DwInBRefIdeal.τ).loc Cert.DwInBRefIdeal.main_arg2) = m ((c.tc : Thread Cert.DwInBIdeal.nD Cert.DwInBIdeal.τ).loc Cert.DwInBIdeal.main_arg2)) →
    ∃ (v0 : (c : Dev Cert.DwInBIdeal.nD) → Buf (Elt Ideal) ((c.tc : Thread Cert.DwInBIdeal.nD Cert.DwInBIdeal.τ).loc Cert.DwInBIdeal.main_v14)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v14) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
          ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v18) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1)
          ∧ r.2.mem ((c.tc : Thread Cert.DwInBRefIdeal.nD Cert.DwInBRefIdeal.τ).loc Cert.DwInBRefIdeal.main_arg2) = m' ((c.tc : Thread Cert.DwInBRefIdeal.nD Cert.DwInBRefIdeal.τ).loc Cert.DwInBRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)
      ∧ m' ((c.tc : Thread Cert.DwOutRefIdeal.nD Cert.DwOutRefIdeal.τ).loc Cert.DwOutRefIdeal.main_arg4) = m ((c.tc : Thread Cert.DwOutIdeal.nD Cert.DwOutIdeal.τ).loc Cert.DwOutIdeal.main_arg4)
      ∧ m' ((c.tc : Thread Cert.DwOutRefIdeal.nD Cert.DwOutRefIdeal.τ).loc Cert.DwOutRefIdeal.main_arg5) = m ((c.tc : Thread Cert.DwOutIdeal.nD Cert.DwOutIdeal.τ).loc Cert.DwOutIdeal.main_arg5)) →
    ∃ (v0 : (c : Dev Cert.DwOutIdeal.nD) → Buf (Elt Ideal) ((c.tc : Thread Cert.DwOutIdeal.nD Cert.DwOutIdeal.τ).loc Cert.DwOutIdeal.main_v21)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v21) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
          ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
          ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v24) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3)
          ∧ r.2.mem ((c.tc : Thread Cert.DwOutRefIdeal.nD Cert.DwOutRefIdeal.τ).loc Cert.DwOutRefIdeal.main_arg4) = m' ((c.tc : Thread Cert.DwOutRefIdeal.nD Cert.DwOutRefIdeal.τ).loc Cert.DwOutRefIdeal.main_arg4)
          ∧ r.2.mem ((c.tc : Thread Cert.DwOutRefIdeal.nD Cert.DwOutRefIdeal.τ).loc Cert.DwOutRefIdeal.main_arg5) = m' ((c.tc : Thread Cert.DwOutRefIdeal.nD Cert.DwOutRefIdeal.τ).loc Cert.DwOutRefIdeal.main_arg5))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)) →
    ∃ (v0 : (c : Dev Cert.InGradIdeal.nD) → Buf (Elt Ideal) ((c.tc : Thread Cert.InGradIdeal.nD Cert.InGradIdeal.τ).loc Cert.InGradIdeal.main_v2_0)) (v1 : (c : Dev Cert.InGradIdeal.nD) → Buf (Elt Ideal) ((c.tc : Thread Cert.InGradIdeal.nD Cert.InGradIdeal.τ).loc Cert.InGradIdeal.main_v2_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v2_0) = v0 c
          ∧ r.2.mem ((c.tc : Thread Cert.InGradIdeal.nD Cert.InGradIdeal.τ).loc Cert.InGradIdeal.main_v2_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v42) = v0 c
          ∧ r.2.mem ((c.tc : Thread Cert.InGradRefIdeal.nD Cert.InGradRefIdeal.τ).loc Cert.InGradRefIdeal.main_v43) = v1 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v67) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v68) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_DownGrad_DownGradIdeal : Prop :=
  True

def algebraic_DownGradIdeal_DownGradRefIdeal_pre_down_finite [hDownGradIdeal : Cert.DownGradIdeal.Facts] [hDownGradRefIdeal : Cert.DownGradRefIdeal.Facts] [hPre_down_finite : Cert.Pre_down_finite.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal_down_finite m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)
      ∧ m' ((c.tc : Thread Cert.DownGradRefIdeal.nD Cert.DownGradRefIdeal.τ).loc Cert.DownGradRefIdeal.main_arg2) = m ((c.tc : Thread Cert.DownGradIdeal.nD Cert.DownGradIdeal.τ).loc Cert.DownGradIdeal.main_arg2)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v12) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1)
          ∧ r.2.mem ((c.tc : Thread Cert.DownGradRefIdeal.nD Cert.DownGradRefIdeal.τ).loc Cert.DownGradRefIdeal.main_arg2) = m' ((c.tc : Thread Cert.DownGradRefIdeal.nD Cert.DownGradRefIdeal.τ).loc Cert.DownGradRefIdeal.main_arg2))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)
      ∧ m' ((c.tc : Thread Cert.MixGradRefIdeal.nD Cert.MixGradRefIdeal.τ).loc Cert.MixGradRefIdeal.main_arg2) = m ((c.tc : Thread Cert.MixGradIdeal.nD Cert.MixGradIdeal.τ).loc Cert.MixGradIdeal.main_arg2)
      ∧ m' ((c.tc : Thread Cert.MixGradRefIdeal.nD Cert.MixGradRefIdeal.τ).loc Cert.MixGradRefIdeal.main_arg3) = m ((c.tc : Thread Cert.MixGradIdeal.nD Cert.MixGradIdeal.τ).loc Cert.MixGradIdeal.main_arg3)
      ∧ m' ((c.tc : Thread Cert.MixGradRefIdeal.nD Cert.MixGradRefIdeal.τ).loc Cert.MixGradRefIdeal.main_arg4) = m ((c.tc : Thread Cert.MixGradIdeal.nD Cert.MixGradIdeal.τ).loc Cert.MixGradIdeal.main_arg4)
      ∧ m' ((c.tc : Thread Cert.MixGradRefIdeal.nD Cert.MixGradRefIdeal.τ).loc Cert.MixGradRefIdeal.main_arg5) = m ((c.tc : Thread Cert.MixGradIdeal.nD Cert.MixGradIdeal.τ).loc Cert.MixGradIdeal.main_arg5)) →
    ∃ (v0 : (c : Dev Cert.MixGradIdeal.nD) → Buf (Elt Ideal) ((c.tc : Thread Cert.MixGradIdeal.nD Cert.MixGradIdeal.τ).loc Cert.MixGradIdeal.main_v1_0)) (v1 : (c : Dev Cert.MixGradIdeal.nD) → Buf (Elt Ideal) ((c.tc : Thread Cert.MixGradIdeal.nD Cert.MixGradIdeal.τ).loc Cert.MixGradIdeal.main_v1_1)) (v2 : (c : Dev Cert.MixGradIdeal.nD) → Buf (Elt Ideal) ((c.tc : Thread Cert.MixGradIdeal.nD Cert.MixGradIdeal.τ).loc Cert.MixGradIdeal.main_v1_2)) (v3 : (c : Dev Cert.MixGradIdeal.nD) → Buf (Elt Ideal) ((c.tc : Thread Cert.MixGradIdeal.nD Cert.MixGradIdeal.τ).loc Cert.MixGradIdeal.main_v1_3)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v1_0) = v0 c
          ∧ r.2.mem ((c.tc : Thread Cert.MixGradIdeal.nD Cert.MixGradIdeal.τ).loc Cert.MixGradIdeal.main_v1_1) = v1 c
          ∧ r.2.mem ((c.tc : Thread Cert.MixGradIdeal.nD Cert.MixGradIdeal.τ).loc Cert.MixGradIdeal.main_v1_2) = v2 c
          ∧ r.2.mem ((c.tc : Thread Cert.MixGradIdeal.nD Cert.MixGradIdeal.τ).loc Cert.MixGradIdeal.main_v1_3) = v3 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v28) = v0 c
          ∧ r.2.mem ((c.tc : Thread Cert.MixGradRefIdeal.nD Cert.MixGradRefIdeal.τ).loc Cert.MixGradRefIdeal.main_v55) = v1 c
          ∧ r.2.mem ((c.tc : Thread Cert.MixGradRefIdeal.nD Cert.MixGradRefIdeal.τ).loc Cert.MixGradRefIdeal.main_v34) = v2 c
          ∧ r.2.mem ((c.tc : Thread Cert.MixGradRefIdeal.nD Cert.MixGradRefIdeal.τ).loc Cert.MixGradRefIdeal.main_v56) = v3 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1)
          ∧ r.2.mem ((c.tc : Thread Cert.MixGradRefIdeal.nD Cert.MixGradRefIdeal.τ).loc Cert.MixGradRefIdeal.main_arg2) = m' ((c.tc : Thread Cert.MixGradRefIdeal.nD Cert.MixGradRefIdeal.τ).loc Cert.MixGradRefIdeal.main_arg2)
          ∧ r.2.mem ((c.tc : Thread Cert.MixGradRefIdeal.nD Cert.MixGradRefIdeal.τ).loc Cert.MixGradRefIdeal.main_arg3) = m' ((c.tc : Thread Cert.MixGradRefIdeal.nD Cert.MixGradRefIdeal.τ).loc Cert.MixGradRefIdeal.main_arg3)
          ∧ r.2.mem ((c.tc : Thread Cert.MixGradRefIdeal.nD Cert.MixGradRefIdeal.τ).loc Cert.MixGradRefIdeal.main_arg4) = m' ((c.tc : Thread Cert.MixGradRefIdeal.nD Cert.MixGradRefIdeal.τ).loc Cert.MixGradRefIdeal.main_arg4)
          ∧ r.2.mem ((c.tc : Thread Cert.MixGradRefIdeal.nD Cert.MixGradRefIdeal.τ).loc Cert.MixGradRefIdeal.main_arg5) = m' ((c.tc : Thread Cert.MixGradRefIdeal.nD Cert.MixGradRefIdeal.τ).loc Cert.MixGradRefIdeal.main_arg5))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v2_0)) (v1 : (c : Dev Cert.InFwdIdeal.nD) → Buf (Elt Ideal) ((c.tc : Thread Cert.InFwdIdeal.nD Cert.InFwdIdeal.τ).loc Cert.InFwdIdeal.main_v2_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2_0) = v0 c
          ∧ r.2.mem ((c.tc : Thread Cert.InFwdIdeal.nD Cert.InFwdIdeal.τ).loc Cert.InFwdIdeal.main_v2_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v15) = v0 c
          ∧ r.2.mem ((c.tc : Thread Cert.InFwdRefIdeal.nD Cert.InFwdRefIdeal.τ).loc Cert.InFwdRefIdeal.main_v16) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v24) = v0 c
          ∧ r.2.mem ((c.tc : Thread Cert.OutFwdRefIdeal.nD Cert.OutFwdRefIdeal.τ).loc Cert.OutFwdRefIdeal.main_v25) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)
      ∧ m' ((c.tc : Thread Cert.UpFwdRefIdeal.nD Cert.UpFwdRefIdeal.τ).loc Cert.UpFwdRefIdeal.main_arg3) = m ((c.tc : Thread Cert.UpFwdIdeal.nD Cert.UpFwdIdeal.τ).loc Cert.UpFwdIdeal.main_arg3)
      ∧ m' ((c.tc : Thread Cert.UpFwdRefIdeal.nD Cert.UpFwdRefIdeal.τ).loc Cert.UpFwdRefIdeal.main_arg4) = m ((c.tc : Thread Cert.UpFwdIdeal.nD Cert.UpFwdIdeal.τ).loc Cert.UpFwdIdeal.main_arg4)) →
    ∃ (v0 : (c : Dev Cert.UpFwdIdeal.nD) → Buf (Elt Ideal) ((c.tc : Thread Cert.UpFwdIdeal.nD Cert.UpFwdIdeal.τ).loc Cert.UpFwdIdeal.main_v2_0)) (v1 : (c : Dev Cert.UpFwdIdeal.nD) → Buf (Elt Ideal) ((c.tc : Thread Cert.UpFwdIdeal.nD Cert.UpFwdIdeal.τ).loc Cert.UpFwdIdeal.main_v2_1)) (v2 : (c : Dev Cert.UpFwdIdeal.nD) → Buf (Elt Ideal) ((c.tc : Thread Cert.UpFwdIdeal.nD Cert.UpFwdIdeal.τ).loc Cert.UpFwdIdeal.main_v2_2)) (v3 : (c : Dev Cert.UpFwdIdeal.nD) → Buf (Elt Ideal) ((c.tc : Thread Cert.UpFwdIdeal.nD Cert.UpFwdIdeal.τ).loc Cert.UpFwdIdeal.main_v2_3)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2_0) = v0 c
          ∧ r.2.mem ((c.tc : Thread Cert.UpFwdIdeal.nD Cert.UpFwdIdeal.τ).loc Cert.UpFwdIdeal.main_v2_1) = v1 c
          ∧ r.2.mem ((c.tc : Thread Cert.UpFwdIdeal.nD Cert.UpFwdIdeal.τ).loc Cert.UpFwdIdeal.main_v2_2) = v2 c
          ∧ r.2.mem ((c.tc : Thread Cert.UpFwdIdeal.nD Cert.UpFwdIdeal.τ).loc Cert.UpFwdIdeal.main_v2_3) = v3 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3)
          ∧ r.2.mem ((c.tc : Thread Cert.UpFwdIdeal.nD Cert.UpFwdIdeal.τ).loc Cert.UpFwdIdeal.main_arg4) = m ((c.tc : Thread Cert.UpFwdIdeal.nD Cert.UpFwdIdeal.τ).loc Cert.UpFwdIdeal.main_arg4))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v42) = v0 c
          ∧ r.2.mem ((c.tc : Thread Cert.UpFwdRefIdeal.nD Cert.UpFwdRefIdeal.τ).loc Cert.UpFwdRefIdeal.main_v43) = v1 c
          ∧ r.2.mem ((c.tc : Thread Cert.UpFwdRefIdeal.nD Cert.UpFwdRefIdeal.τ).loc Cert.UpFwdRefIdeal.main_v44) = v2 c
          ∧ r.2.mem ((c.tc : Thread Cert.UpFwdRefIdeal.nD Cert.UpFwdRefIdeal.τ).loc Cert.UpFwdRefIdeal.main_v49) = v3 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2)
          ∧ r.2.mem ((c.tc : Thread Cert.UpFwdRefIdeal.nD Cert.UpFwdRefIdeal.τ).loc Cert.UpFwdRefIdeal.main_arg3) = m' ((c.tc : Thread Cert.UpFwdRefIdeal.nD Cert.UpFwdRefIdeal.τ).loc Cert.UpFwdRefIdeal.main_arg3)
          ∧ r.2.mem ((c.tc : Thread Cert.UpFwdRefIdeal.nD Cert.UpFwdRefIdeal.τ).loc Cert.UpFwdRefIdeal.main_arg4) = m' ((c.tc : Thread Cert.UpFwdRefIdeal.nD Cert.UpFwdRefIdeal.τ).loc Cert.UpFwdRefIdeal.main_arg4))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v3)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v55) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_AdamIn_AdamInIdeal : Prop :=
  IdealRules.named_const.Statement Cert.AdamInIdeal.κ "m_scale" .f32 0x3FC48605#32 (((5463681 / 8388608)⁻¹ : ℝ) : EReal)
  ∧ IdealRules.named_const.Statement Cert.AdamInIdeal.κ "v_scale" .f32 0x42C8E6D3#32 (((2672307 / 268435456)⁻¹ : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  IdealRules.named_const.Statement Cert.AdamOutIdeal.κ "m_scale" .f32 0x3FC48605#32 (((5463681 / 8388608)⁻¹ : ℝ) : EReal)
  ∧ IdealRules.named_const.Statement Cert.AdamOutIdeal.κ "v_scale" .f32 0x42C8E6D3#32 (((2672307 / 268435456)⁻¹ : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  IdealRules.named_const.Statement Cert.AdamUpIdeal.κ "m_scale" .f32 0x3FC48605#32 (((5463681 / 8388608)⁻¹ : ℝ) : EReal)
  ∧ IdealRules.named_const.Statement Cert.AdamUpIdeal.κ "v_scale" .f32 0x42C8E6D3#32 (((2672307 / 268435456)⁻¹ : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  IdealRules.named_const.Statement Cert.AdamDownIdeal.κ "m_scale" .f32 0x3FC48605#32 (((5463681 / 8388608)⁻¹ : ℝ) : EReal)
  ∧ IdealRules.named_const.Statement Cert.AdamDownIdeal.κ "v_scale" .f32 0x42C8E6D3#32 (((2672307 / 268435456)⁻¹ : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamSmall_AdamSmallIdeal : Prop :=
  IdealRules.named_const.Statement Cert.AdamSmallIdeal.κ "m_scale" .f32 0x3FC48605#32 (((5463681 / 8388608)⁻¹ : ℝ) : EReal)
  ∧ IdealRules.named_const.Statement Cert.AdamSmallIdeal.κ "v_scale" .f32 0x42C8E6D3#32 (((2672307 / 268435456)⁻¹ : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4))

def preserves_CastIn_CastInIdeal : Prop :=
  True

def algebraic_CastInIdeal_CastInRefIdeal [hCastInIdeal : Cert.CastInIdeal.Facts] [hCastInRefIdeal : Cert.CastInRefIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v0)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v0) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v0) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0))

def preserves_CastOut_CastOutIdeal : Prop :=
  True

def algebraic_CastOutIdeal_CastOutRefIdeal [hCastOutIdeal : Cert.CastOutIdeal.Facts] [hCastOutRefIdeal : Cert.CastOutRefIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutRefIdeal.nD Cert.CastOutRefIdeal.τ Cert.CastOutRefIdeal.sig) → Buf (Elt Ideal) ℓ) (g' : Dev Cert.CastOutRefIdeal.nD → PrngReg), Pre_CastOutIdeal m →
    (∀ c : Dev Cert.CastOutIdeal.nD,
      m' ((c.tc : Thread Cert.CastOutRefIdeal.nD Cert.CastOutRefIdeal.τ).loc Cert.CastOutRefIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutRefIdeal.defs (F := Ideal)) (onTc (τ := Cert.CastOutRefIdeal.τ) (Cert.CastOutRefIdeal.main (F := Ideal))) ⟨m', fun _ => 0, g'⟩ (fun r => ∀ c : Dev Cert.CastOutRefIdeal.nD,
          r.2.mem ((c.tc : Thread Cert.CastOutRefIdeal.nD Cert.CastOutRefIdeal.τ).loc Cert.CastOutRefIdeal.main_v0) = v0 c
          ∧ r.2.mem ((c.tc : Thread Cert.CastOutRefIdeal.nD Cert.CastOutRefIdeal.τ).loc Cert.CastOutRefIdeal.main_arg0) = m' ((c.tc : Thread Cert.CastOutRefIdeal.nD Cert.CastOutRefIdeal.τ).loc Cert.CastOutRefIdeal.main_arg0))

def preserves_CastUp_CastUpIdeal : Prop :=
  True

def algebraic_CastUpIdeal_CastUpRefIdeal [hCastUpIdeal : Cert.CastUpIdeal.Facts] [hCastUpRefIdeal : Cert.CastUpRefIdeal.Facts] : Prop :=
  ∀ (m : (ℓ : Loc Cert.CastUpIdeal.nD Cert.CastUpIdeal.τ Cert.CastUpIdeal.sig) → Buf (Elt Ideal) ℓ) (g : Dev Cert.CastUpIdeal.nD → PrngReg)
    (m' : (ℓ : Loc Cert.CastUpRefIdeal.nD Cert.CastUpRefIdeal.τ Cert.CastUpRefIdeal.sig) → Buf (Elt Ideal) ℓ) (g' : Dev Cert.CastUpRefIdeal.nD → PrngReg), Pre_CastUpIdeal m →
    (∀ c : Dev Cert.CastUpIdeal.nD,
      m' ((c.tc : Thread Cert.CastUpRefIdeal.nD Cert.CastUpRefIdeal.τ).loc Cert.CastUpRefIdeal.main_arg0) = m ((c.tc : Thread Cert.CastUpIdeal.nD Cert.CastUpIdeal.τ).loc Cert.CastUpIdeal.main_arg0)) →
    ∃ (v0 : (c : Dev Cert.CastUpIdeal.nD) → Buf (Elt Ideal) ((c.tc : Thread Cert.CastUpIdeal.nD Cert.CastUpIdeal.τ).loc Cert.CastUpIdeal.main_v0)),
      θ_run (Cert.CastUpIdeal.defs (F := Ideal)) (onTc (τ := Cert.CastUpIdeal.τ) (Cert.CastUpIdeal.main (F := Ideal))) ⟨m, fun _ => 0, g⟩ (fun r => ∀ c : Dev Cert.CastUpIdeal.nD,
          r.2.mem ((c.tc : Thread Cert.CastUpIdeal.nD Cert.CastUpIdeal.τ).loc Cert.CastUpIdeal.main_v0) = v0 c
          ∧ r.2.mem ((c.tc : Thread Cert.CastUpIdeal.nD Cert.CastUpIdeal.τ).loc Cert.CastUpIdeal.main_arg0) = m ((c.tc : Thread Cert.CastUpIdeal.nD Cert.CastUpIdeal.τ).loc Cert.CastUpIdeal.main_arg0))
      ∧ θ_run (Cert.CastUpRefIdeal.defs (F := Ideal)) (onTc (τ := Cert.CastUpRefIdeal.τ) (Cert.CastUpRefIdeal.main (F := Ideal))) ⟨m', fun _ => 0, g'⟩ (fun r => ∀ c : Dev Cert.CastUpRefIdeal.nD,
          r.2.mem ((c.tc : Thread Cert.CastUpRefIdeal.nD Cert.CastUpRefIdeal.τ).loc Cert.CastUpRefIdeal.main_v0) = v0 c
          ∧ r.2.mem ((c.tc : Thread Cert.CastUpRefIdeal.nD Cert.CastUpRefIdeal.τ).loc Cert.CastUpRefIdeal.main_arg0) = m' ((c.tc : Thread Cert.CastUpRefIdeal.nD Cert.CastUpRefIdeal.τ).loc Cert.CastUpRefIdeal.main_arg0))

def preserves_CastDown_CastDownIdeal : Prop :=
  True

def algebraic_CastDownIdeal_CastDownRefIdeal [hCastDownIdeal : Cert.CastDownIdeal.Facts] [hCastDownRefIdeal : Cert.CastDownRefIdeal.Facts] : Prop :=
  ∀ (m : (ℓ : Loc Cert.CastDownIdeal.nD Cert.CastDownIdeal.τ Cert.CastDownIdeal.sig) → Buf (Elt Ideal) ℓ) (g : Dev Cert.CastDownIdeal.nD → PrngReg)
    (m' : (ℓ : Loc Cert.CastDownRefIdeal.nD Cert.CastDownRefIdeal.τ Cert.CastDownRefIdeal.sig) → Buf (Elt Ideal) ℓ) (g' : Dev Cert.CastDownRefIdeal.nD → PrngReg), Pre_CastDownIdeal m →
    (∀ c : Dev Cert.CastDownIdeal.nD,
      m' ((c.tc : Thread Cert.CastDownRefIdeal.nD Cert.CastDownRefIdeal.τ).loc Cert.CastDownRefIdeal.main_arg0) = m ((c.tc : Thread Cert.CastDownIdeal.nD Cert.CastDownIdeal.τ).loc Cert.CastDownIdeal.main_arg0)) →
    ∃ (v0 : (c : Dev Cert.CastDownIdeal.nD) → Buf (Elt Ideal) ((c.tc : Thread Cert.CastDownIdeal.nD Cert.CastDownIdeal.τ).loc Cert.CastDownIdeal.main_v0)),
      θ_run (Cert.CastDownIdeal.defs (F := Ideal)) (onTc (τ := Cert.CastDownIdeal.τ) (Cert.CastDownIdeal.main (F := Ideal))) ⟨m, fun _ => 0, g⟩ (fun r => ∀ c : Dev Cert.CastDownIdeal.nD,
          r.2.mem ((c.tc : Thread Cert.CastDownIdeal.nD Cert.CastDownIdeal.τ).loc Cert.CastDownIdeal.main_v0) = v0 c
          ∧ r.2.mem ((c.tc : Thread Cert.CastDownIdeal.nD Cert.CastDownIdeal.τ).loc Cert.CastDownIdeal.main_arg0) = m ((c.tc : Thread Cert.CastDownIdeal.nD Cert.CastDownIdeal.τ).loc Cert.CastDownIdeal.main_arg0))
      ∧ θ_run (Cert.CastDownRefIdeal.defs (F := Ideal)) (onTc (τ := Cert.CastDownRefIdeal.τ) (Cert.CastDownRefIdeal.main (F := Ideal))) ⟨m', fun _ => 0, g'⟩ (fun r => ∀ c : Dev Cert.CastDownRefIdeal.nD,
          r.2.mem ((c.tc : Thread Cert.CastDownRefIdeal.nD Cert.CastDownRefIdeal.τ).loc Cert.CastDownRefIdeal.main_v0) = v0 c
          ∧ r.2.mem ((c.tc : Thread Cert.CastDownRefIdeal.nD Cert.CastDownRefIdeal.τ).loc Cert.CastDownRefIdeal.main_arg0) = m' ((c.tc : Thread Cert.CastDownRefIdeal.nD Cert.CastDownRefIdeal.τ).loc Cert.CastDownRefIdeal.main_arg0))

def Claim : Prop :=
  ∃ (hKernel : Cert.Kernel.Facts) (hKernelIdeal : Cert.KernelIdeal.Facts) (hReferenceIdeal : Cert.ReferenceIdeal.Facts) (hUpGrad : Cert.UpGrad.Facts) (hUpGradIdeal : Cert.UpGradIdeal.Facts) (hUpGradRefIdeal : Cert.UpGradRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwInA : Cert.DwInA.Facts) (hDwInAIdeal : Cert.DwInAIdeal.Facts) (hDwInARefIdeal : Cert.DwInARefIdeal.Facts) (hDwInB : Cert.DwInB.Facts) (hDwInBIdeal : Cert.DwInBIdeal.Facts) (hDwInBRefIdeal : Cert.DwInBRefIdeal.Facts) (hDwOut : Cert.DwOut.Facts) (hDwOutIdeal : Cert.DwOutIdeal.Facts) (hDwOutRefIdeal : Cert.DwOutRefIdeal.Facts) (hInGrad : Cert.InGrad.Facts) (hInGradIdeal : Cert.InGradIdeal.Facts) (hInGradRefIdeal : Cert.InGradRefIdeal.Facts) (hLossHead : Cert.LossHead.Facts) (hLossHeadIdeal : Cert.LossHeadIdeal.Facts) (hLossHeadRefIdeal : Cert.LossHeadRefIdeal.Facts) (hDownGrad : Cert.DownGrad.Facts) (hDownGradIdeal : Cert.DownGradIdeal.Facts) (hDownGradRefIdeal : Cert.DownGradRefIdeal.Facts) (hMixGrad : Cert.MixGrad.Facts) (hMixGradIdeal : Cert.MixGradIdeal.Facts) (hMixGradRefIdeal : Cert.MixGradRefIdeal.Facts) (hInFwd : Cert.InFwd.Facts) (hInFwdIdeal : Cert.InFwdIdeal.Facts) (hInFwdRefIdeal : Cert.InFwdRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hGateFwd : Cert.GateFwd.Facts) (hGateFwdIdeal : Cert.GateFwdIdeal.Facts) (hGateFwdRefIdeal : Cert.GateFwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hCastIn : Cert.CastIn.Facts) (hCastInIdeal : Cert.CastInIdeal.Facts) (hCastInRefIdeal : Cert.CastInRefIdeal.Facts) (hCastOut : Cert.CastOut.Facts) (hCastOutIdeal : Cert.CastOutIdeal.Facts) (hCastOutRefIdeal : Cert.CastOutRefIdeal.Facts) (hCastUp : Cert.CastUp.Facts) (hCastUpIdeal : Cert.CastUpIdeal.Facts) (hCastUpRefIdeal : Cert.CastUpRefIdeal.Facts) (hCastDown : Cert.CastDown.Facts) (hCastDownIdeal : Cert.CastDownIdeal.Facts) (hCastDownRefIdeal : Cert.CastDownRefIdeal.Facts) (hPre_down_finite : Cert.Pre_down_finite.Facts),
    quiescent_Kernel (hKernel := hKernel)
    ∧ quiescent_KernelIdeal (hKernelIdeal := hKernelIdeal)
    ∧ quiescent_ReferenceIdeal (hReferenceIdeal := hReferenceIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwInA (hDwInA := hDwInA)
    ∧ quiescent_DwInAIdeal (hDwInAIdeal := hDwInAIdeal)
    ∧ quiescent_DwInARefIdeal (hDwInARefIdeal := hDwInARefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_DownGrad (hDownGrad := hDownGrad)
    ∧ quiescent_DownGradIdeal (hDownGradIdeal := hDownGradIdeal)
    ∧ quiescent_DownGradIdeal_pre_down_finite (hDownGradIdeal := hDownGradIdeal) (hPre_down_finite := hPre_down_finite)
    ∧ quiescent_DownGradRefIdeal (hDownGradRefIdeal := hDownGradRefIdeal)
    ∧ quiescent_DownGradRefIdeal_pre_down_finite (hDownGradRefIdeal := hDownGradRefIdeal) (hPre_down_finite := hPre_down_finite)
    ∧ quiescent_MixGrad (hMixGrad := hMixGrad)
    ∧ quiescent_MixGradIdeal (hMixGradIdeal := hMixGradIdeal)
    ∧ quiescent_MixGradRefIdeal (hMixGradRefIdeal := hMixGradRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_CastIn (hCastIn := hCastIn)
    ∧ quiescent_CastInIdeal (hCastInIdeal := hCastInIdeal)
    ∧ quiescent_CastInRefIdeal (hCastInRefIdeal := hCastInRefIdeal)
    ∧ quiescent_CastOut (hCastOut := hCastOut)
    ∧ quiescent_CastOutIdeal (hCastOutIdeal := hCastOutIdeal)
    ∧ quiescent_CastOutRefIdeal (hCastOutRefIdeal := hCastOutRefIdeal)
    ∧ quiescent_CastUp (hCastUp := hCastUp)
    ∧ quiescent_CastUpIdeal (hCastUpIdeal := hCastUpIdeal)
    ∧ quiescent_CastUpRefIdeal (hCastUpRefIdeal := hCastUpRefIdeal)
    ∧ quiescent_CastDown (hCastDown := hCastDown)
    ∧ quiescent_CastDownIdeal (hCastDownIdeal := hCastDownIdeal)
    ∧ quiescent_CastDownRefIdeal (hCastDownRefIdeal := hCastDownRefIdeal)
    ∧ preserves_Kernel_KernelIdeal
    ∧ algebraic_KernelIdeal_ReferenceIdeal (hKernelIdeal := hKernelIdeal) (hReferenceIdeal := hReferenceIdeal)
    ∧ preserves_UpGrad_UpGradIdeal
    ∧ algebraic_UpGradIdeal_UpGradRefIdeal (hUpGradIdeal := hUpGradIdeal) (hUpGradRefIdeal := hUpGradRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwInA_DwInAIdeal
    ∧ algebraic_DwInAIdeal_DwInARefIdeal (hDwInAIdeal := hDwInAIdeal) (hDwInARefIdeal := hDwInARefIdeal)
    ∧ preserves_DwInB_DwInBIdeal
    ∧ algebraic_DwInBIdeal_DwInBRefIdeal (hDwInBIdeal := hDwInBIdeal) (hDwInBRefIdeal := hDwInBRefIdeal)
    ∧ preserves_DwOut_DwOutIdeal
    ∧ algebraic_DwOutIdeal_DwOutRefIdeal (hDwOutIdeal := hDwOutIdeal) (hDwOutRefIdeal := hDwOutRefIdeal)
    ∧ preserves_InGrad_InGradIdeal
    ∧ algebraic_InGradIdeal_InGradRefIdeal (hInGradIdeal := hInGradIdeal) (hInGradRefIdeal := hInGradRefIdeal)
    ∧ preserves_LossHead_LossHeadIdeal
    ∧ algebraic_LossHeadIdeal_LossHeadRefIdeal (hLossHeadIdeal := hLossHeadIdeal) (hLossHeadRefIdeal := hLossHeadRefIdeal)
    ∧ preserves_DownGrad_DownGradIdeal
    ∧ algebraic_DownGradIdeal_DownGradRefIdeal_pre_down_finite (hDownGradIdeal := hDownGradIdeal) (hDownGradRefIdeal := hDownGradRefIdeal) (hPre_down_finite := hPre_down_finite)
    ∧ preserves_MixGrad_MixGradIdeal
    ∧ algebraic_MixGradIdeal_MixGradRefIdeal (hMixGradIdeal := hMixGradIdeal) (hMixGradRefIdeal := hMixGradRefIdeal)
    ∧ preserves_InFwd_InFwdIdeal
    ∧ algebraic_InFwdIdeal_InFwdRefIdeal (hInFwdIdeal := hInFwdIdeal) (hInFwdRefIdeal := hInFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_CastIn_CastInIdeal
    ∧ algebraic_CastInIdeal_CastInRefIdeal (hCastInIdeal := hCastInIdeal) (hCastInRefIdeal := hCastInRefIdeal)
    ∧ preserves_CastOut_CastOutIdeal
    ∧ algebraic_CastOutIdeal_CastOutRefIdeal (hCastOutIdeal := hCastOutIdeal) (hCastOutRefIdeal := hCastOutRefIdeal)
    ∧ preserves_CastUp_CastUpIdeal
    ∧ algebraic_CastUpIdeal_CastUpRefIdeal (hCastUpIdeal := hCastUpIdeal) (hCastUpRefIdeal := hCastUpRefIdeal)
    ∧ preserves_CastDown_CastDownIdeal
    ∧ algebraic_CastDownIdeal_CastDownRefIdeal (hCastDownIdeal := hCastDownIdeal) (hCastDownRefIdeal := hCastDownRefIdeal)
-- ==== Pre_down_finite.lean ====
abbrev S8192x1024 : Shape := ⟨2, ![8192, 1024]⟩
abbrev S8192x5632 : Shape := ⟨2, ![8192, 5632]⟩
abbrev S2816x1024 : Shape := ⟨2, ![2816, 1024]⟩
abbrev S_ : Shape := ⟨0, ![]⟩
abbrev S8192x2816 : Shape := ⟨2, ![8192, 2816]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  slices_S8192x5632_S8192x2816_0_2816 : S8192x5632.Slices ![0, 2816] S8192x2816
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S8192x5632 .bf16) (main_arg2 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg2
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .bf16 := (extractStridedSlice S8192x2816 ![0, 2816] · slices_S8192x5632_S8192x2816_0_2816) main_arg1
  let main_v11 : FVec F S8192x2816 .f32 := (extf .f32 · bitsLt_bf16_f32) main_v10
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v9 main_v15
  main_v16
-- ==== Kernel.lean ====
abbrev S8192x2688 : Shape := ⟨2, ![8192, 2688]⟩
abbrev S8192x512 : Shape := ⟨2, ![8192, 512]⟩
abbrev S4x128x128 : Shape := ⟨3, ![4, 128, 128]⟩
abbrev S4x128 : Shape := ⟨2, ![4, 128]⟩
abbrev S4x128x1 : Shape := ⟨3, ![4, 128, 1]⟩
abbrev S4x1x128 : Shape := ⟨3, ![4, 1, 128]⟩
abbrev S8192x1024 : Shape := ⟨2, ![8192, 1024]⟩
abbrev S512x1024 : Shape := ⟨2, ![512, 1024]⟩
abbrev S512x512 : Shape := ⟨2, ![512, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 14
  | .vmem => 14
  | .smem => 0
  | _ => 0

abbrev bufTy : (tb : Table) → Fin (tcTables nBuf tb) → BufTy
  | .hbm, ⟨0, _⟩ => ⟨S8192x2688, .f32⟩
  | .hbm, ⟨1, _⟩ => ⟨S8192x512, .f32⟩
  | .hbm, ⟨2, _⟩ => ⟨S4x128x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128x1, .f32⟩
  | .hbm, ⟨7, _⟩ => ⟨S4x1x128, .f32⟩
  | .hbm, ⟨8, _⟩ => ⟨S4x1x128, .f32⟩
  | .hbm, ⟨9, _⟩ => ⟨S8192x1024, .bf16⟩
  | .hbm, ⟨10, _⟩ => ⟨S4x128x128, .f32⟩
  | .hbm, ⟨11, _⟩ => ⟨S4x128x1, .f32⟩
  | .hbm, ⟨12, _⟩ => ⟨S4x1x128, .f32⟩
  | .hbm, ⟨13, _⟩ => ⟨S4x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S4x128x128, .f32⟩
  | .local _ .vmem, ⟨5, _⟩ => ⟨S4x128x1, .f32⟩
  | .local _ .vmem, ⟨6, _⟩ => ⟨S4x1x128, .f32⟩
  | .local _ .vmem, ⟨7, _⟩ => ⟨S4x1x128, .f32⟩
  | .local _ .vmem, ⟨8, _⟩ => ⟨S512x1024, .bf16⟩
  | .local _ .vmem, ⟨9, _⟩ => ⟨S512x1024, .bf16⟩
  | .local _ .vmem, ⟨10, _⟩ => ⟨S4x128x128, .f32⟩
  | .local _ .vmem, ⟨11, _⟩ => ⟨S4x128x1, .f32⟩
  | .local _ .vmem, ⟨12, _⟩ => ⟨S4x1x128, .f32⟩
  | .local _ .vmem, ⟨13, _⟩ => ⟨S4x1x128, .f32⟩
  | _, _ => ⟨S8192x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x2688 : Shape := ⟨2, ![8192, 2688]⟩
abbrev S8192x512 : Shape := ⟨2, ![8192, 512]⟩
abbrev S4x128x128 : Shape := ⟨3, ![4, 128, 128]⟩
abbrev S4x128 : Shape := ⟨2, ![4, 128]⟩
abbrev S8192x1024 : Shape := ⟨2, ![8192, 1024]⟩
abbrev S1x8192x512 : Shape := ⟨3, ![1, 8192, 512]⟩
abbrev S_ : Shape := ⟨0, ![]⟩
abbrev S1x8192x4x128 : Shape := ⟨4, ![1, 8192, 4, 128]⟩
abbrev S1x8192x4 : Shape := ⟨3, ![1, 8192, 4]⟩
abbrev S1x8192x4x1 : Shape := ⟨4, ![1, 8192, 4, 1]⟩
abbrev S1x1x4x128 : Shape := ⟨4, ![1, 1, 4, 128]⟩
abbrev S1x64x128x4x128 : Shape := ⟨5, ![1, 64, 128, 4, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S8192x4 : Shape := ⟨2, ![8192, 4]⟩
abbrev S4x128x1 : Shape := ⟨3, ![4, 128, 1]⟩
abbrev S4x1x128 : Shape := ⟨3, ![4, 1, 128]⟩

abbrev nBuf : Space → Nat
  | .hbm => 187
  | .vmem => 0
  | .smem => 0
  | _ => 0

abbrev hbmTy0_0 (i : Nat) : BufTy := match i % 128 with
  | 0 => ⟨S8192x2688, .f32⟩
  | 1 => ⟨S8192x512, .f32⟩
  | 2 => ⟨S4x128x128, .f32⟩
  | 3 => ⟨S4x128, .f32⟩
  | 4 => ⟨S4x128, .f32⟩
  | 5 => ⟨S4x128, .f32⟩
  | 6 => ⟨S8192x1024, .f32⟩
  | 7 => ⟨S8192x512, .f32⟩
  | 8 => ⟨S1x8192x512, .f32⟩
  | 9 => ⟨S8192x512, .f32⟩
  | 10 => ⟨S1x8192x512, .f32⟩
  | 11 => ⟨S_, .f32⟩
  | 12 => ⟨S1x8192x512, .f32⟩
  | 13 => ⟨S1x8192x512, .f32⟩
  | 14 => ⟨S1x8192x512, .f32⟩
  | 15 => ⟨S_, .f32⟩
  | 16 => ⟨S1x8192x512, .f32⟩
  | 17 => ⟨S1x8192x512, .f32⟩
  | 18 => ⟨S1x8192x512, .f32⟩
  | 19 => ⟨S1x8192x512, .f32⟩
  | 20 => ⟨S1x8192x512, .f32⟩
  | 21 => ⟨S1x8192x512, .f32⟩
  | 22 => ⟨S1x8192x512, .f32⟩
  | 23 => ⟨S1x8192x4x128, .f32⟩
  | 24 => ⟨S_, .f32⟩
  | 25 => ⟨S1x8192x512, .f32⟩
  | 26 => ⟨S1x8192x512, .f32⟩
  | 27 => ⟨S1x8192x512, .f32⟩
  | 28 => ⟨S_, .f32⟩
  | 29 => ⟨S1x8192x512, .f32⟩
  | 30 => ⟨S1x8192x512, .f32⟩
  | 31 => ⟨S1x8192x512, .f32⟩
  | 32 => ⟨S1x8192x512, .f32⟩
  | 33 => ⟨S1x8192x512, .f32⟩
  | 34 => ⟨S1x8192x512, .f32⟩
  | 35 => ⟨S1x8192x512, .f32⟩
  | 36 => ⟨S1x8192x4x128, .f32⟩
  | 37 => ⟨S_, .f32⟩
  | 38 => ⟨S1x8192x4, .f32⟩
  | 39 => ⟨S1x8192x4x1, .f32⟩
  | 40 => ⟨S_, .f32⟩
  | 41 => ⟨S1x8192x4x1, .f32⟩
  | 42 => ⟨S1x8192x4x1, .f32⟩
  | 43 => ⟨S1x8192x4x128, .f32⟩
  | 44 => ⟨S1x8192x4x128, .f32⟩
  | 45 => ⟨S1x8192x4x128, .f32⟩
  | 46 => ⟨S_, .f32⟩
  | 47 => ⟨S1x8192x4x128, .f32⟩
  | 48 => ⟨S1x8192x4x128, .f32⟩
  | 49 => ⟨S_, .f32⟩
  | 50 => ⟨S1x8192x4, .f32⟩
  | 51 => ⟨S1x8192x4x1, .f32⟩
  | 52 => ⟨S_, .f32⟩
  | 53 => ⟨S1x8192x4x1, .f32⟩
  | 54 => ⟨S1x8192x4x1, .f32⟩
  | 55 => ⟨S1x8192x4x128, .f32⟩
  | 56 => ⟨S1x8192x4x128, .f32⟩
  | 57 => ⟨S_, .f32⟩
  | 58 => ⟨S1x8192x4x1, .f32⟩
  | 59 => ⟨S1x8192x4x1, .f32⟩
  | 60 => ⟨S1x8192x4x1, .f32⟩
  | 61 => ⟨S1x8192x4x1, .f32⟩
  | 62 => ⟨S_, .f32⟩
  | 63 => ⟨S1x8192x4x1, .f32⟩
  | 64 => ⟨S1x8192x4x1, .f32⟩
  | 65 => ⟨S1x8192x4x128, .f32⟩
  | 66 => ⟨S1x8192x4x128, .f32⟩
  | 67 => ⟨S1x1x4x128, .f32⟩
  | 68 => ⟨S1x8192x4x128, .f32⟩
  | 69 => ⟨S1x8192x4x128, .f32⟩
  | 70 => ⟨S1x1x4x128, .f32⟩
  | 71 => ⟨S1x8192x4x128, .f32⟩
  | 72 => ⟨S1x8192x4x128, .f32⟩
  | 73 => ⟨S1x64x128x4x128, .f32⟩
  | 74 => ⟨S4x1x64x128x128, .f32⟩
  | 75 => ⟨S1x64x128x4x128, .f32⟩
  | 76 => ⟨S128x4, .f32⟩
  | 77 => ⟨S1x1x128x4x1, .f32⟩
  | 78 => ⟨S1x64x128x4x128, .f32⟩
  | 79 => ⟨S1x64x128x4x128, .f32⟩
  | 80 => ⟨S1x8192x4x128, .f32⟩
  | 81 => ⟨S1x8192x4x128, .f32⟩
  | 82 => ⟨S8192x512, .f32⟩
  | 83 => ⟨S1x8192x4x128, .f32⟩
  | 84 => ⟨S1x8192x4x128, .f32⟩
  | 85 => ⟨S1x8192x4x128, .f32⟩
  | 86 => ⟨S1x64x128x4x128, .f32⟩
  | 87 => ⟨S_, .f32⟩
  | 88 => ⟨S1x128x4, .f32⟩
  | 89 => ⟨S1x1x128x4x1, .f32⟩
  | 90 => ⟨S_, .f32⟩
  | 91 => ⟨S128x4, .f32⟩
  | 92 => ⟨S4x128, .f32⟩
  | 93 => ⟨S4x1x64x128x128, .f32⟩
  | 94 => ⟨S4x128x128, .f32⟩
  | 95 => ⟨S4x1x64x128x128, .f32⟩
  | 96 => ⟨S1x64x128x4x128, .f32⟩
  | 97 => ⟨S1x8192x4x128, .f32⟩
  | 98 => ⟨S_, .f32⟩
  | 99 => ⟨S1x4x128, .f32⟩
  | 100 => ⟨S1x1x4x128, .f32⟩
  | 101 => ⟨S_, .f32⟩
  | 102 => ⟨S4x128, .f32⟩
  | 103 => ⟨S1x8192x4x128, .f32⟩
  | 104 => ⟨S_, .f32⟩
  | 105 => ⟨S1x4x128, .f32⟩
  | 106 => ⟨S1x1x4x128, .f32⟩
  | 107 => ⟨S1x8192x4x128, .f32⟩
  | 108 => ⟨S1x8192x4x128, .f32⟩
  | 109 => ⟨S_, .f32⟩
  | 110 => ⟨S4x128, .f32⟩
  | 111 => ⟨S1x8192x4x128, .f32⟩
  | 112 => ⟨S_, .f32⟩
  | 113 => ⟨S1x8192x4, .f32⟩
  | 114 => ⟨S1x8192x4x1, .f32⟩
  | 115 => ⟨S1x8192x4x128, .f32⟩
  | 116 => ⟨S1x8192x4x128, .f32⟩
  | 117 => ⟨S1x8192x4x1, .f32⟩
  | 118 => ⟨S1x8192x4x128, .f32⟩
  | 119 => ⟨S_, .f32⟩
  | 120 => ⟨S1x8192x4, .f32⟩
  | 121 => ⟨S1x8192x4x1, .f32⟩
  | 122 => ⟨S_, .f32⟩
  | 123 => ⟨S1x8192x4x1, .f32⟩
  | 124 => ⟨S1x8192x4x1, .f32⟩
  | 125 => ⟨S_, .f32⟩
  | 126 => ⟨S8192x4, .f32⟩
  | 127 => ⟨S1x8192x4, .f32⟩
  | _ => ⟨S8192x2688, .f32⟩

abbrev hbmTy0_1 (i : Nat) : BufTy := match i % 128 with
  | 0 => ⟨S1x8192x4x128, .f32⟩
  | 1 => ⟨S1x8192x4x128, .f32⟩
  | 2 => ⟨S1x8192x4x128, .f32⟩
  | 3 => ⟨S_, .f32⟩
  | 4 => ⟨S1x8192x4, .f32⟩
  | 5 => ⟨S1x8192x4x1, .f32⟩
  | 6 => ⟨S1x8192x4x128, .f32⟩
  | 7 => ⟨S1x8192x4x1, .f32⟩
  | 8 => ⟨S_, .f32⟩
  | 9 => ⟨S1x8192x4x1, .f32⟩
  | 10 => ⟨S1x8192x4x1, .f32⟩
  | 11 => ⟨S_, .f32⟩
  | 12 => ⟨S8192x4, .f32⟩
  | 13 => ⟨S1x8192x4, .f32⟩
  | 14 => ⟨S1x8192x4x128, .f32⟩
  | 15 => ⟨S1x8192x4x128, .f32⟩
  | 16 => ⟨S1x8192x512, .f32⟩
  | 17 => ⟨S1x8192x512, .f32⟩
  | 18 => ⟨S1x8192x512, .f32⟩
  | 19 => ⟨S_, .f32⟩
  | 20 => ⟨S1x8192x512, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S1x8192x512, .f32⟩
  | 27 => ⟨S_, .f32⟩
  | 28 => ⟨S1x8192x512, .f32⟩
  | 29 => ⟨S1x8192x512, .f32⟩
  | 30 => ⟨S1x8192x512, .f32⟩
  | 31 => ⟨S1x8192x512, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S1x8192x512, .f32⟩
  | 38 => ⟨S_, .f32⟩
  | 39 => ⟨S1x8192x512, .f32⟩
  | 40 => ⟨S1x8192x512, .f32⟩
  | 41 => ⟨S1x8192x512, .f32⟩
  | 42 => ⟨S_, .f32⟩
  | 43 => ⟨S1x8192x512, .f32⟩
  | 44 => ⟨S1x8192x512, .f32⟩
  | 45 => ⟨S1x8192x512, .f32⟩
  | 46 => ⟨S_, .f32⟩
  | 47 => ⟨S8192x512, .f32⟩
  | 48 => ⟨S_, .f32⟩
  | 49 => ⟨S8192x1024, .f32⟩
  | 50 => ⟨S_, .f32⟩
  | 51 => ⟨S8192x512, .f32⟩
  | 52 => ⟨S_, .f32⟩
  | 53 => ⟨S8192x1024, .f32⟩
  | 54 => ⟨S8192x1024, .f32⟩
  | 55 => ⟨S8192x1024, .bf16⟩
  | 56 => ⟨S4x128x1, .f32⟩
  | 57 => ⟨S4x1x128, .f32⟩
  | 58 => ⟨S4x1x128, .f32⟩
  | _ => ⟨S8192x2688, .f32⟩

abbrev hbmTy (i : Nat) : BufTy := match i / 128 with
  | 0 => hbmTy0_0 i
  | 1 => hbmTy0_1 i
  | _ => ⟨S8192x2688, .f32⟩

abbrev bufTy : (tb : Table) → Fin (tcTables nBuf tb) → BufTy
  | .hbm, ⟨i, _⟩ => hbmTy i
  | _, _ => ⟨S8192x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_cst_14 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_15 : Ref sig .tc := ⟨.hbm, 109, rfl⟩
abbrev main_v87 : Ref sig .tc := ⟨.hbm, 110, rfl⟩
abbrev main_v88 : Ref sig .tc := ⟨.hbm, 111, rfl⟩
abbrev main_cst_16 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_17 : Ref sig .tc := ⟨.hbm, 119, rfl⟩
abbrev main_v95 : Ref sig .tc := ⟨.hbm, 120, rfl⟩
abbrev main_v96 : Ref sig .tc := ⟨.hbm, 121, rfl⟩
abbrev main_cst_18 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_20 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_21 : Ref sig .tc := ⟨.hbm, 136, rfl⟩
abbrev main_v108 : Ref sig .tc := ⟨.hbm, 137, rfl⟩
abbrev main_v109 : Ref sig .tc := ⟨.hbm, 138, rfl⟩
abbrev main_cst_22 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_23 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_24 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_25 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_26 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_27 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_28 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_29 : Ref sig .tc := ⟨.hbm, 174, rfl⟩
abbrev main_v138 : Ref sig .tc := ⟨.hbm, 175, rfl⟩
abbrev main_cst_30 : Ref sig .tc := ⟨.hbm, 176, rfl⟩
abbrev main_v139 : Ref sig .tc := ⟨.hbm, 177, rfl⟩
abbrev main_cst_31 : Ref sig .tc := ⟨.hbm, 178, rfl⟩
abbrev main_v140 : Ref sig .tc := ⟨.hbm, 179, rfl⟩
abbrev main_cst_32 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩

abbrev nD : Nat := 1
abbrev τ : Topo := Topo.v7x

variable {F : FTy → Type} [FloatOps F]
-- ==== UpGrad.lean ====
abbrev S8192x5632 : Shape := ⟨2, ![8192, 5632]⟩
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x5632 : Shape := ⟨2, ![1, 5632]⟩
abbrev S256x5632 : Shape := ⟨2, ![256, 5632]⟩
abbrev S16x5632 : Shape := ⟨2, ![16, 5632]⟩
abbrev S256x1024 : Shape := ⟨2, ![256, 1024]⟩
abbrev S256x1 : Shape := ⟨2, ![256, 1]⟩
abbrev S256x256 : Shape := ⟨2, ![256, 256]⟩
abbrev S1x256 : Shape := ⟨2, ![1, 256]⟩
abbrev S256 : Shape := ⟨1, ![256]⟩
abbrev S1024x256 : Shape := ⟨2, ![1024, 256]⟩

abbrev nBuf : Space → Nat
  | .hbm => 31
  | .vmem => 22
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S1024, .f32⟩
  | .hbm, ⟨3, _⟩ => ⟨S1024x5632, .bf16⟩
  | .hbm, ⟨4, _⟩ => ⟨S3x5632, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x5632, .f32⟩
  | .hbm, ⟨23, _⟩ => ⟨S8192x5632, .f32⟩
  | .hbm, ⟨24, _⟩ => ⟨S8192x5632, .bf16⟩
  | .hbm, ⟨25, _⟩ => ⟨S1x1024, .f32⟩
  | .hbm, ⟨26, _⟩ => ⟨S8192x5632, .bf16⟩
  | .hbm, ⟨27, _⟩ => ⟨S8192x1024, .f32⟩
  | .hbm, ⟨28, _⟩ => ⟨S1x1024, .f32⟩
  | .hbm, ⟨29, _⟩ => ⟨S3x5632, .f32⟩
  | .hbm, ⟨30, _⟩ => ⟨S1x5632, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S16x5632, .bf16⟩
  | .local _ .vmem, ⟨5, _⟩ => ⟨S16x5632, .bf16⟩
  | .local _ .vmem, ⟨6, _⟩ => ⟨S256x5632, .bf16⟩
  | .local _ .vmem, ⟨7, _⟩ => ⟨S256x5632, .bf16⟩
  | .local _ .vmem, ⟨8, _⟩ => ⟨S3x5632, .f32⟩
  | .local _ .vmem, ⟨9, _⟩ => ⟨S1024x5632, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S3x5632, .f32⟩
  | .local _ .vmem, ⟨21, _⟩ => ⟨S1x5632, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== UpGradRefIdeal.lean ====
abbrev S8192x5632 : Shape := ⟨2, ![8192, 5632]⟩
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x5632 : Shape := ⟨3, ![1, 8192, 5632]⟩
abbrev S5632 : Shape := ⟨1, ![5632]⟩
abbrev S1x1x5632 : Shape := ⟨3, ![1, 1, 5632]⟩
abbrev S1x8194x5632 : Shape := ⟨3, ![1, 8194, 5632]⟩
abbrev S1x5632 : Shape := ⟨2, ![1, 5632]⟩

abbrev nBuf : Space → Nat
  | .hbm => 146
  | .vmem => 0
  | .smem => 0
  | _ => 0

abbrev hbmTy0_0 (i : Nat) : BufTy := match i % 128 with
  | 0 => ⟨S8192x5632, .bf16⟩
  | 1 => ⟨S8192x1024, .f32⟩
  | 2 => ⟨S1024, .f32⟩
  | 3 => ⟨S1024x5632, .bf16⟩
  | 4 => ⟨S3x5632, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S1024x5632, .f32⟩
  | 27 => ⟨S8192x5632, .f32⟩
  | 28 => ⟨S1x8192x5632, .f32⟩
  | 29 => ⟨S_, .f32⟩
  | 30 => ⟨S5632, .f32⟩
  | 31 => ⟨S_, .f32⟩
  | 32 => ⟨S1x1x5632, .f32⟩
  | 33 => ⟨S1x8194x5632, .f32⟩
  | 34 => ⟨S_, .f32⟩
  | 35 => ⟨S1x1x5632, .f32⟩
  | 36 => ⟨S_, .f32⟩
  | 37 => ⟨S1x1x5632, .f32⟩
  | 38 => ⟨S1x8192x5632, .f32⟩
  | 39 => ⟨S1x5632, .f32⟩
  | 40 => ⟨S5632, .f32⟩
  | 41 => ⟨S1x1x5632, .f32⟩
  | 42 => ⟨S1x8192x5632, .f32⟩
  | 43 => ⟨S1x8192x5632, .f32⟩
  | 44 => ⟨S1x1x5632, .f32⟩
  | 45 => ⟨S1x8192x5632, .f32⟩
  | 46 => ⟨S1x8192x5632, .f32⟩
  | 47 => ⟨S1x8192x5632, .f32⟩
  | 48 => ⟨S1x5632, .f32⟩
  | 49 => ⟨S5632, .f32⟩
  | 50 => ⟨S1x1x5632, .f32⟩
  | 51 => ⟨S1x8192x5632, .f32⟩
  | 52 => ⟨S1x8192x5632, .f32⟩
  | 53 => ⟨S1x8192x5632, .f32⟩
  | 54 => ⟨S1x8192x5632, .f32⟩
  | 55 => ⟨S1x5632, .f32⟩
  | 56 => ⟨S5632, .f32⟩
  | 57 => ⟨S1x1x5632, .f32⟩
  | 58 => ⟨S1x8192x5632, .f32⟩
  | 59 => ⟨S1x8192x5632, .f32⟩
  | 60 => ⟨S1x8192x5632, .f32⟩
  | 61 => ⟨S8192x5632, .f32⟩
  | 62 => ⟨S1x8192x5632, .f32⟩
  | 63 => ⟨S1x8192x5632, .f32⟩
  | 64 => ⟨S_, .f32⟩
  | 65 => ⟨S1x5632, .f32⟩
  | 66 => ⟨S1x1x5632, .f32⟩
  | 67 => ⟨S1x8192x5632, .f32⟩
  | 68 => ⟨S1x8192x5632, .f32⟩
  | 69 => ⟨S_, .f32⟩
  | 70 => ⟨S5632, .f32⟩
  | 71 => ⟨S1x5632, .f32⟩
  | 72 => ⟨S_, .f32⟩
  | 73 => ⟨S3x5632, .f32⟩
  | 74 => ⟨S_, .f32⟩
  | 75 => ⟨S1x8194x5632, .f32⟩
  | 76 => ⟨S1x8192x5632, .f32⟩
  | 77 => ⟨S_, .f32⟩
  | 78 => ⟨S1x5632, .f32⟩
  | 79 => ⟨S1x1x5632, .f32⟩
  | 80 => ⟨S1x8192x5632, .f32⟩
  | 81 => ⟨S1x8192x5632, .f32⟩
  | 82 => ⟨S_, .f32⟩
  | 83 => ⟨S5632, .f32⟩
  | 84 => ⟨S1x5632, .f32⟩
  | 85 => ⟨S_, .f32⟩
  | 86 => ⟨S3x5632, .f32⟩
  | 87 => ⟨S3x5632, .f32⟩
  | 88 => ⟨S_, .f32⟩
  | 89 => ⟨S1x8194x5632, .f32⟩
  | 90 => ⟨S1x8194x5632, .f32⟩
  | 91 => ⟨S_, .f32⟩
  | 92 => ⟨S1x5632, .f32⟩
  | 93 => ⟨S1x1x5632, .f32⟩
  | 94 => ⟨S_, .f32⟩
  | 95 => ⟨S5632, .f32⟩
  | 96 => ⟨S1x8192x5632, .f32⟩
  | 97 => ⟨S_, .f32⟩
  | 98 => ⟨S1x5632, .f32⟩
  | 99 => ⟨S1x1x5632, .f32⟩
  | 100 => ⟨S1x8192x5632, .f32⟩
  | 101 => ⟨S1x8192x5632, .f32⟩
  | 102 => ⟨S_, .f32⟩
  | 103 => ⟨S5632, .f32⟩
  | 104 => ⟨S1x5632, .f32⟩
  | 105 => ⟨S_, .f32⟩
  | 106 => ⟨S3x5632, .f32⟩
  | 107 => ⟨S3x5632, .f32⟩
  | 108 => ⟨S_, .f32⟩
  | 109 => ⟨S1x8194x5632, .f32⟩
  | 110 => ⟨S1x8194x5632, .f32⟩
  | 111 => ⟨S1x1x5632, .f32⟩
  | 112 => ⟨S1x8192x5632, .f32⟩
  | 113 => ⟨S1x1x5632, .f32⟩
  | 114 => ⟨S8192x5632, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S_, .f32⟩
  | 123 => ⟨S1024, .f32⟩
  | 124 => ⟨S8192x1024, .f32⟩
  | 125 => ⟨S_, .f32⟩
  | 126 => ⟨S8192, .f32⟩
  | 127 => ⟨S8192x1, .f32⟩
  | _ => ⟨S8192x5632, .bf16⟩

abbrev hbmTy0_1 (i : Nat) : BufTy := match i % 128 with
  | 0 => ⟨S8192x1024, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x5632, .f32⟩
  | 14 => ⟨S8192x5632, .bf16⟩
  | 15 => ⟨S8192x1024, .f32⟩
  | 16 => ⟨S1x1024, .f32⟩
  | 17 => ⟨S1x5632, .f32⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_22 : Ref sig .tc := ⟨.hbm, 122, rfl⟩
abbrev main_v93 : Ref sig .tc := ⟨.hbm, 123, rfl⟩
abbrev main_v94 : Ref sig .tc := ⟨.hbm, 124, rfl⟩
abbrev main_cst_23 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_24 : Ref sig .tc := ⟨.hbm, 131, rfl⟩
abbrev main_v100 : Ref sig .tc := ⟨.hbm, 132, rfl⟩
abbrev main_v101 : Ref sig .tc := ⟨.hbm, 133, rfl⟩
abbrev main_cst_25 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== DwUp.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x5632, .f32⟩
  | .hbm, ⟨23, _⟩ => ⟨S5632x1024, .f32⟩
  | .hbm, ⟨24, _⟩ => ⟨S1024x5632, .f32⟩
  | .hbm, ⟨25, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwDown.lean ====
abbrev S8192x5632 : Shape := ⟨2, ![8192, 5632]⟩
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwDownRefIdeal.lean ====
abbrev S8192x5632 : Shape := ⟨2, ![8192, 5632]⟩
abbrev S8192x1024 : Shape := ⟨2, ![8192, 1024]⟩
abbrev S_ : Shape := ⟨0, ![]⟩
abbrev S2816x1024 : Shape := ⟨2, ![2816, 1024]⟩
abbrev S8192x2816 : Shape := ⟨2, ![8192, 2816]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S1024x2816, .f32⟩
  | .hbm, ⟨19, _⟩ => ⟨S2816x1024, .f32⟩
  | .hbm, ⟨20, _⟩ => ⟨S2816x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DwInA.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwInARefIdeal.lean ====
abbrev S8192x1024 : Shape := ⟨2, ![8192, 1024]⟩
abbrev S1024 : Shape := ⟨1, ![1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwInB.lean ====
abbrev S8192x1024 : Shape := ⟨2, ![8192, 1024]⟩
abbrev S1024 : Shape := ⟨1, ![1024]⟩
abbrev S8192x1664 : Shape := ⟨2, ![8192, 1664]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1664 : Shape := ⟨2, ![1024, 1664]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1664, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1664, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwInBRefIdeal.lean ====
abbrev S8192x1024 : Shape := ⟨2, ![8192, 1024]⟩
abbrev S1024 : Shape := ⟨1, ![1024]⟩
abbrev S8192x1664 : Shape := ⟨2, ![8192, 1664]⟩
abbrev S_ : Shape := ⟨0, ![]⟩
abbrev S1024x1664 : Shape := ⟨2, ![1024, 1664]⟩
abbrev S8192 : Shape := ⟨1, ![8192]⟩
abbrev S8192x1 : Shape := ⟨2, ![8192, 1]⟩
abbrev S1x1024 : Shape := ⟨2, ![1, 1024]⟩
abbrev S1664x1024 : Shape := ⟨2, ![1664, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1664, .bf16⟩
  | .hbm, ⟨3, _⟩ => ⟨S_, .f32⟩
  | .hbm, ⟨4, _⟩ => ⟨S1024x1664, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1664, .f32⟩
  | .hbm, ⟨22, _⟩ => ⟨S8192x1664, .f32⟩
  | .hbm, ⟨23, _⟩ => ⟨S1664x1024, .f32⟩
  | .hbm, ⟨24, _⟩ => ⟨S1024x1664, .f32⟩
  | .hbm, ⟨25, _⟩ => ⟨S1024x1664, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwOut.lean ====
abbrev S8192x512 : Shape := ⟨2, ![8192, 512]⟩
abbrev S4x128 : Shape := ⟨2, ![4, 128]⟩
abbrev S8192x1024 : Shape := ⟨2, ![8192, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩
abbrev S1024x1024 : Shape := ⟨2, ![1024, 1024]⟩

abbrev nBuf : Space → Nat
  | .hbm => 39
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S4x128, .f32⟩
  | .hbm, ⟨5, _⟩ => ⟨S8192x1024, .f32⟩
  | .hbm, ⟨6, _⟩ => ⟨S8192x512, .f32⟩
  | .hbm, ⟨7, _⟩ => ⟨S8192x4x128, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x128, .f32⟩
  | .hbm, ⟨20, _⟩ => ⟨S8192x4x128, .f32⟩
  | .hbm, ⟨21, _⟩ => ⟨S1x4x128, .f32⟩
  | .hbm, ⟨22, _⟩ => ⟨S8192x4x128, .f32⟩
  | .hbm, ⟨23, _⟩ => ⟨S8192x4x128, .f32⟩
  | .hbm, ⟨24, _⟩ => ⟨S8192x4x128, .f32⟩
  | .hbm, ⟨25, _⟩ => ⟨S8192x4x128, .f32⟩
  | .hbm, ⟨26, _⟩ => ⟨S8192x4x128, .f32⟩
  | .hbm, ⟨27, _⟩ => ⟨S_, .f32⟩
  | .hbm, ⟨28, _⟩ => ⟨S8192x4x128, .f32⟩
  | .hbm, ⟨29, _⟩ => ⟨S8192x4x128, .f32⟩
  | .hbm, ⟨30, _⟩ => ⟨S_, .f32⟩
  | .hbm, ⟨31, _⟩ => ⟨S8192x4x128, .f32⟩
  | .hbm, ⟨32, _⟩ => ⟨S8192x4x128, .f32⟩
  | .hbm, ⟨33, _⟩ => ⟨S8192x4x128, .f32⟩
  | .hbm, ⟨34, _⟩ => ⟨S8192x4x128, .f32⟩
  | .hbm, ⟨35, _⟩ => ⟨S8192x512, .f32⟩
  | .hbm, ⟨36, _⟩ => ⟨S8192x1024, .f32⟩
  | .hbm, ⟨37, _⟩ => ⟨S8192x1024, .bf16⟩
  | .hbm, ⟨38, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutRefIdeal.lean ====
abbrev S8192x512 : Shape := ⟨2, ![8192, 512]⟩
abbrev S4x128 : Shape := ⟨2, ![4, 128]⟩
abbrev S8192x1024 : Shape := ⟨2, ![8192, 1024]⟩
abbrev S_ : Shape := ⟨0, ![]⟩
abbrev S1024x1024 : Shape := ⟨2, ![1024, 1024]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S4x128, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x512, .f32⟩
  | .hbm, ⟨9, _⟩ => ⟨S8192x4x128, .f32⟩
  | .hbm, ⟨10, _⟩ => ⟨S8192x4x128, .f32⟩
  | .hbm, ⟨11, _⟩ => ⟨S_, .f32⟩
  | .hbm, ⟨12, _⟩ => ⟨S8192x4, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x1, .f32⟩
  | .hbm, ⟨21, _⟩ => ⟨S8192x4x128, .f32⟩
  | .hbm, ⟨22, _⟩ => ⟨S8192x4x128, .f32⟩
  | .hbm, ⟨23, _⟩ => ⟨S1x4x128, .f32⟩
  | .hbm, ⟨24, _⟩ => ⟨S8192x4x128, .f32⟩
  | .hbm, ⟨25, _⟩ => ⟨S8192x4x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S_, .f32⟩
  | .hbm, ⟨30, _⟩ => ⟨S8192x4x128, .f32⟩
  | .hbm, ⟨31, _⟩ => ⟨S8192x4x128, .f32⟩
  | .hbm, ⟨32, _⟩ => ⟨S_, .f32⟩
  | .hbm, ⟨33, _⟩ => ⟨S8192x4x128, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S1024x1024, .f32⟩
  | .hbm, ⟨42, _⟩ => ⟨S1024x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== InGrad.lean ====
abbrev S8192x1024 : Shape := ⟨2, ![8192, 1024]⟩
abbrev S8192x1664 : Shape := ⟨2, ![8192, 1664]⟩
abbrev S1024x2592 : Shape := ⟨2, ![1024, 2592]⟩
abbrev S1024 : Shape := ⟨1, ![1024]⟩
abbrev S_ : Shape := ⟨0, ![]⟩
abbrev S1024x2688 : Shape := ⟨2, ![1024, 2688]⟩
abbrev S1x1024 : Shape := ⟨2, ![1, 1024]⟩
abbrev S512x1024 : Shape := ⟨2, ![512, 1024]⟩
abbrev S512x1664 : Shape := ⟨2, ![512, 1664]⟩
abbrev S1024x1024 : Shape := ⟨2, ![1024, 1024]⟩
abbrev S1024x1664 : Shape := ⟨2, ![1024, 1664]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x2592, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .i32⟩
  | .hbm, ⟨7, _⟩ => ⟨S_, .bf16⟩
  | .hbm, ⟨8, _⟩ => ⟨S1024x2688, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1664, .bf16⟩
  | .local _ .vmem, ⟨3, _⟩ => ⟨S512x1664, .bf16⟩
  | .local _ .vmem, ⟨4, _⟩ => ⟨S1024x2688, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InGradRefIdeal.lean ====
abbrev S8192x1024 : Shape := ⟨2, ![8192, 1024]⟩
abbrev S8192x1664 : Shape := ⟨2, ![8192, 1664]⟩
abbrev S1024x2592 : Shape := ⟨2, ![1024, 2592]⟩
abbrev S1024 : Shape := ⟨1, ![1024]⟩
abbrev S8192x2688 : Shape := ⟨2, ![8192, 2688]⟩
abbrev S8192x2592 : Shape := ⟨2, ![8192, 2592]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x2592, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x2688, .bf16⟩
  | .hbm, ⟨7, _⟩ => ⟨S8192x2592, .bf16⟩
  | .hbm, ⟨8, _⟩ => ⟨S8192x2592, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x2592, .f32⟩
  | .hbm, ⟨30, _⟩ => ⟨S8192x2592, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== DownGrad.lean ====
abbrev S8192x1024 : Shape := ⟨2, ![8192, 1024]⟩
abbrev S8192x5632 : Shape := ⟨2, ![8192, 5632]⟩
abbrev S2816x1024 : Shape := ⟨2, ![2816, 1024]⟩
abbrev S512x1024 : Shape := ⟨2, ![512, 1024]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownGradRefIdeal.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== MixGrad.lean ====
abbrev S8192x1024 : Shape := ⟨2, ![8192, 1024]⟩
abbrev S1024x1024 : Shape := ⟨2, ![1024, 1024]⟩
abbrev S8192x512 : Shape := ⟨2, ![8192, 512]⟩
abbrev S8192x2688 : Shape := ⟨2, ![8192, 2688]⟩
abbrev S4x128 : Shape := ⟨2, ![4, 128]⟩
abbrev S4x1x128 : Shape := ⟨3, ![4, 1, 128]⟩
abbrev S1024x512 : Shape := ⟨2, ![1024, 512]⟩
abbrev S512x1024 : Shape := ⟨2, ![512, 1024]⟩
abbrev S128x1024 : Shape := ⟨2, ![128, 1024]⟩
abbrev S1024x128 : Shape := ⟨2, ![1024, 128]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩
abbrev S128 : Shape := ⟨1, ![128]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S8192x2688, .f32⟩
  | .hbm, ⟨5, _⟩ => ⟨S4x128, .f32⟩
  | .hbm, ⟨6, _⟩ => ⟨S4x1x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S4x1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S4x1x128, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S4x1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixGradRefIdeal.lean ====
abbrev S8192x1024 : Shape := ⟨2, ![8192, 1024]⟩
abbrev S1024x1024 : Shape := ⟨2, ![1024, 1024]⟩
abbrev S8192x512 : Shape := ⟨2, ![8192, 512]⟩
abbrev S8192x2688 : Shape := ⟨2, ![8192, 2688]⟩
abbrev S4x128 : Shape := ⟨2, ![4, 128]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S4x1x128 : Shape := ⟨3, ![4, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S8192x2688, .f32⟩
  | .hbm, ⟨5, _⟩ => ⟨S4x128, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x4x128, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x128, .f32⟩
  | .hbm, ⟨27, _⟩ => ⟨S8192x4x128, .f32⟩
  | .hbm, ⟨28, _⟩ => ⟨S1x4x128, .f32⟩
  | .hbm, ⟨29, _⟩ => ⟨S8192x4x128, .f32⟩
  | .hbm, ⟨30, _⟩ => ⟨S8192x4x128, .f32⟩
  | .hbm, ⟨31, _⟩ => ⟨S8192x4x128, .f32⟩
  | .hbm, ⟨32, _⟩ => ⟨S8192x4x128, .f32⟩
  | .hbm, ⟨33, _⟩ => ⟨S8192x4x128, .f32⟩
  | .hbm, ⟨34, _⟩ => ⟨S_, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4x128, .f32⟩
  | .hbm, ⟨39, _⟩ => ⟨S8192x4x128, .f32⟩
  | .hbm, ⟨40, _⟩ => ⟨S_, .f32⟩
  | .hbm, ⟨41, _⟩ => ⟨S8192x4x128, .f32⟩
  | .hbm, ⟨42, _⟩ => ⟨S8192x4x128, .f32⟩
  | .hbm, ⟨43, _⟩ => ⟨S8192x4x128, .f32⟩
  | .hbm, ⟨44, _⟩ => ⟨S8192x4x128, .f32⟩
  | .hbm, ⟨45, _⟩ => ⟨S8192x4x128, .f32⟩
  | .hbm, ⟨46, _⟩ => ⟨S8192x512, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x512, .f32⟩
  | .hbm, ⟨52, _⟩ => ⟨S8192x512, .f32⟩
  | .hbm, ⟨53, _⟩ => ⟨S8192x4x128, .f32⟩
  | .hbm, ⟨54, _⟩ => ⟨S8192x4x128, .f32⟩
  | .hbm, ⟨55, _⟩ => ⟨S8192x4x128, .f32⟩
  | .hbm, ⟨56, _⟩ => ⟨S8192x4x128, .f32⟩
  | .hbm, ⟨57, _⟩ => ⟨S8192x4x128, .f32⟩
  | .hbm, ⟨58, _⟩ => ⟨S8192x4x128, .f32⟩
  | .hbm, ⟨59, _⟩ => ⟨S8192x4x128, .f32⟩
  | .hbm, ⟨60, _⟩ => ⟨S8192x512, .f32⟩
  | .hbm, ⟨61, _⟩ => ⟨S8192x4x128, .f32⟩
  | .hbm, ⟨62, _⟩ => ⟨S_, .f32⟩
  | .hbm, ⟨63, _⟩ => ⟨S4x128, .f32⟩
  | .hbm, ⟨64, _⟩ => ⟨S1x4x128, .f32⟩
  | .hbm, ⟨65, _⟩ => ⟨S8192x4x128, .f32⟩
  | .hbm, ⟨66, _⟩ => ⟨S8192x4x128, .f32⟩
  | .hbm, ⟨67, _⟩ => ⟨S_, .f32⟩
  | .hbm, ⟨68, _⟩ => ⟨S4x128, .f32⟩
  | .hbm, ⟨69, _⟩ => ⟨S8192x4x128, .f32⟩
  | .hbm, ⟨70, _⟩ => ⟨S_, .f32⟩
  | .hbm, ⟨71, _⟩ => ⟨S8192x4, .f32⟩
  | .hbm, ⟨72, _⟩ => ⟨S8192x4x1, .f32⟩
  | .hbm, ⟨73, _⟩ => ⟨S8192x4x128, .f32⟩
  | .hbm, ⟨74, _⟩ => ⟨S8192x4x128, .f32⟩
  | .hbm, ⟨75, _⟩ => ⟨S8192x4x1, .f32⟩
  | .hbm, ⟨76, _⟩ => ⟨S_, .f32⟩
  | .hbm, ⟨77, _⟩ => ⟨S8192x4x1, .f32⟩
  | .hbm, ⟨78, _⟩ => ⟨S8192x4x1, .f32⟩
  | .hbm, ⟨79, _⟩ => ⟨S_, .f32⟩
  | .hbm, ⟨80, _⟩ => ⟨S8192x4, .f32⟩
  | .hbm, ⟨81, _⟩ => ⟨S8192x4x128, .f32⟩
  | .hbm, ⟨82, _⟩ => ⟨S8192x4x128, .f32⟩
  | .hbm, ⟨83, _⟩ => ⟨S8192x4x128, .f32⟩
  | .hbm, ⟨84, _⟩ => ⟨S8192x4x128, .f32⟩
  | .hbm, ⟨85, _⟩ => ⟨S8192x4x128, .f32⟩
  | .hbm, ⟨86, _⟩ => ⟨S8192x512, .f32⟩
  | .hbm, ⟨87, _⟩ => ⟨S4x1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== InFwd.lean ====
abbrev S8192x1024 : Shape := ⟨2, ![8192, 1024]⟩
abbrev S1024 : Shape := ⟨1, ![1024]⟩
abbrev S1024x2592 : Shape := ⟨2, ![1024, 2592]⟩
abbrev S1x1024 : Shape := ⟨2, ![1, 1024]⟩
abbrev S_ : Shape := ⟨0, ![]⟩
abbrev S1024x2688 : Shape := ⟨2, ![1024, 2688]⟩
abbrev S8192x2688 : Shape := ⟨2, ![8192, 2688]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .bf16⟩
  | .hbm, ⟨3, _⟩ => ⟨S1x1024, .f32⟩
  | .hbm, ⟨4, _⟩ => ⟨S_, .i32⟩
  | .hbm, ⟨5, _⟩ => ⟨S_, .bf16⟩
  | .hbm, ⟨6, _⟩ => ⟨S1024x2688, .bf16⟩
  | .hbm, ⟨7, _⟩ => ⟨S8192x2688, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x2688, .f32⟩
  | .local _ .vmem, ⟨5, _⟩ => ⟨S512x2688, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S8192x1024 : Shape := ⟨2, ![8192, 1024]⟩
abbrev S1024 : Shape := ⟨1, ![1024]⟩
abbrev S1024x2592 : Shape := ⟨2, ![1024, 2592]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2592 : Shape := ⟨2, ![8192, 2592]⟩
abbrev S8192x2688 : Shape := ⟨2, ![8192, 2688]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x2592, .f32⟩
  | .hbm, ⟨20, _⟩ => ⟨S8192x2592, .f32⟩
  | .hbm, ⟨21, _⟩ => ⟨S_, .i32⟩
  | .hbm, ⟨22, _⟩ => ⟨S_, .f32⟩
  | .hbm, ⟨23, _⟩ => ⟨S8192x2688, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwd.lean ====
abbrev S8192x1024 : Shape := ⟨2, ![8192, 1024]⟩
abbrev S8192x512 : Shape := ⟨2, ![8192, 512]⟩
abbrev S8192x2688 : Shape := ⟨2, ![8192, 2688]⟩
abbrev S4x128 : Shape := ⟨2, ![4, 128]⟩
abbrev S1024x1024 : Shape := ⟨2, ![1024, 1024]⟩
abbrev S4x1x128 : Shape := ⟨3, ![4, 1, 128]⟩
abbrev S1024x512 : Shape := ⟨2, ![1024, 512]⟩
abbrev S1024x128 : Shape := ⟨2, ![1024, 128]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2688, .f32⟩
  | .hbm, ⟨4, _⟩ => ⟨S8192x512, .bf16⟩
  | .hbm, ⟨5, _⟩ => ⟨S4x128, .f32⟩
  | .hbm, ⟨6, _⟩ => ⟨S1024x1024, .bf16⟩
  | .hbm, ⟨7, _⟩ => ⟨S4x1x128, .f32⟩
  | .hbm, ⟨8, _⟩ => ⟨S8192x1024, .f32⟩
  | .hbm, ⟨9, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S4x1x128, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFwdRefIdeal.lean ====
abbrev S8192x1024 : Shape := ⟨2, ![8192, 1024]⟩
abbrev S8192x512 : Shape := ⟨2, ![8192, 512]⟩
abbrev S8192x2688 : Shape := ⟨2, ![8192, 2688]⟩
abbrev S4x128 : Shape := ⟨2, ![4, 128]⟩
abbrev S1024x1024 : Shape := ⟨2, ![1024, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2688, .f32⟩
  | .hbm, ⟨4, _⟩ => ⟨S8192x512, .bf16⟩
  | .hbm, ⟨5, _⟩ => ⟨S4x128, .f32⟩
  | .hbm, ⟨6, _⟩ => ⟨S1024x1024, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x4x128, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x128, .f32⟩
  | .hbm, ⟨23, _⟩ => ⟨S8192x4x128, .f32⟩
  | .hbm, ⟨24, _⟩ => ⟨S1x4x128, .f32⟩
  | .hbm, ⟨25, _⟩ => ⟨S8192x4x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S8192x4x128, .f32⟩
  | .hbm, ⟨30, _⟩ => ⟨S_, .f32⟩
  | .hbm, ⟨31, _⟩ => ⟨S8192x4x128, .f32⟩
  | .hbm, ⟨32, _⟩ => ⟨S8192x4x128, .f32⟩
  | .hbm, ⟨33, _⟩ => ⟨S_, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S8192x4x128, .f32⟩
  | .hbm, ⟨38, _⟩ => ⟨S8192x512, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== UpFwd.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S1x1024 : Shape := ⟨2, ![1, 1024]⟩
abbrev S1x5632 : Shape := ⟨2, ![1, 5632]⟩
abbrev S8192x5632 : Shape := ⟨2, ![8192, 5632]⟩
abbrev S8192x2816 : Shape := ⟨2, ![8192, 2816]⟩
abbrev S128x1024 : Shape := ⟨2, ![128, 1024]⟩
abbrev S128x5632 : Shape := ⟨2, ![128, 5632]⟩
abbrev S128x2816 : Shape := ⟨2, ![128, 2816]⟩
abbrev S16x5632 : Shape := ⟨2, ![16, 5632]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S1x256 : Shape := ⟨2, ![1, 256]⟩
abbrev S16x256 : Shape := ⟨2, ![16, 256]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S1x1024, .f32⟩
  | .hbm, ⟨6, _⟩ => ⟨S1x5632, .f32⟩
  | .hbm, ⟨7, _⟩ => ⟨S8192x5632, .bf16⟩
  | .hbm, ⟨8, _⟩ => ⟨S8192x1024, .bf16⟩
  | .hbm, ⟨9, _⟩ => ⟨S8192x5632, .bf16⟩
  | .hbm, ⟨10, _⟩ => ⟨S8192x2816, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S128x5632, .bf16⟩
  | .local _ .vmem, ⟨7, _⟩ => ⟨S128x5632, .bf16⟩
  | .local _ .vmem, ⟨8, _⟩ => ⟨S128x1024, .bf16⟩
  | .local _ .vmem, ⟨9, _⟩ => ⟨S128x1024, .bf16⟩
  | .local _ .vmem, ⟨10, _⟩ => ⟨S128x5632, .bf16⟩
  | .local _ .vmem, ⟨11, _⟩ => ⟨S128x5632, .bf16⟩
  | .local _ .vmem, ⟨12, _⟩ => ⟨S128x2816, .bf16⟩
  | .local _ .vmem, ⟨13, _⟩ => ⟨S128x2816, .bf16⟩
  | .local _ .vmem, ⟨14, _⟩ => ⟨S128x5632, .bf16⟩
  | .local _ .vmem, ⟨15, _⟩ => ⟨S16x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpFwdRefIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x8192x5632 : Shape := ⟨3, ![1, 8192, 5632]⟩
abbrev S1x1x5632 : Shape := ⟨3, ![1, 1, 5632]⟩
abbrev S1x8194x5632 : Shape := ⟨3, ![1, 8194, 5632]⟩
abbrev S1x5632 : Shape := ⟨2, ![1, 5632]⟩
abbrev S8192x2816 : Shape := ⟨2, ![8192, 2816]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x5632, .f32⟩
  | .hbm, ⟨22, _⟩ => ⟨S8192x5632, .f32⟩
  | .hbm, ⟨23, _⟩ => ⟨S1x8192x5632, .f32⟩
  | .hbm, ⟨24, _⟩ => ⟨S_, .f32⟩
  | .hbm, ⟨25, _⟩ => ⟨S1x1x5632, .f32⟩
  | .hbm, ⟨26, _⟩ => ⟨S1x8194x5632, .f32⟩
  | .hbm, ⟨27, _⟩ => ⟨S1x8192x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S1x8192x5632, .f32⟩
  | .hbm, ⟨32, _⟩ => ⟨S1x8192x5632, .f32⟩
  | .hbm, ⟨33, _⟩ => ⟨S1x1x5632, .f32⟩
  | .hbm, ⟨34, _⟩ => ⟨S1x8192x5632, .f32⟩
  | .hbm, ⟨35, _⟩ => ⟨S1x8192x5632, .f32⟩
  | .hbm, ⟨36, _⟩ => ⟨S1x8192x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S1x8192x5632, .f32⟩
  | .hbm, ⟨41, _⟩ => ⟨S1x8192x5632, .f32⟩
  | .hbm, ⟨42, _⟩ => ⟨S1x8192x5632, .f32⟩
  | .hbm, ⟨43, _⟩ => ⟨S1x8192x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S1x8192x5632, .f32⟩
  | .hbm, ⟨48, _⟩ => ⟨S1x8192x5632, .f32⟩
  | .hbm, ⟨49, _⟩ => ⟨S1x8192x5632, .f32⟩
  | .hbm, ⟨50, _⟩ => ⟨S8192x5632, .f32⟩
  | .hbm, ⟨51, _⟩ => ⟨S8192x5632, .bf16⟩
  | .hbm, ⟨52, _⟩ => ⟨S8192x1024, .bf16⟩
  | .hbm, ⟨53, _⟩ => ⟨S8192x5632, .bf16⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== GateFwd.lean ====
abbrev S8192x2688 : Shape := ⟨2, ![8192, 2688]⟩
abbrev S4x128x128 : Shape := ⟨3, ![4, 128, 128]⟩
abbrev S4x128 : Shape := ⟨2, ![4, 128]⟩
abbrev S4x128x1 : Shape := ⟨3, ![4, 128, 1]⟩
abbrev S4x1x128 : Shape := ⟨3, ![4, 1, 128]⟩
abbrev S8192x512 : Shape := ⟨2, ![8192, 512]⟩
abbrev S1024x1024 : Shape := ⟨2, ![1024, 1024]⟩
abbrev S1024x512 : Shape := ⟨2, ![1024, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 9
  | .vmem => 8
  | .smem => 0
  | _ => 0

abbrev bufTy : (tb : Table) → Fin (tcTables nBuf tb) → BufTy
  | .hbm, ⟨0, _⟩ => ⟨S8192x2688, .f32⟩
  | .hbm, ⟨1, _⟩ => ⟨S4x128x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128x1, .f32⟩
  | .hbm, ⟨6, _⟩ => ⟨S4x1x128, .f32⟩
  | .hbm, ⟨7, _⟩ => ⟨S4x1x128, .f32⟩
  | .hbm, ⟨8, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S4x128x128, .f32⟩
  | .local _ .vmem, ⟨3, _⟩ => ⟨S4x128x1, .f32⟩
  | .local _ .vmem, ⟨4, _⟩ => ⟨S4x1x128, .f32⟩
  | .local _ .vmem, ⟨5, _⟩ => ⟨S4x1x128, .f32⟩
  | .local _ .vmem, ⟨6, _⟩ => ⟨S1024x512, .bf16⟩
  | .local _ .vmem, ⟨7, _⟩ => ⟨S1024x512, .bf16⟩
  | _, _ => ⟨S8192x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S8192x2688 : Shape := ⟨2, ![8192, 2688]⟩
abbrev S4x128x128 : Shape := ⟨3, ![4, 128, 128]⟩
abbrev S4x128 : Shape := ⟨2, ![4, 128]⟩
abbrev S8192x1024 : Shape := ⟨2, ![8192, 1024]⟩
abbrev S8192x512 : Shape := ⟨2, ![8192, 512]⟩
abbrev S1x8192x512 : Shape := ⟨3, ![1, 8192, 512]⟩
abbrev S_ : Shape := ⟨0, ![]⟩
abbrev S1x8192x4x128 : Shape := ⟨4, ![1, 8192, 4, 128]⟩
abbrev S1x8192x4 : Shape := ⟨3, ![1, 8192, 4]⟩
abbrev S1x8192x4x1 : Shape := ⟨4, ![1, 8192, 4, 1]⟩
abbrev S1x1x4x128 : Shape := ⟨4, ![1, 1, 4, 128]⟩
abbrev S1x64x128x4x128 : Shape := ⟨5, ![1, 64, 128, 4, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2688, .f32⟩
  | .hbm, ⟨1, _⟩ => ⟨S4x128x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S8192x1024, .f32⟩
  | .hbm, ⟨6, _⟩ => ⟨S8192x512, .f32⟩
  | .hbm, ⟨7, _⟩ => ⟨S1x8192x512, .f32⟩
  | .hbm, ⟨8, _⟩ => ⟨S8192x512, .f32⟩
  | .hbm, ⟨9, _⟩ => ⟨S1x8192x512, .f32⟩
  | .hbm, ⟨10, _⟩ => ⟨S_, .f32⟩
  | .hbm, ⟨11, _⟩ => ⟨S1x8192x512, .f32⟩
  | .hbm, ⟨12, _⟩ => ⟨S1x8192x512, .f32⟩
  | .hbm, ⟨13, _⟩ => ⟨S1x8192x512, .f32⟩
  | .hbm, ⟨14, _⟩ => ⟨S_, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S1x8192x4x128, .f32⟩
  | .hbm, ⟨20, _⟩ => ⟨S_, .f32⟩
  | .hbm, ⟨21, _⟩ => ⟨S1x8192x512, .f32⟩
  | .hbm, ⟨22, _⟩ => ⟨S1x8192x512, .f32⟩
  | .hbm, ⟨23, _⟩ => ⟨S1x8192x512, .f32⟩
  | .hbm, ⟨24, _⟩ => ⟨S_, .f32⟩
  | .hbm, ⟨25, _⟩ => ⟨S1x8192x512, .f32⟩
  | .hbm, ⟨26, _⟩ => ⟨S1x8192x512, .f32⟩
  | .hbm, ⟨27, _⟩ => ⟨S1x8192x512, .f32⟩
  | .hbm, ⟨28, _⟩ => ⟨S1x8192x512, .f32⟩
  | .hbm, ⟨29, _⟩ => ⟨S1x8192x4x128, .f32⟩
  | .hbm, ⟨30, _⟩ => ⟨S_, .f32⟩
  | .hbm, ⟨31, _⟩ => ⟨S1x8192x4, .f32⟩
  | .hbm, ⟨32, _⟩ => ⟨S1x8192x4x1, .f32⟩
  | .hbm, ⟨33, _⟩ => ⟨S_, .f32⟩
  | .hbm, ⟨34, _⟩ => ⟨S1x8192x4x1, .f32⟩
  | .hbm, ⟨35, _⟩ => ⟨S1x8192x4x1, .f32⟩
  | .hbm, ⟨36, _⟩ => ⟨S1x8192x4x128, .f32⟩
  | .hbm, ⟨37, _⟩ => ⟨S1x8192x4x128, .f32⟩
  | .hbm, ⟨38, _⟩ => ⟨S1x8192x4x128, .f32⟩
  | .hbm, ⟨39, _⟩ => ⟨S_, .f32⟩
  | .hbm, ⟨40, _⟩ => ⟨S1x8192x4, .f32⟩
  | .hbm, ⟨41, _⟩ => ⟨S1x8192x4x1, .f32⟩
  | .hbm, ⟨42, _⟩ => ⟨S_, .f32⟩
  | .hbm, ⟨43, _⟩ => ⟨S1x8192x4x1, .f32⟩
  | .hbm, ⟨44, _⟩ => ⟨S1x8192x4x1, .f32⟩
  | .hbm, ⟨45, _⟩ => ⟨S1x8192x4x128, .f32⟩
  | .hbm, ⟨46, _⟩ => ⟨S1x8192x4x128, .f32⟩
  | .hbm, ⟨47, _⟩ => ⟨S_, .f32⟩
  | .hbm, ⟨48, _⟩ => ⟨S1x8192x4x1, .f32⟩
  | .hbm, ⟨49, _⟩ => ⟨S1x8192x4x1, .f32⟩
  | .hbm, ⟨50, _⟩ => ⟨S1x8192x4x1, .f32⟩
  | .hbm, ⟨51, _⟩ => ⟨S1x8192x4x128, .f32⟩
  | .hbm, ⟨52, _⟩ => ⟨S1x8192x4x128, .f32⟩
  | .hbm, ⟨53, _⟩ => ⟨S1x1x4x128, .f32⟩
  | .hbm, ⟨54, _⟩ => ⟨S1x8192x4x128, .f32⟩
  | .hbm, ⟨55, _⟩ => ⟨S1x8192x4x128, .f32⟩
  | .hbm, ⟨56, _⟩ => ⟨S1x1x4x128, .f32⟩
  | .hbm, ⟨57, _⟩ => ⟨S1x8192x4x128, .f32⟩
  | .hbm, ⟨58, _⟩ => ⟨S1x8192x4x128, .f32⟩
  | .hbm, ⟨59, _⟩ => ⟨S1x64x128x4x128, .f32⟩
  | .hbm, ⟨60, _⟩ => ⟨S4x1x64x128x128, .f32⟩
  | .hbm, ⟨61, _⟩ => ⟨S1x64x128x4x128, .f32⟩
  | .hbm, ⟨62, _⟩ => ⟨S128x4, .f32⟩
  | .hbm, ⟨63, _⟩ => ⟨S1x1x128x4x1, .f32⟩
  | .hbm, ⟨64, _⟩ => ⟨S1x64x128x4x128, .f32⟩
  | .hbm, ⟨65, _⟩ => ⟨S1x64x128x4x128, .f32⟩
  | .hbm, ⟨66, _⟩ => ⟨S1x8192x4x128, .f32⟩
  | .hbm, ⟨67, _⟩ => ⟨S1x8192x4x128, .f32⟩
  | .hbm, ⟨68, _⟩ => ⟨S8192x512, .f32⟩
  | .hbm, ⟨69, _⟩ => ⟨S8192x512, .bf16⟩
  | _, _ => ⟨S8192x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== AdamIn.lean ====
abbrev S4x1024x648 : Shape := ⟨3, ![4, 1024, 648]⟩
abbrev S1x512x648 : Shape := ⟨3, ![1, 512, 648]⟩
abbrev S512x648 : Shape := ⟨2, ![512, 648]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x648, .f32⟩
  | .hbm, ⟨1, _⟩ => ⟨S4x1024x648, .f32⟩
  | .hbm, ⟨2, _⟩ => ⟨S4x1024x648, .f32⟩
  | .hbm, ⟨3, _⟩ => ⟨S4x1024x648, .f32⟩
  | .hbm, ⟨4, _⟩ => ⟨S4x1024x648, .f32⟩
  | .hbm, ⟨5, _⟩ => ⟨S4x1024x648, .f32⟩
  | .hbm, ⟨6, _⟩ => ⟨S4x1024x648, .f32⟩
  | .hbm, ⟨7, _⟩ => ⟨S4x1024x648, .f32⟩
  | .hbm, ⟨8, _⟩ => ⟨S4x1024x648, .f32⟩
  | .local _ .vmem, ⟨0, _⟩ => ⟨S1x512x648, .f32⟩
  | .local _ .vmem, ⟨1, _⟩ => ⟨S1x512x648, .f32⟩
  | .local _ .vmem, ⟨2, _⟩ => ⟨S1x512x648, .f32⟩
  | .local _ .vmem, ⟨3, _⟩ => ⟨S1x512x648, .f32⟩
  | .local _ .vmem, ⟨4, _⟩ => ⟨S1x512x648, .f32⟩
  | .local _ .vmem, ⟨5, _⟩ => ⟨S1x512x648, .f32⟩
  | .local _ .vmem, ⟨6, _⟩ => ⟨S1x512x648, .f32⟩
  | .local _ .vmem, ⟨7, _⟩ => ⟨S1x512x648, .f32⟩
  | .local _ .vmem, ⟨8, _⟩ => ⟨S1x512x648, .f32⟩
  | .local _ .vmem, ⟨9, _⟩ => ⟨S1x512x648, .f32⟩
  | .local _ .vmem, ⟨10, _⟩ => ⟨S1x512x648, .f32⟩
  | .local _ .vmem, ⟨11, _⟩ => ⟨S1x512x648, .f32⟩
  | .local _ .vmem, ⟨12, _⟩ => ⟨S1x512x648, .f32⟩
  | .local _ .vmem, ⟨13, _⟩ => ⟨S1x512x648, .f32⟩
  | .local _ .vmem, ⟨14, _⟩ => ⟨S1x512x648, .f32⟩
  | .local _ .vmem, ⟨15, _⟩ => ⟨S1x512x648, .f32⟩
  | .local _ .vmem, ⟨16, _⟩ => ⟨S1x512x648, .f32⟩
  | .local _ .vmem, ⟨17, _⟩ => ⟨S1x512x648, .f32⟩
  | _, _ => ⟨S4x1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x648 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
variable {F : FTy → Type} [FloatOps F] [Named F]
def κ : String → Option EReal := fun
  | "m_scale" => some (((5463681 / 8388608)⁻¹ : ℝ) : EReal)
  | "v_scale" => some (((2672307 / 268435456)⁻¹ : ℝ) : EReal)
  | _ => none
-- ==== AdamInRefIdeal.lean ====
abbrev S4x1024x648 : Shape := ⟨3, ![4, 1024, 648]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x648, .f32⟩
  | .hbm, ⟨1, _⟩ => ⟨S4x1024x648, .f32⟩
  | .hbm, ⟨2, _⟩ => ⟨S4x1024x648, .f32⟩
  | .hbm, ⟨3, _⟩ => ⟨S4x1024x648, .f32⟩
  | .hbm, ⟨4, _⟩ => ⟨S4x1024x648, .f32⟩
  | .hbm, ⟨5, _⟩ => ⟨S4x1024x648, .f32⟩
  | .hbm, ⟨6, _⟩ => ⟨S_, .f32⟩
  | .hbm, ⟨7, _⟩ => ⟨S4x1024x648, .f32⟩
  | .hbm, ⟨8, _⟩ => ⟨S4x1024x648, .f32⟩
  | .hbm, ⟨9, _⟩ => ⟨S_, .f32⟩
  | .hbm, ⟨10, _⟩ => ⟨S4x1024x648, .f32⟩
  | .hbm, ⟨11, _⟩ => ⟨S4x1024x648, .f32⟩
  | .hbm, ⟨12, _⟩ => ⟨S4x1024x648, .f32⟩
  | .hbm, ⟨13, _⟩ => ⟨S_, .f32⟩
  | .hbm, ⟨14, _⟩ => ⟨S4x1024x648, .f32⟩
  | .hbm, ⟨15, _⟩ => ⟨S4x1024x648, .f32⟩
  | .hbm, ⟨16, _⟩ => ⟨S4x1024x648, .f32⟩
  | .hbm, ⟨17, _⟩ => ⟨S_, .f32⟩
  | .hbm, ⟨18, _⟩ => ⟨S4x1024x648, .f32⟩
  | .hbm, ⟨19, _⟩ => ⟨S4x1024x648, .f32⟩
  | .hbm, ⟨20, _⟩ => ⟨S4x1024x648, .f32⟩
  | .hbm, ⟨21, _⟩ => ⟨S_, .f32⟩
  | .hbm, ⟨22, _⟩ => ⟨S4x1024x648, .f32⟩
  | .hbm, ⟨23, _⟩ => ⟨S4x1024x648, .f32⟩
  | .hbm, ⟨24, _⟩ => ⟨S_, .f32⟩
  | .hbm, ⟨25, _⟩ => ⟨S4x1024x648, .f32⟩
  | .hbm, ⟨26, _⟩ => ⟨S4x1024x648, .f32⟩
  | .hbm, ⟨27, _⟩ => ⟨S4x1024x648, .f32⟩
  | .hbm, ⟨28, _⟩ => ⟨S_, .f32⟩
  | .hbm, ⟨29, _⟩ => ⟨S4x1024x648, .f32⟩
  | .hbm, ⟨30, _⟩ => ⟨S4x1024x648, .f32⟩
  | .hbm, ⟨31, _⟩ => ⟨S4x1024x648, .f32⟩
  | .hbm, ⟨32, _⟩ => ⟨S_, .f32⟩
  | .hbm, ⟨33, _⟩ => ⟨S4x1024x648, .f32⟩
  | .hbm, ⟨34, _⟩ => ⟨S4x1024x648, .f32⟩
  | .hbm, ⟨35, _⟩ => ⟨S4x1024x648, .f32⟩
  | .hbm, ⟨36, _⟩ => ⟨S_, .f32⟩
  | .hbm, ⟨37, _⟩ => ⟨S4x1024x648, .f32⟩
  | .hbm, ⟨38, _⟩ => ⟨S4x1024x648, .f32⟩
  | _, _ => ⟨S4x1024x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
variable {F : FTy → Type} [FloatOps F] [Named F]
def κ : String → Option EReal := fun
  | "m_scale" => some (((5463681 / 8388608)⁻¹ : ℝ) : EReal)
  | "v_scale" => some (((2672307 / 268435456)⁻¹ : ℝ) : EReal)
  | _ => none
-- ==== AdamOutRefIdeal.lean ====
abbrev S4x256x1024 : Shape := ⟨3, ![4, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S_, .f32⟩
  | .hbm, ⟨7, _⟩ => ⟨S4x256x1024, .f32⟩
  | .hbm, ⟨8, _⟩ => ⟨S4x256x1024, .f32⟩
  | .hbm, ⟨9, _⟩ => ⟨S_, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S_, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S_, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x256x1024, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S_, .f32⟩
  | .hbm, ⟨37, _⟩ => ⟨S4x256x1024, .f32⟩
  | .hbm, ⟨38, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
variable {F : FTy → Type} [FloatOps F] [Named F]
def κ : String → Option EReal := fun
  | "m_scale" => some (((5463681 / 8388608)⁻¹ : ℝ) : EReal)
  | "v_scale" => some (((2672307 / 268435456)⁻¹ : ℝ) : EReal)
  | _ => none
-- ==== AdamUpRefIdeal.lean ====
abbrev S4x1024x1408 : Shape := ⟨3, ![4, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S_, .f32⟩
  | .hbm, ⟨7, _⟩ => ⟨S4x1024x1408, .f32⟩
  | .hbm, ⟨8, _⟩ => ⟨S4x1024x1408, .f32⟩
  | .hbm, ⟨9, _⟩ => ⟨S_, .f32⟩
  | .hbm, ⟨10, _⟩ => ⟨S4x1024x1408, .f32⟩
  | .hbm, ⟨11, _⟩ => ⟨S4x1024x1408, .f32⟩
  | .hbm, ⟨12, _⟩ => ⟨S4x1024x1408, .f32⟩
  | .hbm, ⟨13, _⟩ => ⟨S_, .f32⟩
  | .hbm, ⟨14, _⟩ => ⟨S4x1024x1408, .f32⟩
  | .hbm, ⟨15, _⟩ => ⟨S4x1024x1408, .f32⟩
  | .hbm, ⟨16, _⟩ => ⟨S4x1024x1408, .f32⟩
  | .hbm, ⟨17, _⟩ => ⟨S_, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S_, .f32⟩
  | .hbm, ⟨22, _⟩ => ⟨S4x1024x1408, .f32⟩
  | .hbm, ⟨23, _⟩ => ⟨S4x1024x1408, .f32⟩
  | .hbm, ⟨24, _⟩ => ⟨S_, .f32⟩
  | .hbm, ⟨25, _⟩ => ⟨S4x1024x1408, .f32⟩
  | .hbm, ⟨26, _⟩ => ⟨S4x1024x1408, .f32⟩
  | .hbm, ⟨27, _⟩ => ⟨S4x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S4x1024x1408, .f32⟩
  | .hbm, ⟨32, _⟩ => ⟨S_, .f32⟩
  | .hbm, ⟨33, _⟩ => ⟨S4x1024x1408, .f32⟩
  | .hbm, ⟨34, _⟩ => ⟨S4x1024x1408, .f32⟩
  | .hbm, ⟨35, _⟩ => ⟨S4x1024x1408, .f32⟩
  | .hbm, ⟨36, _⟩ => ⟨S_, .f32⟩
  | .hbm, ⟨37, _⟩ => ⟨S4x1024x1408, .f32⟩
  | .hbm, ⟨38, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S4x704x1024 : Shape := ⟨3, ![4, 704, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownIdeal.lean ====
variable {F : FTy → Type} [FloatOps F] [Named F]
def κ : String → Option EReal := fun
  | "m_scale" => some (((5463681 / 8388608)⁻¹ : ℝ) : EReal)
  | "v_scale" => some (((2672307 / 268435456)⁻¹ : ℝ) : EReal)
  | _ => none
-- ==== AdamDownRefIdeal.lean ====
abbrev S4x704x1024 : Shape := ⟨3, ![4, 704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S_, .f32⟩
  | .hbm, ⟨7, _⟩ => ⟨S4x704x1024, .f32⟩
  | .hbm, ⟨8, _⟩ => ⟨S4x704x1024, .f32⟩
  | .hbm, ⟨9, _⟩ => ⟨S_, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .hbm, ⟨17, _⟩ => ⟨S_, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .hbm, ⟨21, _⟩ => ⟨S_, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S4x704x1024, .f32⟩
  | .hbm, ⟨28, _⟩ => ⟨S_, .f32⟩
  | .hbm, ⟨29, _⟩ => ⟨S4x704x1024, .f32⟩
  | .hbm, ⟨30, _⟩ => ⟨S4x704x1024, .f32⟩
  | .hbm, ⟨31, _⟩ => ⟨S4x704x1024, .f32⟩
  | .hbm, ⟨32, _⟩ => ⟨S_, .f32⟩
  | .hbm, ⟨33, _⟩ => ⟨S4x704x1024, .f32⟩
  | .hbm, ⟨34, _⟩ => ⟨S4x704x1024, .f32⟩
  | .hbm, ⟨35, _⟩ => ⟨S4x704x1024, .f32⟩
  | .hbm, ⟨36, _⟩ => ⟨S_, .f32⟩
  | .hbm, ⟨37, _⟩ => ⟨S4x704x1024, .f32⟩
  | .hbm, ⟨38, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S1x2576x128 : Shape := ⟨3, ![1, 2576, 128]⟩
abbrev S2576x128 : Shape := ⟨2, ![2576, 128]⟩

abbrev nBuf : Space → Nat
  | .hbm => 9
  | .vmem => 9
  | .smem => 0
  | _ => 0

abbrev bufTy : (tb : Table) → Fin (tcTables nBuf tb) → BufTy
  | .hbm, ⟨0, _⟩ => ⟨S1x2576x128, .f32⟩
  | .hbm, ⟨1, _⟩ => ⟨S1x2576x128, .f32⟩
  | .hbm, ⟨2, _⟩ => ⟨S1x2576x128, .f32⟩
  | .hbm, ⟨3, _⟩ => ⟨S1x2576x128, .f32⟩
  | .hbm, ⟨4, _⟩ => ⟨S1x2576x128, .f32⟩
  | .hbm, ⟨5, _⟩ => ⟨S1x2576x128, .f32⟩
  | .hbm, ⟨6, _⟩ => ⟨S1x2576x128, .f32⟩
  | .hbm, ⟨7, _⟩ => ⟨S1x2576x128, .f32⟩
  | .hbm, ⟨8, _⟩ => ⟨S1x2576x128, .f32⟩
  | .local _ .vmem, ⟨0, _⟩ => ⟨S1x2576x128, .f32⟩
  | .local _ .vmem, ⟨1, _⟩ => ⟨S1x2576x128, .f32⟩
  | .local _ .vmem, ⟨2, _⟩ => ⟨S1x2576x128, .f32⟩
  | .local _ .vmem, ⟨3, _⟩ => ⟨S1x2576x128, .f32⟩
  | .local _ .vmem, ⟨4, _⟩ => ⟨S1x2576x128, .f32⟩
  | .local _ .vmem, ⟨5, _⟩ => ⟨S1x2576x128, .f32⟩
  | .local _ .vmem, ⟨6, _⟩ => ⟨S1x2576x128, .f32⟩
  | .local _ .vmem, ⟨7, _⟩ => ⟨S1x2576x128, .f32⟩
  | .local _ .vmem, ⟨8, _⟩ => ⟨S1x2576x128, .f32⟩
  | _, _ => ⟨S1x2576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2576x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2576x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2576x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2576x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2576x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2576x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x2576x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamSmallIdeal.lean ====
variable {F : FTy → Type} [FloatOps F] [Named F]
def κ : String → Option EReal := fun
  | "m_scale" => some (((5463681 / 8388608)⁻¹ : ℝ) : EReal)
  | "v_scale" => some (((2672307 / 268435456)⁻¹ : ℝ) : EReal)
  | _ => none
-- ==== AdamSmallRefIdeal.lean ====
abbrev S1x2576x128 : Shape := ⟨3, ![1, 2576, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2576x128, .f32⟩
  | .hbm, ⟨1, _⟩ => ⟨S1x2576x128, .f32⟩
  | .hbm, ⟨2, _⟩ => ⟨S1x2576x128, .f32⟩
  | .hbm, ⟨3, _⟩ => ⟨S1x2576x128, .f32⟩
  | .hbm, ⟨4, _⟩ => ⟨S1x2576x128, .f32⟩
  | .hbm, ⟨5, _⟩ => ⟨S1x2576x128, .f32⟩
  | .hbm, ⟨6, _⟩ => ⟨S_, .f32⟩
  | .hbm, ⟨7, _⟩ => ⟨S1x2576x128, .f32⟩
  | .hbm, ⟨8, _⟩ => ⟨S1x2576x128, .f32⟩
  | .hbm, ⟨9, _⟩ => ⟨S_, .f32⟩
  | .hbm, ⟨10, _⟩ => ⟨S1x2576x128, .f32⟩
  | .hbm, ⟨11, _⟩ => ⟨S1x2576x128, .f32⟩
  | .hbm, ⟨12, _⟩ => ⟨S1x2576x128, .f32⟩
  | .hbm, ⟨13, _⟩ => ⟨S_, .f32⟩
  | .hbm, ⟨14, _⟩ => ⟨S1x2576x128, .f32⟩
  | .hbm, ⟨15, _⟩ => ⟨S1x2576x128, .f32⟩
  | .hbm, ⟨16, _⟩ => ⟨S1x2576x128, .f32⟩
  | .hbm, ⟨17, _⟩ => ⟨S_, .f32⟩
  | .hbm, ⟨18, _⟩ => ⟨S1x2576x128, .f32⟩
  | .hbm, ⟨19, _⟩ => ⟨S1x2576x128, .f32⟩
  | .hbm, ⟨20, _⟩ => ⟨S1x2576x128, .f32⟩
  | .hbm, ⟨21, _⟩ => ⟨S_, .f32⟩
  | .hbm, ⟨22, _⟩ => ⟨S1x2576x128, .f32⟩
  | .hbm, ⟨23, _⟩ => ⟨S1x2576x128, .f32⟩
  | .hbm, ⟨24, _⟩ => ⟨S_, .f32⟩
  | .hbm, ⟨25, _⟩ => ⟨S1x2576x128, .f32⟩
  | .hbm, ⟨26, _⟩ => ⟨S1x2576x128, .f32⟩
  | .hbm, ⟨27, _⟩ => ⟨S1x2576x128, .f32⟩
  | .hbm, ⟨28, _⟩ => ⟨S_, .f32⟩
  | .hbm, ⟨29, _⟩ => ⟨S1x2576x128, .f32⟩
  | .hbm, ⟨30, _⟩ => ⟨S1x2576x128, .f32⟩
  | .hbm, ⟨31, _⟩ => ⟨S1x2576x128, .f32⟩
  | .hbm, ⟨32, _⟩ => ⟨S_, .f32⟩
  | .hbm, ⟨33, _⟩ => ⟨S1x2576x128, .f32⟩
  | .hbm, ⟨34, _⟩ => ⟨S1x2576x128, .f32⟩
  | .hbm, ⟨35, _⟩ => ⟨S1x2576x128, .f32⟩
  | .hbm, ⟨36, _⟩ => ⟨S_, .f32⟩
  | .hbm, ⟨37, _⟩ => ⟨S1x2576x128, .f32⟩
  | .hbm, ⟨38, _⟩ => ⟨S1x2576x128, .f32⟩
  | _, _ => ⟨S1x2576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== CastIn.lean ====
abbrev S4x1024x648 : Shape := ⟨3, ![4, 1024, 648]⟩
abbrev S1x512x648 : Shape := ⟨3, ![1, 512, 648]⟩
abbrev S512x648 : Shape := ⟨2, ![512, 648]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x648, .f32⟩
  | .hbm, ⟨1, _⟩ => ⟨S4x1024x648, .bf16⟩
  | .local _ .vmem, ⟨0, _⟩ => ⟨S1x512x648, .f32⟩
  | .local _ .vmem, ⟨1, _⟩ => ⟨S1x512x648, .f32⟩
  | .local _ .vmem, ⟨2, _⟩ => ⟨S1x512x648, .bf16⟩
  | .local _ .vmem, ⟨3, _⟩ => ⟨S1x512x648, .bf16⟩
  | _, _ => ⟨S4x1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x648 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastInRefIdeal.lean ====
abbrev S4x1024x648 : Shape := ⟨3, ![4, 1024, 648]⟩

abbrev nBuf : Space → Nat
  | .hbm => 2
  | .vmem => 0
  | .smem => 0
  | _ => 0

abbrev bufTy : (tb : Table) → Fin (tcTables nBuf tb) → BufTy
  | .hbm, ⟨0, _⟩ => ⟨S4x1024x648, .f32⟩
  | .hbm, ⟨1, _⟩ => ⟨S4x1024x648, .bf16⟩
  | _, _ => ⟨S4x1024x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastOut.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastOutRefIdeal.lean ====
abbrev S4x256x1024 : Shape := ⟨3, ![4, 256, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastUp.lean ====
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .bf16⟩
  | .local _ .vmem, ⟨3, _⟩ => ⟨S1x256x1408, .bf16⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastUpRefIdeal.lean ====
abbrev S4x1024x1408 : Shape := ⟨3, ![4, 1024, 1408]⟩

abbrev nBuf : Space → Nat
  | .hbm => 2
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .bf16⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastDown.lean ====
abbrev S4x704x1024 : Shape := ⟨3, ![4, 704, 1024]⟩
abbrev S1x352x1024 : Shape := ⟨3, ![1, 352, 1024]⟩
abbrev S352x1024 : Shape := ⟨2, ![352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x352x1024, .bf16⟩
  | .local _ .vmem, ⟨3, _⟩ => ⟨S1x352x1024, .bf16⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastDownRefIdeal.lean ====
abbrev S4x704x1024 : Shape := ⟨3, ![4, 704, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .bf16⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Gating.Chunk.lean ====
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]

/-! ## What the body computes for one chunk of 128 rows and one head, as vectors

The body repeats the same arithmetic for four chunks and four heads. Here it is once, as functions of
the chunk's two halves of the projection `u` and `v`, the incoming gradient `d`, and the head's weights. -/

/-- A constant spread over a chunk. -/
def full (b : BitVec 32) : FVec F S128x128 .f32 := broadcast S128x128 (Scalar.ofBits .f32 b)

/-- A constant spread over one number per row. -/
def fullCol (b : BitVec 32) : FVec F S128x1 .f32 := broadcast S128x1 (Scalar.ofBits .f32 b)

/-- One number per row, spread along the row. -/
def spreadCol (x : FVec F S128x1 .f32) : FVec F S128x128 .f32 := broadcastTo S128x128 x broadcasts_S128x1_S128x128

/-- One number per lane, spread over the rows. -/
def spreadRow (x : FVec F S1x128 .f32) : FVec F S128x128 .f32 := broadcastTo S128x128 x broadcasts_S1x128_S128x128

/-- The sum of each row. -/
def rowSum (x : FVec F S128x128 .f32) : FVec F S128x1 .f32 :=
  shapeCast S128x1 (multiReduction .add [1] S128 x 0x00000000#32 reduces_S128x128_S128 (.inl rfl) rfl) shapeCasts_S128_S128x1

/-- The sum of each row of a column: the column itself, added to zero. -/
def colSum1 (x : FVec F S128x1 .f32) : FVec F S128x1 .f32 :=
  shapeCast S128x1 (multiReduction .add [1] S128 x 0x00000000#32 reduces_S128x1_S128 (.inl rfl) rfl) shapeCasts_S128_S128x1

/-- The sum of each lane over the rows. -/
def laneSum (x : FVec F S128x128 .f32) : FVec F S1x128 .f32 :=
  shapeCast S1x128 (multiReduction .add [0] S128 x 0x00000000#32 reduces_S128x128_S128_2 (.inl rfl) rfl) shapeCasts_S128_S1x128

/-- A 128 by 128 product with the first operand's axis `1` against the second's axis `0`. -/
def prodNN (a b : FVec F S128x128 .f32) : FVec F S128x128 .f32 :=
  matmul dot_S128x128_S128x128_S128x128_1_0_0_1_n_n none (truncf .bf16 a bitsLt_bf16_f32) (truncf .bf16 b bitsLt_bf16_f32)
    (constant S128x128 .f32 0x00000000#32)

/-- The product with both operands' axes `0` contracted. -/
def prodTN (a b : FVec F S128x128 .f32) : FVec F S128x128 .f32 :=
  matmul dot_S128x128_S128x128_S128x128_0_0_1_1_n_n none (truncf .bf16 a bitsLt_bf16_f32) (truncf .bf16 b bitsLt_bf16_f32)
    (constant S128x128 .f32 0x00000000#32)

/-- The product with both operands' axes `1` contracted. -/
def prodNT (a b : FVec F S128x128 .f32) : FVec F S128x128 .f32 :=
  matmul dot_S128x128_S128x128_S128x128_1_1_0_0_n_n none (truncf .bf16 a bitsLt_bf16_f32) (truncf .bf16 b bitsLt_bf16_f32)
    (constant S128x128 .f32 0x00000000#32)

/-- Half of `x`. -/
def half (x : FVec F S128x128 .f32) : FVec F S128x128 .f32 := mulf (full 0x3F000000#32) x

/-- The argument of the error function in gelu. -/
def erfArg (x : FVec F S128x128 .f32) : FVec F S128x128 .f32 := mulf x (full 0x3F3504F3#32)

/-- `1 + erf`, gelu's second factor. -/
def onePlus (x : FVec F S128x128 .f32) : FVec F S128x128 .f32 := addf (full 0x3F800000#32) (erf (erfArg x))

/-- The exponential in the derivative of the error function. -/
def bell (x : FVec F S128x128 .f32) : FVec F S128x128 .f32 :=
  exp (subf (full 0x00000000#32) (mulf (erfArg x) (erfArg x)))

/-- gelu. -/
def gel (x : FVec F S128x128 .f32) : FVec F S128x128 .f32 := mulf (half x) (onePlus x)

/-- gelu's gradient: the incoming gradient `g` taken back to gelu's argument `x`. -/
def gelBack (x g : FVec F S128x128 .f32) : FVec F S128x128 .f32 :=
  addf (mulf (mulf (mulf (full 0x3F906EBB#32) (mulf (half x) g)) (bell x)) (full 0x3F3504F3#32))
    (mulf (full 0x3F000000#32) (mulf g (onePlus x)))

/-- The mean of each row. -/
def mean (x : FVec F S128x128 .f32) : FVec F S128x1 .f32 := divf (rowSum x) (fullCol 0x43000000#32)

/-- Each entry less its row's mean. -/
def dev (v : FVec F S128x128 .f32) : FVec F S128x128 .f32 := subf v (spreadCol (mean v))

/-- Each row's variance plus the small constant. -/
def varEps (v : FVec F S128x128 .f32) : FVec F S128x1 .f32 := addf (mean (mulf (dev v) (dev v))) (fullCol 0x358637BD#32)

/-- The normalised rows. -/
def xhat (v : FVec F S128x128 .f32) : FVec F S128x128 .f32 := mulf (dev v) (spreadCol (rsqrt (varEps v)))

/-- The layer norm. -/
def lnOut (v : FVec F S128x128 .f32) (g b : FVec F S1x128 .f32) : FVec F S128x128 .f32 :=
  addf (mulf (xhat v) (spreadRow g)) (spreadRow b)

/-- The layer norm's gradient: the gradient `y` of the normalised rows taken back to the rows `v`. -/
def lnA (v y : FVec F S128x128 .f32) : FVec F S128x128 .f32 := mulf y (spreadCol (rsqrt (varEps v)))

/-- The part of the layer norm's gradient that comes through the variance. -/
def lnE (v y : FVec F S128x128 .f32) : FVec F S128x128 .f32 :=
  mulf (spreadCol (colSum1 (divf (mulf (rowSum (mulf (dev v) y))
      (mulf (fullCol 0xBF000000#32) (divf (rsqrt (varEps v)) (varEps v)))) (fullCol 0x43000000#32))))
    (mulf (full 0x40000000#32) (dev v))

/-- The whole gradient of the layer norm: both parts and what comes through the mean. -/
def lnBack (v y : FVec F S128x128 .f32) : FVec F S128x128 .f32 :=
  addf (addf (lnA v y) (lnE v y)) (spreadCol (colSum1 (divf
    (addf (rowSum (subf (full 0x00000000#32) (lnA v y))) (rowSum (subf (full 0x00000000#32) (lnE v y))))
    (fullCol 0x43000000#32))))

/-- The mixed rows of the gate. -/
def mixed (w : FVec F S128x128 .f32) (bs : FVec F S128x1 .f32) (g b : FVec F S1x128 .f32) (v : FVec F S128x128 .f32) :
    FVec F S128x128 .f32 := addf (prodNN w (lnOut (gel v) g b)) (spreadCol bs)

/-- The gradient of the mixed rows. -/
def dMix (u d : FVec F S128x128 .f32) : FVec F S128x128 .f32 := mulf (gel u) d

/-- The gradient of the layer norm's rows. -/
def dLn (w u d : FVec F S128x128 .f32) : FVec F S128x128 .f32 := prodTN w (dMix u d)

/-- The gradient of the first half of the projection. -/
def dU (w : FVec F S128x128 .f32) (bs : FVec F S128x1 .f32) (g b : FVec F S1x128 .f32) (u v d : FVec F S128x128 .f32) :
    FVec F S128x128 .f32 := gelBack u (mulf d (mixed w bs g b v))

/-- The gradient of the second half of the projection. -/
def dV (w : FVec F S128x128 .f32) (g : FVec F S1x128 .f32) (u v d : FVec F S128x128 .f32) :
    FVec F S128x128 .f32 := gelBack v (lnBack (gel v) (mulf (dLn w u d) (spreadRow g)))

/-- One chunk's part of the mixing weight's gradient. -/
def dW (g b : FVec F S1x128 .f32) (u v d : FVec F S128x128 .f32) : FVec F S128x128 .f32 :=
  prodNT (dMix u d) (lnOut (gel v) g b)

/-- One chunk's part of the mixing bias's gradient. -/
def dB (u d : FVec F S128x128 .f32) : FVec F S128x1 .f32 := rowSum (dMix u d)

/-- One chunk's part of the layer norm scale's gradient. -/
def dG (w u v d : FVec F S128x128 .f32) : FVec F S1x128 .f32 := laneSum (mulf (xhat (gel v)) (dLn w u d))

/-- One chunk's part of the layer norm shift's gradient. -/
def dS (w u d : FVec F S128x128 .f32) : FVec F S1x128 .f32 := laneSum (dLn w u d)

/-! ## The chunks and heads of a block -/

theorem inbU : ∀ c h : Fin 4, ∀ a : Fin 2, (![128 * c.val, 128 * h.val] : Fin 2 → Nat) a + S128x128.size a ≤ S512x1024.size a := by
  decide

theorem inbV : ∀ c h : Fin 4, ∀ a : Fin 2, (![128 * c.val, 512 + 128 * h.val] : Fin 2 → Nat) a + S128x128.size a ≤ S512x1024.size a := by
  decide

theorem inbD : ∀ c h : Fin 4, ∀ a : Fin 2, (![128 * c.val, 128 * h.val] : Fin 2 → Nat) a + S128x128.size a ≤ S512x512.size a := by
  decide

theorem inbW : ∀ h : Fin 4, ∀ a : Fin 3, (![h.val, 0, 0] : Fin 3 → Nat) a + S1x128x128.size a ≤ S4x128x128.size a := by
  decide

theorem inbB : ∀ h : Fin 4, ∀ a : Fin 3, (![h.val, 0, 0] : Fin 3 → Nat) a + S1x128x1.size a ≤ S4x128x1.size a := by
  decide

theorem inbG : ∀ h : Fin 4, ∀ a : Fin 3, (![h.val, 0, 0] : Fin 3 → Nat) a + S1x1x128.size a ≤ S4x1x128.size a := by
  decide

/-- Chunk `c`, head `h` of the first half of a block of the projection. -/
def cutU (x : FVec F S512x1024 .f32) (c h : Fin 4) : FVec F S128x128 .f32 :=
  View.ld (Val := Elt F) (e' := .f32) x (Rect.unit (s := S512x1024) ![128 * c.val, 128 * h.val] S128x128.size (inbU c h))

/-- Chunk `c`, head `h` of the second half of a block of the projection. -/
def cutV (x : FVec F S512x1024 .f32) (c h : Fin 4) : FVec F S128x128 .f32 :=
  View.ld (Val := Elt F) (e' := .f32) x (Rect.unit (s := S512x1024) ![128 * c.val, 512 + 128 * h.val] S128x128.size (inbV c h))

/-- Chunk `c`, head `h` of a block of the incoming gradient. -/
def cutD (x : FVec F S512x512 .f32) (c h : Fin 4) : FVec F S128x128 .f32 :=
  View.ld (Val := Elt F) (e' := .f32) x (Rect.unit (s := S512x512) ![128 * c.val, 128 * h.val] S128x128.size (inbD c h))

/-- Head `h` of the mixing weight. -/
def headW (x : FVec F S4x128x128 .f32) (h : Fin 4) : FVec F S128x128 .f32 :=
  shapeCast S128x128 (View.ld (Val := Elt F) (e' := .f32) x (Rect.unit (s := S4x128x128) ![h.val, 0, 0] S1x128x128.size (inbW h))) shapeCasts_S1x128x128_S128x128

/-- Head `h` of the mixing bias. -/
def headB (x : FVec F S4x128x1 .f32) (h : Fin 4) : FVec F S128x1 .f32 :=
  shapeCast S128x1 (View.ld (Val := Elt F) (e' := .f32) x (Rect.unit (s := S4x128x1) ![h.val, 0, 0] S1x128x1.size (inbB h))) shapeCasts_S1x128x1_S128x1

/-- Head `h` of the layer norm's scale or shift. -/
def headG (x : FVec F S4x1x128 .f32) (h : Fin 4) : FVec F S1x128 .f32 :=
  shapeCast S1x128 (View.ld (Val := Elt F) (e' := .f32) x (Rect.unit (s := S4x1x128) ![h.val, 0, 0] S1x1x128.size (inbG h))) shapeCasts_S1x1x128_S1x128

end Cert.KernelIdeal.Value
-- ==== Proof.Gating.Block.lean ====
module
public import proofs.«01_k».proof.Proof.Gating.Chunk
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable {F : FTy → Type} [FloatOps F]
variable (m : (ℓ : Loc nD τ sig) → Buf (Elt F) ℓ)

/-! ## What one grid point leaves in each output block, as a list of stores of vector functions

The accumulated gradients store one head at a time: four stores. The projection's gradient stores one chunk
and head and half at a time: 32 stores. -/

/-- The four chunks' parts of one accumulated result, in the body's order. -/
def four {S : Shape} (f : Fin 4 → FVec F S .f32) : FVec F S .f32 := addf (addf (addf (f 3) (f 2)) (f 1)) (f 0)

/-- The mixing weight's gradient at head `h` after a grid point: what was there and the four chunks' parts. -/
def newW (x0 : FVec F S512x1024 .f32) (x1 : FVec F S512x512 .f32) (x4 x5 : FVec F S4x1x128 .f32) (a : FVec F S4x128x128 .f32) (h : Fin 4) :
    FVec F S1x128x128 .f32 :=
  shapeCast S1x128x128 (addf (headW a h) (four fun c => dW (headG x4 h) (headG x5 h) (cutU x0 c h) (cutV x0 c h) (cutD x1 c h))) shapeCasts_S128x128_S1x128x128

/-- The mixing bias's gradient likewise. -/
def newB (x0 : FVec F S512x1024 .f32) (x1 : FVec F S512x512 .f32) (a : FVec F S4x128x1 .f32) (h : Fin 4) : FVec F S1x128x1 .f32 :=
  shapeCast S1x128x1 (addf (headB a h) (four fun c => dB (cutU x0 c h) (cutD x1 c h))) shapeCasts_S128x1_S1x128x1

/-- The scale's gradient likewise. -/
def newG (x0 : FVec F S512x1024 .f32) (x1 : FVec F S512x512 .f32) (x2 : FVec F S4x128x128 .f32) (a : FVec F S4x1x128 .f32) (h : Fin 4) :
    FVec F S1x1x128 .f32 :=
  shapeCast S1x1x128 (addf (headG a h) (four fun c => dG (headW x2 h) (cutU x0 c h) (cutV x0 c h) (cutD x1 c h))) shapeCasts_S1x128_S1x1x128

/-- The shift's gradient likewise. -/
def newS (x0 : FVec F S512x1024 .f32) (x1 : FVec F S512x512 .f32) (x2 : FVec F S4x128x128 .f32) (a : FVec F S4x1x128 .f32) (h : Fin 4) :
    FVec F S1x1x128 .f32 :=
  shapeCast S1x1x128 (addf (headG a h) (four fun c => dS (headW x2 h) (cutU x0 c h) (cutD x1 c h))) shapeCasts_S1x128_S1x1x128

/-- The store of head `h` of the mixing weight's gradient. -/
def pieceW (w : Fin 4 → FVec F S1x128x128 .f32) (h : Fin 4) : View.Piece (Elt F) S4x128x128 .f32 :=
  ⟨Rect.unit (s := S4x128x128) ![h.val, 0, 0] S1x128x128.size (inbW h), w h⟩

/-- The store of head `h` of the mixing bias's gradient. -/
def pieceB (w : Fin 4 → FVec F S1x128x1 .f32) (h : Fin 4) : View.Piece (Elt F) S4x128x1 .f32 :=
  ⟨Rect.unit (s := S4x128x1) ![h.val, 0, 0] S1x128x1.size (inbB h), w h⟩

/-- The store of head `h` of the scale's or shift's gradient. -/
def pieceG (w : Fin 4 → FVec F S1x1x128 .f32) (h : Fin 4) : View.Piece (Elt F) S4x1x128 .f32 :=
  ⟨Rect.unit (s := S4x1x128) ![h.val, 0, 0] S1x1x128.size (inbG h), w h⟩

/-- The store of chunk `c`, head `h` of the first half's gradient. -/
def pieceU (w : Fin 4 → Fin 4 → FVec F S128x128 .bf16) (c h : Fin 4) : View.Piece (Elt F) S512x1024 .bf16 :=
  ⟨Rect.unit (s := S512x1024) ![128 * c.val, 128 * h.val] S128x128.size (inbU c h), w c h⟩

/-- The store of chunk `c`, head `h` of the second half's gradient. -/
def pieceV (w : Fin 4 → Fin 4 → FVec F S128x128 .bf16) (c h : Fin 4) : View.Piece (Elt F) S512x1024 .bf16 :=
  ⟨Rect.unit (s := S512x1024) ![128 * c.val, 512 + 128 * h.val] S128x128.size (inbV c h), w c h⟩

/-- The four stores, the last first. -/
def listW (w : Fin 4 → FVec F S1x128x128 .f32) : List (View.Piece (Elt F) S4x128x128 .f32) := [pieceW w 3, pieceW w 2, pieceW w 1, pieceW w 0]
def listB (w : Fin 4 → FVec F S1x128x1 .f32) : List (View.Piece (Elt F) S4x128x1 .f32) := [pieceB w 3, pieceB w 2, pieceB w 1, pieceB w 0]
def listG (w : Fin 4 → FVec F S1x1x128 .f32) : List (View.Piece (Elt F) S4x1x128 .f32) := [pieceG w 3, pieceG w 2, pieceG w 1, pieceG w 0]

/-- The 32 stores of the projection's gradient, the last first. -/
def listP (u v : Fin 4 → Fin 4 → FVec F S128x128 .bf16) : List (View.Piece (Elt F) S512x1024 .bf16) :=
  [pieceV v 3 3, pieceU u 3 3, pieceV v 2 3, pieceU u 2 3, pieceV v 1 3, pieceU u 1 3, pieceV v 0 3, pieceU u 0 3,
   pieceV v 3 2, pieceU u 3 2, pieceV v 2 2, pieceU u 2 2, pieceV v 1 2, pieceU u 1 2, pieceV v 0 2, pieceU u 0 2,
   pieceV v 3 1, pieceU u 3 1, pieceV v 2 1, pieceU u 2 1, pieceV v 1 1, pieceU u 1 1, pieceV v 0 1, pieceU u 0 1,
   pieceV v 3 0, pieceU u 3 0, pieceV v 2 0, pieceU u 2 0, pieceV v 1 0, pieceU u 1 0, pieceV v 0 0, pieceU u 0 0]

/-- Chunk `c`, head `h` of the first half's gradient. -/
def newU (x0 : FVec F S512x1024 .f32) (x1 : FVec F S512x512 .f32) (x2 : FVec F S4x128x128 .f32) (x3 : FVec F S4x128x1 .f32)
    (x4 x5 : FVec F S4x1x128 .f32) (c h : Fin 4) : FVec F S128x128 .bf16 :=
  truncf .bf16 (dU (headW x2 h) (headB x3 h) (headG x4 h) (headG x5 h) (cutU x0 c h) (cutV x0 c h) (cutD x1 c h)) bitsLt_bf16_f32

/-- Chunk `c`, head `h` of the second half's gradient. -/
def newV (x0 : FVec F S512x1024 .f32) (x1 : FVec F S512x512 .f32) (x2 : FVec F S4x128x128 .f32)
    (x4 : FVec F S4x1x128 .f32) (c h : Fin 4) : FVec F S128x128 .bf16 :=
  truncf .bf16 (dV (headW x2 h) (headG x4 h) (cutU x0 c h) (cutV x0 c h) (cutD x1 c h)) bitsLt_bf16_f32

variable (c : Dev nD) (t : Fin cfg0.N)

theorem prevLt : t.val - 1 < cfg0.N := Nat.lt_of_le_of_lt (Nat.sub_le _ _) t.isLt

theorem blockW_B (h : ¬ t.val % 16 = 0) : (outsAt0 m c t.val t.isLt).2.1
    = View.canon (listW (newW (X0_0 m c t) (iblk m c 1 t) (iblk m c 4 t) (iblk m c 5 t) (outsAt0 m c (t.val - 1) (prevLt t)).2.1)) := by
  conv_lhs => rw [outsAt0_B m c t h]
  dsimp only
  frame_out
  rfl

theorem blockB_B (h : ¬ t.val % 16 = 0) : (outsAt0 m c t.val t.isLt).2.2.1
    = View.canon (listB (newB (X0_0 m c t) (iblk m c 1 t) (outsAt0 m c (t.val - 1) (prevLt t)).2.2.1)) := by
  conv_lhs => rw [outsAt0_B m c t h]
  dsimp only
  frame_out
  rfl

theorem blockG_B (h : ¬ t.val % 16 = 0) : (outsAt0 m c t.val t.isLt).2.2.2.1
    = View.canon (listG (newG (X0_0 m c t) (iblk m c 1 t) (iblk m c 2 t) (outsAt0 m c (t.val - 1) (prevLt t)).2.2.2.1)) := by
  conv_lhs => rw [outsAt0_B m c t h]
  dsimp only
  frame_out
  rfl

theorem blockS_B (h : ¬ t.val % 16 = 0) : (outsAt0 m c t.val t.isLt).2.2.2.2
    = View.canon (listG (newS (X0_0 m c t) (iblk m c 1 t) (iblk m c 2 t) (outsAt0 m c (t.val - 1) (prevLt t)).2.2.2.2)) := by
  conv_lhs => rw [outsAt0_B m c t h]
  dsimp only
  frame_out
  rfl

theorem blockP_B (h : ¬ t.val % 16 = 0) : (outsAt0 m c t.val t.isLt).1
    = View.canon (listP (newU (X0_0 m c t) (iblk m c 1 t) (iblk m c 2 t) (iblk m c 3 t) (iblk m c 4 t) (iblk m c 5 t))
        (newV (X0_0 m c t) (iblk m c 1 t) (iblk m c 2 t) (iblk m c 4 t))) := by
  conv_lhs => rw [outsAt0_B m c t h]
  dsimp only
  frame_out
  rfl

theorem blockP_A (h : t.val % 16 = 0) : (outsAt0 m c t.val t.isLt).1
    = View.canon (listP (newU (X0_0 m c t) (iblk m c 1 t) (iblk m c 2 t) (iblk m c 3 t) (iblk m c 4 t) (iblk m c 5 t))
        (newV (X0_0 m c t) (iblk m c 1 t) (iblk m c 2 t) (iblk m c 4 t))) := by
  conv_lhs => rw [outsAt0_A m c t h]
  dsimp only
  frame_out
  rfl

theorem blockW_A (h : t.val % 16 = 0) : ∃ L, (outsAt0 m c t.val t.isLt).2.1
    = View.canon (listW (newW (X0_0 m c t) (iblk m c 1 t) (iblk m c 4 t) (iblk m c 5 t) k0_pay7) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

theorem blockB_A (h : t.val % 16 = 0) : ∃ L, (outsAt0 m c t.val t.isLt).2.2.1
    = View.canon (listB (newB (X0_0 m c t) (iblk m c 1 t) k0_pay8) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

theorem blockG_A (h : t.val % 16 = 0) : ∃ L, (outsAt0 m c t.val t.isLt).2.2.2.1
    = View.canon (listG (newG (X0_0 m c t) (iblk m c 1 t) (iblk m c 2 t) k0_pay9) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

theorem blockS_A (h : t.val % 16 = 0) : ∃ L, (outsAt0 m c t.val t.isLt).2.2.2.2
    = View.canon (listG (newS (X0_0 m c t) (iblk m c 1 t) (iblk m c 2 t) k0_pay10) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

/-! ## The lists read at an index -/

theorem pieceW_emb (w : Fin 4 → FVec F S1x128x128 .f32) (k : Fin 4) (x0 : Fin 1) (x1 x2 : Fin 128) :
    (pieceW w k).1.emb (ix3 x0 x1 x2) = ix3 k x1 x2 := by
  funext a; apply Fin.ext
  match a with
  | ⟨0, _⟩ => show k.val + 1 * x0.val = k.val; omega
  | ⟨1, _⟩ => show 0 + 1 * x1.val = x1.val; omega
  | ⟨2, _⟩ => show 0 + 1 * x2.val = x2.val; omega

theorem pieceW_mem (w : Fin 4 → FVec F S1x128x128 .f32) (k : Fin 4) : pieceW w k ∈ listW w := by
  match k with
  | 0 => exact List.mem_cons_of_mem _ (List.mem_cons_of_mem _ (List.mem_cons_of_mem _ List.mem_cons_self))
  | 1 => exact List.mem_cons_of_mem _ (List.mem_cons_of_mem _ List.mem_cons_self)
  | 2 => exact List.mem_cons_of_mem _ List.mem_cons_self
  | 3 => exact List.mem_cons_self

theorem canonW (w : Fin 4 → FVec F S1x128x128 .f32) (L : List (View.Piece (Elt F) S4x128x128 .f32)) (k : Fin 4) (i j : Fin 128) :
    View.canon (listW w ++ L) (ix3 k i j) = w k (ix3 0 i j) := by
  have at_piece : ∀ k : Fin 4, ∀ x, (pieceW w k).2 x = (fun y : S4x128x128.Idx => w (y 0) (ix3 0 (y 1) (y 2))) ((pieceW w k).1.emb x) := by
    intro k x
    idx_vars x
    rw [pieceW_emb, Subsingleton.elim x0 0]
    rfl
  refine View.canon_append_of_piecesOf (fun y : S4x128x128.Idx => w (y 0) (ix3 0 (y 1) (y 2))) L (listW w)
    ⟨at_piece 3, at_piece 2, at_piece 1, at_piece 0, trivial⟩ (ix3 k i j) ⟨pieceW w k, pieceW_mem w k, ?_⟩
  rw [← pieceW_emb w k 0 i j]
  rw [← Rect.map_emb_univ]
  exact Finset.mem_map_of_mem _ (Finset.mem_univ _)

theorem pieceB_emb (w : Fin 4 → FVec F S1x128x1 .f32) (k : Fin 4) (x0 : Fin 1) (x1 : Fin 128) (x2 : Fin 1) :
    (pieceB w k).1.emb (ix3 x0 x1 x2) = ix3 k x1 x2 := by
  funext a; apply Fin.ext
  match a with
  | ⟨0, _⟩ => show k.val + 1 * x0.val = k.val; omega
  | ⟨1, _⟩ => show 0 + 1 * x1.val = x1.val; omega
  | ⟨2, _⟩ => show 0 + 1 * x2.val = x2.val; omega

theorem pieceB_mem (w : Fin 4 → FVec F S1x128x1 .f32) (k : Fin 4) : pieceB w k ∈ listB w := by
  match k with
  | 0 => exact List.mem_cons_of_mem _ (List.mem_cons_of_mem _ (List.mem_cons_of_mem _ List.mem_cons_self))
  | 1 => exact List.mem_cons_of_mem _ (List.mem_cons_of_mem _ List.mem_cons_self)
  | 2 => exact List.mem_cons_of_mem _ List.mem_cons_self
  | 3 => exact List.mem_cons_self

theorem canonB (w : Fin 4 → FVec F S1x128x1 .f32) (L : List (View.Piece (Elt F) S4x128x1 .f32)) (k : Fin 4) (i : Fin 128) (j : Fin 1) :
    View.canon (listB w ++ L) (ix3 k i j) = w k (ix3 0 i j) := by
  have at_piece : ∀ k : Fin 4, ∀ x, (pieceB w k).2 x = (fun y : S4x128x1.Idx => w (y 0) (ix3 0 (y 1) (y 2))) ((pieceB w k).1.emb x) := by
    intro k x
    idx_vars x
    rw [pieceB_emb, Subsingleton.elim x0 0]
    rfl
  refine View.canon_append_of_piecesOf (fun y : S4x128x1.Idx => w (y 0) (ix3 0 (y 1) (y 2))) L (listB w)
    ⟨at_piece 3, at_piece 2, at_piece 1, at_piece 0, trivial⟩ (ix3 k i j) ⟨pieceB w k, pieceB_mem w k, ?_⟩
  rw [← pieceB_emb w k 0 i j]
  rw [← Rect.map_emb_univ]
  exact Finset.mem_map_of_mem _ (Finset.mem_univ _)

theorem pieceG_emb (w : Fin 4 → FVec F S1x1x128 .f32) (k : Fin 4) (x0 x1 : Fin 1) (x2 : Fin 128) :
    (pieceG w k).1.emb (ix3 x0 x1 x2) = ix3 k x1 x2 := by
  funext a; apply Fin.ext
  match a with
  | ⟨0, _⟩ => show k.val + 1 * x0.val = k.val; omega
  | ⟨1, _⟩ => show 0 + 1 * x1.val = x1.val; omega
  | ⟨2, _⟩ => show 0 + 1 * x2.val = x2.val; omega

theorem pieceG_mem (w : Fin 4 → FVec F S1x1x128 .f32) (k : Fin 4) : pieceG w k ∈ listG w := by
  match k with
  | 0 => exact List.mem_cons_of_mem _ (List.mem_cons_of_mem _ (List.mem_cons_of_mem _ List.mem_cons_self))
  | 1 => exact List.mem_cons_of_mem _ (List.mem_cons_of_mem _ List.mem_cons_self)
  | 2 => exact List.mem_cons_of_mem _ List.mem_cons_self
  | 3 => exact List.mem_cons_self

theorem canonG (w : Fin 4 → FVec F S1x1x128 .f32) (L : List (View.Piece (Elt F) S4x1x128 .f32)) (k : Fin 4) (i : Fin 1) (j : Fin 128) :
    View.canon (listG w ++ L) (ix3 k i j) = w k (ix3 0 i j) := by
  have at_piece : ∀ k : Fin 4, ∀ x, (pieceG w k).2 x = (fun y : S4x1x128.Idx => w (y 0) (ix3 0 (y 1) (y 2))) ((pieceG w k).1.emb x) := by
    intro k x
    idx_vars x
    rw [pieceG_emb, Subsingleton.elim x0 0]
    rfl
  refine View.canon_append_of_piecesOf (fun y : S4x1x128.Idx => w (y 0) (ix3 0 (y 1) (y 2))) L (listG w)
    ⟨at_piece 3, at_piece 2, at_piece 1, at_piece 0, trivial⟩ (ix3 k i j) ⟨pieceG w k, pieceG_mem w k, ?_⟩
  rw [← pieceG_emb w k 0 i j]
  rw [← Rect.map_emb_univ]
  exact Finset.mem_map_of_mem _ (Finset.mem_univ _)

/-- The row a chunk's row is in a block. -/
def rowAt (k : Fin 4) (i : Fin 128) : Fin 512 := ⟨128 * k.val + i.val, by omega⟩
/-- The lane a head's lane is in a block's first half. -/
def laneU (h : Fin 4) (j : Fin 128) : Fin 1024 := ⟨128 * h.val + j.val, by omega⟩
/-- The lane a head's lane is in a block's second half. -/
def laneV (h : Fin 4) (j : Fin 128) : Fin 1024 := ⟨512 + 128 * h.val + j.val, by omega⟩

theorem pieceU_emb (w : Fin 4 → Fin 4 → FVec F S128x128 .bf16) (k h : Fin 4) (i j : Fin 128) :
    (pieceU w k h).1.emb (ix2 i j) = ix2 (rowAt k i) (laneU h j) := by
  funext a; apply Fin.ext
  match a with
  | ⟨0, _⟩ => show 128 * k.val + 1 * i.val = 128 * k.val + i.val; omega
  | ⟨1, _⟩ => show 128 * h.val + 1 * j.val = 128 * h.val + j.val; omega

theorem pieceV_emb (w : Fin 4 → Fin 4 → FVec F S128x128 .bf16) (k h : Fin 4) (i j : Fin 128) :
    (pieceV w k h).1.emb (ix2 i j) = ix2 (rowAt k i) (laneV h j) := by
  funext a; apply Fin.ext
  match a with
  | ⟨0, _⟩ => show 128 * k.val + 1 * i.val = 128 * k.val + i.val; omega
  | ⟨1, _⟩ => show 512 + 128 * h.val + 1 * j.val = 512 + 128 * h.val + j.val; omega

/-- The whole block of the projection's gradient, from its chunks. -/
def wholeP (u v : Fin 4 → Fin 4 → FVec F S128x128 .bf16) (r : Fin 512) (l : Fin 1024) : F .bf16 :=
  if hl : l.val < 512 then u ⟨r.val / 128, by omega⟩ ⟨l.val / 128, by omega⟩ (ix2 ⟨r.val % 128, by omega⟩ ⟨l.val % 128, by omega⟩)
  else v ⟨r.val / 128, by omega⟩ ⟨(l.val - 512) / 128, by omega⟩ (ix2 ⟨r.val % 128, by omega⟩ ⟨(l.val - 512) % 128, by omega⟩)

theorem wholeP_u (u v : Fin 4 → Fin 4 → FVec F S128x128 .bf16) (k h : Fin 4) (i j : Fin 128) :
    wholeP u v (rowAt k i) (laneU h j) = u k h (ix2 i j) := by
  have e1 : ∀ p, (⟨(rowAt k i).val / 128, p⟩ : Fin 4) = k := fun p => Fin.ext (show (128 * k.val + i.val) / 128 = k.val by omega)
  have e2 : ∀ p, (⟨(rowAt k i).val % 128, p⟩ : Fin 128) = i := fun p => Fin.ext (show (128 * k.val + i.val) % 128 = i.val by omega)
  have e3 : ∀ p, (⟨(laneU h j).val / 128, p⟩ : Fin 4) = h := fun p => Fin.ext (show (128 * h.val + j.val) / 128 = h.val by omega)
  have e4 : ∀ p, (⟨(laneU h j).val % 128, p⟩ : Fin 128) = j := fun p => Fin.ext (show (128 * h.val + j.val) % 128 = j.val by omega)
  unfold wholeP
  rw [dif_pos (show (laneU h j).val < 512 by show 128 * h.val + j.val < 512; omega), e1, e2, e3, e4]

theorem wholeP_v (u v : Fin 4 → Fin 4 → FVec F S128x128 .bf16) (k h : Fin 4) (i j : Fin 128) :
    wholeP u v (rowAt k i) (laneV h j) = v k h (ix2 i j) := by
  have e1 : ∀ p, (⟨(rowAt k i).val / 128, p⟩ : Fin 4) = k := fun p => Fin.ext (show (128 * k.val + i.val) / 128 = k.val by omega)
  have e2 : ∀ p, (⟨(rowAt k i).val % 128, p⟩ : Fin 128) = i := fun p => Fin.ext (show (128 * k.val + i.val) % 128 = i.val by omega)
  have e3 : ∀ p, (⟨((laneV h j).val - 512) / 128, p⟩ : Fin 4) = h :=
    fun p => Fin.ext (show (512 + 128 * h.val + j.val - 512) / 128 = h.val by omega)
  have e4 : ∀ p, (⟨((laneV h j).val - 512) % 128, p⟩ : Fin 128) = j :=
    fun p => Fin.ext (show (512 + 128 * h.val + j.val - 512) % 128 = j.val by omega)
  unfold wholeP
  rw [dif_neg (show ¬ (laneV h j).val < 512 by show ¬ 512 + 128 * h.val + j.val < 512; omega), e1, e2, e3, e4]

theorem pieceU_at (u v : Fin 4 → Fin 4 → FVec F S128x128 .bf16) (k h : Fin 4) (x : (pieceU u k h).1.shape.Idx) :
    (pieceU u k h).2 x = (fun y : S512x1024.Idx => wholeP u v (y 0) (y 1)) ((pieceU u k h).1.emb x) := by
  idx_vars x
  rw [pieceU_emb]
  exact (wholeP_u u v k h x0 x1).symm

theorem pieceV_at (u v : Fin 4 → Fin 4 → FVec F S128x128 .bf16) (k h : Fin 4) (x : (pieceV v k h).1.shape.Idx) :
    (pieceV v k h).2 x = (fun y : S512x1024.Idx => wholeP u v (y 0) (y 1)) ((pieceV v k h).1.emb x) := by
  idx_vars x
  rw [pieceV_emb]
  exact (wholeP_v u v k h x0 x1).symm

theorem listP_of (u v : Fin 4 → Fin 4 → FVec F S128x128 .bf16) :
    View.PiecesOf (fun y : S512x1024.Idx => wholeP u v (y 0) (y 1)) (listP u v) := by
  unfold listP
  simp only [View.PiecesOf, and_true]
  refine ⟨pieceV_at u v _ _, pieceU_at u v _ _, pieceV_at u v _ _, pieceU_at u v _ _, pieceV_at u v _ _, pieceU_at u v _ _, pieceV_at u v _ _, pieceU_at u v _ _,
    pieceV_at u v _ _, pieceU_at u v _ _, pieceV_at u v _ _, pieceU_at u v _ _, pieceV_at u v _ _, pieceU_at u v _ _, pieceV_at u v _ _, pieceU_at u v _ _,
    pieceV_at u v _ _, pieceU_at u v _ _, pieceV_at u v _ _, pieceU_at u v _ _, pieceV_at u v _ _, pieceU_at u v _ _, pieceV_at u v _ _, pieceU_at u v _ _,
    pieceV_at u v _ _, pieceU_at u v _ _, pieceV_at u v _ _, pieceU_at u v _ _, pieceV_at u v _ _, pieceU_at u v _ _, pieceV_at u v _ _, pieceU_at u v _ _⟩

theorem pieceU_mem (u v : Fin 4 → Fin 4 → FVec F S128x128 .bf16) : ∀ k h : Fin 4, pieceU u k h ∈ listP u v := by
  intro k h
  fin_cases k <;> fin_cases h <;> simp [listP]

theorem pieceV_mem (u v : Fin 4 → Fin 4 → FVec F S128x128 .bf16) : ∀ k h : Fin 4, pieceV v k h ∈ listP u v := by
  intro k h
  fin_cases k <;> fin_cases h <;> simp [listP]

theorem canonP_u (u v : Fin 4 → Fin 4 → FVec F S128x128 .bf16) (k h : Fin 4) (i j : Fin 128) :
    View.canon (listP u v) (ix2 (rowAt k i) (laneU h j)) = u k h (ix2 i j) := by
  rw [View.canon_apply_of_pieces (fun y : S512x1024.Idx => wholeP u v (y 0) (y 1)) (listP u v) (listP_of u v).mem
    (ix2 (rowAt k i) (laneU h j)) ⟨pieceU u k h, pieceU_mem u v k h, ?_⟩]
  · exact wholeP_u u v k h i j
  · rw [← pieceU_emb u k h i j, ← Rect.map_emb_univ]
    exact Finset.mem_map_of_mem _ (Finset.mem_univ _)

theorem canonP_v (u v : Fin 4 → Fin 4 → FVec F S128x128 .bf16) (k h : Fin 4) (i j : Fin 128) :
    View.canon (listP u v) (ix2 (rowAt k i) (laneV h j)) = v k h (ix2 i j) := by
  rw [View.canon_apply_of_pieces (fun y : S512x1024.Idx => wholeP u v (y 0) (y 1)) (listP u v) (listP_of u v).mem
    (ix2 (rowAt k i) (laneV h j)) ⟨pieceV v k h, pieceV_mem u v k h, ?_⟩]
  · exact wholeP_v u v k h i j
  · rw [← pieceV_emb v k h i j, ← Rect.map_emb_univ]
    exact Finset.mem_map_of_mem _ (Finset.mem_univ _)

end Cert.KernelIdeal.Value
end
-- ==== Proof.Gating.Reference.lean ====
module
public import proofs.«01_k».proof.Proof.Gating.Chunk
public import proofs.«01_k».proof.Proof.Gen.ReferenceIdeal.Run
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem

namespace Cert.KernelIdeal.Value
open Cert.KernelIdeal Cert.KernelIdeal.Gen

/-! ## The chunks of the whole arrays

Rows are cut into 64 chunks of 128, lanes into 4 heads of 128. -/

/-- Chunk `n`, head `h` of the first half of the projection. -/
def chunkU (P : FVec Ideal S8192x2688 .f32) (n : Fin 64) (h : Fin 4) : FVec Ideal S128x128 .f32 := fun j =>
  P (ix2 ⟨n.val * 128 + (j 0).val, by have := (j 0).isLt; have := n.isLt; simp at *; omega⟩
    ⟨h.val * 128 + (j 1).val, by have := (j 1).isLt; have := h.isLt; simp at *; omega⟩)

/-- Chunk `n`, head `h` of the second half of the projection. -/
def chunkV (P : FVec Ideal S8192x2688 .f32) (n : Fin 64) (h : Fin 4) : FVec Ideal S128x128 .f32 := fun j =>
  P (ix2 ⟨n.val * 128 + (j 0).val, by have := (j 0).isLt; have := n.isLt; simp at *; omega⟩
    ⟨512 + (h.val * 128 + (j 1).val), by have := (j 1).isLt; have := h.isLt; simp at *; omega⟩)

/-- Chunk `n`, head `h` of the incoming gradient. -/
def chunkD (D : FVec Ideal S8192x512 .f32) (n : Fin 64) (h : Fin 4) : FVec Ideal S128x128 .f32 := fun j =>
  D (ix2 ⟨n.val * 128 + (j 0).val, by have := (j 0).isLt; have := n.isLt; simp at *; omega⟩
    ⟨h.val * 128 + (j 1).val, by have := (j 1).isLt; have := h.isLt; simp at *; omega⟩)

/-- Head `h`'s mixing weight. -/
def matW (W : FVec Ideal S4x128x128 .f32) (h : Fin 4) : FVec Ideal S128x128 .f32 := fun j => W (ix3 h (j 0) (j 1))

/-- Head `h`'s mixing bias, one number per row. -/
def colB (B : FVec Ideal S4x128 .f32) (h : Fin 4) : FVec Ideal S128x1 .f32 := fun j => B (ix2 h (j 0))

/-- Head `h`'s scale or shift, one number per lane. -/
def rowG (G : FVec Ideal S4x128 .f32) (h : Fin 4) : FVec Ideal S1x128 .f32 := fun j => G (ix2 h (j 1))

/-- A host sum over several axes is the sum over any indexing of the elements that reduce to the place. -/
theorem hostSum_of {s : Shape} {axes : List (Fin s.rank)} {t : Shape} (hr : s.ReducesTo axes t) (x : s.Idx → EReal)
    (init : EReal) (j : t.Idx) {κ : Type} [Fintype κ] (e : κ → s.Idx) (hi : Function.Injective e)
    (he : ∀ i, hr.drop i = j ↔ ∃ k, e k = i) : Ideal.hostReduceAdd hr x init j = init + ∑ k, x (e k) := by
  classical
  unfold Ideal.hostReduceAdd
  congr 1
  rw [← Finset.sum_image (s := Finset.univ) (f := x) (g := e) (fun a _ b _ hab => hi hab)]
  refine Finset.sum_congr (Finset.ext fun i => ?_) fun _ _ => rfl
  simp only [Finset.mem_filter, Finset.mem_univ, true_and, Finset.mem_image]
  exact he i

/-- The positive and the negated constant of the error function's derivative. -/
theorem bellConst_neg : Ideal.ofBits .f32 0xBF906EBB#32 = -Ideal.ofBits .f32 0x3F906EBB#32 := by
  simp [Ideal.ofBits, Ideal.ieee, -EReal.coe_mul, -EReal.coe_neg]
  exact EReal.coe_neg _

end Cert.KernelIdeal.Value

namespace Cert.ReferenceIdeal.Value
open Cert.ReferenceIdeal Cert.ReferenceIdeal.Gen
open Cert.KernelIdeal.Value (chunkU chunkV chunkD matW colB rowG hostSum_of bellConst_neg gel gelBack half bell onePlus erfArg mean dev varEps
  xhat lnOut lnA lnE lnBack mixed dMix dLn dU dV dW dB dG dS full fullCol spreadCol spreadRow rowSum colSum1 laneSum prodNN prodTN prodNT)

theorem sum_s8192x4 (x : S1x8192x4x1.Idx → EReal) (init : EReal) (s : Fin 8192) (h : Fin 4) :
    Ideal.hostReduceAdd reducesTo_S1x8192x4x1_S8192x4_d0_3 x init (ix2 s h) = init + x (ix4 0 s h 0) := by
  rw [hostSum_of reducesTo_S1x8192x4x1_S8192x4_d0_3 x init (ix2 s h) (κ := Unit) (fun _ => ix4 0 s h 0) (fun _ _ _ => rfl)]
  · simp
  · intro i
    constructor
    · intro e
      refine ⟨(), ?_⟩
      funext a; apply Fin.ext
      match a with
      | ⟨0, _⟩ => exact (Nat.lt_one_iff.mp (i 0).isLt).symm
      | ⟨1, _⟩ => exact (congrArg Fin.val (congrFun e 0)).symm
      | ⟨2, _⟩ => exact (congrArg Fin.val (congrFun e 1)).symm
      | ⟨3, _⟩ => exact (Nat.lt_one_iff.mp (i 3).isLt).symm
    · rintro ⟨_, rfl⟩
      funext a
      match a with
      | ⟨0, _⟩ => rfl
      | ⟨1, _⟩ => rfl

theorem row_lt (n : Fin 64) (r : Fin 128) : n.val * 128 + r.val < 8192 := by omega

theorem lane_lt (h : Fin 4) (l : Fin 128) : h.val * 128 + l.val < 512 := by omega

theorem row_div (n : Fin 64) (r : Fin 128) (p : (n.val * 128 + r.val) / 128 < 64) :
    (⟨(n.val * 128 + r.val) / 128, p⟩ : Fin 64) = n := by ext; simp; omega

theorem row_mod (n : Fin 64) (r : Fin 128) (p : (n.val * 128 + r.val) % 128 < 128) :
    (⟨(n.val * 128 + r.val) % 128, p⟩ : Fin 128) = r := by ext; simp

theorem lane_div (h : Fin 4) (l : Fin 128) (p : (h.val * 128 + l.val) / 128 < 4) :
    (⟨(h.val * 128 + l.val) / 128, p⟩ : Fin 4) = h := by ext; simp; omega

theorem lane_mod (h : Fin 4) (l : Fin 128) (p : (h.val * 128 + l.val) % 128 < 128) :
    (⟨(h.val * 128 + l.val) % 128, p⟩ : Fin 128) = l := by ext; simp

/-! ## The reference's arrays, chunk by chunk

Each lemma reads one of the reference's arrays at row `128 n + r`, head `h`, lane `l` as a function of chunk `n`, head `h`. -/

variable (V0 : Valuation τ sig (Elt Ideal))

/-- The first half of the projection, cut. -/
abbrev cU (n : Fin 64) (h : Fin 4) := chunkU (V0 (Proc.devRef .tc main_arg0)) n h
/-- The second half. -/
abbrev cV (n : Fin 64) (h : Fin 4) := chunkV (V0 (Proc.devRef .tc main_arg0)) n h
/-- The incoming gradient. -/
abbrev cD (n : Fin 64) (h : Fin 4) := chunkD (V0 (Proc.devRef .tc main_arg1)) n h
/-- The mixing weight. -/
abbrev cW (h : Fin 4) := matW (V0 (Proc.devRef .tc main_arg2)) h
/-- The mixing bias. -/
abbrev cB (h : Fin 4) := colB (V0 (Proc.devRef .tc main_arg3)) h
/-- The scale. -/
abbrev cG (h : Fin 4) := rowG (V0 (Proc.devRef .tc main_arg4)) h
/-- The shift. -/
abbrev cE (h : Fin 4) := rowG (V0 (Proc.devRef .tc main_arg5)) h

variable (n : Fin 64) (h : Fin 4) (r l : Fin 128)

theorem v10_at : res_main_v10 V0 (ix3 0 ⟨n.val * 128 + r.val, row_lt n r⟩ ⟨h.val * 128 + l.val, lane_lt h l⟩)
    = onePlus (cU V0 n h) (ix2 r l) := by
  pointwise [res_main_v10, res_main_v9, res_main_v2, res_main_v0, onePlus, erfArg, full, chunkU]
  simp only [neg_mul, Ideal.erfc_neg, Ideal.erf_def]

theorem v21_at : res_main_v21 V0 (ix3 0 ⟨n.val * 128 + r.val, row_lt n r⟩ ⟨h.val * 128 + l.val, lane_lt h l⟩)
    = onePlus (cV V0 n h) (ix2 r l) := by
  pointwise [res_main_v21, res_main_v20, res_main_v4, res_main_v0, onePlus, erfArg, full, chunkV]
  simp only [neg_mul, Ideal.erfc_neg, Ideal.erf_def]

theorem v15_at : res_main_v15 V0 (ix4 0 ⟨n.val * 128 + r.val, row_lt n r⟩ h l) = gel (cU V0 n h) (ix2 r l) := by
  pointwise [res_main_v15, v10_at, res_main_v6, res_main_v2, res_main_v0, gel, half, full, chunkU]

theorem v26_at : res_main_v26 V0 (ix4 0 ⟨n.val * 128 + r.val, row_lt n r⟩ h l) = gel (cV V0 n h) (ix2 r l) := by
  pointwise [res_main_v26, v21_at, res_main_v17, res_main_v4, res_main_v0, gel, half, full, chunkV]

theorem v30_at : res_main_v30 V0 (ix4 0 ⟨n.val * 128 + r.val, row_lt n r⟩ h 0) = mean (gel (cV V0 n h)) (ix2 r 0) := by
  pointwise [res_main_v30, v26_at, mean, rowSum, fullCol]

theorem v32_at : res_main_v32 V0 (ix4 0 ⟨n.val * 128 + r.val, row_lt n r⟩ h l) = dev (gel (cV V0 n h)) (ix2 r l) := by
  pointwise [res_main_v32, v26_at, v30_at, dev, spreadCol]

theorem v41_at : res_main_v41 V0 (ix4 0 ⟨n.val * 128 + r.val, row_lt n r⟩ h l) = dev (gel (cV V0 n h)) (ix2 r l) :=
  v32_at V0 n h r l

theorem v43_at : res_main_v43 V0 (ix4 0 ⟨n.val * 128 + r.val, row_lt n r⟩ h 0) = varEps (gel (cV V0 n h)) (ix2 r 0) := by
  pointwise [res_main_v43, v32_at, varEps, mean, rowSum, fullCol]

theorem v44_at : res_main_v44 V0 (ix4 0 ⟨n.val * 128 + r.val, row_lt n r⟩ h 0) = rsqrt (varEps (gel (cV V0 n h))) (ix2 r 0) := by
  pointwise [res_main_v44, v43_at]

theorem v49_at : res_main_v49 V0 (ix4 0 ⟨n.val * 128 + r.val, row_lt n r⟩ h l) = xhat (gel (cV V0 n h)) (ix2 r l) := by
  pointwise [res_main_v49, v41_at, v44_at, xhat, spreadCol]

theorem v56_at : res_main_v56 V0 (ix5 0 n r h l) = lnOut (gel (cV V0 n h)) (cG V0 h) (cE V0 h) (ix2 r l) := by
  pointwise [res_main_v56, res_main_v50, v49_at, lnOut, spreadRow, rowG]

theorem v63_at : res_main_v63 V0 (ix4 0 ⟨n.val * 128 + r.val, row_lt n r⟩ h l)
    = mixed (cW V0 h) (cB V0 h) (cG V0 h) (cE V0 h) (cV V0 n h) (ix2 r l) := by
  pointwise [res_main_v63, row_div, row_mod, v56_at, mixed, prodNN, spreadCol, matW, colB]
  exact congrArg₂ (· + ·) (Finset.sum_congr rfl fun _ _ => mul_comm _ _) rfl

theorem v66_at : res_main_v66 V0 (ix4 0 ⟨n.val * 128 + r.val, row_lt n r⟩ h l) = cD V0 n h (ix2 r l) := by
  pointwise [res_main_v66, chunkD]

theorem v69_at : res_main_v69 V0 (ix5 0 n r h l) = dMix (cU V0 n h) (cD V0 n h) (ix2 r l) := by
  pointwise [res_main_v69, v15_at, v66_at, dMix]

theorem v74_at : res_main_v74 V0 (ix5 h 0 n l r) = dMix (cU V0 n h) (cD V0 n h) (ix2 r l) := by
  pointwise [res_main_v74, v69_at]

theorem v78_at : res_main_v78 V0 (ix4 0 ⟨n.val * 128 + r.val, row_lt n r⟩ h l)
    = dLn (cW V0 h) (cU V0 n h) (cD V0 n h) (ix2 r l) := by
  pointwise [res_main_v78, row_div, row_mod, v74_at, dLn, prodTN, matW]
  exact Finset.sum_congr (M := EReal) rfl fun _ _ => mul_comm (G := EReal) _ _

theorem v86_at : res_main_v86 V0 (ix4 0 ⟨n.val * 128 + r.val, row_lt n r⟩ h l)
    = mulf (dLn (cW V0 h) (cU V0 n h) (cD V0 n h)) (spreadRow (cG V0 h)) (ix2 r l) := by
  pointwise [res_main_v86, v78_at, res_main_v50, spreadRow, rowG]

/-- The gradient of the normalised rows. -/
abbrev cY (n : Fin 64) (h : Fin 4) := mulf (dLn (cW V0 h) (cU V0 n h) (cD V0 n h)) (spreadRow (cG V0 h))

theorem v92_at : res_main_v92 V0 (ix4 0 ⟨n.val * 128 + r.val, row_lt n r⟩ h l)
    = lnA (gel (cV V0 n h)) (cY V0 n h) (ix2 r l) := by
  pointwise [res_main_v92, v86_at, v44_at, lnA, spreadCol]

theorem v102_at : res_main_v102 V0 (ix4 0 ⟨n.val * 128 + r.val, row_lt n r⟩ h l)
    = lnE (gel (cV V0 n h)) (cY V0 n h) (ix2 r l) := by
  pointwise [res_main_v102, sum_s8192x4]
  pointwise [v41_at, v86_at, v44_at, v43_at, v32_at, lnE, spreadCol, rowSum, colSum1, full, fullCol]
  simp only [Fin.sum_univ_one]

theorem v114_at : res_main_v114 V0 (ix3 0 ⟨n.val * 128 + r.val, row_lt n r⟩ ⟨h.val * 128 + l.val, lane_lt h l⟩)
    = lnBack (gel (cV V0 n h)) (cY V0 n h) (ix2 r l) := by
  pointwise [res_main_v114, lane_div, lane_mod, sum_s8192x4]
  pointwise [v92_at, v102_at, lnBack, spreadCol, rowSum, colSum1, full, fullCol]
  simp only [Fin.sum_univ_one, zero_sub]

theorem v126_at : res_main_v126 V0 (ix3 0 ⟨n.val * 128 + r.val, row_lt n r⟩ ⟨h.val * 128 + l.val, lane_lt h l⟩)
    = mulf (cD V0 n h) (mixed (cW V0 h) (cB V0 h) (cG V0 h) (cE V0 h) (cV V0 n h)) (ix2 r l) := by
  pointwise [res_main_v126, lane_div, lane_mod, v66_at, v63_at]

theorem sum_d14 (x : S1x64x128x4x128.Idx → EReal) (init : EReal) (r : Fin 128) (h : Fin 4) :
    Ideal.hostReduceAdd reducesTo_S1x64x128x4x128_S1x128x4_d1_4 x init (ix3 0 r h)
      = init + ∑ k : Fin 64 × Fin 128, x (ix5 0 k.1 r h k.2) := by
  refine hostSum_of reducesTo_S1x64x128x4x128_S1x128x4_d1_4 x init (ix3 0 r h) (κ := Fin 64 × Fin 128)
    (fun k => ix5 0 k.1 r h k.2) (fun a b e => Prod.ext (congrFun e 1) (congrFun e 4)) fun i => ⟨fun e => ⟨(i 1, i 4), ?_⟩, ?_⟩
  · funext a; apply Fin.ext
    match a with
    | ⟨0, _⟩ => exact (Nat.lt_one_iff.mp (i 0).isLt).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨_, rfl⟩
    funext a
    match a with
    | ⟨0, _⟩ => rfl
    | ⟨1, _⟩ => rfl
    | ⟨2, _⟩ => rfl

theorem sum_d014 (x : S1x1x128x4x1.Idx → EReal) (init : EReal) (r : Fin 128) (h : Fin 4) :
    Ideal.hostReduceAdd reducesTo_S1x1x128x4x1_S128x4_d0_1_4 x init (ix2 r h) = init + x (ix5 0 0 r h 0) := by
  rw [hostSum_of reducesTo_S1x1x128x4x1_S128x4_d0_1_4 x init (ix2 r h) (κ := Unit) (fun _ => ix5 0 0 r h 0) (fun _ _ _ => rfl)]
  · simp
  · refine fun i => ⟨fun e => ⟨(), ?_⟩, ?_⟩
    · funext a; apply Fin.ext
      match a with
      | ⟨0, _⟩ => exact (Nat.lt_one_iff.mp (i 0).isLt).symm
      | ⟨1, _⟩ => exact (Nat.lt_one_iff.mp (i 1).isLt).symm
      | ⟨2, _⟩ => exact (congrArg Fin.val (congrFun e 0)).symm
      | ⟨3, _⟩ => exact (congrArg Fin.val (congrFun e 1)).symm
      | ⟨4, _⟩ => exact (Nat.lt_one_iff.mp (i 4).isLt).symm
    · rintro ⟨_, rfl⟩
      funext a
      match a with
      | ⟨0, _⟩ => rfl
      | ⟨1, _⟩ => rfl

theorem sum_d01 (x : S1x1x4x128.Idx → EReal) (init : EReal) (h : Fin 4) (l : Fin 128) :
    Ideal.hostReduceAdd reducesTo_S1x1x4x128_S4x128_d0_1 x init (ix2 h l) = init + x (ix4 0 0 h l) := by
  rw [hostSum_of reducesTo_S1x1x4x128_S4x128_d0_1 x init (ix2 h l) (κ := Unit) (fun _ => ix4 0 0 h l) (fun _ _ _ => rfl)]
  · simp
  · refine fun i => ⟨fun e => ⟨(), ?_⟩, ?_⟩
    · funext a; apply Fin.ext
      match a with
      | ⟨0, _⟩ => exact (Nat.lt_one_iff.mp (i 0).isLt).symm
      | ⟨1, _⟩ => exact (Nat.lt_one_iff.mp (i 1).isLt).symm
      | ⟨2, _⟩ => exact (congrArg Fin.val (congrFun e 0)).symm
      | ⟨3, _⟩ => exact (congrArg Fin.val (congrFun e 1)).symm
    · rintro ⟨_, rfl⟩
      funext a
      match a with
      | ⟨0, _⟩ => rfl
      | ⟨1, _⟩ => rfl

/-- A sum over 8192 rows is a sum over 64 chunks of 128 rows. -/
theorem sum_rows (f : Fin 8192 → EReal) : ∑ s, f s = ∑ n : Fin 64, ∑ r : Fin 128, f ⟨n.val * 128 + r.val, row_lt n r⟩ :=
  Fin.sum_univ_tiles 64 128 rfl f

/-! ## The five results -/

/-- The first result's term. -/
def RES0 : FVec Ideal S8192x1024 .bf16 :=
  truncf .bf16 (addf (pad S8192x1024 ![0, 512] ![0, 0] ![0, 0] (Host.reduceAdd (addf (Host.negf (mulf (mulf (mulf (broadcastInDim S1x8192x512 ![] bcast_S_S1x8192x512 (constant S_ .f32 0xBF906EBB#32)) (mulf (res_main_v17 V0) (res_main_v114 V0))) (Host.exp (Host.negf (mulf (res_main_v20 V0) (res_main_v20 V0))))) (broadcastInDim S1x8192x512 ![] bcast_S_S1x8192x512 (constant S_ .f32 0x3F3504F3#32)))) (mulf (broadcastInDim S1x8192x512 ![] bcast_S_S1x8192x512 (constant S_ .f32 0x3F000000#32)) (mulf (res_main_v114 V0) (res_main_v21 V0)))) (constant S_ .f32 0x00000000#32) reducesTo_S1x8192x512_S8192x512_d0 h_S_) (constant S_ .f32 0x00000000#32) pads_S8192x512_S8192x1024_000_51200 h_S_) (pad S8192x1024 ![0, 0] ![0, 512] ![0, 0] (Host.reduceAdd (addf (Host.negf (mulf (mulf (mulf (broadcastInDim S1x8192x512 ![] bcast_S_S1x8192x512 (constant S_ .f32 0xBF906EBB#32)) (mulf (res_main_v6 V0) (res_main_v126 V0))) (Host.exp (Host.negf (mulf (res_main_v9 V0) (res_main_v9 V0))))) (broadcastInDim S1x8192x512 ![] bcast_S_S1x8192x512 (constant S_ .f32 0x3F3504F3#32)))) (mulf (broadcastInDim S1x8192x512 ![] bcast_S_S1x8192x512 (constant S_ .f32 0x3F000000#32)) (mulf (res_main_v126 V0) (res_main_v10 V0)))) (constant S_ .f32 0x00000000#32) reducesTo_S1x8192x512_S8192x512_d0 h_S_) (constant S_ .f32 0x00000000#32) pads_S8192x512_S8192x1024_000_05120 h_S_)) bitsLt_bf16_f32

theorem res0_u : RES0 V0 (ix2 ⟨n.val * 128 + r.val, row_lt n r⟩ ⟨h.val * 128 + l.val, by omega⟩)
    = dU (cW V0 h) (cB V0 h) (cG V0 h) (cE V0 h) (cU V0 n h) (cV V0 n h) (cD V0 n h) (ix2 r l) := by
  have hl : h.val * 128 + l.val < 512 := by omega
  have hr := row_lt n r
  pointwise [RES0]
  rw [dif_neg (by omega), dif_pos ⟨hr, hl⟩, zero_add]
  simp only [Fin.sum_univ_one]
  pointwise [v10_at, v126_at, bellConst_neg, neg_mul, neg_neg, dU, gelBack, bell, half, erfArg, full, res_main_v6, res_main_v9, res_main_v2, res_main_v0, chunkU]
  simp only [neg_mul, mul_neg, neg_neg, zero_sub]

theorem res0_v : RES0 V0 (ix2 ⟨n.val * 128 + r.val, row_lt n r⟩ ⟨512 + (h.val * 128 + l.val), by omega⟩)
    = dV (cW V0 h) (cG V0 h) (cU V0 n h) (cV V0 n h) (cD V0 n h) (ix2 r l) := by
  have hl : h.val * 128 + l.val < 512 := by omega
  have hr := row_lt n r
  pointwise [RES0]
  rw [dif_pos ⟨hr, hl⟩, dif_neg (by simp), add_zero]
  simp only [Fin.sum_univ_one]
  pointwise [v21_at, v114_at, bellConst_neg, neg_mul, neg_neg, dV, gelBack, bell, half, erfArg, full, res_main_v17, res_main_v20, res_main_v4, res_main_v0, chunkV]
  simp only [neg_mul, mul_neg, neg_neg, zero_sub]

/-- The mixing weight's gradient. -/
def RES1 : FVec Ideal S4x128x128 .f32 :=
  Host.dotGeneral (φ₁ := .f32) (φ₂ := .f32) dot_S4x1x64x128x128_S1x64x128x4x128_S4x128x128_123_014_4_2_0_3 none (res_main_v74 V0) (res_main_v56 V0)

/-- A place among the contracted axes of the mixing weight's gradient: the chunk and the lane. -/
def wIdx (k : Fin 64 × Fin 128) : dot_S4x1x64x128x128_S1x64x128x4x128_S4x128x128_123_014_4_2_0_3.contr.Idx := fun p =>
  match p with
  | ⟨0, _⟩ => (0 : Fin 1)
  | ⟨1, _⟩ => k.1
  | ⟨2, _⟩ => k.2
  | ⟨q + 3, hq⟩ => absurd hq (by show ¬ q + 3 < 3; omega)

/-- Chunks and lanes are all the places among the contracted axes. -/
def wEquiv : Fin 64 × Fin 128 ≃ dot_S4x1x64x128x128_S1x64x128x4x128_S4x128x128_123_014_4_2_0_3.contr.Idx where
  toFun := wIdx
  invFun kk := ((kk ⟨1, by decide⟩ : Fin 64), (kk ⟨2, by decide⟩ : Fin 128))
  left_inv _ := rfl
  right_inv kk := by
    funext p
    match p with
    | ⟨0, _⟩ => exact Fin.ext (Nat.lt_one_iff.mp (show (kk ⟨0, by decide⟩).val < 1 from (kk ⟨0, by decide⟩).isLt)).symm
    | ⟨1, _⟩ => rfl
    | ⟨2, _⟩ => rfl
    | ⟨q + 3, hq⟩ => exact absurd hq (by show ¬ q + 3 < 3; omega)

/-- The left operand's place in the mixing weight's gradient. -/
theorem wgrad_lhs (i j : Fin 128) (x : Fin 128) : dot_S4x1x64x128x128_S1x64x128x4x128_S4x128x128_123_014_4_2_0_3.lhsIdx (ix3 h i j) (wIdx (n, x)) = ix5 h 0 n x i := by
  funext a
  match a with
  | ⟨0, _⟩ => rfl
  | ⟨1, _⟩ => rfl
  | ⟨2, _⟩ => rfl
  | ⟨3, _⟩ => rfl
  | ⟨4, _⟩ => rfl

/-- The right operand's place in the mixing weight's gradient. -/
theorem wgrad_rhs (i j : Fin 128) (x : Fin 128) : dot_S4x1x64x128x128_S1x64x128x4x128_S4x128x128_123_014_4_2_0_3.rhsIdx (ix3 h i j) (wIdx (n, x)) = ix5 0 n j h x := by
  funext a
  match a with
  | ⟨0, _⟩ => rfl
  | ⟨1, _⟩ => rfl
  | ⟨2, _⟩ => rfl
  | ⟨3, _⟩ => rfl
  | ⟨4, _⟩ => rfl

/-- A product over the chunks and the lanes at an index. -/
theorem wgrad_sum (L : FVec Ideal S4x1x64x128x128 .f32) (R : FVec Ideal S1x64x128x4x128 .f32) (i j : Fin 128) :
    Ideal.matmul dot_S4x1x64x128x128_S1x64x128x4x128_S4x128x128_123_014_4_2_0_3 L R (fun _ => 0) (ix3 h i j)
      = ∑ n : Fin 64, ∑ x : Fin 128, L (ix5 h 0 n x i) * R (ix5 0 n j h x) := by
  unfold Ideal.matmul
  rw [← Fintype.sum_equiv wEquiv (fun k => L (dot_S4x1x64x128x128_S1x64x128x4x128_S4x128x128_123_014_4_2_0_3.lhsIdx (ix3 h i j) (wIdx k)) * R (dot_S4x1x64x128x128_S1x64x128x4x128_S4x128x128_123_014_4_2_0_3.rhsIdx (ix3 h i j) (wIdx k)))
    _ (fun _ => rfl), Fintype.sum_prod_type, zero_add]
  refine Finset.sum_congr rfl fun n _ => Finset.sum_congr rfl fun x _ => ?_
  rw [wgrad_lhs, wgrad_rhs]

theorem res1_at (i j : Fin 128) : RES1 V0 (ix3 h i j)
    = ∑ n : Fin 64, dW (cG V0 h) (cE V0 h) (cU V0 n h) (cV V0 n h) (cD V0 n h) (ix2 i j) := by
  pointwise [RES1, dW, prodNT, wgrad_sum]
  exact Finset.sum_congr (M := EReal) rfl fun n _ => Finset.sum_congr (M := EReal) rfl fun x _ =>
    Ideal.mul_congr (v74_at V0 n h i x) (v56_at V0 n h j x)

/-- The mixing bias's gradient. -/
def RES2 : FVec Ideal S4x128x1 .f32 :=
  broadcastInDim S4x128x1 ![0, 1] bcast_S4x128_S4x128x1_0_1 (transpose S4x128 [1, 0] (Host.reduceAdd (shapeCast _ (Host.reduceAdd (res_main_v69 V0) (constant S_ .f32 0x00000000#32) reducesTo_S1x64x128x4x128_S1x128x4_d1_4 h_S_) shapeCasts_S1x128x4_S1x1x128x4x1) (constant S_ .f32 0x00000000#32) reducesTo_S1x1x128x4x1_S128x4_d0_1_4 h_S_) transposes_S128x4_S4x128_1_0)

theorem res2_at : RES2 V0 (ix3 h r 0) = ∑ n : Fin 64, dB (cU V0 n h) (cD V0 n h) (ix2 r 0) := by
  pointwise [RES2, sum_d014]
  pointwise [sum_d14, v69_at, dB, rowSum]
  exact Fintype.sum_prod_type _

/-- The scale's gradient. -/
def RES3 : FVec Ideal S4x1x128 .f32 :=
  broadcastInDim S4x1x128 ![0, 2] bcast_S4x128_S4x1x128_0_2 (Host.reduceAdd (shapeCast _ (Host.reduceAdd (mulf (res_main_v49 V0) (res_main_v78 V0)) (constant S_ .f32 0x00000000#32) reducesTo_S1x8192x4x128_S1x4x128_d1 h_S_) shapeCasts_S1x4x128_S1x1x4x128) (constant S_ .f32 0x00000000#32) reducesTo_S1x1x4x128_S4x128_d0_1 h_S_)

theorem res3_at : RES3 V0 (ix3 h 0 l) = ∑ n : Fin 64, dG (cW V0 h) (cU V0 n h) (cV V0 n h) (cD V0 n h) (ix2 0 l) := by
  pointwise [RES3, sum_d01]
  simp only [sum_rows]
  pointwise [v49_at, v78_at, dG, laneSum]

/-- The shift's gradient. -/
def RES4 : FVec Ideal S4x1x128 .f32 :=
  broadcastInDim S4x1x128 ![0, 2] bcast_S4x128_S4x1x128_0_2 (Host.reduceAdd (shapeCast _ (Host.reduceAdd (res_main_v78 V0) (constant S_ .f32 0x00000000#32) reducesTo_S1x8192x4x128_S1x4x128_d1 h_S_) shapeCasts_S1x4x128_S1x1x4x128) (constant S_ .f32 0x00000000#32) reducesTo_S1x1x4x128_S4x128_d0_1 h_S_)

theorem res4_at : RES4 V0 (ix3 h 0 l) = ∑ n : Fin 64, dS (cW V0 h) (cU V0 n h) (cD V0 n h) (ix2 0 l) := by
  pointwise [RES4, sum_d01]
  simp only [sum_rows]
  pointwise [v78_at, dS, laneSum]

end Cert.ReferenceIdeal.Value
end
-- ==== Proof.Gating.Whole.lean ====
module
public import proofs.«01_k».proof.Proof.Gating.Block
public import proofs.«01_k».proof.Proof.Gating.Reference
public import proofs.«01_k».proof.Proof.Gen.KernelIdeal.Value

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ) (c : Dev nD) (t : Fin cfg0.N)

/-! ## The blocks a grid point reads, as chunks of the arrays -/

/-- The chunk that chunk `k` of grid point `t`'s block is in the whole array. -/
def chunkOf (t : Fin cfg0.N) (k : Fin 4) : Fin 64 := ⟨t.val * 4 + k.val, by have : t.val < 16 := lt_of_lt_of_eq t.isLt N_0; omega⟩

theorem idx : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![0, 0, 0] ∧ win0_6.index t = ![t.val, 0] :=
  (by decide +kernel : ∀ t : Fin grid0.N, _)

theorem cutU_at (k h : Fin 4) : cutU (X0_0 m c t) k h = chunkU (m ((c : Thread nD τ).loc main_arg0)) (chunkOf t k) h := by
  funext j
  idx_vars j
  pointwise [cutU, chunkU]
  unfold X0_0 Pipeline.Window.fill
  rw [dif_pos (moved0_0 t _)]
  blk_ext [iblk, V, idx t, chunkOf]

theorem cutV_at (k h : Fin 4) : cutV (X0_0 m c t) k h = chunkV (m ((c : Thread nD τ).loc main_arg0)) (chunkOf t k) h := by
  funext j
  idx_vars j
  pointwise [cutV, chunkV]
  unfold X0_0 Pipeline.Window.fill
  rw [dif_pos (moved0_0 t _)]
  blk_ext [iblk, V, idx t, chunkOf]

theorem cutD_at (k h : Fin 4) : cutD (iblk m c 1 t) k h = chunkD (m ((c : Thread nD τ).loc main_arg1)) (chunkOf t k) h := by
  funext j
  idx_vars j
  pointwise [cutD, chunkD]
  blk_ext [iblk, V, idx t, chunkOf]

theorem headW_apply (x : FVec Ideal S4x128x128 .f32) (h : Fin 4) (i j : Fin 128) : headW x h (ix2 i j) = x (ix3 h i j) := by
  have e : ∀ y : FVec Ideal S1x128x128 .f32, shapeCast S128x128 y shapeCasts_S1x128x128_S128x128 (ix2 i j) = y (ix3 0 i j) := by
    intro y; pointwise
  unfold headW
  rw [e]
  exact congrArg x (pieceW_emb (F := Ideal) (fun _ _ => (0 : EReal)) h 0 i j)

theorem headB_apply (x : FVec Ideal S4x128x1 .f32) (h : Fin 4) (i : Fin 128) : headB x h (ix2 i 0) = x (ix3 h i 0) := by
  have e : ∀ y : FVec Ideal S1x128x1 .f32, shapeCast S128x1 y shapeCasts_S1x128x1_S128x1 (ix2 i 0) = y (ix3 0 i 0) := by
    intro y; pointwise
  unfold headB
  rw [e]
  exact congrArg x (pieceB_emb (F := Ideal) (fun _ _ => (0 : EReal)) h 0 i 0)

theorem headG_apply (x : FVec Ideal S4x1x128 .f32) (h : Fin 4) (j : Fin 128) : headG x h (ix2 0 j) = x (ix3 h 0 j) := by
  have e : ∀ y : FVec Ideal S1x1x128 .f32, shapeCast S1x128 y shapeCasts_S1x1x128_S1x128 (ix2 0 j) = y (ix3 0 0 j) := by
    intro y; pointwise
  unfold headG
  rw [e]
  exact congrArg x (pieceG_emb (F := Ideal) (fun _ _ => (0 : EReal)) h 0 0 j)

theorem headW_at (h : Fin 4) : headW (iblk m c 2 t) h = matW (m ((c : Thread nD τ).loc main_arg2)) h := by
  funext j
  idx_vars j
  rw [headW_apply]
  show _ = m ((c : Thread nD τ).loc main_arg2) (ix3 h j0 j1)
  blk_ext [iblk, V, idx t]

theorem headB_at (h : Fin 4) : headB (iblk m c 3 t) h = colB (m ((c : Thread nD τ).loc main_arg3)) h := by
  funext j
  idx_vars j
  rw [Subsingleton.elim j1 0, headB_apply]
  have e : iblk m c 3 t (ix3 h j0 0) = V m c main_v0 (ix3 h j0 0) := by blk_ext [iblk, idx t]
  rw [e]
  entry_read
  pointwise [colB]

theorem headG_at (h : Fin 4) : headG (iblk m c 4 t) h = rowG (m ((c : Thread nD τ).loc main_arg4)) h := by
  funext j
  idx_vars j
  rw [Subsingleton.elim j0 0, headG_apply]
  have e : iblk m c 4 t (ix3 h 0 j1) = V m c main_v1 (ix3 h 0 j1) := by blk_ext [iblk, idx t]
  rw [e]
  entry_read
  pointwise [rowG]

theorem headE_at (h : Fin 4) : headG (iblk m c 5 t) h = rowG (m ((c : Thread nD τ).loc main_arg5)) h := by
  funext j
  idx_vars j
  rw [Subsingleton.elim j0 0, headG_apply]
  have e : iblk m c 5 t (ix3 h 0 j1) = V m c main_v2 (ix3 h 0 j1) := by blk_ext [iblk, idx t]
  rw [e]
  entry_read
  pointwise [rowG]

/-! ## The accumulated results -/

theorem sumChunks (f : Fin 64 → EReal) : ∑ p : Fin cfg0.N, ∑ k : Fin 4, f (chunkOf p k) = ∑ n, f n := by
  rw [Fin.sum_univ_tiles 16 4 rfl f]
  exact Fintype.sum_equiv (finCongr N_0) _ _ fun p => rfl

/-- The first half's chunks. -/
abbrev kU (n : Fin 64) (h : Fin 4) := chunkU (m ((c : Thread nD τ).loc main_arg0)) n h
/-- The second half's chunks. -/
abbrev kV (n : Fin 64) (h : Fin 4) := chunkV (m ((c : Thread nD τ).loc main_arg0)) n h
/-- The incoming gradient's chunks. -/
abbrev kD (n : Fin 64) (h : Fin 4) := chunkD (m ((c : Thread nD τ).loc main_arg1)) n h
/-- The mixing weight's heads. -/
abbrev kW (h : Fin 4) := matW (m ((c : Thread nD τ).loc main_arg2)) h
/-- The mixing bias's heads. -/
abbrev kB (h : Fin 4) := colB (m ((c : Thread nD τ).loc main_arg3)) h
/-- The scale's heads. -/
abbrev kG (h : Fin 4) := rowG (m ((c : Thread nD τ).loc main_arg4)) h
/-- The shift's heads. -/
abbrev kE (h : Fin 4) := rowG (m ((c : Thread nD τ).loc main_arg5)) h

/-- One grid point's part of result 1. -/
def partW (t : Fin cfg0.N) (y : S4x128x128.Idx) : EReal :=
  ∑ k : Fin 4, dW (kG m c (y 0)) (kE m c (y 0)) (kU m c (chunkOf t k) (y 0)) (kV m c (chunkOf t k) (y 0)) (kD m c (chunkOf t k) (y 0)) (ix2 (y 1) (y 2))

theorem newW_at (a : FVec Ideal S4x128x128 .f32) (h : Fin 4) (i j : Fin 128) :
    newW (X0_0 m c t) (iblk m c 1 t) (iblk m c 4 t) (iblk m c 5 t) a h (ix3 0 i j) = a (ix3 h i j) + partW m c t (ix3 h i j) := by
  have e : ∀ y : FVec Ideal S128x128 .f32, shapeCast S1x128x128 y shapeCasts_S128x128_S1x128x128 (ix3 0 i j) = y (ix2 i j) := by
    intro y; pointwise
  unfold newW partW four
  rw [e]
  pointwise [headW_apply, cutU_at, cutV_at, cutD_at, headW_at, headG_at, headE_at]
  rw [Fin.sum_univ_four]
  ac_rfl

theorem finalW : (dats m 0 c).arrAt 7 (cfgs 0).N = fun y : S4x128x128.Idx => ∑ n : Fin 64, dW (kG m c (y 0)) (kE m c (y 0)) (kU m c n (y 0)) (kV m c n (y 0)) (kD m c n (y 0)) (ix2 (y 1) (y 2)) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => (0 : EReal)) (partW m c)
    (fun t h j => ?_) (fun t h j => ?_) (le_of_eq N_0) t0_15 rfl j, zero_add]
  · exact sumChunks (fun n => dW (kG m c (j 0)) (kE m c (j 0)) (kU m c n (j 0)) (kV m c n (j 0)) (kD m c n (j 0)) (ix2 (j 1) (j 2)))
  · idx_vars j
    obtain ⟨L, hL⟩ := blockW_A m c t h
    refine (congrFun hL _).trans ((canonW _ L _ _ _).trans ?_)
    refine (newW_at m c t _ j0 j1 j2).trans ?_
    exact congrArg (· + partW m c t (ix3 j0 j1 j2)) (by pointwise [k0_pay7])
  · idx_vars j
    refine (congrFun (blockW_B m c t h) _).trans ((canonW _ [] _ _ _).trans ?_)
    exact newW_at m c t _ j0 j1 j2

/-- One grid point's part of result 2. -/
def partB (t : Fin cfg0.N) (y : S4x128x1.Idx) : EReal :=
  ∑ k : Fin 4, dB (kU m c (chunkOf t k) (y 0)) (kD m c (chunkOf t k) (y 0)) (ix2 (y 1) 0)

theorem newB_at (a : FVec Ideal S4x128x1 .f32) (h : Fin 4) (i : Fin 128) :
    newB (X0_0 m c t) (iblk m c 1 t) a h (ix3 0 i 0) = a (ix3 h i 0) + partB m c t (ix3 h i 0) := by
  have e : ∀ y : FVec Ideal S128x1 .f32, shapeCast S1x128x1 y shapeCasts_S128x1_S1x128x1 (ix3 0 i 0) = y (ix2 i 0) := by
    intro y; pointwise
  unfold newB partB four
  rw [e]
  pointwise [headB_apply, cutU_at, cutV_at, cutD_at, headW_at, headG_at, headE_at]
  rw [Fin.sum_univ_four]
  ac_rfl

theorem finalB : (dats m 0 c).arrAt 8 (cfgs 0).N = fun y : S4x128x1.Idx => ∑ n : Fin 64, dB (kU m c n (y 0)) (kD m c n (y 0)) (ix2 (y 1) 0) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => (0 : EReal)) (partB m c)
    (fun t h j => ?_) (fun t h j => ?_) (le_of_eq N_0) t0_15 rfl j, zero_add]
  · exact sumChunks (fun n => dB (kU m c n (j 0)) (kD m c n (j 0)) (ix2 (j 1) 0))
  · idx_vars j
    obtain rfl : j2 = 0 := Subsingleton.elim _ _
    obtain ⟨L, hL⟩ := blockB_A m c t h
    refine (congrFun hL _).trans ((canonB _ L _ _ _).trans ?_)
    refine (newB_at m c t _ j0 j1).trans ?_
    exact congrArg (· + partB m c t (ix3 j0 j1 0)) (by pointwise [k0_pay8])
  · idx_vars j
    obtain rfl : j2 = 0 := Subsingleton.elim _ _
    refine (congrFun (blockB_B m c t h) _).trans ((canonB _ [] _ _ _).trans ?_)
    exact newB_at m c t _ j0 j1

/-- One grid point's part of result 3. -/
def partG (t : Fin cfg0.N) (y : S4x1x128.Idx) : EReal :=
  ∑ k : Fin 4, dG (kW m c (y 0)) (kU m c (chunkOf t k) (y 0)) (kV m c (chunkOf t k) (y 0)) (kD m c (chunkOf t k) (y 0)) (ix2 0 (y 2))

theorem newG_at (a : FVec Ideal S4x1x128 .f32) (h : Fin 4) (j : Fin 128) :
    newG (X0_0 m c t) (iblk m c 1 t) (iblk m c 2 t) a h (ix3 0 0 j) = a (ix3 h 0 j) + partG m c t (ix3 h 0 j) := by
  have e : ∀ y : FVec Ideal S1x128 .f32, shapeCast S1x1x128 y shapeCasts_S1x128_S1x1x128 (ix3 0 0 j) = y (ix2 0 j) := by
    intro y; pointwise
  unfold newG partG four
  rw [e]
  pointwise [headG_apply, cutU_at, cutV_at, cutD_at, headW_at, headG_at, headE_at]
  rw [Fin.sum_univ_four]
  ac_rfl

theorem finalG : (dats m 0 c).arrAt 9 (cfgs 0).N = fun y : S4x1x128.Idx => ∑ n : Fin 64, dG (kW m c (y 0)) (kU m c n (y 0)) (kV m c n (y 0)) (kD m c n (y 0)) (ix2 0 (y 2)) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => (0 : EReal)) (partG m c)
    (fun t h j => ?_) (fun t h j => ?_) (le_of_eq N_0) t0_15 rfl j, zero_add]
  · exact sumChunks (fun n => dG (kW m c (j 0)) (kU m c n (j 0)) (kV m c n (j 0)) (kD m c n (j 0)) (ix2 0 (j 2)))
  · idx_vars j
    obtain rfl : j1 = 0 := Subsingleton.elim _ _
    obtain ⟨L, hL⟩ := blockG_A m c t h
    refine (congrFun hL _).trans ((canonG _ L _ _ _).trans ?_)
    refine (newG_at m c t _ j0 j2).trans ?_
    exact congrArg (· + partG m c t (ix3 j0 0 j2)) (by pointwise [k0_pay9])
  · idx_vars j
    obtain rfl : j1 = 0 := Subsingleton.elim _ _
    refine (congrFun (blockG_B m c t h) _).trans ((canonG _ [] _ _ _).trans ?_)
    exact newG_at m c t _ j0 j2

/-- One grid point's part of result 4. -/
def partS (t : Fin cfg0.N) (y : S4x1x128.Idx) : EReal :=
  ∑ k : Fin 4, dS (kW m c (y 0)) (kU m c (chunkOf t k) (y 0)) (kD m c (chunkOf t k) (y 0)) (ix2 0 (y 2))

theorem newS_at (a : FVec Ideal S4x1x128 .f32) (h : Fin 4) (j : Fin 128) :
    newS (X0_0 m c t) (iblk m c 1 t) (iblk m c 2 t) a h (ix3 0 0 j) = a (ix3 h 0 j) + partS m c t (ix3 h 0 j) := by
  have e : ∀ y : FVec Ideal S1x128 .f32, shapeCast S1x1x128 y shapeCasts_S1x128_S1x1x128 (ix3 0 0 j) = y (ix2 0 j) := by
    intro y; pointwise
  unfold newS partS four
  rw [e]
  pointwise [headG_apply, cutU_at, cutV_at, cutD_at, headW_at, headG_at, headE_at]
  rw [Fin.sum_univ_four]
  ac_rfl

theorem finalS : (dats m 0 c).arrAt 10 (cfgs 0).N = fun y : S4x1x128.Idx => ∑ n : Fin 64, dS (kW m c (y 0)) (kU m c n (y 0)) (kD m c n (y 0)) (ix2 0 (y 2)) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => (0 : EReal)) (partS m c)
    (fun t h j => ?_) (fun t h j => ?_) (le_of_eq N_0) t0_15 rfl j, zero_add]
  · exact sumChunks (fun n => dS (kW m c (j 0)) (kU m c n (j 0)) (kD m c n (j 0)) (ix2 0 (j 2)))
  · idx_vars j
    obtain rfl : j1 = 0 := Subsingleton.elim _ _
    obtain ⟨L, hL⟩ := blockS_A m c t h
    refine (congrFun hL _).trans ((canonG _ L _ _ _).trans ?_)
    refine (newS_at m c t _ j0 j2).trans ?_
    exact congrArg (· + partS m c t (ix3 j0 0 j2)) (by pointwise [k0_pay10])
  · idx_vars j
    obtain rfl : j1 = 0 := Subsingleton.elim _ _
    refine (congrFun (blockS_B m c t h) _).trans ((canonG _ [] _ _ _).trans ?_)
    exact newS_at m c t _ j0 j2
end Cert.KernelIdeal.Value
end
-- ==== Proof.Gating.Halves.lean ====
module
public import proofs.«01_k».proof.Proof.Gating.Whole

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ) (c : Dev nD) (t : Fin cfg0.N)

/-! ## The projection's gradient -/

theorem blockP : (outsAt0 m c t.val t.isLt).1
    = View.canon (listP (newU (X0_0 m c t) (iblk m c 1 t) (iblk m c 2 t) (iblk m c 3 t) (iblk m c 4 t) (iblk m c 5 t))
        (newV (X0_0 m c t) (iblk m c 1 t) (iblk m c 2 t) (iblk m c 4 t))) := by
  by_cases h : t.val % 16 = 0
  · exact blockP_A m c t h
  · exact blockP_B m c t h

theorem newU_at (k h : Fin 4) (i j : Fin 128) :
    newU (X0_0 m c t) (iblk m c 1 t) (iblk m c 2 t) (iblk m c 3 t) (iblk m c 4 t) (iblk m c 5 t) k h (ix2 i j)
      = dU (kW m c h) (kB m c h) (kG m c h) (kE m c h) (kU m c (chunkOf t k) h) (kV m c (chunkOf t k) h) (kD m c (chunkOf t k) h) (ix2 i j) := by
  unfold newU
  rw [cutU_at, cutV_at, cutD_at, headW_at, headB_at, headG_at, headE_at]
  rfl

theorem newV_at (k h : Fin 4) (i j : Fin 128) :
    newV (X0_0 m c t) (iblk m c 1 t) (iblk m c 2 t) (iblk m c 4 t) k h (ix2 i j)
      = dV (kW m c h) (kG m c h) (kU m c (chunkOf t k) h) (kV m c (chunkOf t k) h) (kD m c (chunkOf t k) h) (ix2 i j) := by
  unfold newV
  rw [cutU_at, cutV_at, cutD_at, headW_at, headG_at]
  rfl

/-- A row of a block is a row of one of its chunks. -/
theorem row_cases (r : Fin 512) : ∃ k i, r = rowAt k i :=
  ⟨⟨r.val / 128, by omega⟩, ⟨r.val % 128, by omega⟩, Fin.ext (show r.val = 128 * (r.val / 128) + r.val % 128 by omega)⟩

/-- A lane of a block is a lane of one head's first or second half. -/
theorem lane_cases (l : Fin 1024) : (∃ h j, l = laneU h j) ∨ ∃ h j, l = laneV h j := by
  by_cases hl : l.val < 512
  · exact .inl ⟨⟨l.val / 128, by omega⟩, ⟨l.val % 128, by omega⟩, Fin.ext (show l.val = 128 * (l.val / 128) + l.val % 128 by omega)⟩
  · exact .inr ⟨⟨(l.val - 512) / 128, by omega⟩, ⟨(l.val - 512) % 128, by omega⟩,
      Fin.ext (show l.val = 512 + 128 * ((l.val - 512) / 128) + (l.val - 512) % 128 by omega)⟩

theorem final6 (G : FVec Ideal S8192x1024 .bf16)
    (hu : ∀ (n : Fin 64) (h : Fin 4) (r l : Fin 128), G (ix2 ⟨n.val * 128 + r.val, by omega⟩ ⟨h.val * 128 + l.val, by omega⟩)
      = dU (kW m c h) (kB m c h) (kG m c h) (kE m c h) (kU m c n h) (kV m c n h) (kD m c n h) (ix2 r l))
    (hv : ∀ (n : Fin 64) (h : Fin 4) (r l : Fin 128), G (ix2 ⟨n.val * 128 + r.val, by omega⟩ ⟨512 + (h.val * 128 + l.val), by omega⟩)
      = dV (kW m c h) (kG m c h) (kU m c n h) (kV m c n h) (kD m c n h) (ix2 r l)) :
    (dats m 0 c).arrAt 6 (cfgs 0).N = G := by
  refine (dats m 0 c).arrAt_eq_of_covers 6 _ (by decide +kernel) fun t hf y => ?_
  blk_simp
  rw [after0_6, blockP]
  idx_vars y
  obtain ⟨k, i, rfl⟩ := row_cases y0
  rcases lane_cases y1 with ⟨h, j, rfl⟩ | ⟨h, j, rfl⟩
  · refine (canonP_u _ _ k h i j).trans ((newU_at m c t k h i j).trans ((hu (chunkOf t k) h i j).symm.trans ?_))
    blk_ext [idx t, chunkOf, rowAt, laneU]
  · refine (canonP_v _ _ k h i j).trans ((newV_at m c t k h i j).trans ((hv (chunkOf t k) h i j).symm.trans ?_))
    blk_ext [idx t, chunkOf, rowAt, laneV]

end Cert.KernelIdeal.Value
end
-- ==== Proof.Gating.Equal.lean ====
module
public import proofs.«01_k».proof.Proof.Gating.Halves

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.ReferenceIdeal.Value (RES0 RES1 RES2 RES3 RES4)

/-! ## The five results are the reference's, on equal arguments -/

variable (m : (ℓ : Loc nD τ sig) → Buf (Elt Ideal) ℓ) (c : Dev nD)
  (V0 : Valuation Cert.ReferenceIdeal.τ Cert.ReferenceIdeal.sig (Elt Ideal))

/-- The reference's six arguments are the kernel's. -/
structure Same : Prop where
  p : (V0 (Proc.devRef .tc Cert.ReferenceIdeal.main_arg0) : FVec Ideal S8192x2688 .f32) = m ((c : Thread nD τ).loc main_arg0)
  d : (V0 (Proc.devRef .tc Cert.ReferenceIdeal.main_arg1) : FVec Ideal S8192x512 .f32) = m ((c : Thread nD τ).loc main_arg1)
  w : (V0 (Proc.devRef .tc Cert.ReferenceIdeal.main_arg2) : FVec Ideal S4x128x128 .f32) = m ((c : Thread nD τ).loc main_arg2)
  b : (V0 (Proc.devRef .tc Cert.ReferenceIdeal.main_arg3) : FVec Ideal S4x128 .f32) = m ((c : Thread nD τ).loc main_arg3)
  g : (V0 (Proc.devRef .tc Cert.ReferenceIdeal.main_arg4) : FVec Ideal S4x128 .f32) = m ((c : Thread nD τ).loc main_arg4)
  e : (V0 (Proc.devRef .tc Cert.ReferenceIdeal.main_arg5) : FVec Ideal S4x128 .f32) = m ((c : Thread nD τ).loc main_arg5)

variable (s : Same m c V0)
include s

theorem sameU (n : Fin 64) (h : Fin 4) : Cert.ReferenceIdeal.Value.cU V0 n h = kU m c n h := congrArg (chunkU · n h) s.p
theorem sameV (n : Fin 64) (h : Fin 4) : Cert.ReferenceIdeal.Value.cV V0 n h = kV m c n h := congrArg (chunkV · n h) s.p
theorem sameD (n : Fin 64) (h : Fin 4) : Cert.ReferenceIdeal.Value.cD V0 n h = kD m c n h := congrArg (chunkD · n h) s.d
theorem sameW (h : Fin 4) : Cert.ReferenceIdeal.Value.cW V0 h = kW m c h := congrArg (matW · h) s.w
theorem sameB (h : Fin 4) : Cert.ReferenceIdeal.Value.cB V0 h = kB m c h := congrArg (colB · h) s.b
theorem sameG (h : Fin 4) : Cert.ReferenceIdeal.Value.cG V0 h = kG m c h := congrArg (rowG · h) s.g
theorem sameE (h : Fin 4) : Cert.ReferenceIdeal.Value.cE V0 h = kE m c h := congrArg (rowG · h) s.e

theorem equal0 : (dats m 0 c).arrAt 6 (cfgs 0).N = RES0 V0 := by
  refine final6 m c (RES0 V0) (fun n h r l => ?_) (fun n h r l => ?_)
  · refine (Cert.ReferenceIdeal.Value.res0_u V0 n h r l).trans ?_
    rw [sameU m c V0 s, sameV m c V0 s, sameD m c V0 s, sameW m c V0 s, sameB m c V0 s, sameG m c V0 s, sameE m c V0 s]
  · refine (Cert.ReferenceIdeal.Value.res0_v V0 n h r l).trans ?_
    rw [sameU m c V0 s, sameV m c V0 s, sameD m c V0 s, sameW m c V0 s, sameG m c V0 s]

theorem equal1 : (dats m 0 c).arrAt 7 (cfgs 0).N = RES1 V0 := by
  rw [finalW]
  funext y
  idx_vars y
  refine Eq.symm ((Cert.ReferenceIdeal.Value.res1_at V0 y0 y1 y2).trans ?_)
  exact Finset.sum_congr (M := EReal) rfl fun n _ => by
    rw [sameU m c V0 s, sameV m c V0 s, sameD m c V0 s, sameG m c V0 s, sameE m c V0 s]

theorem equal2 : (dats m 0 c).arrAt 8 (cfgs 0).N = RES2 V0 := by
  rw [finalB]
  funext y
  idx_vars y
  obtain rfl : y2 = 0 := Subsingleton.elim _ _
  refine Eq.symm ((Cert.ReferenceIdeal.Value.res2_at V0 y0 y1).trans ?_)
  exact Finset.sum_congr (M := EReal) rfl fun n _ => by
    rw [sameU m c V0 s, sameD m c V0 s]

theorem equal3 : (dats m 0 c).arrAt 9 (cfgs 0).N = RES3 V0 := by
  rw [finalG]
  funext y
  idx_vars y
  obtain rfl : y1 = 0 := Subsingleton.elim _ _
  refine Eq.symm ((Cert.ReferenceIdeal.Value.res3_at V0 y0 y2).trans ?_)
  exact Finset.sum_congr (M := EReal) rfl fun n _ => by
    rw [sameU m c V0 s, sameV m c V0 s, sameD m c V0 s, sameW m c V0 s]

theorem equal4 : (dats m 0 c).arrAt 10 (cfgs 0).N = RES4 V0 := by
  rw [finalS]
  funext y
  idx_vars y
  obtain rfl : y1 = 0 := Subsingleton.elim _ _
  refine Eq.symm ((Cert.ReferenceIdeal.Value.res4_at V0 y0 y2).trans ?_)
  exact Finset.sum_congr (M := EReal) rfl fun n _ => by
    rw [sameU m c V0 s, sameD m c V0 s, sameW m c V0 s]

end Cert.KernelIdeal.Value

namespace Cert.ReferenceIdeal.Value
open Cert.ReferenceIdeal Idealize.ShloMosaic.StableHlo

/-- The reference's run with its five results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143) = RES0 (launchContents m c)
      ∧ r.2.mem ((c.tc : Thread nD τ).loc main_v75) = RES1 (launchContents m c)
      ∧ r.2.mem ((c.tc : Thread nD τ).loc main_v144) = RES2 (launchContents m c)
      ∧ r.2.mem ((c.tc : Thread nD τ).loc main_v145) = RES3 (launchContents m c)
      ∧ r.2.mem ((c.tc : Thread nD τ).loc main_v146) = RES4 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.ReferenceIdeal.Value
end
-- ==== Proof.Conv.Chunk.lean ====
module
public import Idealize.ShloMosaic.Lib.Pipeline.ReadBack
public import Idealize.ShloMosaic.Lib.Pipeline.ValueKit
public import Idealize.ShloMosaic.Lib.Pointwise
public import proofs.«01_k».proof.Proof.Gen.UpGradIdeal.Value

@[expose] public section
set_option maxRecDepth 16384
noncomputable section
open Idealize.ShloMosaic Idealize.ShloMosaic.TcCoe Idealize.SL.Sem
open Idealize.ShloMosaic.Pipeline (Dat)
namespace Cert.UpGradIdeal.Value
open Cert.UpGradIdeal Cert.UpGradIdeal.Gen
variable {F : FTy → Type} [FloatOps F]

/-! ## What one grid point leaves in each output block

The body treats the 5632 lanes in 22 chunks of 256, each with the same arithmetic. Here it is once, as functions
of a chunk of the block of rows, of the row before it and of the row after it. -/

theorem inbD : ∀ k : Fin 22, ∀ a : Fin 2, (![0, 256 * k.val] : Fin 2 → Nat) a + S256x256.size a ≤ S256x5632.size a := by decide
theorem inbP : ∀ k : Fin 22, ∀ a : Fin 2, (![15, 256 * k.val] : Fin 2 → Nat) a + S1x256.size a ≤ S16x5632.size a := by decide
theorem inbN : ∀ k : Fin 22, ∀ a : Fin 2, (![0, 256 * k.val] : Fin 2 → Nat) a + S1x256.size a ≤ S16x5632.size a := by decide
theorem inbC : ∀ r : Fin 3, ∀ k : Fin 22, ∀ a : Fin 2, (![r.val, 256 * k.val] : Fin 2 → Nat) a + S1x256.size a ≤ S3x5632.size a := by decide
theorem inbB : ∀ k : Fin 22, ∀ a : Fin 2, (![0, 256 * k.val] : Fin 2 → Nat) a + S1x256.size a ≤ S1x5632.size a := by decide
theorem inbW : ∀ k : Fin 22, ∀ a : Fin 2, (![0, 256 * k.val] : Fin 2 → Nat) a + S1024x256.size a ≤ S1024x5632.size a := by decide

/-- Chunk `k` of a block of rows. -/
def cutD (x : FVec F S256x5632 .bf16) (k : Fin 22) : FVec F S256x256 .bf16 :=
  View.ld (Val := Elt F) (e' := .bf16) x (Rect.unit (s := S256x5632) ![0, 256 * k.val] S256x256.size (inbD k))
/-- Chunk `k` of the row before the block: the last of the sixteen rows before. -/
def cutP (x : FVec F S16x5632 .bf16) (k : Fin 22) : FVec F S1x256 .bf16 :=
  View.ld (Val := Elt F) (e' := .bf16) x (Rect.unit (s := S16x5632) ![15, 256 * k.val] S1x256.size (inbP k))
/-- Chunk `k` of the row after the block: the first of the sixteen rows after. -/
def cutN (x : FVec F S16x5632 .bf16) (k : Fin 22) : FVec F S1x256 .bf16 :=
  View.ld (Val := Elt F) (e' := .bf16) x (Rect.unit (s := S16x5632) ![0, 256 * k.val] S1x256.size (inbN k))
/-- Chunk `k` of row `r` of the three rows of weights. -/
def cutC (x : FVec F S3x5632 .f32) (r : Fin 3) (k : Fin 22) : FVec F S1x256 .f32 :=
  View.ld (Val := Elt F) (e' := .f32) x (Rect.unit (s := S3x5632) ![r.val, 256 * k.val] S1x256.size (inbC r k))
/-- Chunk `k` of one row. -/
def cutB (x : FVec F S1x5632 .f32) (k : Fin 22) : FVec F S1x256 .f32 :=
  View.ld (Val := Elt F) (e' := .f32) x (Rect.unit (s := S1x5632) ![0, 256 * k.val] S1x256.size (inbB k))
/-- Chunk `k` of the matrix's lanes. -/
def cutW (x : FVec F S1024x5632 .bf16) (k : Fin 22) : FVec F S1024x256 .bf16 :=
  View.ld (Val := Elt F) (e' := .bf16) x (Rect.unit (s := S1024x5632) ![0, 256 * k.val] S1024x256.size (inbW k))

/-- The gradient of chunk `k` of the pre-activation: the incoming gradient's rows after, here and before, weighted. -/
def newD (i : grid0.Coords) (d : FVec F S256x5632 .bf16) (p n : FVec F S16x5632 .bf16) (w : FVec F S3x5632 .f32) (k : Fin 22) :
    FVec F S256x256 .bf16 :=
  k0_pay11 (k0_pay7 (cutD d k)) (k0_pay9 i (cutD d k) (cutP p k)) (k0_pay10 i (cutD d k) (cutN n k)) (cutC w 0 k) (cutC w 1 k) (cutC w 2 k)

/-- Chunk `k` of the three weights' gradients: what was there and this block's part. -/
def newC0 (i : grid0.Coords) (d : FVec F S256x5632 .bf16) (n : FVec F S16x5632 .bf16) (z : FVec F S256x5632 .bf16) (a : FVec F S3x5632 .f32)
    (k : Fin 22) : FVec F S1x256 .f32 :=
  k0_pay12 (k0_pay8 (cutD z k)) (k0_pay10 i (cutD d k) (cutN n k)) (cutC a 0 k)
def newC1 (d : FVec F S256x5632 .bf16) (z : FVec F S256x5632 .bf16) (a : FVec F S3x5632 .f32) (k : Fin 22) : FVec F S1x256 .f32 :=
  k0_pay13 (k0_pay7 (cutD d k)) (k0_pay8 (cutD z k)) (cutC a 1 k)
def newC2 (i : grid0.Coords) (d : FVec F S256x5632 .bf16) (p : FVec F S16x5632 .bf16) (z : FVec F S256x5632 .bf16) (a : FVec F S3x5632 .f32)
    (k : Fin 22) : FVec F S1x256 .f32 :=
  k0_pay14 (k0_pay8 (cutD z k)) (k0_pay9 i (cutD d k) (cutP p k)) (cutC a 2 k)

/-- Chunk `k` of the bias's gradient: what was there and this block's part. -/
def newB (d : FVec F S256x5632 .bf16) (a : FVec F S1x5632 .f32) (k : Fin 22) : FVec F S1x256 .f32 :=
  k0_pay15 (k0_pay7 (cutD d k)) (cutB a k)

/-- The gradient of the normalised rows, from the first chunks of the pre-activation's gradient. -/
def upTo (u : Fin 22 → FVec F S256x256 .bf16) (w : FVec F S1024x5632 .bf16) (L : List (Fin 22)) : FVec F S256x1024 .f32 :=
  L.foldl (fun a k => k0_pay16 a (u k) (cutW w k)) k0_pay6

/-- All chunks but the last, in order. -/
def firsts : List (Fin 22) := [0, 1, 2, 3, 4, 5, 6, 7, 8, 9, 10, 11, 12, 13, 14, 15, 16, 17, 18, 19, 20]
/-- All chunks, the last first: the order of the stores in a list of pieces. -/
def chunks : List (Fin 22) := [21, 20, 19, 18, 17, 16, 15, 14, 13, 12, 11, 10, 9, 8, 7, 6, 5, 4, 3, 2, 1, 0]

/-- The gradient of the rows before the norm, with what the residual stream brings. -/
def newX (u : Fin 22 → FVec F S256x256 .bf16) (w : FVec F S1024x5632 .bf16) (x : FVec F S256x1024 .f32) (g : FVec F S1x1024 .f32)
    (r : FVec F S256x1024 .f32) : FVec F S256x1024 .f32 :=
  k0_pay1 (k0_pay276 x (k0_pay274 (upTo u w firsts) (u 21) (cutW w 21) x g) (k0_pay275 (upTo u w firsts) (u 21) (cutW w 21) x g)
    (Scalar.ofBits .f32 0x44800000#32)) r

/-- The gradient of the norm's scale: what was there and this block's part. -/
def newG (u : Fin 22 → FVec F S256x256 .bf16) (w : FVec F S1024x5632 .bf16) (x : FVec F S256x1024 .f32) (a : FVec F S1x1024 .f32) : FVec F S1x1024 .f32 :=
  k0_pay2 (k0_pay272 (upTo u w firsts) (u 21) (cutW w 21) x) a

/-- The store of chunk `k` of a block of rows. -/
def pieceD (w : Fin 22 → FVec F S256x256 .bf16) (k : Fin 22) : View.Piece (Elt F) S256x5632 .bf16 :=
  ⟨Rect.unit (s := S256x5632) ![0, 256 * k.val] S256x256.size (inbD k), w k⟩
/-- The store of chunk `k` of row `r`. -/
def pieceC (r : Fin 3) (w : Fin 22 → FVec F S1x256 .f32) (k : Fin 22) : View.Piece (Elt F) S3x5632 .f32 :=
  ⟨Rect.unit (s := S3x5632) ![r.val, 256 * k.val] S1x256.size (inbC r k), w k⟩
/-- The store of chunk `k` of one row. -/
def pieceB (w : Fin 22 → FVec F S1x256 .f32) (k : Fin 22) : View.Piece (Elt F) S1x5632 .f32 :=
  ⟨Rect.unit (s := S1x5632) ![0, 256 * k.val] S1x256.size (inbB k), w k⟩

def listD (w : Fin 22 → FVec F S256x256 .bf16) : List (View.Piece (Elt F) S256x5632 .bf16) := chunks.map (pieceD w)
def listB (w : Fin 22 → FVec F S1x256 .f32) : List (View.Piece (Elt F) S1x5632 .f32) := chunks.map (pieceB w)
def listC (w0 w1 w2 : Fin 22 → FVec F S1x256 .f32) : List (View.Piece (Elt F) S3x5632 .f32) :=
  chunks.flatMap fun k => [pieceC 2 w2 k, pieceC 1 w1 k, pieceC 0 w0 k]

variable (m : (ℓ : Loc nD τ sig) → Buf (Elt F) ℓ) (c : Dev nD) (t : Fin cfg0.N)

theorem prevLt : t.val - 1 < cfg0.N := Nat.lt_of_le_of_lt (Nat.sub_le _ _) t.isLt

/-- The pre-activation's gradient at point `t`. -/
abbrev atD : Fin 22 → FVec F S256x256 .bf16 := newD (grid0.coords t) (iblk m c 0 t) (iblk m c 1 t) (iblk m c 2 t) (iblk m c 4 t)

theorem blockD_B (h : ¬ t.val % 32 = 0) : (outsAt0 m c t.val t.isLt).1 = View.canon (listD (atD m c t)) := by
  conv_lhs => rw [outsAt0_B m c t h]
  dsimp only
  frame_out
  rfl

theorem blockD_A (h : t.val % 32 = 0) : (outsAt0 m c t.val t.isLt).1 = View.canon (listD (atD m c t)) := by
  conv_lhs => rw [outsAt0_A m c t h]
  dsimp only
  frame_out
  rfl

theorem blockX_B (h : ¬ t.val % 32 = 0) : (outsAt0 m c t.val t.isLt).2.1
    = newX (atD m c t) (iblk m c 5 t) (iblk m c 6 t) (iblk m c 7 t) (iblk m c 8 t) := by
  conv_lhs => rw [outsAt0_B m c t h]
  dsimp only
  frame_out
  rfl

theorem blockX_A (h : t.val % 32 = 0) : (outsAt0 m c t.val t.isLt).2.1
    = newX (atD m c t) (iblk m c 5 t) (iblk m c 6 t) (iblk m c 7 t) (iblk m c 8 t) := by
  conv_lhs => rw [outsAt0_A m c t h]
  dsimp only
  frame_out
  rfl

theorem blockG_B (h : ¬ t.val % 32 = 0) : (outsAt0 m c t.val t.isLt).2.2.1
    = newG (atD m c t) (iblk m c 5 t) (iblk m c 6 t) (outsAt0 m c (t.val - 1) (prevLt t)).2.2.1 := by
  conv_lhs => rw [outsAt0_B m c t h]
  dsimp only
  frame_out
  rfl

theorem blockG_A (h : t.val % 32 = 0) : (outsAt0 m c t.val t.isLt).2.2.1
    = newG (atD m c t) (iblk m c 5 t) (iblk m c 6 t) k0_pay3 := by
  conv_lhs => rw [outsAt0_A m c t h]
  dsimp only
  frame_out
  rfl

theorem blockB_B (h : ¬ t.val % 32 = 0) : (outsAt0 m c t.val t.isLt).2.2.2.2
    = View.canon (listB (newB (iblk m c 0 t) (outsAt0 m c (t.val - 1) (prevLt t)).2.2.2.2)) := by
  conv_lhs => rw [outsAt0_B m c t h]
  dsimp only
  frame_out
  rfl

theorem blockC_B (h : ¬ t.val % 32 = 0) : (outsAt0 m c t.val t.isLt).2.2.2.1
    = View.canon (listC (newC0 (grid0.coords t) (iblk m c 0 t) (iblk m c 2 t) (iblk m c 3 t) (outsAt0 m c (t.val - 1) (prevLt t)).2.2.2.1)
        (newC1 (iblk m c 0 t) (iblk m c 3 t) (outsAt0 m c (t.val - 1) (prevLt t)).2.2.2.1)
        (newC2 (grid0.coords t) (iblk m c 0 t) (iblk m c 1 t) (iblk m c 3 t) (outsAt0 m c (t.val - 1) (prevLt t)).2.2.2.1)) := by
  conv_lhs => rw [outsAt0_B m c t h]
  dsimp only
  frame_out
  rfl

end Cert.UpGradIdeal.Value
end
-- ==== Proof.Conv.First.lean ====
module
public import proofs.«01_k».proof.Proof.Conv.Chunk
public import Idealize.ShloMosaic.Lib.Pipeline.ReadBack
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.UpGradIdeal.Value
open Cert.UpGradIdeal Cert.UpGradIdeal.Gen
variable {F : FTy → Type} [FloatOps F]
variable (m : (ℓ : Loc nD τ sig) → Buf (Elt F) ℓ) (c : Dev nD) (t : Fin cfg0.N)

/-! ## The accumulated blocks at the first grid point, which starts them from zero -/

theorem blockB_A (h : t.val % 32 = 0) : ∃ L, (outsAt0 m c t.val t.isLt).2.2.2.2
    = View.canon (listB (newB (iblk m c 0 t) k0_pay5) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

theorem blockC_A (h : t.val % 32 = 0) : ∃ L, (outsAt0 m c t.val t.isLt).2.2.2.1
    = View.canon (listC (newC0 (grid0.coords t) (iblk m c 0 t) (iblk m c 2 t) (iblk m c 3 t) k0_pay4)
        (newC1 (iblk m c 0 t) (iblk m c 3 t) k0_pay4)
        (newC2 (grid0.coords t) (iblk m c 0 t) (iblk m c 1 t) (iblk m c 3 t) k0_pay4) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

end Cert.UpGradIdeal.Value
end
-- ==== Proof.Conv.Values.lean ====
module
public import proofs.«01_k».proof.Proof.Conv.First
public import Idealize.ShloMosaic.Lib.Pipeline.ReadBack
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.UpGradIdeal.Value
open Cert.UpGradIdeal Cert.UpGradIdeal.Gen

/-! ## The lists of stores read at an index -/

/-- Lane `s` of chunk `k`. -/
def lane (k : Fin 22) (s : Fin 256) : Fin 5632 := ⟨256 * k.val + s.val, by omega⟩

theorem lane_surj (l : Fin 5632) : ∃ k s, l = lane k s :=
  ⟨⟨l.val / 256, by omega⟩, ⟨l.val % 256, by omega⟩, Fin.ext (show l.val = 256 * (l.val / 256) + l.val % 256 by omega)⟩

/-- The chunk a lane is in. -/
def chunkOf (l : Fin 5632) : Fin 22 := ⟨l.val / 256, by omega⟩
/-- The lane's place in its chunk. -/
def within (l : Fin 5632) : Fin 256 := ⟨l.val % 256, by omega⟩

theorem lane_div (k : Fin 22) (s : Fin 256) : chunkOf (lane k s) = k := Fin.ext (show (256 * k.val + s.val) / 256 = k.val by omega)
theorem lane_mod (k : Fin 22) (s : Fin 256) : within (lane k s) = s := Fin.ext (show (256 * k.val + s.val) % 256 = s.val by omega)

theorem mem_chunks : ∀ k : Fin 22, k ∈ chunks := by decide

section Lists
variable {F : FTy → Type} [FloatOps F]

theorem pieceD_emb (w : Fin 22 → FVec F S256x256 .bf16) (k : Fin 22) (r s : Fin 256) :
    (pieceD w k).1.emb (ix2 r s) = ix2 r (lane k s) := by
  funext a; apply Fin.ext
  match a with
  | ⟨0, _⟩ => show 0 + 1 * r.val = r.val; omega
  | ⟨1, _⟩ => show 256 * k.val + 1 * s.val = 256 * k.val + s.val; omega

theorem pieceB_emb (w : Fin 22 → FVec F S1x256 .f32) (k : Fin 22) (r : Fin 1) (s : Fin 256) :
    (pieceB w k).1.emb (ix2 r s) = ix2 r (lane k s) := by
  funext a; apply Fin.ext
  match a with
  | ⟨0, _⟩ => show 0 + 1 * r.val = r.val; omega
  | ⟨1, _⟩ => show 256 * k.val + 1 * s.val = 256 * k.val + s.val; omega

theorem pieceC_emb (q : Fin 3) (w : Fin 22 → FVec F S1x256 .f32) (k : Fin 22) (r : Fin 1) (s : Fin 256) :
    (pieceC q w k).1.emb (ix2 r s) = ix2 q (lane k s) := by
  funext a; apply Fin.ext
  match a with
  | ⟨0, _⟩ => show q.val + 1 * r.val = q.val; omega
  | ⟨1, _⟩ => show 256 * k.val + 1 * s.val = 256 * k.val + s.val; omega

theorem canonD (w : Fin 22 → FVec F S256x256 .bf16) (k : Fin 22) (r s : Fin 256) :
    View.canon (listD w) (ix2 r (lane k s)) = w k (ix2 r s) := by
  have at_piece : ∀ p ∈ listD w, ∀ x : p.1.shape.Idx, p.2 x
      = (fun y : S256x5632.Idx => w (chunkOf (y 1)) (ix2 (y 0) (within (y 1)))) (p.1.emb x) := by
    intro p hp x
    obtain ⟨k, _, rfl⟩ := List.mem_map.mp hp
    idx_vars x
    rw [pieceD_emb]
    show w k (ix2 x0 x1) = w (chunkOf (lane k x1)) (ix2 x0 (within (lane k x1)))
    rw [lane_div, lane_mod]
  refine (View.canon_apply_of_pieces (fun y : S256x5632.Idx => w (chunkOf (y 1)) (ix2 (y 0) (within (y 1)))) (listD w) at_piece _ ⟨pieceD w k, List.mem_map_of_mem (mem_chunks k), ?_⟩).trans ?_
  · rw [← pieceD_emb w k r s, ← Rect.map_emb_univ]
    exact Finset.mem_map_of_mem _ (Finset.mem_univ _)
  · show w (chunkOf (lane k s)) (ix2 r (within (lane k s))) = _
    rw [lane_div, lane_mod]

theorem canonB (w : Fin 22 → FVec F S1x256 .f32) (L : List (View.Piece (Elt F) S1x5632 .f32)) (k : Fin 22) (s : Fin 256) :
    View.canon (listB w ++ L) (ix2 0 (lane k s)) = w k (ix2 0 s) := by
  have at_piece : ∀ p ∈ listB w, ∀ x : p.1.shape.Idx, p.2 x
      = (fun y : S1x5632.Idx => w (chunkOf (y 1)) (ix2 (y 0) (within (y 1)))) (p.1.emb x) := by
    intro p hp x
    obtain ⟨k, _, rfl⟩ := List.mem_map.mp hp
    idx_vars x
    rw [pieceB_emb]
    show w k (ix2 x0 x1) = w (chunkOf (lane k x1)) (ix2 x0 (within (lane k x1)))
    rw [lane_div, lane_mod]
  refine (View.canon_append_of_pieces (fun y : S1x5632.Idx => w (chunkOf (y 1)) (ix2 (y 0) (within (y 1)))) L (listB w) at_piece _ ⟨pieceB w k, List.mem_map_of_mem (mem_chunks k), ?_⟩).trans ?_
  · rw [← pieceB_emb w k 0 s, ← Rect.map_emb_univ]
    exact Finset.mem_map_of_mem _ (Finset.mem_univ _)
  · show w (chunkOf (lane k s)) (ix2 0 (within (lane k s))) = _
    rw [lane_div, lane_mod]

/-- Row `q` of three. -/
def three {A : Type} (w0 w1 w2 : A) (q : Fin 3) : A := if q.val = 0 then w0 else if q.val = 1 then w1 else w2

theorem mem_listC (w0 w1 w2 : Fin 22 → FVec F S1x256 .f32) (q : Fin 3) (k : Fin 22) :
    pieceC q (three w0 w1 w2 q) k ∈ listC w0 w1 w2 := by
  refine List.mem_flatMap.mpr ⟨k, mem_chunks k, ?_⟩
  match q with
  | 0 => exact List.mem_cons_of_mem _ (List.mem_cons_of_mem _ List.mem_cons_self)
  | 1 => exact List.mem_cons_of_mem _ List.mem_cons_self
  | 2 => exact List.mem_cons_self

theorem of_mem_listC (w0 w1 w2 : Fin 22 → FVec F S1x256 .f32) (p : View.Piece (Elt F) S3x5632 .f32) (hp : p ∈ listC w0 w1 w2) :
    ∃ q k, p = pieceC q (three w0 w1 w2 q) k := by
  obtain ⟨k, _, hp⟩ := List.mem_flatMap.mp hp
  rcases List.mem_cons.mp hp with rfl | hp
  · exact ⟨2, k, rfl⟩
  rcases List.mem_cons.mp hp with rfl | hp
  · exact ⟨1, k, rfl⟩
  rcases List.mem_cons.mp hp with rfl | hp
  · exact ⟨0, k, rfl⟩
  · exact absurd hp List.not_mem_nil

theorem canonC (w0 w1 w2 : Fin 22 → FVec F S1x256 .f32) (L : List (View.Piece (Elt F) S3x5632 .f32)) (q : Fin 3) (k : Fin 22) (s : Fin 256) :
    View.canon (listC w0 w1 w2 ++ L) (ix2 q (lane k s)) = three w0 w1 w2 q k (ix2 0 s) := by
  have at_piece : ∀ p ∈ listC w0 w1 w2, ∀ x : p.1.shape.Idx, p.2 x
      = (fun y : S3x5632.Idx => three w0 w1 w2 (y 0) (chunkOf (y 1)) (ix2 0 (within (y 1)))) (p.1.emb x) := by
    intro p hp x
    obtain ⟨q, k, rfl⟩ := of_mem_listC w0 w1 w2 p hp
    idx_vars x
    rw [pieceC_emb]
    obtain rfl : x0 = 0 := Subsingleton.elim _ _
    show three w0 w1 w2 q k (ix2 0 x1) = three w0 w1 w2 q (chunkOf (lane k x1)) (ix2 0 (within (lane k x1)))
    rw [lane_div, lane_mod]
  refine (View.canon_append_of_pieces (fun y : S3x5632.Idx => three w0 w1 w2 (y 0) (chunkOf (y 1)) (ix2 0 (within (y 1)))) L (listC w0 w1 w2) at_piece _ ⟨_, mem_listC w0 w1 w2 q k, ?_⟩).trans ?_
  · rw [← pieceC_emb q (three w0 w1 w2 q) k 0 s, ← Rect.map_emb_univ]
    exact Finset.mem_map_of_mem _ (Finset.mem_univ _)
  · show three w0 w1 w2 q (chunkOf (lane k s)) (ix2 0 (within (lane k s))) = _
    rw [lane_div, lane_mod]

end Lists

/-! ## The chunk functions at an index -/

theorem cutD_at (d : FVec Ideal S256x5632 .bf16) (k : Fin 22) (r s : Fin 256) : cutD d k (ix2 r s) = d (ix2 r (lane k s)) := by
  pointwise [cutD]
  rfl
theorem cutP_at (d : FVec Ideal S16x5632 .bf16) (k : Fin 22) (s : Fin 256) : cutP d k (ix2 0 s) = d (ix2 15 (lane k s)) := by
  pointwise [cutP]
  rfl
theorem cutN_at (d : FVec Ideal S16x5632 .bf16) (k : Fin 22) (s : Fin 256) : cutN d k (ix2 0 s) = d (ix2 0 (lane k s)) := by
  pointwise [cutN]
  rfl
theorem cutC_at (d : FVec Ideal S3x5632 .f32) (q : Fin 3) (k : Fin 22) (s : Fin 256) : cutC d q k (ix2 0 s) = d (ix2 q (lane k s)) := by
  pointwise [cutC]
  rfl
theorem cutB_at (d : FVec Ideal S1x5632 .f32) (k : Fin 22) (s : Fin 256) : cutB d k (ix2 0 s) = d (ix2 0 (lane k s)) := by
  pointwise [cutB]
  rfl
theorem cutW_at (d : FVec Ideal S1024x5632 .bf16) (k : Fin 22) (j : Fin 1024) (s : Fin 256) : cutW d k (ix2 j s) = d (ix2 j (lane k s)) := by
  pointwise [cutW]
  rfl

theorem sgt_zero : ∀ n : Fin 32, Scalar.cmpi .sgt (BitVec.ofNat 32 n.val) 0#32 = if 0 < n.val then 1#1 else 0#1 := by decide
theorem slt_last : ∀ n : Fin 32, Scalar.cmpi .slt (BitVec.ofNat 32 n.val) 31#32 = if n.val < 31 then 1#1 else 0#1 := by decide
theorem eq_first : ∀ r : Fin 256, IntOp.cmpi .eq (BitVec.ofNat 32 r.val) 0#32 = if r.val = 0 then 1#1 else 0#1 := by decide
theorem eq_last : ∀ r : Fin 256, IntOp.cmpi .eq (BitVec.ofNat 32 r.val) 255#32 = if r.val = 255 then 1#1 else 0#1 := by decide

/-- The row before row `r` of a block: in the block, or the row before the block, or nothing before the first block. -/
theorem below_at (i : grid0.Coords) (d : FVec Ideal S256x256 .bf16) (p : FVec Ideal S1x256 .bf16) (r s : Fin 256) :
    k0_pay9 (F := Ideal) i d p (ix2 r s)
      = if r.val = 0 then (if 0 < (i 0).val then p (ix2 0 s) else (0 : EReal)) else d (ix2 ⟨r.val - 1, by omega⟩ s) := by
  pointwise [k0_pay9, k0_pay7]
  rw [eq_first r, sgt_zero (i 0)]
  by_cases hr : r.val = 0
  · by_cases hi : 0 < (i 0).val
    · rw [if_pos hr, if_pos hi, if_pos hr, if_pos hi]; rfl
    · rw [if_pos hr, if_neg hi, if_pos hr, if_neg hi]; rfl
  · rw [if_neg hr, if_neg hr]
    show d _ = d _
    refine congrArg (fun q : Fin 256 => d (ix2 q s)) (Fin.ext ?_)
    show (r.val + 256 - 1) % 256 = r.val - 1
    omega

/-- The row after row `r` of a block likewise. -/
theorem above_at (i : grid0.Coords) (d : FVec Ideal S256x256 .bf16) (p : FVec Ideal S1x256 .bf16) (r s : Fin 256) :
    k0_pay10 (F := Ideal) i d p (ix2 r s)
      = if h : r.val = 255 then (if (i 0).val < 31 then p (ix2 0 s) else (0 : EReal)) else d (ix2 ⟨r.val + 1, by omega⟩ s) := by
  pointwise [k0_pay10, k0_pay7]
  rw [eq_last r, slt_last (i 0)]
  by_cases hr : r.val = 255
  · by_cases hi : (i 0).val < 31
    · rw [if_pos hr, if_pos hi, dif_pos hr, if_pos hi]; rfl
    · rw [if_pos hr, if_neg hi, dif_pos hr, if_neg hi]; rfl
  · rw [if_neg hr, dif_neg hr]
    show d _ = d _
    refine congrArg (fun q : Fin 256 => d (ix2 q s)) (Fin.ext ?_)
    show (r.val + 256 - 255) % 256 = r.val + 1
    omega

/-! ## The normalised rows' gradient -/

theorem zero_at (j : S256x1024.Idx) : k0_pay6 (F := Ideal) j = 0 := by pointwise [k0_pay6]

theorem step_at (a : FVec Ideal S256x1024 .f32) (u : FVec Ideal S256x256 .bf16) (w : FVec Ideal S1024x256 .bf16) (r : Fin 256) (j : Fin 1024) :
    k0_pay16 a u w (ix2 r j) = a (ix2 r j) + ∑ s : Fin 256, u (ix2 r s) * w (ix2 j s) := by pointwise [k0_pay16]

theorem fold_at (u : Fin 22 → FVec Ideal S256x256 .bf16) (w : FVec Ideal S1024x5632 .bf16) (r : Fin 256) (j : Fin 1024) :
    ∀ (L : List (Fin 22)) (a : FVec Ideal S256x1024 .f32), (L.foldl (fun a k => k0_pay16 a (u k) (cutW w k)) a) (ix2 r j)
      = a (ix2 r j) + (L.map fun k => (∑ s : Fin 256, u k (ix2 r s) * w (ix2 j (lane k s)) : EReal)).sum
  | [], a => (add_zero (M := EReal) _).symm
  | k :: L, a => by
    rw [List.foldl_cons, fold_at u w r j L, step_at, List.map_cons, List.sum_cons, add_assoc (G := EReal)]
    congr 2
    exact Finset.sum_congr (M := EReal) rfl fun s _ => by rw [cutW_at]

/-- The whole fold: every chunk's products. -/
theorem all_at (u : Fin 22 → FVec Ideal S256x256 .bf16) (w : FVec Ideal S1024x5632 .bf16) (r : Fin 256) (j : Fin 1024) :
    k0_pay269 (upTo u w firsts) (u 21) (cutW w 21) (ix2 r j) = ∑ k : Fin 22, ∑ s : Fin 256, (u k (ix2 r s) * w (ix2 j (lane k s)) : EReal) := by
  have e : k0_pay269 (upTo u w firsts) (u 21) (cutW w 21) = (firsts ++ [21]).foldl (fun a k => k0_pay16 a (u k) (cutW w k)) k0_pay6 := by
    rw [List.foldl_append]; rfl
  rw [e, fold_at, zero_at, zero_add, Fin.sum_univ_def]
  rfl

end Cert.UpGradIdeal.Value
end
-- ==== Proof.Conv.Rows.lean ====
module
public import proofs.«01_k».proof.Proof.Conv.Values
public import Idealize.ShloMosaic.Lib.Pipeline.ReadBack
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.UpGradIdeal.Value
open Cert.UpGradIdeal Cert.UpGradIdeal.Gen

/-! ## The results as functions of whole arrays -/

/-- The incoming gradient at the row before. -/
def before (Z : FVec Ideal S8192x5632 .bf16) (r : Fin 8192) (l : Fin 5632) : EReal :=
  if r.val = 0 then 0 else Z (ix2 ⟨r.val - 1, by omega⟩ l)

/-- The incoming gradient at the row after. -/
def after (Z : FVec Ideal S8192x5632 .bf16) (r : Fin 8192) (l : Fin 5632) : EReal :=
  if h : r.val + 1 < 8192 then Z (ix2 ⟨r.val + 1, h⟩ l) else 0

/-- The pre-activation's gradient. -/
def preGrad (Z : FVec Ideal S8192x5632 .bf16) (w : FVec Ideal S3x5632 .f32) (r : Fin 8192) (l : Fin 5632) : EReal :=
  after Z r l * w (ix2 0 l) + Z (ix2 r l) * w (ix2 1 l) + before Z r l * w (ix2 2 l)

/-- The normalised rows' gradient. -/
def rowGrad (Z : FVec Ideal S8192x5632 .bf16) (w : FVec Ideal S3x5632 .f32) (W : FVec Ideal S1024x5632 .bf16) (r : Fin 8192) (j : Fin 1024) : EReal :=
  ∑ l : Fin 5632, preGrad Z w r l * W (ix2 j l)

/-- The mean square of a row and the small constant. -/
def meanSq (x : Fin 1024 → EReal) : EReal :=
  Ideal.div (∑ j : Fin 1024, x j * x j) (Ideal.ofBits FTy.f32 1149239296#32) + Ideal.ofBits FTy.f32 897988541#32

/-- The coefficient with which a row enters its own gradient through its mean square. -/
def coeff (x g d : Fin 1024 → EReal) : EReal :=
  ∑ _u : Fin 1, Ideal.div ((∑ j : Fin 1024, x j * (d j * g j)) * (Ideal.ofBits FTy.f32 3204448256#32 * Ideal.div (Ideal.rsqrt (meanSq x)) (meanSq x)))
    (Ideal.ofBits FTy.f32 1149239296#32)

/-- A row's gradient through the norm, and what the residual stream brings. -/
def normGrad (x g d : Fin 1024 → EReal) (e : EReal) (j : Fin 1024) : EReal :=
  e + (d j * g j * Ideal.rsqrt (meanSq x) + x j * coeff x g d + coeff x g d * x j)

/-- A row's part of the scale's gradient. -/
def scalePart (x d : Fin 1024 → EReal) (j : Fin 1024) : EReal := x j * Ideal.rsqrt (meanSq x) * d j

variable (m : (ℓ : Loc nD τ sig) → Buf (Elt Ideal) ℓ) (c : Dev nD)

/-- The arguments. -/
abbrev aZ : FVec Ideal S8192x5632 .bf16 := m ((c : Thread nD τ).loc main_arg0)
abbrev aX : FVec Ideal S8192x1024 .f32 := m ((c : Thread nD τ).loc main_arg1)
abbrev aW : FVec Ideal S1024x5632 .bf16 := m ((c : Thread nD τ).loc main_arg3)
abbrev aC : FVec Ideal S3x5632 .f32 := m ((c : Thread nD τ).loc main_arg4)
abbrev aR : FVec Ideal S8192x1024 .f32 := m ((c : Thread nD τ).loc main_arg5)
/-- The two operands the host computes: the pre-activation and the scale as a row. -/
abbrev hU : FVec Ideal S8192x5632 .bf16 := V m c main_v15
abbrev hG : FVec Ideal S1x1024 .f32 := V m c main_v16

theorem idx : ∀ t : Fin cfg0.N, win0_0.index t = ![t.val, 0] ∧ win0_1.index t = ![16 * t.val - 1, 0] ∧ win0_2.index t = ![min (16 * (t.val + 1)) 511, 0]
    ∧ win0_3.index t = ![t.val, 0] ∧ win0_4.index t = ![0, 0] ∧ win0_5.index t = ![0, 0] ∧ win0_6.index t = ![t.val, 0] ∧ win0_7.index t = ![0, 0]
    ∧ win0_8.index t = ![t.val, 0] ∧ win0_9.index t = ![t.val, 0] ∧ win0_10.index t = ![t.val, 0] ∧ win0_11.index t = ![0, 0]
    ∧ win0_12.index t = ![0, 0] ∧ win0_13.index t = ![0, 0] :=
  (by decide +kernel : ∀ t : Fin grid0.N, _)

theorem coord : ∀ t : Fin cfg0.N, (grid0.coords t 0).val = t.val := (by decide +kernel : ∀ t : Fin grid0.N, _)

theorem lt32 (t : Fin cfg0.N) : t.val < 32 := lt_of_lt_of_eq t.isLt N_0

/-- Row `r` of block `t`. -/
def row (t : Fin cfg0.N) (r : Fin 256) : Fin 8192 := ⟨t.val * 256 + r.val, by have := lt32 t; omega⟩

theorem in0 (t : Fin cfg0.N) (r : Fin 256) (l : Fin 5632) : (show FVec Ideal S256x5632 .bf16 from iblk m c 0 t) (ix2 r l) = aZ m c (ix2 (row t r) l) := by
  blk_point [iblk, V, idx t]
  rfl
theorem in1 (t : Fin cfg0.N) (h : 0 < t.val) (l : Fin 5632) : (show FVec Ideal S16x5632 .bf16 from iblk m c 1 t) (ix2 15 l) = aZ m c (ix2 ⟨t.val * 256 - 1, by have := lt32 t; omega⟩ l) := by
  blk_point [iblk, V, idx t]
theorem in2 (t : Fin cfg0.N) (h : t.val < 31) (l : Fin 5632) : (show FVec Ideal S16x5632 .bf16 from iblk m c 2 t) (ix2 0 l) = aZ m c (ix2 ⟨t.val * 256 + 256, by omega⟩ l) := by
  blk_point [iblk, V, idx t]
theorem in3 (t : Fin cfg0.N) (r : Fin 256) (l : Fin 5632) : (show FVec Ideal S256x5632 .bf16 from iblk m c 3 t) (ix2 r l) = hU m c (ix2 (row t r) l) := by
  blk_point [iblk, V, idx t]
  rfl
theorem in4 (t : Fin cfg0.N) (q : Fin 3) (l : Fin 5632) : (show FVec Ideal S3x5632 .f32 from iblk m c 4 t) (ix2 q l) = aC m c (ix2 q l) := by
  blk_point [iblk, V, idx t]
theorem in5 (t : Fin cfg0.N) (j : Fin 1024) (l : Fin 5632) : (show FVec Ideal S1024x5632 .bf16 from iblk m c 5 t) (ix2 j l) = aW m c (ix2 j l) := by
  blk_point [iblk, V, idx t]
theorem in6 (t : Fin cfg0.N) (r : Fin 256) (j : Fin 1024) : (show FVec Ideal S256x1024 .f32 from iblk m c 6 t) (ix2 r j) = aX m c (ix2 (row t r) j) := by
  blk_point [iblk, V, idx t]
  rfl
theorem in7 (t : Fin cfg0.N) (j : Fin 1024) : (show FVec Ideal S1x1024 .f32 from iblk m c 7 t) (ix2 0 j) = hG m c (ix2 0 j) := by
  blk_point [iblk, V, idx t]
theorem in8 (t : Fin cfg0.N) (r : Fin 256) (j : Fin 1024) : (show FVec Ideal S256x1024 .f32 from iblk m c 8 t) (ix2 r j) = aR m c (ix2 (row t r) j) := by
  blk_point [iblk, V, idx t]
  rfl

/-! ## Block `t` of each result -/

theorem below_row (t : Fin cfg0.N) (k : Fin 22) (r s : Fin 256) :
    k0_pay9 (F := Ideal) (grid0.coords t) (cutD (F := Ideal) (iblk m c 0 t) k) (cutP (F := Ideal) (iblk m c 1 t) k) (ix2 r s) = before (aZ m c) (row t r) (lane k s) := by
  rw [below_at, coord t, cutP_at]
  unfold before
  by_cases hr : r.val = 0
  · rw [if_pos hr]
    by_cases ht : 0 < t.val
    · rw [if_pos ht, if_neg (show ¬ (row t r).val = 0 by show ¬ t.val * 256 + r.val = 0; omega)]
      refine (in1 m c t ht _).trans (congrArg (fun q : Fin 8192 => aZ m c (ix2 q (lane k s))) (Fin.ext ?_))
      show t.val * 256 - 1 = t.val * 256 + r.val - 1
      omega
    · rw [if_neg ht, if_pos (show (row t r).val = 0 by show t.val * 256 + r.val = 0; omega)]
  · rw [if_neg hr, if_neg (show ¬ (row t r).val = 0 by show ¬ t.val * 256 + r.val = 0; omega), cutD_at]
    refine (in0 m c t _ _).trans (congrArg (fun q : Fin 8192 => aZ m c (ix2 q (lane k s))) (Fin.ext ?_))
    show t.val * 256 + (r.val - 1) = t.val * 256 + r.val - 1
    omega

theorem above_row (t : Fin cfg0.N) (k : Fin 22) (r s : Fin 256) :
    k0_pay10 (F := Ideal) (grid0.coords t) (cutD (F := Ideal) (iblk m c 0 t) k) (cutN (F := Ideal) (iblk m c 2 t) k) (ix2 r s) = after (aZ m c) (row t r) (lane k s) := by
  have h32 := lt32 t
  rw [above_at, coord t, cutN_at]
  unfold after
  by_cases hr : r.val = 255
  · rw [dif_pos hr]
    by_cases ht : t.val < 31
    · rw [if_pos ht, dif_pos (show (row t r).val + 1 < 8192 by show t.val * 256 + r.val + 1 < 8192; omega)]
      refine (in2 m c t ht _).trans (congrArg (fun q : Fin 8192 => aZ m c (ix2 q (lane k s))) (Fin.ext ?_))
      show t.val * 256 + 256 = t.val * 256 + r.val + 1
      omega
    · rw [if_neg ht, dif_neg (show ¬ (row t r).val + 1 < 8192 by show ¬ t.val * 256 + r.val + 1 < 8192; omega)]
  · rw [dif_neg hr, dif_pos (show (row t r).val + 1 < 8192 by show t.val * 256 + r.val + 1 < 8192; omega), cutD_at]
    refine (in0 m c t _ _).trans (congrArg (fun q : Fin 8192 => aZ m c (ix2 q (lane k s))) (Fin.ext ?_))
    show t.val * 256 + (r.val + 1) = t.val * 256 + r.val + 1
    omega

theorem weigh_at (d dn up : FVec Ideal S256x256 .f32) (p q w : FVec Ideal S1x256 .f32) (r s : Fin 256) :
    (show EReal from k0_pay11 (F := Ideal) d dn up p q w (ix2 r s)) = up (ix2 r s) * p (ix2 0 s) + d (ix2 r s) * q (ix2 0 s) + dn (ix2 r s) * w (ix2 0 s) := by
  pointwise [k0_pay11]

theorem wide_at (d : FVec Ideal S256x256 .bf16) (r s : Fin 256) : k0_pay7 (F := Ideal) d (ix2 r s) = (show EReal from d (ix2 r s)) := by pointwise [k0_pay7]
theorem wideU_at (d : FVec Ideal S256x256 .bf16) (r s : Fin 256) : k0_pay8 (F := Ideal) d (ix2 r s) = (show EReal from d (ix2 r s)) := by pointwise [k0_pay8]

theorem preGrad_row (t : Fin cfg0.N) (k : Fin 22) (r s : Fin 256) :
    (show EReal from atD m c t k (ix2 r s)) = preGrad (aZ m c) (aC m c) (row t r) (lane k s) := by
  refine (weigh_at _ _ _ _ _ _ r s).trans ?_
  rw [below_row, above_row, wide_at, cutC_at, cutC_at, cutC_at, cutD_at]
  unfold preGrad
  rw [← in0, ← in4 m c t 0, ← in4 m c t 1, ← in4 m c t 2]

theorem rowGrad_row (t : Fin cfg0.N) (r : Fin 256) (j : Fin 1024) :
    k0_pay269 (F := Ideal) (upTo (atD m c t) (iblk m c 5 t) firsts) (atD m c t 21) (cutW (F := Ideal) (iblk m c 5 t) 21) (ix2 r j)
      = rowGrad (aZ m c) (aC m c) (aW m c) (row t r) j := by
  rw [all_at]
  unfold rowGrad
  refine Fin.sum_mul_add_congr fun k s hl => ?_
  have e : lane k s = ⟨k.val * 256 + s.val, hl⟩ := Fin.ext (show 256 * k.val + s.val = k.val * 256 + s.val by omega)
  rw [← e]
  exact congrArg₂ (fun a b : EReal => a * b) (preGrad_row m c t k r s) (in5 m c t j _)

end Cert.UpGradIdeal.Value
end
-- ==== Proof.Conv.Results.lean ====
module
public import proofs.«01_k».proof.Proof.Conv.Rows
public import Idealize.ShloMosaic.Lib.Pipeline.ReadBack
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.UpGradIdeal.Value
open Cert.UpGradIdeal Cert.UpGradIdeal.Gen
variable (m : (ℓ : Loc nD τ sig) → Buf (Elt Ideal) ℓ) (c : Dev nD)

/-! ## The two results stored block by block -/

theorem blockD (t : Fin cfg0.N) : (outsAt0 m c t.val t.isLt).1 = View.canon (listD (atD m c t)) := by
  by_cases h : t.val % 32 = 0
  · exact blockD_A m c t h
  · exact blockD_B m c t h

theorem blockX (t : Fin cfg0.N) : (outsAt0 m c t.val t.isLt).2.1
    = newX (atD m c t) (iblk m c 5 t) (iblk m c 6 t) (iblk m c 7 t) (iblk m c 8 t) := by
  by_cases h : t.val % 32 = 0
  · exact blockX_A m c t h
  · exact blockX_B m c t h

theorem outD (t : Fin cfg0.N) (r : Fin 256) (l : Fin 5632) :
    (show EReal from (outsAt0 m c t.val t.isLt).1 (ix2 r l)) = preGrad (aZ m c) (aC m c) (row t r) l := by
  obtain ⟨k, s, rfl⟩ := lane_surj l
  rw [blockD, canonD]
  exact preGrad_row m c t k r s

/-- The norm's gradient in one block, in terms of the gradient of its normalised rows. -/
theorem newX_at (a : FVec Ideal S256x1024 .f32) (u : FVec Ideal S256x256 .bf16) (w : FVec Ideal S1024x256 .bf16) (x : FVec Ideal S256x1024 .f32)
    (g : FVec Ideal S1x1024 .f32) (e : FVec Ideal S256x1024 .f32) (r : Fin 256) (j : Fin 1024) :
    k0_pay1 (k0_pay276 x (k0_pay274 a u w x g) (k0_pay275 a u w x g) (Scalar.ofBits .f32 0x44800000#32)) e (ix2 r j)
      = normGrad (fun i => x (ix2 r i)) (fun i => g (ix2 0 i)) (fun i => k0_pay269 a u w (ix2 r i)) (e (ix2 r j)) j := by
  pointwise [k0_pay1, k0_pay276, k0_pay275, k0_pay274, k0_pay273, k0_pay271, k0_pay270]
  rfl

theorem newG_at (a : FVec Ideal S256x1024 .f32) (u : FVec Ideal S256x256 .bf16) (w : FVec Ideal S1024x256 .bf16) (x : FVec Ideal S256x1024 .f32)
    (e : FVec Ideal S1x1024 .f32) (j : Fin 1024) :
    k0_pay2 (k0_pay272 a u w x) e (ix2 0 j)
      = e (ix2 0 j) + ∑ r : Fin 256, scalePart (fun i => x (ix2 r i)) (fun i => k0_pay269 a u w (ix2 r i)) j := by
  pointwise [k0_pay2, k0_pay272, k0_pay271, k0_pay270]
  rfl

theorem rowX (t : Fin cfg0.N) (r : Fin 256) :
    (fun i => (show FVec Ideal S256x1024 .f32 from iblk m c 6 t) (ix2 r i)) = fun i => aX m c (ix2 (row t r) i) := funext fun i => in6 m c t r i
theorem rowG (t : Fin cfg0.N) :
    (fun i => (show FVec Ideal S1x1024 .f32 from iblk m c 7 t) (ix2 0 i)) = fun i => hG m c (ix2 0 i) := funext fun i => in7 m c t i
theorem rowD (t : Fin cfg0.N) (r : Fin 256) :
    (fun i => k0_pay269 (F := Ideal) (upTo (atD m c t) (iblk m c 5 t) firsts) (atD m c t 21) (cutW (F := Ideal) (iblk m c 5 t) 21) (ix2 r i))
      = fun i => rowGrad (aZ m c) (aC m c) (aW m c) (row t r) i := funext fun i => rowGrad_row m c t r i

theorem outX (t : Fin cfg0.N) (r : Fin 256) (j : Fin 1024) :
    (outsAt0 m c t.val t.isLt).2.1 (ix2 r j)
      = normGrad (fun i => aX m c (ix2 (row t r) i)) (fun i => hG m c (ix2 0 i)) (rowGrad (aZ m c) (aC m c) (aW m c) (row t r)) (aR m c (ix2 (row t r) j)) j := by
  rw [blockX]
  refine (newX_at _ _ _ _ _ _ r j).trans ?_
  rw [rowD, rowX, rowG]
  exact congrArg (fun e : EReal => normGrad _ _ _ e j) (in8 m c t r j)

/-- The rows' gradient as a function of whole arrays. -/
def resX (r : Fin 8192) (j : Fin 1024) : EReal :=
  normGrad (fun i => aX m c (ix2 r i)) (fun i => hG m c (ix2 0 i)) (rowGrad (aZ m c) (aC m c) (aW m c) r) (aR m c (ix2 r j)) j

theorem finalD (y : S8192x5632.Idx) : (show EReal from (dats m 0 c).arrAt 9 (cfgs 0).N y) = preGrad (aZ m c) (aC m c) (y 0) (y 1) := by
  have e : (dats m 0 c).arrAt 9 (cfgs 0).N = fun y : S8192x5632.Idx => (preGrad (aZ m c) (aC m c) (y 0) (y 1) : EReal) := by
    refine (dats m 0 c).arrAt_eq_of_covers 9 _ (by decide +kernel) fun t hf y => ?_
    blk_simp
    rw [after0_9]
    idx_vars y
    refine (outD m c t y0 y1).trans ?_
    have read : ∀ G : FVec Ideal S8192x5632 .f32, G (ix2 (row t y0) y1) = G (((cfg0.win 9).blk t).view.emb (ix2 y0 y1)) := fun G => by
      blk_point [idx t]
      rfl
    exact read fun z => preGrad (aZ m c) (aC m c) (z 0) (z 1)
  exact congrFun e y

theorem finalX (y : S8192x1024.Idx) : (show EReal from (dats m 0 c).arrAt 10 (cfgs 0).N y) = resX m c (y 0) (y 1) := by
  have e : (dats m 0 c).arrAt 10 (cfgs 0).N = fun y : S8192x1024.Idx => (resX m c (y 0) (y 1) : EReal) := by
    refine (dats m 0 c).arrAt_eq_of_covers 10 _ (by decide +kernel) fun t hf y => ?_
    blk_simp
    rw [after0_10]
    idx_vars y
    refine (outX m c t y0 y1).trans ?_
    have read : ∀ G : FVec Ideal S8192x1024 .f32, G (ix2 (row t y0) y1) = G (((cfg0.win 10).blk t).view.emb (ix2 y0 y1)) := fun G => by
      blk_point [idx t]
      rfl
    exact read fun z => resX m c (z 0) (z 1)
  exact congrFun e y

/-! ## The three results summed over the blocks of rows -/

theorem zeroG (j : S1x1024.Idx) : k0_pay3 (F := Ideal) j = 0 := by pointwise [k0_pay3]
theorem zeroC (j : S3x5632.Idx) : k0_pay4 (F := Ideal) j = 0 := by pointwise [k0_pay4]
theorem zeroB (j : S1x5632.Idx) : k0_pay5 (F := Ideal) j = 0 := by pointwise [k0_pay5]

/-- Block `t`'s part of the scale's gradient, of the weights' and of the bias's. -/
def partG (t : Fin cfg0.N) (y : S1x1024.Idx) : EReal :=
  ∑ r : Fin 256, scalePart (fun i => aX m c (ix2 (row t r) i)) (rowGrad (aZ m c) (aC m c) (aW m c) (row t r)) (y 1)
/-- The factor a row of the weights' gradient puts to the pre-activation. -/
def shifted (Z : FVec Ideal S8192x5632 .bf16) (q : Fin 3) (r : Fin 8192) (l : Fin 5632) : EReal :=
  three (after Z r l) (Z (ix2 r l)) (before Z r l) q
def partC (t : Fin cfg0.N) (y : S3x5632.Idx) : EReal :=
  ∑ r : Fin 256, hU m c (ix2 (row t r) (y 1)) * shifted (aZ m c) (y 0) (row t r) (y 1)
def partB (t : Fin cfg0.N) (y : S1x5632.Idx) : EReal := ∑ r : Fin 256, aZ m c (ix2 (row t r) (y 1))

theorem newG_row (t : Fin cfg0.N) (e : FVec Ideal S1x1024 .f32) (y : S1x1024.Idx) :
    newG (atD m c t) (iblk m c 5 t) (iblk m c 6 t) e y = e y + partG m c t y := by
  idx_vars y
  obtain rfl : y0 = 0 := Subsingleton.elim _ _
  refine (newG_at _ _ _ _ e y1).trans (congrArg (fun x : EReal => e (ix2 0 y1) + x) (Finset.sum_congr (M := EReal) rfl fun r _ => ?_))
  rw [rowD, rowX]
  rfl

theorem newB_at (d : FVec Ideal S256x5632 .bf16) (a : FVec Ideal S1x5632 .f32) (k : Fin 22) (s : Fin 256) :
    newB d a k (ix2 0 s) = a (ix2 0 (lane k s)) + ∑ r : Fin 256, (d (ix2 r (lane k s)) : EReal) := by
  pointwise [newB, k0_pay15, k0_pay7, cutD, cutB]
  rfl

theorem newC0_at (i : grid0.Coords) (d : FVec Ideal S256x5632 .bf16) (n : FVec Ideal S16x5632 .bf16) (z : FVec Ideal S256x5632 .bf16)
    (a : FVec Ideal S3x5632 .f32) (k : Fin 22) (s : Fin 256) : newC0 i d n z a k (ix2 0 s)
      = a (ix2 0 (lane k s)) + ∑ r : Fin 256, z (ix2 r (lane k s)) * (k0_pay10 (F := Ideal) i (cutD d k) (cutN n k) (ix2 r s) : EReal) := by
  unfold newC0
  pointwise [k0_pay12, k0_pay8]
  rw [cutC_at]
  exact congrArg (fun x : EReal => a (ix2 0 (lane k s)) + x) (Finset.sum_congr (M := EReal) rfl fun r _ => by rw [cutD_at])

theorem newC2_at (i : grid0.Coords) (d : FVec Ideal S256x5632 .bf16) (n : FVec Ideal S16x5632 .bf16) (z : FVec Ideal S256x5632 .bf16)
    (a : FVec Ideal S3x5632 .f32) (k : Fin 22) (s : Fin 256) : newC2 i d n z a k (ix2 0 s)
      = a (ix2 2 (lane k s)) + ∑ r : Fin 256, z (ix2 r (lane k s)) * (k0_pay9 (F := Ideal) i (cutD d k) (cutP n k) (ix2 r s) : EReal) := by
  unfold newC2
  pointwise [k0_pay14, k0_pay8]
  rw [cutC_at]
  exact congrArg (fun x : EReal => a (ix2 2 (lane k s)) + x) (Finset.sum_congr (M := EReal) rfl fun r _ => by rw [cutD_at])

theorem newC1_at (d : FVec Ideal S256x5632 .bf16) (z : FVec Ideal S256x5632 .bf16)
    (a : FVec Ideal S3x5632 .f32) (k : Fin 22) (s : Fin 256) : newC1 d z a k (ix2 0 s)
      = a (ix2 1 (lane k s)) + ∑ r : Fin 256, (z (ix2 r (lane k s)) * d (ix2 r (lane k s)) : EReal) := by
  unfold newC1
  pointwise [k0_pay13, k0_pay7, k0_pay8]
  rw [cutC_at]
  exact congrArg (fun x : EReal => a (ix2 1 (lane k s)) + x) (Finset.sum_congr (M := EReal) rfl fun r _ => by rw [cutD_at, cutD_at])

/-- One point's store of the bias's gradient: what was there and the block's part. -/
theorem storeB (t : Fin cfg0.N) (a : FVec Ideal S1x5632 .f32) (L : List (View.Piece (Elt Ideal) S1x5632 .f32)) (y : S1x5632.Idx) :
    View.canon (listB (newB (iblk m c 0 t) a) ++ L) y = (a y + partB m c t y : EReal) := by
  idx_vars y
  obtain rfl : y0 = 0 := Subsingleton.elim _ _
  obtain ⟨k, s, rfl⟩ := lane_surj y1
  rw [canonB]
  refine (newB_at _ a k s).trans (congrArg (fun x : EReal => a (ix2 0 (lane k s)) + x) (Finset.sum_congr (M := EReal) rfl fun r _ => ?_))
  exact in0 m c t r _

theorem storeC (t : Fin cfg0.N) (a : FVec Ideal S3x5632 .f32) (L : List (View.Piece (Elt Ideal) S3x5632 .f32)) (y : S3x5632.Idx) :
    View.canon (listC (newC0 (grid0.coords t) (iblk m c 0 t) (iblk m c 2 t) (iblk m c 3 t) a) (newC1 (iblk m c 0 t) (iblk m c 3 t) a)
        (newC2 (grid0.coords t) (iblk m c 0 t) (iblk m c 1 t) (iblk m c 3 t) a) ++ L) y = (a y + partC m c t y : EReal) := by
  idx_vars y
  obtain ⟨k, s, rfl⟩ := lane_surj y1
  rw [canonC]
  match y0 with
  | 0 =>
    refine (newC0_at _ _ _ _ a k s).trans (congrArg (fun x : EReal => a (ix2 0 (lane k s)) + x) (Finset.sum_congr (M := EReal) rfl fun r _ => ?_))
    exact congrArg₂ (fun a b : EReal => a * b) (in3 m c t r _) (above_row m c t k r s)
  | 1 =>
    refine (newC1_at _ _ a k s).trans (congrArg (fun x : EReal => a (ix2 1 (lane k s)) + x) (Finset.sum_congr (M := EReal) rfl fun r _ => ?_))
    exact congrArg₂ (fun a b : EReal => a * b) (in3 m c t r _) (in0 m c t r _)
  | 2 =>
    refine (newC2_at _ _ _ _ a k s).trans (congrArg (fun x : EReal => a (ix2 2 (lane k s)) + x) (Finset.sum_congr (M := EReal) rfl fun r _ => ?_))
    exact congrArg₂ (fun a b : EReal => a * b) (in3 m c t r _) (below_row m c t k r s)

theorem sumG (t : Fin cfg0.N) (h : t.val % 32 = 31) (y : S1x1024.Idx) :
    (outsAt0 m c t.val t.isLt).2.2.1 y = ∑ s : Fin 32, partG m c ⟨32 * (t.val / 32) + s.val, Pipeline.run_point_lt_of_flush t h s⟩ y := by
  rw [Pipeline.eq_sum_fin_of_reset_step_apply_of_flush (fun n h => (outsAt0 m c n h).2.2.1) 32 (fun _ => (0 : EReal))
    (partG m c) (fun t h j => ?_) (fun t h j => ?_) t h y, zero_add]
  · exact (congrFun (blockG_A m c t h) j).trans ((newG_row m c t _ j).trans (by rw [zeroG]))
  · exact (congrFun (blockG_B m c t h) j).trans (newG_row m c t _ j)

theorem sumC (t : Fin cfg0.N) (h : t.val % 32 = 31) (y : S3x5632.Idx) :
    (outsAt0 m c t.val t.isLt).2.2.2.1 y = ∑ s : Fin 32, partC m c ⟨32 * (t.val / 32) + s.val, Pipeline.run_point_lt_of_flush t h s⟩ y := by
  rw [Pipeline.eq_sum_fin_of_reset_step_apply_of_flush (fun n h => (outsAt0 m c n h).2.2.2.1) 32 (fun _ => (0 : EReal))
    (partC m c) (fun t h j => ?_) (fun t h j => ?_) t h y, zero_add]
  · obtain ⟨L, e⟩ := blockC_A m c t h
    exact (congrFun e j).trans ((storeC m c t _ L j).trans (by rw [zeroC]))
  · exact (congrFun (blockC_B m c t h) j).trans ((congrArg (fun l => View.canon l j) (List.append_nil _).symm).trans (storeC m c t _ [] j))

theorem sumB (t : Fin cfg0.N) (h : t.val % 32 = 31) (y : S1x5632.Idx) :
    (outsAt0 m c t.val t.isLt).2.2.2.2 y = ∑ s : Fin 32, partB m c ⟨32 * (t.val / 32) + s.val, Pipeline.run_point_lt_of_flush t h s⟩ y := by
  rw [Pipeline.eq_sum_fin_of_reset_step_apply_of_flush (fun n h => (outsAt0 m c n h).2.2.2.2) 32 (fun _ => (0 : EReal))
    (partB m c) (fun t h j => ?_) (fun t h j => ?_) t h y, zero_add]
  · obtain ⟨L, e⟩ := blockB_A m c t h
    exact (congrFun e j).trans ((storeB m c t _ L j).trans (by rw [zeroB]))
  · exact (congrFun (blockB_B m c t h) j).trans ((congrArg (fun l => View.canon l j) (List.append_nil _).symm).trans (storeB m c t _ [] j))

theorem row_run (t : Fin cfg0.N) (h : t.val % 32 = 31) (s : Fin 32) (r : Fin 256) (hl : s.val * 256 + r.val < 8192) :
    row ⟨32 * (t.val / 32) + s.val, Pipeline.run_point_lt_of_flush t h s⟩ r = ⟨s.val * 256 + r.val, hl⟩ := by
  have h32 := lt32 t
  refine Fin.ext ?_
  show (32 * (t.val / 32) + s.val) * 256 + r.val = s.val * 256 + r.val
  rw [show t.val / 32 = 0 by omega]
  omega

/-- The scale's gradient, the weights' and the bias's, as functions of whole arrays. -/
def resG (j : Fin 1024) : EReal := ∑ r : Fin 8192, scalePart (fun i => aX m c (ix2 r i)) (rowGrad (aZ m c) (aC m c) (aW m c) r) j
def resC (q : Fin 3) (l : Fin 5632) : EReal := ∑ r : Fin 8192, hU m c (ix2 r l) * shifted (aZ m c) q r l
def resB (l : Fin 5632) : EReal := ∑ r : Fin 8192, aZ m c (ix2 r l)

theorem finalG (y : S1x1024.Idx) : (show EReal from (dats m 0 c).arrAt 11 (cfgs 0).N y) = resG m c (y 1) := by
  have e : (dats m 0 c).arrAt 11 (cfgs 0).N = fun y : S1x1024.Idx => (resG m c (y 1) : EReal) := by
    refine (dats m 0 c).arrAt_eq_of_covers 11 _ (by decide +kernel) fun t hf y => ?_
    have h := (flush0_11 t).mp hf
    blk_simp
    rw [after0_11, sumG m c t h]
    idx_vars y
    refine (Fin.sum_mul_add_congr (f := fun r : Fin 8192 => scalePart (fun i => aX m c (ix2 r i)) (rowGrad (aZ m c) (aC m c) (aW m c) r) y1)
      fun s r hl => by rw [row_run t h s r hl]; rfl).trans (congrArg (resG m c) (Fin.ext ?_))
    blk_point [idx t]
  exact congrFun e y

theorem finalC (y : S3x5632.Idx) : (show EReal from (dats m 0 c).arrAt 12 (cfgs 0).N y) = resC m c (y 0) (y 1) := by
  have e : (dats m 0 c).arrAt 12 (cfgs 0).N = fun y : S3x5632.Idx => (resC m c (y 0) (y 1) : EReal) := by
    refine (dats m 0 c).arrAt_eq_of_covers 12 _ (by decide +kernel) fun t hf y => ?_
    have h := (flush0_12 t).mp hf
    blk_simp
    rw [after0_12, sumC m c t h]
    idx_vars y
    refine (Fin.sum_mul_add_congr (f := fun r : Fin 8192 => (hU m c (ix2 r y1) * shifted (aZ m c) y0 r y1 : EReal))
      fun s r hl => by rw [row_run t h s r hl]; rfl).trans (congrArg₂ (resC m c) (Fin.ext ?_) (Fin.ext ?_))
    · blk_point [idx t]
    · blk_point [idx t]
  exact congrFun e y

theorem finalB (y : S1x5632.Idx) : (show EReal from (dats m 0 c).arrAt 13 (cfgs 0).N y) = resB m c (y 1) := by
  have e : (dats m 0 c).arrAt 13 (cfgs 0).N = fun y : S1x5632.Idx => (resB m c (y 1) : EReal) := by
    refine (dats m 0 c).arrAt_eq_of_covers 13 _ (by decide +kernel) fun t hf y => ?_
    have h := (flush0_13 t).mp hf
    blk_simp
    rw [after0_13, sumB m c t h]
    idx_vars y
    refine (Fin.sum_mul_add_congr (f := fun r : Fin 8192 => (aZ m c (ix2 r y1) : EReal))
      fun s r hl => by rw [row_run t h s r hl]; rfl).trans (congrArg (resB m c) (Fin.ext ?_))
    blk_point [idx t]
  exact congrFun e y

end Cert.UpGradIdeal.Value
end
-- ==== Proof.Conv.Reference.lean ====
module
public import Idealize.ShloMosaic.Lib.Pipeline.ReadBack
public import Idealize.ShloMosaic.Lib.Pipeline.ValueKit
public import Idealize.ShloMosaic.Lib.Pointwise
public import proofs.«01_k».proof.Proof.Gen.UpGradRefIdeal.Run

@[expose] public section
set_option maxRecDepth 16384
noncomputable section
open Idealize.ShloMosaic Idealize.ShloMosaic.TcCoe Idealize.SL.Sem
namespace Cert.UpGradRefIdeal.Value
open Cert.UpGradRefIdeal Cert.UpGradRefIdeal.Gen Idealize.ShloMosaic.StableHlo

/-! ## The reference's results, part by part -/

/-- The pre-activation's gradient. -/
def PRE (z : FVec Ideal S8192x5632 .bf16) (cw : FVec Ideal S3x5632 .f32) : FVec Ideal S8192x5632 .f32 :=
  shapeCast S8192x5632 (extractStridedSlice S1x8192x5632 ![0, 1, 0] (addf (addf (pad S1x8194x5632 ![0, 2, 0] ![0, 0, 0] ![0, 0, 0] (mulf (broadcastInDim S1x8192x5632 ![1, 2] bcast_S8192x5632_S1x8192x5632_1_2 (extf .f32 z bitsLt_bf16_f32)) (broadcastInDim S1x8192x5632 ![0, 1, 2] bcast_S1x1x5632_S1x8192x5632_0_1_2 (broadcastInDim S1x1x5632 ![2] bcast_S5632_S1x1x5632_2 (shapeCast _ (extractStridedSlice S1x5632 ![2, 0] cw slices_S3x5632_S1x5632_2_0) shapeCasts_S1x5632_S5632)))) (constant (F := Ideal) S_ .f32 0x00000000#32) pads_S1x8192x5632_S1x8194x5632_000_200_000 h_S_) (pad S1x8194x5632 ![0, 1, 0] ![0, 1, 0] ![0, 0, 0] (mulf (broadcastInDim S1x8192x5632 ![1, 2] bcast_S8192x5632_S1x8192x5632_1_2 (extf .f32 z bitsLt_bf16_f32)) (broadcastInDim S1x8192x5632 ![0, 1, 2] bcast_S1x1x5632_S1x8192x5632_0_1_2 (broadcastInDim S1x1x5632 ![2] bcast_S5632_S1x1x5632_2 (shapeCast _ (extractStridedSlice S1x5632 ![1, 0] cw slices_S3x5632_S1x5632_1_0) shapeCasts_S1x5632_S5632)))) (constant (F := Ideal) S_ .f32 0x00000000#32) pads_S1x8192x5632_S1x8194x5632_000_110_000 h_S_)) (pad S1x8194x5632 ![0, 0, 0] ![0, 2, 0] ![0, 0, 0] (mulf (broadcastInDim S1x8192x5632 ![1, 2] bcast_S8192x5632_S1x8192x5632_1_2 (extf .f32 z bitsLt_bf16_f32)) (broadcastInDim S1x8192x5632 ![0, 1, 2] bcast_S1x1x5632_S1x8192x5632_0_1_2 (broadcastInDim S1x1x5632 ![2] bcast_S5632_S1x1x5632_2 (shapeCast _ (extractStridedSlice S1x5632 ![0, 0] cw slices_S3x5632_S1x5632_0_0) shapeCasts_S1x5632_S5632)))) (constant (F := Ideal) S_ .f32 0x00000000#32) pads_S1x8192x5632_S1x8194x5632_000_020_000 h_S_)) slices_S1x8194x5632_S1x8192x5632_0_1_0) shapeCasts_S1x8192x5632_S8192x5632

/-- The normalised rows' gradient. -/
def DH (z : FVec Ideal S8192x5632 .bf16) (w : FVec Ideal S1024x5632 .bf16) (cw : FVec Ideal S3x5632 .f32) : FVec Ideal S8192x1024 .f32 :=
  Host.dotGeneral (φ₁ := .f32) (φ₂ := .f32) dot_S8192x5632_S1024x5632_S8192x1024_1_1_0_0_n_n none (PRE z cw) (extf .f32 w bitsLt_bf16_f32)

/-- Each row's mean square and the small constant. -/
def MSQ (x : FVec Ideal S8192x1024 .f32) : FVec Ideal S8192x1 .f32 :=
  addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

/-- The pre-activation. -/
def HID (x : FVec Ideal S8192x1024 .f32) (g : FVec Ideal S1024 .f32) (w : FVec Ideal S1024x5632 .bf16) : FVec Ideal S8192x5632 .f32 :=
  Host.dotGeneral (φ₁ := .f32) (φ₂ := .f32) dot_S8192x1024_S1024x5632_S8192x5632_1_0_0_1_n_n none (mulf (mulf x (broadcastInDim S8192x1024 ![0, 1] bcast_S8192x1_S8192x1024_0_1 (Host.rsqrt (MSQ x)))) (broadcastInDim S8192x1024 ![0, 1] bcast_S1x1024_S8192x1024_0_1 (broadcastInDim S1x1024 ![1] bcast_S1024_S1x1024_1 g))) (extf .f32 w bitsLt_bf16_f32)

/-- The pre-activation between two rows of zeros. -/
def PAD (x : FVec Ideal S8192x1024 .f32) (g : FVec Ideal S1024 .f32) (w : FVec Ideal S1024x5632 .bf16) : FVec Ideal S1x8194x5632 .f32 :=
  (concatenate S1x8194x5632 1 [⟨S1x1x5632, ((broadcastInDim S1x1x5632 ![] bcast_S_S1x1x5632 (constant (F := Ideal) S_ .f32 0x00000000#32)) : (⟨S1x1x5632, .f32⟩ : BufTy).Contents (Elt Ideal))⟩, ⟨S1x8192x5632, ((broadcastInDim S1x8192x5632 ![1, 2] bcast_S8192x5632_S1x8192x5632_1_2 (HID x g w)) : (⟨S1x8192x5632, .f32⟩ : BufTy).Contents (Elt Ideal))⟩, ⟨S1x1x5632, ((broadcastInDim S1x1x5632 ![] bcast_S_S1x1x5632 (constant (F := Ideal) S_ .f32 0x00000000#32)) : (⟨S1x1x5632, .f32⟩ : BufTy).Contents (Elt Ideal))⟩] concatenates_S1x1x5632_S1x8192x5632_S1x1x5632_S1x8194x5632_d1 : (⟨S1x8194x5632, .f32⟩ : BufTy).Contents (Elt Ideal))

/-- Each row's coefficient in its own gradient. -/
def QCO (z : FVec Ideal S8192x5632 .bf16) (x : FVec Ideal S8192x1024 .f32) (g : FVec Ideal S1024 .f32) (w : FVec Ideal S1024x5632 .bf16) (cw : FVec Ideal S3x5632 .f32) : FVec Ideal S8192 .f32 :=
  Host.reduceAdd (Host.divf (mulf (shapeCast _ (Host.reduceAdd (mulf x (mulf (DH z w cw) (broadcastInDim S8192x1024 ![0, 1] bcast_S1x1024_S8192x1024_0_1 (broadcastInDim S1x1024 ![1] bcast_S1024_S1x1024_1 g)))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (MSQ x)) (MSQ x)))) (broadcastInDim S8192x1 ![] bcast_S_S8192x1 (constant (F := Ideal) S_ .f32 0x44800000#32))) (constant (F := Ideal) S_ .f32 0x00000000#32) reducesTo_S8192x1_S8192_d1 h_S_

/-- The reference's result 0 of its arguments. -/
def RES0 (z : FVec Ideal S8192x5632 .bf16) (cw : FVec Ideal S3x5632 .f32) : FVec Ideal S8192x5632 .bf16 :=
  truncf .bf16 (PRE z cw) bitsLt_bf16_f32

/-- The reference's result 1 of its arguments. -/
def RES1 (z : FVec Ideal S8192x5632 .bf16) (x : FVec Ideal S8192x1024 .f32) (g : FVec Ideal S1024 .f32) (w : FVec Ideal S1024x5632 .bf16) (cw : FVec Ideal S3x5632 .f32) (res : FVec Ideal S8192x1024 .f32) : FVec Ideal S8192x1024 .f32 :=
  addf res (addf (addf (mulf (mulf (DH z w cw) (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (MSQ x)))) (mulf x (broadcastInDim S8192x1024 ![0] bcast_S8192_S8192x1024_0 (QCO z x g w cw)))) (mulf (broadcastInDim S8192x1024 ![0] bcast_S8192_S8192x1024_0 (QCO z x g w cw)) x))

/-- The reference's result 2 of its arguments. -/
def RES2 (z : FVec Ideal S8192x5632 .bf16) (x : FVec Ideal S8192x1024 .f32) (w : FVec Ideal S1024x5632 .bf16) (cw : FVec Ideal S3x5632 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt (MSQ x)))) (DH z w cw)) (constant (F := Ideal) S_ .f32 0x00000000#32) reducesTo_S8192x1024_S1024_d0 h_S_) shapeCasts_S1024_S1x1024) (constant (F := Ideal) S_ .f32 0x00000000#32) reducesTo_S1x1024_S1024_d0 h_S_)

/-- The reference's result 3 of its arguments. -/
def RES3 (z : FVec Ideal S8192x5632 .bf16) (x : FVec Ideal S8192x1024 .f32) (g : FVec Ideal S1024 .f32) (w : FVec Ideal S1024x5632 .bf16) : FVec Ideal S3x5632 .f32 :=
  addf (addf (pad S3x5632 ![2, 0] ![0, 0] ![0, 0] (broadcastInDim S1x5632 ![1] bcast_S5632_S1x5632_1 (Host.reduceAdd (shapeCast _ (Host.reduceAdd (mulf (extractStridedSlice S1x8192x5632 ![0, 2, 0] (PAD x g w) slices_S1x8194x5632_S1x8192x5632_0_2_0) (broadcastInDim S1x8192x5632 ![1, 2] bcast_S8192x5632_S1x8192x5632_1_2 (extf .f32 z bitsLt_bf16_f32))) (constant (F := Ideal) S_ .f32 0x00000000#32) reducesTo_S1x8192x5632_S1x5632_d1 h_S_) shapeCasts_S1x5632_S1x1x5632) (constant (F := Ideal) S_ .f32 0x00000000#32) reducesTo_S1x1x5632_S5632_d0_1 h_S_)) (constant (F := Ideal) S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf (extractStridedSlice S1x8192x5632 ![0, 1, 0] (PAD x g w) slices_S1x8194x5632_S1x8192x5632_0_1_0) (broadcastInDim S1x8192x5632 ![1, 2] bcast_S8192x5632_S1x8192x5632_1_2 (extf .f32 z bitsLt_bf16_f32))) (constant (F := Ideal) S_ .f32 0x00000000#32) reducesTo_S1x8192x5632_S1x5632_d1 h_S_) shapeCasts_S1x5632_S1x1x5632) (constant (F := Ideal) S_ .f32 0x00000000#32) reducesTo_S1x1x5632_S5632_d0_1 h_S_)) (constant (F := Ideal) S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf (extractStridedSlice S1x8192x5632 ![0, 0, 0] (PAD x g w) slices_S1x8194x5632_S1x8192x5632_0_0_0) (broadcastInDim S1x8192x5632 ![1, 2] bcast_S8192x5632_S1x8192x5632_1_2 (extf .f32 z bitsLt_bf16_f32))) (constant (F := Ideal) S_ .f32 0x00000000#32) reducesTo_S1x8192x5632_S1x5632_d1 h_S_) shapeCasts_S1x5632_S1x1x5632) (constant (F := Ideal) S_ .f32 0x00000000#32) reducesTo_S1x1x5632_S5632_d0_1 h_S_)) (constant (F := Ideal) S_ .f32 0x00000000#32) pads_S1x5632_S3x5632_020_000 h_S_)

/-- The reference's result 4 of its arguments. -/
def RES4 (z : FVec Ideal S8192x5632 .bf16) : FVec Ideal S1x5632 .f32 :=
  broadcastInDim S1x5632 ![1] bcast_S5632_S1x5632_1 (Host.reduceAdd (shapeCast _ (Host.reduceAdd (broadcastInDim S1x8192x5632 ![1, 2] bcast_S8192x5632_S1x8192x5632_1_2 (extf .f32 z bitsLt_bf16_f32)) (constant (F := Ideal) S_ .f32 0x00000000#32) reducesTo_S1x8192x5632_S1x5632_d1 h_S_) shapeCasts_S1x5632_S1x1x5632) (constant (F := Ideal) S_ .f32 0x00000000#32) reducesTo_S1x1x5632_S5632_d0_1 h_S_)

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = RES0 (m ((c.tc : Thread nD τ).loc main_arg0)) (m ((c.tc : Thread nD τ).loc main_arg4))
      ∧ r.2.mem ((c.tc : Thread nD τ).loc main_v110) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v111) = RES2 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v80) = RES3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v112) = RES4 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.UpGradRefIdeal.Value
end
-- ==== Proof.Conv.Equal.lean ====
module
public import proofs.«01_k».proof.Proof.Conv.Results
public import proofs.«01_k».proof.Proof.Conv.Reference
public import Idealize.ShloMosaic.Lib.Pipeline.ReadBack
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.UpGradRefIdeal.Value
open Cert.UpGradRefIdeal Cert.UpGradRefIdeal.Gen
open Cert.UpGradIdeal.Value (before after preGrad rowGrad meanSq coeff normGrad scalePart shifted)

/-! ## The reference's parts at an index -/

/-- A reduction over two leading axes of one entry reads the one entry. -/
theorem unit_reduce (h : (⟨3, ![1, 1, 5632]⟩ : Shape).ReducesTo [0, 1] S5632) (v : (⟨3, ![1, 1, 5632]⟩ : Shape).Idx → EReal) (l : Fin 5632) :
    Ideal.hostReduceAdd h v 0 (ix1 l) = v (ix3 0 0 l) := by
  have e : ∀ i : (⟨3, ![1, 1, 5632]⟩ : Shape).Idx, h.drop i = ix1 l ↔ ∃ k : Unit, (fun _ : Unit => ix3 0 0 l) k = i := by
    intro i
    constructor
    · intro e
      refine ⟨(), ?_⟩
      funext a; apply Fin.ext
      match a with
      | ⟨0, _⟩ => exact congrArg Fin.val (Subsingleton.elim (0 : Fin 1) (i 0))
      | ⟨1, _⟩ => exact congrArg Fin.val (Subsingleton.elim (0 : Fin 1) (i 1))
      | ⟨2, _⟩ => exact (congrArg Fin.val (congrFun e 0)).symm
    · rintro ⟨k, rfl⟩
      funext b
      apply Fin.ext
      match b with
      | ⟨0, _⟩ => rfl
  have f := Finset.sum_filter_eq_sum_of_fiber _ (fun _ : Unit => ix3 0 0 l) (fun _ _ _ => rfl) e v
  refine (congrArg (fun s : EReal => 0 + s) f).trans ?_
  rw [zero_add]
  exact Fintype.sum_unique _

theorem pre_at (z : FVec Ideal S8192x5632 .bf16) (cw : FVec Ideal S3x5632 .f32) (r : Fin 8192) (l : Fin 5632) : PRE z cw (ix2 r l) = preGrad z cw r l := by
  pointwise [PRE]
  unfold preGrad before after
  have hb : (if h : 2 ≤ 1 + r.val ∧ 1 + r.val - 2 < 8192 then (z (ix2 ⟨1 + r.val - 2, h.2⟩ l) * cw (ix2 2 l) : EReal) else 0)
      = (if r.val = 0 then (0 : EReal) else z (ix2 ⟨r.val - 1, by omega⟩ l)) * cw (ix2 2 l) := by
    by_cases hr : r.val = 0
    · rw [if_pos hr, dif_neg (by omega), zero_mul]
    · rw [if_neg hr, dif_pos ⟨by omega, by omega⟩]
      have e : (⟨1 + r.val - 2, by omega⟩ : Fin 8192) = ⟨r.val - 1, by omega⟩ := Fin.ext (show 1 + r.val - 2 = r.val - 1 by omega)
      rw [e]
  have ha : (if h : 1 + r.val < 8192 then (z (ix2 ⟨1 + r.val, h⟩ l) * cw (ix2 0 l) : EReal) else 0)
      = (if h : r.val + 1 < 8192 then (z (ix2 ⟨r.val + 1, h⟩ l) : EReal) else 0) * cw (ix2 0 l) := by
    by_cases hr : r.val + 1 < 8192
    · rw [dif_pos hr, dif_pos (by omega)]
      have e : (⟨1 + r.val, by omega⟩ : Fin 8192) = ⟨r.val + 1, by omega⟩ := Fin.ext (show 1 + r.val = r.val + 1 by omega)
      rw [e]
    · rw [dif_neg hr, dif_neg (by omega), zero_mul]
  refine (congrArg₂ (fun a b : EReal => a + z (ix2 r l) * cw (ix2 1 l) + b) hb ha).trans ?_
  exact (add_right_comm (G := EReal) _ _ _).trans ((congrArg (fun s : EReal => s + _) (add_comm (G := EReal) _ _)).trans (add_right_comm (G := EReal) _ _ _))

theorem dh_at (z : FVec Ideal S8192x5632 .bf16) (w : FVec Ideal S1024x5632 .bf16) (cw : FVec Ideal S3x5632 .f32) (r : Fin 8192) (j : Fin 1024) :
    DH z w cw (ix2 r j) = rowGrad z cw w r j := by
  pointwise [DH]
  exact Finset.sum_congr (M := EReal) rfl fun l _ => congrArg (fun s : EReal => s * w (ix2 j l)) (pre_at z cw r l)

theorem res0_at (z : FVec Ideal S8192x5632 .bf16) (cw : FVec Ideal S3x5632 .f32) (r : Fin 8192) (l : Fin 5632) :
    (show EReal from RES0 z cw (ix2 r l)) = preGrad z cw r l := by
  refine Eq.trans ?_ (pre_at z cw r l)
  pointwise [RES0]

theorem res1_at (z : FVec Ideal S8192x5632 .bf16) (x : FVec Ideal S8192x1024 .f32) (g : FVec Ideal S1024 .f32) (w : FVec Ideal S1024x5632 .bf16)
    (cw : FVec Ideal S3x5632 .f32) (res : FVec Ideal S8192x1024 .f32) (r : Fin 8192) (j : Fin 1024) :
    (show EReal from RES1 z x g w cw res (ix2 r j))
      = normGrad (fun i => x (ix2 r i)) (fun i => g (ix1 i)) (rowGrad z cw w r) (res (ix2 r j)) j := by
  pointwise [RES1, QCO, MSQ]
  simp only [dh_at]
  rfl

theorem res2_at (z : FVec Ideal S8192x5632 .bf16) (x : FVec Ideal S8192x1024 .f32) (w : FVec Ideal S1024x5632 .bf16)
    (cw : FVec Ideal S3x5632 .f32) (j : Fin 1024) :
    (show EReal from RES2 z x w cw (ix2 0 j)) = ∑ r : Fin 8192, scalePart (fun i => x (ix2 r i)) (rowGrad z cw w r) j := by
  pointwise [RES2, MSQ]
  simp only [dh_at]
  refine (Fintype.sum_unique _).trans ?_
  rfl

theorem res4_at (z : FVec Ideal S8192x5632 .bf16) (l : Fin 5632) : (show EReal from RES4 z (ix2 0 l)) = ∑ r : Fin 8192, z (ix2 r l) := by
  pointwise [RES4]
  refine (unit_reduce _ _ l).trans ?_
  pointwise []

/-- A sum of products with the rows of one factor moved by one. -/
theorem sum_moved (n : Nat) (f g : Fin (n + 1) → EReal) :
    (∑ r : Fin (n + 1), f r * (if h : r.val + 1 < n + 1 then g ⟨r.val + 1, h⟩ else 0))
      = ∑ r : Fin (n + 1), (if r.val = 0 then 0 else f ⟨r.val - 1, by omega⟩) * g r := by
  rw [Fin.sum_univ_castSucc, Fin.sum_univ_succ]
  rw [dif_neg (by simp), if_pos (by simp), mul_zero, zero_mul, add_zero, zero_add]
  refine Finset.sum_congr rfl fun i _ => ?_
  rw [dif_pos (show i.castSucc.val + 1 < n + 1 by simp [i.isLt]), if_neg (by simp)]
  rfl

theorem pad_at (x : FVec Ideal S8192x1024 .f32) (g : FVec Ideal S1024 .f32) (w : FVec Ideal S1024x5632 .bf16) (r : Fin 8194) (l : Fin 5632) :
    (show EReal from PAD x g w (ix3 0 r l)) = if h : r.val < 1 then 0 else if h : r.val - 1 < 8192 then HID x g w (ix2 ⟨r.val - 1, h⟩ l) else 0 := by
  pointwise [PAD]

theorem res3_at0 (z : FVec Ideal S8192x5632 .bf16) (x : FVec Ideal S8192x1024 .f32) (g : FVec Ideal S1024 .f32) (w : FVec Ideal S1024x5632 .bf16) (l : Fin 5632) :
    (show EReal from RES3 z x g w (ix2 0 l)) = ∑ r : Fin 8192, HID x g w (ix2 r l) * shifted z 0 r l := by
  pointwise [RES3]
  refine (unit_reduce _ _ l).trans ?_
  pointwise []
  refine Eq.trans (Finset.sum_congr (M := EReal) rfl fun r _ => ?_) (sum_moved 8191 (fun r => HID x g w (ix2 r l)) (fun r => z (ix2 r l))).symm
  refine congrArg (fun s : EReal => s * z (ix2 r l)) ((pad_at x g w _ l).trans ?_)
  by_cases h : r.val = 0
  · rw [if_pos h, dif_pos (show r.val < 1 by omega)]
  · rw [if_neg h, dif_neg (show ¬ r.val < 1 by omega), dif_pos (show r.val - 1 < 8192 by omega)]

theorem res3_at1 (z : FVec Ideal S8192x5632 .bf16) (x : FVec Ideal S8192x1024 .f32) (g : FVec Ideal S1024 .f32) (w : FVec Ideal S1024x5632 .bf16) (l : Fin 5632) :
    (show EReal from RES3 z x g w (ix2 1 l)) = ∑ r : Fin 8192, HID x g w (ix2 r l) * shifted z 1 r l := by
  pointwise [RES3]
  refine (unit_reduce _ _ l).trans ?_
  pointwise []
  refine Finset.sum_congr (M := EReal) rfl fun r _ => ?_
  refine congrArg (fun s : EReal => s * z (ix2 r l)) ((pad_at x g w _ l).trans ?_)
  rw [dif_neg (show ¬ 1 + r.val < 1 by omega), dif_pos (show 1 + r.val - 1 < 8192 by omega)]
  exact congrArg (fun i => HID x g w (ix2 i l)) (Fin.ext (show 1 + r.val - 1 = r.val by omega))

theorem res3_at2 (z : FVec Ideal S8192x5632 .bf16) (x : FVec Ideal S8192x1024 .f32) (g : FVec Ideal S1024 .f32) (w : FVec Ideal S1024x5632 .bf16) (l : Fin 5632) :
    (show EReal from RES3 z x g w (ix2 2 l)) = ∑ r : Fin 8192, HID x g w (ix2 r l) * shifted z 2 r l := by
  pointwise [RES3]
  refine (unit_reduce _ _ l).trans ?_
  pointwise []
  refine Eq.trans (Finset.sum_congr (M := EReal) rfl fun r _ => ?_) ((sum_moved 8191 (fun r => z (ix2 r l)) (fun r => HID x g w (ix2 r l))).trans
    (Finset.sum_congr (M := EReal) rfl fun r _ => mul_comm (G := EReal) _ _))
  refine (mul_comm (G := EReal) _ _).trans (congrArg (fun s : EReal => z (ix2 r l) * s) ((pad_at x g w _ l).trans ?_))
  rw [dif_neg (show ¬ 2 + r.val < 1 by omega)]
  by_cases h : r.val + 1 < 8192
  · rw [dif_pos (show r.val + 1 < 8191 + 1 from h), dif_pos (show 2 + r.val - 1 < 8192 by omega)]
    exact congrArg (fun i => HID x g w (ix2 i l)) (Fin.ext (show 2 + r.val - 1 = r.val + 1 by omega))
  · rw [dif_neg (show ¬ r.val + 1 < 8191 + 1 from h), dif_neg (show ¬ 2 + r.val - 1 < 8192 by omega)]

theorem res3_at (z : FVec Ideal S8192x5632 .bf16) (x : FVec Ideal S8192x1024 .f32) (g : FVec Ideal S1024 .f32) (w : FVec Ideal S1024x5632 .bf16) (q : Fin 3) (l : Fin 5632) :
    (show EReal from RES3 z x g w (ix2 q l)) = ∑ r : Fin 8192, HID x g w (ix2 r l) * shifted z q r l := by
  match q with
  | 0 => exact res3_at0 z x g w l
  | 1 => exact res3_at1 z x g w l
  | 2 => exact res3_at2 z x g w l

end Cert.UpGradRefIdeal.Value
namespace Cert.UpGradIdeal.Value
open Cert.UpGradIdeal Cert.UpGradIdeal.Gen
open Cert.UpGradRefIdeal.Value (RES0 RES1 RES2 RES3 RES4 HID MSQ res0_at res1_at res2_at res3_at res4_at)
variable (m : (ℓ : Loc nD τ sig) → Buf (Elt Ideal) ℓ) (c : Dev nD)

/-! ## Each result is the reference's -/

/-- The scale. -/
abbrev aG : FVec Ideal S1024 .f32 := m ((c : Thread nD τ).loc main_arg2)

theorem hidden (r : Fin 8192) (l : Fin 5632) : (show EReal from hU m c (ix2 r l)) = HID (aX m c) (aG m c) (aW m c) (ix2 r l) := by
  unfold hU
  entry_read
  pointwise [HID, MSQ]

theorem scaleRow (j : Fin 1024) : (show EReal from hG m c (ix2 0 j)) = aG m c (ix1 j) := by
  unfold hG
  entry_read
  pointwise []

theorem equal0 : (dats m 0 c).arrAt 9 (cfgs 0).N = RES0 (aZ m c) (aC m c) := by
  funext y
  refine (finalD m c y).trans ?_
  idx_vars y
  exact (res0_at _ _ y0 y1).symm

theorem equal1 : (dats m 0 c).arrAt 10 (cfgs 0).N = RES1 (aZ m c) (aX m c) (aG m c) (aW m c) (aC m c) (aR m c) := by
  funext y
  refine (finalX m c y).trans ?_
  idx_vars y
  refine Eq.trans ?_ (res1_at _ _ _ _ _ _ y0 y1).symm
  have e : (fun i => (hG m c (ix2 0 i) : EReal)) = fun i => aG m c (ix1 i) := funext fun i => scaleRow m c i
  exact congrArg (fun g : Fin 1024 → EReal => normGrad (fun i => aX m c (ix2 y0 i)) g (rowGrad (aZ m c) (aC m c) (aW m c) y0) (aR m c (ix2 y0 y1)) y1) e

theorem equal2 : (dats m 0 c).arrAt 11 (cfgs 0).N = RES2 (aZ m c) (aX m c) (aW m c) (aC m c) := by
  funext y
  refine (finalG m c y).trans ?_
  idx_vars y
  obtain rfl : y0 = 0 := Subsingleton.elim _ _
  exact (res2_at _ _ _ _ y1).symm

theorem equal3 : (dats m 0 c).arrAt 12 (cfgs 0).N = RES3 (aZ m c) (aX m c) (aG m c) (aW m c) := by
  funext y
  refine (finalC m c y).trans ?_
  idx_vars y
  refine Eq.trans ?_ (res3_at _ _ _ _ y0 y1).symm
  exact Finset.sum_congr (M := EReal) rfl fun r _ => congrArg (fun s : EReal => s * shifted (aZ m c) y0 r y1) (hidden m c r y1)

theorem equal4 : (dats m 0 c).arrAt 13 (cfgs 0).N = RES4 (aZ m c) := by
  funext y
  refine (finalB m c y).trans ?_
  idx_vars y
  obtain rfl : y0 = 0 := Subsingleton.elim _ _
  exact (res4_at _ y1).symm

end Cert.UpGradIdeal.Value
end
-- ==== Proof.Weights.Up.lean ====
module
public import Idealize.ShloMosaic.Lib.Pipeline.ReadBack
public import Idealize.ShloMosaic.Lib.Pipeline.ValueKit
public import Idealize.ShloMosaic.Lib.Pointwise
public import proofs.«01_k».proof.Proof.Gen.DwUpIdeal.Value
public import proofs.«01_k».proof.Proof.Gen.DwUpRefIdeal.Run

@[expose] public section
set_option maxRecDepth 16384
noncomputable section
open Idealize.ShloMosaic Idealize.ShloMosaic.TcCoe Idealize.SL.Sem
open Idealize.ShloMosaic.Pipeline (Dat)
namespace Cert.DwUpRefIdeal.Value
open Cert.DwUpRefIdeal Cert.DwUpRefIdeal.Gen Idealize.ShloMosaic.StableHlo

/-- The reference's result of its three arguments. -/
abbrev RES (x : FVec Ideal S8192x1024 .f32) (g : FVec Ideal S1024 .f32) (d : FVec Ideal S8192x5632 .bf16) : FVec Ideal S1024x5632 .bf16 :=
  truncf .bf16 (transpose S1024x5632 [1, 0] (Host.dotGeneral (φ₁ := .f32) (φ₂ := .f32) dot_S8192x5632_S8192x1024_S5632x1024_0_0_1_1_n_n none (extf .f32 d bitsLt_bf16_f32) (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))) transposes_S5632x1024_S1024x5632_1_0) bitsLt_bf16_f32

/-- The reference's run with its result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = RES (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DwUpRefIdeal.Value

namespace Cert.DwUpIdeal.Value
open Cert.DwUpIdeal Cert.DwUpIdeal.Gen

/-! ## The gradient of the feed-forward's first matrix: a product over the rows, block of rows by block of rows -/

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem zero_at (j : S1024x1408.Idx) : k0_pay1 (F := Ideal) j = 0 := by pointwise [k0_pay1]

/-- One step adds the products of one block of rows. -/
theorem add_at (acc : FVec Ideal S1024x1408 .f32) (a : FVec Ideal S1024x1024 .bf16) (b : FVec Ideal S1024x1408 .bf16) (j : S1024x1408.Idx) :
    k0_pay2 acc a b j = acc j + ∑ r : Fin 1024, a (ix2 r ⟨(j 0).val, (j 0).isLt⟩) * b (ix2 r ⟨(j 1).val, (j 1).isLt⟩) := by
  pointwise [k0_pay2]

theorem cast_at (a : FVec Ideal S1024x1408 .f32) (j : S1024x1408.Idx) : (show EReal from k0_pay3 (F := Ideal) a j) = a j := by pointwise [k0_pay3]

/-- A column of blocks' running sum, after its last block of rows. -/
theorem sum_at (t : Fin cfg0.N) (h : t.val % 8 = 7) (j : S1024x1408.Idx) :
    (outsAt0 m c t.val t.isLt).2 j = ∑ s : Fin 8, ∑ r : Fin 1024,
      (show FVec Ideal S1024x1024 .bf16 from iblk m c 0 ⟨8 * (t.val / 8) + s.val, Pipeline.run_point_lt_of_flush t h s⟩) (ix2 r ⟨(j 0).val, (j 0).isLt⟩)
        * (show FVec Ideal S1024x1408 .bf16 from iblk m c 1 ⟨8 * (t.val / 8) + s.val, Pipeline.run_point_lt_of_flush t h s⟩) (ix2 r ⟨(j 1).val, (j 1).isLt⟩) := by
  rw [Pipeline.eq_sum_fin_of_reset_step_apply_of_flush (fun n h => (outsAt0 m c n h).2) 8 (fun _ => (0 : EReal))
    (fun p j => ∑ r : Fin 1024, (show FVec Ideal S1024x1024 .bf16 from iblk m c 0 p) (ix2 r ⟨(j 0).val, (j 0).isLt⟩)
        * (show FVec Ideal S1024x1408 .bf16 from iblk m c 1 p) (ix2 r ⟨(j 1).val, (j 1).isLt⟩))
    (fun t h j => ?_) (fun t h j => ?_) t h j, zero_add]
  · rw [outsAt0_A m c t h (by omega)]
    frame_out
    exact (add_at _ _ _ j).trans (by rw [zero_at])
  · by_cases h1 : t.val % 8 = 7
    · rw [outsAt0_C m c t h h1]
      frame_out
      exact (add_at _ _ _ j).trans (congrArg (fun x : EReal => x + _) (congrFun ((Memref.isWhole_whole cc0_scratch0).read_unread _) j))
    · rw [outsAt0_B m c t h h1]
      frame_out
      exact (add_at _ _ _ j).trans (congrArg (fun x : EReal => x + _) (congrFun ((Memref.isWhole_whole cc0_scratch0).read_unread _) j))

/-- What is written back at a column's last block: the running sum. -/
theorem out_at (t : Fin cfg0.N) (h : t.val % 8 = 7) (j : S1024x1408.Idx) :
    (outsAt0 m c t.val t.isLt).1 j = (outsAt0 m c t.val t.isLt).2 j := by
  rw [outsAt0_C m c t (by omega) h]
  frame_out
  exact cast_at _ j

/-- The result: each entry the product of a column of the normalised rows with a column of the pre-activation's gradient. -/
theorem final (y : S1024x5632.Idx) : (dats m 0 c).arrAt 2 (cfgs 0).N y
    = ∑ r : Fin 8192, (show FVec Ideal S8192x1024 .bf16 from V m c main_v13) (ix2 r ⟨(y 0).val, (y 0).isLt⟩)
        * (show FVec Ideal S8192x5632 .bf16 from m ((c : Thread nD τ).loc main_arg2)) (ix2 r ⟨(y 1).val, (y 1).isLt⟩) := by
  have e : (dats m 0 c).arrAt 2 (cfgs 0).N = fun y : S1024x5632.Idx => ∑ r : Fin 8192, (show FVec Ideal S8192x1024 .bf16 from V m c main_v13) (ix2 r ⟨(y 0).val, (y 0).isLt⟩)
        * (show FVec Ideal S8192x5632 .bf16 from m ((c : Thread nD τ).loc main_arg2)) (ix2 r ⟨(y 1).val, (y 1).isLt⟩) := by
    refine (dats m 0 c).arrAt_eq_of_covers 2 _ (by decide +kernel) fun t hf y => ?_
    have h := (flush0_2 t).mp hf
    blk_simp
    rw [after0_2, out_at m c t h, sum_at m c t h]
    refine Fin.sum_mul_add_congr fun s k hl => ?_
    blk_point [iblk, V, idx t, idx ⟨_, Pipeline.run_point_lt_of_flush t h s⟩]
  exact congrFun e y

/-- The result is the reference's, of equal arguments. -/
theorem equal : (dats m 0 c).arrAt 2 (cfgs 0).N
    = Cert.DwUpRefIdeal.Value.RES (m ((c : Thread nD τ).loc main_arg0)) (m ((c : Thread nD τ).loc main_arg1)) (m ((c : Thread nD τ).loc main_arg2)) := by
  funext y
  refine (final m c y).trans ?_
  entry_read
  pointwise [Cert.DwUpRefIdeal.Value.RES]
  exact Finset.sum_congr (M := EReal) rfl fun _ _ => mul_comm (G := EReal) _ _

end Cert.DwUpIdeal.Value
end
-- ==== Proof.Weights.Down.lean ====
module
public import Idealize.ShloMosaic.Lib.Pipeline.ReadBack
public import Idealize.ShloMosaic.Lib.Pipeline.ValueKit
public import Idealize.ShloMosaic.Lib.Pointwise
public import proofs.«01_k».proof.Proof.Gen.DwDownIdeal.Value
public import proofs.«01_k».proof.Proof.Gen.DwDownRefIdeal.Run

@[expose] public section
set_option maxRecDepth 16384
noncomputable section
open Idealize.ShloMosaic Idealize.ShloMosaic.TcCoe Idealize.SL.Sem
open Idealize.ShloMosaic.Pipeline (Dat)
namespace Cert.DwDownRefIdeal.Value
open Cert.DwDownRefIdeal Cert.DwDownRefIdeal.Gen Idealize.ShloMosaic.StableHlo

/-- The reference's result of its arguments. -/
abbrev RES (z : FVec Ideal S8192x5632 .bf16) (d : FVec Ideal S8192x1024 .f32) : FVec Ideal S2816x1024 .bf16 :=
  truncf .bf16 (transpose S2816x1024 [1, 0] (Host.dotGeneral (φ₁ := .f32) (φ₂ := .f32) dot_S8192x1024_S8192x2816_S1024x2816_0_0_1_1_n_n none d (mulf (mulf (extractStridedSlice S8192x2816 ![0, 0] (extf .f32 z bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 z bitsLt_bf16_f32) slices_S8192x5632_S8192x2816_0_0)))))) (extractStridedSlice S8192x2816 ![0, 2816] (extf .f32 z bitsLt_bf16_f32) slices_S8192x5632_S8192x2816_0_2816))) transposes_S1024x2816_S2816x1024_1_0) bitsLt_bf16_f32

/-- The reference's run with its result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = RES (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.DwDownRefIdeal.Value

namespace Cert.DwDownIdeal.Value
open Cert.DwDownIdeal Cert.DwDownIdeal.Gen

/-! ## The gradient of the feed-forward's second matrix: a product over the rows, block of rows by block of rows -/

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![0, 0] :=
  (by decide +kernel : ∀ t : Fin grid0.N, _)

theorem zero_at (j : S2816x1024.Idx) : k0_pay1 (F := Ideal) j = 0 := by pointwise [k0_pay1]

/-- One step adds the products of one block of rows. -/
theorem add_at (acc : FVec Ideal S2816x1024 .f32) (a : FVec Ideal S1024x2816 .bf16) (b : FVec Ideal S1024x1024 .f32) (j : S2816x1024.Idx) :
    k0_pay2 acc a b j = acc j + ∑ r : Fin 1024, a (ix2 r ⟨(j 0).val, (j 0).isLt⟩) * b (ix2 r ⟨(j 1).val, (j 1).isLt⟩) := by
  pointwise [k0_pay2]

theorem cast_at (a : FVec Ideal S2816x1024 .f32) (j : S2816x1024.Idx) : (show EReal from k0_pay3 (F := Ideal) a j) = a j := by pointwise [k0_pay3]

/-- A column of blocks' running sum, after its last block of rows. -/
theorem sum_at (t : Fin cfg0.N) (h : t.val % 8 = 7) (j : S2816x1024.Idx) :
    (outsAt0 m c t.val t.isLt).2 j = ∑ s : Fin 8, ∑ r : Fin 1024,
      (show FVec Ideal S1024x2816 .bf16 from iblk m c 0 ⟨8 * (t.val / 8) + s.val, Pipeline.run_point_lt_of_flush t h s⟩) (ix2 r ⟨(j 0).val, (j 0).isLt⟩)
        * (show FVec Ideal S1024x1024 .f32 from iblk m c 1 ⟨8 * (t.val / 8) + s.val, Pipeline.run_point_lt_of_flush t h s⟩) (ix2 r ⟨(j 1).val, (j 1).isLt⟩) := by
  rw [Pipeline.eq_sum_fin_of_reset_step_apply_of_flush (fun n h => (outsAt0 m c n h).2) 8 (fun _ => (0 : EReal))
    (fun p j => ∑ r : Fin 1024, (show FVec Ideal S1024x2816 .bf16 from iblk m c 0 p) (ix2 r ⟨(j 0).val, (j 0).isLt⟩)
        * (show FVec Ideal S1024x1024 .f32 from iblk m c 1 p) (ix2 r ⟨(j 1).val, (j 1).isLt⟩))
    (fun t h j => ?_) (fun t h j => ?_) t h j, zero_add]
  · rw [outsAt0_A m c t h (by omega)]
    frame_out
    exact (add_at _ _ _ j).trans (by rw [zero_at])
  · by_cases h1 : t.val % 8 = 7
    · rw [outsAt0_C m c t h h1]
      frame_out
      exact (add_at _ _ _ j).trans (congrArg (fun x : EReal => x + _) (congrFun ((Memref.isWhole_whole cc0_scratch0).read_unread _) j))
    · rw [outsAt0_B m c t h h1]
      frame_out
      exact (add_at _ _ _ j).trans (congrArg (fun x : EReal => x + _) (congrFun ((Memref.isWhole_whole cc0_scratch0).read_unread _) j))

/-- What is written back at a column's last block: the running sum. -/
theorem out_at (t : Fin cfg0.N) (h : t.val % 8 = 7) (j : S2816x1024.Idx) :
    (outsAt0 m c t.val t.isLt).1 j = (outsAt0 m c t.val t.isLt).2 j := by
  rw [outsAt0_C m c t (by omega) h]
  frame_out
  exact cast_at _ j

/-- The result: each entry the product of a column of the left operand with a column of the right one. -/
theorem final (y : S2816x1024.Idx) : (dats m 0 c).arrAt 2 (cfgs 0).N y
    = ∑ r : Fin 8192, (show FVec Ideal S8192x2816 .bf16 from V m c main_v5) (ix2 r ⟨(y 0).val, (y 0).isLt⟩)
        * (show FVec Ideal S8192x1024 .f32 from m ((c : Thread nD τ).loc main_arg1)) (ix2 r ⟨(y 1).val, (y 1).isLt⟩) := by
  have e : (dats m 0 c).arrAt 2 (cfgs 0).N = fun y : S2816x1024.Idx => ∑ r : Fin 8192, (show FVec Ideal S8192x2816 .bf16 from V m c main_v5) (ix2 r ⟨(y 0).val, (y 0).isLt⟩)
        * (show FVec Ideal S8192x1024 .f32 from m ((c : Thread nD τ).loc main_arg1)) (ix2 r ⟨(y 1).val, (y 1).isLt⟩) := by
    refine (dats m 0 c).arrAt_eq_of_covers 2 _ (by decide +kernel) fun t hf y => ?_
    have h := (flush0_2 t).mp hf
    blk_simp
    rw [after0_2, out_at m c t h, sum_at m c t h]
    refine Fin.sum_mul_add_congr fun s k hl => ?_
    blk_point [iblk, V, idx t, idx ⟨_, Pipeline.run_point_lt_of_flush t h s⟩]
  exact congrFun e y

/-- The gated activation, as the lines before the call compute it. -/
abbrev gate (z : FVec Ideal S8192x5632 .bf16) : FVec Ideal S8192x2816 .bf16 :=
  truncf .bf16 (mulf (mulf (extractStridedSlice S8192x2816 ![0, 0] (extf .f32 z bitsLt_bf16_f32) slices_S8192x5632_S8192x2816_0_0)
      (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 z bitsLt_bf16_f32) slices_S8192x5632_S8192x2816_0_0))))))
      (extractStridedSlice S8192x2816 ![0, 2816] (extf .f32 z bitsLt_bf16_f32) slices_S8192x5632_S8192x2816_0_2816)) bitsLt_bf16_f32

theorem gated : V m c main_v5 = gate (m ((c : Thread nD τ).loc main_arg0)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

/-- The result is the reference's, of equal arguments. -/
theorem equal : (dats m 0 c).arrAt 2 (cfgs 0).N
    = Cert.DwDownRefIdeal.Value.RES (m ((c : Thread nD τ).loc main_arg0)) (m ((c : Thread nD τ).loc main_arg1)) := by
  funext y
  refine (final m c y).trans ?_
  rw [gated]
  pointwise [gate, Cert.DwDownRefIdeal.Value.RES]
  exact Finset.sum_congr (M := EReal) rfl fun _ _ => mul_comm (G := EReal) _ _

end Cert.DwDownIdeal.Value
end
-- ==== Proof.Weights.InA.lean ====
module
public import Idealize.ShloMosaic.Lib.Pipeline.ReadBack
public import Idealize.ShloMosaic.Lib.Pipeline.ValueKit
public import Idealize.ShloMosaic.Lib.Pointwise
public import proofs.«01_k».proof.Proof.Gen.DwInAIdeal.Value
public import proofs.«01_k».proof.Proof.Gen.DwInARefIdeal.Run

@[expose] public section
set_option maxRecDepth 16384
noncomputable section
open Idealize.ShloMosaic Idealize.ShloMosaic.TcCoe Idealize.SL.Sem
open Idealize.ShloMosaic.Pipeline (Dat)
namespace Cert.DwInARefIdeal.Value
open Cert.DwInARefIdeal Cert.DwInARefIdeal.Gen Idealize.ShloMosaic.StableHlo

/-- The reference's result of its arguments. -/
abbrev RES (x : FVec Ideal S8192x1024 .f32) (g : FVec Ideal S1024 .f32) (d : FVec Ideal S8192x1024 .bf16) : FVec Ideal S1024x1024 .bf16 :=
  truncf .bf16 (transpose S1024x1024 [1, 0] (Host.dotGeneral (φ₁ := .f32) (φ₂ := .f32) dot_S8192x1024_S8192x1024_S1024x1024_0_0_1_1_n_n none (extf .f32 d bitsLt_bf16_f32) (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))) transposes_S1024x1024_S1024x1024_1_0) bitsLt_bf16_f32

/-- The reference's run with its result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = RES (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DwInARefIdeal.Value

namespace Cert.DwInAIdeal.Value
open Cert.DwInAIdeal Cert.DwInAIdeal.Gen

/-! ## The gradient of the projection's first 1024 columns: a product over the rows, block of rows by block of rows -/

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![0, 0] :=
  (by decide +kernel : ∀ t : Fin grid0.N, _)

theorem zero_at (j : S1024x1024.Idx) : k0_pay1 (F := Ideal) j = 0 := by pointwise [k0_pay1]

/-- One step adds the products of one block of rows. -/
theorem add_at (acc : FVec Ideal S1024x1024 .f32) (a : FVec Ideal S1024x1024 .bf16) (b : FVec Ideal S1024x1024 .bf16) (j : S1024x1024.Idx) :
    k0_pay2 acc a b j = acc j + ∑ r : Fin 1024, a (ix2 r ⟨(j 0).val, (j 0).isLt⟩) * b (ix2 r ⟨(j 1).val, (j 1).isLt⟩) := by
  pointwise [k0_pay2]

theorem cast_at (a : FVec Ideal S1024x1024 .f32) (j : S1024x1024.Idx) : (show EReal from k0_pay3 (F := Ideal) a j) = a j := by pointwise [k0_pay3]

/-- A column of blocks' running sum, after its last block of rows. -/
theorem sum_at (t : Fin cfg0.N) (h : t.val % 8 = 7) (j : S1024x1024.Idx) :
    (outsAt0 m c t.val t.isLt).2 j = ∑ s : Fin 8, ∑ r : Fin 1024,
      (show FVec Ideal S1024x1024 .bf16 from iblk m c 0 ⟨8 * (t.val / 8) + s.val, Pipeline.run_point_lt_of_flush t h s⟩) (ix2 r ⟨(j 0).val, (j 0).isLt⟩)
        * (show FVec Ideal S1024x1024 .bf16 from iblk m c 1 ⟨8 * (t.val / 8) + s.val, Pipeline.run_point_lt_of_flush t h s⟩) (ix2 r ⟨(j 1).val, (j 1).isLt⟩) := by
  rw [Pipeline.eq_sum_fin_of_reset_step_apply_of_flush (fun n h => (outsAt0 m c n h).2) 8 (fun _ => (0 : EReal))
    (fun p j => ∑ r : Fin 1024, (show FVec Ideal S1024x1024 .bf16 from iblk m c 0 p) (ix2 r ⟨(j 0).val, (j 0).isLt⟩)
        * (show FVec Ideal S1024x1024 .bf16 from iblk m c 1 p) (ix2 r ⟨(j 1).val, (j 1).isLt⟩))
    (fun t h j => ?_) (fun t h j => ?_) t h j, zero_add]
  · rw [outsAt0_A m c t h (by omega)]
    frame_out
    exact (add_at _ _ _ j).trans (by rw [zero_at])
  · by_cases h1 : t.val % 8 = 7
    · rw [outsAt0_C m c t h h1]
      frame_out
      exact (add_at _ _ _ j).trans (congrArg (fun x : EReal => x + _) (congrFun ((Memref.isWhole_whole cc0_scratch0).read_unread _) j))
    · rw [outsAt0_B m c t h h1]
      frame_out
      exact (add_at _ _ _ j).trans (congrArg (fun x : EReal => x + _) (congrFun ((Memref.isWhole_whole cc0_scratch0).read_unread _) j))

/-- What is written back at a column's last block: the running sum. -/
theorem out_at (t : Fin cfg0.N) (h : t.val % 8 = 7) (j : S1024x1024.Idx) :
    (outsAt0 m c t.val t.isLt).1 j = (outsAt0 m c t.val t.isLt).2 j := by
  rw [outsAt0_C m c t (by omega) h]
  frame_out
  exact cast_at _ j

/-- The result: each entry the product of a column of the left operand with a column of the right one. -/
theorem final (y : S1024x1024.Idx) : (dats m 0 c).arrAt 2 (cfgs 0).N y
    = ∑ r : Fin 8192, (show FVec Ideal S8192x1024 .bf16 from V m c main_v13) (ix2 r ⟨(y 0).val, (y 0).isLt⟩)
        * (show FVec Ideal S8192x1024 .bf16 from m ((c : Thread nD τ).loc main_arg2)) (ix2 r ⟨(y 1).val, (y 1).isLt⟩) := by
  have e : (dats m 0 c).arrAt 2 (cfgs 0).N = fun y : S1024x1024.Idx => ∑ r : Fin 8192, (show FVec Ideal S8192x1024 .bf16 from V m c main_v13) (ix2 r ⟨(y 0).val, (y 0).isLt⟩)
        * (show FVec Ideal S8192x1024 .bf16 from m ((c : Thread nD τ).loc main_arg2)) (ix2 r ⟨(y 1).val, (y 1).isLt⟩) := by
    refine (dats m 0 c).arrAt_eq_of_covers 2 _ (by decide +kernel) fun t hf y => ?_
    have h := (flush0_2 t).mp hf
    blk_simp
    rw [after0_2, out_at m c t h, sum_at m c t h]
    refine Fin.sum_mul_add_congr fun s k hl => ?_
    blk_point [iblk, V, idx t, idx ⟨_, Pipeline.run_point_lt_of_flush t h s⟩]
  exact congrFun e y

/-- The result is the reference's, of equal arguments. -/
theorem equal : (dats m 0 c).arrAt 2 (cfgs 0).N
    = Cert.DwInARefIdeal.Value.RES (m ((c : Thread nD τ).loc main_arg0)) (m ((c : Thread nD τ).loc main_arg1)) (m ((c : Thread nD τ).loc main_arg2)) := by
  funext y
  refine (final m c y).trans ?_
  entry_read
  pointwise [Cert.DwInARefIdeal.Value.RES]
  exact Finset.sum_congr (M := EReal) rfl fun _ _ => mul_comm (G := EReal) _ _

end Cert.DwInAIdeal.Value
end
-- ==== Proof.Weights.InB.lean ====
module
public import Idealize.ShloMosaic.Lib.Pipeline.ReadBack
public import Idealize.ShloMosaic.Lib.Pipeline.ValueKit
public import Idealize.ShloMosaic.Lib.Pointwise
public import proofs.«01_k».proof.Proof.Gen.DwInBIdeal.Value
public import proofs.«01_k».proof.Proof.Gen.DwInBRefIdeal.Run

@[expose] public section
set_option maxRecDepth 16384
noncomputable section
open Idealize.ShloMosaic Idealize.ShloMosaic.TcCoe Idealize.SL.Sem
open Idealize.ShloMosaic.Pipeline (Dat)
namespace Cert.DwInBRefIdeal.Value
open Cert.DwInBRefIdeal Cert.DwInBRefIdeal.Gen Idealize.ShloMosaic.StableHlo

/-- The reference's result of its arguments. -/
abbrev RES (x : FVec Ideal S8192x1024 .f32) (g : FVec Ideal S1024 .f32) (d : FVec Ideal S8192x1664 .bf16) : FVec Ideal S1024x1664 .bf16 :=
  truncf .bf16 (transpose S1024x1664 [1, 0] (Host.dotGeneral (φ₁ := .f32) (φ₂ := .f32) dot_S8192x1664_S8192x1024_S1664x1024_0_0_1_1_n_n none (extf .f32 d bitsLt_bf16_f32) (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))) transposes_S1664x1024_S1024x1664_1_0) bitsLt_bf16_f32

/-- The reference's run with its result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = RES (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DwInBRefIdeal.Value

namespace Cert.DwInBIdeal.Value
open Cert.DwInBIdeal Cert.DwInBIdeal.Gen

/-! ## The gradient of the projection's other columns: a product over the rows, block of rows by block of rows -/

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![0, 0] :=
  (by decide +kernel : ∀ t : Fin grid0.N, _)

theorem zero_at (j : S1024x1664.Idx) : k0_pay1 (F := Ideal) j = 0 := by pointwise [k0_pay1]

/-- One step adds the products of one block of rows. -/
theorem add_at (acc : FVec Ideal S1024x1664 .f32) (a : FVec Ideal S1024x1024 .bf16) (b : FVec Ideal S1024x1664 .bf16) (j : S1024x1664.Idx) :
    k0_pay2 acc a b j = acc j + ∑ r : Fin 1024, a (ix2 r ⟨(j 0).val, (j 0).isLt⟩) * b (ix2 r ⟨(j 1).val, (j 1).isLt⟩) := by
  pointwise [k0_pay2]

theorem cast_at (a : FVec Ideal S1024x1664 .f32) (j : S1024x1664.Idx) : (show EReal from k0_pay3 (F := Ideal) a j) = a j := by pointwise [k0_pay3]

/-- A column of blocks' running sum, after its last block of rows. -/
theorem sum_at (t : Fin cfg0.N) (h : t.val % 8 = 7) (j : S1024x1664.Idx) :
    (outsAt0 m c t.val t.isLt).2 j = ∑ s : Fin 8, ∑ r : Fin 1024,
      (show FVec Ideal S1024x1024 .bf16 from iblk m c 0 ⟨8 * (t.val / 8) + s.val, Pipeline.run_point_lt_of_flush t h s⟩) (ix2 r ⟨(j 0).val, (j 0).isLt⟩)
        * (show FVec Ideal S1024x1664 .bf16 from iblk m c 1 ⟨8 * (t.val / 8) + s.val, Pipeline.run_point_lt_of_flush t h s⟩) (ix2 r ⟨(j 1).val, (j 1).isLt⟩) := by
  rw [Pipeline.eq_sum_fin_of_reset_step_apply_of_flush (fun n h => (outsAt0 m c n h).2) 8 (fun _ => (0 : EReal))
    (fun p j => ∑ r : Fin 1024, (show FVec Ideal S1024x1024 .bf16 from iblk m c 0 p) (ix2 r ⟨(j 0).val, (j 0).isLt⟩)
        * (show FVec Ideal S1024x1664 .bf16 from iblk m c 1 p) (ix2 r ⟨(j 1).val, (j 1).isLt⟩))
    (fun t h j => ?_) (fun t h j => ?_) t h j, zero_add]
  · rw [outsAt0_A m c t h (by omega)]
    frame_out
    exact (add_at _ _ _ j).trans (by rw [zero_at])
  · by_cases h1 : t.val % 8 = 7
    · rw [outsAt0_C m c t h h1]
      frame_out
      exact (add_at _ _ _ j).trans (congrArg (fun x : EReal => x + _) (congrFun ((Memref.isWhole_whole cc0_scratch0).read_unread _) j))
    · rw [outsAt0_B m c t h h1]
      frame_out
      exact (add_at _ _ _ j).trans (congrArg (fun x : EReal => x + _) (congrFun ((Memref.isWhole_whole cc0_scratch0).read_unread _) j))

/-- What is written back at a column's last block: the running sum. -/
theorem out_at (t : Fin cfg0.N) (h : t.val % 8 = 7) (j : S1024x1664.Idx) :
    (outsAt0 m c t.val t.isLt).1 j = (outsAt0 m c t.val t.isLt).2 j := by
  rw [outsAt0_C m c t (by omega) h]
  frame_out
  exact cast_at _ j

/-- The result: each entry the product of a column of the left operand with a column of the right one. -/
theorem final (y : S1024x1664.Idx) : (dats m 0 c).arrAt 2 (cfgs 0).N y
    = ∑ r : Fin 8192, (show FVec Ideal S8192x1024 .bf16 from V m c main_v13) (ix2 r ⟨(y 0).val, (y 0).isLt⟩)
        * (show FVec Ideal S8192x1664 .bf16 from m ((c : Thread nD τ).loc main_arg2)) (ix2 r ⟨(y 1).val, (y 1).isLt⟩) := by
  have e : (dats m 0 c).arrAt 2 (cfgs 0).N = fun y : S1024x1664.Idx => ∑ r : Fin 8192, (show FVec Ideal S8192x1024 .bf16 from V m c main_v13) (ix2 r ⟨(y 0).val, (y 0).isLt⟩)
        * (show FVec Ideal S8192x1664 .bf16 from m ((c : Thread nD τ).loc main_arg2)) (ix2 r ⟨(y 1).val, (y 1).isLt⟩) := by
    refine (dats m 0 c).arrAt_eq_of_covers 2 _ (by decide +kernel) fun t hf y => ?_
    have h := (flush0_2 t).mp hf
    blk_simp
    rw [after0_2, out_at m c t h, sum_at m c t h]
    refine Fin.sum_mul_add_congr fun s k hl => ?_
    blk_point [iblk, V, idx t, idx ⟨_, Pipeline.run_point_lt_of_flush t h s⟩]
  exact congrFun e y

/-- The result is the reference's, of equal arguments. -/
theorem equal : (dats m 0 c).arrAt 2 (cfgs 0).N
    = Cert.DwInBRefIdeal.Value.RES (m ((c : Thread nD τ).loc main_arg0)) (m ((c : Thread nD τ).loc main_arg1)) (m ((c : Thread nD τ).loc main_arg2)) := by
  funext y
  refine (final m c y).trans ?_
  entry_read
  pointwise [Cert.DwInBRefIdeal.Value.RES]
  exact Finset.sum_congr (M := EReal) rfl fun _ _ => mul_comm (G := EReal) _ _

end Cert.DwInBIdeal.Value
end
-- ==== Proof.Weights.Out.lean ====
module
public import Idealize.ShloMosaic.Lib.Pipeline.ReadBack
public import Idealize.ShloMosaic.Lib.Pipeline.ValueKit
public import Idealize.ShloMosaic.Lib.Pointwise
public import proofs.«01_k».proof.Proof.Gen.DwOutIdeal.Value
public import proofs.«01_k».proof.Proof.Gen.DwOutRefIdeal.Run

@[expose] public section
set_option maxRecDepth 16384
noncomputable section
open Idealize.ShloMosaic Idealize.ShloMosaic.TcCoe Idealize.SL.Sem
open Idealize.ShloMosaic.Pipeline (Dat)
namespace Cert.DwOutRefIdeal.Value
open Cert.DwOutRefIdeal Cert.DwOutRefIdeal.Gen Idealize.ShloMosaic.StableHlo

/-- The mixed heads side by side: the spatial gate's, then the recurrence's normed and gated. -/
abbrev heads (a u v p : FVec Ideal S8192x512 .f32) (g : FVec Ideal S4x128 .f32) : FVec Ideal S8192x1024 .f32 :=
  concatenate S8192x1024 1 [⟨S8192x512, a⟩, ⟨S8192x512, (shapeCast _ (mulf (mulf (mulf (shapeCast _ (addf u v) shapeCasts_S8192x512_S8192x4x128) (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf (shapeCast _ (addf u v) shapeCasts_S8192x512_S8192x4x128) (shapeCast _ (addf u v) shapeCasts_S8192x512_S8192x4x128)) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) (broadcastInDim S8192x4x128 ![0, 1, 2] bcast_S1x4x128_S8192x4x128_0_1_2 (broadcastInDim S1x4x128 ![1, 2] bcast_S4x128_S1x4x128_1_2 g))) (mulf (shapeCast _ p shapeCasts_S8192x512_S8192x4x128) (Host.divf (broadcastInDim S8192x4x128 ![] bcast_S_S8192x4x128 (constant S_ .f32 0x3F800000#32)) (addf (broadcastInDim S8192x4x128 ![] bcast_S_S8192x4x128 (constant S_ .f32 0x3F800000#32)) (Host.exp (Host.negf (shapeCast _ p shapeCasts_S8192x512_S8192x4x128))))))) shapeCasts_S8192x4x128_S8192x512)⟩] concatenates_S8192x512_S8192x512_S8192x1024_d1

/-- The reference's result of its arguments. -/
abbrev RES (a : FVec Ideal S8192x512 .f32) (u : FVec Ideal S8192x512 .f32) (v : FVec Ideal S8192x512 .f32) (p : FVec Ideal S8192x512 .f32) (g : FVec Ideal S4x128 .f32) (d : FVec Ideal S8192x1024 .f32) : FVec Ideal S1024x1024 .bf16 :=
  truncf .bf16 (transpose S1024x1024 [1, 0] (Host.dotGeneral (φ₁ := .f32) (φ₂ := .f32) dot_S8192x1024_S8192x1024_S1024x1024_0_0_1_1_n_n none d (heads a u v p g)) transposes_S1024x1024_S1024x1024_1_0) bitsLt_bf16_f32

/-- The reference's run with its result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.DwOutRefIdeal.Value

namespace Cert.DwOutIdeal.Value
open Cert.DwOutIdeal Cert.DwOutIdeal.Gen

/-! ## The gradient of the mixer's last matrix: a product over the rows, block of rows by block of rows -/

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![0, 0] :=
  (by decide +kernel : ∀ t : Fin grid0.N, _)

theorem zero_at (j : S1024x1024.Idx) : k0_pay1 (F := Ideal) j = 0 := by pointwise [k0_pay1]

/-- One step adds the products of one block of rows. -/
theorem add_at (acc : FVec Ideal S1024x1024 .f32) (a : FVec Ideal S1024x1024 .bf16) (b : FVec Ideal S1024x1024 .f32) (j : S1024x1024.Idx) :
    k0_pay2 acc a b j = acc j + ∑ r : Fin 1024, a (ix2 r ⟨(j 0).val, (j 0).isLt⟩) * b (ix2 r ⟨(j 1).val, (j 1).isLt⟩) := by
  pointwise [k0_pay2]

theorem cast_at (a : FVec Ideal S1024x1024 .f32) (j : S1024x1024.Idx) : (show EReal from k0_pay3 (F := Ideal) a j) = a j := by pointwise [k0_pay3]

/-- A column of blocks' running sum, after its last block of rows. -/
theorem sum_at (t : Fin cfg0.N) (h : t.val % 8 = 7) (j : S1024x1024.Idx) :
    (outsAt0 m c t.val t.isLt).2 j = ∑ s : Fin 8, ∑ r : Fin 1024,
      (show FVec Ideal S1024x1024 .bf16 from iblk m c 0 ⟨8 * (t.val / 8) + s.val, Pipeline.run_point_lt_of_flush t h s⟩) (ix2 r ⟨(j 0).val, (j 0).isLt⟩)
        * (show FVec Ideal S1024x1024 .f32 from iblk m c 1 ⟨8 * (t.val / 8) + s.val, Pipeline.run_point_lt_of_flush t h s⟩) (ix2 r ⟨(j 1).val, (j 1).isLt⟩) := by
  rw [Pipeline.eq_sum_fin_of_reset_step_apply_of_flush (fun n h => (outsAt0 m c n h).2) 8 (fun _ => (0 : EReal))
    (fun p j => ∑ r : Fin 1024, (show FVec Ideal S1024x1024 .bf16 from iblk m c 0 p) (ix2 r ⟨(j 0).val, (j 0).isLt⟩)
        * (show FVec Ideal S1024x1024 .f32 from iblk m c 1 p) (ix2 r ⟨(j 1).val, (j 1).isLt⟩))
    (fun t h j => ?_) (fun t h j => ?_) t h j, zero_add]
  · rw [outsAt0_A m c t h (by omega)]
    frame_out
    exact (add_at _ _ _ j).trans (by rw [zero_at])
  · by_cases h1 : t.val % 8 = 7
    · rw [outsAt0_C m c t h h1]
      frame_out
      exact (add_at _ _ _ j).trans (congrArg (fun x : EReal => x + _) (congrFun ((Memref.isWhole_whole cc0_scratch0).read_unread _) j))
    · rw [outsAt0_B m c t h h1]
      frame_out
      exact (add_at _ _ _ j).trans (congrArg (fun x : EReal => x + _) (congrFun ((Memref.isWhole_whole cc0_scratch0).read_unread _) j))

/-- What is written back at a column's last block: the running sum. -/
theorem out_at (t : Fin cfg0.N) (h : t.val % 8 = 7) (j : S1024x1024.Idx) :
    (outsAt0 m c t.val t.isLt).1 j = (outsAt0 m c t.val t.isLt).2 j := by
  rw [outsAt0_C m c t (by omega) h]
  frame_out
  exact cast_at _ j

/-- The result: each entry the product of a column of the left operand with a column of the right one. -/
theorem final (y : S1024x1024.Idx) : (dats m 0 c).arrAt 2 (cfgs 0).N y
    = ∑ r : Fin 8192, (show FVec Ideal S8192x1024 .bf16 from V m c main_v20) (ix2 r ⟨(y 0).val, (y 0).isLt⟩)
        * (show FVec Ideal S8192x1024 .f32 from m ((c : Thread nD τ).loc main_arg5)) (ix2 r ⟨(y 1).val, (y 1).isLt⟩) := by
  have e : (dats m 0 c).arrAt 2 (cfgs 0).N = fun y : S1024x1024.Idx => ∑ r : Fin 8192, (show FVec Ideal S8192x1024 .bf16 from V m c main_v20) (ix2 r ⟨(y 0).val, (y 0).isLt⟩)
        * (show FVec Ideal S8192x1024 .f32 from m ((c : Thread nD τ).loc main_arg5)) (ix2 r ⟨(y 1).val, (y 1).isLt⟩) := by
    refine (dats m 0 c).arrAt_eq_of_covers 2 _ (by decide +kernel) fun t hf y => ?_
    have h := (flush0_2 t).mp hf
    blk_simp
    rw [after0_2, out_at m c t h, sum_at m c t h]
    refine Fin.sum_mul_add_congr fun s k hl => ?_
    blk_point [iblk, V, idx t, idx ⟨_, Pipeline.run_point_lt_of_flush t h s⟩]
  exact congrFun e y

/-- The call's left operand: the mixed heads, which the lines before the call compute. -/
theorem before : V m c main_v20 = truncf .bf16 (Cert.DwOutRefIdeal.Value.heads (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The result is the reference's, of equal arguments. -/
theorem equal : (dats m 0 c).arrAt 2 (cfgs 0).N
    = Cert.DwOutRefIdeal.Value.RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  refine (final m c y).trans ?_
  rw [before]
  pointwise [Cert.DwOutRefIdeal.Value.RES]
  exact Finset.sum_congr (M := EReal) rfl fun _ _ => mul_comm (G := EReal) _ _

end Cert.DwOutIdeal.Value
end
-- ==== Proof.Back.In.lean ====
module
public import Idealize.ShloMosaic.Lib.Pipeline.ReadBack
public import Idealize.ShloMosaic.Lib.Pipeline.ValueKit
public import Idealize.ShloMosaic.Lib.Pointwise
public import proofs.«01_k».proof.Proof.Gen.InGradIdeal.Value
public import proofs.«01_k».proof.Proof.Gen.InGradRefIdeal.Run
public import proofs.«01_k».proof.Proof.Conv.Rows

@[expose] public section
set_option maxRecDepth 16384
noncomputable section
open Idealize.ShloMosaic Idealize.ShloMosaic.TcCoe Idealize.SL.Sem
open Idealize.ShloMosaic.Pipeline (Dat)
namespace Cert.InGradRefIdeal.Value
open Cert.InGradRefIdeal Cert.InGradRefIdeal.Gen Idealize.ShloMosaic.StableHlo

/-! ## The reference's results, part by part -/

/-- Each row's mean square and the small constant. -/
def MSQ (x : FVec Ideal S8192x1024 .f32) : FVec Ideal S8192x1 .f32 :=
  addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

/-- The normalised rows' gradient. -/
def DH (a : FVec Ideal S8192x1024 .bf16) (b : FVec Ideal S8192x1664 .bf16) (w : FVec Ideal S1024x2592 .bf16) : FVec Ideal S8192x1024 .f32 :=
  Host.dotGeneral (φ₁ := .f32) (φ₂ := .f32) dot_S8192x2592_S1024x2592_S8192x1024_1_1_0_0_n_n none (extf .f32 (extractStridedSlice S8192x2592 ![0, 0] (concatenate S8192x2688 1 [⟨S8192x1024, a⟩, ⟨S8192x1664, b⟩] concatenates_S8192x1024_S8192x1664_S8192x2688_d1) slices_S8192x2688_S8192x2592_0_0) bitsLt_bf16_f32) (extf .f32 w bitsLt_bf16_f32)

/-- Each row's coefficient in its own gradient. -/
def QCO (a : FVec Ideal S8192x1024 .bf16) (b : FVec Ideal S8192x1664 .bf16) (w : FVec Ideal S1024x2592 .bf16) (x : FVec Ideal S8192x1024 .f32) (g : FVec Ideal S1024 .f32) : FVec Ideal S8192 .f32 :=
  Host.reduceAdd (Host.divf (mulf (shapeCast _ (Host.reduceAdd (mulf x (mulf (DH a b w) (broadcastInDim S8192x1024 ![0, 1] bcast_S1x1024_S8192x1024_0_1 (broadcastInDim S1x1024 ![1] bcast_S1024_S1x1024_1 g)))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (MSQ x)) (MSQ x)))) (broadcastInDim S8192x1 ![] bcast_S_S8192x1 (constant (F := Ideal) S_ .f32 0x44800000#32))) (constant (F := Ideal) S_ .f32 0x00000000#32) reducesTo_S8192x1_S8192_d1 h_S_

/-- The reference's result 0 of its arguments. -/
def RES0 (a : FVec Ideal S8192x1024 .bf16) (b : FVec Ideal S8192x1664 .bf16) (w : FVec Ideal S1024x2592 .bf16) (x : FVec Ideal S8192x1024 .f32) (g : FVec Ideal S1024 .f32) (e : FVec Ideal S8192x1024 .f32) : FVec Ideal S8192x1024 .f32 :=
  addf e (addf (addf (mulf (mulf (DH a b w) (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (MSQ x)))) (mulf x (broadcastInDim S8192x1024 ![0] bcast_S8192_S8192x1024_0 (QCO a b w x g)))) (mulf (broadcastInDim S8192x1024 ![0] bcast_S8192_S8192x1024_0 (QCO a b w x g)) x))

/-- The reference's result 1 of its arguments. -/
def RES1 (a : FVec Ideal S8192x1024 .bf16) (b : FVec Ideal S8192x1664 .bf16) (w : FVec Ideal S1024x2592 .bf16) (x : FVec Ideal S8192x1024 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt (MSQ x)))) (DH a b w)) (constant (F := Ideal) S_ .f32 0x00000000#32) reducesTo_S8192x1024_S1024_d0 h_S_) shapeCasts_S1024_S1x1024) (constant (F := Ideal) S_ .f32 0x00000000#32) reducesTo_S1x1024_S1024_d0 h_S_)

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = RES0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v43) = RES1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.InGradRefIdeal.Value
namespace Cert.InGradIdeal.Value
open Cert.InGradIdeal Cert.InGradIdeal.Gen
open Cert.UpGradIdeal.Value (meanSq coeff normGrad scalePart)
open Cert.InGradRefIdeal.Value (RES0 RES1 DH MSQ QCO)

/-! ## The projection's gradient and its norm's, block of rows by block of rows -/

/-- A row's gradient through the two halves of the projection. -/
def rowGrad (a : Fin 1024 → EReal) (b : Fin 1664 → EReal) (w : Fin 1024 → Fin 2688 → EReal) (j : Fin 1024) : EReal :=
  (∑ l : Fin 1024, a l * w j ⟨l.val, by omega⟩) + ∑ l : Fin 1664, b l * w j ⟨1024 + l.val, by omega⟩

variable (m : (ℓ : Loc nD τ sig) → Buf (Elt Ideal) ℓ) (c : Dev nD)

/-- The arguments. -/
abbrev aA : FVec Ideal S8192x1024 .bf16 := m ((c : Thread nD τ).loc main_arg0)
abbrev aB : FVec Ideal S8192x1664 .bf16 := m ((c : Thread nD τ).loc main_arg1)
abbrev aW : FVec Ideal S1024x2592 .bf16 := m ((c : Thread nD τ).loc main_arg2)
abbrev aX : FVec Ideal S8192x1024 .f32 := m ((c : Thread nD τ).loc main_arg3)
abbrev aG : FVec Ideal S1024 .f32 := m ((c : Thread nD τ).loc main_arg4)
abbrev aR : FVec Ideal S8192x1024 .f32 := m ((c : Thread nD τ).loc main_arg5)
/-- The two operands the host computes: the padded weights and the scale as a row. -/
abbrev hW : FVec Ideal S1024x2688 .bf16 := V m c main_v0
abbrev hG : FVec Ideal S1x1024 .f32 := V m c main_v1

/-- The integer zero the padding is filled with, as a number. -/
theorem fill (φ : FTy) : (show EReal from FloatOps.sitofp (F := Ideal) φ (0#32)) = 0 := by
  show (((0#32).toInt : ℝ) : EReal) = 0
  simp

theorem padded : V m c main_v0 = pad S1024x2688 ![0, 0] ![0, 96] ![0, 0] (aW m c) (sitofp .bf16 (constantI S_ 32 0#32)) pads_S1024x2592_S1024x2688_000_0960 h_S_ := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem weight_at (k : Fin 1024) (j : Fin 2688) : (show EReal from hW m c (ix2 k j)) = if h : j.val < 2592 then aW m c (ix2 k ⟨j.val, h⟩) else 0 := by
  unfold hW
  rw [padded]
  pointwise []
  exact congrArg (fun z : EReal => if h : j.val < 2592 then aW m c (ix2 k ⟨j.val, h⟩) else z) (fill .bf16)

theorem scaleRow : V m c main_v1 = broadcastInDim S1x1024 ![1] bcast_S1024_S1x1024_1 (aG m c) := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem scale_at (j : Fin 1024) : (show EReal from hG m c (ix2 0 j)) = aG m c (ix1 j) := by
  unfold hG
  rw [scaleRow]
  pointwise []

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

theorem lt16 (t : Fin cfg0.N) : t.val < 16 := lt_of_lt_of_eq t.isLt N_0

/-- Row `r` of block `t`. -/
def row (t : Fin cfg0.N) (r : Fin 512) : Fin 8192 := ⟨t.val * 512 + r.val, by have := lt16 t; omega⟩

theorem in0 (t : Fin cfg0.N) (r : Fin 512) (l : Fin 1024) : (show FVec Ideal S512x1024 .bf16 from iblk m c 0 t) (ix2 r l) = aA m c (ix2 (row t r) l) := by
  blk_point [iblk, V, idx t]
  rfl
theorem in1 (t : Fin cfg0.N) (r : Fin 512) (l : Fin 1664) : (show FVec Ideal S512x1664 .bf16 from iblk m c 1 t) (ix2 r l) = aB m c (ix2 (row t r) l) := by
  blk_point [iblk, V, idx t]
  rfl
theorem in2 (t : Fin cfg0.N) (j : Fin 1024) (l : Fin 2688) : (show FVec Ideal S1024x2688 .bf16 from iblk m c 2 t) (ix2 j l) = hW m c (ix2 j l) := by
  blk_point [iblk, V, idx t]
theorem in3 (t : Fin cfg0.N) (r : Fin 512) (l : Fin 1024) : (show FVec Ideal S512x1024 .f32 from iblk m c 3 t) (ix2 r l) = aX m c (ix2 (row t r) l) := by
  blk_point [iblk, V, idx t]
  rfl
theorem in4 (t : Fin cfg0.N) (l : Fin 1024) : (show FVec Ideal S1x1024 .f32 from iblk m c 4 t) (ix2 0 l) = hG m c (ix2 0 l) := by
  blk_point [iblk, V, idx t]
theorem in5 (t : Fin cfg0.N) (r : Fin 512) (l : Fin 1024) : (show FVec Ideal S512x1024 .f32 from iblk m c 5 t) (ix2 r l) = aR m c (ix2 (row t r) l) := by
  blk_point [iblk, V, idx t]
  rfl

/-! ## One block -/

/-- The two halves of the padded weights. -/
def cutA (w : FVec Ideal S1024x2688 .bf16) : FVec Ideal S1024x1024 .bf16 := View.ld (Val := Elt Ideal) (e' := .bf16) w (Rect.unit (s := S1024x2688) ![0, 0] S1024x1024.size inb_S1024x2688_S1024x1024_0_0)
def cutB (w : FVec Ideal S1024x2688 .bf16) : FVec Ideal S1024x1664 .bf16 := View.ld (Val := Elt Ideal) (e' := .bf16) w (Rect.unit (s := S1024x2688) ![0, 1024] S1024x1664.size inb_S1024x2688_S1024x1664_0_1024)

theorem cutA_at (w : FVec Ideal S1024x2688 .bf16) (j l : Fin 1024) : cutA w (ix2 j l) = w (ix2 j ⟨l.val, by omega⟩) := by
  pointwise [cutA]
theorem cutB_at (w : FVec Ideal S1024x2688 .bf16) (j : Fin 1024) (l : Fin 1664) : cutB w (ix2 j l) = w (ix2 j ⟨1024 + l.val, by omega⟩) := by
  pointwise [cutB]

theorem dh_block (a : FVec Ideal S512x1024 .bf16) (b : FVec Ideal S512x1664 .bf16) (w : FVec Ideal S1024x2688 .bf16) (r : Fin 512) (j : Fin 1024) :
    (show EReal from k0_pay4 (F := Ideal) a (cutA w) b (cutB w) (ix2 r j)) = rowGrad (fun l => a (ix2 r l)) (fun l => b (ix2 r l)) (fun j l => w (ix2 j l)) j := by
  pointwise [k0_pay4]
  exact congrArg₂ (fun s t : EReal => s + t) (Finset.sum_congr (M := EReal) rfl fun l _ => by rw [cutA_at]) (Finset.sum_congr (M := EReal) rfl fun l _ => by rw [cutB_at])

/-- The rows' gradient in one block, and the scale's. -/
def newX (a : FVec Ideal S512x1024 .bf16) (b : FVec Ideal S512x1664 .bf16) (w : FVec Ideal S1024x2688 .bf16) (x : FVec Ideal S512x1024 .f32) (g : FVec Ideal S1x1024 .f32)
    (e : FVec Ideal S512x1024 .f32) : FVec Ideal S512x1024 .f32 :=
  k0_pay1 x (k0_pay6 x) (k0_pay7 x) (k0_pay9 a (cutA w) b (cutB w) g) (k0_pay10 a (cutA w) b (cutB w) x g) e
def newG (a : FVec Ideal S512x1024 .bf16) (b : FVec Ideal S512x1664 .bf16) (w : FVec Ideal S1024x2688 .bf16) (x : FVec Ideal S512x1024 .f32) (s : FVec Ideal S1x1024 .f32) : FVec Ideal S1x1024 .f32 :=
  k0_pay2 (k0_pay8 a (cutA w) b (cutB w) x) s

theorem prevLt (t : Fin cfg0.N) : t.val - 1 < cfg0.N := Nat.lt_of_le_of_lt (Nat.sub_le _ _) t.isLt

theorem blockX (t : Fin cfg0.N) : (outsAt0 m c t.val t.isLt).1 = newX (iblk m c 0 t) (iblk m c 1 t) (iblk m c 2 t) (iblk m c 3 t) (iblk m c 4 t) (iblk m c 5 t) := by
  by_cases h : t.val % 16 = 0
  · conv_lhs => rw [outsAt0_A m c t h]
    dsimp only
    frame_out
    rfl
  · conv_lhs => rw [outsAt0_B m c t h]
    dsimp only
    frame_out
    rfl

theorem blockG_A (t : Fin cfg0.N) (h : t.val % 16 = 0) : (outsAt0 m c t.val t.isLt).2 = newG (iblk m c 0 t) (iblk m c 1 t) (iblk m c 2 t) (iblk m c 3 t) k0_pay3 := by
  conv_lhs => rw [outsAt0_A m c t h]
  dsimp only
  frame_out
  rfl

theorem blockG_B (t : Fin cfg0.N) (h : ¬ t.val % 16 = 0) : (outsAt0 m c t.val t.isLt).2
    = newG (iblk m c 0 t) (iblk m c 1 t) (iblk m c 2 t) (iblk m c 3 t) (outsAt0 m c (t.val - 1) (prevLt t)).2 := by
  conv_lhs => rw [outsAt0_B m c t h]
  dsimp only
  frame_out
  rfl

theorem newX_at (a : FVec Ideal S512x1024 .bf16) (b : FVec Ideal S512x1664 .bf16) (w : FVec Ideal S1024x2688 .bf16) (x : FVec Ideal S512x1024 .f32) (g : FVec Ideal S1x1024 .f32)
    (e : FVec Ideal S512x1024 .f32) (r : Fin 512) (j : Fin 1024) :
    newX a b w x g e (ix2 r j) = normGrad (fun i => x (ix2 r i)) (fun i => g (ix2 0 i)) (rowGrad (fun l => a (ix2 r l)) (fun l => b (ix2 r l)) (fun j l => w (ix2 j l))) (e (ix2 r j)) j := by
  pointwise [newX, k0_pay1, k0_pay10, k0_pay9, k0_pay7, k0_pay6, k0_pay5]
  simp only [dh_block]
  rfl

theorem newG_at (a : FVec Ideal S512x1024 .bf16) (b : FVec Ideal S512x1664 .bf16) (w : FVec Ideal S1024x2688 .bf16) (x : FVec Ideal S512x1024 .f32) (s : FVec Ideal S1x1024 .f32) (j : Fin 1024) :
    newG a b w x s (ix2 0 j) = s (ix2 0 j) + ∑ r : Fin 512, scalePart (fun i => x (ix2 r i)) (rowGrad (fun l => a (ix2 r l)) (fun l => b (ix2 r l)) (fun j l => w (ix2 j l))) j := by
  pointwise [newG, k0_pay2, k0_pay8, k0_pay6, k0_pay5]
  simp only [dh_block]
  rfl

/-! ## The results as functions of whole arrays -/

/-- The normalised row's gradient. -/
def gradOf (r : Fin 8192) : Fin 1024 → EReal := rowGrad (fun l => aA m c (ix2 r l)) (fun l => aB m c (ix2 r l)) (fun j l => hW m c (ix2 j l))
def resX (r : Fin 8192) (j : Fin 1024) : EReal := normGrad (fun i => aX m c (ix2 r i)) (fun i => hG m c (ix2 0 i)) (gradOf m c r) (aR m c (ix2 r j)) j
def resG (j : Fin 1024) : EReal := ∑ r : Fin 8192, scalePart (fun i => aX m c (ix2 r i)) (gradOf m c r) j

theorem rowA (t : Fin cfg0.N) (r : Fin 512) : (fun i => (show FVec Ideal S512x1024 .bf16 from iblk m c 0 t) (ix2 r i)) = fun i => aA m c (ix2 (row t r) i) := funext fun i => in0 m c t r i
theorem rowB (t : Fin cfg0.N) (r : Fin 512) : (fun i => (show FVec Ideal S512x1664 .bf16 from iblk m c 1 t) (ix2 r i)) = fun i => aB m c (ix2 (row t r) i) := funext fun i => in1 m c t r i
theorem allW (t : Fin cfg0.N) : (fun j l => (show FVec Ideal S1024x2688 .bf16 from iblk m c 2 t) (ix2 j l)) = fun j l => hW m c (ix2 j l) := funext fun j => funext fun l => in2 m c t j l
theorem rowX (t : Fin cfg0.N) (r : Fin 512) : (fun i => (show FVec Ideal S512x1024 .f32 from iblk m c 3 t) (ix2 r i)) = fun i => aX m c (ix2 (row t r) i) := funext fun i => in3 m c t r i
theorem rowG (t : Fin cfg0.N) : (fun i => (show FVec Ideal S1x1024 .f32 from iblk m c 4 t) (ix2 0 i)) = fun i => hG m c (ix2 0 i) := funext fun i => in4 m c t i

theorem outX (t : Fin cfg0.N) (r : Fin 512) (j : Fin 1024) : (outsAt0 m c t.val t.isLt).1 (ix2 r j) = resX m c (row t r) j := by
  rw [blockX]
  refine (newX_at _ _ _ _ _ _ r j).trans ?_
  rw [rowA, rowB, allW, rowX, rowG]
  exact congrArg (fun e : EReal => normGrad _ _ _ e j) (in5 m c t r j)

theorem finalX (y : S8192x1024.Idx) : (show EReal from (dats m 0 c).arrAt 6 (cfgs 0).N y) = resX m c (y 0) (y 1) := by
  have e : (dats m 0 c).arrAt 6 (cfgs 0).N = fun y : S8192x1024.Idx => (resX m c (y 0) (y 1) : EReal) := by
    refine (dats m 0 c).arrAt_eq_of_covers 6 _ (by decide +kernel) fun t hf y => ?_
    blk_simp
    rw [after0_6]
    idx_vars y
    refine (outX m c t y0 y1).trans ?_
    have read : ∀ G : FVec Ideal S8192x1024 .f32, G (ix2 (row t y0) y1) = G (((cfg0.win 6).blk t).view.emb (ix2 y0 y1)) := fun G => by
      blk_point [idx t]
      rfl
    exact read fun z => resX m c (z 0) (z 1)
  exact congrFun e y

/-- Block `t`'s part of the scale's gradient. -/
def partG (t : Fin cfg0.N) (y : S1x1024.Idx) : EReal := ∑ r : Fin 512, scalePart (fun i => aX m c (ix2 (row t r) i)) (gradOf m c (row t r)) (y 1)

theorem zeroG (j : S1x1024.Idx) : k0_pay3 (F := Ideal) j = 0 := by pointwise [k0_pay3]

theorem newG_row (t : Fin cfg0.N) (e : FVec Ideal S1x1024 .f32) (y : S1x1024.Idx) :
    newG (iblk m c 0 t) (iblk m c 1 t) (iblk m c 2 t) (iblk m c 3 t) e y = e y + partG m c t y := by
  idx_vars y
  obtain rfl : y0 = 0 := Subsingleton.elim _ _
  refine (newG_at _ _ _ _ e y1).trans (congrArg (fun x : EReal => e (ix2 0 y1) + x) (Finset.sum_congr (M := EReal) rfl fun r _ => ?_))
  rw [rowA, rowB, allW, rowX]
  rfl

theorem sumG (t : Fin cfg0.N) (h : t.val % 16 = 15) (y : S1x1024.Idx) :
    (outsAt0 m c t.val t.isLt).2 y = ∑ s : Fin 16, partG m c ⟨16 * (t.val / 16) + s.val, Pipeline.run_point_lt_of_flush t h s⟩ y := by
  rw [Pipeline.eq_sum_fin_of_reset_step_apply_of_flush (fun n h => (outsAt0 m c n h).2) 16 (fun _ => (0 : EReal))
    (partG m c) (fun t h j => ?_) (fun t h j => ?_) t h y, zero_add]
  · exact (congrFun (blockG_A m c t h) j).trans ((newG_row m c t _ j).trans (by rw [zeroG]))
  · exact (congrFun (blockG_B m c t h) j).trans (newG_row m c t _ j)

theorem row_run (t : Fin cfg0.N) (h : t.val % 16 = 15) (s : Fin 16) (r : Fin 512) (hl : s.val * 512 + r.val < 8192) :
    row ⟨16 * (t.val / 16) + s.val, Pipeline.run_point_lt_of_flush t h s⟩ r = ⟨s.val * 512 + r.val, hl⟩ := by
  have h16 := lt16 t
  refine Fin.ext ?_
  show (16 * (t.val / 16) + s.val) * 512 + r.val = s.val * 512 + r.val
  rw [show t.val / 16 = 0 by omega]
  omega

theorem finalG (y : S1x1024.Idx) : (show EReal from (dats m 0 c).arrAt 7 (cfgs 0).N y) = resG m c (y 1) := by
  have e : (dats m 0 c).arrAt 7 (cfgs 0).N = fun y : S1x1024.Idx => (resG m c (y 1) : EReal) := by
    refine (dats m 0 c).arrAt_eq_of_covers 7 _ (by decide +kernel) fun t hf y => ?_
    have h := (flush0_7 t).mp hf
    blk_simp
    rw [after0_7, sumG m c t h]
    idx_vars y
    refine (Fin.sum_mul_add_congr (f := fun r : Fin 8192 => scalePart (fun i => aX m c (ix2 r i)) (gradOf m c r) y1)
      fun s r hl => by rw [row_run t h s r hl]; rfl).trans (congrArg (resG m c) (Fin.ext ?_))
    blk_point [idx t]
  exact congrFun e y

/-! ## Each result is the reference's -/

/-- A product over 2592 lanes, in two parts of which the second ends in lanes of weight zero. -/
theorem sum_parts (a : Fin 1024 → EReal) (b : Fin 1664 → EReal) (w : Fin 2592 → EReal) :
    (∑ l : Fin 1024, a l * (if h : l.val < 2592 then w ⟨l.val, h⟩ else 0)) + (∑ l : Fin 1664, b l * (if h : 1024 + l.val < 2592 then w ⟨1024 + l.val, h⟩ else 0))
      = ∑ l : Fin 2592, (if h : l.val < 1024 then a ⟨l.val, h⟩ else b ⟨l.val - 1024, by omega⟩) * w l := by
  have e := Fin.sum_univ_add (a := 1024) (b := 1568) fun l : Fin (1024 + 1568) => (if h : l.val < 1024 then a ⟨l.val, h⟩ else b ⟨l.val - 1024, by omega⟩) * w l
  refine Eq.trans ?_ e.symm
  refine congrArg₂ (fun s t : EReal => s + t) (Finset.sum_congr rfl fun l _ => ?_) ?_
  · rw [dif_pos (show l.val < 2592 by omega), dif_pos (show (Fin.castAdd 1568 l).val < 1024 from l.isLt)]
    rfl
  · refine (Fin.sum_univ_add (a := 1568) (b := 96) fun l : Fin (1568 + 96) => b l * (if h : 1024 + l.val < 2592 then w ⟨1024 + l.val, h⟩ else 0)).trans ?_
    rw [Finset.sum_eq_zero (s := (Finset.univ : Finset (Fin 96))) fun l _ => by rw [dif_neg (by simp [Fin.natAdd]; omega), mul_zero], add_zero]
    refine Finset.sum_congr rfl fun l _ => ?_
    rw [dif_pos (show 1024 + (Fin.castAdd 96 l).val < 2592 by have := l.isLt; show 1024 + l.val < 2592; omega), dif_neg (show ¬ (Fin.natAdd 1024 l).val < 1024 by simp [Fin.natAdd])]
    refine congrArg₂ (fun s t : EReal => s * t) (congrArg b (Fin.ext ?_)) (congrArg w (Fin.ext ?_))
    · show l.val = 1024 + l.val - 1024
      omega
    · rfl

theorem dh_at (r : Fin 8192) (j : Fin 1024) : DH (aA m c) (aB m c) (aW m c) (ix2 r j) = gradOf m c r j := by
  unfold gradOf rowGrad
  simp only [weight_at m c]
  refine Eq.trans ?_ (sum_parts (fun l => aA m c (ix2 r l)) (fun l => aB m c (ix2 r l)) (fun l => aW m c (ix2 j l))).symm
  pointwise [DH]

theorem scaleFun : (fun i => (hG m c (ix2 0 i) : EReal)) = fun i => aG m c (ix1 i) := funext fun i => scale_at m c i

theorem equal0 : (dats m 0 c).arrAt 6 (cfgs 0).N = RES0 (aA m c) (aB m c) (aW m c) (aX m c) (aG m c) (aR m c) := by
  funext y
  refine (finalX m c y).trans ?_
  idx_vars y
  unfold resX
  rw [scaleFun]
  pointwise [RES0, QCO, MSQ]
  simp only [dh_at]
  rfl

theorem res1_at (j : Fin 1024) : (show EReal from RES1 (aA m c) (aB m c) (aW m c) (aX m c) (ix2 0 j)) = resG m c j := by
  unfold resG
  pointwise [RES1, MSQ]
  simp only [dh_at]
  refine (Fintype.sum_unique _).trans ?_
  rfl

theorem equal1 : (dats m 0 c).arrAt 7 (cfgs 0).N = RES1 (aA m c) (aB m c) (aW m c) (aX m c) := by
  funext y
  refine (finalG m c y).trans ?_
  idx_vars y
  obtain rfl : y0 = 0 := Subsingleton.elim _ _
  exact (res1_at m c y1).symm

end Cert.InGradIdeal.Value
end
-- ==== Proof.Back.Loss.lean ====
module
public import Idealize.ShloMosaic.Lib.Pipeline.ReadBack
public import Idealize.ShloMosaic.Lib.Pipeline.ValueKit
public import Idealize.ShloMosaic.Lib.Pointwise
public import proofs.«01_k».proof.Proof.Gen.LossHeadIdeal.Value
public import proofs.«01_k».proof.Proof.Gen.LossHeadRefIdeal.Run
public import proofs.«01_k».proof.Proof.Conv.Rows

@[expose] public section
set_option maxRecDepth 16384
noncomputable section
open Idealize.ShloMosaic Idealize.ShloMosaic.TcCoe Idealize.SL.Sem
open Idealize.ShloMosaic.Pipeline (Dat)
namespace Cert.LossHeadRefIdeal.Value
open Cert.LossHeadRefIdeal Cert.LossHeadRefIdeal.Gen Idealize.ShloMosaic.StableHlo

/-! ## The reference's results, part by part -/

/-- Each row's mean square and the small constant. -/
def MSQ (x : FVec Ideal S8192x1024 .f32) : FVec Ideal S8192x1 .f32 :=
  addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

/-- The rows' errors. -/
def ERR (x : FVec Ideal S8192x1024 .f32) (g : FVec Ideal S1024 .f32) (y : FVec Ideal S8192x1024 .f32) : FVec Ideal S8192x1024 .f32 :=
  subf (mulf (mulf x (broadcastInDim S8192x1024 ![0, 1] bcast_S8192x1_S8192x1024_0_1 (Host.rsqrt (MSQ x)))) (broadcastInDim S8192x1024 ![0, 1] bcast_S1x1024_S8192x1024_0_1 (broadcastInDim S1x1024 ![1] bcast_S1024_S1x1024_1 g))) y

/-- The errors, weighted as the loss weighs them. -/
def DH (x : FVec Ideal S8192x1024 .f32) (g : FVec Ideal S1024 .f32) (y : FVec Ideal S8192x1024 .f32) : FVec Ideal S8192x1024 .f32 :=
  mulf (broadcastInDim S8192x1024 ![0] bcast_S8192_S8192x1024_0 (Host.divf (broadcastInDim S8192 ![] bcast_S_S8192 (mulf (constant (F := Ideal) S_ .f32 0x3F000000#32) (constant (F := Ideal) S_ .f32 0x3F800000#32))) (broadcastInDim S8192 ![] bcast_S_S8192 (constant (F := Ideal) S_ .f32 0x44800000#32)))) (mulf (broadcastInDim S8192x1024 ![] bcast_S_S8192x1024 (constant (F := Ideal) S_ .f32 0x40000000#32)) (ERR x g y))

/-- Each row's coefficient in its own gradient. -/
def QCO (x : FVec Ideal S8192x1024 .f32) (g : FVec Ideal S1024 .f32) (y : FVec Ideal S8192x1024 .f32) : FVec Ideal S8192 .f32 :=
  Host.reduceAdd (Host.divf (mulf (shapeCast _ (Host.reduceAdd (mulf x (mulf (DH x g y) (broadcastInDim S8192x1024 ![0, 1] bcast_S1x1024_S8192x1024_0_1 (broadcastInDim S1x1024 ![1] bcast_S1024_S1x1024_1 g)))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (MSQ x)) (MSQ x)))) (broadcastInDim S8192x1 ![] bcast_S_S8192x1 (constant (F := Ideal) S_ .f32 0x44800000#32))) (constant (F := Ideal) S_ .f32 0x00000000#32) reducesTo_S8192x1_S8192_d1 h_S_

/-- The reference's result 0 of its arguments. -/
def RES0 (x : FVec Ideal S8192x1024 .f32) (g : FVec Ideal S1024 .f32) (y : FVec Ideal S8192x1024 .f32) : FVec Ideal S1x1024 .f32 :=
  broadcastInDim S1x1024 ![1] bcast_S1024_S1x1024_1 (Host.reduceAdd (mulf (ERR x g y) (ERR x g y)) (constant (F := Ideal) S_ .f32 0x00000000#32) reducesTo_S8192x1024_S1024_d0 h_S_)

/-- The reference's result 1 of its arguments. -/
def RES1 (x : FVec Ideal S8192x1024 .f32) (g : FVec Ideal S1024 .f32) (y : FVec Ideal S8192x1024 .f32) : FVec Ideal S8192x1024 .f32 :=
  addf (addf (mulf (mulf (DH x g y) (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (MSQ x)))) (mulf x (broadcastInDim S8192x1024 ![0] bcast_S8192_S8192x1024_0 (QCO x g y)))) (mulf (broadcastInDim S8192x1024 ![0] bcast_S8192_S8192x1024_0 (QCO x g y)) x)

/-- The reference's result 2 of its arguments. -/
def RES2 (x : FVec Ideal S8192x1024 .f32) (g : FVec Ideal S1024 .f32) (y : FVec Ideal S8192x1024 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt (MSQ x)))) (DH x g y)) (constant (F := Ideal) S_ .f32 0x00000000#32) reducesTo_S8192x1024_S1024_d0 h_S_) shapeCasts_S1024_S1x1024) (constant (F := Ideal) S_ .f32 0x00000000#32) reducesTo_S1x1024_S1024_d0 h_S_)

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = RES0 (m ((c.tc : Thread nD τ).loc main_arg0)) (m ((c.tc : Thread nD τ).loc main_arg1)) (m ((c.tc : Thread nD τ).loc main_arg2))
      ∧ r.2.mem ((c.tc : Thread nD τ).loc main_v50) = RES1 (m ((c.tc : Thread nD τ).loc main_arg0)) (m ((c.tc : Thread nD τ).loc main_arg1)) (m ((c.tc : Thread nD τ).loc main_arg2))
      ∧ r.2.mem ((c.tc : Thread nD τ).loc main_v68) = RES2 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.LossHeadRefIdeal.Value
namespace Cert.LossHeadIdeal.Value
open Cert.LossHeadIdeal Cert.LossHeadIdeal.Gen
open Cert.UpGradIdeal.Value (meanSq coeff scalePart)
open Cert.LossHeadRefIdeal.Value (RES0 RES1 RES2 ERR DH MSQ QCO)

/-! ## The loss and its gradients, block of rows by block of rows -/

/-- A row's error. -/
def errOf (x g y : Fin 1024 → EReal) (j : Fin 1024) : EReal := x j * Ideal.rsqrt (meanSq x) * g j - y j
/-- The error as the gradient weighs it. -/
def gradOf (x g y : Fin 1024 → EReal) (j : Fin 1024) : EReal := errOf x g y j * Ideal.ofBits .f32 0x3A800000#32
/-- A row's gradient through its norm. -/
def lossGrad (x g d : Fin 1024 → EReal) (j : Fin 1024) : EReal :=
  d j * g j * Ideal.rsqrt (meanSq x) + x j * coeff x g d + coeff x g d * x j

variable (m : (ℓ : Loc nD τ sig) → Buf (Elt Ideal) ℓ) (c : Dev nD)

/-- The arguments, and the scale as a row. -/
abbrev aX : FVec Ideal S8192x1024 .f32 := m ((c : Thread nD τ).loc main_arg0)
abbrev aG : FVec Ideal S1024 .f32 := m ((c : Thread nD τ).loc main_arg1)
abbrev aY : FVec Ideal S8192x1024 .f32 := m ((c : Thread nD τ).loc main_arg2)
abbrev hG : FVec Ideal S1x1024 .f32 := V m c main_v0

theorem scale_at (j : Fin 1024) : (show EReal from hG m c (ix2 0 j)) = aG m c (ix1 j) := by
  unfold hG
  entry_read
  pointwise []

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

theorem lt16 (t : Fin cfg0.N) : t.val < 16 := lt_of_lt_of_eq t.isLt N_0

/-- Row `r` of block `t`. -/
def row (t : Fin cfg0.N) (r : Fin 512) : Fin 8192 := ⟨t.val * 512 + r.val, by have := lt16 t; omega⟩

theorem in0 (t : Fin cfg0.N) (r : Fin 512) (l : Fin 1024) : (show FVec Ideal S512x1024 .f32 from iblk m c 0 t) (ix2 r l) = aX m c (ix2 (row t r) l) := by
  blk_point [iblk, V, idx t]
  rfl
theorem in1 (t : Fin cfg0.N) (l : Fin 1024) : (show FVec Ideal S1x1024 .f32 from iblk m c 1 t) (ix2 0 l) = hG m c (ix2 0 l) := by
  blk_point [iblk, V, idx t]
theorem in2 (t : Fin cfg0.N) (r : Fin 512) (l : Fin 1024) : (show FVec Ideal S512x1024 .f32 from iblk m c 2 t) (ix2 r l) = aY m c (ix2 (row t r) l) := by
  blk_point [iblk, V, idx t]
  rfl

/-! ## One block -/

/-- The rows' loss, their gradient and the scale's in one block. -/
def newL (x : FVec Ideal S512x1024 .f32) (g : FVec Ideal S1x1024 .f32) (y : FVec Ideal S512x1024 .f32) (s : FVec Ideal S1x1024 .f32) : FVec Ideal S1x1024 .f32 := k0_pay11 x g y s
def newX (x : FVec Ideal S512x1024 .f32) (g : FVec Ideal S1x1024 .f32) (y : FVec Ideal S512x1024 .f32) : FVec Ideal S512x1024 .f32 :=
  k0_pay1 x (k0_pay7 x) (k0_pay8 x) (k0_pay14 x g y) (k0_pay15 x g y)
def newG (x : FVec Ideal S512x1024 .f32) (g : FVec Ideal S1x1024 .f32) (y : FVec Ideal S512x1024 .f32) (s : FVec Ideal S1x1024 .f32) : FVec Ideal S1x1024 .f32 :=
  k0_pay2 (k0_pay13 x g y) s

theorem prevLt (t : Fin cfg0.N) : t.val - 1 < cfg0.N := Nat.lt_of_le_of_lt (Nat.sub_le _ _) t.isLt

theorem blockX (t : Fin cfg0.N) : (outsAt0 m c t.val t.isLt).2.1 = newX (iblk m c 0 t) (iblk m c 1 t) (iblk m c 2 t) := by
  by_cases h : t.val % 16 = 0
  · conv_lhs => rw [outsAt0_A m c t h]
    dsimp only
    frame_out
    rfl
  · conv_lhs => rw [outsAt0_B m c t h]
    dsimp only
    frame_out
    rfl

theorem blockL_A (t : Fin cfg0.N) (h : t.val % 16 = 0) : (outsAt0 m c t.val t.isLt).1 = newL (iblk m c 0 t) (iblk m c 1 t) (iblk m c 2 t) k0_pay3 := by
  conv_lhs => rw [outsAt0_A m c t h]
  dsimp only
  frame_out
  rfl
theorem blockL_B (t : Fin cfg0.N) (h : ¬ t.val % 16 = 0) : (outsAt0 m c t.val t.isLt).1
    = newL (iblk m c 0 t) (iblk m c 1 t) (iblk m c 2 t) (outsAt0 m c (t.val - 1) (prevLt t)).1 := by
  conv_lhs => rw [outsAt0_B m c t h]
  dsimp only
  frame_out
  rfl
theorem blockG_A (t : Fin cfg0.N) (h : t.val % 16 = 0) : (outsAt0 m c t.val t.isLt).2.2 = newG (iblk m c 0 t) (iblk m c 1 t) (iblk m c 2 t) k0_pay4 := by
  conv_lhs => rw [outsAt0_A m c t h]
  dsimp only
  frame_out
  rfl
theorem blockG_B (t : Fin cfg0.N) (h : ¬ t.val % 16 = 0) : (outsAt0 m c t.val t.isLt).2.2
    = newG (iblk m c 0 t) (iblk m c 1 t) (iblk m c 2 t) (outsAt0 m c (t.val - 1) (prevLt t)).2.2 := by
  conv_lhs => rw [outsAt0_B m c t h]
  dsimp only
  frame_out
  rfl

theorem newX_at (x : FVec Ideal S512x1024 .f32) (g : FVec Ideal S1x1024 .f32) (y : FVec Ideal S512x1024 .f32) (r : Fin 512) (j : Fin 1024) :
    newX x g y (ix2 r j) = lossGrad (fun i => x (ix2 r i)) (fun i => g (ix2 0 i)) (gradOf (fun i => x (ix2 r i)) (fun i => g (ix2 0 i)) (fun i => y (ix2 r i))) j := by
  pointwise [newX, k0_pay1, k0_pay15, k0_pay14, k0_pay12, k0_pay10, k0_pay9, k0_pay8, k0_pay7, k0_pay6, k0_pay5]
  rfl

theorem newL_at (x : FVec Ideal S512x1024 .f32) (g : FVec Ideal S1x1024 .f32) (y : FVec Ideal S512x1024 .f32) (s : FVec Ideal S1x1024 .f32) (j : Fin 1024) :
    newL x g y s (ix2 0 j) = s (ix2 0 j) + ∑ r : Fin 512, errOf (fun i => x (ix2 r i)) (fun i => g (ix2 0 i)) (fun i => y (ix2 r i)) j
      * errOf (fun i => x (ix2 r i)) (fun i => g (ix2 0 i)) (fun i => y (ix2 r i)) j := by
  pointwise [newL, k0_pay11, k0_pay10, k0_pay9, k0_pay7, k0_pay6, k0_pay5]
  rfl

theorem newG_at (x : FVec Ideal S512x1024 .f32) (g : FVec Ideal S1x1024 .f32) (y : FVec Ideal S512x1024 .f32) (s : FVec Ideal S1x1024 .f32) (j : Fin 1024) :
    newG x g y s (ix2 0 j) = s (ix2 0 j) + ∑ r : Fin 512, scalePart (fun i => x (ix2 r i)) (gradOf (fun i => x (ix2 r i)) (fun i => g (ix2 0 i)) (fun i => y (ix2 r i))) j := by
  pointwise [newG, k0_pay2, k0_pay13, k0_pay12, k0_pay10, k0_pay9, k0_pay7, k0_pay6, k0_pay5]
  rfl

/-! ## The results as functions of whole arrays -/

def rowErr (r : Fin 8192) : Fin 1024 → EReal := errOf (fun i => aX m c (ix2 r i)) (fun i => hG m c (ix2 0 i)) (fun i => aY m c (ix2 r i))
def rowGrad (r : Fin 8192) : Fin 1024 → EReal := gradOf (fun i => aX m c (ix2 r i)) (fun i => hG m c (ix2 0 i)) (fun i => aY m c (ix2 r i))
def resL (j : Fin 1024) : EReal := ∑ r : Fin 8192, rowErr m c r j * rowErr m c r j
def resX (r : Fin 8192) (j : Fin 1024) : EReal := lossGrad (fun i => aX m c (ix2 r i)) (fun i => hG m c (ix2 0 i)) (rowGrad m c r) j
def resG (j : Fin 1024) : EReal := ∑ r : Fin 8192, scalePart (fun i => aX m c (ix2 r i)) (rowGrad m c r) j

theorem rowX (t : Fin cfg0.N) (r : Fin 512) : (fun i => (show FVec Ideal S512x1024 .f32 from iblk m c 0 t) (ix2 r i)) = fun i => aX m c (ix2 (row t r) i) := funext fun i => in0 m c t r i
theorem rowG (t : Fin cfg0.N) : (fun i => (show FVec Ideal S1x1024 .f32 from iblk m c 1 t) (ix2 0 i)) = fun i => hG m c (ix2 0 i) := funext fun i => in1 m c t i
theorem rowY (t : Fin cfg0.N) (r : Fin 512) : (fun i => (show FVec Ideal S512x1024 .f32 from iblk m c 2 t) (ix2 r i)) = fun i => aY m c (ix2 (row t r) i) := funext fun i => in2 m c t r i

theorem outX (t : Fin cfg0.N) (r : Fin 512) (j : Fin 1024) : (outsAt0 m c t.val t.isLt).2.1 (ix2 r j) = resX m c (row t r) j := by
  rw [blockX]
  refine (newX_at _ _ _ r j).trans ?_
  rw [rowX, rowG, rowY]
  rfl

theorem finalX (y : S8192x1024.Idx) : (show EReal from (dats m 0 c).arrAt 4 (cfgs 0).N y) = resX m c (y 0) (y 1) := by
  have e : (dats m 0 c).arrAt 4 (cfgs 0).N = fun y : S8192x1024.Idx => (resX m c (y 0) (y 1) : EReal) := by
    refine (dats m 0 c).arrAt_eq_of_covers 4 _ (by decide +kernel) fun t hf y => ?_
    blk_simp
    rw [after0_4]
    idx_vars y
    refine (outX m c t y0 y1).trans ?_
    have read : ∀ G : FVec Ideal S8192x1024 .f32, G (ix2 (row t y0) y1) = G (((cfg0.win 4).blk t).view.emb (ix2 y0 y1)) := fun G => by
      blk_point [idx t]
      rfl
    exact read fun z => resX m c (z 0) (z 1)
  exact congrFun e y

theorem row_run (t : Fin cfg0.N) (h : t.val % 16 = 15) (s : Fin 16) (r : Fin 512) (hl : s.val * 512 + r.val < 8192) :
    row ⟨16 * (t.val / 16) + s.val, Pipeline.run_point_lt_of_flush t h s⟩ r = ⟨s.val * 512 + r.val, hl⟩ := by
  have h16 := lt16 t
  refine Fin.ext ?_
  show (16 * (t.val / 16) + s.val) * 512 + r.val = s.val * 512 + r.val
  rw [show t.val / 16 = 0 by omega]
  omega

/-- Block `t`'s part of the sum. -/
def partL (t : Fin cfg0.N) (y : S1x1024.Idx) : EReal := ∑ r : Fin 512, rowErr m c (row t r) (y 1) * rowErr m c (row t r) (y 1)

theorem zeroL (j : S1x1024.Idx) : k0_pay3 (F := Ideal) j = 0 := by pointwise [k0_pay3]

theorem newL_row (t : Fin cfg0.N) (e : FVec Ideal S1x1024 .f32) (y : S1x1024.Idx) :
    newL (iblk m c 0 t) (iblk m c 1 t) (iblk m c 2 t) e y = e y + partL m c t y := by
  idx_vars y
  obtain rfl : y0 = 0 := Subsingleton.elim _ _
  refine (newL_at _ _ _ e y1).trans (congrArg (fun x : EReal => e (ix2 0 y1) + x) (Finset.sum_congr (M := EReal) rfl fun r _ => ?_))
  rw [rowX, rowG, rowY]
  rfl

theorem sumL (t : Fin cfg0.N) (h : t.val % 16 = 15) (y : S1x1024.Idx) :
    (outsAt0 m c t.val t.isLt).1 y = ∑ s : Fin 16, partL m c ⟨16 * (t.val / 16) + s.val, Pipeline.run_point_lt_of_flush t h s⟩ y := by
  rw [Pipeline.eq_sum_fin_of_reset_step_apply_of_flush (fun n h => (outsAt0 m c n h).1) 16 (fun _ => (0 : EReal))
    (partL m c) (fun t h j => ?_) (fun t h j => ?_) t h y, zero_add]
  · exact (congrFun (blockL_A m c t h) j).trans ((newL_row m c t _ j).trans (by rw [zeroL]))
  · exact (congrFun (blockL_B m c t h) j).trans (newL_row m c t _ j)

theorem finalL (y : S1x1024.Idx) : (show EReal from (dats m 0 c).arrAt 3 (cfgs 0).N y) = resL m c (y 1) := by
  have e : (dats m 0 c).arrAt 3 (cfgs 0).N = fun y : S1x1024.Idx => (resL m c (y 1) : EReal) := by
    refine (dats m 0 c).arrAt_eq_of_covers 3 _ (by decide +kernel) fun t hf y => ?_
    have h := (flush0_3 t).mp hf
    blk_simp
    rw [after0_3, sumL m c t h]
    idx_vars y
    refine (Fin.sum_mul_add_congr (f := fun r : Fin 8192 => rowErr m c (r) y1 * rowErr m c (r) y1)
      fun s r hl => by rw [row_run t h s r hl]; rfl).trans (congrArg (resL m c) (Fin.ext ?_))
    blk_point [idx t]
  exact congrFun e y

/-- Block `t`'s part of the sum. -/
def partG (t : Fin cfg0.N) (y : S1x1024.Idx) : EReal := ∑ r : Fin 512, scalePart (fun i => aX m c (ix2 (row t r) i)) (rowGrad m c (row t r)) (y 1)

theorem zeroG (j : S1x1024.Idx) : k0_pay4 (F := Ideal) j = 0 := by pointwise [k0_pay4]

theorem newG_row (t : Fin cfg0.N) (e : FVec Ideal S1x1024 .f32) (y : S1x1024.Idx) :
    newG (iblk m c 0 t) (iblk m c 1 t) (iblk m c 2 t) e y = e y + partG m c t y := by
  idx_vars y
  obtain rfl : y0 = 0 := Subsingleton.elim _ _
  refine (newG_at _ _ _ e y1).trans (congrArg (fun x : EReal => e (ix2 0 y1) + x) (Finset.sum_congr (M := EReal) rfl fun r _ => ?_))
  rw [rowX, rowG, rowY]
  rfl

theorem sumG (t : Fin cfg0.N) (h : t.val % 16 = 15) (y : S1x1024.Idx) :
    (outsAt0 m c t.val t.isLt).2.2 y = ∑ s : Fin 16, partG m c ⟨16 * (t.val / 16) + s.val, Pipeline.run_point_lt_of_flush t h s⟩ y := by
  rw [Pipeline.eq_sum_fin_of_reset_step_apply_of_flush (fun n h => (outsAt0 m c n h).2.2) 16 (fun _ => (0 : EReal))
    (partG m c) (fun t h j => ?_) (fun t h j => ?_) t h y, zero_add]
  · exact (congrFun (blockG_A m c t h) j).trans ((newG_row m c t _ j).trans (by rw [zeroG]))
  · exact (congrFun (blockG_B m c t h) j).trans (newG_row m c t _ j)

theorem finalG (y : S1x1024.Idx) : (show EReal from (dats m 0 c).arrAt 5 (cfgs 0).N y) = resG m c (y 1) := by
  have e : (dats m 0 c).arrAt 5 (cfgs 0).N = fun y : S1x1024.Idx => (resG m c (y 1) : EReal) := by
    refine (dats m 0 c).arrAt_eq_of_covers 5 _ (by decide +kernel) fun t hf y => ?_
    have h := (flush0_5 t).mp hf
    blk_simp
    rw [after0_5, sumG m c t h]
    idx_vars y
    refine (Fin.sum_mul_add_congr (f := fun r : Fin 8192 => scalePart (fun i => aX m c (ix2 (r) i)) (rowGrad m c (r)) y1)
      fun s r hl => by rw [row_run t h s r hl]; rfl).trans (congrArg (resG m c) (Fin.ext ?_))
    blk_point [idx t]
  exact congrFun e y

/-! ## Each result is the reference's -/

theorem half : Ideal.ofBits .f32 0x3F000000#32 = (((1 / 2 : ℝ)) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem lanes : Ideal.ofBits .f32 0x44800000#32 = ((1024 : ℝ) : EReal) := by
  simp [Ideal.ofBits, Ideal.ieee, -EReal.coe_mul]; norm_num
theorem perLane : Ideal.ofBits .f32 0x3A800000#32 = ((1 / 1024 : ℝ) : EReal) := by
  simp [Ideal.ofBits, Ideal.ieee, -EReal.coe_mul]; norm_num

/-- Half a lane's share, twice, is its share. -/
theorem weight (e : EReal) : Ideal.div (Ideal.ofBits .f32 0x3F000000#32) (Ideal.ofBits .f32 0x44800000#32) * (Ideal.ofBits .f32 0x40000000#32 * e)
    = e * Ideal.ofBits .f32 0x3A800000#32 := by
  rw [half, two, lanes, perLane, Ideal.div_coe (by norm_num), ← mul_assoc, mul_comm e]
  refine congrArg (fun s : EReal => s * e) ?_
  rw [← EReal.coe_mul, ← EReal.coe_mul]
  norm_num

theorem scaleFun : (fun i => (hG m c (ix2 0 i) : EReal)) = fun i => aG m c (ix1 i) := funext fun i => scale_at m c i

theorem err_at (r : Fin 8192) (j : Fin 1024) : ERR (aX m c) (aG m c) (aY m c) (ix2 r j) = rowErr m c r j := by
  unfold rowErr
  rw [scaleFun]
  pointwise [ERR, MSQ]
  rfl

theorem dh_at (r : Fin 8192) (j : Fin 1024) : DH (aX m c) (aG m c) (aY m c) (ix2 r j) = rowGrad m c r j := by
  pointwise [DH]
  simp only [err_at]
  exact weight _

theorem res1_at (r : Fin 8192) (j : Fin 1024) : (show EReal from RES1 (aX m c) (aG m c) (aY m c) (ix2 r j)) = resX m c r j := by
  unfold resX
  rw [scaleFun]
  pointwise [RES1, QCO, MSQ]
  simp only [dh_at]
  rfl

theorem res0_at (j : Fin 1024) : (show EReal from RES0 (aX m c) (aG m c) (aY m c) (ix2 0 j)) = resL m c j := by
  unfold resL
  pointwise [RES0]
  simp only [err_at]

theorem res2_at (j : Fin 1024) : (show EReal from RES2 (aX m c) (aG m c) (aY m c) (ix2 0 j)) = resG m c j := by
  unfold resG
  pointwise [RES2, MSQ]
  simp only [dh_at]
  refine (Fintype.sum_unique _).trans ?_
  rfl

theorem equal0 : (dats m 0 c).arrAt 3 (cfgs 0).N = RES0 (aX m c) (aG m c) (aY m c) := by
  funext y
  refine (finalL m c y).trans ?_
  idx_vars y
  obtain rfl : y0 = 0 := Subsingleton.elim _ _
  exact (res0_at m c y1).symm

theorem equal1 : (dats m 0 c).arrAt 4 (cfgs 0).N = RES1 (aX m c) (aG m c) (aY m c) := by
  funext y
  refine (finalX m c y).trans ?_
  idx_vars y
  exact (res1_at m c y0 y1).symm

theorem equal2 : (dats m 0 c).arrAt 5 (cfgs 0).N = RES2 (aX m c) (aG m c) (aY m c) := by
  funext y
  refine (finalG m c y).trans ?_
  idx_vars y
  obtain rfl : y0 = 0 := Subsingleton.elim _ _
  exact (res2_at m c y1).symm

end Cert.LossHeadIdeal.Value
end
-- ==== Proof.Up.Chunk.lean ====
module
public import Idealize.ShloMosaic.Lib.Pipeline.ReadBack
public import Idealize.ShloMosaic.Lib.Pipeline.ValueKit
public import Idealize.ShloMosaic.Lib.Pointwise
public import proofs.«01_k».proof.Proof.Gen.UpFwdIdeal.Value

@[expose] public section
set_option maxRecDepth 16384
noncomputable section
open Idealize.ShloMosaic Idealize.ShloMosaic.TcCoe Idealize.SL.Sem
open Idealize.ShloMosaic.Pipeline (Dat)
namespace Cert.UpFwdIdeal.Value
open Cert.UpFwdIdeal Cert.UpFwdIdeal.Gen
variable {F : FTy → Type} [FloatOps F]

/-! ## What one grid point leaves in each output block and in the two carried buffers

The body treats the 5632 lanes in 22 chunks of 256, a chunk of the gate and its chunk of the values in turn, each with
the same arithmetic. Here it is once, as functions of a chunk's number. The block that is convolved is the one of the
point before, which is carried together with the last rows of the block before that. -/

theorem inbS : ∀ k : Fin 22, ∀ a : Fin 2, (![0, 256 * k.val] : Fin 2 → Nat) a + S128x256.size a ≤ S128x5632.size a := by decide
theorem inbA : ∀ k : Fin 11, ∀ a : Fin 2, (![0, 256 * k.val] : Fin 2 → Nat) a + S128x256.size a ≤ S128x2816.size a := by decide
theorem inbL : ∀ k : Fin 22, ∀ a : Fin 2, (![112, 256 * k.val] : Fin 2 → Nat) a + S16x256.size a ≤ S128x5632.size a := by decide
theorem inbE : ∀ k : Fin 22, ∀ a : Fin 2, (![0, 256 * k.val] : Fin 2 → Nat) a + S16x256.size a ≤ S16x5632.size a := by decide
theorem inbT : ∀ k : Fin 22, ∀ a : Fin 2, (![15, 256 * k.val] : Fin 2 → Nat) a + S1x256.size a ≤ S16x5632.size a := by decide
theorem inbC : ∀ r : Fin 3, ∀ k : Fin 22, ∀ a : Fin 2, (![r.val, 256 * k.val] : Fin 2 → Nat) a + S1x256.size a ≤ S3x5632.size a := by decide
theorem inbB : ∀ k : Fin 22, ∀ a : Fin 2, (![0, 256 * k.val] : Fin 2 → Nat) a + S1x256.size a ≤ S1x5632.size a := by decide
theorem inbW : ∀ k : Fin 22, ∀ a : Fin 2, (![0, 256 * k.val] : Fin 2 → Nat) a + S1024x256.size a ≤ S1024x5632.size a := by decide

/-- Chunk `k` of a block of rows. -/
def cutS (x : FVec F S128x5632 .bf16) (k : Fin 22) : FVec F S128x256 .bf16 :=
  View.ld (Val := Elt F) (e' := .bf16) x (Rect.unit (s := S128x5632) ![0, 256 * k.val] S128x256.size (inbS k))
/-- Chunk `k` of a block's last sixteen rows. -/
def cutL (x : FVec F S128x5632 .bf16) (k : Fin 22) : FVec F S16x256 .bf16 :=
  View.ld (Val := Elt F) (e' := .bf16) x (Rect.unit (s := S128x5632) ![112, 256 * k.val] S16x256.size (inbL k))
/-- Chunk `k` of the last of sixteen rows. -/
def cutT (x : FVec F S16x5632 .bf16) (k : Fin 22) : FVec F S1x256 .bf16 :=
  View.ld (Val := Elt F) (e' := .bf16) x (Rect.unit (s := S16x5632) ![15, 256 * k.val] S1x256.size (inbT k))
/-- Chunk `k` of row `r` of the three rows of weights. -/
def cutC (x : FVec F S3x5632 .f32) (r : Fin 3) (k : Fin 22) : FVec F S1x256 .f32 :=
  View.ld (Val := Elt F) (e' := .f32) x (Rect.unit (s := S3x5632) ![r.val, 256 * k.val] S1x256.size (inbC r k))
/-- Chunk `k` of one row. -/
def cutB (x : FVec F S1x5632 .f32) (k : Fin 22) : FVec F S1x256 .f32 :=
  View.ld (Val := Elt F) (e' := .f32) x (Rect.unit (s := S1x5632) ![0, 256 * k.val] S1x256.size (inbB k))
/-- Chunk `k` of the matrix's lanes. -/
def cutW (x : FVec F S1024x5632 .bf16) (k : Fin 22) : FVec F S1024x256 .bf16 :=
  View.ld (Val := Elt F) (e' := .bf16) x (Rect.unit (s := S1024x5632) ![0, 256 * k.val] S1024x256.size (inbW k))

/-- Each row's number in the block. -/
def rows : IVec S128x1 32 := iota .tc S128x1 32 [0] iota_S128x1_d0_w32

/-- Chunk `k` of the product of the normalised rows. -/
def newU (h : FVec F S128x1024 .bf16) (w : FVec F S1024x5632 .bf16) (k : Fin 22) : FVec F S128x256 .bf16 := k0_pay24 h (cutW w k)

/-- Chunk `k` of the convolution of the carried block. -/
def conv (i : grid0.Coords) (h : FVec F S128x1024 .bf16) (w : FVec F S1024x5632 .bf16) (v : FVec F S3x5632 .f32) (b : FVec F S1x5632 .f32)
    (p : FVec F S128x5632 .bf16) (q : FVec F S16x5632 .bf16) (k : Fin 22) : FVec F S128x256 .f32 :=
  k0_pay25 (BitVec.ofNat 32 (i 0).val) rows (newU h w k) (cutS p k) (cutT q k) (cutB b k) (cutC v 0 k) (cutC v 1 k) (cutC v 2 k)
def newZ (i : grid0.Coords) (h : FVec F S128x1024 .bf16) (w : FVec F S1024x5632 .bf16) (v : FVec F S3x5632 .f32) (b : FVec F S1x5632 .f32)
    (p : FVec F S128x5632 .bf16) (q : FVec F S16x5632 .bf16) (k : Fin 22) : FVec F S128x256 .bf16 :=
  k0_pay26 (BitVec.ofNat 32 (i 0).val) rows (newU h w k) (cutS p k) (cutT q k) (cutB b k) (cutC v 0 k) (cutC v 1 k) (cutC v 2 k)

/-- Chunk `k` of the gate, and of the values. -/
def gate (k : Fin 11) : Fin 22 := ⟨k.val, by omega⟩
def vals (k : Fin 11) : Fin 22 := ⟨11 + k.val, by omega⟩

/-- Chunk `k` of the gated values. -/
def newA (z : Fin 22 → FVec F S128x256 .f32) (k : Fin 11) : FVec F S128x256 .bf16 := k0_pay3 (z (gate k)) (z (vals k))
/-- What is carried on: the product's chunk and the carried block's last rows. -/
def newP (h : FVec F S128x1024 .bf16) (w : FVec F S1024x5632 .bf16) (k : Fin 22) : FVec F S128x256 .bf16 := k0_pay28 (newU h w k)
def newQ (p : FVec F S128x5632 .bf16) (k : Fin 22) : FVec F S16x256 .bf16 := k0_pay27 (cutL p k)

/-- The stores' chunks, the last first. -/
def chunks : List (Fin 22) := [21, 10, 20, 9, 19, 8, 18, 7, 17, 6, 16, 5, 15, 4, 14, 3, 13, 2, 12, 1, 11, 0]
def halves : List (Fin 11) := [10, 9, 8, 7, 6, 5, 4, 3, 2, 1, 0]

def pieceS (w : Fin 22 → FVec F S128x256 .bf16) (k : Fin 22) : View.Piece (Elt F) S128x5632 .bf16 :=
  ⟨Rect.unit (s := S128x5632) ![0, 256 * k.val] S128x256.size (inbS k), w k⟩
def pieceE (w : Fin 22 → FVec F S16x256 .bf16) (k : Fin 22) : View.Piece (Elt F) S16x5632 .bf16 :=
  ⟨Rect.unit (s := S16x5632) ![0, 256 * k.val] S16x256.size (inbE k), w k⟩
def pieceA (w : Fin 11 → FVec F S128x256 .bf16) (k : Fin 11) : View.Piece (Elt F) S128x2816 .bf16 :=
  ⟨Rect.unit (s := S128x2816) ![0, 256 * k.val] S128x256.size (inbA k), w k⟩

def listS (w : Fin 22 → FVec F S128x256 .bf16) : List (View.Piece (Elt F) S128x5632 .bf16) := chunks.map (pieceS w)
def listE (w : Fin 22 → FVec F S16x256 .bf16) : List (View.Piece (Elt F) S16x5632 .bf16) := chunks.map (pieceE w)
def listA (w : Fin 11 → FVec F S128x256 .bf16) : List (View.Piece (Elt F) S128x2816 .bf16) := halves.map (pieceA w)

variable (m : (ℓ : Loc nD τ sig) → Buf (Elt F) ℓ) (c : Dev nD) (t : Fin cfg0.N)

theorem prevLt : t.val - 1 < cfg0.N := Nat.lt_of_le_of_lt (Nat.sub_le _ _) t.isLt

/-- The normalised rows at point `t`, and what the point before carried on. -/
abbrev atH : FVec F S128x1024 .bf16 := k0_pay6 (iblk m c 0 t) (iblk m c 1 t)
abbrev atP : FVec F S128x5632 .bf16 := (outsAt0 m c (t.val - 1) (prevLt t)).2.2.2.2.1
abbrev atQ : FVec F S16x5632 .bf16 := (outsAt0 m c (t.val - 1) (prevLt t)).2.2.2.2.2

theorem blockU_B (h : ¬ t.val % 65 = 0) : (outsAt0 m c t.val t.isLt).1 = View.canon (listS (newU (atH m c t) (iblk m c 2 t))) := by
  conv_lhs => rw [outsAt0_B m c t h]
  dsimp only
  frame_out
  rfl

theorem blockH_B (h : ¬ t.val % 65 = 0) : (outsAt0 m c t.val t.isLt).2.1 = atH m c t := by
  conv_lhs => rw [outsAt0_B m c t h]
  dsimp only
  frame_out

theorem blockU_A (h : t.val % 65 = 0) : (outsAt0 m c t.val t.isLt).1 = View.canon (listS (newU (atH m c t) (iblk m c 2 t))) := by
  conv_lhs => rw [outsAt0_A m c t h]
  dsimp only
  frame_out
  rfl

theorem blockH_A (h : t.val % 65 = 0) : (outsAt0 m c t.val t.isLt).2.1 = atH m c t := by
  conv_lhs => rw [outsAt0_A m c t h]
  dsimp only
  frame_out

theorem blockP_B (h : ¬ t.val % 65 = 0) : (outsAt0 m c t.val t.isLt).2.2.2.2.1 = View.canon (listS (newP (atH m c t) (iblk m c 2 t))) := by
  conv_lhs => rw [outsAt0_B m c t h]
  dsimp only
  frame_out
  rfl

theorem blockQ_B (h : ¬ t.val % 65 = 0) : (outsAt0 m c t.val t.isLt).2.2.2.2.2 = View.canon (listE (newQ (atP m c t))) := by
  conv_lhs => rw [outsAt0_B m c t h]
  dsimp only
  frame_out
  simp only [read_unread_whole]
  rfl

end Cert.UpFwdIdeal.Value
end
-- ==== Proof.Up.Values.lean ====
module
public import Idealize.ShloMosaic.Lib.Pipeline.ReadBack
public import Idealize.ShloMosaic.Lib.Pipeline.ValueKit
public import Idealize.ShloMosaic.Lib.Pointwise
public import proofs.«01_k».proof.Proof.Up.Chunk
public import proofs.«01_k».proof.Proof.Conv.Rows

@[expose] public section
set_option maxRecDepth 16384
noncomputable section
open Idealize.ShloMosaic Idealize.ShloMosaic.TcCoe Idealize.SL.Sem
open Idealize.ShloMosaic.Pipeline (Dat)
namespace Cert.UpFwdIdeal.Value
open Cert.UpFwdIdeal Cert.UpFwdIdeal.Gen
open Cert.UpGradIdeal.Value (meanSq lane lane_surj chunkOf within lane_div lane_mod)

/-! ## The lists of stores read at an index -/

/-- Lane `s` of chunk `k` of half the lanes, the chunk a lane is in, and its place there. -/
def half (k : Fin 11) (s : Fin 256) : Fin 2816 := ⟨256 * k.val + s.val, by omega⟩
def halfOf (l : Fin 2816) : Fin 11 := ⟨l.val / 256, by omega⟩
def inHalf (l : Fin 2816) : Fin 256 := ⟨l.val % 256, by omega⟩

theorem half_surj (l : Fin 2816) : ∃ k s, l = half k s :=
  ⟨halfOf l, inHalf l, Fin.ext (show l.val = 256 * (l.val / 256) + l.val % 256 by omega)⟩
theorem half_div (k : Fin 11) (s : Fin 256) : halfOf (half k s) = k := Fin.ext (show (256 * k.val + s.val) / 256 = k.val by omega)
theorem half_mod (k : Fin 11) (s : Fin 256) : inHalf (half k s) = s := Fin.ext (show (256 * k.val + s.val) % 256 = s.val by omega)

theorem mem_chunks : ∀ k : Fin 22, k ∈ chunks := by decide
theorem mem_halves : ∀ k : Fin 11, k ∈ halves := by decide

section Lists
variable {F : FTy → Type} [FloatOps F]

theorem pieceS_emb (w : Fin 22 → FVec F S128x256 .bf16) (k : Fin 22) (r : Fin 128) (s : Fin 256) :
    (pieceS w k).1.emb (ix2 r s) = ix2 r (lane k s) := by
  funext a; apply Fin.ext
  match a with
  | ⟨0, _⟩ => show 0 + 1 * r.val = r.val; omega
  | ⟨1, _⟩ => show 256 * k.val + 1 * s.val = 256 * k.val + s.val; omega

theorem canonS (w : Fin 22 → FVec F S128x256 .bf16) (L : List (View.Piece (Elt F) S128x5632 .bf16)) (k : Fin 22) (r : Fin 128) (s : Fin 256) :
    View.canon (listS w ++ L) (ix2 r (lane k s)) = w k (ix2 r s) := by
  have at_piece : ∀ p ∈ listS w, ∀ x : p.1.shape.Idx, p.2 x
      = (fun y : S128x5632.Idx => w (chunkOf (y 1)) (ix2 (y 0) (within (y 1)))) (p.1.emb x) := by
    intro p hp x
    obtain ⟨k, _, rfl⟩ := List.mem_map.mp hp
    idx_vars x
    rw [pieceS_emb]
    show w k (ix2 x0 x1) = w (chunkOf (lane k x1)) (ix2 x0 (within (lane k x1)))
    rw [lane_div, lane_mod]
  refine (View.canon_append_of_pieces (fun y : S128x5632.Idx => w (chunkOf (y 1)) (ix2 (y 0) (within (y 1)))) L (listS w) at_piece _ ⟨pieceS w k, List.mem_map_of_mem (mem_chunks k), ?_⟩).trans ?_
  · rw [← pieceS_emb w k r s, ← Rect.map_emb_univ]
    exact Finset.mem_map_of_mem _ (Finset.mem_univ _)
  · show w (chunkOf (lane k s)) (ix2 r (within (lane k s))) = _
    rw [lane_div, lane_mod]

theorem canonS' (w : Fin 22 → FVec F S128x256 .bf16) (k : Fin 22) (r : Fin 128) (s : Fin 256) :
    View.canon (listS w) (ix2 r (lane k s)) = w k (ix2 r s) := by
  have e := canonS w [] k r s
  rwa [List.append_nil] at e

theorem pieceE_emb (w : Fin 22 → FVec F S16x256 .bf16) (k : Fin 22) (r : Fin 16) (s : Fin 256) :
    (pieceE w k).1.emb (ix2 r s) = ix2 r (lane k s) := by
  funext a; apply Fin.ext
  match a with
  | ⟨0, _⟩ => show 0 + 1 * r.val = r.val; omega
  | ⟨1, _⟩ => show 256 * k.val + 1 * s.val = 256 * k.val + s.val; omega

theorem canonE (w : Fin 22 → FVec F S16x256 .bf16) (L : List (View.Piece (Elt F) S16x5632 .bf16)) (k : Fin 22) (r : Fin 16) (s : Fin 256) :
    View.canon (listE w ++ L) (ix2 r (lane k s)) = w k (ix2 r s) := by
  have at_piece : ∀ p ∈ listE w, ∀ x : p.1.shape.Idx, p.2 x
      = (fun y : S16x5632.Idx => w (chunkOf (y 1)) (ix2 (y 0) (within (y 1)))) (p.1.emb x) := by
    intro p hp x
    obtain ⟨k, _, rfl⟩ := List.mem_map.mp hp
    idx_vars x
    rw [pieceE_emb]
    show w k (ix2 x0 x1) = w (chunkOf (lane k x1)) (ix2 x0 (within (lane k x1)))
    rw [lane_div, lane_mod]
  refine (View.canon_append_of_pieces (fun y : S16x5632.Idx => w (chunkOf (y 1)) (ix2 (y 0) (within (y 1)))) L (listE w) at_piece _ ⟨pieceE w k, List.mem_map_of_mem (mem_chunks k), ?_⟩).trans ?_
  · rw [← pieceE_emb w k r s, ← Rect.map_emb_univ]
    exact Finset.mem_map_of_mem _ (Finset.mem_univ _)
  · show w (chunkOf (lane k s)) (ix2 r (within (lane k s))) = _
    rw [lane_div, lane_mod]

theorem canonE' (w : Fin 22 → FVec F S16x256 .bf16) (k : Fin 22) (r : Fin 16) (s : Fin 256) :
    View.canon (listE w) (ix2 r (lane k s)) = w k (ix2 r s) := by
  have e := canonE w [] k r s
  rwa [List.append_nil] at e

theorem pieceA_emb (w : Fin 11 → FVec F S128x256 .bf16) (k : Fin 11) (r : Fin 128) (s : Fin 256) :
    (pieceA w k).1.emb (ix2 r s) = ix2 r (half k s) := by
  funext a; apply Fin.ext
  match a with
  | ⟨0, _⟩ => show 0 + 1 * r.val = r.val; omega
  | ⟨1, _⟩ => show 256 * k.val + 1 * s.val = 256 * k.val + s.val; omega

theorem canonA (w : Fin 11 → FVec F S128x256 .bf16) (L : List (View.Piece (Elt F) S128x2816 .bf16)) (k : Fin 11) (r : Fin 128) (s : Fin 256) :
    View.canon (listA w ++ L) (ix2 r (half k s)) = w k (ix2 r s) := by
  have at_piece : ∀ p ∈ listA w, ∀ x : p.1.shape.Idx, p.2 x
      = (fun y : S128x2816.Idx => w (halfOf (y 1)) (ix2 (y 0) (inHalf (y 1)))) (p.1.emb x) := by
    intro p hp x
    obtain ⟨k, _, rfl⟩ := List.mem_map.mp hp
    idx_vars x
    rw [pieceA_emb]
    show w k (ix2 x0 x1) = w (halfOf (half k x1)) (ix2 x0 (inHalf (half k x1)))
    rw [half_div, half_mod]
  refine (View.canon_append_of_pieces (fun y : S128x2816.Idx => w (halfOf (y 1)) (ix2 (y 0) (inHalf (y 1)))) L (listA w) at_piece _ ⟨pieceA w k, List.mem_map_of_mem (mem_halves k), ?_⟩).trans ?_
  · rw [← pieceA_emb w k r s, ← Rect.map_emb_univ]
    exact Finset.mem_map_of_mem _ (Finset.mem_univ _)
  · show w (halfOf (half k s)) (ix2 r (inHalf (half k s))) = _
    rw [half_div, half_mod]

theorem canonA' (w : Fin 11 → FVec F S128x256 .bf16) (k : Fin 11) (r : Fin 128) (s : Fin 256) :
    View.canon (listA w) (ix2 r (half k s)) = w k (ix2 r s) := by
  have e := canonA w [] k r s
  rwa [List.append_nil] at e

end Lists

/-! ## The chunk functions at an index -/

theorem cutS_at (d : FVec Ideal S128x5632 .bf16) (k : Fin 22) (r : Fin 128) (s : Fin 256) : cutS d k (ix2 r s) = d (ix2 r (lane k s)) := by
  pointwise [cutS]
  rfl
theorem cutL_at (d : FVec Ideal S128x5632 .bf16) (k : Fin 22) (s : Fin 256) : cutL d k (ix2 15 s) = d (ix2 127 (lane k s)) := by
  pointwise [cutL]
  rfl
theorem cutT_at (d : FVec Ideal S16x5632 .bf16) (k : Fin 22) (s : Fin 256) : cutT d k (ix2 0 s) = d (ix2 15 (lane k s)) := by
  pointwise [cutT]
  rfl
theorem cutC_at (d : FVec Ideal S3x5632 .f32) (q : Fin 3) (k : Fin 22) (s : Fin 256) : cutC d q k (ix2 0 s) = d (ix2 q (lane k s)) := by
  pointwise [cutC]
  rfl
theorem cutB_at (d : FVec Ideal S1x5632 .f32) (k : Fin 22) (s : Fin 256) : cutB d k (ix2 0 s) = d (ix2 0 (lane k s)) := by
  pointwise [cutB]
  rfl
theorem cutW_at (d : FVec Ideal S1024x5632 .bf16) (k : Fin 22) (j : Fin 1024) (s : Fin 256) : cutW d k (ix2 j s) = d (ix2 j (lane k s)) := by
  pointwise [cutW]
  rfl

/-- A row through the norm. -/
def normed (x g : Fin 1024 → EReal) (j : Fin 1024) : EReal := x j * Ideal.rsqrt (meanSq x) * g j

theorem newH_at (x : FVec Ideal S128x1024 .f32) (g : FVec Ideal S1x1024 .f32) (r : Fin 128) (j : Fin 1024) :
    (show EReal from k0_pay6 (F := Ideal) x g (ix2 r j)) = normed (fun i => x (ix2 r i)) (fun i => g (ix2 0 i)) j := by
  pointwise [k0_pay6]
  rfl

theorem newU_at (h : FVec Ideal S128x1024 .bf16) (w : FVec Ideal S1024x5632 .bf16) (k : Fin 22) (r : Fin 128) (s : Fin 256) :
    (show EReal from newU h w k (ix2 r s)) = ∑ j : Fin 1024, (h (ix2 r j) * w (ix2 j (lane k s)) : EReal) := by
  pointwise [newU, k0_pay24]
  exact Finset.sum_congr (M := EReal) rfl fun j _ => congrArg (fun z : EReal => h (ix2 r j) * z) (cutW_at w k j s)

theorem newP_at (h : FVec Ideal S128x1024 .bf16) (w : FVec Ideal S1024x5632 .bf16) (k : Fin 22) (r : Fin 128) (s : Fin 256) :
    newP h w k (ix2 r s) = newU h w k (ix2 r s) := by
  pointwise [newP, k0_pay28]
theorem newQ_at (p : FVec Ideal S128x5632 .bf16) (k : Fin 22) (s : Fin 256) : newQ p k (ix2 15 s) = p (ix2 127 (lane k s)) := by
  refine Eq.trans ?_ (cutL_at p k s)
  pointwise [newQ, k0_pay27]

theorem zero_at (j : S128x5632.Idx) : (show EReal from k0_pay4 (F := Ideal) j) = 0 := by pointwise [k0_pay4]

theorem slt_last : ∀ n : Fin 65, Scalar.cmpi .slt (BitVec.ofNat 32 n.val) 64#32 = if n.val < 64 then 1#1 else 0#1 := by decide
theorem eq_first : ∀ r : Fin 128, IntOp.cmpi .eq (BitVec.ofNat 32 r.val) 0#32 = if r.val = 0 then 1#1 else 0#1 := by decide
theorem eq_last : ∀ r : Fin 128, IntOp.cmpi .eq (BitVec.ofNat 32 r.val) 127#32 = if r.val = 127 then 1#1 else 0#1 := by decide

/-- The row before row `r` of a block, and the row after it. -/
def below (p : FVec Ideal S128x256 .bf16) (q : FVec Ideal S1x256 .bf16) (r : Fin 128) (s : Fin 256) : EReal :=
  if r.val = 0 then q (ix2 0 s) else p (ix2 ⟨r.val - 1, by omega⟩ s)
def above (n : Fin 65) (p u : FVec Ideal S128x256 .bf16) (r : Fin 128) (s : Fin 256) : EReal :=
  if h : r.val = 127 then (if n.val < 64 then u (ix2 0 s) else (0 : EReal)) else p (ix2 ⟨r.val + 1, by omega⟩ s)

theorem conv_point (n : Fin 65) (u p : FVec Ideal S128x256 .bf16) (q : FVec Ideal S1x256 .bf16) (b v0 v1 v2 : FVec Ideal S1x256 .f32) (r : Fin 128) (s : Fin 256) :
    (show EReal from k0_pay25 (F := Ideal) (BitVec.ofNat 32 n.val) rows u p q b v0 v1 v2 (ix2 r s))
      = b (ix2 0 s) + below p q r s * v0 (ix2 0 s) + p (ix2 r s) * v1 (ix2 0 s) + above n p u r s * v2 (ix2 0 s) := by
  have hb : (show EReal from if r.val = 0 then q (ix2 0 s) else p (ix2 ⟨(r.val + 128 - 1) % 128, Nat.mod_lt _ (by decide)⟩ s)) = below p q r s := by
    unfold below
    by_cases hr : r.val = 0
    · rw [if_pos hr, if_pos hr]
    · rw [if_neg hr, if_neg hr]
      refine congrArg (fun q : Fin 128 => (p (ix2 q s) : EReal)) (Fin.ext ?_)
      show (r.val + 128 - 1) % 128 = r.val - 1
      omega
  have ha : (show EReal from if r.val = 127 then (if n.val < 64 then u (ix2 0 s) else (0 : EReal)) else p (ix2 ⟨(r.val + 128 - 127) % 128, Nat.mod_lt _ (by decide)⟩ s)) = above n p u r s := by
    unfold above
    by_cases hr : r.val = 127
    · rw [if_pos hr, dif_pos hr]
    · rw [if_neg hr, dif_neg hr]
      refine congrArg (fun q : Fin 128 => (p (ix2 q s) : EReal)) (Fin.ext ?_)
      show (r.val + 128 - 127) % 128 = r.val + 1
      omega
  rw [← hb, ← ha]
  pointwise [k0_pay25, rows]
  rw [eq_first r, eq_last r, slt_last n]
  by_cases h0 : r.val = 0
  · by_cases h1 : r.val = 127
    · omega
    · rw [if_pos h0, if_neg h1, if_pos h0, if_neg h1]
      rfl
  · by_cases h1 : r.val = 127
    · by_cases h2 : n.val < 64
      · rw [if_neg h0, if_pos h1, if_neg h0, if_pos h1, if_pos h2, if_pos h2]
        rfl
      · rw [if_neg h0, if_pos h1, if_neg h0, if_pos h1, if_neg h2, if_neg h2]
        rfl
    · rw [if_neg h0, if_neg h1, if_neg h0, if_neg h1]
      rfl

theorem newA_at (z : Fin 22 → FVec Ideal S128x256 .f32) (k : Fin 11) (r : Fin 128) (s : Fin 256) :
    (show EReal from newA z k (ix2 r s)) = (show EReal from z (gate k) (ix2 r s)) * Ideal.div 1 (1 + Ideal.exp (0 - z (gate k) (ix2 r s))) * z (vals k) (ix2 r s) := by
  pointwise [newA, k0_pay3]

end Cert.UpFwdIdeal.Value
end
-- ==== Proof.Back.Finite.lean ====
module
public import Idealize.ShloMosaic.PureOps.Ideal
public import Idealize.ShloMosaic.Lib.Pointwise
public import Idealize.ShloMosaic.Lib.ReduceAll

@[expose] public section
noncomputable section
open Idealize.ShloMosaic
namespace Cert.Finite

/-! ## Finite extended reals, and the gated linear unit's derivative at them -/

/-- The extended real is a real number. -/
def IsReal (x : EReal) : Prop := ∃ a : ℝ, x = a

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} [Fintype ι] {f : ι → EReal} (h : ∀ i, IsReal (f i)) : IsReal (∑ i, f i) :=
  Finset.sum_induction f IsReal (fun _ _ hx hy => hx.add hy) ⟨0, EReal.coe_zero.symm⟩ fun i _ => h i

/-- What lies below infinity in absolute value is a real number. -/
theorem isReal_of_abs_lt {x : EReal} (h : max x (-x) < ⊤) : IsReal x := by
  induction x with
  | bot => simp at h
  | top => simp at h
  | coe a => exact ⟨a, rfl⟩

/-- The word of infinity. -/
theorem ofBits_inf : Ideal.ofBits .f32 0x7F800000#32 = ⊤ := by
  simp [Ideal.ofBits, Ideal.ieee]

/-- The comparison the precondition prints, read back. -/
theorem isReal_of_cmp {x : EReal} (h : Ideal.cmp .olt (max x (-x)) (Ideal.ofBits .f32 0x7F800000#32) = 1#1) : IsReal x := by
  rw [ofBits_inf] at h
  refine isReal_of_abs_lt ?_
  by_contra hn
  simp [Ideal.cmp, hn] at h

/-- The logis function. -/
def logis (z : EReal) : EReal := Ideal.div 1 (1 + Ideal.exp (0 - z))

theorem logis_bot : logis ⊥ = 0 := by
  have e : (1 : EReal) + ⊤ = ⊤ := EReal.add_top_of_ne_bot (EReal.coe_ne_bot 1)
  simp [logis, Ideal.div, e]
theorem logis_top : logis ⊤ = 1 := by
  simp [logis, Ideal.div]
theorem logis_coe (a : ℝ) : logis a = ((1 / (1 + Real.exp (0 - a)) : ℝ) : EReal) := by
  have e : 0 - (a : EReal) = ((0 - a : ℝ) : EReal) := by rw [EReal.coe_sub, EReal.coe_zero]
  have p : 0 < 1 + Real.exp (0 - a) := by positivity
  unfold logis Ideal.div
  rw [e, Ideal.exp_coe, ← EReal.coe_one, ← EReal.coe_add, if_neg (by exact_mod_cast p.ne'), ← EReal.coe_inv, ← EReal.coe_mul, one_div, one_mul]

theorem one_sub_one : (1 : EReal) - 1 = 0 := by
  rw [← EReal.coe_one, ← EReal.coe_sub, sub_self, EReal.coe_zero]

/-- The derivative of the gate, taken out of the product at once or term by term: a finite factor distributes. -/
theorem gate_grad {c : EReal} (hc : IsReal c) (z : EReal) :
    c * (logis z + z * logis z * (1 - logis z)) = c * logis z + z * c * (logis z * (1 - logis z)) := by
  obtain ⟨b, rfl⟩ := hc
  induction z with
  | bot => simp [logis_bot]
  | top => simp [logis_top, one_sub_one]
  | coe a =>
    rw [logis_coe]
    norm_cast
    ring

end Cert.Finite
end
-- ==== Proof.Back.Down.lean ====
module
public import Idealize.ShloMosaic.Lib.Pipeline.ReadBack
public import Idealize.ShloMosaic.Lib.Pipeline.ValueKit
public import Idealize.ShloMosaic.Lib.Pointwise
public import proofs.«01_k».proof.Proof.Gen.DownGradIdeal.Value
public import proofs.«01_k».proof.Proof.Gen.DownGradRefIdeal.Run
public import proofs.«01_k».proof.Proof.Gen.Pre_down_finite
public import proofs.«01_k».proof.Proof.Up.Values
public import proofs.«01_k».proof.Proof.Back.Finite

@[expose] public section
set_option maxRecDepth 16384
noncomputable section
open Idealize.ShloMosaic Idealize.ShloMosaic.TcCoe Idealize.SL.Sem
open Idealize.ShloMosaic.Pipeline (Dat)
namespace Cert.DownGradRefIdeal.Value
open Cert.DownGradRefIdeal Cert.DownGradRefIdeal.Gen Idealize.ShloMosaic.StableHlo

/-! ## The reference's results, part by part -/

/-- The gradient at the gated values. -/
def DA (x : FVec Ideal S8192x1024 .f32) (w : FVec Ideal S2816x1024 .bf16) : FVec Ideal S8192x2816 .f32 :=
  Host.dotGeneral (φ₁ := .f32) (φ₂ := .f32) dot_S8192x1024_S2816x1024_S8192x2816_1_1_0_0_n_n none x (extf .f32 w bitsLt_bf16_f32)

/-- The logistic function of the gate. -/
def SIG (z : FVec Ideal S8192x5632 .bf16) : FVec Ideal S8192x2816 .f32 :=
  Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (extractStridedSlice S8192x2816 ![0, 0] (extf .f32 z bitsLt_bf16_f32) slices_S8192x5632_S8192x2816_0_0))))

/-- The reference's result 0 of its arguments. -/
def RES (x : FVec Ideal S8192x1024 .f32) (z : FVec Ideal S8192x5632 .bf16) (w : FVec Ideal S2816x1024 .bf16) : FVec Ideal S8192x5632 .bf16 :=
  truncf .bf16 (concatenate S8192x5632 1 [⟨S8192x2816, (addf (mulf (mulf (DA x w) (extractStridedSlice S8192x2816 ![0, 2816] (extf .f32 z bitsLt_bf16_f32) slices_S8192x5632_S8192x2816_0_2816)) (SIG z)) (mulf (mulf (extractStridedSlice S8192x2816 ![0, 0] (extf .f32 z bitsLt_bf16_f32) slices_S8192x5632_S8192x2816_0_0) (mulf (DA x w) (extractStridedSlice S8192x2816 ![0, 2816] (extf .f32 z bitsLt_bf16_f32) slices_S8192x5632_S8192x2816_0_2816))) (mulf (SIG z) (subf (broadcastInDim S8192x2816 ![] bcast_S_S8192x2816 (constant (F := Ideal) S_ .f32 0x3F800000#32)) (SIG z)))))⟩, ⟨S8192x2816, (mulf (mulf (extractStridedSlice S8192x2816 ![0, 0] (extf .f32 z bitsLt_bf16_f32) slices_S8192x5632_S8192x2816_0_0) (SIG z)) (DA x w))⟩] concatenates_S8192x2816_S8192x2816_S8192x5632_d1) bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = RES (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DownGradRefIdeal.Value
namespace Cert.DownGradIdeal.Value
open Cert.DownGradIdeal Cert.DownGradIdeal.Gen
open Cert.UpFwdIdeal.Value (half half_surj halfOf inHalf half_div half_mod)
open Cert.Finite (IsReal logis gate_grad isReal_of_cmp)
open Cert.DownGradRefIdeal.Value (RES DA SIG)

/-! ## The gradient through the gated activation

The body treats the 2816 lanes in 11 chunks of 256; each chunk leaves two stores, the gradient of the gate and that of the
gated values. -/

variable {F : FTy → Type} [FloatOps F]

theorem inbZ : ∀ k : Fin 22, ∀ a : Fin 2, (![0, 256 * k.val] : Fin 2 → Nat) a + S512x256.size a ≤ S512x5632.size a := by decide
theorem inbW : ∀ k : Fin 11, ∀ a : Fin 2, (![256 * k.val, 0] : Fin 2 → Nat) a + S256x1024.size a ≤ S2816x1024.size a := by decide

/-- Chunk `k` of a block of rows, and of the matrix's rows. -/
def cutZ (z : FVec F S512x5632 .bf16) (k : Fin 22) : FVec F S512x256 .bf16 :=
  View.ld (Val := Elt F) (e' := .bf16) z (Rect.unit (s := S512x5632) ![0, 256 * k.val] S512x256.size (inbZ k))
def cutW (w : FVec F S2816x1024 .bf16) (k : Fin 11) : FVec F S256x1024 .bf16 :=
  View.ld (Val := Elt F) (e' := .bf16) w (Rect.unit (s := S2816x1024) ![256 * k.val, 0] S256x1024.size (inbW k))

/-- Chunk `k` of the gate, and of the values. -/
def gate (k : Fin 11) : Fin 22 := ⟨k.val, by omega⟩
def vals (k : Fin 11) : Fin 22 := ⟨11 + k.val, by omega⟩
/-- A gate's lane, and a value's. -/
def gateLane (l : Fin 2816) : Fin 5632 := ⟨l.val, by omega⟩
def valLane (l : Fin 2816) : Fin 5632 := ⟨2816 + l.val, by omega⟩

theorem lane_cases (l : Fin 5632) : (∃ k s, l = gateLane (half k s)) ∨ ∃ k s, l = valLane (half k s) := by
  by_cases h : l.val < 2816
  · obtain ⟨k, s, e⟩ := half_surj ⟨l.val, h⟩
    exact Or.inl ⟨k, s, Fin.ext (show l.val = (half k s).val from congrArg Fin.val e)⟩
  · obtain ⟨k, s, e⟩ := half_surj ⟨l.val - 2816, by omega⟩
    refine Or.inr ⟨k, s, Fin.ext ?_⟩
    have e' : l.val - 2816 = (half k s).val := congrArg Fin.val e
    show l.val = 2816 + (half k s).val
    omega

theorem cutG_at (z : FVec Ideal S512x5632 .bf16) (k : Fin 11) (r : Fin 512) (s : Fin 256) : cutZ z (gate k) (ix2 r s) = z (ix2 r (gateLane (half k s))) := by
  pointwise [cutZ]
  rfl
theorem cutV_at (z : FVec Ideal S512x5632 .bf16) (k : Fin 11) (r : Fin 512) (s : Fin 256) : cutZ z (vals k) (ix2 r s) = z (ix2 r (valLane (half k s))) := by
  pointwise [cutZ]
  refine congrArg z (congrArg (ix2 r) (Fin.ext ?_))
  show 256 * (11 + k.val) + s.val = 2816 + (256 * k.val + s.val)
  omega
theorem cutW_at (w : FVec Ideal S2816x1024 .bf16) (k : Fin 11) (s : Fin 256) (j : Fin 1024) : cutW w k (ix2 s j) = w (ix2 (half k s) j) := by
  pointwise [cutW]
  rfl

/-- The gradient of the gate and of the values in chunk `k`. -/
def newG (x : FVec F S512x1024 .f32) (z : FVec F S512x5632 .bf16) (w : FVec F S2816x1024 .bf16) (k : Fin 11) : FVec F S512x256 .bf16 :=
  k0_pay13 x (cutW w k) (cutZ z (gate k)) (cutZ z (vals k))
def newV (x : FVec F S512x1024 .f32) (z : FVec F S512x5632 .bf16) (w : FVec F S2816x1024 .bf16) (k : Fin 11) : FVec F S512x256 .bf16 :=
  k0_pay14 x (cutW w k) (cutZ z (gate k))

/-- The product a lane's gradient starts from. -/
def inner (x w : Fin 1024 → EReal) : EReal := ∑ j : Fin 1024, x j * w j
/-- The gradient of a gate, and of a value, of the product, the gate and the value. -/
def gateGrad (d g v : EReal) : EReal := d * v * (logis g + g * logis g * (1 - logis g))
def valGrad (d g : EReal) : EReal := d * (g * logis g)

theorem newG_at (x : FVec Ideal S512x1024 .f32) (z : FVec Ideal S512x5632 .bf16) (w : FVec Ideal S2816x1024 .bf16) (k : Fin 11) (r : Fin 512) (s : Fin 256) :
    (show EReal from newG x z w k (ix2 r s))
      = gateGrad (inner (fun j => x (ix2 r j)) (fun j => w (ix2 (half k s) j))) (z (ix2 r (gateLane (half k s)))) (z (ix2 r (valLane (half k s)))) := by
  pointwise [newG, k0_pay13, k0_pay9, k0_pay11, k0_pay12, k0_pay10, k0_pay8]
  simp only [cutG_at, cutV_at, cutW_at]
  rfl
theorem newV_at (x : FVec Ideal S512x1024 .f32) (z : FVec Ideal S512x5632 .bf16) (w : FVec Ideal S2816x1024 .bf16) (k : Fin 11) (r : Fin 512) (s : Fin 256) :
    (show EReal from newV x z w k (ix2 r s))
      = valGrad (inner (fun j => x (ix2 r j)) (fun j => w (ix2 (half k s) j))) (z (ix2 r (gateLane (half k s)))) := by
  pointwise [newV, k0_pay14, k0_pay9, k0_pay11, k0_pay12, k0_pay10, k0_pay8]
  simp only [cutG_at, cutV_at, cutW_at]
  rfl

/-! ## The block that the stores leave -/

/-- Two halves of a row side by side. -/
def side (p q : Fin 2816 → EReal) (l : Fin 5632) : EReal := if h : l.val < 2816 then p ⟨l.val, h⟩ else q ⟨l.val - 2816, by omega⟩

theorem side_gate (p q : Fin 2816 → EReal) (l : Fin 2816) : side p q (gateLane l) = p l := dif_pos (show l.val < 2816 from l.isLt)
theorem side_val (p q : Fin 2816 → EReal) (l : Fin 2816) : side p q (valLane l) = q l :=
  (dif_neg (show ¬ 2816 + l.val < 2816 by omega)).trans (congrArg q (Fin.ext (show 2816 + l.val - 2816 = l.val by omega)))

/-- The gradient of one row, of the row's gradient, the matrix and the row. -/
def rowGrad (x : Fin 1024 → EReal) (w : Fin 2816 → Fin 1024 → EReal) (z : Fin 5632 → EReal) : Fin 5632 → EReal :=
  side (fun l => gateGrad (inner x (w l)) (z (gateLane l)) (z (valLane l))) (fun l => valGrad (inner x (w l)) (z (gateLane l)))

theorem rowGrad_gate (x : Fin 1024 → EReal) (w : Fin 2816 → Fin 1024 → EReal) (z : Fin 5632 → EReal) (l : Fin 2816) :
    rowGrad x w z (gateLane l) = gateGrad (inner x (w l)) (z (gateLane l)) (z (valLane l)) := side_gate _ _ l
theorem rowGrad_val (x : Fin 1024 → EReal) (w : Fin 2816 → Fin 1024 → EReal) (z : Fin 5632 → EReal) (l : Fin 2816) :
    rowGrad x w z (valLane l) = valGrad (inner x (w l)) (z (gateLane l)) := side_val _ _ l

def pieceG (x : FVec F S512x1024 .f32) (z : FVec F S512x5632 .bf16) (w : FVec F S2816x1024 .bf16) (k : Fin 11) : View.Piece (Elt F) S512x5632 .bf16 :=
  ⟨Rect.unit (s := S512x5632) ![0, 256 * (gate k).val] S512x256.size (inbZ (gate k)), newG x z w k⟩
def pieceV (x : FVec F S512x1024 .f32) (z : FVec F S512x5632 .bf16) (w : FVec F S2816x1024 .bf16) (k : Fin 11) : View.Piece (Elt F) S512x5632 .bf16 :=
  ⟨Rect.unit (s := S512x5632) ![0, 256 * (vals k).val] S512x256.size (inbZ (vals k)), newV x z w k⟩

/-- The chunks, the last first, and the stores in that order. -/
def order : List (Fin 11) := [10, 9, 8, 7, 6, 5, 4, 3, 2, 1, 0]
def stores (x : FVec F S512x1024 .f32) (z : FVec F S512x5632 .bf16) (w : FVec F S2816x1024 .bf16) : List (View.Piece (Elt F) S512x5632 .bf16) :=
  order.flatMap fun k => [pieceV x z w k, pieceG x z w k]

/-- The body's stores are those. -/
theorem block (x : FVec F S512x1024 .f32) (z : FVec F S512x5632 .bf16) (w : FVec F S2816x1024 .bf16) :
    out0_3 (F := F) x z w = View.canon (stores x z w) := by
  unfold out0_3
  unfold k0_pay83 k0_pay82 k0_pay81 k0_pay80 k0_pay79 k0_pay78 k0_pay77 k0_pay76 k0_pay75
  frame_out
  rfl

theorem mem_order : ∀ k : Fin 11, k ∈ order := by decide

theorem pieceG_emb (x : FVec Ideal S512x1024 .f32) (z : FVec Ideal S512x5632 .bf16) (w : FVec Ideal S2816x1024 .bf16) (k : Fin 11) (r : Fin 512) (s : Fin 256) :
    (pieceG x z w k).1.emb (ix2 r s) = ix2 r (gateLane (half k s)) := by
  funext a; apply Fin.ext
  match a with
  | ⟨0, _⟩ => show 0 + 1 * r.val = r.val; omega
  | ⟨1, _⟩ => show 256 * k.val + 1 * s.val = 256 * k.val + s.val; omega
theorem pieceV_emb (x : FVec Ideal S512x1024 .f32) (z : FVec Ideal S512x5632 .bf16) (w : FVec Ideal S2816x1024 .bf16) (k : Fin 11) (r : Fin 512) (s : Fin 256) :
    (pieceV x z w k).1.emb (ix2 r s) = ix2 r (valLane (half k s)) := by
  funext a; apply Fin.ext
  match a with
  | ⟨0, _⟩ => show 0 + 1 * r.val = r.val; omega
  | ⟨1, _⟩ => show 256 * (11 + k.val) + 1 * s.val = 2816 + (256 * k.val + s.val); omega

/-- The block of gradients. -/
def gradBlock (x : FVec Ideal S512x1024 .f32) (z : FVec Ideal S512x5632 .bf16) (w : FVec Ideal S2816x1024 .bf16) (y : S512x5632.Idx) : EReal :=
  rowGrad (fun j => x (ix2 (y 0) j)) (fun l j => w (ix2 l j)) (fun l => z (ix2 (y 0) l)) (y 1)

theorem stores_at (x : FVec Ideal S512x1024 .f32) (z : FVec Ideal S512x5632 .bf16) (w : FVec Ideal S2816x1024 .bf16) :
    ∀ p ∈ stores x z w, ∀ i : p.1.shape.Idx, p.2 i = gradBlock x z w (p.1.emb i) := by
  intro p hp i
  obtain ⟨k, _, hp⟩ := List.mem_flatMap.mp hp
  rcases List.mem_cons.mp hp with rfl | hp
  · change S512x256.Idx at i
    idx_vars i
    rw [pieceV_emb]
    exact (newV_at x z w k i0 i1).trans (rowGrad_val (fun j => x (ix2 i0 j)) (fun l j => w (ix2 l j)) (fun l => z (ix2 i0 l)) (half k i1)).symm
  rcases List.mem_cons.mp hp with rfl | hp
  · change S512x256.Idx at i
    idx_vars i
    rw [pieceG_emb]
    exact (newG_at x z w k i0 i1).trans (rowGrad_gate (fun j => x (ix2 i0 j)) (fun l j => w (ix2 l j)) (fun l => z (ix2 i0 l)) (half k i1)).symm
  · exact absurd hp List.not_mem_nil

theorem canon_stores (x : FVec Ideal S512x1024 .f32) (z : FVec Ideal S512x5632 .bf16) (w : FVec Ideal S2816x1024 .bf16) (y : S512x5632.Idx) :
    View.canon (stores x z w) y = gradBlock x z w y := by
  have here : ∃ p ∈ stores x z w, y ∈ p.1.set := by
    idx_vars y
    rcases lane_cases y1 with ⟨k, s, rfl⟩ | ⟨k, s, rfl⟩
    · refine ⟨pieceG x z w k, List.mem_flatMap.mpr ⟨k, mem_order k, List.mem_cons_of_mem _ List.mem_cons_self⟩, ?_⟩
      rw [← pieceG_emb x z w k y0 s, ← Rect.map_emb_univ]
      exact Finset.mem_map_of_mem _ (Finset.mem_univ _)
    · refine ⟨pieceV x z w k, List.mem_flatMap.mpr ⟨k, mem_order k, List.mem_cons_self⟩, ?_⟩
      rw [← pieceV_emb x z w k y0 s, ← Rect.map_emb_univ]
      exact Finset.mem_map_of_mem _ (Finset.mem_univ _)
  exact View.canon_apply_of_pieces (gradBlock x z w) (stores x z w) (stores_at x z w) y here

variable (m : (ℓ : Loc nD τ sig) → Buf (Elt Ideal) ℓ) (c : Dev nD)

/-- The arguments. -/
abbrev aX : FVec Ideal S8192x1024 .f32 := m ((c : Thread nD τ).loc main_arg0)
abbrev aZ : FVec Ideal S8192x5632 .bf16 := m ((c : Thread nD τ).loc main_arg1)
abbrev aW : FVec Ideal S2816x1024 .bf16 := m ((c : Thread nD τ).loc main_arg2)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem lt16 (t : Fin cfg0.N) : t.val < 16 := lt_of_lt_of_eq t.isLt N_0

/-- Row `r` of block `t`. -/
def row (t : Fin cfg0.N) (r : Fin 512) : Fin 8192 := ⟨t.val * 512 + r.val, by have := lt16 t; omega⟩

theorem in0 (t : Fin cfg0.N) (r : Fin 512) (l : Fin 1024) : (show FVec Ideal S512x1024 .f32 from iblk m c 0 t) (ix2 r l) = aX m c (ix2 (row t r) l) := by
  blk_point [iblk, V, idx t]
  rfl
theorem in1 (t : Fin cfg0.N) (r : Fin 512) (l : Fin 5632) : (show FVec Ideal S512x5632 .bf16 from iblk m c 1 t) (ix2 r l) = aZ m c (ix2 (row t r) l) := by
  blk_point [iblk, V, idx t]
  rfl
theorem in2 (t : Fin cfg0.N) (r : Fin 2816) (l : Fin 1024) : (show FVec Ideal S2816x1024 .bf16 from iblk m c 2 t) (ix2 r l) = aW m c (ix2 r l) := by
  blk_point [iblk, V, idx t]

theorem rowX (t : Fin cfg0.N) (r : Fin 512) : (fun j => (show FVec Ideal S512x1024 .f32 from iblk m c 0 t) (ix2 r j)) = fun j => aX m c (ix2 (row t r) j) := funext fun j => in0 m c t r j
theorem rowZ (t : Fin cfg0.N) (r : Fin 512) : (fun l => (show FVec Ideal S512x5632 .bf16 from iblk m c 1 t) (ix2 r l)) = fun l => aZ m c (ix2 (row t r) l) := funext fun l => in1 m c t r l
theorem allW (t : Fin cfg0.N) : (fun l j => (show FVec Ideal S2816x1024 .bf16 from iblk m c 2 t) (ix2 l j)) = fun l j => aW m c (ix2 l j) := funext fun l => funext fun j => in2 m c t l j

/-- The result as a function of the whole arrays. -/
def res (r : Fin 8192) (l : Fin 5632) : EReal := rowGrad (fun j => aX m c (ix2 r j)) (fun l j => aW m c (ix2 l j)) (fun l => aZ m c (ix2 r l)) l

theorem out (t : Fin cfg0.N) (r : Fin 512) (l : Fin 5632) :
    (show EReal from out0_3 (F := Ideal) (iblk m c 0 t) (iblk m c 1 t) (iblk m c 2 t) (ix2 r l)) = res m c (row t r) l := by
  rw [block]
  refine (canon_stores _ _ _ (ix2 r l)).trans ?_
  show rowGrad (fun j => (show FVec Ideal S512x1024 .f32 from iblk m c 0 t) (ix2 r j)) (fun l j => (show FVec Ideal S2816x1024 .bf16 from iblk m c 2 t) (ix2 l j))
    (fun l => (show FVec Ideal S512x5632 .bf16 from iblk m c 1 t) (ix2 r l)) l = _
  rw [rowX, rowZ, allW]
  rfl

theorem final (y : S8192x5632.Idx) : (show EReal from (dats m 0 c).arrAt 3 (cfgs 0).N y) = res m c (y 0) (y 1) := by
  have e : (dats m 0 c).arrAt 3 (cfgs 0).N = fun y : S8192x5632.Idx => (res m c (y 0) (y 1) : EReal) := by
    refine (dats m 0 c).arrAt_eq_of_covers 3 _ (by decide +kernel) fun t hf y => ?_
    blk_simp
    rw [after0_3]
    idx_vars y
    refine (out m c t y0 y1).trans ?_
    have read : ∀ G : FVec Ideal S8192x5632 .bf16, G (ix2 (row t y0) y1) = G (((cfg0.win 3).blk t).view.emb (ix2 y0 y1)) := fun G => by
      blk_point [idx t]
      rfl
    exact read fun z => res m c (z 0) (z 1)
  exact congrFun e y

/-! ## The result is the reference's, where the arrays that enter products are finite -/

theorem da_at (x : FVec Ideal S8192x1024 .f32) (w : FVec Ideal S2816x1024 .bf16) (r : Fin 8192) (l : Fin 2816) :
    (show EReal from DA x w (ix2 r l)) = inner (fun j => x (ix2 r j)) (fun j => w (ix2 l j)) := by
  pointwise [DA]
  rfl

theorem sig_at (z : FVec Ideal S8192x5632 .bf16) (r : Fin 8192) (l : Fin 2816) : (show EReal from SIG z (ix2 r l)) = logis (z (ix2 r (gateLane l))) := by
  pointwise [SIG]
  unfold logis
  simp only [zero_sub]
  rfl

/-- The reference's gradient of one row. -/
def refGrad (x : Fin 1024 → EReal) (w : Fin 2816 → Fin 1024 → EReal) (z : Fin 5632 → EReal) : Fin 5632 → EReal :=
  side (fun l => inner x (w l) * z (valLane l) * logis (z (gateLane l)) + z (gateLane l) * (inner x (w l) * z (valLane l)) * (logis (z (gateLane l)) * (1 - logis (z (gateLane l)))))
    (fun l => z (gateLane l) * logis (z (gateLane l)) * inner x (w l))

theorem ref_at (x : FVec Ideal S8192x1024 .f32) (z : FVec Ideal S8192x5632 .bf16) (w : FVec Ideal S2816x1024 .bf16) (r : Fin 8192) (l : Fin 5632) :
    (show EReal from RES x z w (ix2 r l)) = refGrad (fun j => x (ix2 r j)) (fun l j => w (ix2 l j)) (fun l => z (ix2 r l)) l := by
  pointwise [RES]
  unfold refGrad side
  simp only [← da_at, ← sig_at]
  rfl

theorem grads_eq (x : Fin 1024 → EReal) (w : Fin 2816 → Fin 1024 → EReal) (z : Fin 5632 → EReal) (hx : ∀ j, IsReal (x j)) (hw : ∀ l j, IsReal (w l j))
    (hz : ∀ l, IsReal (z (valLane l))) : rowGrad x w z = refGrad x w z := by
  unfold rowGrad refGrad
  refine congrArg₂ side (funext fun l => ?_) (funext fun l => mul_comm _ _)
  exact gate_grad ((IsReal.sum fun j => (hx j).mul (hw l j)).mul (hz l)) _

instance oneIndex : Subsingleton Cert.Pre_down_finite.S_.Idx := ⟨fun a b => funext fun i => i.elim0⟩

/-- What the precondition says of each element. -/
theorem finite (x : FVec Ideal S8192x1024 .f32) (z : FVec Ideal S8192x5632 .bf16) (w : FVec Ideal S2816x1024 .bf16)
    (h : Cert.Pre_down_finite.fn (F := Ideal) x z w = fun _ => 1#1) :
    (∀ r j, IsReal (x (ix2 r j))) ∧ (∀ l j, IsReal (w (ix2 l j))) ∧ ∀ r l, IsReal (z (ix2 r (valLane l))) := by
  dsimp only [Cert.Pre_down_finite.fn] at h
  have h0 := congrFun h ix0
  obtain ⟨h1, hz⟩ := IntOp.andi_eq_one.mp h0
  obtain ⟨hx, hw⟩ := IntOp.andi_eq_one.mp h1
  refine ⟨fun r j => isReal_of_cmp ?_, fun l j => isReal_of_cmp ?_, fun r l => isReal_of_cmp ?_⟩
  · have e := Host.reduce_andi_all _ _ _ _ _ hx (ix2 r j)
    exact e
  · have e := Host.reduce_andi_all _ _ _ _ _ hw (ix2 l j)
    exact e
  · have e := Host.reduce_andi_all _ _ _ _ _ hz (ix2 r l)
    refine Eq.trans ?_ e
    pointwise []
    rfl

theorem equal (h : Cert.Pre_down_finite.fn (F := Ideal) (aX m c) (aZ m c) (aW m c) = fun _ => 1#1) :
    (dats m 0 c).arrAt 3 (cfgs 0).N = RES (aX m c) (aZ m c) (aW m c) := by
  obtain ⟨hx, hw, hz⟩ := finite _ _ _ h
  funext y
  refine (final m c y).trans ?_
  idx_vars y
  refine Eq.trans ?_ (ref_at _ _ _ y0 y1).symm
  exact congrFun (grads_eq _ _ _ (hx y0) hw (hz y0)) y1

end Cert.DownGradIdeal.Value
end
-- ==== Proof.Mix.Block.lean ====
module
public import Idealize.ShloMosaic.Lib.Pipeline.ReadBack
public import Idealize.ShloMosaic.Lib.Pipeline.ValueKit
public import Idealize.ShloMosaic.Lib.Pointwise
public import proofs.«01_k».proof.Proof.Gen.MixGradIdeal.Value

@[expose] public section
set_option maxRecDepth 16384
noncomputable section
open Idealize.ShloMosaic Idealize.ShloMosaic.TcCoe Idealize.SL.Sem
open Idealize.ShloMosaic.Pipeline (Dat)
namespace Cert.MixGradIdeal.Value
open Cert.MixGradIdeal Cert.MixGradIdeal.Gen
variable {F : FTy → Type} [FloatOps F]

/-! ## What one grid point leaves in each output block

The body treats four heads in turn with the same arithmetic. Here it is once, as functions of a head's number. -/

theorem inbH : ∀ k : Fin 4, ∀ a, (![0, 128 * k.val] : Fin 2 → ℕ) a + S1024x128.size a ≤ S1024x512.size a := by decide
theorem inbG : ∀ k : Fin 4, ∀ a, (![k.val, 0, 0] : Fin 3 → ℕ) a + S1x1x128.size a ≤ S4x1x128.size a := by decide
theorem inbW : ∀ k : Fin 4, ∀ a, (![512 + 128 * k.val, 0] : Fin 2 → ℕ) a + S128x1024.size a ≤ S1024x1024.size a := by decide

/-- Head `k`'s columns of a block, its scale, and its rows of the matrix. -/
def cutH (x : FVec F S1024x512 .f32) (k : Fin 4) : FVec F S1024x128 .f32 :=
  View.ld (Val := Elt F) (e' := .f32) x (Rect.unit (s := S1024x512) ![0, 128 * k.val] S1024x128.size (inbH k))
def cutG (x : FVec F S4x1x128 .f32) (k : Fin 4) : FVec F S1x1x128 .f32 :=
  View.ld (Val := Elt F) (e' := .f32) x (Rect.unit (s := S4x1x128) ![k.val, 0, 0] S1x1x128.size (inbG k))
def cutW (x : FVec F S1024x1024 .bf16) (k : Fin 4) : FVec F S128x1024 .bf16 :=
  View.ld (Val := Elt F) (e' := .bf16) x (Rect.unit (s := S1024x1024) ![512 + 128 * k.val, 0] S128x1024.size (inbW k))
/-- The matrix's first 512 rows. -/
def top (x : FVec F S1024x1024 .bf16) : FVec F S512x1024 .bf16 :=
  View.ld (Val := Elt F) (e' := .bf16) x (Rect.unit (s := S1024x1024) ![0, 0] S512x1024.size inb_S1024x1024_S512x1024_0_0)

/-- The gradient at head `k`'s output. -/
def newD (x : FVec F S1024x1024 .f32) (w : FVec F S1024x1024 .bf16) (k : Fin 4) : FVec F S1024x128 .f32 := k0_pay4 x (cutW w k)
/-- The zero that the body subtracts from. -/
def zeroC : F .f32 := Scalar.ofBits .f32 0x00000000#32
/-- Head `k`'s gradient of the states' sum, of the gate, and what it adds to the scale's gradient. -/
def newO (x : FVec F S1024x1024 .f32) (w : FVec F S1024x1024 .bf16) (f b p : FVec F S1024x512 .f32) (g : FVec F S4x1x128 .f32) (k : Fin 4) : FVec F S1024x128 .f32 :=
  k0_pay18 (newD x w k) (k0_pay5 (cutH f k) (cutH b k)) (cutH p k) (k0_pay6 (cutG g k)) (k0_pay8 (cutH f k) (cutH b k)) (k0_pay9 (cutH f k) (cutH b k)) zeroC
def newP (x : FVec F S1024x1024 .f32) (w : FVec F S1024x1024 .bf16) (f b p : FVec F S1024x512 .f32) (g : FVec F S4x1x128 .f32) (k : Fin 4) : FVec F S1024x128 .f32 :=
  k0_pay16 (newD x w k) (cutH p k) (k0_pay11 (cutH f k) (cutH b k) (cutG g k)) zeroC
def newS (x : FVec F S1024x1024 .f32) (w : FVec F S1024x1024 .bf16) (f b p : FVec F S1024x512 .f32) (e : FVec F S4x1x128 .f32) (k : Fin 4) : FVec F S1x1x128 .f32 :=
  k0_pay19 (k0_pay17 (newD x w k) (cutH p k) (k0_pay10 (cutH f k) (cutH b k)) zeroC) (cutG e k)

/-- The heads, the last first, and one store of each. -/
def heads : List (Fin 4) := [3, 2, 1, 0]
def pieceH (n : Fin 4 → FVec F S1024x128 .f32) (k : Fin 4) : View.Piece (Elt F) S1024x512 .f32 :=
  ⟨Rect.unit (s := S1024x512) ![0, 128 * k.val] S1024x128.size (inbH k), n k⟩
def pieceS (n : Fin 4 → FVec F S1x1x128 .f32) (k : Fin 4) : View.Piece (Elt F) S4x1x128 .f32 :=
  ⟨Rect.unit (s := S4x1x128) ![k.val, 0, 0] S1x1x128.size (inbG k), n k⟩
def listH (n : Fin 4 → FVec F S1024x128 .f32) : List (View.Piece (Elt F) S1024x512 .f32) := heads.map (pieceH n)
def listS (n : Fin 4 → FVec F S1x1x128 .f32) : List (View.Piece (Elt F) S4x1x128 .f32) := heads.map (pieceS n)

variable (m : (ℓ : Loc nD τ sig) → Buf (Elt F) ℓ) (c : Dev nD) (t : Fin cfg0.N)

theorem prevLt : t.val - 1 < cfg0.N := Nat.lt_of_le_of_lt (Nat.sub_le _ _) t.isLt

theorem blockA_A (h : t.val % 8 = 0) : (outsAt0 m c t.val t.isLt).1 = k0_pay3 (iblk m c 0 t) (top (iblk m c 1 t)) := by
  conv_lhs => rw [outsAt0_A m c t h]
  dsimp only
  frame_out
  rfl

theorem blockO_A (h : t.val % 8 = 0) : (outsAt0 m c t.val t.isLt).2.1 = View.canon (listH (newO (iblk m c 0 t) (iblk m c 1 t) (iblk m c 2 t) (iblk m c 3 t) (X0_4 m c t) (iblk m c 5 t))) := by
  conv_lhs => rw [outsAt0_A m c t h]
  dsimp only
  frame_out
  rfl

theorem blockP_A (h : t.val % 8 = 0) : (outsAt0 m c t.val t.isLt).2.2.1 = View.canon (listH (newP (iblk m c 0 t) (iblk m c 1 t) (iblk m c 2 t) (iblk m c 3 t) (X0_4 m c t) (iblk m c 5 t))) := by
  conv_lhs => rw [outsAt0_A m c t h]
  dsimp only
  frame_out
  rfl

theorem blockA_B (h : ¬ t.val % 8 = 0) : (outsAt0 m c t.val t.isLt).1 = k0_pay3 (iblk m c 0 t) (top (iblk m c 1 t)) := by
  conv_lhs => rw [outsAt0_B m c t h]
  dsimp only
  frame_out
  rfl

theorem blockO_B (h : ¬ t.val % 8 = 0) : (outsAt0 m c t.val t.isLt).2.1 = View.canon (listH (newO (iblk m c 0 t) (iblk m c 1 t) (iblk m c 2 t) (iblk m c 3 t) (X0_4 m c t) (iblk m c 5 t))) := by
  conv_lhs => rw [outsAt0_B m c t h]
  dsimp only
  frame_out
  rfl

theorem blockP_B (h : ¬ t.val % 8 = 0) : (outsAt0 m c t.val t.isLt).2.2.1 = View.canon (listH (newP (iblk m c 0 t) (iblk m c 1 t) (iblk m c 2 t) (iblk m c 3 t) (X0_4 m c t) (iblk m c 5 t))) := by
  conv_lhs => rw [outsAt0_B m c t h]
  dsimp only
  frame_out
  rfl

theorem blockS_B (h : ¬ t.val % 8 = 0) : (outsAt0 m c t.val t.isLt).2.2.2 = View.canon (listS (newS (iblk m c 0 t) (iblk m c 1 t) (iblk m c 2 t) (iblk m c 3 t) (X0_4 m c t) (outsAt0 m c (t.val - 1) (prevLt t)).2.2.2)) := by
  conv_lhs => rw [outsAt0_B m c t h]
  dsimp only
  frame_out
  rfl

theorem blockS_A (h : t.val % 8 = 0) : ∃ L, (outsAt0 m c t.val t.isLt).2.2.2 = View.canon (listS (newS (iblk m c 0 t) (iblk m c 1 t) (iblk m c 2 t) (iblk m c 3 t) (X0_4 m c t) k0_pay1) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

end Cert.MixGradIdeal.Value
end
-- ==== Proof.Mix.Equal.lean ====
module
public import Idealize.ShloMosaic.Lib.Pipeline.ReadBack
public import Idealize.ShloMosaic.Lib.Pipeline.ValueKit
public import Idealize.ShloMosaic.Lib.Pointwise
public import proofs.«01_k».proof.Proof.Gen.MixGradRefIdeal.Run
public import proofs.«01_k».proof.Proof.Mix.Block
public import proofs.«01_k».proof.Proof.Back.Finite

@[expose] public section
set_option maxRecDepth 16384
noncomputable section
open Idealize.ShloMosaic Idealize.ShloMosaic.TcCoe Idealize.SL.Sem
open Idealize.ShloMosaic.Pipeline (Dat)
namespace Cert.MixGradRefIdeal.Value
open Cert.MixGradRefIdeal Cert.MixGradRefIdeal.Gen Idealize.ShloMosaic.StableHlo

/-! ## The reference's results, part by part -/

/-- The gradient at the two mixers' outputs. -/
def DM (x : FVec Ideal S8192x1024 .f32) (w : FVec Ideal S1024x1024 .bf16) : FVec Ideal S8192x1024 .f32 :=
  Host.dotGeneral (φ₁ := .f32) (φ₂ := .f32) dot_S8192x1024_S1024x1024_S8192x1024_1_1_0_0_n_n none x (extf .f32 w bitsLt_bf16_f32)

/-- The gradient at the second mixer's output, by heads. -/
def DMH (x : FVec Ideal S8192x1024 .f32) (w : FVec Ideal S1024x1024 .bf16) : FVec Ideal S8192x4x128 .f32 :=
  shapeCast _ (extractStridedSlice S8192x512 ![0, 512] (DM x w) slices_S8192x1024_S8192x512_0_512) shapeCasts_S8192x512_S8192x4x128

/-- The gate, by heads. -/
def GATE (p : FVec Ideal S8192x2688 .f32) : FVec Ideal S8192x4x128 .f32 :=
  shapeCast _ (extractStridedSlice S8192x512 ![0, 2048] p slices_S8192x2688_S8192x512_0_2048) shapeCasts_S8192x512_S8192x4x128

/-- The state, by heads. -/
def STATE (f : FVec Ideal S8192x512 .f32) (b : FVec Ideal S8192x512 .f32) : FVec Ideal S8192x4x128 .f32 :=
  shapeCast _ (addf f b) shapeCasts_S8192x512_S8192x4x128

/-- The logistic function of the gate. -/
def SIG (p : FVec Ideal S8192x2688 .f32) : FVec Ideal S8192x4x128 .f32 :=
  Host.divf (broadcastInDim S8192x4x128 ![] bcast_S_S8192x4x128 (constant (F := Ideal) S_ .f32 0x3F800000#32)) (addf (broadcastInDim S8192x4x128 ![] bcast_S_S8192x4x128 (constant (F := Ideal) S_ .f32 0x3F800000#32)) (Host.exp (Host.negf (GATE p))))

/-- Each row's mean square in each head and the small constant. -/
def MSQ (f : FVec Ideal S8192x512 .f32) (b : FVec Ideal S8192x512 .f32) : FVec Ideal S8192x4x1 .f32 :=
  addf (Host.divf (broadcastInDim S8192x4x1 ![0, 1] bcast_S8192x4_S8192x4x1_0_1 (Host.reduceAdd (mulf (STATE f b) (STATE f b)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32))

/-- Each row's coefficient in its own gradient. -/
def QCO (x : FVec Ideal S8192x1024 .f32) (w : FVec Ideal S1024x1024 .bf16) (f : FVec Ideal S8192x512 .f32) (b : FVec Ideal S8192x512 .f32) (p : FVec Ideal S8192x2688 .f32) (g : FVec Ideal S4x128 .f32) : FVec Ideal S8192x4 .f32 :=
  Host.reduceAdd (Host.divf (mulf (shapeCast _ (Host.reduceAdd (mulf (STATE f b) (mulf (mulf (DMH x w) (mulf (GATE p) (SIG p))) (broadcastInDim S8192x4x128 ![0, 1, 2] bcast_S1x4x128_S8192x4x128_0_1_2 (broadcastInDim S1x4x128 ![1, 2] bcast_S4x128_S1x4x128_1_2 g)))) (constant (F := Ideal) S_ .f32 0x00000000#32) reducesTo_S8192x4x128_S8192x4_d2 h_S_) shapeCasts_S8192x4_S8192x4x1) (mulf (broadcastInDim S8192x4x1 ![] bcast_S_S8192x4x1 (constant (F := Ideal) S_ .f32 0xBF000000#32)) (Host.divf (Host.rsqrt (MSQ f b)) (MSQ f b)))) (broadcastInDim S8192x4x1 ![] bcast_S_S8192x4x1 (constant (F := Ideal) S_ .f32 0x43000000#32))) (constant (F := Ideal) S_ .f32 0x00000000#32) reducesTo_S8192x4x1_S8192x4_d2 h_S_

/-- The reference's result 0 of its arguments. -/
def RES0 (x : FVec Ideal S8192x1024 .f32) (w : FVec Ideal S1024x1024 .bf16) : FVec Ideal S8192x512 .f32 :=
  extractStridedSlice S8192x512 ![0, 0] (DM x w) slices_S8192x1024_S8192x512_0_0

/-- The reference's result 1 of its arguments. -/
def RES1 (x : FVec Ideal S8192x1024 .f32) (w : FVec Ideal S1024x1024 .bf16) (f : FVec Ideal S8192x512 .f32) (b : FVec Ideal S8192x512 .f32) (p : FVec Ideal S8192x2688 .f32) (g : FVec Ideal S4x128 .f32) : FVec Ideal S8192x512 .f32 :=
  shapeCast _ (addf (addf (mulf (mulf (mulf (DMH x w) (mulf (GATE p) (SIG p))) (broadcastInDim S8192x4x128 ![0, 1, 2] bcast_S1x4x128_S8192x4x128_0_1_2 (broadcastInDim S1x4x128 ![1, 2] bcast_S4x128_S1x4x128_1_2 g))) (broadcastInDim S8192x4x128 ![0, 1, 2] bcast_S8192x4x1_S8192x4x128_0_1_2 (Host.rsqrt (MSQ f b)))) (mulf (STATE f b) (broadcastInDim S8192x4x128 ![0, 1] bcast_S8192x4_S8192x4x128_0_1 (QCO x w f b p g)))) (mulf (broadcastInDim S8192x4x128 ![0, 1] bcast_S8192x4_S8192x4x128_0_1 (QCO x w f b p g)) (STATE f b))) shapeCasts_S8192x4x128_S8192x512

/-- The reference's result 2 of its arguments. -/
def RES2 (x : FVec Ideal S8192x1024 .f32) (w : FVec Ideal S1024x1024 .bf16) (f : FVec Ideal S8192x512 .f32) (b : FVec Ideal S8192x512 .f32) (p : FVec Ideal S8192x2688 .f32) (g : FVec Ideal S4x128 .f32) : FVec Ideal S8192x512 .f32 :=
  shapeCast _ (addf (mulf (mulf (mulf (mulf (STATE f b) (broadcastInDim S8192x4x128 ![0, 1, 2] bcast_S8192x4x1_S8192x4x128_0_1_2 (Host.rsqrt (MSQ f b)))) (broadcastInDim S8192x4x128 ![0, 1, 2] bcast_S1x4x128_S8192x4x128_0_1_2 (broadcastInDim S1x4x128 ![1, 2] bcast_S4x128_S1x4x128_1_2 g))) (DMH x w)) (SIG p)) (mulf (mulf (GATE p) (mulf (mulf (mulf (STATE f b) (broadcastInDim S8192x4x128 ![0, 1, 2] bcast_S8192x4x1_S8192x4x128_0_1_2 (Host.rsqrt (MSQ f b)))) (broadcastInDim S8192x4x128 ![0, 1, 2] bcast_S1x4x128_S8192x4x128_0_1_2 (broadcastInDim S1x4x128 ![1, 2] bcast_S4x128_S1x4x128_1_2 g))) (DMH x w))) (mulf (SIG p) (subf (broadcastInDim S8192x4x128 ![] bcast_S_S8192x4x128 (constant (F := Ideal) S_ .f32 0x3F800000#32)) (SIG p))))) shapeCasts_S8192x4x128_S8192x512

/-- The reference's result 3 of its arguments. -/
def RES3 (x : FVec Ideal S8192x1024 .f32) (w : FVec Ideal S1024x1024 .bf16) (f : FVec Ideal S8192x512 .f32) (b : FVec Ideal S8192x512 .f32) (p : FVec Ideal S8192x2688 .f32) : FVec Ideal S4x1x128 .f32 :=
  broadcastInDim S4x1x128 ![0, 2] bcast_S4x128_S4x1x128_0_2 (Host.reduceAdd (shapeCast _ (Host.reduceAdd (mulf (mulf (STATE f b) (broadcastInDim S8192x4x128 ![0, 1, 2] bcast_S8192x4x1_S8192x4x128_0_1_2 (Host.rsqrt (MSQ f b)))) (mulf (DMH x w) (mulf (GATE p) (SIG p)))) (constant (F := Ideal) S_ .f32 0x00000000#32) reducesTo_S8192x4x128_S4x128_d0 h_S_) shapeCasts_S4x128_S1x4x128) (constant (F := Ideal) S_ .f32 0x00000000#32) reducesTo_S1x4x128_S4x128_d0 h_S_)

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = RES0 (m ((c.tc : Thread nD τ).loc main_arg0)) (m ((c.tc : Thread nD τ).loc main_arg1))
      ∧ r.2.mem ((c.tc : Thread nD τ).loc main_v55) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v34) = RES2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v56) = RES3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.MixGradRefIdeal.Value
namespace Cert.MixGradIdeal.Value
open Cert.MixGradIdeal Cert.MixGradIdeal.Gen
open Cert.Finite (logis)
open Cert.MixGradRefIdeal.Value (RES0 RES1 RES2 RES3 DM DMH GATE STATE SIG MSQ QCO)

/-! ## One head of one row -/

/-- The mean square of a head's state and the small constant, and the factor that norms it. -/
def meanSq (s : Fin 128 → EReal) : EReal := Ideal.div (∑ i : Fin 128, s i * s i) (Ideal.ofBits .f32 0x43000000#32) + Ideal.ofBits .f32 0x358637BD#32
def inv (s : Fin 128 → EReal) : EReal := Ideal.rsqrt (meanSq s)
/-- The gradient at the normed and scaled state, and without the scale. -/
def atNorm (d p : Fin 128 → EReal) (j : Fin 128) : EReal := d j * (p j * logis (p j))
def coeff (d s p g : Fin 128 → EReal) : EReal :=
  Ideal.div ((∑ i : Fin 128, s i * (atNorm d p i * g i)) * (Ideal.ofBits .f32 0xBF000000#32 * Ideal.div (inv s) (meanSq s))) (Ideal.ofBits .f32 0x43000000#32)
/-- The gradient of the state. -/
def gradO (d s p g : Fin 128 → EReal) (j : Fin 128) : EReal := atNorm d p j * g j * inv s + s j * coeff d s p g + coeff d s p g * s j
/-- The gradient of the gate. -/
def gradP (d s p g : Fin 128 → EReal) (j : Fin 128) : EReal :=
  s j * inv s * g j * d j * logis (p j) + p j * (s j * inv s * g j * d j) * (logis (p j) * (1 - logis (p j)))
/-- What a row adds to the scale's gradient. -/
def partS (d s p : Fin 128 → EReal) (j : Fin 128) : EReal := s j * inv s * atNorm d p j

/-- The derivative of the logistic function as a quotient, times anything: the body's form of it. -/
theorem slope (c z : EReal) :
    0 - (0 - c * Ideal.div 1 ((1 + Ideal.exp (0 - z)) * (1 + Ideal.exp (0 - z)))) * Ideal.exp (0 - z) = c * (logis z * (1 - logis z)) := by
  have q : Ideal.div 1 ((1 + Ideal.exp (0 - z)) * (1 + Ideal.exp (0 - z))) * Ideal.exp (0 - z) = logis z * (1 - logis z) := by
    have at0 : Ideal.exp (0 - (⊥ : EReal)) = ⊤ := by simp
    have at1 : Ideal.exp (0 - (⊤ : EReal)) = 0 := by simp
    have sum : (1 : EReal) + ⊤ = ⊤ := EReal.add_top_of_ne_bot (EReal.coe_ne_bot 1)
    induction z with
    | bot =>
      rw [Cert.Finite.logis_bot, at0, sum]
      simp [Ideal.div]
    | top =>
      rw [Cert.Finite.logis_top, at1, Cert.Finite.one_sub_one, mul_zero, mul_zero]
    | coe a =>
      have e : 0 - (a : EReal) = ((0 - a : ℝ) : EReal) := by rw [EReal.coe_sub, EReal.coe_zero]
      have p : 0 < 1 + Real.exp (0 - a) := by positivity
      have pp : (1 + Real.exp (0 - a)) * (1 + Real.exp (0 - a)) ≠ 0 := by positivity
      rw [Cert.Finite.logis_coe, e, Ideal.exp_coe, ← EReal.coe_one, ← EReal.coe_add, ← EReal.coe_mul]
      unfold Ideal.div
      rw [if_neg (by exact_mod_cast pp), ← EReal.coe_inv, ← EReal.coe_mul, ← EReal.coe_mul, ← EReal.coe_sub, ← EReal.coe_mul]
      congr 1
      field_simp
      ring
  rw [← q, zero_sub, zero_sub, EReal.neg_mul, neg_neg, mul_assoc]

/-- The lane of a head's lane among 512. -/
def lane (h : Fin 4) (i : Fin 128) : Fin 512 := ⟨128 * h.val + i.val, by omega⟩
/-- The row of the matrix that a head's lane has. -/
def wRow (h : Fin 4) (i : Fin 128) : Fin 1024 := ⟨512 + 128 * h.val + i.val, by omega⟩
/-- A lane's head and its lane in the head. -/
def headOf (l : Fin 512) : Fin 4 := ⟨l.val / 128, by omega⟩
def inHead (l : Fin 512) : Fin 128 := ⟨l.val % 128, by omega⟩

theorem headOf_lane (h : Fin 4) (i : Fin 128) : headOf (lane h i) = h := Fin.ext (show (128 * h.val + i.val) / 128 = h.val by omega)
theorem inHead_lane (h : Fin 4) (i : Fin 128) : inHead (lane h i) = i := Fin.ext (show (128 * h.val + i.val) % 128 = i.val by omega)
theorem lane_surj (l : Fin 512) : ∃ h i, l = lane h i := ⟨headOf l, inHead l, Fin.ext (show l.val = 128 * (l.val / 128) + l.val % 128 by omega)⟩

theorem cutH_at (x : FVec Ideal S1024x512 .f32) (k : Fin 4) (r : Fin 1024) (j : Fin 128) : cutH x k (ix2 r j) = x (ix2 r (lane k j)) := by
  pointwise [cutH]
  rfl
theorem cutG_at (x : FVec Ideal S4x1x128 .f32) (k : Fin 4) (j : Fin 128) : cutG x k (ix3 0 0 j) = x (ix3 k 0 j) := by
  pointwise [cutG]
theorem cutW_at (x : FVec Ideal S1024x1024 .bf16) (k : Fin 4) (i : Fin 128) (l : Fin 1024) : cutW x k (ix2 i l) = x (ix2 (wRow k i) l) := by
  pointwise [cutW]
  rfl
theorem top_at (x : FVec Ideal S1024x1024 .bf16) (i : Fin 512) (l : Fin 1024) : top x (ix2 i l) = x (ix2 ⟨i.val, by omega⟩ l) := by
  pointwise [top]

/-- A row of a block of head `k`: the gradient at its output, its state, its gate and its scale. -/
def inner (x : FVec Ideal S1024x1024 .f32) (w : FVec Ideal S1024x1024 .bf16) (r : Fin 1024) (k : Fin 4) (i : Fin 128) : EReal := ∑ l : Fin 1024, x (ix2 r l) * w (ix2 (wRow k i) l)
def state (f b : FVec Ideal S1024x512 .f32) (r : Fin 1024) (k : Fin 4) (i : Fin 128) : EReal := f (ix2 r (lane k i)) + b (ix2 r (lane k i))
def gate (p : FVec Ideal S1024x512 .f32) (r : Fin 1024) (k : Fin 4) (i : Fin 128) : EReal := p (ix2 r (lane k i))
def scale (g : FVec Ideal S4x1x128 .f32) (k : Fin 4) (i : Fin 128) : EReal := g (ix3 k 0 i)

theorem newD_at (x : FVec Ideal S1024x1024 .f32) (w : FVec Ideal S1024x1024 .bf16) (k : Fin 4) (r : Fin 1024) (j : Fin 128) : (show EReal from newD x w k (ix2 r j)) = inner x w r k j := by
  pointwise [newD, k0_pay4, k0_pay2]
  simp only [cutW_at]
  rfl

theorem newA_at (x : FVec Ideal S1024x1024 .f32) (w : FVec Ideal S1024x1024 .bf16) (r : Fin 1024) (j : Fin 512) :
    (show EReal from k0_pay3 (F := Ideal) x (top w) (ix2 r j)) = ∑ l : Fin 1024, x (ix2 r l) * w (ix2 ⟨j.val, by omega⟩ l) := by
  pointwise [k0_pay3, k0_pay2]
  simp only [top_at]

theorem newO_at (x : FVec Ideal S1024x1024 .f32) (w : FVec Ideal S1024x1024 .bf16) (f b p : FVec Ideal S1024x512 .f32) (g : FVec Ideal S4x1x128 .f32) (k : Fin 4) (r : Fin 1024) (j : Fin 128) :
    (show EReal from newO x w f b p g k (ix2 r j)) = gradO (inner x w r k) (state f b r k) (gate p r k) (scale g k) j := by
  pointwise [newO, k0_pay18, k0_pay15, k0_pay14, k0_pay13, k0_pay12, k0_pay9, k0_pay8, k0_pay7, k0_pay6, k0_pay5, zeroC]
  simp only [newD_at, cutH_at, cutG_at, Fin.sum_univ_one]
  rfl

theorem newP_at (x : FVec Ideal S1024x1024 .f32) (w : FVec Ideal S1024x1024 .bf16) (f b p : FVec Ideal S1024x512 .f32) (g : FVec Ideal S4x1x128 .f32) (k : Fin 4) (r : Fin 1024) (j : Fin 128) :
    (show EReal from newP x w f b p g k (ix2 r j)) = gradP (inner x w r k) (state f b r k) (gate p r k) (scale g k) j := by
  pointwise [newP, k0_pay16, k0_pay14, k0_pay13, k0_pay12, k0_pay11, k0_pay10, k0_pay8, k0_pay7, k0_pay6, k0_pay5, zeroC]
  simp only [newD_at, cutH_at, cutG_at]
  unfold gradP
  rw [← slope]
  rfl

theorem newS_at (x : FVec Ideal S1024x1024 .f32) (w : FVec Ideal S1024x1024 .bf16) (f b p : FVec Ideal S1024x512 .f32) (e : FVec Ideal S4x1x128 .f32) (k : Fin 4) (j : Fin 128) :
    (show EReal from newS x w f b p e k (ix3 0 0 j)) = e (ix3 k 0 j) + ∑ r : Fin 1024, partS (inner x w r k) (state f b r k) (gate p r k) j := by
  pointwise [newS, k0_pay19, k0_pay17, k0_pay15, k0_pay14, k0_pay13, k0_pay12, k0_pay10, k0_pay8, k0_pay7, k0_pay5, zeroC]
  simp only [newD_at, cutH_at, cutG_at]
  rfl

/-! ## The blocks that the stores leave -/

theorem mem_heads : ∀ k : Fin 4, k ∈ heads := by decide

theorem pieceH_emb (n : Fin 4 → FVec Ideal S1024x128 .f32) (k : Fin 4) (r : Fin 1024) (i : Fin 128) : (pieceH n k).1.emb (ix2 r i) = ix2 r (lane k i) := by
  funext a; apply Fin.ext
  match a with
  | ⟨0, _⟩ => show 0 + 1 * r.val = r.val; omega
  | ⟨1, _⟩ => show 128 * k.val + 1 * i.val = 128 * k.val + i.val; omega

theorem pieceS_emb (n : Fin 4 → FVec Ideal S1x1x128 .f32) (k : Fin 4) (i : Fin 128) : (pieceS n k).1.emb (ix3 0 0 i) = ix3 k 0 i := by
  funext a; apply Fin.ext
  match a with
  | ⟨0, _⟩ => show k.val + 1 * 0 = k.val; omega
  | ⟨1, _⟩ => show 0 + 1 * 0 = 0; omega
  | ⟨2, _⟩ => show 0 + 1 * i.val = i.val; omega

theorem canonH (n : Fin 4 → FVec Ideal S1024x128 .f32) (y : S1024x512.Idx) :
    (show EReal from View.canon (listH n) y) = n (headOf (y 1)) (ix2 (y 0) (inHead (y 1))) := by
  refine View.canon_apply_of_pieces (fun y => n (headOf (y 1)) (ix2 (y 0) (inHead (y 1)))) (listH n) (fun q hq i => ?_) y ?_
  · obtain ⟨k, _, rfl⟩ := List.mem_map.mp hq
    change S1024x128.Idx at i
    idx_vars i
    rw [pieceH_emb]
    show n k (ix2 i0 i1) = n (headOf (lane k i1)) (ix2 i0 (inHead (lane k i1)))
    rw [headOf_lane, inHead_lane]
  · idx_vars y
    obtain ⟨k, i, rfl⟩ := lane_surj y1
    refine ⟨pieceH n k, List.mem_map.mpr ⟨k, mem_heads k, rfl⟩, ?_⟩
    rw [← pieceH_emb n k y0 i, ← Rect.map_emb_univ]
    exact Finset.mem_map_of_mem _ (Finset.mem_univ _)

theorem pieceS_mem (n : Fin 4 → FVec Ideal S1x1x128 .f32) (k : Fin 4) (i : Fin 128) : ix3 k 0 i ∈ (pieceS n k).1.set := by
  rw [← pieceS_emb n k i, ← Rect.map_emb_univ]
  exact Finset.mem_map_of_mem _ (Finset.mem_univ _)

theorem canonS (n : Fin 4 → FVec Ideal S1x1x128 .f32) (L : List (View.Piece (Elt Ideal) S4x1x128 .f32)) (k : Fin 4) (i : Fin 128) :
    (show EReal from View.canon (listS n ++ L) (ix3 k 0 i)) = n k (ix3 0 0 i) := by
  refine View.canon_append_of_pieces (fun y : S4x1x128.Idx => n (y 0) (ix3 0 0 (y 2))) L (listS n) (fun q hq x => ?_) (ix3 k 0 i) ?_
  · obtain ⟨k, _, rfl⟩ := List.mem_map.mp hq
    change S1x1x128.Idx at x
    idx_vars x
    obtain rfl : x0 = 0 := Subsingleton.elim _ _
    obtain rfl : x1 = 0 := Subsingleton.elim _ _
    rw [pieceS_emb]
    rfl
  · exact ⟨pieceS n k, List.mem_map.mpr ⟨k, mem_heads k, rfl⟩, pieceS_mem n k i⟩

variable (m : (ℓ : Loc nD τ sig) → Buf (Elt Ideal) ℓ) (c : Dev nD)

/-- The arguments, and the scale with its heads apart. -/
abbrev aX : FVec Ideal S8192x1024 .f32 := m ((c : Thread nD τ).loc main_arg0)
abbrev aW : FVec Ideal S1024x1024 .bf16 := m ((c : Thread nD τ).loc main_arg1)
abbrev aF : FVec Ideal S8192x512 .f32 := m ((c : Thread nD τ).loc main_arg2)
abbrev aB : FVec Ideal S8192x512 .f32 := m ((c : Thread nD τ).loc main_arg3)
abbrev aP : FVec Ideal S8192x2688 .f32 := m ((c : Thread nD τ).loc main_arg4)
abbrev aG : FVec Ideal S4x128 .f32 := m ((c : Thread nD τ).loc main_arg5)
abbrev hG : FVec Ideal S4x1x128 .f32 := V m c main_v0

theorem scale_at (h : Fin 4) (j : Fin 128) : (show EReal from hG m c (ix3 h 0 j)) = aG m c (ix2 h j) := by
  unfold hG
  entry_read
  pointwise []

theorem idx : ∀ t : Fin cfg0.N, win0_0.index t = ![t.val, 0] ∧ win0_1.index t = ![0, 0] ∧ win0_2.index t = ![t.val, 0] ∧ win0_3.index t = ![t.val, 0]
    ∧ win0_4.index t = ![t.val, 4] ∧ win0_5.index t = ![0, 0, 0] ∧ win0_6.index t = ![t.val, 0] ∧ win0_7.index t = ![t.val, 0] ∧ win0_8.index t = ![t.val, 0]
    ∧ win0_9.index t = ![0, 0, 0] :=
  (by decide +kernel : ∀ t : Fin grid0.N, _)

theorem lt8 (t : Fin cfg0.N) : t.val < 8 := lt_of_lt_of_eq t.isLt N_0

/-- Row `r` of block `t`. -/
def row (t : Fin cfg0.N) (r : Fin 1024) : Fin 8192 := ⟨t.val * 1024 + r.val, by have := lt8 t; omega⟩
/-- The projection's lane of a gate's lane. -/
def gateLane (l : Fin 512) : Fin 2688 := ⟨2048 + l.val, by omega⟩

theorem in0 (t : Fin cfg0.N) (r l : Fin 1024) : (show FVec Ideal S1024x1024 .f32 from iblk m c 0 t) (ix2 r l) = aX m c (ix2 (row t r) l) := by
  blk_point [iblk, V, idx t]
  rfl
theorem in1 (t : Fin cfg0.N) (r l : Fin 1024) : (show FVec Ideal S1024x1024 .bf16 from iblk m c 1 t) (ix2 r l) = aW m c (ix2 r l) := by
  blk_point [iblk, V, idx t]
theorem in2 (t : Fin cfg0.N) (r : Fin 1024) (l : Fin 512) : (show FVec Ideal S1024x512 .f32 from iblk m c 2 t) (ix2 r l) = aF m c (ix2 (row t r) l) := by
  blk_point [iblk, V, idx t]
  rfl
theorem in3 (t : Fin cfg0.N) (r : Fin 1024) (l : Fin 512) : (show FVec Ideal S1024x512 .f32 from iblk m c 3 t) (ix2 r l) = aB m c (ix2 (row t r) l) := by
  blk_point [iblk, V, idx t]
  rfl
theorem in4 (t : Fin cfg0.N) (r : Fin 1024) (l : Fin 512) : (show FVec Ideal S1024x512 .f32 from X0_4 m c t) (ix2 r l) = aP m c (ix2 (row t r) (gateLane l)) := by
  unfold X0_4 Pipeline.Window.fill
  refine (dif_pos (moved0_4 t (ix2 r l))).trans ?_
  blk_point [iblk, V, idx t]
  · rfl
  · show 4 * 512 + l.val = 2048 + l.val
    rfl
theorem in5 (t : Fin cfg0.N) (h : Fin 4) (l : Fin 128) : (show FVec Ideal S4x1x128 .f32 from iblk m c 5 t) (ix3 h 0 l) = hG m c (ix3 h 0 l) := by
  blk_point [iblk, V, idx t]

/-! ## The results as functions of whole arrays -/

/-- A row of head `k`. -/
def dOf (r : Fin 8192) (k : Fin 4) (i : Fin 128) : EReal := ∑ l : Fin 1024, aX m c (ix2 r l) * aW m c (ix2 (wRow k i) l)
def sOf (r : Fin 8192) (k : Fin 4) (i : Fin 128) : EReal := aF m c (ix2 r (lane k i)) + aB m c (ix2 r (lane k i))
def pOf (r : Fin 8192) (k : Fin 4) (i : Fin 128) : EReal := aP m c (ix2 r (gateLane (lane k i)))
def gOf (k : Fin 4) (i : Fin 128) : EReal := hG m c (ix3 k 0 i)

def resA (r : Fin 8192) (j : Fin 512) : EReal := ∑ l : Fin 1024, aX m c (ix2 r l) * aW m c (ix2 ⟨j.val, by omega⟩ l)
def resO (r : Fin 8192) (l : Fin 512) : EReal := gradO (dOf m c r (headOf l)) (sOf m c r (headOf l)) (pOf m c r (headOf l)) (gOf m c (headOf l)) (inHead l)
def resP (r : Fin 8192) (l : Fin 512) : EReal := gradP (dOf m c r (headOf l)) (sOf m c r (headOf l)) (pOf m c r (headOf l)) (gOf m c (headOf l)) (inHead l)
def resS (k : Fin 4) (j : Fin 128) : EReal := ∑ r : Fin 8192, partS (dOf m c r k) (sOf m c r k) (pOf m c r k) j

theorem rowD (t : Fin cfg0.N) (r : Fin 1024) (k : Fin 4) : inner (iblk m c 0 t) (iblk m c 1 t) r k = dOf m c (row t r) k := by
  funext i
  unfold inner
  exact Finset.sum_congr (M := EReal) rfl fun l _ => congrArg₂ (fun s u : EReal => s * u) (in0 m c t r l) (in1 m c t (wRow k i) l)
theorem rowS (t : Fin cfg0.N) (r : Fin 1024) (k : Fin 4) : state (iblk m c 2 t) (iblk m c 3 t) r k = sOf m c (row t r) k := by
  funext i
  exact congrArg₂ (fun s u : EReal => s + u) (in2 m c t r (lane k i)) (in3 m c t r (lane k i))
theorem rowP (t : Fin cfg0.N) (r : Fin 1024) (k : Fin 4) : gate (X0_4 m c t) r k = pOf m c (row t r) k := funext fun i => in4 m c t r (lane k i)
theorem allG (t : Fin cfg0.N) (k : Fin 4) : scale (iblk m c 5 t) k = gOf m c k := funext fun i => in5 m c t k i

theorem outA (t : Fin cfg0.N) (r : Fin 1024) (j : Fin 512) : (show EReal from (outsAt0 m c t.val t.isLt).1 (ix2 r j)) = resA m c (row t r) j := by
  have e : (outsAt0 m c t.val t.isLt).1 = k0_pay3 (F := Ideal) (iblk m c 0 t) (top (F := Ideal) (iblk m c 1 t)) := by
    by_cases h : t.val % 8 = 0
    · exact blockA_A m c t h
    · exact blockA_B m c t h
  rw [e]
  refine (newA_at _ _ r j).trans ?_
  exact Finset.sum_congr (M := EReal) rfl fun l _ => congrArg₂ (fun s u : EReal => s * u) (in0 m c t r l) (in1 m c t _ l)

theorem outO (t : Fin cfg0.N) (r : Fin 1024) (l : Fin 512) : (show EReal from (outsAt0 m c t.val t.isLt).2.1 (ix2 r l)) = resO m c (row t r) l := by
  have e : (outsAt0 m c t.val t.isLt).2.1 = View.canon (listH (newO (iblk m c 0 t) (iblk m c 1 t) (iblk m c 2 t) (iblk m c 3 t) (X0_4 m c t) (iblk m c 5 t))) := by
    by_cases h : t.val % 8 = 0
    · exact blockO_A m c t h
    · exact blockO_B m c t h
  rw [e]
  refine (canonH _ (ix2 r l)).trans ((newO_at _ _ _ _ _ _ (headOf l) r (inHead l)).trans ?_)
  rw [rowD, rowS, rowP, allG]
  rfl

theorem outP (t : Fin cfg0.N) (r : Fin 1024) (l : Fin 512) : (show EReal from (outsAt0 m c t.val t.isLt).2.2.1 (ix2 r l)) = resP m c (row t r) l := by
  have e : (outsAt0 m c t.val t.isLt).2.2.1 = View.canon (listH (newP (iblk m c 0 t) (iblk m c 1 t) (iblk m c 2 t) (iblk m c 3 t) (X0_4 m c t) (iblk m c 5 t))) := by
    by_cases h : t.val % 8 = 0
    · exact blockP_A m c t h
    · exact blockP_B m c t h
  rw [e]
  refine (canonH _ (ix2 r l)).trans ((newP_at _ _ _ _ _ _ (headOf l) r (inHead l)).trans ?_)
  rw [rowD, rowS, rowP, allG]
  rfl

theorem finalA (y : S8192x512.Idx) : (show EReal from (dats m 0 c).arrAt 6 (cfgs 0).N y) = resA m c (y 0) (y 1) := by
  have e : (dats m 0 c).arrAt 6 (cfgs 0).N = fun y : S8192x512.Idx => (resA m c (y 0) (y 1) : EReal) := by
    refine (dats m 0 c).arrAt_eq_of_covers 6 _ (by decide +kernel) fun t hf y => ?_
    blk_simp
    rw [after0_6]
    idx_vars y
    refine (outA m c t y0 y1).trans ?_
    have read : ∀ G : FVec Ideal S8192x512 .f32, G (ix2 (row t y0) y1) = G (((cfg0.win 6).blk t).view.emb (ix2 y0 y1)) := fun G => by
      blk_point [idx t]
      rfl
    exact read fun z => resA m c (z 0) (z 1)
  exact congrFun e y

theorem finalO (y : S8192x512.Idx) : (show EReal from (dats m 0 c).arrAt 7 (cfgs 0).N y) = resO m c (y 0) (y 1) := by
  have e : (dats m 0 c).arrAt 7 (cfgs 0).N = fun y : S8192x512.Idx => (resO m c (y 0) (y 1) : EReal) := by
    refine (dats m 0 c).arrAt_eq_of_covers 7 _ (by decide +kernel) fun t hf y => ?_
    blk_simp
    rw [after0_7]
    idx_vars y
    refine (outO m c t y0 y1).trans ?_
    have read : ∀ G : FVec Ideal S8192x512 .f32, G (ix2 (row t y0) y1) = G (((cfg0.win 7).blk t).view.emb (ix2 y0 y1)) := fun G => by
      blk_point [idx t]
      rfl
    exact read fun z => resO m c (z 0) (z 1)
  exact congrFun e y

theorem finalP (y : S8192x512.Idx) : (show EReal from (dats m 0 c).arrAt 8 (cfgs 0).N y) = resP m c (y 0) (y 1) := by
  have e : (dats m 0 c).arrAt 8 (cfgs 0).N = fun y : S8192x512.Idx => (resP m c (y 0) (y 1) : EReal) := by
    refine (dats m 0 c).arrAt_eq_of_covers 8 _ (by decide +kernel) fun t hf y => ?_
    blk_simp
    rw [after0_8]
    idx_vars y
    refine (outP m c t y0 y1).trans ?_
    have read : ∀ G : FVec Ideal S8192x512 .f32, G (ix2 (row t y0) y1) = G (((cfg0.win 8).blk t).view.emb (ix2 y0 y1)) := fun G => by
      blk_point [idx t]
      rfl
    exact read fun z => resP m c (z 0) (z 1)
  exact congrFun e y

/-! ## The scale's gradient, summed along the grid -/

/-- Block `t`'s part of the scale's gradient. -/
def part (t : Fin cfg0.N) (y : S4x1x128.Idx) : EReal := ∑ r : Fin 1024, partS (dOf m c (row t r) (y 0)) (sOf m c (row t r) (y 0)) (pOf m c (row t r) (y 0)) (y 2)

theorem zeroS (j : S4x1x128.Idx) : k0_pay1 (F := Ideal) j = 0 := by pointwise [k0_pay1]

theorem newS_row (t : Fin cfg0.N) (e : FVec Ideal S4x1x128 .f32) (L : List (View.Piece (Elt Ideal) S4x1x128 .f32)) (y : S4x1x128.Idx) :
    (show EReal from View.canon (listS (newS (iblk m c 0 t) (iblk m c 1 t) (iblk m c 2 t) (iblk m c 3 t) (X0_4 m c t) e) ++ L) y) = e y + part m c t y := by
  idx_vars y
  obtain rfl : y1 = 0 := Subsingleton.elim _ _
  refine (canonS _ L y0 y2).trans ((newS_at _ _ _ _ _ e y0 y2).trans (congrArg (fun x : EReal => e (ix3 y0 0 y2) + x) (Finset.sum_congr (M := EReal) rfl fun r _ => ?_)))
  rw [rowD, rowS, rowP]
  rfl

theorem sumS (t : Fin cfg0.N) (h : t.val % 8 = 7) (y : S4x1x128.Idx) :
    (outsAt0 m c t.val t.isLt).2.2.2 y = ∑ s : Fin 8, part m c ⟨8 * (t.val / 8) + s.val, Pipeline.run_point_lt_of_flush t h s⟩ y := by
  rw [Pipeline.eq_sum_fin_of_reset_step_apply_of_flush (fun n h => (outsAt0 m c n h).2.2.2) 8 (fun _ => (0 : EReal))
    (part m c) (fun t h j => ?_) (fun t h j => ?_) t h y, zero_add]
  · obtain ⟨L, e⟩ := blockS_A m c t h
    exact (congrFun e j).trans ((newS_row m c t _ L j).trans (congrArg (fun x : EReal => x + part m c t j) (zeroS j)))
  · refine (congrFun (blockS_B m c t h) j).trans (Eq.trans ?_ (newS_row m c t _ [] j))
    rw [List.append_nil]

theorem row_run (t : Fin cfg0.N) (h : t.val % 8 = 7) (s : Fin 8) (r : Fin 1024) (hl : s.val * 1024 + r.val < 8192) :
    row ⟨8 * (t.val / 8) + s.val, Pipeline.run_point_lt_of_flush t h s⟩ r = ⟨s.val * 1024 + r.val, hl⟩ := by
  have h8 := lt8 t
  refine Fin.ext ?_
  show (8 * (t.val / 8) + s.val) * 1024 + r.val = s.val * 1024 + r.val
  rw [show t.val / 8 = 0 by omega]
  omega

theorem finalS (y : S4x1x128.Idx) : (show EReal from (dats m 0 c).arrAt 9 (cfgs 0).N y) = resS m c (y 0) (y 2) := by
  have e : (dats m 0 c).arrAt 9 (cfgs 0).N = fun y : S4x1x128.Idx => (resS m c (y 0) (y 2) : EReal) := by
    refine (dats m 0 c).arrAt_eq_of_covers 9 _ (by decide +kernel) fun t hf y => ?_
    have h := (flush0_9 t).mp hf
    blk_simp
    rw [after0_9, sumS m c t h]
    idx_vars y
    refine (Fin.sum_mul_add_congr (f := fun r : Fin 8192 => partS (dOf m c r y0) (sOf m c r y0) (pOf m c r y0) y2)
      fun s r hl => by rw [row_run t h s r hl]; rfl).trans ?_
    have read : ∀ G : FVec Ideal S4x1x128 .f32, G (ix3 y0 y1 y2) = G (((cfg0.win 9).blk t).view.emb (ix3 y0 y1 y2)) := fun G => by
      blk_point [idx t]
    exact read fun z => resS m c (z 0) (z 2)
  exact congrFun e y

/-! ## Each result is the reference's -/

theorem dm_at (r : Fin 8192) (j : Fin 1024) : (show EReal from DM (aX m c) (aW m c) (ix2 r j)) = ∑ l : Fin 1024, aX m c (ix2 r l) * aW m c (ix2 j l) := by
  pointwise [DM]

theorem lane_eq (k : Fin 4) (j : Fin 128) (h) : (⟨k.val * 128 + j.val, h⟩ : Fin 512) = lane k j := Fin.ext (by show k.val * 128 + j.val = 128 * k.val + j.val; omega)
theorem wRow_eq (k : Fin 4) (j : Fin 128) (h) : (⟨512 + (k.val * 128 + j.val), h⟩ : Fin 1024) = wRow k j := Fin.ext (by show 512 + (k.val * 128 + j.val) = 512 + 128 * k.val + j.val; omega)
theorem gateLane_eq (k : Fin 4) (j : Fin 128) (h) : (⟨2048 + (k.val * 128 + j.val), h⟩ : Fin 2688) = gateLane (lane k j) := Fin.ext (by show 2048 + (k.val * 128 + j.val) = 2048 + (128 * k.val + j.val); omega)

theorem dmh_at (r : Fin 8192) (k : Fin 4) (j : Fin 128) : (show EReal from DMH (aX m c) (aW m c) (ix3 r k j)) = dOf m c r k j := by
  pointwise [DMH]
  simp only [dm_at, wRow_eq]
  rfl
theorem gate_at (r : Fin 8192) (k : Fin 4) (j : Fin 128) : (show EReal from GATE (aP m c) (ix3 r k j)) = pOf m c r k j := by
  pointwise [GATE]
  simp only [gateLane_eq]
  rfl
theorem state_at (r : Fin 8192) (k : Fin 4) (j : Fin 128) : (show EReal from STATE (aF m c) (aB m c) (ix3 r k j)) = sOf m c r k j := by
  pointwise [STATE]
  simp only [lane_eq]
  rfl

theorem sig_at (r : Fin 8192) (k : Fin 4) (j : Fin 128) : (show EReal from SIG (aP m c) (ix3 r k j)) = logis (pOf m c r k j) := by
  pointwise [SIG]
  unfold logis
  simp only [gate_at, zero_sub]

theorem msq_at (r : Fin 8192) (k : Fin 4) (u : Fin 1) : (show EReal from MSQ (aF m c) (aB m c) (ix3 r k u)) = meanSq (sOf m c r k) := by
  pointwise [MSQ]
  simp only [state_at]
  rfl

theorem scaleFun (k : Fin 4) : gOf m c k = fun i => (aG m c (ix2 k i) : EReal) := funext fun i => scale_at m c k i

theorem qco_at (r : Fin 8192) (k : Fin 4) :
    (show EReal from QCO (aX m c) (aW m c) (aF m c) (aB m c) (aP m c) (aG m c) (ix2 r k)) = coeff (dOf m c r k) (sOf m c r k) (pOf m c r k) (gOf m c k) := by
  pointwise [QCO]
  simp only [dmh_at, gate_at, state_at, sig_at, msq_at, Fin.sum_univ_one, scaleFun]
  rfl

theorem equal0 : (dats m 0 c).arrAt 6 (cfgs 0).N = RES0 (aX m c) (aW m c) := by
  funext y
  refine (finalA m c y).trans ?_
  idx_vars y
  pointwise [RES0]
  simp only [dm_at]
  rfl

theorem equal1 : (dats m 0 c).arrAt 7 (cfgs 0).N = RES1 (aX m c) (aW m c) (aF m c) (aB m c) (aP m c) (aG m c) := by
  funext y
  refine (finalO m c y).trans ?_
  idx_vars y
  unfold resO
  pointwise [RES1]
  simp only [dmh_at, gate_at, state_at, sig_at, msq_at, qco_at, scaleFun]
  rfl

theorem equal2 : (dats m 0 c).arrAt 8 (cfgs 0).N = RES2 (aX m c) (aW m c) (aF m c) (aB m c) (aP m c) (aG m c) := by
  funext y
  refine (finalP m c y).trans ?_
  idx_vars y
  unfold resP
  rw [scaleFun]
  pointwise [RES2]
  simp only [dmh_at, gate_at, state_at, sig_at, msq_at]
  rfl

theorem equal3 : (dats m 0 c).arrAt 9 (cfgs 0).N = RES3 (aX m c) (aW m c) (aF m c) (aB m c) (aP m c) := by
  funext y
  refine (finalS m c y).trans ?_
  idx_vars y
  obtain rfl : y1 = 0 := Subsingleton.elim _ _
  unfold resS
  pointwise [RES3]
  simp only [dmh_at, gate_at, state_at, sig_at, msq_at, Fin.sum_univ_one]
  rfl

end Cert.MixGradIdeal.Value
end
-- ==== Proof.Forward.In.lean ====
module
public import Idealize.ShloMosaic.Lib.Pipeline.ReadBack
public import Idealize.ShloMosaic.Lib.Pipeline.ValueKit
public import Idealize.ShloMosaic.Lib.Pointwise
public import proofs.«01_k».proof.Proof.Gen.InFwdIdeal.Value
public import proofs.«01_k».proof.Proof.Gen.InFwdRefIdeal.Run
public import proofs.«01_k».proof.Proof.Conv.Rows

@[expose] public section
set_option maxRecDepth 16384
noncomputable section
open Idealize.ShloMosaic Idealize.ShloMosaic.TcCoe Idealize.SL.Sem
open Idealize.ShloMosaic.Pipeline (Dat)
namespace Cert.InFwdRefIdeal.Value
open Cert.InFwdRefIdeal Cert.InFwdRefIdeal.Gen Idealize.ShloMosaic.StableHlo

/-! ## The reference's results, part by part -/

/-- Each row's mean square and the small constant. -/
def MSQ (x : FVec Ideal S8192x1024 .f32) : FVec Ideal S8192x1 .f32 :=
  addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

/-- The normalised rows. -/
def NRM (x : FVec Ideal S8192x1024 .f32) (g : FVec Ideal S1024 .f32) : FVec Ideal S8192x1024 .f32 :=
  mulf (mulf x (broadcastInDim S8192x1024 ![0, 1] bcast_S8192x1_S8192x1024_0_1 (Host.rsqrt (MSQ x)))) (broadcastInDim S8192x1024 ![0, 1] bcast_S1x1024_S8192x1024_0_1 (broadcastInDim S1x1024 ![1] bcast_S1024_S1x1024_1 g))

/-- The reference's result 0 of its arguments. -/
def RES0 (x : FVec Ideal S8192x1024 .f32) (g : FVec Ideal S1024 .f32) (w : FVec Ideal S1024x2592 .bf16) : FVec Ideal S8192x2688 .f32 :=
  pad S8192x2688 ![0, 0] ![0, 96] ![0, 0] (Host.dotGeneral (φ₁ := .f32) (φ₂ := .f32) dot_S8192x1024_S1024x2592_S8192x2592_1_0_0_1_n_n none (NRM x g) (extf .f32 w bitsLt_bf16_f32)) (sitofp .f32 (constantI S_ 32 0#32)) pads_S8192x2592_S8192x2688_000_0960 h_S_

/-- The reference's result 1 of its arguments. -/
def RES1 (x : FVec Ideal S8192x1024 .f32) (g : FVec Ideal S1024 .f32) : FVec Ideal S8192x1024 .bf16 :=
  truncf .bf16 (NRM x g) bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = RES0 (m ((c.tc : Thread nD τ).loc main_arg0)) (m ((c.tc : Thread nD τ).loc main_arg1)) (m ((c.tc : Thread nD τ).loc main_arg2))
      ∧ r.2.mem ((c.tc : Thread nD τ).loc main_v16) = RES1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.InFwdRefIdeal.Value
namespace Cert.InFwdIdeal.Value
open Cert.InFwdIdeal Cert.InFwdIdeal.Gen
open Cert.UpGradIdeal.Value (meanSq)
open Cert.InFwdRefIdeal.Value (RES0 RES1 NRM MSQ)

/-! ## The projection of the normalised rows, block of rows by block of rows -/

/-- A row through the norm. -/
def normed (x g : Fin 1024 → EReal) (j : Fin 1024) : EReal := x j * Ideal.rsqrt (meanSq x) * g j

variable (m : (ℓ : Loc nD τ sig) → Buf (Elt Ideal) ℓ) (c : Dev nD)

/-- The arguments. -/
abbrev aX : FVec Ideal S8192x1024 .f32 := m ((c : Thread nD τ).loc main_arg0)
abbrev aG : FVec Ideal S1024 .f32 := m ((c : Thread nD τ).loc main_arg1)
abbrev aW : FVec Ideal S1024x2592 .bf16 := m ((c : Thread nD τ).loc main_arg2)
/-- The two operands the host computes: the scale as a row and the padded weights. -/
abbrev hG : FVec Ideal S1x1024 .f32 := V m c main_v0
abbrev hW : FVec Ideal S1024x2688 .bf16 := V m c main_v1

/-- The integer zero the padding is filled with, as a number. -/
theorem fill (φ : FTy) : (show EReal from FloatOps.sitofp (F := Ideal) φ (0#32)) = 0 := by
  show (((0#32).toInt : ℝ) : EReal) = 0
  simp

theorem padded : V m c main_v1 = pad S1024x2688 ![0, 0] ![0, 96] ![0, 0] (aW m c) (sitofp .bf16 (constantI S_ 32 0#32)) pads_S1024x2592_S1024x2688_000_0960 h_S_ := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem weight_at (k : Fin 1024) (j : Fin 2688) : (show EReal from hW m c (ix2 k j)) = if h : j.val < 2592 then aW m c (ix2 k ⟨j.val, h⟩) else 0 := by
  unfold hW
  rw [padded]
  pointwise []
  exact congrArg (fun z : EReal => if h : j.val < 2592 then aW m c (ix2 k ⟨j.val, h⟩) else z) (fill .bf16)

theorem scaleRow : V m c main_v0 = broadcastInDim S1x1024 ![1] bcast_S1024_S1x1024_1 (aG m c) := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem scale_at (j : Fin 1024) : (show EReal from hG m c (ix2 0 j)) = aG m c (ix1 j) := by
  unfold hG
  rw [scaleRow]
  pointwise []

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- Row `r` of block `t`. -/
def row (t : Fin cfg0.N) (r : Fin 512) : Fin 8192 := ⟨t.val * 512 + r.val, by have : t.val < 16 := lt_of_lt_of_eq t.isLt N_0; omega⟩

theorem in0 (t : Fin cfg0.N) (r : Fin 512) (l : Fin 1024) : (show FVec Ideal S512x1024 .f32 from iblk m c 0 t) (ix2 r l) = aX m c (ix2 (row t r) l) := by
  blk_point [iblk, V, idx t]
  rfl
theorem in1 (t : Fin cfg0.N) (l : Fin 1024) : (show FVec Ideal S1x1024 .f32 from iblk m c 1 t) (ix2 0 l) = hG m c (ix2 0 l) := by
  blk_point [iblk, V, idx t]
theorem in2 (t : Fin cfg0.N) (l : Fin 1024) (j : Fin 2688) : (show FVec Ideal S1024x2688 .bf16 from iblk m c 2 t) (ix2 l j) = hW m c (ix2 l j) := by
  blk_point [iblk, V, idx t]

theorem block4_at (x : FVec Ideal S512x1024 .f32) (g : FVec Ideal S1x1024 .f32) (w : FVec Ideal S1024x2688 .bf16) (r : Fin 512) (j : Fin 1024) :
    (show EReal from out0_4 (F := Ideal) x g w (ix2 r j)) = normed (fun i => x (ix2 r i)) (fun i => g (ix2 0 i)) j := by
  unfold out0_4
  frame_out
  pointwise [k0_pay1]
  rfl

theorem pay1_at (x : FVec Ideal S512x1024 .f32) (g : FVec Ideal S1x1024 .f32) (r : Fin 512) (j : Fin 1024) :
    (show EReal from k0_pay1 (F := Ideal) x g (ix2 r j)) = normed (fun i => x (ix2 r i)) (fun i => g (ix2 0 i)) j := by
  pointwise [k0_pay1]
  rfl

theorem block3_at (x : FVec Ideal S512x1024 .f32) (g : FVec Ideal S1x1024 .f32) (w : FVec Ideal S1024x2688 .bf16) (r : Fin 512) (j : Fin 2688) :
    (show EReal from out0_3 (F := Ideal) x g w (ix2 r j)) = ∑ l : Fin 1024, normed (fun i => x (ix2 r i)) (fun i => g (ix2 0 i)) l * w (ix2 l j) := by
  unfold out0_3
  frame_out
  pointwise [k0_pay2]
  exact Finset.sum_congr (M := EReal) rfl fun l _ => congrArg (fun s : EReal => s * w (ix2 l j)) (pay1_at x g r l)

/-- The results as functions of whole arrays. -/
def resH (r : Fin 8192) (j : Fin 1024) : EReal := normed (fun i => aX m c (ix2 r i)) (fun i => hG m c (ix2 0 i)) j
def resY (r : Fin 8192) (j : Fin 2688) : EReal := ∑ l : Fin 1024, resH m c r l * hW m c (ix2 l j)

theorem normed_row (t : Fin cfg0.N) (r : Fin 512) (j : Fin 1024) :
    normed (fun i => (show FVec Ideal S512x1024 .f32 from iblk m c 0 t) (ix2 r i)) (fun i => (show FVec Ideal S1x1024 .f32 from iblk m c 1 t) (ix2 0 i)) j = resH m c (row t r) j := by
  rw [show (fun i => (show FVec Ideal S512x1024 .f32 from iblk m c 0 t) (ix2 r i)) = fun i => aX m c (ix2 (row t r) i) from funext fun i => in0 m c t r i,
    show (fun i => (show FVec Ideal S1x1024 .f32 from iblk m c 1 t) (ix2 0 i)) = fun i => hG m c (ix2 0 i) from funext fun i => in1 m c t i]
  rfl

theorem finalY (y : S8192x2688.Idx) : (show EReal from (dats m 0 c).arrAt 3 (cfgs 0).N y) = resY m c (y 0) (y 1) := by
  have e : (dats m 0 c).arrAt 3 (cfgs 0).N = fun y : S8192x2688.Idx => (resY m c (y 0) (y 1) : EReal) := by
    refine (dats m 0 c).arrAt_eq_of_covers 3 _ (by decide +kernel) fun t hf y => ?_
    blk_simp
    rw [after0_3]
    idx_vars y
    refine (block3_at _ _ _ y0 y1).trans ?_
    have read : ∀ G : FVec Ideal S8192x2688 .f32, G (ix2 (row t y0) y1) = G (((cfg0.win 3).blk t).view.emb (ix2 y0 y1)) := fun G => by
      blk_point [idx t]
      rfl
    refine Eq.trans ?_ (read fun z => resY m c (z 0) (z 1))
    exact Finset.sum_congr (M := EReal) rfl fun l _ => congrArg₂ (fun a b : EReal => a * b) (normed_row m c t y0 l) (in2 m c t l y1)
  exact congrFun e y

theorem finalH (y : S8192x1024.Idx) : (show EReal from (dats m 0 c).arrAt 4 (cfgs 0).N y) = resH m c (y 0) (y 1) := by
  have e : (dats m 0 c).arrAt 4 (cfgs 0).N = fun y : S8192x1024.Idx => (resH m c (y 0) (y 1) : EReal) := by
    refine (dats m 0 c).arrAt_eq_of_covers 4 _ (by decide +kernel) fun t hf y => ?_
    blk_simp
    rw [after0_4]
    idx_vars y
    refine (block4_at _ _ _ y0 y1).trans ?_
    have read : ∀ G : FVec Ideal S8192x1024 .f32, G (ix2 (row t y0) y1) = G (((cfg0.win 4).blk t).view.emb (ix2 y0 y1)) := fun G => by
      blk_point [idx t]
      rfl
    exact (normed_row m c t y0 y1).trans (read fun z => resH m c (z 0) (z 1))
  exact congrFun e y

/-! ## Each result is the reference's -/

theorem nrm_at (r : Fin 8192) (j : Fin 1024) : resH m c r j = NRM (aX m c) (aG m c) (ix2 r j) := by
  unfold resH
  rw [show (fun i => (hG m c (ix2 0 i) : EReal)) = fun i => aG m c (ix1 i) from funext fun i => scale_at m c i]
  pointwise [NRM, MSQ]
  rfl

theorem equal1 : (dats m 0 c).arrAt 4 (cfgs 0).N = RES1 (aX m c) (aG m c) := by
  funext y
  refine (finalH m c y).trans ?_
  idx_vars y
  refine (nrm_at m c y0 y1).trans ?_
  pointwise [RES1]

theorem equal0 : (dats m 0 c).arrAt 3 (cfgs 0).N = RES0 (aX m c) (aG m c) (aW m c) := by
  funext y
  refine (finalY m c y).trans ?_
  idx_vars y
  unfold resY
  refine (Finset.sum_congr (M := EReal) rfl fun l _ => congrArg₂ (fun a b : EReal => a * b) (nrm_at m c y0 l) (weight_at m c l y1)).trans ?_
  pointwise [RES0]
  by_cases h : y1.val < 2592
  · simp only [dif_pos h]
  · simp only [dif_neg h]
    exact (Finset.sum_eq_zero (M := EReal) fun l _ => mul_zero (M₀ := EReal) _).trans (fill .f32).symm

end Cert.InFwdIdeal.Value
end
-- ==== Proof.Forward.Down.lean ====
module
public import Idealize.ShloMosaic.Lib.Pipeline.ReadBack
public import Idealize.ShloMosaic.Lib.Pipeline.ValueKit
public import Idealize.ShloMosaic.Lib.Pointwise
public import proofs.«01_k».proof.Proof.Gen.DownFwdIdeal.Value
public import proofs.«01_k».proof.Proof.Gen.DownFwdRefIdeal.Run

@[expose] public section
set_option maxRecDepth 16384
noncomputable section
open Idealize.ShloMosaic Idealize.ShloMosaic.TcCoe Idealize.SL.Sem
open Idealize.ShloMosaic.Pipeline (Dat)
namespace Cert.DownFwdRefIdeal.Value
open Cert.DownFwdRefIdeal Cert.DownFwdRefIdeal.Gen Idealize.ShloMosaic.StableHlo

/-! ## The reference's results, part by part -/

/-- The reference's result 0 of its arguments. -/
def RES (a : FVec Ideal S8192x2816 .bf16) (w : FVec Ideal S2816x1024 .bf16) (x : FVec Ideal S8192x1024 .f32) : FVec Ideal S8192x1024 .f32 :=
  addf x (Host.dotGeneral (φ₁ := .f32) (φ₂ := .f32) dot_S8192x2816_S2816x1024_S8192x1024_1_0_0_1_n_n none (extf .f32 a bitsLt_bf16_f32) (extf .f32 w bitsLt_bf16_f32))

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = RES (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DownFwdRefIdeal.Value
namespace Cert.DownFwdIdeal.Value
open Cert.DownFwdIdeal Cert.DownFwdIdeal.Gen

/-! ## The feed-forward's second product and the residual, block of rows by block of rows -/

variable (m : (ℓ : Loc nD τ sig) → Buf (Elt Ideal) ℓ) (c : Dev nD)

/-- The arguments. -/
abbrev aA : FVec Ideal S8192x2816 .bf16 := m ((c : Thread nD τ).loc main_arg0)
abbrev aW : FVec Ideal S2816x1024 .bf16 := m ((c : Thread nD τ).loc main_arg1)
abbrev aX : FVec Ideal S8192x1024 .f32 := m ((c : Thread nD τ).loc main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- Row `r` of block `t`. -/
def row (t : Fin cfg0.N) (r : Fin 1024) : Fin 8192 := ⟨t.val * 1024 + r.val, by have : t.val < 8 := lt_of_lt_of_eq t.isLt N_0; omega⟩

theorem in0 (t : Fin cfg0.N) (r : Fin 1024) (l : Fin 2816) : (show FVec Ideal S1024x2816 .bf16 from iblk m c 0 t) (ix2 r l) = aA m c (ix2 (row t r) l) := by
  blk_point [iblk, V, idx t]
  rfl
theorem in1 (t : Fin cfg0.N) (l : Fin 2816) (j : Fin 1024) : (show FVec Ideal S2816x1024 .bf16 from iblk m c 1 t) (ix2 l j) = aW m c (ix2 l j) := by
  blk_point [iblk, V, idx t]
theorem in2 (t : Fin cfg0.N) (r j : Fin 1024) : (show FVec Ideal S1024x1024 .f32 from iblk m c 2 t) (ix2 r j) = aX m c (ix2 (row t r) j) := by
  blk_point [iblk, V, idx t]
  rfl

/-- One block's result: its rows of the residual and of the product. -/
theorem block_at (a : FVec Ideal S1024x2816 .bf16) (w : FVec Ideal S2816x1024 .bf16) (x : FVec Ideal S1024x1024 .f32) (r j : Fin 1024) :
    (show EReal from out0_3 (F := Ideal) a w x (ix2 r j)) = x (ix2 r j) + ∑ l : Fin 2816, a (ix2 r l) * w (ix2 l j) := by
  unfold out0_3
  frame_out
  pointwise [k0_pay1]

/-- The result as a function of whole arrays. -/
def resO (r : Fin 8192) (j : Fin 1024) : EReal := aX m c (ix2 r j) + ∑ l : Fin 2816, aA m c (ix2 r l) * aW m c (ix2 l j)

theorem final (y : S8192x1024.Idx) : (show EReal from (dats m 0 c).arrAt 3 (cfgs 0).N y) = resO m c (y 0) (y 1) := by
  have e : (dats m 0 c).arrAt 3 (cfgs 0).N = fun y : S8192x1024.Idx => (resO m c (y 0) (y 1) : EReal) := by
    refine (dats m 0 c).arrAt_eq_of_covers 3 _ (by decide +kernel) fun t hf y => ?_
    blk_simp
    rw [after0_3]
    idx_vars y
    refine (block_at _ _ _ y0 y1).trans ?_
    have read : ∀ G : FVec Ideal S8192x1024 .f32, G (ix2 (row t y0) y1) = G (((cfg0.win 3).blk t).view.emb (ix2 y0 y1)) := fun G => by
      blk_point [idx t]
      rfl
    refine Eq.trans ?_ (read fun z => resO m c (z 0) (z 1))
    exact congrArg₂ (fun a b : EReal => a + b) (in2 m c t y0 y1)
      (Finset.sum_congr (M := EReal) rfl fun l _ => congrArg₂ (fun a b : EReal => a * b) (in0 m c t y0 l) (in1 m c t l y1))
  exact congrFun e y

/-- The result is the reference's, of equal arguments. -/
theorem equal : (dats m 0 c).arrAt 3 (cfgs 0).N = Cert.DownFwdRefIdeal.Value.RES (aA m c) (aW m c) (aX m c) := by
  funext y
  refine (final m c y).trans ?_
  idx_vars y
  unfold resO
  pointwise [Cert.DownFwdRefIdeal.Value.RES]

end Cert.DownFwdIdeal.Value
end
-- ==== Proof.Forward.Out.lean ====
module
public import Idealize.ShloMosaic.Lib.Pipeline.ReadBack
public import Idealize.ShloMosaic.Lib.Pipeline.ValueKit
public import Idealize.ShloMosaic.Lib.Pointwise
public import proofs.«01_k».proof.Proof.Gen.OutFwdIdeal.Value
public import proofs.«01_k».proof.Proof.Gen.OutFwdRefIdeal.Run

@[expose] public section
set_option maxRecDepth 16384
noncomputable section
open Idealize.ShloMosaic Idealize.ShloMosaic.TcCoe Idealize.SL.Sem
open Idealize.ShloMosaic.Pipeline (Dat)
namespace Cert.OutFwdRefIdeal.Value
open Cert.OutFwdRefIdeal Cert.OutFwdRefIdeal.Gen Idealize.ShloMosaic.StableHlo

/-! ## The reference's results, part by part -/

/-- The two mixers' outputs side by side. -/
def MIX (f : FVec Ideal S8192x512 .f32) (b : FVec Ideal S8192x512 .f32) (p : FVec Ideal S8192x2688 .f32) (a : FVec Ideal S8192x512 .bf16) (g : FVec Ideal S4x128 .f32) : FVec Ideal S8192x1024 .f32 :=
  concatenate S8192x1024 1 [⟨S8192x512, (extf .f32 a bitsLt_bf16_f32)⟩, ⟨S8192x512, (shapeCast _ (mulf (mulf (mulf (shapeCast _ (addf f b) shapeCasts_S8192x512_S8192x4x128) (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf (shapeCast _ (addf f b) shapeCasts_S8192x512_S8192x4x128) (shapeCast _ (addf f b) shapeCasts_S8192x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))))) (broadcastInDim S8192x4x128 ![0, 1, 2] bcast_S1x4x128_S8192x4x128_0_1_2 (broadcastInDim S1x4x128 ![1, 2] bcast_S4x128_S1x4x128_1_2 g))) (mulf (shapeCast _ (extractStridedSlice S8192x512 ![0, 2048] p slices_S8192x2688_S8192x512_0_2048) shapeCasts_S8192x512_S8192x4x128) (Host.divf (broadcastInDim S8192x4x128 ![] bcast_S_S8192x4x128 (constant (F := Ideal) S_ .f32 0x3F800000#32)) (addf (broadcastInDim S8192x4x128 ![] bcast_S_S8192x4x128 (constant (F := Ideal) S_ .f32 0x3F800000#32)) (Host.exp (Host.negf (shapeCast _ (extractStridedSlice S8192x512 ![0, 2048] p slices_S8192x2688_S8192x512_0_2048) shapeCasts_S8192x512_S8192x4x128))))))) shapeCasts_S8192x4x128_S8192x512)⟩] concatenates_S8192x512_S8192x512_S8192x1024_d1

/-- The reference's result 0 of its arguments. -/
def RES0 (x : FVec Ideal S8192x1024 .f32) (f : FVec Ideal S8192x512 .f32) (b : FVec Ideal S8192x512 .f32) (p : FVec Ideal S8192x2688 .f32) (a : FVec Ideal S8192x512 .bf16) (g : FVec Ideal S4x128 .f32) (w : FVec Ideal S1024x1024 .bf16) : FVec Ideal S8192x1024 .f32 :=
  addf x (Host.dotGeneral (φ₁ := .f32) (φ₂ := .f32) dot_S8192x1024_S1024x1024_S8192x1024_1_0_0_1_n_n none (MIX f b p a g) (extf .f32 w bitsLt_bf16_f32))

/-- The reference's result 1 of its arguments. -/
def RES1 (f : FVec Ideal S8192x512 .f32) (b : FVec Ideal S8192x512 .f32) (p : FVec Ideal S8192x2688 .f32) (a : FVec Ideal S8192x512 .bf16) (g : FVec Ideal S4x128 .f32) : FVec Ideal S8192x1024 .bf16 :=
  truncf .bf16 (MIX f b p a g) bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = RES0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v25) = RES1 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.OutFwdRefIdeal.Value
namespace Cert.OutFwdIdeal.Value
open Cert.OutFwdIdeal Cert.OutFwdIdeal.Gen
open Cert.OutFwdRefIdeal.Value (RES0 RES1 MIX)

/-! ## The mixers' outputs and their projection, block of rows by block of rows -/

/-- One head's output in one row: its state normed, scaled and gated. -/
def headOut (s p g : Fin 128 → EReal) (j : Fin 128) : EReal :=
  s j * Ideal.rsqrt (Ideal.div (∑ i : Fin 128, s i * s i) (Ideal.ofBits .f32 0x43000000#32) + Ideal.ofBits .f32 0x358637BD#32) * g j
    * (p j * Ideal.div 1 (1 + Ideal.exp (0 - p j)))

/-- The lane of a head's lane among 512. -/
def lane (h : Fin 4) (i : Fin 128) : Fin 512 := ⟨h.val * 128 + i.val, by omega⟩

/-- One row: the first mixer's output, then the second's four heads. -/
def mixRow (a f b p : Fin 512 → EReal) (g : Fin 4 → Fin 128 → EReal) (l : Fin 1024) : EReal :=
  if h : l.val < 512 then a ⟨l.val, h⟩
  else headOut (fun i => f (lane ⟨(l.val - 512) / 128, by omega⟩ i) + b (lane ⟨(l.val - 512) / 128, by omega⟩ i)) (fun i => p (lane ⟨(l.val - 512) / 128, by omega⟩ i))
    (g ⟨(l.val - 512) / 128, by omega⟩) ⟨(l.val - 512) % 128, by omega⟩

theorem inbH (k : Fin 4) : ∀ a, (![0, k.val * 128] : Fin 2 → ℕ) a + S1024x128.size a ≤ S1024x512.size a := by
  revert k; decide
theorem inbG (k : Fin 4) : ∀ a, (![k.val, 0, 0] : Fin 3 → ℕ) a + S1x1x128.size a ≤ S4x1x128.size a := by
  revert k; decide
theorem inbM (k : Fin 4) : ∀ a, (![0, 512 + 128 * k.val] : Fin 2 → ℕ) a + S1024x128.size a ≤ S1024x1024.size a := by
  revert k; decide

/-- Head `k`'s columns of a block, and its scale. -/
def cutH (x : FVec Ideal S1024x512 .f32) (k : Fin 4) : FVec Ideal S1024x128 .f32 :=
  View.ld (Val := Elt Ideal) (e' := .f32) x (Rect.unit (s := S1024x512) ![0, k.val * 128] S1024x128.size (inbH k))
def cutG (x : FVec Ideal S4x1x128 .f32) (k : Fin 4) : FVec Ideal S1x1x128 .f32 :=
  View.ld (Val := Elt Ideal) (e' := .f32) x (Rect.unit (s := S4x1x128) ![k.val, 0, 0] S1x1x128.size (inbG k))

theorem cutH_at (x : FVec Ideal S1024x512 .f32) (k : Fin 4) (r : Fin 1024) (j : Fin 128) : cutH x k (ix2 r j) = x (ix2 r (lane k j)) := by
  pointwise [cutH]
  rfl
theorem cutG_at (x : FVec Ideal S4x1x128 .f32) (k : Fin 4) (j : Fin 128) : cutG x k (ix3 0 0 j) = x (ix3 k 0 j) := by
  pointwise [cutG]

/-- The store of head `k`, and the block's five stores, the last first. -/
def pieceM (f b p : FVec Ideal S1024x512 .f32) (g : FVec Ideal S4x1x128 .f32) (k : Fin 4) : View.Piece (Elt Ideal) S1024x1024 .bf16 :=
  ⟨Rect.unit (s := S1024x1024) ![0, 512 + 128 * k.val] S1024x128.size (inbM k), k0_pay3 (F := Ideal) (cutH f k) (cutH b k) (cutH p k) (cutG g k)⟩
def pieceA (a : FVec Ideal S1024x512 .bf16) : View.Piece (Elt Ideal) S1024x1024 .bf16 :=
  ⟨Rect.unit (s := S1024x1024) ![0, 0] S1024x512.size inb_S1024x1024_S1024x512_0_0, a⟩
def listM (f b p : FVec Ideal S1024x512 .f32) (a : FVec Ideal S1024x512 .bf16) (g : FVec Ideal S4x1x128 .f32) : List (View.Piece (Elt Ideal) S1024x1024 .bf16) :=
  [pieceM f b p g 3, pieceM f b p g 2, pieceM f b p g 1, pieceM f b p g 0, pieceA a]

theorem head_at (f b p : FVec Ideal S1024x512 .f32) (g : FVec Ideal S4x1x128 .f32) (k : Fin 4) (r : Fin 1024) (j : Fin 128) :
    (show EReal from k0_pay3 (F := Ideal) (cutH f k) (cutH b k) (cutH p k) (cutG g k) (ix2 r j))
      = headOut (fun i => f (ix2 r (lane k i)) + b (ix2 r (lane k i))) (fun i => p (ix2 r (lane k i))) (fun i => g (ix3 k 0 i)) j := by
  pointwise [k0_pay3]
  simp only [cutH_at, cutG_at]
  rfl

/-- The block the five stores leave. -/
def mixBlock (f b p : FVec Ideal S1024x512 .f32) (a : FVec Ideal S1024x512 .bf16) (g : FVec Ideal S4x1x128 .f32) (y : S1024x1024.Idx) : EReal :=
  mixRow (fun i => a (ix2 (y 0) i)) (fun i => f (ix2 (y 0) i)) (fun i => b (ix2 (y 0) i)) (fun i => p (ix2 (y 0) i)) (fun h i => g (ix3 h 0 i)) (y 1)

theorem mixRow_head (a f b p : Fin 512 → EReal) (g : Fin 4 → Fin 128 → EReal) (k : Fin 4) (j : Fin 128) (hl : 512 + 128 * k.val + j.val < 1024) :
    mixRow a f b p g ⟨512 + 128 * k.val + j.val, hl⟩ = headOut (fun i => f (lane k i) + b (lane k i)) (fun i => p (lane k i)) (g k) j := by
  have e1 : ∀ q, (⟨(512 + 128 * k.val + j.val - 512) / 128, q⟩ : Fin 4) = k := fun q => Fin.ext (show (512 + 128 * k.val + j.val - 512) / 128 = k.val by omega)
  have e2 : ∀ q, (⟨(512 + 128 * k.val + j.val - 512) % 128, q⟩ : Fin 128) = j := fun q => Fin.ext (show (512 + 128 * k.val + j.val - 512) % 128 = j.val by omega)
  unfold mixRow
  rw [dif_neg (show ¬ 512 + 128 * k.val + j.val < 512 by omega)]
  simp only [e1, e2]

theorem pieceM_at (f b p : FVec Ideal S1024x512 .f32) (a : FVec Ideal S1024x512 .bf16) (g : FVec Ideal S4x1x128 .f32) (k : Fin 4) (x : (pieceM f b p g k).1.shape.Idx) :
    (pieceM f b p g k).2 x = mixBlock f b p a g ((pieceM f b p g k).1.emb x) := by
  have e : ∀ x : S1024x128.Idx, (pieceM f b p g k).1.emb x = ix2 (x 0) ⟨512 + 128 * k.val + (x 1).val, by have := (x 1).isLt; have : (x 1).val < 128 := this; omega⟩ := fun x => by
    funext a; apply Fin.ext
    match a with
    | ⟨0, _⟩ => show 0 + 1 * (x 0).val = (x 0).val; omega
    | ⟨1, _⟩ => show 512 + 128 * k.val + 1 * (x 1).val = 512 + 128 * k.val + (x 1).val; omega
  change S1024x128.Idx at x
  rw [e x]
  idx_vars x
  exact (head_at f b p g k x0 x1).trans (mixRow_head (fun i => a (ix2 x0 i)) (fun i => f (ix2 x0 i)) (fun i => b (ix2 x0 i)) (fun i => p (ix2 x0 i)) (fun h i => g (ix3 h 0 i)) k x1 _).symm

theorem pieceA_at (f b p : FVec Ideal S1024x512 .f32) (a : FVec Ideal S1024x512 .bf16) (g : FVec Ideal S4x1x128 .f32) (x : (pieceA a).1.shape.Idx) :
    (pieceA a).2 x = mixBlock f b p a g ((pieceA a).1.emb x) := by
  have e : ∀ x : S1024x512.Idx, (pieceA a).1.emb x = ix2 (x 0) ⟨(x 1).val, by have := (x 1).isLt; have : (x 1).val < 512 := this; omega⟩ := fun x => by
    funext a; apply Fin.ext
    match a with
    | ⟨0, _⟩ => show 0 + 1 * (x 0).val = (x 0).val; omega
    | ⟨1, _⟩ => show 0 + 1 * (x 1).val = (x 1).val; omega
  change S1024x512.Idx at x
  rw [e x]
  idx_vars x
  show a (ix2 x0 x1) = mixRow (fun i => a (ix2 x0 i)) (fun i => f (ix2 x0 i)) (fun i => b (ix2 x0 i)) (fun i => p (ix2 x0 i)) (fun h i => g (ix3 h 0 i)) ⟨x1.val, _⟩
  unfold mixRow
  rw [dif_pos (show x1.val < 512 from x1.isLt)]

theorem canonM (f b p : FVec Ideal S1024x512 .f32) (a : FVec Ideal S1024x512 .bf16) (g : FVec Ideal S4x1x128 .f32) (y : S1024x1024.Idx) :
    View.canon (listM f b p a g) y = mixBlock f b p a g y :=
  View.canon_apply_of_pieces (mixBlock f b p a g) (listM f b p a g)
    (show View.PiecesOf (mixBlock f b p a g) (listM f b p a g) from
      ⟨pieceM_at f b p a g 3, pieceM_at f b p a g 2, pieceM_at f b p a g 1, pieceM_at f b p a g 0, pieceA_at f b p a g, trivial⟩).mem y
    (View.cover_of_tiledBy (listM f b p a g) ![1024, 128] (by sl_kernel_rfl) y)

variable (m : (ℓ : Loc nD τ sig) → Buf (Elt Ideal) ℓ) (c : Dev nD)

/-- The arguments, and the scale with its heads apart. -/
abbrev aX : FVec Ideal S8192x1024 .f32 := m ((c : Thread nD τ).loc main_arg0)
abbrev aF : FVec Ideal S8192x512 .f32 := m ((c : Thread nD τ).loc main_arg1)
abbrev aB : FVec Ideal S8192x512 .f32 := m ((c : Thread nD τ).loc main_arg2)
abbrev aP : FVec Ideal S8192x2688 .f32 := m ((c : Thread nD τ).loc main_arg3)
abbrev aA : FVec Ideal S8192x512 .bf16 := m ((c : Thread nD τ).loc main_arg4)
abbrev aG : FVec Ideal S4x128 .f32 := m ((c : Thread nD τ).loc main_arg5)
abbrev aW : FVec Ideal S1024x1024 .bf16 := m ((c : Thread nD τ).loc main_arg6)
abbrev hG : FVec Ideal S4x1x128 .f32 := V m c main_v0

theorem scale_at (h : Fin 4) (j : Fin 128) : (show EReal from hG m c (ix3 h 0 j)) = aG m c (ix2 h j) := by
  unfold hG
  entry_read
  pointwise []

theorem idx : ∀ t : Fin cfg0.N, win0_0.index t = ![t.val, 0] ∧ win0_1.index t = ![t.val, 0] ∧ win0_2.index t = ![t.val, 0] ∧ win0_3.index t = ![t.val, 4]
    ∧ win0_4.index t = ![t.val, 0] ∧ win0_5.index t = ![0, 0, 0] ∧ win0_6.index t = ![0, 0] ∧ win0_7.index t = ![t.val, 0] ∧ win0_8.index t = ![t.val, 0] :=
  (by decide +kernel : ∀ t : Fin grid0.N, _)

theorem lt8 (t : Fin cfg0.N) : t.val < 8 := lt_of_lt_of_eq t.isLt N_0

/-- Row `r` of block `t`. -/
def row (t : Fin cfg0.N) (r : Fin 1024) : Fin 8192 := ⟨t.val * 1024 + r.val, by have := lt8 t; omega⟩
/-- The projection's lane of a gate's lane. -/
def gateLane (l : Fin 512) : Fin 2688 := ⟨2048 + l.val, by omega⟩

theorem in0 (t : Fin cfg0.N) (r l : Fin 1024) : (show FVec Ideal S1024x1024 .f32 from iblk m c 0 t) (ix2 r l) = aX m c (ix2 (row t r) l) := by
  blk_point [iblk, V, idx t]
  rfl
theorem in1 (t : Fin cfg0.N) (r : Fin 1024) (l : Fin 512) : (show FVec Ideal S1024x512 .f32 from iblk m c 1 t) (ix2 r l) = aF m c (ix2 (row t r) l) := by
  blk_point [iblk, V, idx t]
  rfl
theorem in2 (t : Fin cfg0.N) (r : Fin 1024) (l : Fin 512) : (show FVec Ideal S1024x512 .f32 from iblk m c 2 t) (ix2 r l) = aB m c (ix2 (row t r) l) := by
  blk_point [iblk, V, idx t]
  rfl
theorem in3 (t : Fin cfg0.N) (r : Fin 1024) (l : Fin 512) : (show FVec Ideal S1024x512 .f32 from X0_3 m c t) (ix2 r l) = aP m c (ix2 (row t r) (gateLane l)) := by
  unfold X0_3 Pipeline.Window.fill
  refine (dif_pos (moved0_3 t (ix2 r l))).trans ?_
  blk_point [iblk, V, idx t]
  · rfl
  · show 4 * 512 + l.val = 2048 + l.val
    rfl
theorem in4 (t : Fin cfg0.N) (r : Fin 1024) (l : Fin 512) : (show FVec Ideal S1024x512 .bf16 from iblk m c 4 t) (ix2 r l) = aA m c (ix2 (row t r) l) := by
  blk_point [iblk, V, idx t]
  rfl
theorem in5 (t : Fin cfg0.N) (h : Fin 4) (l : Fin 128) : (show FVec Ideal S4x1x128 .f32 from iblk m c 5 t) (ix3 h 0 l) = hG m c (ix3 h 0 l) := by
  blk_point [iblk, V, idx t]
theorem in6 (t : Fin cfg0.N) (r l : Fin 1024) : (show FVec Ideal S1024x1024 .bf16 from iblk m c 6 t) (ix2 r l) = aW m c (ix2 r l) := by
  blk_point [iblk, V, idx t]

/-- A read of the whole buffer after stores is what they leave. -/
theorem load_whole {κ : Kind} {sp : Space} (v : View sig κ sp S1024x1024 .bf16) (L : List (View.Piece (Elt Ideal) S1024x1024 .bf16)) :
    v.readCov L (Rect.unit (s := S1024x1024) ![0, 0] S1024x1024.size inb_S1024x1024_S1024x1024_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- The block's stores. -/
abbrev atM (t : Fin cfg0.N) : List (View.Piece (Elt Ideal) S1024x1024 .bf16) := listM (iblk m c 1 t) (iblk m c 2 t) (X0_3 m c t) (iblk m c 4 t) (iblk m c 5 t)

theorem blockM (t : Fin cfg0.N) : (outsAt0 m c t).2 = View.canon (atM m c t) := by
  unfold outsAt0
  dsimp only
  frame_out
  rfl

theorem blockX (t : Fin cfg0.N) : (outsAt0 m c t).1 = k0_pay2 (F := Ideal) (iblk m c 0 t) (View.canon (atM m c t)) (iblk m c 6 t) := by
  unfold outsAt0
  dsimp only
  frame_out
  exact congrArg (fun x => k0_pay2 (F := Ideal) (iblk m c 0 t) x (iblk m c 6 t)) (load_whole _ (atM m c t))

theorem newX_at (x : FVec Ideal S1024x1024 .f32) (y w : FVec Ideal S1024x1024 .bf16) (r j : Fin 1024) :
    (show EReal from k0_pay2 (F := Ideal) x y w (ix2 r j)) = x (ix2 r j) + ∑ l : Fin 1024, y (ix2 r l) * w (ix2 l j) := by
  pointwise [k0_pay2]

/-! ## The results as functions of whole arrays -/

def resM (r : Fin 8192) (l : Fin 1024) : EReal :=
  mixRow (fun i => aA m c (ix2 r i)) (fun i => aF m c (ix2 r i)) (fun i => aB m c (ix2 r i)) (fun i => aP m c (ix2 r (gateLane i))) (fun h i => hG m c (ix3 h 0 i)) l
def resX (r : Fin 8192) (j : Fin 1024) : EReal := aX m c (ix2 r j) + ∑ l : Fin 1024, resM m c r l * aW m c (ix2 l j)

theorem rowF (t : Fin cfg0.N) (r : Fin 1024) : (fun i => (show FVec Ideal S1024x512 .f32 from iblk m c 1 t) (ix2 r i)) = fun i => aF m c (ix2 (row t r) i) := funext fun i => in1 m c t r i
theorem rowB (t : Fin cfg0.N) (r : Fin 1024) : (fun i => (show FVec Ideal S1024x512 .f32 from iblk m c 2 t) (ix2 r i)) = fun i => aB m c (ix2 (row t r) i) := funext fun i => in2 m c t r i
theorem rowP (t : Fin cfg0.N) (r : Fin 1024) : (fun i => (show FVec Ideal S1024x512 .f32 from X0_3 m c t) (ix2 r i)) = fun i => aP m c (ix2 (row t r) (gateLane i)) := funext fun i => in3 m c t r i
theorem rowA (t : Fin cfg0.N) (r : Fin 1024) : (fun i => (show FVec Ideal S1024x512 .bf16 from iblk m c 4 t) (ix2 r i)) = fun i => aA m c (ix2 (row t r) i) := funext fun i => in4 m c t r i
theorem allG (t : Fin cfg0.N) : (fun h i => (show FVec Ideal S4x1x128 .f32 from iblk m c 5 t) (ix3 h 0 i)) = fun h i => hG m c (ix3 h 0 i) := funext fun h => funext fun i => in5 m c t h i

theorem outM (t : Fin cfg0.N) (r l : Fin 1024) : (show EReal from View.canon (atM m c t) (ix2 r l)) = resM m c (row t r) l := by
  refine (canonM _ _ _ _ _ (ix2 r l)).trans ?_
  show mixRow (fun i => (show FVec Ideal S1024x512 .bf16 from iblk m c 4 t) (ix2 r i)) (fun i => (show FVec Ideal S1024x512 .f32 from iblk m c 1 t) (ix2 r i))
    (fun i => (show FVec Ideal S1024x512 .f32 from iblk m c 2 t) (ix2 r i)) (fun i => (show FVec Ideal S1024x512 .f32 from X0_3 m c t) (ix2 r i))
    (fun h i => (show FVec Ideal S4x1x128 .f32 from iblk m c 5 t) (ix3 h 0 i)) l = _
  rw [rowF, rowB, rowP, rowA, allG]
  rfl

theorem outX (t : Fin cfg0.N) (r j : Fin 1024) : (show EReal from (outsAt0 m c t).1 (ix2 r j)) = resX m c (row t r) j := by
  rw [blockX]
  refine (newX_at _ _ _ r j).trans ?_
  refine congrArg₂ (fun s u : EReal => s + u) (in0 m c t r j) (Finset.sum_congr (M := EReal) rfl fun l _ => ?_)
  exact congrArg₂ (fun s u : EReal => s * u) (outM m c t r l) (in6 m c t l j)

theorem finalX (y : S8192x1024.Idx) : (show EReal from (dats m 0 c).arrAt 7 (cfgs 0).N y) = resX m c (y 0) (y 1) := by
  have e : (dats m 0 c).arrAt 7 (cfgs 0).N = fun y : S8192x1024.Idx => (resX m c (y 0) (y 1) : EReal) := by
    refine (dats m 0 c).arrAt_eq_of_covers 7 _ (by decide +kernel) fun t hf y => ?_
    blk_simp
    rw [after0_7]
    idx_vars y
    refine (outX m c t y0 y1).trans ?_
    have read : ∀ G : FVec Ideal S8192x1024 .f32, G (ix2 (row t y0) y1) = G (((cfg0.win 7).blk t).view.emb (ix2 y0 y1)) := fun G => by
      blk_point [idx t]
      rfl
    exact read fun z => resX m c (z 0) (z 1)
  exact congrFun e y

theorem finalM (y : S8192x1024.Idx) : (show EReal from (dats m 0 c).arrAt 8 (cfgs 0).N y) = resM m c (y 0) (y 1) := by
  have e : (dats m 0 c).arrAt 8 (cfgs 0).N = fun y : S8192x1024.Idx => (resM m c (y 0) (y 1) : EReal) := by
    refine (dats m 0 c).arrAt_eq_of_covers 8 _ (by decide +kernel) fun t hf y => ?_
    blk_simp
    rw [after0_8, blockM]
    idx_vars y
    refine (outM m c t y0 y1).trans ?_
    have read : ∀ G : FVec Ideal S8192x1024 .bf16, G (ix2 (row t y0) y1) = G (((cfg0.win 8).blk t).view.emb (ix2 y0 y1)) := fun G => by
      blk_point [idx t]
      rfl
    exact read fun z => resM m c (z 0) (z 1)
  exact congrFun e y

/-! ## Each result is the reference's -/

theorem scaleFun : (fun h i => (hG m c (ix3 h 0 i) : EReal)) = fun h i => aG m c (ix2 h i) := funext fun h => funext fun i => scale_at m c h i

theorem mix_at (r : Fin 8192) (l : Fin 1024) : (show EReal from MIX (aF m c) (aB m c) (aP m c) (aA m c) (aG m c) (ix2 r l)) = resM m c r l := by
  unfold resM
  rw [scaleFun]
  pointwise [MIX]
  unfold mixRow headOut
  simp only [zero_sub]
  rfl

theorem equal0 : (dats m 0 c).arrAt 7 (cfgs 0).N = RES0 (aX m c) (aF m c) (aB m c) (aP m c) (aA m c) (aG m c) (aW m c) := by
  funext y
  refine (finalX m c y).trans ?_
  idx_vars y
  pointwise [RES0]
  exact congrArg (fun s : EReal => aX m c (ix2 y0 y1) + s) (Finset.sum_congr (M := EReal) rfl fun l _ => congrArg (fun s : EReal => s * aW m c (ix2 l y1)) (mix_at m c y0 l).symm)

theorem equal1 : (dats m 0 c).arrAt 8 (cfgs 0).N = RES1 (aF m c) (aB m c) (aP m c) (aA m c) (aG m c) := by
  funext y
  refine (finalM m c y).trans ?_
  idx_vars y
  exact (mix_at m c y0 y1).symm

end Cert.OutFwdIdeal.Value
end
-- ==== Proof.Up.Late.lean ====
module
public import Idealize.ShloMosaic.Lib.Pipeline.ReadBack
public import Idealize.ShloMosaic.Lib.Pipeline.ValueKit
public import Idealize.ShloMosaic.Lib.Pointwise
public import proofs.«01_k».proof.Proof.Up.Chunk

@[expose] public section
set_option maxRecDepth 16384
noncomputable section
open Idealize.ShloMosaic Idealize.ShloMosaic.TcCoe Idealize.SL.Sem
open Idealize.ShloMosaic.Pipeline (Dat)
namespace Cert.UpFwdIdeal.Value
open Cert.UpFwdIdeal Cert.UpFwdIdeal.Gen
variable {F : FTy → Type} [FloatOps F]
variable (m : (ℓ : Loc nD τ sig) → Buf (Elt F) ℓ) (c : Dev nD) (t : Fin cfg0.N)

/-! ## The convolved block at the points after the first -/

theorem blockZ_B (h : ¬ t.val % 65 = 0) : (outsAt0 m c t.val t.isLt).2.2.1 = View.canon (listS (newZ (grid0.coords t) (atH m c t) (iblk m c 2 t) (iblk m c 3 t) (iblk m c 4 t) (atP m c t) (atQ m c t))) := by
  conv_lhs => rw [outsAt0_B m c t h]
  dsimp only
  frame_out
  simp only [read_unread_whole]
  rfl

theorem blockA_B (h : ¬ t.val % 65 = 0) : (outsAt0 m c t.val t.isLt).2.2.2.1 = View.canon (listA (newA (conv (grid0.coords t) (atH m c t) (iblk m c 2 t) (iblk m c 3 t) (iblk m c 4 t) (atP m c t) (atQ m c t)))) := by
  conv_lhs => rw [outsAt0_B m c t h]
  dsimp only
  frame_out
  simp only [read_unread_whole]
  rfl

end Cert.UpFwdIdeal.Value
end
-- ==== Proof.Up.First.lean ====
module
public import Idealize.ShloMosaic.Lib.Pipeline.ReadBack
public import Idealize.ShloMosaic.Lib.Pipeline.ValueKit
public import Idealize.ShloMosaic.Lib.Pointwise
public import proofs.«01_k».proof.Proof.Up.Chunk

@[expose] public section
set_option maxRecDepth 16384
noncomputable section
open Idealize.ShloMosaic Idealize.ShloMosaic.TcCoe Idealize.SL.Sem
open Idealize.ShloMosaic.Pipeline (Dat)
namespace Cert.UpFwdIdeal.Value
open Cert.UpFwdIdeal Cert.UpFwdIdeal.Gen
variable {F : FTy → Type} [FloatOps F]
variable (m : (ℓ : Loc nD τ sig) → Buf (Elt F) ℓ) (c : Dev nD) (t : Fin cfg0.N)

/-! ## The carried buffers after the first grid point, which starts them from zero -/

theorem blockP_A (h : t.val % 65 = 0) : ∃ L, (outsAt0 m c t.val t.isLt).2.2.2.2.1 = View.canon (listS (newP (atH m c t) (iblk m c 2 t)) ++ L) := by
  refine ⟨?_, ?_⟩
  rotate_left
  conv_lhs => rw [outsAt0_A m c t h]
  dsimp only
  frame_out
  rfl

theorem blockQ_A (h : t.val % 65 = 0) : ∃ L, (outsAt0 m c t.val t.isLt).2.2.2.2.2 = View.canon (listE (newQ k0_pay4) ++ L) := by
  refine ⟨?_, ?_⟩
  rotate_left
  conv_lhs => rw [outsAt0_A m c t h]
  dsimp only
  frame_open
  simp (disch := decide) only [↓ View.readCov_skip, ↓ View.readCov_cons_toLoadRect, ↓ View.readCov_fill]
  frame_out
  rfl

end Cert.UpFwdIdeal.Value
end
-- ==== Proof.Up.Rows.lean ====
module
public import Idealize.ShloMosaic.Lib.Pipeline.ReadBack
public import Idealize.ShloMosaic.Lib.Pipeline.ValueKit
public import Idealize.ShloMosaic.Lib.Pointwise
public import proofs.«01_k».proof.Proof.Up.Late
public import proofs.«01_k».proof.Proof.Up.First
public import proofs.«01_k».proof.Proof.Up.Values

@[expose] public section
set_option maxRecDepth 16384
noncomputable section
open Idealize.ShloMosaic Idealize.ShloMosaic.TcCoe Idealize.SL.Sem
open Idealize.ShloMosaic.Pipeline (Dat)
namespace Cert.UpFwdIdeal.Value
open Cert.UpFwdIdeal Cert.UpFwdIdeal.Gen
open Cert.UpGradIdeal.Value (lane lane_surj)
variable (m : (ℓ : Loc nD τ sig) → Buf (Elt Ideal) ℓ) (c : Dev nD)

/-! ## The blocks' rows as rows of the whole arrays -/

/-- The arguments. -/
abbrev aX : FVec Ideal S8192x1024 .f32 := m ((c : Thread nD τ).loc main_arg0)
abbrev aG : FVec Ideal S1024 .f32 := m ((c : Thread nD τ).loc main_arg1)
abbrev aW : FVec Ideal S1024x5632 .bf16 := m ((c : Thread nD τ).loc main_arg2)
abbrev aC : FVec Ideal S3x5632 .f32 := m ((c : Thread nD τ).loc main_arg3)
abbrev aB : FVec Ideal S5632 .f32 := m ((c : Thread nD τ).loc main_arg4)
/-- The scale and the bias as rows. -/
abbrev hG : FVec Ideal S1x1024 .f32 := V m c main_v0
abbrev hB : FVec Ideal S1x5632 .f32 := V m c main_v1

theorem scale_at (j : Fin 1024) : (show EReal from hG m c (ix2 0 j)) = aG m c (ix1 j) := by
  unfold hG
  entry_read
  pointwise []
theorem bias_at (l : Fin 5632) : (show EReal from hB m c (ix2 0 l)) = aB m c (ix1 l) := by
  unfold hB
  entry_read
  pointwise []

theorem idx : ∀ t : Fin cfg0.N, win0_0.index t = ![min t.val 63, 0] ∧ win0_1.index t = ![0, 0] ∧ win0_2.index t = ![0, 0] ∧ win0_3.index t = ![0, 0]
    ∧ win0_4.index t = ![0, 0] ∧ win0_5.index t = ![min t.val 63, 0] ∧ win0_6.index t = ![min t.val 63, 0] ∧ win0_7.index t = ![t.val - 1, 0]
    ∧ win0_8.index t = ![t.val - 1, 0] :=
  (by decide +kernel : ∀ t : Fin grid0.N, _)
theorem coord : ∀ t : Fin cfg0.N, (grid0.coords t 0).val = t.val := (by decide +kernel : ∀ t : Fin grid0.N, _)
theorem flush7 : ∀ t : Fin cfg0.N, (cfg0.win 7).flush t = true → t.val ≠ 0 := (by decide +kernel : ∀ t : Fin grid0.N, win0_7.flush t = true → t.val ≠ 0)
theorem flush8 : ∀ t : Fin cfg0.N, (cfg0.win 8).flush t = true → t.val ≠ 0 := (by decide +kernel : ∀ t : Fin grid0.N, win0_8.flush t = true → t.val ≠ 0)

theorem lt65 (t : Fin cfg0.N) : t.val < 65 := lt_of_lt_of_eq t.isLt N_0

/-- The block of rows that point `t` projects, and row `r` of a block. -/
def cur (t : Fin cfg0.N) : Fin 64 := ⟨min t.val 63, by omega⟩
/-- The block of rows that point `t` convolves. -/
def late (t : Fin cfg0.N) : Fin 64 := ⟨t.val - 1, by have := lt65 t; omega⟩
def row (b : Fin 64) (r : Fin 128) : Fin 8192 := ⟨b.val * 128 + r.val, by omega⟩

theorem in0 (t : Fin cfg0.N) (r : Fin 128) (l : Fin 1024) : (show FVec Ideal S128x1024 .f32 from iblk m c 0 t) (ix2 r l) = aX m c (ix2 (row (cur t) r) l) := by
  blk_point [iblk, V, idx t]
  rfl
theorem in1 (t : Fin cfg0.N) (l : Fin 1024) : (show FVec Ideal S1x1024 .f32 from iblk m c 1 t) (ix2 0 l) = hG m c (ix2 0 l) := by
  blk_point [iblk, V, idx t]
theorem in2 (t : Fin cfg0.N) (j : Fin 1024) (l : Fin 5632) : (show FVec Ideal S1024x5632 .bf16 from iblk m c 2 t) (ix2 j l) = aW m c (ix2 j l) := by
  blk_point [iblk, V, idx t]
theorem in3 (t : Fin cfg0.N) (q : Fin 3) (l : Fin 5632) : (show FVec Ideal S3x5632 .f32 from iblk m c 3 t) (ix2 q l) = aC m c (ix2 q l) := by
  blk_point [iblk, V, idx t]
theorem in4 (t : Fin cfg0.N) (l : Fin 5632) : (show FVec Ideal S1x5632 .f32 from iblk m c 4 t) (ix2 0 l) = hB m c (ix2 0 l) := by
  blk_point [iblk, V, idx t]

/-- The results as functions of whole arrays: the normalised rows, their projection, its rows before and after one, the
convolution, the gated values. -/
def resH (r : Fin 8192) (j : Fin 1024) : EReal := normed (fun i => aX m c (ix2 r i)) (fun i => hG m c (ix2 0 i)) j
def resU (r : Fin 8192) (l : Fin 5632) : EReal := ∑ j : Fin 1024, resH m c r j * aW m c (ix2 j l)
def before (r : Fin 8192) (l : Fin 5632) : EReal := if r.val = 0 then 0 else resU m c ⟨r.val - 1, by omega⟩ l
def after (r : Fin 8192) (l : Fin 5632) : EReal := if h : r.val + 1 < 8192 then resU m c ⟨r.val + 1, h⟩ l else 0
def resZ (r : Fin 8192) (l : Fin 5632) : EReal :=
  hB m c (ix2 0 l) + before m c r l * aC m c (ix2 0 l) + resU m c r l * aC m c (ix2 1 l) + after m c r l * aC m c (ix2 2 l)
def resA (r : Fin 8192) (l : Fin 2816) : EReal :=
  resZ m c r ⟨l.val, by omega⟩ * Ideal.div 1 (1 + Ideal.exp (0 - resZ m c r ⟨l.val, by omega⟩)) * resZ m c r ⟨2816 + l.val, by omega⟩

theorem H_row (t : Fin cfg0.N) (r : Fin 128) (j : Fin 1024) : (show EReal from atH (F := Ideal) m c t (ix2 r j)) = resH m c (row (cur t) r) j := by
  refine (newH_at _ _ r j).trans ?_
  rw [show (fun i => (show FVec Ideal S128x1024 .f32 from iblk m c 0 t) (ix2 r i)) = fun i => aX m c (ix2 (row (cur t) r) i) from funext fun i => in0 m c t r i,
    show (fun i => (show FVec Ideal S1x1024 .f32 from iblk m c 1 t) (ix2 0 i)) = fun i => hG m c (ix2 0 i) from funext fun i => in1 m c t i]
  rfl

theorem U_row (t : Fin cfg0.N) (k : Fin 22) (r : Fin 128) (s : Fin 256) :
    (show EReal from newU (F := Ideal) (atH m c t) (iblk m c 2 t) k (ix2 r s)) = resU m c (row (cur t) r) (lane k s) :=
  (newU_at _ _ k r s).trans (Finset.sum_congr (M := EReal) rfl fun j _ => congrArg₂ (fun a b : EReal => a * b) (H_row m c t r j) (in2 m c t j (lane k s)))

theorem out5 (t : Fin cfg0.N) (r : Fin 128) (l : Fin 5632) : (show EReal from (outsAt0 m c t.val t.isLt).1 (ix2 r l)) = resU m c (row (cur t) r) l := by
  obtain ⟨k, s, rfl⟩ := lane_surj l
  by_cases h : t.val % 65 = 0
  · rw [blockU_A m c t h, canonS']
    exact U_row m c t k r s
  · rw [blockU_B m c t h, canonS']
    exact U_row m c t k r s

theorem out6 (t : Fin cfg0.N) (r : Fin 128) (j : Fin 1024) : (show EReal from (outsAt0 m c t.val t.isLt).2.1 (ix2 r j)) = resH m c (row (cur t) r) j := by
  by_cases h : t.val % 65 = 0
  · rw [blockH_A m c t h]
    exact H_row m c t r j
  · rw [blockH_B m c t h]
    exact H_row m c t r j

/-- What a point carries on: the block it projected, and the last row of the block carried to it. -/
theorem carriedP (t : Fin cfg0.N) (r : Fin 128) (l : Fin 5632) :
    (show EReal from (outsAt0 m c t.val t.isLt).2.2.2.2.1 (ix2 r l)) = resU m c (row (cur t) r) l := by
  obtain ⟨k, s, rfl⟩ := lane_surj l
  by_cases h : t.val % 65 = 0
  · obtain ⟨L, e⟩ := blockP_A m c t h
    rw [e, canonS]
    exact (newP_at _ _ k r s).trans (U_row m c t k r s)
  · rw [blockP_B m c t h, canonS']
    exact (newP_at _ _ k r s).trans (U_row m c t k r s)

theorem carriedQ (t : Fin cfg0.N) (l : Fin 5632) :
    (show EReal from (outsAt0 m c t.val t.isLt).2.2.2.2.2 (ix2 15 l)) = if t.val = 0 then 0 else resU m c (row (late t) 127) l := by
  obtain ⟨k, s, rfl⟩ := lane_surj l
  have ht := lt65 t
  by_cases h : t.val % 65 = 0
  · obtain ⟨L, e⟩ := blockQ_A m c t h
    rw [e, canonE, if_pos (show t.val = 0 by omega)]
    exact (newQ_at _ k s).trans (zero_at _)
  · rw [blockQ_B m c t h, canonE', if_neg (show ¬ t.val = 0 by omega)]
    refine (newQ_at _ k s).trans ((carriedP m c ⟨t.val - 1, prevLt t⟩ 127 (lane k s)).trans ?_)
    exact congrArg (fun b => resU m c (row b 127) (lane k s)) (Fin.ext (show min (t.val - 1) 63 = t.val - 1 by omega))

theorem P_row (t : Fin cfg0.N) (h : t.val ≠ 0) (r : Fin 128) (l : Fin 5632) : (show EReal from atP (F := Ideal) m c t (ix2 r l)) = resU m c (row (late t) r) l := by
  have ht := lt65 t
  refine (carriedP m c ⟨t.val - 1, prevLt t⟩ r l).trans ?_
  exact congrArg (fun b => resU m c (row b r) l) (Fin.ext (show min (t.val - 1) 63 = t.val - 1 by omega))

theorem below_row (t : Fin cfg0.N) (h : t.val ≠ 0) (k : Fin 22) (r : Fin 128) (s : Fin 256) :
    below (cutS (atP (F := Ideal) m c t) k) (cutT (atQ (F := Ideal) m c t) k) r s = before m c (row (late t) r) (lane k s) := by
  have ht := lt65 t
  have rv : (row (late t) r).val = (t.val - 1) * 128 + r.val := rfl
  unfold below before
  by_cases hr : r.val = 0
  · rw [if_pos hr]
    refine (cutT_at _ k s).trans ((carriedQ m c ⟨t.val - 1, prevLt t⟩ (lane k s)).trans ?_)
    by_cases h1 : t.val - 1 = 0
    · rw [if_pos h1, if_pos (show (row (late t) r).val = 0 by omega)]
    · rw [if_neg h1, if_neg (show ¬ (row (late t) r).val = 0 by omega)]
      exact congrArg (fun q => resU m c q (lane k s)) (Fin.ext (show (t.val - 1 - 1) * 128 + 127 = (t.val - 1) * 128 + r.val - 1 by omega))
  · rw [if_neg hr, if_neg (show ¬ (row (late t) r).val = 0 by omega)]
    refine (cutS_at _ k _ s).trans ((P_row m c t h _ (lane k s)).trans ?_)
    exact congrArg (fun q => resU m c q (lane k s)) (Fin.ext (show (t.val - 1) * 128 + (r.val - 1) = (t.val - 1) * 128 + r.val - 1 by omega))

theorem above_row (t : Fin cfg0.N) (h : t.val ≠ 0) (k : Fin 22) (r : Fin 128) (s : Fin 256) :
    above ⟨t.val, lt65 t⟩ (cutS (atP (F := Ideal) m c t) k) (newU (F := Ideal) (atH m c t) (iblk m c 2 t) k) r s = after m c (row (late t) r) (lane k s) := by
  have ht := lt65 t
  have rv : (row (late t) r).val = (t.val - 1) * 128 + r.val := rfl
  unfold above after
  by_cases hr : r.val = 127
  · rw [dif_pos hr]
    by_cases h1 : t.val < 64
    · rw [if_pos h1, dif_pos (show (row (late t) r).val + 1 < 8192 by omega)]
      refine (U_row m c t k 0 s).trans ?_
      exact congrArg (fun q => resU m c q (lane k s)) (Fin.ext (show min t.val 63 * 128 + 0 = (t.val - 1) * 128 + r.val + 1 by omega))
    · rw [if_neg h1, dif_neg (show ¬ (row (late t) r).val + 1 < 8192 by omega)]
  · rw [dif_neg hr, dif_pos (show (row (late t) r).val + 1 < 8192 by omega)]
    refine (cutS_at _ k _ s).trans ((P_row m c t h _ (lane k s)).trans ?_)
    exact congrArg (fun q => resU m c q (lane k s)) (Fin.ext (show (t.val - 1) * 128 + (r.val + 1) = (t.val - 1) * 128 + r.val + 1 by omega))

/-- The convolution of a chunk at point `t`. -/
abbrev atZ (t : Fin cfg0.N) : Fin 22 → FVec Ideal S128x256 .f32 :=
  conv (F := Ideal) (grid0.coords t) (atH m c t) (iblk m c 2 t) (iblk m c 3 t) (iblk m c 4 t) (atP m c t) (atQ m c t)

theorem Z_row (t : Fin cfg0.N) (h : t.val ≠ 0) (k : Fin 22) (r : Fin 128) (s : Fin 256) :
    (show EReal from atZ m c t k (ix2 r s)) = resZ m c (row (late t) r) (lane k s) := by
  unfold atZ conv
  rw [coord t]
  refine (conv_point ⟨t.val, lt65 t⟩ _ _ _ _ _ _ _ r s).trans ?_
  rw [below_row m c t h, above_row m c t h]
  have e0 := (cutB_at (iblk m c 4 t) k s).trans (in4 m c t (lane k s))
  have e1 := (cutC_at (iblk m c 3 t) 0 k s).trans (in3 m c t 0 (lane k s))
  have e2 := (cutC_at (iblk m c 3 t) 1 k s).trans (in3 m c t 1 (lane k s))
  have e3 := (cutC_at (iblk m c 3 t) 2 k s).trans (in3 m c t 2 (lane k s))
  have e4 := (cutS_at (atP (F := Ideal) m c t) k r s).trans (P_row m c t h r (lane k s))
  rw [e0, e1, e2, e3, e4]
  rfl

theorem newZ_at (i : grid0.Coords) (h : FVec Ideal S128x1024 .bf16) (w : FVec Ideal S1024x5632 .bf16) (v : FVec Ideal S3x5632 .f32) (b : FVec Ideal S1x5632 .f32)
    (p : FVec Ideal S128x5632 .bf16) (q : FVec Ideal S16x5632 .bf16) (k : Fin 22) (r : Fin 128) (s : Fin 256) :
    (show EReal from newZ i h w v b p q k (ix2 r s)) = conv i h w v b p q k (ix2 r s) := rfl

theorem out7 (t : Fin cfg0.N) (h : t.val ≠ 0) (r : Fin 128) (l : Fin 5632) :
    (show EReal from (outsAt0 m c t.val t.isLt).2.2.1 (ix2 r l)) = resZ m c (row (late t) r) l := by
  obtain ⟨k, s, rfl⟩ := lane_surj l
  have ht := lt65 t
  rw [blockZ_B m c t (by omega), canonS']
  exact (newZ_at _ _ _ _ _ _ _ k r s).trans (Z_row m c t h k r s)

theorem lane_gate (k : Fin 11) (s : Fin 256) : lane (gate k) s = ⟨(half k s).val, by omega⟩ := Fin.ext rfl
theorem lane_vals (k : Fin 11) (s : Fin 256) : lane (vals k) s = ⟨2816 + (half k s).val, by omega⟩ :=
  Fin.ext (show 256 * (11 + k.val) + s.val = 2816 + (256 * k.val + s.val) by omega)

theorem out8 (t : Fin cfg0.N) (h : t.val ≠ 0) (r : Fin 128) (l : Fin 2816) :
    (show EReal from (outsAt0 m c t.val t.isLt).2.2.2.1 (ix2 r l)) = resA m c (row (late t) r) l := by
  obtain ⟨k, s, rfl⟩ := half_surj l
  have ht := lt65 t
  rw [blockA_B m c t (by omega), canonA']
  refine (newA_at _ k r s).trans ?_
  have e0 := Z_row m c t h (gate k) r s
  have e1 := Z_row m c t h (vals k) r s
  rw [lane_gate] at e0
  rw [lane_vals] at e1
  exact congrArg₂ (fun a b : EReal => a * Ideal.div 1 (1 + Ideal.exp (0 - a)) * b) e0 e1

theorem final5 (y : S8192x5632.Idx) : (show EReal from (dats m 0 c).arrAt 5 (cfgs 0).N y) = resU m c (y 0) (y 1) := by
  have e : (dats m 0 c).arrAt 5 (cfgs 0).N = fun y : S8192x5632.Idx => (resU m c (y 0) (y 1) : EReal) := by
    refine (dats m 0 c).arrAt_eq_of_covers 5 _ (by decide +kernel) fun t hf y => ?_
    blk_simp
    rw [after0_5]
    idx_vars y
    have read : ∀ G : FVec Ideal S8192x5632 .f32, G (ix2 (row (cur t) y0) y1) = G (((cfg0.win 5).blk t).view.emb (ix2 y0 y1)) := fun G => by
      blk_point [idx t]
      rfl
    exact (out5 m c t y0 y1).trans (read fun z => resU m c (z 0) (z 1))
  exact congrFun e y

theorem final6 (y : S8192x1024.Idx) : (show EReal from (dats m 0 c).arrAt 6 (cfgs 0).N y) = resH m c (y 0) (y 1) := by
  have e : (dats m 0 c).arrAt 6 (cfgs 0).N = fun y : S8192x1024.Idx => (resH m c (y 0) (y 1) : EReal) := by
    refine (dats m 0 c).arrAt_eq_of_covers 6 _ (by decide +kernel) fun t hf y => ?_
    blk_simp
    rw [after0_6]
    idx_vars y
    have read : ∀ G : FVec Ideal S8192x1024 .f32, G (ix2 (row (cur t) y0) y1) = G (((cfg0.win 6).blk t).view.emb (ix2 y0 y1)) := fun G => by
      blk_point [idx t]
      rfl
    exact (out6 m c t y0 y1).trans (read fun z => resH m c (z 0) (z 1))
  exact congrFun e y

theorem final7 (y : S8192x5632.Idx) : (show EReal from (dats m 0 c).arrAt 7 (cfgs 0).N y) = resZ m c (y 0) (y 1) := by
  have e : (dats m 0 c).arrAt 7 (cfgs 0).N = fun y : S8192x5632.Idx => (resZ m c (y 0) (y 1) : EReal) := by
    refine (dats m 0 c).arrAt_eq_of_covers 7 _ (by decide +kernel) fun t hf y => ?_
    blk_simp
    rw [after0_7]
    idx_vars y
    have read : ∀ G : FVec Ideal S8192x5632 .f32, G (ix2 (row (late t) y0) y1) = G (((cfg0.win 7).blk t).view.emb (ix2 y0 y1)) := fun G => by
      blk_point [idx t]
      rfl
    exact (out7 m c t (flush7 t hf) y0 y1).trans (read fun z => resZ m c (z 0) (z 1))
  exact congrFun e y

theorem final8 (y : S8192x2816.Idx) : (show EReal from (dats m 0 c).arrAt 8 (cfgs 0).N y) = resA m c (y 0) (y 1) := by
  have e : (dats m 0 c).arrAt 8 (cfgs 0).N = fun y : S8192x2816.Idx => (resA m c (y 0) (y 1) : EReal) := by
    refine (dats m 0 c).arrAt_eq_of_covers 8 _ (by decide +kernel) fun t hf y => ?_
    blk_simp
    rw [after0_8]
    idx_vars y
    have read : ∀ G : FVec Ideal S8192x2816 .f32, G (ix2 (row (late t) y0) y1) = G (((cfg0.win 8).blk t).view.emb (ix2 y0 y1)) := fun G => by
      blk_point [idx t]
      rfl
    exact (out8 m c t (flush8 t hf) y0 y1).trans (read fun z => resA m c (z 0) (z 1))
  exact congrFun e y

end Cert.UpFwdIdeal.Value
end
-- ==== Proof.Up.Equal.lean ====
module
public import Idealize.ShloMosaic.Lib.Pipeline.ReadBack
public import Idealize.ShloMosaic.Lib.Pipeline.ValueKit
public import Idealize.ShloMosaic.Lib.Pointwise
public import proofs.«01_k».proof.Proof.Gen.UpFwdRefIdeal.Run
public import proofs.«01_k».proof.Proof.Up.Rows

@[expose] public section
set_option maxRecDepth 16384
noncomputable section
open Idealize.ShloMosaic Idealize.ShloMosaic.TcCoe Idealize.SL.Sem
open Idealize.ShloMosaic.Pipeline (Dat)
namespace Cert.UpFwdRefIdeal.Value
open Cert.UpFwdRefIdeal Cert.UpFwdRefIdeal.Gen Idealize.ShloMosaic.StableHlo

/-! ## The reference's results, part by part -/

/-- Each row's mean square and the small constant. -/
def MSQ (x : FVec Ideal S8192x1024 .f32) : FVec Ideal S8192x1 .f32 :=
  addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

/-- The normalised rows. -/
def NRM (x : FVec Ideal S8192x1024 .f32) (g : FVec Ideal S1024 .f32) : FVec Ideal S8192x1024 .f32 :=
  mulf (mulf x (broadcastInDim S8192x1024 ![0, 1] bcast_S8192x1_S8192x1024_0_1 (Host.rsqrt (MSQ x)))) (broadcastInDim S8192x1024 ![0, 1] bcast_S1x1024_S8192x1024_0_1 (broadcastInDim S1x1024 ![1] bcast_S1024_S1x1024_1 g))

/-- Their projection. -/
def ZU (x : FVec Ideal S8192x1024 .f32) (g : FVec Ideal S1024 .f32) (w : FVec Ideal S1024x5632 .bf16) : FVec Ideal S8192x5632 .f32 :=
  Host.dotGeneral (φ₁ := .f32) (φ₂ := .f32) dot_S8192x1024_S1024x5632_S8192x5632_1_0_0_1_n_n none (NRM x g) (extf .f32 w bitsLt_bf16_f32)

/-- The projection between two rows of zeros. -/
def ZP (x : FVec Ideal S8192x1024 .f32) (g : FVec Ideal S1024 .f32) (w : FVec Ideal S1024x5632 .bf16) : FVec Ideal S1x8194x5632 .f32 :=
  (concatenate S1x8194x5632 1 [⟨S1x1x5632, ((broadcastInDim S1x1x5632 ![] bcast_S_S1x1x5632 (constant (F := Ideal) S_ .f32 0x00000000#32)) : (⟨S1x1x5632, .f32⟩ : BufTy).Contents (Elt Ideal))⟩, ⟨S1x8192x5632, ((broadcastInDim S1x8192x5632 ![1, 2] bcast_S8192x5632_S1x8192x5632_1_2 (ZU x g w)) : (⟨S1x8192x5632, .f32⟩ : BufTy).Contents (Elt Ideal))⟩, ⟨S1x1x5632, ((broadcastInDim S1x1x5632 ![] bcast_S_S1x1x5632 (constant (F := Ideal) S_ .f32 0x00000000#32)) : (⟨S1x1x5632, .f32⟩ : BufTy).Contents (Elt Ideal))⟩] concatenates_S1x1x5632_S1x8192x5632_S1x1x5632_S1x8194x5632_d1 : (⟨S1x8194x5632, .f32⟩ : BufTy).Contents (Elt Ideal))

/-- The convolution. -/
def Z (x : FVec Ideal S8192x1024 .f32) (g : FVec Ideal S1024 .f32) (w : FVec Ideal S1024x5632 .bf16) (v : FVec Ideal S3x5632 .f32) (b : FVec Ideal S5632 .f32) : FVec Ideal S8192x5632 .f32 :=
  shapeCast _ (addf (addf (addf (broadcastInDim S1x8192x5632 ![0, 1, 2] bcast_S1x1x5632_S1x8192x5632_0_1_2 (broadcastInDim S1x1x5632 ![2] bcast_S5632_S1x1x5632_2 b)) (mulf (extractStridedSlice S1x8192x5632 ![0, 0, 0] (ZP x g w) slices_S1x8194x5632_S1x8192x5632_0_0_0) (broadcastInDim S1x8192x5632 ![0, 1, 2] bcast_S1x1x5632_S1x8192x5632_0_1_2 (broadcastInDim S1x1x5632 ![2] bcast_S5632_S1x1x5632_2 (shapeCast _ (extractStridedSlice S1x5632 ![0, 0] v slices_S3x5632_S1x5632_0_0) shapeCasts_S1x5632_S5632))))) (mulf (extractStridedSlice S1x8192x5632 ![0, 1, 0] (ZP x g w) slices_S1x8194x5632_S1x8192x5632_0_1_0) (broadcastInDim S1x8192x5632 ![0, 1, 2] bcast_S1x1x5632_S1x8192x5632_0_1_2 (broadcastInDim S1x1x5632 ![2] bcast_S5632_S1x1x5632_2 (shapeCast _ (extractStridedSlice S1x5632 ![1, 0] v slices_S3x5632_S1x5632_1_0) shapeCasts_S1x5632_S5632))))) (mulf (extractStridedSlice S1x8192x5632 ![0, 2, 0] (ZP x g w) slices_S1x8194x5632_S1x8192x5632_0_2_0) (broadcastInDim S1x8192x5632 ![0, 1, 2] bcast_S1x1x5632_S1x8192x5632_0_1_2 (broadcastInDim S1x1x5632 ![2] bcast_S5632_S1x1x5632_2 (shapeCast _ (extractStridedSlice S1x5632 ![2, 0] v slices_S3x5632_S1x5632_2_0) shapeCasts_S1x5632_S5632))))) shapeCasts_S1x8192x5632_S8192x5632

/-- The reference's result 0 of its arguments. -/
def RES0 (x : FVec Ideal S8192x1024 .f32) (g : FVec Ideal S1024 .f32) (w : FVec Ideal S1024x5632 .bf16) : FVec Ideal S8192x5632 .bf16 :=
  truncf .bf16 (ZU x g w) bitsLt_bf16_f32

/-- The reference's result 1 of its arguments. -/
def RES1 (x : FVec Ideal S8192x1024 .f32) (g : FVec Ideal S1024 .f32) : FVec Ideal S8192x1024 .bf16 :=
  truncf .bf16 (NRM x g) bitsLt_bf16_f32

/-- The reference's result 2 of its arguments. -/
def RES2 (x : FVec Ideal S8192x1024 .f32) (g : FVec Ideal S1024 .f32) (w : FVec Ideal S1024x5632 .bf16) (v : FVec Ideal S3x5632 .f32) (b : FVec Ideal S5632 .f32) : FVec Ideal S8192x5632 .bf16 :=
  truncf .bf16 (Z x g w v b) bitsLt_bf16_f32

/-- The reference's result 3 of its arguments. -/
def RES3 (x : FVec Ideal S8192x1024 .f32) (g : FVec Ideal S1024 .f32) (w : FVec Ideal S1024x5632 .bf16) (v : FVec Ideal S3x5632 .f32) (b : FVec Ideal S5632 .f32) : FVec Ideal S8192x2816 .bf16 :=
  truncf .bf16 (mulf (mulf (extractStridedSlice S8192x2816 ![0, 0] (Z x g w v b) slices_S8192x5632_S8192x2816_0_0) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (extractStridedSlice S8192x2816 ![0, 0] (Z x g w v b) slices_S8192x5632_S8192x2816_0_0)))))) (extractStridedSlice S8192x2816 ![0, 2816] (Z x g w v b) slices_S8192x5632_S8192x2816_0_2816)) bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = RES0 (m ((c.tc : Thread nD τ).loc main_arg0)) (m ((c.tc : Thread nD τ).loc main_arg1)) (m ((c.tc : Thread nD τ).loc main_arg2))
      ∧ r.2.mem ((c.tc : Thread nD τ).loc main_v43) = RES1 (m ((c.tc : Thread nD τ).loc main_arg0)) (m ((c.tc : Thread nD τ).loc main_arg1))
      ∧ r.2.mem ((c.tc : Thread nD τ).loc main_v44) = RES2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v49) = RES3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.UpFwdRefIdeal.Value
namespace Cert.UpFwdIdeal.Value
open Cert.UpFwdIdeal Cert.UpFwdIdeal.Gen
open Cert.UpGradIdeal.Value (meanSq)
open Cert.UpFwdRefIdeal.Value (RES0 RES1 RES2 RES3 NRM MSQ ZU ZP Z)
variable (m : (ℓ : Loc nD τ sig) → Buf (Elt Ideal) ℓ) (c : Dev nD)

/-! ## Each result is the reference's -/

theorem nrm_at (r : Fin 8192) (j : Fin 1024) : resH m c r j = NRM (aX m c) (aG m c) (ix2 r j) := by
  unfold resH
  rw [show (fun i => (hG m c (ix2 0 i) : EReal)) = fun i => aG m c (ix1 i) from funext fun i => scale_at m c i]
  pointwise [NRM, MSQ]
  rfl

theorem zu_at (r : Fin 8192) (l : Fin 5632) : resU m c r l = ZU (aX m c) (aG m c) (aW m c) (ix2 r l) := by
  unfold resU
  refine (Finset.sum_congr (M := EReal) rfl fun j _ => congrArg (fun a : EReal => a * aW m c (ix2 j l)) (nrm_at m c r j)).trans ?_
  pointwise [ZU]

theorem zp_at (x : FVec Ideal S8192x1024 .f32) (g : FVec Ideal S1024 .f32) (w : FVec Ideal S1024x5632 .bf16) (r : Fin 8194) (l : Fin 5632) :
    (show EReal from ZP x g w (ix3 0 r l)) = if h : r.val < 1 then 0 else if h : r.val - 1 < 8192 then ZU x g w (ix2 ⟨r.val - 1, h⟩ l) else 0 := by
  pointwise [ZP]

theorem before_at (r : Fin 8192) (l : Fin 5632) : (show EReal from ZP (aX m c) (aG m c) (aW m c) (ix3 0 ⟨r.val, by omega⟩ l)) = before m c r l := by
  refine (zp_at _ _ _ _ l).trans ?_
  unfold before
  by_cases h : r.val = 0
  · rw [if_pos h, dif_pos (show r.val < 1 by omega)]
  · rw [if_neg h, dif_neg (show ¬ r.val < 1 by omega), dif_pos (show r.val - 1 < 8192 by omega)]
    exact (zu_at m c _ l).symm
theorem middle_at (r : Fin 8192) (l : Fin 5632) : (show EReal from ZP (aX m c) (aG m c) (aW m c) (ix3 0 ⟨1 + r.val, by omega⟩ l)) = resU m c r l := by
  refine (zp_at _ _ _ _ l).trans ?_
  rw [dif_neg (show ¬ 1 + r.val < 1 by omega), dif_pos (show 1 + r.val - 1 < 8192 by omega)]
  refine Eq.trans ?_ (zu_at m c r l).symm
  exact congrArg (fun i => ZU (aX m c) (aG m c) (aW m c) (ix2 i l)) (Fin.ext (show 1 + r.val - 1 = r.val by omega))
theorem after_at (r : Fin 8192) (l : Fin 5632) : (show EReal from ZP (aX m c) (aG m c) (aW m c) (ix3 0 ⟨2 + r.val, by omega⟩ l)) = after m c r l := by
  refine (zp_at _ _ _ _ l).trans ?_
  unfold after
  rw [dif_neg (show ¬ 2 + r.val < 1 by omega)]
  by_cases h : r.val + 1 < 8192
  · rw [dif_pos h, dif_pos (show 2 + r.val - 1 < 8192 by omega)]
    refine Eq.trans ?_ (zu_at m c ⟨r.val + 1, h⟩ l).symm
    exact congrArg (fun i => ZU (aX m c) (aG m c) (aW m c) (ix2 i l)) (Fin.ext (show 2 + r.val - 1 = r.val + 1 by omega))
  · rw [dif_neg h, dif_neg (show ¬ 2 + r.val - 1 < 8192 by omega)]

theorem z_at (r : Fin 8192) (l : Fin 5632) : resZ m c r l = Z (aX m c) (aG m c) (aW m c) (aC m c) (aB m c) (ix2 r l) := by
  unfold resZ
  have f : ∀ a a' b b' u u' d d' : EReal, a = a' → b = b' → u = u' → d = d' →
      a + b * aC m c (ix2 0 l) + u * aC m c (ix2 1 l) + d * aC m c (ix2 2 l) = a' + b' * aC m c (ix2 0 l) + u' * aC m c (ix2 1 l) + d' * aC m c (ix2 2 l) := by
    rintro a _ b _ u _ d _ rfl rfl rfl rfl
    rfl
  refine (f _ _ _ _ _ _ _ _ (bias_at m c l) (before_at m c r l).symm (middle_at m c r l).symm (after_at m c r l).symm).trans ?_
  pointwise [Z]

theorem equal0 : (dats m 0 c).arrAt 5 (cfgs 0).N = RES0 (aX m c) (aG m c) (aW m c) := by
  funext y
  refine (final5 m c y).trans ?_
  idx_vars y
  refine (zu_at m c y0 y1).trans ?_
  pointwise [RES0]
theorem equal1 : (dats m 0 c).arrAt 6 (cfgs 0).N = RES1 (aX m c) (aG m c) := by
  funext y
  refine (final6 m c y).trans ?_
  idx_vars y
  refine (nrm_at m c y0 y1).trans ?_
  pointwise [RES1]
theorem equal2 : (dats m 0 c).arrAt 7 (cfgs 0).N = RES2 (aX m c) (aG m c) (aW m c) (aC m c) (aB m c) := by
  funext y
  refine (final7 m c y).trans ?_
  idx_vars y
  refine (z_at m c y0 y1).trans ?_
  pointwise [RES2]
theorem equal3 : (dats m 0 c).arrAt 8 (cfgs 0).N = RES3 (aX m c) (aG m c) (aW m c) (aC m c) (aB m c) := by
  funext y
  refine (final8 m c y).trans ?_
  idx_vars y
  unfold resA
  simp only [z_at]
  pointwise [RES3]
  exact congrArg (fun e : EReal => Z (aX m c) (aG m c) (aW m c) (aC m c) (aB m c) (ix2 y0 ⟨y1.val, by omega⟩) * Ideal.div 1 (1 + Ideal.exp e)
    * Z (aX m c) (aG m c) (aW m c) (aC m c) (aB m c) (ix2 y0 ⟨2816 + y1.val, by omega⟩)) (zero_sub _)

end Cert.UpFwdIdeal.Value
end
-- ==== Proof.Forward.GateBlock.lean ====
module
public import Idealize.ShloMosaic.Lib.Pipeline.ReadBack
public import Idealize.ShloMosaic.Lib.Pipeline.ValueKit
public import Idealize.ShloMosaic.Lib.Pointwise
public import proofs.«01_k».proof.Proof.Gating.Chunk
public import proofs.«01_k».proof.Proof.Gen.GateFwdIdeal.Value

@[expose] public section
set_option maxRecDepth 16384
noncomputable section
open Idealize.ShloMosaic Idealize.ShloMosaic.TcCoe Idealize.SL.Sem
open Idealize.ShloMosaic.Pipeline (Dat)
namespace Cert.GateFwdIdeal.Value
open Cert.GateFwdIdeal Cert.GateFwdIdeal.Gen
open Cert.KernelIdeal.Value (gel mixed headW headB headG)
variable {F : FTy → Type} [FloatOps F]
variable (m : (ℓ : Loc nD τ sig) → Buf (Elt F) ℓ)

/-! ## What one grid point leaves in the output block

A grid point gates eight chunks of 128 rows, four heads each, by the same arithmetic the backward pass repeats
(`Gating/Chunk.lean`): 32 stores of one chunk and head. -/

theorem inbU : ∀ (c : Fin 8) (h : Fin 4), ∀ a : Fin 2, (![128 * c.val, 128 * h.val] : Fin 2 → Nat) a + S128x128.size a ≤ S1024x1024.size a := by
  decide

theorem inbV : ∀ (c : Fin 8) (h : Fin 4), ∀ a : Fin 2, (![128 * c.val, 512 + 128 * h.val] : Fin 2 → Nat) a + S128x128.size a ≤ S1024x1024.size a := by
  decide

theorem inbO : ∀ (c : Fin 8) (h : Fin 4), ∀ a : Fin 2, (![128 * c.val, 128 * h.val] : Fin 2 → Nat) a + S128x128.size a ≤ S1024x512.size a := by
  decide

/-- Chunk `c`, head `h` of the gate's half of a block. -/
def cutU (x : FVec F S1024x1024 .f32) (c : Fin 8) (h : Fin 4) : FVec F S128x128 .f32 :=
  View.ld (Val := Elt F) (e' := .f32) x (Rect.unit (s := S1024x1024) ![128 * c.val, 128 * h.val] S128x128.size (inbU c h))

/-- Chunk `c`, head `h` of the gated half of a block. -/
def cutV (x : FVec F S1024x1024 .f32) (c : Fin 8) (h : Fin 4) : FVec F S128x128 .f32 :=
  View.ld (Val := Elt F) (e' := .f32) x (Rect.unit (s := S1024x1024) ![128 * c.val, 512 + 128 * h.val] S128x128.size (inbV c h))

/-- One chunk and head of the result, of its two halves and the head's weights. -/
def gated (w : FVec F S128x128 .f32) (b : FVec F S128x1 .f32) (g e : FVec F S1x128 .f32) (u v : FVec F S128x128 .f32) : FVec F S128x128 .f32 :=
  mulf (gel u) (mixed w b g e v)

/-- Chunk `c`, head `h` of the result of a block. -/
def newO (x0 : FVec F S1024x1024 .f32) (x1 : FVec F S4x128x128 .f32) (x2 : FVec F S4x128x1 .f32) (x3 x4 : FVec F S4x1x128 .f32)
    (c : Fin 8) (h : Fin 4) : FVec F S128x128 .bf16 :=
  truncf .bf16 (gated (headW x1 h) (headB x2 h) (headG x3 h) (headG x4 h) (cutU x0 c h) (cutV x0 c h)) bitsLt_bf16_f32

/-- The store of chunk `c`, head `h`. -/
def pieceO (w : Fin 8 → Fin 4 → FVec F S128x128 .bf16) (c : Fin 8) (h : Fin 4) : View.Piece (Elt F) S1024x512 .bf16 :=
  ⟨Rect.unit (s := S1024x512) ![128 * c.val, 128 * h.val] S128x128.size (inbO c h), w c h⟩

/-- The 32 stores, the last first. -/
def listO (w : Fin 8 → Fin 4 → FVec F S128x128 .bf16) : List (View.Piece (Elt F) S1024x512 .bf16) :=
  [pieceO w 7 3, pieceO w 7 2, pieceO w 7 1, pieceO w 7 0, pieceO w 6 3, pieceO w 6 2, pieceO w 6 1, pieceO w 6 0,
   pieceO w 5 3, pieceO w 5 2, pieceO w 5 1, pieceO w 5 0, pieceO w 4 3, pieceO w 4 2, pieceO w 4 1, pieceO w 4 0,
   pieceO w 3 3, pieceO w 3 2, pieceO w 3 1, pieceO w 3 0, pieceO w 2 3, pieceO w 2 2, pieceO w 2 1, pieceO w 2 0,
   pieceO w 1 3, pieceO w 1 2, pieceO w 1 1, pieceO w 1 0, pieceO w 0 3, pieceO w 0 2, pieceO w 0 1, pieceO w 0 0]

theorem blockO (c : Dev nD) (t : Fin cfg0.N) : outsAt0 m c t
    = View.canon (listO (newO (X0_0 m c t) (iblk m c 1 t) (iblk m c 2 t) (iblk m c 3 t) (iblk m c 4 t))) := by
  unfold outsAt0
  frame_out
  rfl

/-! ## The stores read at an index -/

/-- The row of a block that row `i` of chunk `k` is. -/
def rowAt (k : Fin 8) (i : Fin 128) : Fin 1024 := ⟨128 * k.val + i.val, by omega⟩
/-- The lane that lane `j` of head `h` is. -/
def laneAt (h : Fin 4) (j : Fin 128) : Fin 512 := ⟨128 * h.val + j.val, by omega⟩

theorem pieceO_emb (w : Fin 8 → Fin 4 → FVec F S128x128 .bf16) (k : Fin 8) (h : Fin 4) (i j : Fin 128) :
    (pieceO w k h).1.emb (ix2 i j) = ix2 (rowAt k i) (laneAt h j) := by
  funext a; apply Fin.ext
  match a with
  | ⟨0, _⟩ => show 128 * k.val + 1 * i.val = 128 * k.val + i.val; omega
  | ⟨1, _⟩ => show 128 * h.val + 1 * j.val = 128 * h.val + j.val; omega

/-- The whole block of the result, from its chunks. -/
def wholeO (u : Fin 8 → Fin 4 → FVec F S128x128 .bf16) (r : Fin 1024) (l : Fin 512) : F .bf16 :=
  u ⟨r.val / 128, by omega⟩ ⟨l.val / 128, by omega⟩ (ix2 ⟨r.val % 128, by omega⟩ ⟨l.val % 128, by omega⟩)

theorem wholeO_at (u : Fin 8 → Fin 4 → FVec F S128x128 .bf16) (k : Fin 8) (h : Fin 4) (i j : Fin 128) :
    wholeO u (rowAt k i) (laneAt h j) = u k h (ix2 i j) := by
  have e1 : ∀ p, (⟨(rowAt k i).val / 128, p⟩ : Fin 8) = k := fun p => Fin.ext (show (128 * k.val + i.val) / 128 = k.val by omega)
  have e2 : ∀ p, (⟨(rowAt k i).val % 128, p⟩ : Fin 128) = i := fun p => Fin.ext (show (128 * k.val + i.val) % 128 = i.val by omega)
  have e3 : ∀ p, (⟨(laneAt h j).val / 128, p⟩ : Fin 4) = h := fun p => Fin.ext (show (128 * h.val + j.val) / 128 = h.val by omega)
  have e4 : ∀ p, (⟨(laneAt h j).val % 128, p⟩ : Fin 128) = j := fun p => Fin.ext (show (128 * h.val + j.val) % 128 = j.val by omega)
  unfold wholeO
  rw [e1, e2, e3, e4]

theorem pieceO_at (u : Fin 8 → Fin 4 → FVec F S128x128 .bf16) (k : Fin 8) (h : Fin 4) (x : (pieceO u k h).1.shape.Idx) :
    (pieceO u k h).2 x = (fun y : S1024x512.Idx => wholeO u (y 0) (y 1)) ((pieceO u k h).1.emb x) := by
  idx_vars x
  rw [pieceO_emb]
  exact (wholeO_at u k h x0 x1).symm

theorem listO_of (u : Fin 8 → Fin 4 → FVec F S128x128 .bf16) :
    View.PiecesOf (fun y : S1024x512.Idx => wholeO u (y 0) (y 1)) (listO u) := by
  unfold listO
  simp only [View.PiecesOf, and_true]
  refine ⟨pieceO_at u _ _, pieceO_at u _ _, pieceO_at u _ _, pieceO_at u _ _, pieceO_at u _ _, pieceO_at u _ _, pieceO_at u _ _, pieceO_at u _ _,
    pieceO_at u _ _, pieceO_at u _ _, pieceO_at u _ _, pieceO_at u _ _, pieceO_at u _ _, pieceO_at u _ _, pieceO_at u _ _, pieceO_at u _ _,
    pieceO_at u _ _, pieceO_at u _ _, pieceO_at u _ _, pieceO_at u _ _, pieceO_at u _ _, pieceO_at u _ _, pieceO_at u _ _, pieceO_at u _ _,
    pieceO_at u _ _, pieceO_at u _ _, pieceO_at u _ _, pieceO_at u _ _, pieceO_at u _ _, pieceO_at u _ _, pieceO_at u _ _, pieceO_at u _ _⟩

theorem pieceO_mem (u : Fin 8 → Fin 4 → FVec F S128x128 .bf16) : ∀ k h, pieceO u k h ∈ listO u := by
  intro k h
  fin_cases k <;> fin_cases h <;> simp [listO]

theorem canonO (u : Fin 8 → Fin 4 → FVec F S128x128 .bf16) (k : Fin 8) (h : Fin 4) (i j : Fin 128) :
    View.canon (listO u) (ix2 (rowAt k i) (laneAt h j)) = u k h (ix2 i j) := by
  rw [View.canon_apply_of_pieces (fun y : S1024x512.Idx => wholeO u (y 0) (y 1)) (listO u) (listO_of u).mem
    (ix2 (rowAt k i) (laneAt h j)) ⟨pieceO u k h, pieceO_mem u k h, ?_⟩]
  · exact wholeO_at u k h i j
  · rw [← pieceO_emb u k h i j, ← Rect.map_emb_univ]
    exact Finset.mem_map_of_mem _ (Finset.mem_univ _)

end Cert.GateFwdIdeal.Value
end
-- ==== Proof.Forward.Gate.lean ====
module
public import Idealize.ShloMosaic.Lib.Pipeline.ReadBack
public import Idealize.ShloMosaic.Lib.Pipeline.ValueKit
public import Idealize.ShloMosaic.Lib.Pointwise
public import proofs.«01_k».proof.Proof.Forward.GateBlock
public import proofs.«01_k».proof.Proof.Gating.Reference
public import proofs.«01_k».proof.Proof.Gating.Whole
public import proofs.«01_k».proof.Proof.Gen.GateFwdRefIdeal.Run

@[expose] public section
set_option maxRecDepth 16384
noncomputable section
open Idealize.ShloMosaic Idealize.ShloMosaic.TcCoe Idealize.SL.Sem
open Idealize.ShloMosaic.Pipeline (Dat)
namespace Cert.GateFwdRefIdeal.Value
open Cert.GateFwdRefIdeal Cert.GateFwdRefIdeal.Gen Idealize.ShloMosaic.StableHlo

/-! ## The reference's results, part by part -/

/-- The gate's half through the Gaussian error linear unit. -/
def GU (p : FVec Ideal S8192x2688 .f32) : FVec Ideal S1x8192x4x128 .f32 :=
  shapeCast _ (mulf (mulf (broadcastInDim S1x8192x512 ![] bcast_S_S1x8192x512 (constant (F := Ideal) S_ .f32 0x3F000000#32)) (broadcastInDim S1x8192x512 ![1, 2] bcast_S8192x512_S1x8192x512_1_2 (extractStridedSlice S8192x512 ![0, 0] (extractStridedSlice S8192x1024 ![0, 0] p slices_S8192x2688_S8192x1024_0_0) slices_S8192x1024_S8192x512_0_0))) (Host.erfc (mulf (Host.negf (broadcastInDim S1x8192x512 ![1, 2] bcast_S8192x512_S1x8192x512_1_2 (extractStridedSlice S8192x512 ![0, 0] (extractStridedSlice S8192x1024 ![0, 0] p slices_S8192x2688_S8192x1024_0_0) slices_S8192x1024_S8192x512_0_0))) (broadcastInDim S1x8192x512 ![] bcast_S_S1x8192x512 (constant (F := Ideal) S_ .f32 0x3F3504F3#32))))) shapeCasts_S1x8192x512_S1x8192x4x128

/-- The gated half through the Gaussian error linear unit. -/
def GV (p : FVec Ideal S8192x2688 .f32) : FVec Ideal S1x8192x4x128 .f32 :=
  shapeCast _ (mulf (mulf (broadcastInDim S1x8192x512 ![] bcast_S_S1x8192x512 (constant (F := Ideal) S_ .f32 0x3F000000#32)) (broadcastInDim S1x8192x512 ![1, 2] bcast_S8192x512_S1x8192x512_1_2 (extractStridedSlice S8192x512 ![0, 512] (extractStridedSlice S8192x1024 ![0, 0] p slices_S8192x2688_S8192x1024_0_0) slices_S8192x1024_S8192x512_0_512))) (Host.erfc (mulf (Host.negf (broadcastInDim S1x8192x512 ![1, 2] bcast_S8192x512_S1x8192x512_1_2 (extractStridedSlice S8192x512 ![0, 512] (extractStridedSlice S8192x1024 ![0, 0] p slices_S8192x2688_S8192x1024_0_0) slices_S8192x1024_S8192x512_0_512))) (broadcastInDim S1x8192x512 ![] bcast_S_S1x8192x512 (constant (F := Ideal) S_ .f32 0x3F3504F3#32))))) shapeCasts_S1x8192x512_S1x8192x4x128

/-- The mean of each head's lanes. -/
def MEAN (p : FVec Ideal S8192x2688 .f32) : FVec Ideal S1x8192x4x1 .f32 :=
  Host.divf (broadcastInDim S1x8192x4x1 ![0, 1, 2] bcast_S1x8192x4_S1x8192x4x1_0_1_2 (Host.reduceAdd (GV p) (constant (F := Ideal) S_ .f32 0x00000000#32) reducesTo_S1x8192x4x128_S1x8192x4_d3 h_S_)) (broadcastInDim S1x8192x4x1 ![] bcast_S_S1x8192x4x1 (constant (F := Ideal) S_ .f32 0x43000000#32))

/-- What each lane differs from the mean. -/
def DEV (p : FVec Ideal S8192x2688 .f32) : FVec Ideal S1x8192x4x128 .f32 :=
  subf (GV p) (broadcastInDim S1x8192x4x128 ![0, 1, 2, 3] bcast_S1x8192x4x1_S1x8192x4x128_0_1_2_3 (MEAN p))

/-- The variance and the small constant. -/
def VAREPS (p : FVec Ideal S8192x2688 .f32) : FVec Ideal S1x8192x4x1 .f32 :=
  addf (Host.divf (broadcastInDim S1x8192x4x1 ![0, 1, 2] bcast_S1x8192x4_S1x8192x4x1_0_1_2 (Host.reduceAdd (mulf (DEV p) (DEV p)) (constant (F := Ideal) S_ .f32 0x00000000#32) reducesTo_S1x8192x4x128_S1x8192x4_d3 h_S_)) (broadcastInDim S1x8192x4x1 ![] bcast_S_S1x8192x4x1 (constant (F := Ideal) S_ .f32 0x43000000#32))) (broadcastInDim S1x8192x4x1 ![] bcast_S_S1x8192x4x1 (constant (F := Ideal) S_ .f32 0x358637BD#32))

/-- The normalised rows, chunk by chunk. -/
def NORM (p : FVec Ideal S8192x2688 .f32) (g : FVec Ideal S4x128 .f32) (e : FVec Ideal S4x128 .f32) : FVec Ideal S1x64x128x4x128 .f32 :=
  shapeCast _ (addf (mulf (mulf (DEV p) (broadcastInDim S1x8192x4x128 ![0, 1, 2, 3] bcast_S1x8192x4x1_S1x8192x4x128_0_1_2_3 (Host.rsqrt (VAREPS p)))) (broadcastInDim S1x8192x4x128 ![0, 1, 2, 3] bcast_S1x1x4x128_S1x8192x4x128_0_1_2_3 (broadcastInDim S1x1x4x128 ![2, 3] bcast_S4x128_S1x1x4x128_2_3 g))) (broadcastInDim S1x8192x4x128 ![0, 1, 2, 3] bcast_S1x1x4x128_S1x8192x4x128_0_1_2_3 (broadcastInDim S1x1x4x128 ![2, 3] bcast_S4x128_S1x1x4x128_2_3 e))) shapeCasts_S1x8192x4x128_S1x64x128x4x128

/-- The mixed rows. -/
def MIXED (p : FVec Ideal S8192x2688 .f32) (w : FVec Ideal S4x128x128 .f32) (b : FVec Ideal S4x128 .f32) (g : FVec Ideal S4x128 .f32) (e : FVec Ideal S4x128 .f32) : FVec Ideal S1x8192x4x128 .f32 :=
  shapeCast _ (addf (transpose S1x64x128x4x128 [1, 2, 4, 0, 3] (Host.dotGeneral (φ₁ := .f32) (φ₂ := .f32) dot_S1x64x128x4x128_S4x128x128_S4x1x64x128x128_2_2_014_1_3_0 none (NORM p g e) w) transposes_S4x1x64x128x128_S1x64x128x4x128_1_2_4_0_3) (broadcastInDim S1x64x128x4x128 ![0, 1, 2, 3, 4] bcast_S1x1x128x4x1_S1x64x128x4x128_0_1_2_3_4 (broadcastInDim S1x1x128x4x1 ![2, 3] bcast_S128x4_S1x1x128x4x1_2_3 (transpose S128x4 [1, 0] b transposes_S4x128_S128x4_1_0)))) shapeCasts_S1x64x128x4x128_S1x8192x4x128

/-- The reference's result 0 of its arguments. -/
def RES (p : FVec Ideal S8192x2688 .f32) (w : FVec Ideal S4x128x128 .f32) (b : FVec Ideal S4x128 .f32) (g : FVec Ideal S4x128 .f32) (e : FVec Ideal S4x128 .f32) : FVec Ideal S8192x512 .bf16 :=
  truncf .bf16 (shapeCast _ (mulf (GU p) (MIXED p w b g e)) shapeCasts_S1x8192x4x128_S8192x512) bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

section
open Cert.KernelIdeal.Value (chunkU chunkV matW colB rowG gel half bell onePlus erfArg mean dev varEps
  xhat lnOut mixed full fullCol spreadCol spreadRow rowSum prodNN)
open Cert.ReferenceIdeal.Value (row_lt lane_lt row_div row_mod lane_div lane_mod)

/-! ## The parts, chunk by chunk -/

variable (p : FVec Ideal S8192x2688 .f32) (w : FVec Ideal S4x128x128 .f32) (b g e : FVec Ideal S4x128 .f32)
  (n : Fin 64) (h : Fin 4) (r l : Fin 128)

theorem gu_at : GU p (ix4 0 ⟨n.val * 128 + r.val, row_lt n r⟩ h l) = gel (chunkU p n h) (ix2 r l) := by
  pointwise [GU, gel, half, onePlus, erfArg, full, chunkU]
  simp only [neg_mul, Ideal.erfc_neg, Ideal.erf_def]

theorem gv_at : GV p (ix4 0 ⟨n.val * 128 + r.val, row_lt n r⟩ h l) = gel (chunkV p n h) (ix2 r l) := by
  pointwise [GV, gel, half, onePlus, erfArg, full, chunkV]
  simp only [neg_mul, Ideal.erfc_neg, Ideal.erf_def]

theorem mean_at : MEAN p (ix4 0 ⟨n.val * 128 + r.val, row_lt n r⟩ h 0) = mean (gel (chunkV p n h)) (ix2 r 0) := by
  pointwise [MEAN, gv_at, mean, rowSum, fullCol]

theorem dev_at : DEV p (ix4 0 ⟨n.val * 128 + r.val, row_lt n r⟩ h l) = dev (gel (chunkV p n h)) (ix2 r l) := by
  pointwise [DEV, gv_at, mean_at, dev, spreadCol]

theorem varEps_at : VAREPS p (ix4 0 ⟨n.val * 128 + r.val, row_lt n r⟩ h 0) = varEps (gel (chunkV p n h)) (ix2 r 0) := by
  pointwise [VAREPS, dev_at, varEps, mean, rowSum, fullCol]

theorem norm_at : NORM p g e (ix5 0 n r h l) = lnOut (gel (chunkV p n h)) (rowG g h) (rowG e h) (ix2 r l) := by
  pointwise [NORM, dev_at, varEps_at, lnOut, xhat, spreadCol, spreadRow, rowG]

theorem mixed_at : MIXED p w b g e (ix4 0 ⟨n.val * 128 + r.val, row_lt n r⟩ h l)
    = mixed (matW w h) (colB b h) (rowG g h) (rowG e h) (chunkV p n h) (ix2 r l) := by
  pointwise [MIXED, row_div, row_mod, norm_at, mixed, prodNN, spreadCol, matW, colB]
  exact congrArg₂ (· + ·) (Finset.sum_congr rfl fun _ _ => mul_comm _ _) rfl

theorem res_at : RES p w b g e (ix2 ⟨n.val * 128 + r.val, row_lt n r⟩ ⟨h.val * 128 + l.val, lane_lt h l⟩)
    = mulf (gel (chunkU p n h)) (mixed (matW w h) (colB b h) (rowG g h) (rowG e h) (chunkV p n h)) (ix2 r l) := by
  pointwise [RES, lane_div, lane_mod, gu_at, mixed_at]

end
end Cert.GateFwdRefIdeal.Value

namespace Cert.GateFwdIdeal.Value
open Cert.GateFwdIdeal Cert.GateFwdIdeal.Gen
open Cert.KernelIdeal.Value (gel mixed headW headB headG headW_apply headB_apply headG_apply chunkU chunkV matW colB rowG)
open Cert.GateFwdRefIdeal.Value (RES res_at)
variable (m : (ℓ : Loc nD τ sig) → Buf (Elt Ideal) ℓ) (c : Dev nD) (t : Fin cfg0.N)

/-! ## The blocks a grid point reads, as chunks of the arrays -/

/-- The chunk that chunk `k` of grid point `t`'s block is in the whole array. -/
def chunkOf (t : Fin cfg0.N) (k : Fin 8) : Fin 64 := ⟨t.val * 8 + k.val, by have : t.val < 8 := lt_of_lt_of_eq t.isLt N_0; omega⟩

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

theorem cutU_at (k : Fin 8) (h : Fin 4) : cutU (X0_0 m c t) k h = chunkU (m ((c : Thread nD τ).loc main_arg0)) (chunkOf t k) h := by
  funext j
  idx_vars j
  pointwise [cutU, chunkU]
  unfold X0_0 Pipeline.Window.fill
  rw [dif_pos (moved0_0 t _)]
  blk_ext [iblk, V, idx t, chunkOf]

theorem cutV_at (k : Fin 8) (h : Fin 4) : cutV (X0_0 m c t) k h = chunkV (m ((c : Thread nD τ).loc main_arg0)) (chunkOf t k) h := by
  funext j
  idx_vars j
  pointwise [cutV, chunkV]
  unfold X0_0 Pipeline.Window.fill
  rw [dif_pos (moved0_0 t _)]
  blk_ext [iblk, V, idx t, chunkOf]

theorem headW_at (h : Fin 4) : headW (iblk m c 1 t) h = matW (m ((c : Thread nD τ).loc main_arg1)) h := by
  funext j
  idx_vars j
  refine (headW_apply (iblk m c 1 t) h j0 j1).trans ?_
  show _ = m ((c : Thread nD τ).loc main_arg1) (ix3 h j0 j1)
  blk_ext [iblk, V, idx t]

theorem headB_at (h : Fin 4) : headB (iblk m c 2 t) h = colB (m ((c : Thread nD τ).loc main_arg2)) h := by
  funext j
  idx_vars j
  obtain rfl : j1 = 0 := Subsingleton.elim _ _
  refine (headB_apply (iblk m c 2 t) h j0).trans ?_
  have e : iblk m c 2 t (ix3 h j0 0) = V m c main_v0 (ix3 h j0 0) := by blk_ext [iblk, idx t]
  rw [e]
  entry_read
  pointwise [colB]

theorem headG_at (h : Fin 4) : headG (iblk m c 3 t) h = rowG (m ((c : Thread nD τ).loc main_arg3)) h := by
  funext j
  idx_vars j
  obtain rfl : j0 = 0 := Subsingleton.elim _ _
  refine (headG_apply (iblk m c 3 t) h j1).trans ?_
  have e : iblk m c 3 t (ix3 h 0 j1) = V m c main_v1 (ix3 h 0 j1) := by blk_ext [iblk, idx t]
  rw [e]
  entry_read
  pointwise [rowG]

theorem headE_at (h : Fin 4) : headG (iblk m c 4 t) h = rowG (m ((c : Thread nD τ).loc main_arg4)) h := by
  funext j
  idx_vars j
  obtain rfl : j0 = 0 := Subsingleton.elim _ _
  refine (headG_apply (iblk m c 4 t) h j1).trans ?_
  have e : iblk m c 4 t (ix3 h 0 j1) = V m c main_v2 (ix3 h 0 j1) := by blk_ext [iblk, idx t]
  rw [e]
  entry_read
  pointwise [rowG]

/-! ## The result is the reference's -/

/-- The projection. -/
abbrev aP := m ((c : Thread nD τ).loc main_arg0)
/-- The mixing weight. -/
abbrev aW := m ((c : Thread nD τ).loc main_arg1)
/-- The mixing bias. -/
abbrev aB := m ((c : Thread nD τ).loc main_arg2)
/-- The scale. -/
abbrev aG := m ((c : Thread nD τ).loc main_arg3)
/-- The shift. -/
abbrev aE := m ((c : Thread nD τ).loc main_arg4)

theorem newO_at (k : Fin 8) (h : Fin 4) (i j : Fin 128) :
    newO (X0_0 m c t) (iblk m c 1 t) (iblk m c 2 t) (iblk m c 3 t) (iblk m c 4 t) k h (ix2 i j)
      = mulf (gel (chunkU (aP m c) (chunkOf t k) h)) (mixed (matW (aW m c) h) (colB (aB m c) h) (rowG (aG m c) h) (rowG (aE m c) h)
          (chunkV (aP m c) (chunkOf t k) h)) (ix2 i j) := by
  unfold newO
  rw [cutU_at, cutV_at, headW_at, headB_at, headG_at, headE_at]
  rfl

theorem row_cases (r : Fin 1024) : ∃ k i, r = rowAt k i :=
  ⟨⟨r.val / 128, by omega⟩, ⟨r.val % 128, by omega⟩, Fin.ext (show r.val = 128 * (r.val / 128) + r.val % 128 by omega)⟩

theorem lane_cases (l : Fin 512) : ∃ h j, l = laneAt h j :=
  ⟨⟨l.val / 128, by omega⟩, ⟨l.val % 128, by omega⟩, Fin.ext (show l.val = 128 * (l.val / 128) + l.val % 128 by omega)⟩

theorem equal : (dats m 0 c).arrAt 5 (cfgs 0).N = RES (aP m c) (aW m c) (aB m c) (aG m c) (aE m c) := by
  refine (dats m 0 c).arrAt_eq_of_covers 5 _ (by decide +kernel) fun t hf y => ?_
  blk_simp
  rw [after0_5, blockO]
  idx_vars y
  obtain ⟨k, i, rfl⟩ := row_cases y0
  obtain ⟨h, j, rfl⟩ := lane_cases y1
  refine (canonO _ k h i j).trans ((newO_at m c t k h i j).trans
    ((res_at (aP m c) (aW m c) (aB m c) (aG m c) (aE m c) (chunkOf t k) h i j).symm.trans ?_))
  blk_ext [idx t, chunkOf, rowAt, laneAt]

end Cert.GateFwdIdeal.Value
end
-- ==== Proof.Optimiser.Step.lean ====
module
public import Idealize.ShloMosaic.PureOps.Ideal
public import Idealize.ShloMosaic.PureOps.IdealRules

@[expose] public section
noncomputable section
open Idealize.ShloMosaic
namespace Cert.Optimiser

/-! ## One AdamW step of one number -/

/-- A literal. -/
abbrev lit (b : BitVec 32) : EReal := FloatOps.ofBits (F := Ideal) .f32 b

/-- The new first moment. -/
def moment (g m : EReal) : EReal := lit 0x3F666666#32 * m + lit 0x3DCCCCCD#32 * g
/-- The new second moment. -/
def square (g v : EReal) : EReal := lit 0x3F7FBE77#32 * v + lit 0x3A83126F#32 * (g * g)
/-- The change of the weight. -/
def change (w g m v : EReal) : EReal :=
  lit 0xBA83126F#32 * (Ideal.div (Ideal.div (moment g m) (lit 0x3F26BD02#32)) (Ideal.sqrt (Ideal.div (square g v) (lit 0x3C231ACC#32)) + lit 0x322BCC77#32)
    + lit 0x3C23D70A#32 * w)

/-- The number that the first moment is divided by. -/
theorem lit_m : lit 0x3F26BD02#32 = ((5463681 / 8388608 : ℝ) : EReal) := by
  show Ideal.ofBits .f32 _ = _
  simp [Ideal.ofBits, Ideal.ieee, -EReal.coe_mul]; norm_num
/-- The number that the second moment is divided by. -/
theorem lit_v : lit 0x3C231ACC#32 = ((2672307 / 268435456 : ℝ) : EReal) := by
  show Ideal.ofBits .f32 _ = _
  simp [Ideal.ofBits, Ideal.ieee, -EReal.coe_mul]; norm_num

/-- To multiply by the reciprocal is to divide. -/
theorem scale_m (x : EReal) : x * (((5463681 / 8388608 : ℝ)⁻¹ : ℝ) : EReal) = Ideal.div x (lit 0x3F26BD02#32) := by
  rw [lit_m, Ideal.div_coe (by norm_num), one_div]
/-- The same of the second moment. -/
theorem scale_v (x : EReal) : x * (((2672307 / 268435456 : ℝ)⁻¹ : ℝ) : EReal) = Ideal.div x (lit 0x3C231ACC#32) := by
  rw [lit_v, Ideal.div_coe (by norm_num), one_div]

end Cert.Optimiser
end
-- ==== Proof.Optimiser.In.lean ====
module
public import Idealize.ShloMosaic.Lib.Pipeline.ReadBack
public import Idealize.ShloMosaic.Lib.Pipeline.ValueKit
public import Idealize.ShloMosaic.Lib.Pointwise
public import proofs.«01_k».proof.Proof.Gen.AdamInIdeal.Value
public import proofs.«01_k».proof.Proof.Gen.AdamInRefIdeal.Run
public import proofs.«01_k».proof.Proof.Optimiser.Step

@[expose] public section
set_option maxRecDepth 16384
noncomputable section
open Idealize.ShloMosaic Idealize.ShloMosaic.TcCoe Idealize.SL.Sem
open Idealize.ShloMosaic.Pipeline (Dat)
namespace Cert.AdamInRefIdeal.Value
open Cert.AdamInRefIdeal Cert.AdamInRefIdeal.Gen Idealize.ShloMosaic.StableHlo

/-! ## The reference's results, part by part -/

/-- The reference's result 0 of its arguments. -/
def RES0 (ga : FVec Ideal S4x1024x648 .f32) (gb : FVec Ideal S4x1024x648 .f32) : FVec Ideal S4x1024x648 .f32 :=
  addf ga gb

/-- The reference's result 1 of its arguments. -/
def RES1 (w : FVec Ideal S4x1024x648 .f32) (ga : FVec Ideal S4x1024x648 .f32) (gb : FVec Ideal S4x1024x648 .f32) (mo : FVec Ideal S4x1024x648 .f32) (v : FVec Ideal S4x1024x648 .f32) : FVec Ideal S4x1024x648 .f32 :=
  mulf (broadcastInDim S4x1024x648 ![] bcast_S_S4x1024x648 (constant (F := Ideal) S_ .f32 0xBA83126F#32)) (addf (Host.divf (Host.divf (addf (mulf (broadcastInDim S4x1024x648 ![] bcast_S_S4x1024x648 (constant (F := Ideal) S_ .f32 0x3F666666#32)) mo) (mulf (broadcastInDim S4x1024x648 ![] bcast_S_S4x1024x648 (constant (F := Ideal) S_ .f32 0x3DCCCCCD#32)) (addf ga gb))) (broadcastInDim S4x1024x648 ![] bcast_S_S4x1024x648 (constant (F := Ideal) S_ .f32 0x3F26BD02#32))) (addf (Host.sqrt (Host.divf (addf (mulf (broadcastInDim S4x1024x648 ![] bcast_S_S4x1024x648 (constant (F := Ideal) S_ .f32 0x3F7FBE77#32)) v) (mulf (broadcastInDim S4x1024x648 ![] bcast_S_S4x1024x648 (constant (F := Ideal) S_ .f32 0x3A83126F#32)) (mulf (addf ga gb) (addf ga gb)))) (broadcastInDim S4x1024x648 ![] bcast_S_S4x1024x648 (constant (F := Ideal) S_ .f32 0x3C231ACC#32)))) (broadcastInDim S4x1024x648 ![] bcast_S_S4x1024x648 (constant (F := Ideal) S_ .f32 0x322BCC77#32)))) (mulf (broadcastInDim S4x1024x648 ![] bcast_S_S4x1024x648 (constant (F := Ideal) S_ .f32 0x3C23D70A#32)) w))

/-- The reference's result 2 of its arguments. -/
def RES2 (ga : FVec Ideal S4x1024x648 .f32) (gb : FVec Ideal S4x1024x648 .f32) (mo : FVec Ideal S4x1024x648 .f32) : FVec Ideal S4x1024x648 .f32 :=
  addf (mulf (broadcastInDim S4x1024x648 ![] bcast_S_S4x1024x648 (constant (F := Ideal) S_ .f32 0x3F666666#32)) mo) (mulf (broadcastInDim S4x1024x648 ![] bcast_S_S4x1024x648 (constant (F := Ideal) S_ .f32 0x3DCCCCCD#32)) (addf ga gb))

/-- The reference's result 3 of its arguments. -/
def RES3 (ga : FVec Ideal S4x1024x648 .f32) (gb : FVec Ideal S4x1024x648 .f32) (v : FVec Ideal S4x1024x648 .f32) : FVec Ideal S4x1024x648 .f32 :=
  addf (mulf (broadcastInDim S4x1024x648 ![] bcast_S_S4x1024x648 (constant (F := Ideal) S_ .f32 0x3F7FBE77#32)) v) (mulf (broadcastInDim S4x1024x648 ![] bcast_S_S4x1024x648 (constant (F := Ideal) S_ .f32 0x3A83126F#32)) (mulf (addf ga gb) (addf ga gb)))

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES0 (m ((c.tc : Thread nD τ).loc main_arg1)) (m ((c.tc : Thread nD τ).loc main_arg2))
      ∧ r.2.mem ((c.tc : Thread nD τ).loc main_v24) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5) = RES2 (m ((c.tc : Thread nD τ).loc main_arg1)) (m ((c.tc : Thread nD τ).loc main_arg2)) (m ((c.tc : Thread nD τ).loc main_arg3))
      ∧ r.2.mem ((c.tc : Thread nD τ).loc main_v11) = RES3 (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.AdamInRefIdeal.Value
namespace Cert.AdamInIdeal.Value
open Cert.AdamInIdeal Cert.AdamInIdeal.Gen Cert.Optimiser

/-! ## The optimiser's step, block of rows by block of rows -/

variable (m : (ℓ : Loc nD τ sig) → Buf (Elt Ideal) ℓ) (c : Dev nD)

/-- The arguments: the weight, the gradient's two halves and the two moments. -/
abbrev aW : FVec Ideal S4x1024x648 .f32 := m ((c : Thread nD τ).loc main_arg0)
abbrev aG : FVec Ideal S4x1024x648 .f32 := m ((c : Thread nD τ).loc main_arg1)
abbrev aH : FVec Ideal S4x1024x648 .f32 := m ((c : Thread nD τ).loc main_arg2)
abbrev aM : FVec Ideal S4x1024x648 .f32 := m ((c : Thread nD τ).loc main_arg3)
abbrev aV : FVec Ideal S4x1024x648 .f32 := m ((c : Thread nD τ).loc main_arg4)

theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The layer of block `t`. -/
def lay (t : Fin cfg0.N) : Fin 4 := ⟨t.val / 2, by have : t.val < 8 := lt_of_lt_of_eq t.isLt N_0; omega⟩
/-- Row `r` of block `t` in its layer. -/
def row (t : Fin cfg0.N) (r : Fin 512) : Fin 1024 := ⟨t.val % 2 * 512 + r.val, by have : t.val % 2 < 2 := Nat.mod_lt _ (by decide); omega⟩

theorem in0 (t : Fin cfg0.N) (r : Fin 512) (j : Fin 648) : (show FVec Ideal S1x512x648 .f32 from iblk m c 0 t) (ix3 0 r j) = aW m c (ix3 (lay t) (row t r) j) := by
  blk_point [iblk, V, idx t] <;> rfl
theorem in1 (t : Fin cfg0.N) (r : Fin 512) (j : Fin 648) : (show FVec Ideal S1x512x648 .f32 from iblk m c 1 t) (ix3 0 r j) = aG m c (ix3 (lay t) (row t r) j) := by
  blk_point [iblk, V, idx t] <;> rfl
theorem in2 (t : Fin cfg0.N) (r : Fin 512) (j : Fin 648) : (show FVec Ideal S1x512x648 .f32 from iblk m c 2 t) (ix3 0 r j) = aH m c (ix3 (lay t) (row t r) j) := by
  blk_point [iblk, V, idx t] <;> rfl
theorem in3 (t : Fin cfg0.N) (r : Fin 512) (j : Fin 648) : (show FVec Ideal S1x512x648 .f32 from iblk m c 3 t) (ix3 0 r j) = aM m c (ix3 (lay t) (row t r) j) := by
  blk_point [iblk, V, idx t] <;> rfl
theorem in4 (t : Fin cfg0.N) (r : Fin 512) (j : Fin 648) : (show FVec Ideal S1x512x648 .f32 from iblk m c 4 t) (ix3 0 r j) = aV m c (ix3 (lay t) (row t r) j) := by
  blk_point [iblk, V, idx t] <;> rfl

/-- The kernel's two named constants. -/
theorem named_m : Named.named (F := Ideal) κ "m_scale" (φ := .f32) 0x3FC48605#32 = (((5463681 / 8388608 : ℝ)⁻¹ : ℝ) : EReal) :=
  IdealRules.named_const.ideal_named_scalar _ _ _ _ rfl
theorem named_v : Named.named (F := Ideal) κ "v_scale" (φ := .f32) 0x42C8E6D3#32 = (((2672307 / 268435456 : ℝ)⁻¹ : ℝ) : EReal) :=
  IdealRules.named_const.ideal_named_scalar _ _ _ _ rfl

/-! ## What a block holds, number by number -/

section
variable (w g h mo v : FVec Ideal S1x512x648 .f32) (r : Fin 512) (j : Fin 648)

theorem blk5 : (show EReal from out0_5 (F := Ideal) w g h mo v (ix3 0 r j)) = g (ix3 0 r j) + h (ix3 0 r j) := by
  unfold out0_5
  frame_out
  pointwise [k0_pay5, k0_pay4]
theorem blk6 : (show EReal from out0_6 (F := Ideal) w g h mo v (ix3 0 r j)) = change (w (ix3 0 r j)) (g (ix3 0 r j) + h (ix3 0 r j)) (mo (ix3 0 r j)) (v (ix3 0 r j)) := by
  unfold out0_6
  frame_out
  unfold change
  rw [← scale_m, ← scale_v, ← named_m, ← named_v]
  pointwise [k0_pay1, k0_pay8, k0_pay7, k0_pay6, k0_pay4, moment, square]
theorem blk7 : (show EReal from out0_7 (F := Ideal) w g h mo v (ix3 0 r j)) = moment (g (ix3 0 r j) + h (ix3 0 r j)) (mo (ix3 0 r j)) := by
  unfold out0_7
  frame_out
  pointwise [k0_pay2, k0_pay6, k0_pay4, moment]
theorem blk8 : (show EReal from out0_8 (F := Ideal) w g h mo v (ix3 0 r j)) = square (g (ix3 0 r j) + h (ix3 0 r j)) (v (ix3 0 r j)) := by
  unfold out0_8
  frame_out
  pointwise [k0_pay3, k0_pay7, k0_pay4, square]
end

/-! ## The results -/

/-- A result is its formula, where a block's is. -/
theorem spread (W : FVec Ideal S4x1024x648 .f32) (t : Fin cfg0.N) (r : Fin 512) (j : Fin 648) :
    W (ix3 (lay t) (row t r) j) = W (((cfg0.win 5).blk t).view.emb (ix3 0 r j)) := by
  blk_point [idx t] <;> rfl

/-- Result 0 as a function of whole arrays. -/
def res5 : FVec Ideal S4x1024x648 .f32 := fun y => (aG m c y + aH m c y : EReal)

theorem final5 : (dats m 0 c).arrAt 5 (cfgs 0).N = res5 m c := by
  refine (dats m 0 c).arrAt_eq_of_covers 5 _ (by decide +kernel) fun t hf y => ?_
  blk_simp
  rw [after0_5]
  idx_vars y
  obtain rfl : y0 = 0 := Subsingleton.elim _ _
  refine (blk5 _ _ _ _ _ y1 y2).trans ?_
  refine Eq.trans ?_ (spread (res5 m c) t y1 y2)
  simp only [in1 m c t y1 y2, in2 m c t y1 y2]
  rfl

theorem equal0 : (dats m 0 c).arrAt 5 (cfgs 0).N = Cert.AdamInRefIdeal.Value.RES0 (aG m c) (aH m c) := by
  refine (final5 m c).trans ?_
  funext y
  rfl

/-- Result 1 as a function of whole arrays. -/
def res6 : FVec Ideal S4x1024x648 .f32 := fun y => (change (aW m c y) (aG m c y + aH m c y) (aM m c y) (aV m c y) : EReal)

theorem final6 : (dats m 0 c).arrAt 6 (cfgs 0).N = res6 m c := by
  refine (dats m 0 c).arrAt_eq_of_covers 6 _ (by decide +kernel) fun t hf y => ?_
  blk_simp
  rw [after0_6]
  idx_vars y
  obtain rfl : y0 = 0 := Subsingleton.elim _ _
  refine (blk6 _ _ _ _ _ y1 y2).trans ?_
  refine Eq.trans ?_ (spread (res6 m c) t y1 y2)
  simp only [in0 m c t y1 y2, in1 m c t y1 y2, in2 m c t y1 y2, in3 m c t y1 y2, in4 m c t y1 y2]
  rfl

theorem equal1 : (dats m 0 c).arrAt 6 (cfgs 0).N = Cert.AdamInRefIdeal.Value.RES1 (aW m c) (aG m c) (aH m c) (aM m c) (aV m c) := by
  refine (final6 m c).trans ?_
  funext y
  rfl

/-- Result 2 as a function of whole arrays. -/
def res7 : FVec Ideal S4x1024x648 .f32 := fun y => (moment (aG m c y + aH m c y) (aM m c y) : EReal)

theorem final7 : (dats m 0 c).arrAt 7 (cfgs 0).N = res7 m c := by
  refine (dats m 0 c).arrAt_eq_of_covers 7 _ (by decide +kernel) fun t hf y => ?_
  blk_simp
  rw [after0_7]
  idx_vars y
  obtain rfl : y0 = 0 := Subsingleton.elim _ _
  refine (blk7 _ _ _ _ _ y1 y2).trans ?_
  refine Eq.trans ?_ (spread (res7 m c) t y1 y2)
  simp only [in1 m c t y1 y2, in2 m c t y1 y2, in3 m c t y1 y2]
  rfl

theorem equal2 : (dats m 0 c).arrAt 7 (cfgs 0).N = Cert.AdamInRefIdeal.Value.RES2 (aG m c) (aH m c) (aM m c) := by
  refine (final7 m c).trans ?_
  funext y
  rfl

/-- Result 3 as a function of whole arrays. -/
def res8 : FVec Ideal S4x1024x648 .f32 := fun y => (square (aG m c y + aH m c y) (aV m c y) : EReal)

theorem final8 : (dats m 0 c).arrAt 8 (cfgs 0).N = res8 m c := by
  refine (dats m 0 c).arrAt_eq_of_covers 8 _ (by decide +kernel) fun t hf y => ?_
  blk_simp
  rw [after0_8]
  idx_vars y
  obtain rfl : y0 = 0 := Subsingleton.elim _ _
  refine (blk8 _ _ _ _ _ y1 y2).trans ?_
  refine Eq.trans ?_ (spread (res8 m c) t y1 y2)
  simp only [in1 m c t y1 y2, in2 m c t y1 y2, in4 m c t y1 y2]
  rfl

theorem equal3 : (dats m 0 c).arrAt 8 (cfgs 0).N = Cert.AdamInRefIdeal.Value.RES3 (aG m c) (aH m c) (aV m c) := by
  refine (final8 m c).trans ?_
  funext y
  rfl

end Cert.AdamInIdeal.Value
end
-- ==== Proof.Optimiser.Out.lean ====
module
public import Idealize.ShloMosaic.Lib.Pipeline.ReadBack
public import Idealize.ShloMosaic.Lib.Pipeline.ValueKit
public import Idealize.ShloMosaic.Lib.Pointwise
public import proofs.«01_k».proof.Proof.Gen.AdamOutIdeal.Value
public import proofs.«01_k».proof.Proof.Gen.AdamOutRefIdeal.Run
public import proofs.«01_k».proof.Proof.Optimiser.Step

@[expose] public section
set_option maxRecDepth 16384
noncomputable section
open Idealize.ShloMosaic Idealize.ShloMosaic.TcCoe Idealize.SL.Sem
open Idealize.ShloMosaic.Pipeline (Dat)
namespace Cert.AdamOutRefIdeal.Value
open Cert.AdamOutRefIdeal Cert.AdamOutRefIdeal.Gen Idealize.ShloMosaic.StableHlo

/-! ## The reference's results, part by part -/

/-- The reference's result 0 of its arguments. -/
def RES0 (ga : FVec Ideal S4x256x1024 .f32) (gb : FVec Ideal S4x256x1024 .f32) : FVec Ideal S4x256x1024 .f32 :=
  addf ga gb

/-- The reference's result 1 of its arguments. -/
def RES1 (w : FVec Ideal S4x256x1024 .f32) (ga : FVec Ideal S4x256x1024 .f32) (gb : FVec Ideal S4x256x1024 .f32) (mo : FVec Ideal S4x256x1024 .f32) (v : FVec Ideal S4x256x1024 .f32) : FVec Ideal S4x256x1024 .f32 :=
  mulf (broadcastInDim S4x256x1024 ![] bcast_S_S4x256x1024 (constant (F := Ideal) S_ .f32 0xBA83126F#32)) (addf (Host.divf (Host.divf (addf (mulf (broadcastInDim S4x256x1024 ![] bcast_S_S4x256x1024 (constant (F := Ideal) S_ .f32 0x3F666666#32)) mo) (mulf (broadcastInDim S4x256x1024 ![] bcast_S_S4x256x1024 (constant (F := Ideal) S_ .f32 0x3DCCCCCD#32)) (addf ga gb))) (broadcastInDim S4x256x1024 ![] bcast_S_S4x256x1024 (constant (F := Ideal) S_ .f32 0x3F26BD02#32))) (addf (Host.sqrt (Host.divf (addf (mulf (broadcastInDim S4x256x1024 ![] bcast_S_S4x256x1024 (constant (F := Ideal) S_ .f32 0x3F7FBE77#32)) v) (mulf (broadcastInDim S4x256x1024 ![] bcast_S_S4x256x1024 (constant (F := Ideal) S_ .f32 0x3A83126F#32)) (mulf (addf ga gb) (addf ga gb)))) (broadcastInDim S4x256x1024 ![] bcast_S_S4x256x1024 (constant (F := Ideal) S_ .f32 0x3C231ACC#32)))) (broadcastInDim S4x256x1024 ![] bcast_S_S4x256x1024 (constant (F := Ideal) S_ .f32 0x322BCC77#32)))) (mulf (broadcastInDim S4x256x1024 ![] bcast_S_S4x256x1024 (constant (F := Ideal) S_ .f32 0x3C23D70A#32)) w))

/-- The reference's result 2 of its arguments. -/
def RES2 (ga : FVec Ideal S4x256x1024 .f32) (gb : FVec Ideal S4x256x1024 .f32) (mo : FVec Ideal S4x256x1024 .f32) : FVec Ideal S4x256x1024 .f32 :=
  addf (mulf (broadcastInDim S4x256x1024 ![] bcast_S_S4x256x1024 (constant (F := Ideal) S_ .f32 0x3F666666#32)) mo) (mulf (broadcastInDim S4x256x1024 ![] bcast_S_S4x256x1024 (constant (F := Ideal) S_ .f32 0x3DCCCCCD#32)) (addf ga gb))

/-- The reference's result 3 of its arguments. -/
def RES3 (ga : FVec Ideal S4x256x1024 .f32) (gb : FVec Ideal S4x256x1024 .f32) (v : FVec Ideal S4x256x1024 .f32) : FVec Ideal S4x256x1024 .f32 :=
  addf (mulf (broadcastInDim S4x256x1024 ![] bcast_S_S4x256x1024 (constant (F := Ideal) S_ .f32 0x3F7FBE77#32)) v) (mulf (broadcastInDim S4x256x1024 ![] bcast_S_S4x256x1024 (constant (F := Ideal) S_ .f32 0x3A83126F#32)) (mulf (addf ga gb) (addf ga gb)))

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES0 (m ((c.tc : Thread nD τ).loc main_arg1)) (m ((c.tc : Thread nD τ).loc main_arg2))
      ∧ r.2.mem ((c.tc : Thread nD τ).loc main_v24) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5) = RES2 (m ((c.tc : Thread nD τ).loc main_arg1)) (m ((c.tc : Thread nD τ).loc main_arg2)) (m ((c.tc : Thread nD τ).loc main_arg3))
      ∧ r.2.mem ((c.tc : Thread nD τ).loc main_v11) = RES3 (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.AdamOutRefIdeal.Value
namespace Cert.AdamOutIdeal.Value
open Cert.AdamOutIdeal Cert.AdamOutIdeal.Gen Cert.Optimiser

/-! ## The optimiser's step, block of rows by block of rows -/

variable (m : (ℓ : Loc nD τ sig) → Buf (Elt Ideal) ℓ) (c : Dev nD)

/-- The arguments: the weight, the gradient's two halves and the two moments. -/
abbrev aW : FVec Ideal S4x256x1024 .f32 := m ((c : Thread nD τ).loc main_arg0)
abbrev aG : FVec Ideal S4x256x1024 .f32 := m ((c : Thread nD τ).loc main_arg1)
abbrev aH : FVec Ideal S4x256x1024 .f32 := m ((c : Thread nD τ).loc main_arg2)
abbrev aM : FVec Ideal S4x256x1024 .f32 := m ((c : Thread nD τ).loc main_arg3)
abbrev aV : FVec Ideal S4x256x1024 .f32 := m ((c : Thread nD τ).loc main_arg4)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

/-- The layer of block `t`. -/
def lay (t : Fin cfg0.N) : Fin 4 := ⟨t.val / 1, by have : t.val < 4 := lt_of_lt_of_eq t.isLt N_0; omega⟩
/-- Row `r` of block `t` in its layer. -/
def row (t : Fin cfg0.N) (r : Fin 256) : Fin 256 := ⟨t.val % 1 * 256 + r.val, by have : t.val % 1 < 1 := Nat.mod_lt _ (by decide); omega⟩

theorem in0 (t : Fin cfg0.N) (r : Fin 256) (j : Fin 1024) : (show FVec Ideal S1x256x1024 .f32 from iblk m c 0 t) (ix3 0 r j) = aW m c (ix3 (lay t) (row t r) j) := by
  blk_point [iblk, V, idx t] <;> rfl
theorem in1 (t : Fin cfg0.N) (r : Fin 256) (j : Fin 1024) : (show FVec Ideal S1x256x1024 .f32 from iblk m c 1 t) (ix3 0 r j) = aG m c (ix3 (lay t) (row t r) j) := by
  blk_point [iblk, V, idx t] <;> rfl
theorem in2 (t : Fin cfg0.N) (r : Fin 256) (j : Fin 1024) : (show FVec Ideal S1x256x1024 .f32 from iblk m c 2 t) (ix3 0 r j) = aH m c (ix3 (lay t) (row t r) j) := by
  blk_point [iblk, V, idx t] <;> rfl
theorem in3 (t : Fin cfg0.N) (r : Fin 256) (j : Fin 1024) : (show FVec Ideal S1x256x1024 .f32 from iblk m c 3 t) (ix3 0 r j) = aM m c (ix3 (lay t) (row t r) j) := by
  blk_point [iblk, V, idx t] <;> rfl
theorem in4 (t : Fin cfg0.N) (r : Fin 256) (j : Fin 1024) : (show FVec Ideal S1x256x1024 .f32 from iblk m c 4 t) (ix3 0 r j) = aV m c (ix3 (lay t) (row t r) j) := by
  blk_point [iblk, V, idx t] <;> rfl

/-- The kernel's two named constants. -/
theorem named_m : Named.named (F := Ideal) κ "m_scale" (φ := .f32) 0x3FC48605#32 = (((5463681 / 8388608 : ℝ)⁻¹ : ℝ) : EReal) :=
  IdealRules.named_const.ideal_named_scalar _ _ _ _ rfl
theorem named_v : Named.named (F := Ideal) κ "v_scale" (φ := .f32) 0x42C8E6D3#32 = (((2672307 / 268435456 : ℝ)⁻¹ : ℝ) : EReal) :=
  IdealRules.named_const.ideal_named_scalar _ _ _ _ rfl

/-! ## What a block holds, number by number -/

section
variable (w g h mo v : FVec Ideal S1x256x1024 .f32) (r : Fin 256) (j : Fin 1024)

theorem blk5 : (show EReal from out0_5 (F := Ideal) w g h mo v (ix3 0 r j)) = g (ix3 0 r j) + h (ix3 0 r j) := by
  unfold out0_5
  frame_out
  pointwise [k0_pay5, k0_pay4]
theorem blk6 : (show EReal from out0_6 (F := Ideal) w g h mo v (ix3 0 r j)) = change (w (ix3 0 r j)) (g (ix3 0 r j) + h (ix3 0 r j)) (mo (ix3 0 r j)) (v (ix3 0 r j)) := by
  unfold out0_6
  frame_out
  unfold change
  rw [← scale_m, ← scale_v, ← named_m, ← named_v]
  pointwise [k0_pay1, k0_pay8, k0_pay7, k0_pay6, k0_pay4, moment, square]
theorem blk7 : (show EReal from out0_7 (F := Ideal) w g h mo v (ix3 0 r j)) = moment (g (ix3 0 r j) + h (ix3 0 r j)) (mo (ix3 0 r j)) := by
  unfold out0_7
  frame_out
  pointwise [k0_pay2, k0_pay6, k0_pay4, moment]
theorem blk8 : (show EReal from out0_8 (F := Ideal) w g h mo v (ix3 0 r j)) = square (g (ix3 0 r j) + h (ix3 0 r j)) (v (ix3 0 r j)) := by
  unfold out0_8
  frame_out
  pointwise [k0_pay3, k0_pay7, k0_pay4, square]
end

/-! ## The results -/

/-- A result is its formula, where a block's is. -/
theorem spread (W : FVec Ideal S4x256x1024 .f32) (t : Fin cfg0.N) (r : Fin 256) (j : Fin 1024) :
    W (ix3 (lay t) (row t r) j) = W (((cfg0.win 5).blk t).view.emb (ix3 0 r j)) := by
  blk_point [idx t] <;> rfl

/-- Result 0 as a function of whole arrays. -/
def res5 : FVec Ideal S4x256x1024 .f32 := fun y => (aG m c y + aH m c y : EReal)

theorem final5 : (dats m 0 c).arrAt 5 (cfgs 0).N = res5 m c := by
  refine (dats m 0 c).arrAt_eq_of_covers 5 _ (by decide +kernel) fun t hf y => ?_
  blk_simp
  rw [after0_5]
  idx_vars y
  obtain rfl : y0 = 0 := Subsingleton.elim _ _
  refine (blk5 _ _ _ _ _ y1 y2).trans ?_
  refine Eq.trans ?_ (spread (res5 m c) t y1 y2)
  simp only [in1 m c t y1 y2, in2 m c t y1 y2]
  rfl

theorem equal0 : (dats m 0 c).arrAt 5 (cfgs 0).N = Cert.AdamOutRefIdeal.Value.RES0 (aG m c) (aH m c) := by
  refine (final5 m c).trans ?_
  funext y
  rfl

/-- Result 1 as a function of whole arrays. -/
def res6 : FVec Ideal S4x256x1024 .f32 := fun y => (change (aW m c y) (aG m c y + aH m c y) (aM m c y) (aV m c y) : EReal)

theorem final6 : (dats m 0 c).arrAt 6 (cfgs 0).N = res6 m c := by
  refine (dats m 0 c).arrAt_eq_of_covers 6 _ (by decide +kernel) fun t hf y => ?_
  blk_simp
  rw [after0_6]
  idx_vars y
  obtain rfl : y0 = 0 := Subsingleton.elim _ _
  refine (blk6 _ _ _ _ _ y1 y2).trans ?_
  refine Eq.trans ?_ (spread (res6 m c) t y1 y2)
  simp only [in0 m c t y1 y2, in1 m c t y1 y2, in2 m c t y1 y2, in3 m c t y1 y2, in4 m c t y1 y2]
  rfl

theorem equal1 : (dats m 0 c).arrAt 6 (cfgs 0).N = Cert.AdamOutRefIdeal.Value.RES1 (aW m c) (aG m c) (aH m c) (aM m c) (aV m c) := by
  refine (final6 m c).trans ?_
  funext y
  rfl

/-- Result 2 as a function of whole arrays. -/
def res7 : FVec Ideal S4x256x1024 .f32 := fun y => (moment (aG m c y + aH m c y) (aM m c y) : EReal)

theorem final7 : (dats m 0 c).arrAt 7 (cfgs 0).N = res7 m c := by
  refine (dats m 0 c).arrAt_eq_of_covers 7 _ (by decide +kernel) fun t hf y => ?_
  blk_simp
  rw [after0_7]
  idx_vars y
  obtain rfl : y0 = 0 := Subsingleton.elim _ _
  refine (blk7 _ _ _ _ _ y1 y2).trans ?_
  refine Eq.trans ?_ (spread (res7 m c) t y1 y2)
  simp only [in1 m c t y1 y2, in2 m c t y1 y2, in3 m c t y1 y2]
  rfl

theorem equal2 : (dats m 0 c).arrAt 7 (cfgs 0).N = Cert.AdamOutRefIdeal.Value.RES2 (aG m c) (aH m c) (aM m c) := by
  refine (final7 m c).trans ?_
  funext y
  rfl

/-- Result 3 as a function of whole arrays. -/
def res8 : FVec Ideal S4x256x1024 .f32 := fun y => (square (aG m c y + aH m c y) (aV m c y) : EReal)

theorem final8 : (dats m 0 c).arrAt 8 (cfgs 0).N = res8 m c := by
  refine (dats m 0 c).arrAt_eq_of_covers 8 _ (by decide +kernel) fun t hf y => ?_
  blk_simp
  rw [after0_8]
  idx_vars y
  obtain rfl : y0 = 0 := Subsingleton.elim _ _
  refine (blk8 _ _ _ _ _ y1 y2).trans ?_
  refine Eq.trans ?_ (spread (res8 m c) t y1 y2)
  simp only [in1 m c t y1 y2, in2 m c t y1 y2, in4 m c t y1 y2]
  rfl

theorem equal3 : (dats m 0 c).arrAt 8 (cfgs 0).N = Cert.AdamOutRefIdeal.Value.RES3 (aG m c) (aH m c) (aV m c) := by
  refine (final8 m c).trans ?_
  funext y
  rfl

end Cert.AdamOutIdeal.Value
end
-- ==== Proof.Optimiser.Up.lean ====
module
public import Idealize.ShloMosaic.Lib.Pipeline.ReadBack
public import Idealize.ShloMosaic.Lib.Pipeline.ValueKit
public import Idealize.ShloMosaic.Lib.Pointwise
public import proofs.«01_k».proof.Proof.Gen.AdamUpIdeal.Value
public import proofs.«01_k».proof.Proof.Gen.AdamUpRefIdeal.Run
public import proofs.«01_k».proof.Proof.Optimiser.Step

@[expose] public section
set_option maxRecDepth 16384
noncomputable section
open Idealize.ShloMosaic Idealize.ShloMosaic.TcCoe Idealize.SL.Sem
open Idealize.ShloMosaic.Pipeline (Dat)
namespace Cert.AdamUpRefIdeal.Value
open Cert.AdamUpRefIdeal Cert.AdamUpRefIdeal.Gen Idealize.ShloMosaic.StableHlo

/-! ## The reference's results, part by part -/

/-- The reference's result 0 of its arguments. -/
def RES0 (ga : FVec Ideal S4x1024x1408 .f32) (gb : FVec Ideal S4x1024x1408 .f32) : FVec Ideal S4x1024x1408 .f32 :=
  addf ga gb

/-- The reference's result 1 of its arguments. -/
def RES1 (w : FVec Ideal S4x1024x1408 .f32) (ga : FVec Ideal S4x1024x1408 .f32) (gb : FVec Ideal S4x1024x1408 .f32) (mo : FVec Ideal S4x1024x1408 .f32) (v : FVec Ideal S4x1024x1408 .f32) : FVec Ideal S4x1024x1408 .f32 :=
  mulf (broadcastInDim S4x1024x1408 ![] bcast_S_S4x1024x1408 (constant (F := Ideal) S_ .f32 0xBA83126F#32)) (addf (Host.divf (Host.divf (addf (mulf (broadcastInDim S4x1024x1408 ![] bcast_S_S4x1024x1408 (constant (F := Ideal) S_ .f32 0x3F666666#32)) mo) (mulf (broadcastInDim S4x1024x1408 ![] bcast_S_S4x1024x1408 (constant (F := Ideal) S_ .f32 0x3DCCCCCD#32)) (addf ga gb))) (broadcastInDim S4x1024x1408 ![] bcast_S_S4x1024x1408 (constant (F := Ideal) S_ .f32 0x3F26BD02#32))) (addf (Host.sqrt (Host.divf (addf (mulf (broadcastInDim S4x1024x1408 ![] bcast_S_S4x1024x1408 (constant (F := Ideal) S_ .f32 0x3F7FBE77#32)) v) (mulf (broadcastInDim S4x1024x1408 ![] bcast_S_S4x1024x1408 (constant (F := Ideal) S_ .f32 0x3A83126F#32)) (mulf (addf ga gb) (addf ga gb)))) (broadcastInDim S4x1024x1408 ![] bcast_S_S4x1024x1408 (constant (F := Ideal) S_ .f32 0x3C231ACC#32)))) (broadcastInDim S4x1024x1408 ![] bcast_S_S4x1024x1408 (constant (F := Ideal) S_ .f32 0x322BCC77#32)))) (mulf (broadcastInDim S4x1024x1408 ![] bcast_S_S4x1024x1408 (constant (F := Ideal) S_ .f32 0x3C23D70A#32)) w))

/-- The reference's result 2 of its arguments. -/
def RES2 (ga : FVec Ideal S4x1024x1408 .f32) (gb : FVec Ideal S4x1024x1408 .f32) (mo : FVec Ideal S4x1024x1408 .f32) : FVec Ideal S4x1024x1408 .f32 :=
  addf (mulf (broadcastInDim S4x1024x1408 ![] bcast_S_S4x1024x1408 (constant (F := Ideal) S_ .f32 0x3F666666#32)) mo) (mulf (broadcastInDim S4x1024x1408 ![] bcast_S_S4x1024x1408 (constant (F := Ideal) S_ .f32 0x3DCCCCCD#32)) (addf ga gb))

/-- The reference's result 3 of its arguments. -/
def RES3 (ga : FVec Ideal S4x1024x1408 .f32) (gb : FVec Ideal S4x1024x1408 .f32) (v : FVec Ideal S4x1024x1408 .f32) : FVec Ideal S4x1024x1408 .f32 :=
  addf (mulf (broadcastInDim S4x1024x1408 ![] bcast_S_S4x1024x1408 (constant (F := Ideal) S_ .f32 0x3F7FBE77#32)) v) (mulf (broadcastInDim S4x1024x1408 ![] bcast_S_S4x1024x1408 (constant (F := Ideal) S_ .f32 0x3A83126F#32)) (mulf (addf ga gb) (addf ga gb)))

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES0 (m ((c.tc : Thread nD τ).loc main_arg1)) (m ((c.tc : Thread nD τ).loc main_arg2))
      ∧ r.2.mem ((c.tc : Thread nD τ).loc main_v24) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5) = RES2 (m ((c.tc : Thread nD τ).loc main_arg1)) (m ((c.tc : Thread nD τ).loc main_arg2)) (m ((c.tc : Thread nD τ).loc main_arg3))
      ∧ r.2.mem ((c.tc : Thread nD τ).loc main_v11) = RES3 (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.AdamUpRefIdeal.Value
namespace Cert.AdamUpIdeal.Value
open Cert.AdamUpIdeal Cert.AdamUpIdeal.Gen Cert.Optimiser

/-! ## The optimiser's step, block of rows by block of rows -/

variable (m : (ℓ : Loc nD τ sig) → Buf (Elt Ideal) ℓ) (c : Dev nD)

/-- The arguments: the weight, the gradient's two halves and the two moments. -/
abbrev aW : FVec Ideal S4x1024x1408 .f32 := m ((c : Thread nD τ).loc main_arg0)
abbrev aG : FVec Ideal S4x1024x1408 .f32 := m ((c : Thread nD τ).loc main_arg1)
abbrev aH : FVec Ideal S4x1024x1408 .f32 := m ((c : Thread nD τ).loc main_arg2)
abbrev aM : FVec Ideal S4x1024x1408 .f32 := m ((c : Thread nD τ).loc main_arg3)
abbrev aV : FVec Ideal S4x1024x1408 .f32 := m ((c : Thread nD τ).loc main_arg4)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- The layer of block `t`. -/
def lay (t : Fin cfg0.N) : Fin 4 := ⟨t.val / 4, by have : t.val < 16 := lt_of_lt_of_eq t.isLt N_0; omega⟩
/-- Row `r` of block `t` in its layer. -/
def row (t : Fin cfg0.N) (r : Fin 256) : Fin 1024 := ⟨t.val % 4 * 256 + r.val, by have : t.val % 4 < 4 := Nat.mod_lt _ (by decide); omega⟩

theorem in0 (t : Fin cfg0.N) (r : Fin 256) (j : Fin 1408) : (show FVec Ideal S1x256x1408 .f32 from iblk m c 0 t) (ix3 0 r j) = aW m c (ix3 (lay t) (row t r) j) := by
  blk_point [iblk, V, idx t] <;> rfl
theorem in1 (t : Fin cfg0.N) (r : Fin 256) (j : Fin 1408) : (show FVec Ideal S1x256x1408 .f32 from iblk m c 1 t) (ix3 0 r j) = aG m c (ix3 (lay t) (row t r) j) := by
  blk_point [iblk, V, idx t] <;> rfl
theorem in2 (t : Fin cfg0.N) (r : Fin 256) (j : Fin 1408) : (show FVec Ideal S1x256x1408 .f32 from iblk m c 2 t) (ix3 0 r j) = aH m c (ix3 (lay t) (row t r) j) := by
  blk_point [iblk, V, idx t] <;> rfl
theorem in3 (t : Fin cfg0.N) (r : Fin 256) (j : Fin 1408) : (show FVec Ideal S1x256x1408 .f32 from iblk m c 3 t) (ix3 0 r j) = aM m c (ix3 (lay t) (row t r) j) := by
  blk_point [iblk, V, idx t] <;> rfl
theorem in4 (t : Fin cfg0.N) (r : Fin 256) (j : Fin 1408) : (show FVec Ideal S1x256x1408 .f32 from iblk m c 4 t) (ix3 0 r j) = aV m c (ix3 (lay t) (row t r) j) := by
  blk_point [iblk, V, idx t] <;> rfl

/-- The kernel's two named constants. -/
theorem named_m : Named.named (F := Ideal) κ "m_scale" (φ := .f32) 0x3FC48605#32 = (((5463681 / 8388608 : ℝ)⁻¹ : ℝ) : EReal) :=
  IdealRules.named_const.ideal_named_scalar _ _ _ _ rfl
theorem named_v : Named.named (F := Ideal) κ "v_scale" (φ := .f32) 0x42C8E6D3#32 = (((2672307 / 268435456 : ℝ)⁻¹ : ℝ) : EReal) :=
  IdealRules.named_const.ideal_named_scalar _ _ _ _ rfl

/-! ## What a block holds, number by number -/

section
variable (w g h mo v : FVec Ideal S1x256x1408 .f32) (r : Fin 256) (j : Fin 1408)

theorem blk5 : (show EReal from out0_5 (F := Ideal) w g h mo v (ix3 0 r j)) = g (ix3 0 r j) + h (ix3 0 r j) := by
  unfold out0_5
  frame_out
  pointwise [k0_pay5, k0_pay4]
theorem blk6 : (show EReal from out0_6 (F := Ideal) w g h mo v (ix3 0 r j)) = change (w (ix3 0 r j)) (g (ix3 0 r j) + h (ix3 0 r j)) (mo (ix3 0 r j)) (v (ix3 0 r j)) := by
  unfold out0_6
  frame_out
  unfold change
  rw [← scale_m, ← scale_v, ← named_m, ← named_v]
  pointwise [k0_pay1, k0_pay8, k0_pay7, k0_pay6, k0_pay4, moment, square]
theorem blk7 : (show EReal from out0_7 (F := Ideal) w g h mo v (ix3 0 r j)) = moment (g (ix3 0 r j) + h (ix3 0 r j)) (mo (ix3 0 r j)) := by
  unfold out0_7
  frame_out
  pointwise [k0_pay2, k0_pay6, k0_pay4, moment]
theorem blk8 : (show EReal from out0_8 (F := Ideal) w g h mo v (ix3 0 r j)) = square (g (ix3 0 r j) + h (ix3 0 r j)) (v (ix3 0 r j)) := by
  unfold out0_8
  frame_out
  pointwise [k0_pay3, k0_pay7, k0_pay4, square]
end

/-! ## The results -/

/-- A result is its formula, where a block's is. -/
theorem spread (W : FVec Ideal S4x1024x1408 .f32) (t : Fin cfg0.N) (r : Fin 256) (j : Fin 1408) :
    W (ix3 (lay t) (row t r) j) = W (((cfg0.win 5).blk t).view.emb (ix3 0 r j)) := by
  blk_point [idx t] <;> rfl

/-- Result 0 as a function of whole arrays. -/
def res5 : FVec Ideal S4x1024x1408 .f32 := fun y => (aG m c y + aH m c y : EReal)

theorem final5 : (dats m 0 c).arrAt 5 (cfgs 0).N = res5 m c := by
  refine (dats m 0 c).arrAt_eq_of_covers 5 _ (by decide +kernel) fun t hf y => ?_
  blk_simp
  rw [after0_5]
  idx_vars y
  obtain rfl : y0 = 0 := Subsingleton.elim _ _
  refine (blk5 _ _ _ _ _ y1 y2).trans ?_
  refine Eq.trans ?_ (spread (res5 m c) t y1 y2)
  simp only [in1 m c t y1 y2, in2 m c t y1 y2]
  rfl

theorem equal0 : (dats m 0 c).arrAt 5 (cfgs 0).N = Cert.AdamUpRefIdeal.Value.RES0 (aG m c) (aH m c) := by
  refine (final5 m c).trans ?_
  funext y
  rfl

/-- Result 1 as a function of whole arrays. -/
def res6 : FVec Ideal S4x1024x1408 .f32 := fun y => (change (aW m c y) (aG m c y + aH m c y) (aM m c y) (aV m c y) : EReal)

theorem final6 : (dats m 0 c).arrAt 6 (cfgs 0).N = res6 m c := by
  refine (dats m 0 c).arrAt_eq_of_covers 6 _ (by decide +kernel) fun t hf y => ?_
  blk_simp
  rw [after0_6]
  idx_vars y
  obtain rfl : y0 = 0 := Subsingleton.elim _ _
  refine (blk6 _ _ _ _ _ y1 y2).trans ?_
  refine Eq.trans ?_ (spread (res6 m c) t y1 y2)
  simp only [in0 m c t y1 y2, in1 m c t y1 y2, in2 m c t y1 y2, in3 m c t y1 y2, in4 m c t y1 y2]
  rfl

theorem equal1 : (dats m 0 c).arrAt 6 (cfgs 0).N = Cert.AdamUpRefIdeal.Value.RES1 (aW m c) (aG m c) (aH m c) (aM m c) (aV m c) := by
  refine (final6 m c).trans ?_
  funext y
  rfl

/-- Result 2 as a function of whole arrays. -/
def res7 : FVec Ideal S4x1024x1408 .f32 := fun y => (moment (aG m c y + aH m c y) (aM m c y) : EReal)

theorem final7 : (dats m 0 c).arrAt 7 (cfgs 0).N = res7 m c := by
  refine (dats m 0 c).arrAt_eq_of_covers 7 _ (by decide +kernel) fun t hf y => ?_
  blk_simp
  rw [after0_7]
  idx_vars y
  obtain rfl : y0 = 0 := Subsingleton.elim _ _
  refine (blk7 _ _ _ _ _ y1 y2).trans ?_
  refine Eq.trans ?_ (spread (res7 m c) t y1 y2)
  simp only [in1 m c t y1 y2, in2 m c t y1 y2, in3 m c t y1 y2]
  rfl

theorem equal2 : (dats m 0 c).arrAt 7 (cfgs 0).N = Cert.AdamUpRefIdeal.Value.RES2 (aG m c) (aH m c) (aM m c) := by
  refine (final7 m c).trans ?_
  funext y
  rfl

/-- Result 3 as a function of whole arrays. -/
def res8 : FVec Ideal S4x1024x1408 .f32 := fun y => (square (aG m c y + aH m c y) (aV m c y) : EReal)

theorem final8 : (dats m 0 c).arrAt 8 (cfgs 0).N = res8 m c := by
  refine (dats m 0 c).arrAt_eq_of_covers 8 _ (by decide +kernel) fun t hf y => ?_
  blk_simp
  rw [after0_8]
  idx_vars y
  obtain rfl : y0 = 0 := Subsingleton.elim _ _
  refine (blk8 _ _ _ _ _ y1 y2).trans ?_
  refine Eq.trans ?_ (spread (res8 m c) t y1 y2)
  simp only [in1 m c t y1 y2, in2 m c t y1 y2, in4 m c t y1 y2]
  rfl

theorem equal3 : (dats m 0 c).arrAt 8 (cfgs 0).N = Cert.AdamUpRefIdeal.Value.RES3 (aG m c) (aH m c) (aV m c) := by
  refine (final8 m c).trans ?_
  funext y
  rfl

end Cert.AdamUpIdeal.Value
end
-- ==== Proof.Optimiser.Down.lean ====
module
public import Idealize.ShloMosaic.Lib.Pipeline.ReadBack
public import Idealize.ShloMosaic.Lib.Pipeline.ValueKit
public import Idealize.ShloMosaic.Lib.Pointwise
public import proofs.«01_k».proof.Proof.Gen.AdamDownIdeal.Value
public import proofs.«01_k».proof.Proof.Gen.AdamDownRefIdeal.Run
public import proofs.«01_k».proof.Proof.Optimiser.Step

@[expose] public section
set_option maxRecDepth 16384
noncomputable section
open Idealize.ShloMosaic Idealize.ShloMosaic.TcCoe Idealize.SL.Sem
open Idealize.ShloMosaic.Pipeline (Dat)
namespace Cert.AdamDownRefIdeal.Value
open Cert.AdamDownRefIdeal Cert.AdamDownRefIdeal.Gen Idealize.ShloMosaic.StableHlo

/-! ## The reference's results, part by part -/

/-- The reference's result 0 of its arguments. -/
def RES0 (ga : FVec Ideal S4x704x1024 .f32) (gb : FVec Ideal S4x704x1024 .f32) : FVec Ideal S4x704x1024 .f32 :=
  addf ga gb

/-- The reference's result 1 of its arguments. -/
def RES1 (w : FVec Ideal S4x704x1024 .f32) (ga : FVec Ideal S4x704x1024 .f32) (gb : FVec Ideal S4x704x1024 .f32) (mo : FVec Ideal S4x704x1024 .f32) (v : FVec Ideal S4x704x1024 .f32) : FVec Ideal S4x704x1024 .f32 :=
  mulf (broadcastInDim S4x704x1024 ![] bcast_S_S4x704x1024 (constant (F := Ideal) S_ .f32 0xBA83126F#32)) (addf (Host.divf (Host.divf (addf (mulf (broadcastInDim S4x704x1024 ![] bcast_S_S4x704x1024 (constant (F := Ideal) S_ .f32 0x3F666666#32)) mo) (mulf (broadcastInDim S4x704x1024 ![] bcast_S_S4x704x1024 (constant (F := Ideal) S_ .f32 0x3DCCCCCD#32)) (addf ga gb))) (broadcastInDim S4x704x1024 ![] bcast_S_S4x704x1024 (constant (F := Ideal) S_ .f32 0x3F26BD02#32))) (addf (Host.sqrt (Host.divf (addf (mulf (broadcastInDim S4x704x1024 ![] bcast_S_S4x704x1024 (constant (F := Ideal) S_ .f32 0x3F7FBE77#32)) v) (mulf (broadcastInDim S4x704x1024 ![] bcast_S_S4x704x1024 (constant (F := Ideal) S_ .f32 0x3A83126F#32)) (mulf (addf ga gb) (addf ga gb)))) (broadcastInDim S4x704x1024 ![] bcast_S_S4x704x1024 (constant (F := Ideal) S_ .f32 0x3C231ACC#32)))) (broadcastInDim S4x704x1024 ![] bcast_S_S4x704x1024 (constant (F := Ideal) S_ .f32 0x322BCC77#32)))) (mulf (broadcastInDim S4x704x1024 ![] bcast_S_S4x704x1024 (constant (F := Ideal) S_ .f32 0x3C23D70A#32)) w))

/-- The reference's result 2 of its arguments. -/
def RES2 (ga : FVec Ideal S4x704x1024 .f32) (gb : FVec Ideal S4x704x1024 .f32) (mo : FVec Ideal S4x704x1024 .f32) : FVec Ideal S4x704x1024 .f32 :=
  addf (mulf (broadcastInDim S4x704x1024 ![] bcast_S_S4x704x1024 (constant (F := Ideal) S_ .f32 0x3F666666#32)) mo) (mulf (broadcastInDim S4x704x1024 ![] bcast_S_S4x704x1024 (constant (F := Ideal) S_ .f32 0x3DCCCCCD#32)) (addf ga gb))

/-- The reference's result 3 of its arguments. -/
def RES3 (ga : FVec Ideal S4x704x1024 .f32) (gb : FVec Ideal S4x704x1024 .f32) (v : FVec Ideal S4x704x1024 .f32) : FVec Ideal S4x704x1024 .f32 :=
  addf (mulf (broadcastInDim S4x704x1024 ![] bcast_S_S4x704x1024 (constant (F := Ideal) S_ .f32 0x3F7FBE77#32)) v) (mulf (broadcastInDim S4x704x1024 ![] bcast_S_S4x704x1024 (constant (F := Ideal) S_ .f32 0x3A83126F#32)) (mulf (addf ga gb) (addf ga gb)))

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES0 (m ((c.tc : Thread nD τ).loc main_arg1)) (m ((c.tc : Thread nD τ).loc main_arg2))
      ∧ r.2.mem ((c.tc : Thread nD τ).loc main_v24) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5) = RES2 (m ((c.tc : Thread nD τ).loc main_arg1)) (m ((c.tc : Thread nD τ).loc main_arg2)) (m ((c.tc : Thread nD τ).loc main_arg3))
      ∧ r.2.mem ((c.tc : Thread nD τ).loc main_v11) = RES3 (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.AdamDownRefIdeal.Value
namespace Cert.AdamDownIdeal.Value
open Cert.AdamDownIdeal Cert.AdamDownIdeal.Gen Cert.Optimiser

/-! ## The optimiser's step, block of rows by block of rows -/

variable (m : (ℓ : Loc nD τ sig) → Buf (Elt Ideal) ℓ) (c : Dev nD)

/-- The arguments: the weight, the gradient's two halves and the two moments. -/
abbrev aW : FVec Ideal S4x704x1024 .f32 := m ((c : Thread nD τ).loc main_arg0)
abbrev aG : FVec Ideal S4x704x1024 .f32 := m ((c : Thread nD τ).loc main_arg1)
abbrev aH : FVec Ideal S4x704x1024 .f32 := m ((c : Thread nD τ).loc main_arg2)
abbrev aM : FVec Ideal S4x704x1024 .f32 := m ((c : Thread nD τ).loc main_arg3)
abbrev aV : FVec Ideal S4x704x1024 .f32 := m ((c : Thread nD τ).loc main_arg4)

theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The layer of block `t`. -/
def lay (t : Fin cfg0.N) : Fin 4 := ⟨t.val / 2, by have : t.val < 8 := lt_of_lt_of_eq t.isLt N_0; omega⟩
/-- Row `r` of block `t` in its layer. -/
def row (t : Fin cfg0.N) (r : Fin 352) : Fin 704 := ⟨t.val % 2 * 352 + r.val, by have : t.val % 2 < 2 := Nat.mod_lt _ (by decide); omega⟩

theorem in0 (t : Fin cfg0.N) (r : Fin 352) (j : Fin 1024) : (show FVec Ideal S1x352x1024 .f32 from iblk m c 0 t) (ix3 0 r j) = aW m c (ix3 (lay t) (row t r) j) := by
  blk_point [iblk, V, idx t] <;> rfl
theorem in1 (t : Fin cfg0.N) (r : Fin 352) (j : Fin 1024) : (show FVec Ideal S1x352x1024 .f32 from iblk m c 1 t) (ix3 0 r j) = aG m c (ix3 (lay t) (row t r) j) := by
  blk_point [iblk, V, idx t] <;> rfl
theorem in2 (t : Fin cfg0.N) (r : Fin 352) (j : Fin 1024) : (show FVec Ideal S1x352x1024 .f32 from iblk m c 2 t) (ix3 0 r j) = aH m c (ix3 (lay t) (row t r) j) := by
  blk_point [iblk, V, idx t] <;> rfl
theorem in3 (t : Fin cfg0.N) (r : Fin 352) (j : Fin 1024) : (show FVec Ideal S1x352x1024 .f32 from iblk m c 3 t) (ix3 0 r j) = aM m c (ix3 (lay t) (row t r) j) := by
  blk_point [iblk, V, idx t] <;> rfl
theorem in4 (t : Fin cfg0.N) (r : Fin 352) (j : Fin 1024) : (show FVec Ideal S1x352x1024 .f32 from iblk m c 4 t) (ix3 0 r j) = aV m c (ix3 (lay t) (row t r) j) := by
  blk_point [iblk, V, idx t] <;> rfl

/-- The kernel's two named constants. -/
theorem named_m : Named.named (F := Ideal) κ "m_scale" (φ := .f32) 0x3FC48605#32 = (((5463681 / 8388608 : ℝ)⁻¹ : ℝ) : EReal) :=
  IdealRules.named_const.ideal_named_scalar _ _ _ _ rfl
theorem named_v : Named.named (F := Ideal) κ "v_scale" (φ := .f32) 0x42C8E6D3#32 = (((2672307 / 268435456 : ℝ)⁻¹ : ℝ) : EReal) :=
  IdealRules.named_const.ideal_named_scalar _ _ _ _ rfl

/-! ## What a block holds, number by number -/

section
variable (w g h mo v : FVec Ideal S1x352x1024 .f32) (r : Fin 352) (j : Fin 1024)

theorem blk5 : (show EReal from out0_5 (F := Ideal) w g h mo v (ix3 0 r j)) = g (ix3 0 r j) + h (ix3 0 r j) := by
  unfold out0_5
  frame_out
  pointwise [k0_pay5, k0_pay4]
theorem blk6 : (show EReal from out0_6 (F := Ideal) w g h mo v (ix3 0 r j)) = change (w (ix3 0 r j)) (g (ix3 0 r j) + h (ix3 0 r j)) (mo (ix3 0 r j)) (v (ix3 0 r j)) := by
  unfold out0_6
  frame_out
  unfold change
  rw [← scale_m, ← scale_v, ← named_m, ← named_v]
  pointwise [k0_pay1, k0_pay8, k0_pay7, k0_pay6, k0_pay4, moment, square]
theorem blk7 : (show EReal from out0_7 (F := Ideal) w g h mo v (ix3 0 r j)) = moment (g (ix3 0 r j) + h (ix3 0 r j)) (mo (ix3 0 r j)) := by
  unfold out0_7
  frame_out
  pointwise [k0_pay2, k0_pay6, k0_pay4, moment]
theorem blk8 : (show EReal from out0_8 (F := Ideal) w g h mo v (ix3 0 r j)) = square (g (ix3 0 r j) + h (ix3 0 r j)) (v (ix3 0 r j)) := by
  unfold out0_8
  frame_out
  pointwise [k0_pay3, k0_pay7, k0_pay4, square]
end

/-! ## The results -/

/-- A result is its formula, where a block's is. -/
theorem spread (W : FVec Ideal S4x704x1024 .f32) (t : Fin cfg0.N) (r : Fin 352) (j : Fin 1024) :
    W (ix3 (lay t) (row t r) j) = W (((cfg0.win 5).blk t).view.emb (ix3 0 r j)) := by
  blk_point [idx t] <;> rfl

/-- Result 0 as a function of whole arrays. -/
def res5 : FVec Ideal S4x704x1024 .f32 := fun y => (aG m c y + aH m c y : EReal)

theorem final5 : (dats m 0 c).arrAt 5 (cfgs 0).N = res5 m c := by
  refine (dats m 0 c).arrAt_eq_of_covers 5 _ (by decide +kernel) fun t hf y => ?_
  blk_simp
  rw [after0_5]
  idx_vars y
  obtain rfl : y0 = 0 := Subsingleton.elim _ _
  refine (blk5 _ _ _ _ _ y1 y2).trans ?_
  refine Eq.trans ?_ (spread (res5 m c) t y1 y2)
  simp only [in1 m c t y1 y2, in2 m c t y1 y2]
  rfl

theorem equal0 : (dats m 0 c).arrAt 5 (cfgs 0).N = Cert.AdamDownRefIdeal.Value.RES0 (aG m c) (aH m c) := by
  refine (final5 m c).trans ?_
  funext y
  rfl

/-- Result 1 as a function of whole arrays. -/
def res6 : FVec Ideal S4x704x1024 .f32 := fun y => (change (aW m c y) (aG m c y + aH m c y) (aM m c y) (aV m c y) : EReal)

theorem final6 : (dats m 0 c).arrAt 6 (cfgs 0).N = res6 m c := by
  refine (dats m 0 c).arrAt_eq_of_covers 6 _ (by decide +kernel) fun t hf y => ?_
  blk_simp
  rw [after0_6]
  idx_vars y
  obtain rfl : y0 = 0 := Subsingleton.elim _ _
  refine (blk6 _ _ _ _ _ y1 y2).trans ?_
  refine Eq.trans ?_ (spread (res6 m c) t y1 y2)
  simp only [in0 m c t y1 y2, in1 m c t y1 y2, in2 m c t y1 y2, in3 m c t y1 y2, in4 m c t y1 y2]
  rfl

theorem equal1 : (dats m 0 c).arrAt 6 (cfgs 0).N = Cert.AdamDownRefIdeal.Value.RES1 (aW m c) (aG m c) (aH m c) (aM m c) (aV m c) := by
  refine (final6 m c).trans ?_
  funext y
  rfl

/-- Result 2 as a function of whole arrays. -/
def res7 : FVec Ideal S4x704x1024 .f32 := fun y => (moment (aG m c y + aH m c y) (aM m c y) : EReal)

theorem final7 : (dats m 0 c).arrAt 7 (cfgs 0).N = res7 m c := by
  refine (dats m 0 c).arrAt_eq_of_covers 7 _ (by decide +kernel) fun t hf y => ?_
  blk_simp
  rw [after0_7]
  idx_vars y
  obtain rfl : y0 = 0 := Subsingleton.elim _ _
  refine (blk7 _ _ _ _ _ y1 y2).trans ?_
  refine Eq.trans ?_ (spread (res7 m c) t y1 y2)
  simp only [in1 m c t y1 y2, in2 m c t y1 y2, in3 m c t y1 y2]
  rfl

theorem equal2 : (dats m 0 c).arrAt 7 (cfgs 0).N = Cert.AdamDownRefIdeal.Value.RES2 (aG m c) (aH m c) (aM m c) := by
  refine (final7 m c).trans ?_
  funext y
  rfl

/-- Result 3 as a function of whole arrays. -/
def res8 : FVec Ideal S4x704x1024 .f32 := fun y => (square (aG m c y + aH m c y) (aV m c y) : EReal)

theorem final8 : (dats m 0 c).arrAt 8 (cfgs 0).N = res8 m c := by
  refine (dats m 0 c).arrAt_eq_of_covers 8 _ (by decide +kernel) fun t hf y => ?_
  blk_simp
  rw [after0_8]
  idx_vars y
  obtain rfl : y0 = 0 := Subsingleton.elim _ _
  refine (blk8 _ _ _ _ _ y1 y2).trans ?_
  refine Eq.trans ?_ (spread (res8 m c) t y1 y2)
  simp only [in1 m c t y1 y2, in2 m c t y1 y2, in4 m c t y1 y2]
  rfl

theorem equal3 : (dats m 0 c).arrAt 8 (cfgs 0).N = Cert.AdamDownRefIdeal.Value.RES3 (aG m c) (aH m c) (aV m c) := by
  refine (final8 m c).trans ?_
  funext y
  rfl

end Cert.AdamDownIdeal.Value
end
-- ==== Proof.Optimiser.Small.lean ====
module
public import Idealize.ShloMosaic.Lib.Pipeline.ReadBack
public import Idealize.ShloMosaic.Lib.Pipeline.ValueKit
public import Idealize.ShloMosaic.Lib.Pointwise
public import proofs.«01_k».proof.Proof.Gen.AdamSmallIdeal.Value
public import proofs.«01_k».proof.Proof.Gen.AdamSmallRefIdeal.Run
public import proofs.«01_k».proof.Proof.Optimiser.Step

@[expose] public section
set_option maxRecDepth 16384
noncomputable section
open Idealize.ShloMosaic Idealize.ShloMosaic.TcCoe Idealize.SL.Sem
open Idealize.ShloMosaic.Pipeline (Dat)
namespace Cert.AdamSmallRefIdeal.Value
open Cert.AdamSmallRefIdeal Cert.AdamSmallRefIdeal.Gen Idealize.ShloMosaic.StableHlo

/-! ## The reference's results, part by part -/

/-- The reference's result 0 of its arguments. -/
def RES0 (ga : FVec Ideal S1x2576x128 .f32) (gb : FVec Ideal S1x2576x128 .f32) : FVec Ideal S1x2576x128 .f32 :=
  addf ga gb

/-- The reference's result 1 of its arguments. -/
def RES1 (w : FVec Ideal S1x2576x128 .f32) (ga : FVec Ideal S1x2576x128 .f32) (gb : FVec Ideal S1x2576x128 .f32) (mo : FVec Ideal S1x2576x128 .f32) (v : FVec Ideal S1x2576x128 .f32) : FVec Ideal S1x2576x128 .f32 :=
  mulf (broadcastInDim S1x2576x128 ![] bcast_S_S1x2576x128 (constant (F := Ideal) S_ .f32 0xBA83126F#32)) (addf (Host.divf (Host.divf (addf (mulf (broadcastInDim S1x2576x128 ![] bcast_S_S1x2576x128 (constant (F := Ideal) S_ .f32 0x3F666666#32)) mo) (mulf (broadcastInDim S1x2576x128 ![] bcast_S_S1x2576x128 (constant (F := Ideal) S_ .f32 0x3DCCCCCD#32)) (addf ga gb))) (broadcastInDim S1x2576x128 ![] bcast_S_S1x2576x128 (constant (F := Ideal) S_ .f32 0x3F26BD02#32))) (addf (Host.sqrt (Host.divf (addf (mulf (broadcastInDim S1x2576x128 ![] bcast_S_S1x2576x128 (constant (F := Ideal) S_ .f32 0x3F7FBE77#32)) v) (mulf (broadcastInDim S1x2576x128 ![] bcast_S_S1x2576x128 (constant (F := Ideal) S_ .f32 0x3A83126F#32)) (mulf (addf ga gb) (addf ga gb)))) (broadcastInDim S1x2576x128 ![] bcast_S_S1x2576x128 (constant (F := Ideal) S_ .f32 0x3C231ACC#32)))) (broadcastInDim S1x2576x128 ![] bcast_S_S1x2576x128 (constant (F := Ideal) S_ .f32 0x322BCC77#32)))) (mulf (broadcastInDim S1x2576x128 ![] bcast_S_S1x2576x128 (constant (F := Ideal) S_ .f32 0x3C23D70A#32)) w))

/-- The reference's result 2 of its arguments. -/
def RES2 (ga : FVec Ideal S1x2576x128 .f32) (gb : FVec Ideal S1x2576x128 .f32) (mo : FVec Ideal S1x2576x128 .f32) : FVec Ideal S1x2576x128 .f32 :=
  addf (mulf (broadcastInDim S1x2576x128 ![] bcast_S_S1x2576x128 (constant (F := Ideal) S_ .f32 0x3F666666#32)) mo) (mulf (broadcastInDim S1x2576x128 ![] bcast_S_S1x2576x128 (constant (F := Ideal) S_ .f32 0x3DCCCCCD#32)) (addf ga gb))

/-- The reference's result 3 of its arguments. -/
def RES3 (ga : FVec Ideal S1x2576x128 .f32) (gb : FVec Ideal S1x2576x128 .f32) (v : FVec Ideal S1x2576x128 .f32) : FVec Ideal S1x2576x128 .f32 :=
  addf (mulf (broadcastInDim S1x2576x128 ![] bcast_S_S1x2576x128 (constant (F := Ideal) S_ .f32 0x3F7FBE77#32)) v) (mulf (broadcastInDim S1x2576x128 ![] bcast_S_S1x2576x128 (constant (F := Ideal) S_ .f32 0x3A83126F#32)) (mulf (addf ga gb) (addf ga gb)))

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES0 (m ((c.tc : Thread nD τ).loc main_arg1)) (m ((c.tc : Thread nD τ).loc main_arg2))
      ∧ r.2.mem ((c.tc : Thread nD τ).loc main_v24) = RES1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5) = RES2 (m ((c.tc : Thread nD τ).loc main_arg1)) (m ((c.tc : Thread nD τ).loc main_arg2)) (m ((c.tc : Thread nD τ).loc main_arg3))
      ∧ r.2.mem ((c.tc : Thread nD τ).loc main_v11) = RES3 (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.AdamSmallRefIdeal.Value
namespace Cert.AdamSmallIdeal.Value
open Cert.AdamSmallIdeal Cert.AdamSmallIdeal.Gen Cert.Optimiser

/-! ## The optimiser's step of the packed small weights -/

variable (m : (ℓ : Loc nD τ sig) → Buf (Elt Ideal) ℓ) (c : Dev nD)

/-- The arguments: the weight, the gradient's two halves and the two moments. -/
abbrev aW : FVec Ideal S1x2576x128 .f32 := m ((c : Thread nD τ).loc main_arg0)
abbrev aG : FVec Ideal S1x2576x128 .f32 := m ((c : Thread nD τ).loc main_arg1)
abbrev aH : FVec Ideal S1x2576x128 .f32 := m ((c : Thread nD τ).loc main_arg2)
abbrev aM : FVec Ideal S1x2576x128 .f32 := m ((c : Thread nD τ).loc main_arg3)
abbrev aV : FVec Ideal S1x2576x128 .f32 := m ((c : Thread nD τ).loc main_arg4)

/-- The kernel's two named constants. -/
theorem named_m : Named.named (F := Ideal) κ "m_scale" (φ := .f32) 0x3FC48605#32 = (((5463681 / 8388608 : ℝ)⁻¹ : ℝ) : EReal) :=
  IdealRules.named_const.ideal_named_scalar _ _ _ _ rfl
theorem named_v : Named.named (F := Ideal) κ "v_scale" (φ := .f32) 0x42C8E6D3#32 = (((2672307 / 268435456 : ℝ)⁻¹ : ℝ) : EReal) :=
  IdealRules.named_const.ideal_named_scalar _ _ _ _ rfl

/-! ## The results, number by number: the one block is the whole array -/

theorem at5 (w g h mo v : FVec Ideal S1x2576x128 .f32) (y : S1x2576x128.Idx) : (show EReal from G5 (F := Ideal) w g h mo v y) = g y + h y := by
  pointwise [G5, k0_pay5, k0_pay4]

theorem equal0 : (dats m 0 c).arrAt 5 (cfgs 0).N = Cert.AdamSmallRefIdeal.Value.RES0 (aG m c) (aH m c) := by
  refine (final5 m c).trans ?_
  funext y
  refine (at5 _ _ _ _ _ y).trans ?_
  rfl

theorem at6 (w g h mo v : FVec Ideal S1x2576x128 .f32) (y : S1x2576x128.Idx) : (show EReal from G6 (F := Ideal) w g h mo v y) = change (w y) (g y + h y) (mo y) (v y) := by
  unfold change
  rw [← scale_m, ← scale_v, ← named_m, ← named_v]
  pointwise [G6, k0_pay1, k0_pay8, k0_pay7, k0_pay6, k0_pay4, moment, square]

theorem equal1 : (dats m 0 c).arrAt 6 (cfgs 0).N = Cert.AdamSmallRefIdeal.Value.RES1 (aW m c) (aG m c) (aH m c) (aM m c) (aV m c) := by
  refine (final6 m c).trans ?_
  funext y
  refine (at6 _ _ _ _ _ y).trans ?_
  rfl

theorem at7 (w g h mo v : FVec Ideal S1x2576x128 .f32) (y : S1x2576x128.Idx) : (show EReal from G7 (F := Ideal) w g h mo v y) = moment (g y + h y) (mo y) := by
  pointwise [G7, k0_pay2, k0_pay6, k0_pay4, moment]

theorem equal2 : (dats m 0 c).arrAt 7 (cfgs 0).N = Cert.AdamSmallRefIdeal.Value.RES2 (aG m c) (aH m c) (aM m c) := by
  refine (final7 m c).trans ?_
  funext y
  refine (at7 _ _ _ _ _ y).trans ?_
  rfl

theorem at8 (w g h mo v : FVec Ideal S1x2576x128 .f32) (y : S1x2576x128.Idx) : (show EReal from G8 (F := Ideal) w g h mo v y) = square (g y + h y) (v y) := by
  pointwise [G8, k0_pay3, k0_pay7, k0_pay4, square]

theorem equal3 : (dats m 0 c).arrAt 8 (cfgs 0).N = Cert.AdamSmallRefIdeal.Value.RES3 (aG m c) (aH m c) (aV m c) := by
  refine (final8 m c).trans ?_
  funext y
  refine (at8 _ _ _ _ _ y).trans ?_
  rfl

end Cert.AdamSmallIdeal.Value
end
-- ==== Proof.Cast.In.lean ====
module
public import Idealize.ShloMosaic.Lib.Pipeline.ReadBack
public import Idealize.ShloMosaic.Lib.Pipeline.ValueKit
public import Idealize.ShloMosaic.Lib.Pointwise
public import proofs.«01_k».proof.Proof.Gen.CastInIdeal.Value
public import proofs.«01_k».proof.Proof.Gen.CastInRefIdeal.Run

@[expose] public section
set_option maxRecDepth 16384
noncomputable section
open Idealize.ShloMosaic Idealize.ShloMosaic.TcCoe Idealize.SL.Sem
open Idealize.ShloMosaic.Pipeline (Dat)
namespace Cert.CastInRefIdeal.Value
open Cert.CastInRefIdeal Cert.CastInRefIdeal.Gen Idealize.ShloMosaic.StableHlo

/-! ## The reference's results, part by part -/

/-- The reference's result 0 of its arguments. -/
def RES (w : FVec Ideal S4x1024x648 .f32) : FVec Ideal S4x1024x648 .bf16 :=
  truncf .bf16 w bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES (m ((c.tc : Thread nD τ).loc main_arg0))
      ∧ r.2.mem ((c.tc : Thread nD τ).loc main_arg0) = m ((c.tc : Thread nD τ).loc main_arg0) :=
  run m ρ

end Cert.CastInRefIdeal.Value
namespace Cert.CastInIdeal.Value
open Cert.CastInIdeal Cert.CastInIdeal.Gen

/-! ## The weight's cast, block of rows by block of rows -/

variable (m : (ℓ : Loc nD τ sig) → Buf (Elt Ideal) ℓ) (c : Dev nD)

/-- The argument. -/
abbrev aW : FVec Ideal S4x1024x648 .f32 := m ((c : Thread nD τ).loc main_arg0)

theorem idx : ∀ t : Fin cfg0.N, win0_0.index t = ![t.val / 2, t.val % 2, 0] ∧ win0_1.index t = ![t.val / 2, t.val % 2, 0] :=
  (by decide +kernel : ∀ t : Fin grid0.N, _)

/-- The layer of block `t`. -/
def lay (t : Fin cfg0.N) : Fin 4 := ⟨t.val / 2, by have : t.val < 8 := lt_of_lt_of_eq t.isLt N_0; omega⟩
/-- Row `r` of block `t` in its layer. -/
def row (t : Fin cfg0.N) (r : Fin 512) : Fin 1024 := ⟨t.val % 2 * 512 + r.val, by have : t.val % 2 < 2 := Nat.mod_lt _ (by decide); omega⟩

theorem in0 (t : Fin cfg0.N) (r : Fin 512) (j : Fin 648) : (show FVec Ideal S1x512x648 .f32 from iblk m c 0 t) (ix3 0 r j) = aW m c (ix3 (lay t) (row t r) j) := by
  blk_point [iblk, V, idx t] <;> rfl

/-- What a block holds, number by number. -/
theorem blk1 (w : FVec Ideal S1x512x648 .f32) (r : Fin 512) (j : Fin 648) : (show EReal from out0_1 (F := Ideal) w (ix3 0 r j)) = w (ix3 0 r j) := by
  unfold out0_1
  frame_out
  pointwise [k0_pay1]

/-- A result is its formula, where a block's is. -/
theorem spread (W : FVec Ideal S4x1024x648 .bf16) (t : Fin cfg0.N) (r : Fin 512) (j : Fin 648) :
    W (ix3 (lay t) (row t r) j) = W (((cfg0.win 1).blk t).view.emb (ix3 0 r j)) := by
  blk_point [idx t] <;> rfl

/-- The result as a function of the whole array. -/
def res1 : FVec Ideal S4x1024x648 .bf16 := fun y => (aW m c y : EReal)

theorem whole1 : (dats m 0 c).arrAt 1 (cfgs 0).N = res1 m c := by
  refine (dats m 0 c).arrAt_eq_of_covers 1 _ (by decide +kernel) fun t hf y => ?_
  blk_simp
  rw [after0_1]
  idx_vars y
  obtain rfl : y0 = 0 := Subsingleton.elim _ _
  refine (blk1 _ y1 y2).trans ?_
  refine Eq.trans ?_ (spread (res1 m c) t y1 y2)
  simp only [in0 m c t y1 y2]
  rfl

theorem equal : (dats m 0 c).arrAt 1 (cfgs 0).N = Cert.CastInRefIdeal.Value.RES (aW m c) := by
  refine (whole1 m c).trans ?_
  funext y
  rfl

end Cert.CastInIdeal.Value
end
-- ==== Proof.Cast.Out.lean ====
module
public import Idealize.ShloMosaic.Lib.Pipeline.ReadBack
public import Idealize.ShloMosaic.Lib.Pipeline.ValueKit
public import Idealize.ShloMosaic.Lib.Pointwise
public import proofs.«01_k».proof.Proof.Gen.CastOutIdeal.Value
public import proofs.«01_k».proof.Proof.Gen.CastOutRefIdeal.Run

@[expose] public section
set_option maxRecDepth 16384
noncomputable section
open Idealize.ShloMosaic Idealize.ShloMosaic.TcCoe Idealize.SL.Sem
open Idealize.ShloMosaic.Pipeline (Dat)
namespace Cert.CastOutRefIdeal.Value
open Cert.CastOutRefIdeal Cert.CastOutRefIdeal.Gen Idealize.ShloMosaic.StableHlo

/-! ## The reference's results, part by part -/

/-- The reference's result 0 of its arguments. -/
def RES (w : FVec Ideal S4x256x1024 .f32) : FVec Ideal S4x256x1024 .bf16 :=
  truncf .bf16 w bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES (m ((c.tc : Thread nD τ).loc main_arg0))
      ∧ r.2.mem ((c.tc : Thread nD τ).loc main_arg0) = m ((c.tc : Thread nD τ).loc main_arg0) :=
  run m ρ

end Cert.CastOutRefIdeal.Value
namespace Cert.CastOutIdeal.Value
open Cert.CastOutIdeal Cert.CastOutIdeal.Gen

/-! ## The weight's cast, block of rows by block of rows -/

variable (m : (ℓ : Loc nD τ sig) → Buf (Elt Ideal) ℓ) (c : Dev nD)

/-- The argument. -/
abbrev aW : FVec Ideal S4x256x1024 .f32 := m ((c : Thread nD τ).loc main_arg0)

theorem idx : ∀ t : Fin cfg0.N, win0_0.index t = ![t.val / 1, t.val % 1, 0] ∧ win0_1.index t = ![t.val / 1, t.val % 1, 0] :=
  (by decide +kernel : ∀ t : Fin grid0.N, _)

/-- The layer of block `t`. -/
def lay (t : Fin cfg0.N) : Fin 4 := ⟨t.val / 1, by have : t.val < 4 := lt_of_lt_of_eq t.isLt N_0; omega⟩
/-- Row `r` of block `t` in its layer. -/
def row (t : Fin cfg0.N) (r : Fin 256) : Fin 256 := ⟨t.val % 1 * 256 + r.val, by have : t.val % 1 < 1 := Nat.mod_lt _ (by decide); omega⟩

theorem in0 (t : Fin cfg0.N) (r : Fin 256) (j : Fin 1024) : (show FVec Ideal S1x256x1024 .f32 from iblk m c 0 t) (ix3 0 r j) = aW m c (ix3 (lay t) (row t r) j) := by
  blk_point [iblk, V, idx t] <;> rfl

/-- What a block holds, number by number. -/
theorem blk1 (w : FVec Ideal S1x256x1024 .f32) (r : Fin 256) (j : Fin 1024) : (show EReal from out0_1 (F := Ideal) w (ix3 0 r j)) = w (ix3 0 r j) := by
  unfold out0_1
  frame_out
  pointwise [k0_pay1]

/-- A result is its formula, where a block's is. -/
theorem spread (W : FVec Ideal S4x256x1024 .bf16) (t : Fin cfg0.N) (r : Fin 256) (j : Fin 1024) :
    W (ix3 (lay t) (row t r) j) = W (((cfg0.win 1).blk t).view.emb (ix3 0 r j)) := by
  blk_point [idx t] <;> rfl

/-- The result as a function of the whole array. -/
def res1 : FVec Ideal S4x256x1024 .bf16 := fun y => (aW m c y : EReal)

theorem whole1 : (dats m 0 c).arrAt 1 (cfgs 0).N = res1 m c := by
  refine (dats m 0 c).arrAt_eq_of_covers 1 _ (by decide +kernel) fun t hf y => ?_
  blk_simp
  rw [after0_1]
  idx_vars y
  obtain rfl : y0 = 0 := Subsingleton.elim _ _
  refine (blk1 _ y1 y2).trans ?_
  refine Eq.trans ?_ (spread (res1 m c) t y1 y2)
  simp only [in0 m c t y1 y2]
  rfl

theorem equal : (dats m 0 c).arrAt 1 (cfgs 0).N = Cert.CastOutRefIdeal.Value.RES (aW m c) := by
  refine (whole1 m c).trans ?_
  funext y
  rfl

end Cert.CastOutIdeal.Value
end
-- ==== Proof.Cast.Up.lean ====
module
public import Idealize.ShloMosaic.Lib.Pipeline.ReadBack
public import Idealize.ShloMosaic.Lib.Pipeline.ValueKit
public import Idealize.ShloMosaic.Lib.Pointwise
public import proofs.«01_k».proof.Proof.Gen.CastUpIdeal.Value
public import proofs.«01_k».proof.Proof.Gen.CastUpRefIdeal.Run

@[expose] public section
set_option maxRecDepth 16384
noncomputable section
open Idealize.ShloMosaic Idealize.ShloMosaic.TcCoe Idealize.SL.Sem
open Idealize.ShloMosaic.Pipeline (Dat)
namespace Cert.CastUpRefIdeal.Value
open Cert.CastUpRefIdeal Cert.CastUpRefIdeal.Gen Idealize.ShloMosaic.StableHlo

/-! ## The reference's results, part by part -/

/-- The reference's result 0 of its arguments. -/
def RES (w : FVec Ideal S4x1024x1408 .f32) : FVec Ideal S4x1024x1408 .bf16 :=
  truncf .bf16 w bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES (m ((c.tc : Thread nD τ).loc main_arg0))
      ∧ r.2.mem ((c.tc : Thread nD τ).loc main_arg0) = m ((c.tc : Thread nD τ).loc main_arg0) :=
  run m ρ

end Cert.CastUpRefIdeal.Value
namespace Cert.CastUpIdeal.Value
open Cert.CastUpIdeal Cert.CastUpIdeal.Gen

/-! ## The weight's cast, block of rows by block of rows -/

variable (m : (ℓ : Loc nD τ sig) → Buf (Elt Ideal) ℓ) (c : Dev nD)

/-- The argument. -/
abbrev aW : FVec Ideal S4x1024x1408 .f32 := m ((c : Thread nD τ).loc main_arg0)

theorem idx : ∀ t : Fin cfg0.N, win0_0.index t = ![t.val / 4, t.val % 4, 0] ∧ win0_1.index t = ![t.val / 4, t.val % 4, 0] :=
  (by decide +kernel : ∀ t : Fin grid0.N, _)

/-- The layer of block `t`. -/
def lay (t : Fin cfg0.N) : Fin 4 := ⟨t.val / 4, by have : t.val < 16 := lt_of_lt_of_eq t.isLt N_0; omega⟩
/-- Row `r` of block `t` in its layer. -/
def row (t : Fin cfg0.N) (r : Fin 256) : Fin 1024 := ⟨t.val % 4 * 256 + r.val, by have : t.val % 4 < 4 := Nat.mod_lt _ (by decide); omega⟩

theorem in0 (t : Fin cfg0.N) (r : Fin 256) (j : Fin 1408) : (show FVec Ideal S1x256x1408 .f32 from iblk m c 0 t) (ix3 0 r j) = aW m c (ix3 (lay t) (row t r) j) := by
  blk_point [iblk, V, idx t] <;> rfl

/-- What a block holds, number by number. -/
theorem blk1 (w : FVec Ideal S1x256x1408 .f32) (r : Fin 256) (j : Fin 1408) : (show EReal from out0_1 (F := Ideal) w (ix3 0 r j)) = w (ix3 0 r j) := by
  unfold out0_1
  frame_out
  pointwise [k0_pay1]

/-- A result is its formula, where a block's is. -/
theorem spread (W : FVec Ideal S4x1024x1408 .bf16) (t : Fin cfg0.N) (r : Fin 256) (j : Fin 1408) :
    W (ix3 (lay t) (row t r) j) = W (((cfg0.win 1).blk t).view.emb (ix3 0 r j)) := by
  blk_point [idx t] <;> rfl

/-- The result as a function of the whole array. -/
def res1 : FVec Ideal S4x1024x1408 .bf16 := fun y => (aW m c y : EReal)

theorem whole1 : (dats m 0 c).arrAt 1 (cfgs 0).N = res1 m c := by
  refine (dats m 0 c).arrAt_eq_of_covers 1 _ (by decide +kernel) fun t hf y => ?_
  blk_simp
  rw [after0_1]
  idx_vars y
  obtain rfl : y0 = 0 := Subsingleton.elim _ _
  refine (blk1 _ y1 y2).trans ?_
  refine Eq.trans ?_ (spread (res1 m c) t y1 y2)
  simp only [in0 m c t y1 y2]
  rfl

theorem equal : (dats m 0 c).arrAt 1 (cfgs 0).N = Cert.CastUpRefIdeal.Value.RES (aW m c) := by
  refine (whole1 m c).trans ?_
  funext y
  rfl

end Cert.CastUpIdeal.Value
end
-- ==== Proof.Cast.Down.lean ====
module
public import Idealize.ShloMosaic.Lib.Pipeline.ReadBack
public import Idealize.ShloMosaic.Lib.Pipeline.ValueKit
public import Idealize.ShloMosaic.Lib.Pointwise
public import proofs.«01_k».proof.Proof.Gen.CastDownIdeal.Value
public import proofs.«01_k».proof.Proof.Gen.CastDownRefIdeal.Run

@[expose] public section
set_option maxRecDepth 16384
noncomputable section
open Idealize.ShloMosaic Idealize.ShloMosaic.TcCoe Idealize.SL.Sem
open Idealize.ShloMosaic.Pipeline (Dat)
namespace Cert.CastDownRefIdeal.Value
open Cert.CastDownRefIdeal Cert.CastDownRefIdeal.Gen Idealize.ShloMosaic.StableHlo

/-! ## The reference's results, part by part -/

/-- The reference's result 0 of its arguments. -/
def RES (w : FVec Ideal S4x704x1024 .f32) : FVec Ideal S4x704x1024 .bf16 :=
  truncf .bf16 w bitsLt_bf16_f32

/-- The reference's run with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RES (m ((c.tc : Thread nD τ).loc main_arg0))
      ∧ r.2.mem ((c.tc : Thread nD τ).loc main_arg0) = m ((c.tc : Thread nD τ).loc main_arg0) :=
  run m ρ

end Cert.CastDownRefIdeal.Value
namespace Cert.CastDownIdeal.Value
open Cert.CastDownIdeal Cert.CastDownIdeal.Gen

/-! ## The weight's cast, block of rows by block of rows -/

variable (m : (ℓ : Loc nD τ sig) → Buf (Elt Ideal) ℓ) (c : Dev nD)

/-- The argument. -/
abbrev aW : FVec Ideal S4x704x1024 .f32 := m ((c : Thread nD τ).loc main_arg0)

theorem idx : ∀ t : Fin cfg0.N, win0_0.index t = ![t.val / 2, t.val % 2, 0] ∧ win0_1.index t = ![t.val / 2, t.val % 2, 0] :=
  (by decide +kernel : ∀ t : Fin grid0.N, _)

/-- The layer of block `t`. -/
def lay (t : Fin cfg0.N) : Fin 4 := ⟨t.val / 2, by have : t.val < 8 := lt_of_lt_of_eq t.isLt N_0; omega⟩
/-- Row `r` of block `t` in its layer. -/
def row (t : Fin cfg0.N) (r : Fin 352) : Fin 704 := ⟨t.val % 2 * 352 + r.val, by have : t.val % 2 < 2 := Nat.mod_lt _ (by decide); omega⟩

theorem in0 (t : Fin cfg0.N) (r : Fin 352) (j : Fin 1024) : (show FVec Ideal S1x352x1024 .f32 from iblk m c 0 t) (ix3 0 r j) = aW m c (ix3 (lay t) (row t r) j) := by
  blk_point [iblk, V, idx t] <;> rfl

/-- What a block holds, number by number. -/
theorem blk1 (w : FVec Ideal S1x352x1024 .f32) (r : Fin 352) (j : Fin 1024) : (show EReal from out0_1 (F := Ideal) w (ix3 0 r j)) = w (ix3 0 r j) := by
  unfold out0_1
  frame_out
  pointwise [k0_pay1]

/-- A result is its formula, where a block's is. -/
theorem spread (W : FVec Ideal S4x704x1024 .bf16) (t : Fin cfg0.N) (r : Fin 352) (j : Fin 1024) :
    W (ix3 (lay t) (row t r) j) = W (((cfg0.win 1).blk t).view.emb (ix3 0 r j)) := by
  blk_point [idx t] <;> rfl

/-- The result as a function of the whole array. -/
def res1 : FVec Ideal S4x704x1024 .bf16 := fun y => (aW m c y : EReal)

theorem whole1 : (dats m 0 c).arrAt 1 (cfgs 0).N = res1 m c := by
  refine (dats m 0 c).arrAt_eq_of_covers 1 _ (by decide +kernel) fun t hf y => ?_
  blk_simp
  rw [after0_1]
  idx_vars y
  obtain rfl : y0 = 0 := Subsingleton.elim _ _
  refine (blk1 _ y1 y2).trans ?_
  refine Eq.trans ?_ (spread (res1 m c) t y1 y2)
  simp only [in0 m c t y1 y2]
  rfl

theorem equal : (dats m 0 c).arrAt 1 (cfgs 0).N = Cert.CastDownRefIdeal.Value.RES (aW m c) := by
  refine (whole1 m c).trans ?_
  funext y
  rfl

end Cert.CastDownIdeal.Value
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import proofs.«01_k».proof.Proof.Gating.Equal
public import proofs.«01_k».proof.Proof.Gen.UpGrad
public import proofs.«01_k».proof.Proof.Gen.UpGradIdeal
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.UpGradRefIdeal
public import proofs.«01_k».proof.Proof.Gen.UpGradRefIdeal.Run
public import proofs.«01_k».proof.Proof.Conv.Equal
public import proofs.«01_k».proof.Proof.Gen.DwUp
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Weights.Up
public import proofs.«01_k».proof.Proof.Gen.DwDown
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Weights.Down
public import proofs.«01_k».proof.Proof.Gen.DwInA
public import proofs.«01_k».proof.Proof.Gen.DwInAIdeal
public import proofs.«01_k».proof.Proof.Gen.DwInAIdeal.Skeleton
public import proofs.«01_k».proof.Proof.Gen.DwInAIdeal.Launch
public import proofs.«01_k».proof.Proof.Gen.DwInAIdeal.Points
public import proofs.«01_k».proof.Proof.Gen.DwInAIdeal.Frame
public import proofs.«01_k».proof.Proof.Gen.DwInAIdeal.Value
public import proofs.«01_k».proof.Proof.Gen.DwInARefIdeal
public import proofs.«01_k».proof.Proof.Gen.DwInARefIdeal.Run
public import proofs.«01_k».proof.Proof.Weights.InA
public import proofs.«01_k».proof.Proof.Gen.DwInB
public import proofs.«01_k».proof.Proof.Gen.DwInBIdeal
public import proofs.«01_k».proof.Proof.Gen.DwInBIdeal.Skeleton
public import proofs.«01_k».proof.Proof.Gen.DwInBIdeal.Launch
public import proofs.«01_k».proof.Proof.Gen.DwInBIdeal.Points
public import proofs.«01_k».proof.Proof.Gen.DwInBIdeal.Frame
public import proofs.«01_k».proof.Proof.Gen.DwInBIdeal.Value
public import proofs.«01_k».proof.Proof.Gen.DwInBRefIdeal
public import proofs.«01_k».proof.Proof.Gen.DwInBRefIdeal.Run
public import proofs.«01_k».proof.Proof.Weights.InB
public import proofs.«01_k».proof.Proof.Gen.DwOut
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Weights.Out
public import proofs.«01_k».proof.Proof.Gen.InGrad
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Back.In
public import proofs.«01_k».proof.Proof.Gen.LossHead
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Back.Loss
public import proofs.«01_k».proof.Proof.Gen.DownGrad
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.Gen.Pre_down_finite
public import proofs.«01_k».proof.Proof.Back.Down
public import proofs.«01_k».proof.Proof.Gen.MixGrad
public import proofs.«01_k».proof.Proof.Gen.MixGradIdeal
public import proofs.«01_k».proof.Proof.Gen.MixGradIdeal.Skeleton
public import proofs.«01_k».proof.Proof.Gen.MixGradIdeal.Launch
public import proofs.«01_k».proof.Proof.Gen.MixGradIdeal.Points
public import proofs.«01_k».proof.Proof.Gen.MixGradIdeal.Frame
public import proofs.«01_k».proof.Proof.Gen.MixGradIdeal.Value
public import proofs.«01_k».proof.Proof.Gen.MixGradRefIdeal
public import proofs.«01_k».proof.Proof.Gen.MixGradRefIdeal.Run
public import proofs.«01_k».proof.Proof.Mix.Equal
public import proofs.«01_k».proof.Proof.Gen.InFwd
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Forward.In
public import proofs.«01_k».proof.Proof.Gen.DownFwd
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Forward.Down
public import proofs.«01_k».proof.Proof.Gen.OutFwd
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Forward.Out
public import proofs.«01_k».proof.Proof.Gen.UpFwd
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Up.Equal
public import proofs.«01_k».proof.Proof.Gen.GateFwd
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Forward.Gate
public import proofs.«01_k».proof.Proof.Gen.AdamIn.Frame
public import proofs.«01_k».proof.Proof.Gen.AdamIn
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Optimiser.In
public import proofs.«01_k».proof.Proof.Gen.AdamOut.Frame
public import proofs.«01_k».proof.Proof.Gen.AdamOut
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Optimiser.Out
public import proofs.«01_k».proof.Proof.Gen.AdamUp.Frame
public import proofs.«01_k».proof.Proof.Gen.AdamUp
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Optimiser.Up
public import proofs.«01_k».proof.Proof.Gen.AdamDown.Frame
public import proofs.«01_k».proof.Proof.Gen.AdamDown
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Optimiser.Down
public import proofs.«01_k».proof.Proof.Gen.AdamSmall.Frame
public import proofs.«01_k».proof.Proof.Gen.AdamSmall
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Optimiser.Small
public import proofs.«01_k».proof.Proof.Gen.CastIn
public import proofs.«01_k».proof.Proof.Gen.CastInIdeal
public import proofs.«01_k».proof.Proof.Gen.CastInIdeal.Skeleton
public import proofs.«01_k».proof.Proof.Gen.CastInIdeal.Launch
public import proofs.«01_k».proof.Proof.Gen.CastInIdeal.Points
public import proofs.«01_k».proof.Proof.Gen.CastInIdeal.Frame
public import proofs.«01_k».proof.Proof.Gen.CastInIdeal.Value
public import proofs.«01_k».proof.Proof.Gen.CastInRefIdeal
public import proofs.«01_k».proof.Proof.Gen.CastInRefIdeal.Run
public import proofs.«01_k».proof.Proof.Cast.In
public import proofs.«01_k».proof.Proof.Gen.CastOut
public import proofs.«01_k».proof.Proof.Gen.CastOutIdeal
public import proofs.«01_k».proof.Proof.Gen.CastOutIdeal.Skeleton
public import proofs.«01_k».proof.Proof.Gen.CastOutIdeal.Launch
public import proofs.«01_k».proof.Proof.Gen.CastOutIdeal.Points
public import proofs.«01_k».proof.Proof.Gen.CastOutIdeal.Frame
public import proofs.«01_k».proof.Proof.Gen.CastOutIdeal.Value
public import proofs.«01_k».proof.Proof.Gen.CastOutRefIdeal
public import proofs.«01_k».proof.Proof.Gen.CastOutRefIdeal.Run
public import proofs.«01_k».proof.Proof.Cast.Out
public import proofs.«01_k».proof.Proof.Gen.CastUp
public import proofs.«01_k».proof.Proof.Gen.CastUpIdeal
public import proofs.«01_k».proof.Proof.Gen.CastUpIdeal.Skeleton
public import proofs.«01_k».proof.Proof.Gen.CastUpIdeal.Launch
public import proofs.«01_k».proof.Proof.Gen.CastUpIdeal.Points
public import proofs.«01_k».proof.Proof.Gen.CastUpIdeal.Frame
public import proofs.«01_k».proof.Proof.Gen.CastUpIdeal.Value
public import proofs.«01_k».proof.Proof.Gen.CastUpRefIdeal
public import proofs.«01_k».proof.Proof.Gen.CastUpRefIdeal.Run
public import proofs.«01_k».proof.Proof.Cast.Up
public import proofs.«01_k».proof.Proof.Gen.CastDown
public import proofs.«01_k».proof.Proof.Gen.CastDownIdeal
public import proofs.«01_k».proof.Proof.Gen.CastDownIdeal.Skeleton
public import proofs.«01_k».proof.Proof.Gen.CastDownIdeal.Launch
public import proofs.«01_k».proof.Proof.Gen.CastDownIdeal.Points
public import proofs.«01_k».proof.Proof.Gen.CastDownIdeal.Frame
public import proofs.«01_k».proof.Proof.Gen.CastDownIdeal.Value
public import proofs.«01_k».proof.Proof.Gen.CastDownRefIdeal
public import proofs.«01_k».proof.Proof.Gen.CastDownRefIdeal.Run
public import proofs.«01_k».proof.Proof.Cast.Down

@[expose] public section

set_option maxRecDepth 16384

noncomputable section

namespace Cert.Proof

open Idealize.ShloMosaic Idealize.SL.Sem Cert.Kernel

/-- The two programs have the same bodies. -/
theorem same_bodies : Cert.Kernel.defs₀ (F := Bits) = Cert.KernelIdeal.defs₀ (F := Bits) := by
  unfold Cert.Kernel.defs₀ Cert.KernelIdeal.defs₀
  congr 1
  funext a b
  rcases a with ⟨_ | a, ha⟩
  · rfl
  · exact absurd ha (by omega)

theorem same_defs : Cert.Kernel.defs (F := Bits) = Cert.KernelIdeal.defs (F := Bits) :=
  congrArg (Pipeline.defs Cert.KernelIdeal.pcfgs) same_bodies

/-- The kernel over its own floats runs to its end: the run is the one proved for any float values. -/
theorem frame_kernel : Cert.quiescent_Kernel := fun m ρ _ => by
  rw [same_defs]
  exact Cert.KernelIdeal.Gen.frame (F := Bits) m ρ

theorem frame_kernelIdeal : Cert.quiescent_KernelIdeal :=
  fun m ρ _ => Cert.KernelIdeal.Gen.frame m ρ

/-- The reference has host operations only, hence no counter. -/
theorem frame_referenceIdeal : Cert.quiescent_ReferenceIdeal :=
  fun m' g' _ => (θ_run _ _ _).mono (fun _ h => ⟨fun c => (h c).2.2.2.2.2, sem_eq_zero_of_no_sems rfl _⟩)
    (Cert.ReferenceIdeal.Value.run m' g')

/-- Equal arguments give the kernel and the reference the five same results. -/
theorem algebraic : Cert.algebraic_KernelIdeal_ReferenceIdeal := by
  pair_intro
  · run_from Cert.KernelIdeal.Gen.run_main m g
  · have s : ∀ c, Cert.KernelIdeal.Value.Same m c (StableHlo.launchContents m' c) := fun c =>
      ⟨(hagree c).1, (hagree c).2.1, (hagree c).2.2.1, (hagree c).2.2.2.1, (hagree c).2.2.2.2.1, (hagree c).2.2.2.2.2⟩
    refine (θ_run _ _ _).mono (fun r h c => ?_) (Cert.ReferenceIdeal.Value.run_results m' g')
    obtain ⟨h0, h1, h2, h3, h4, ha⟩ := h c
    refine ⟨h0.trans ?_, h1.trans ?_, h2.trans ?_, h3.trans ?_, h4.trans ?_, ha⟩
    · exact (Cert.KernelIdeal.Value.equal0 m c _ (s c)).symm
    · exact (Cert.KernelIdeal.Value.equal1 m c _ (s c)).symm
    · exact (Cert.KernelIdeal.Value.equal2 m c _ (s c)).symm
    · exact (Cert.KernelIdeal.Value.equal3 m c _ (s c)).symm
    · exact (Cert.KernelIdeal.Value.equal4 m c _ (s c)).symm

/-! ## UpGrad -/

theorem same_bodies_upGrad : Cert.UpGrad.defs₀ (F := Bits) = Cert.UpGradIdeal.defs₀ (F := Bits) := by
  unfold Cert.UpGrad.defs₀ Cert.UpGradIdeal.defs₀
  congr 1
  funext a b
  rcases a with ⟨_ | a, ha⟩
  · rfl
  · exact absurd ha (by omega)

theorem same_defs_upGrad : Cert.UpGrad.defs (F := Bits) = Cert.UpGradIdeal.defs (F := Bits) :=
  congrArg (Pipeline.defs Cert.UpGradIdeal.pcfgs) same_bodies_upGrad

theorem frame_upGrad : Cert.quiescent_UpGrad := fun m ρ _ => by
  rw [same_defs_upGrad]
  exact Cert.UpGradIdeal.Gen.frame (F := Bits) m ρ

theorem frame_upGradIdeal : Cert.quiescent_UpGradIdeal := fun m ρ _ => Cert.UpGradIdeal.Gen.frame m ρ

theorem frame_upGradRefIdeal : Cert.quiescent_UpGradRefIdeal :=
  fun m' g' _ => (θ_run _ _ _).mono (fun _ h => ⟨fun c => (h c).2.2.2.2.2, sem_eq_zero_of_no_sems rfl _⟩)
    (Cert.UpGradRefIdeal.Value.run_results m' g')

/-- Equal arguments give the two programs the same results. -/
theorem algebraic_upGrad : Cert.algebraic_UpGradIdeal_UpGradRefIdeal := fun m g m' g' _ hagree =>
  ⟨fun c => Cert.UpGradRefIdeal.Value.RES0 (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg4)), fun c => Cert.UpGradRefIdeal.Value.RES1 (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)) (m ((c.tc : Thread Cert.UpGradIdeal.nD Cert.UpGradIdeal.τ).loc Cert.UpGradIdeal.main_arg5)), fun c => Cert.UpGradRefIdeal.Value.RES2 (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg3)) (m ((c.tc : Thread Cert.UpGradIdeal.nD Cert.UpGradIdeal.τ).loc Cert.UpGradIdeal.main_arg4)), fun c => Cert.UpGradRefIdeal.Value.RES3 (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) (m ((c.tc : Thread Cert.UpGradIdeal.nD Cert.UpGradIdeal.τ).loc Cert.UpGradIdeal.main_arg2)) (m ((c.tc : Thread Cert.UpGradIdeal.nD Cert.UpGradIdeal.τ).loc Cert.UpGradIdeal.main_arg3)), fun c => Cert.UpGradRefIdeal.Value.RES4 (m ((c.tc : Thread Cert.UpGradIdeal.nD Cert.UpGradIdeal.τ).loc Cert.UpGradIdeal.main_arg0)),
    (θ_run _ _ _).mono (fun r h c => ⟨((h.1 c).1 9).trans (Cert.UpGradIdeal.Value.equal0 m c), ((h.1 c).1 10).trans (Cert.UpGradIdeal.Value.equal1 m c), ((h.1 c).1 11).trans (Cert.UpGradIdeal.Value.equal2 m c), ((h.1 c).1 12).trans (Cert.UpGradIdeal.Value.equal3 m c), ((h.1 c).1 13).trans (Cert.UpGradIdeal.Value.equal4 m c), h.2 c⟩)
      (θ_run_and (Cert.UpGradIdeal.Gen.run_main m g) (Cert.UpGradIdeal.Gen.unchanged m g)),
    (θ_run _ _ _).mono (fun r h c => by
      obtain ⟨h0, h1, h2, h3, h4, ha⟩ := h c
      obtain ⟨a0, a1, a2, a3, a4, a5⟩ := hagree c
      exact ⟨h0.trans (congr (congrArg Cert.UpGradRefIdeal.Value.RES0 a0) a4), h1.trans (congr (congr (congr (congr (congr (congrArg Cert.UpGradRefIdeal.Value.RES1 a0) a1) a2) a3) a4) a5), h2.trans (congr (congr (congr (congrArg Cert.UpGradRefIdeal.Value.RES2 a0) a1) a3) a4), h3.trans (congr (congr (congr (congrArg Cert.UpGradRefIdeal.Value.RES3 a0) a1) a2) a3), h4.trans (congrArg Cert.UpGradRefIdeal.Value.RES4 a0), ha⟩)
      (Cert.UpGradRefIdeal.Value.run_results m' g')⟩

/-! ## DwUp -/

theorem same_bodies_dwUp : Cert.DwUp.defs₀ (F := Bits) = Cert.DwUpIdeal.defs₀ (F := Bits) := by
  unfold Cert.DwUp.defs₀ Cert.DwUpIdeal.defs₀
  congr 1
  funext a b
  rcases a with ⟨_ | a, ha⟩
  · rfl
  · exact absurd ha (by omega)

theorem same_defs_dwUp : Cert.DwUp.defs (F := Bits) = Cert.DwUpIdeal.defs (F := Bits) :=
  congrArg (Pipeline.defs Cert.DwUpIdeal.pcfgs) same_bodies_dwUp

theorem frame_dwUp : Cert.quiescent_DwUp := fun m ρ _ => by
  rw [same_defs_dwUp]
  exact Cert.DwUpIdeal.Gen.frame (F := Bits) m ρ

theorem frame_dwUpIdeal : Cert.quiescent_DwUpIdeal := fun m ρ _ => Cert.DwUpIdeal.Gen.frame m ρ

theorem frame_dwUpRefIdeal : Cert.quiescent_DwUpRefIdeal :=
  fun m' g' _ => (θ_run _ _ _).mono (fun _ h => ⟨fun c => (h c).2, sem_eq_zero_of_no_sems rfl _⟩)
    (Cert.DwUpRefIdeal.Value.run_results m' g')

/-- Equal arguments give the two programs the same results. -/
theorem algebraic_dwUp : Cert.algebraic_DwUpIdeal_DwUpRefIdeal := fun m g m' g' _ hagree =>
  ⟨fun c => Cert.DwUpRefIdeal.Value.RES (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1)) (m ((c.tc : Thread Cert.DwUpIdeal.nD Cert.DwUpIdeal.τ).loc Cert.DwUpIdeal.main_arg2)),
    (θ_run _ _ _).mono (fun r h c => ⟨((h.1 c).1 2).trans (Cert.DwUpIdeal.Value.equal m c), h.2 c⟩)
      (θ_run_and (Cert.DwUpIdeal.Gen.run_main m g) (Cert.DwUpIdeal.Gen.unchanged m g)),
    (θ_run _ _ _).mono (fun r h c => by
      obtain ⟨h0, ha⟩ := h c
      obtain ⟨a0, a1, a2⟩ := hagree c
      exact ⟨h0.trans (congr (congr (congrArg Cert.DwUpRefIdeal.Value.RES a0) a1) a2), ha⟩)
      (Cert.DwUpRefIdeal.Value.run_results m' g')⟩

/-! ## DwDown -/

theorem same_bodies_dwDown : Cert.DwDown.defs₀ (F := Bits) = Cert.DwDownIdeal.defs₀ (F := Bits) := by
  unfold Cert.DwDown.defs₀ Cert.DwDownIdeal.defs₀
  congr 1
  funext a b
  rcases a with ⟨_ | a, ha⟩
  · rfl
  · exact absurd ha (by omega)

theorem same_defs_dwDown : Cert.DwDown.defs (F := Bits) = Cert.DwDownIdeal.defs (F := Bits) :=
  congrArg (Pipeline.defs Cert.DwDownIdeal.pcfgs) same_bodies_dwDown

theorem frame_dwDown : Cert.quiescent_DwDown := fun m ρ _ => by
  rw [same_defs_dwDown]
  exact Cert.DwDownIdeal.Gen.frame (F := Bits) m ρ

theorem frame_dwDownIdeal : Cert.quiescent_DwDownIdeal := fun m ρ _ => Cert.DwDownIdeal.Gen.frame m ρ

theorem frame_dwDownRefIdeal : Cert.quiescent_DwDownRefIdeal :=
  fun m' g' _ => (θ_run _ _ _).mono (fun _ h => ⟨fun c => (h c).2, sem_eq_zero_of_no_sems rfl _⟩)
    (Cert.DwDownRefIdeal.Value.run_results m' g')

/-- Equal arguments give the two programs the same results. -/
theorem algebraic_dwDown : Cert.algebraic_DwDownIdeal_DwDownRefIdeal := fun m g m' g' _ hagree =>
  ⟨fun c => Cert.DwDownRefIdeal.Value.RES (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1)),
    (θ_run _ _ _).mono (fun r h c => ⟨((h.1 c).1 2).trans (Cert.DwDownIdeal.Value.equal m c), h.2 c⟩)
      (θ_run_and (Cert.DwDownIdeal.Gen.run_main m g) (Cert.DwDownIdeal.Gen.unchanged m g)),
    (θ_run _ _ _).mono (fun r h c => by
      obtain ⟨h0, ha⟩ := h c
      obtain ⟨a0, a1⟩ := hagree c
      exact ⟨h0.trans (congr (congrArg Cert.DwDownRefIdeal.Value.RES a0) a1), ha⟩)
      (Cert.DwDownRefIdeal.Value.run_results m' g')⟩

/-! ## DwInA -/

theorem same_bodies_dwInA : Cert.DwInA.defs₀ (F := Bits) = Cert.DwInAIdeal.defs₀ (F := Bits) := by
  unfold Cert.DwInA.defs₀ Cert.DwInAIdeal.defs₀
  congr 1
  funext a b
  rcases a with ⟨_ | a, ha⟩
  · rfl
  · exact absurd ha (by omega)

theorem same_defs_dwInA : Cert.DwInA.defs (F := Bits) = Cert.DwInAIdeal.defs (F := Bits) :=
  congrArg (Pipeline.defs Cert.DwInAIdeal.pcfgs) same_bodies_dwInA

theorem frame_dwInA : Cert.quiescent_DwInA := fun m ρ _ => by
  rw [same_defs_dwInA]
  exact Cert.DwInAIdeal.Gen.frame (F := Bits) m ρ

theorem frame_dwInAIdeal : Cert.quiescent_DwInAIdeal := fun m ρ _ => Cert.DwInAIdeal.Gen.frame m ρ

theorem frame_dwInARefIdeal : Cert.quiescent_DwInARefIdeal :=
  fun m' g' _ => (θ_run _ _ _).mono (fun _ h => ⟨fun c => (h c).2, sem_eq_zero_of_no_sems rfl _⟩)
    (Cert.DwInARefIdeal.Value.run_results m' g')

/-- Equal arguments give the two programs the same results. -/
theorem algebraic_dwInA : Cert.algebraic_DwInAIdeal_DwInARefIdeal := fun m g m' g' _ hagree =>
  ⟨fun c => Cert.DwInARefIdeal.Value.RES (m ((c.tc : Thread Cert.DwInAIdeal.nD Cert.DwInAIdeal.τ).loc Cert.DwInAIdeal.main_arg0)) (m ((c.tc : Thread Cert.DwInAIdeal.nD Cert.DwInAIdeal.τ).loc Cert.DwInAIdeal.main_arg1)) (m ((c.tc : Thread Cert.DwInAIdeal.nD Cert.DwInAIdeal.τ).loc Cert.DwInAIdeal.main_arg2)),
    (θ_run _ _ _).mono (fun r h c => ⟨((h.1 c).1 2).trans (Cert.DwInAIdeal.Value.equal m c), h.2 c⟩)
      (θ_run_and (Cert.DwInAIdeal.Gen.run_main m g) (Cert.DwInAIdeal.Gen.unchanged m g)),
    (θ_run _ _ _).mono (fun r h c => by
      obtain ⟨h0, ha⟩ := h c
      obtain ⟨a0, a1, a2⟩ := hagree c
      exact ⟨h0.trans (congr (congr (congrArg Cert.DwInARefIdeal.Value.RES a0) a1) a2), ha⟩)
      (Cert.DwInARefIdeal.Value.run_results m' g')⟩

/-! ## DwInB -/

theorem same_bodies_dwInB : Cert.DwInB.defs₀ (F := Bits) = Cert.DwInBIdeal.defs₀ (F := Bits) := by
  unfold Cert.DwInB.defs₀ Cert.DwInBIdeal.defs₀
  congr 1
  funext a b
  rcases a with ⟨_ | a, ha⟩
  · rfl
  · exact absurd ha (by omega)

theorem same_defs_dwInB : Cert.DwInB.defs (F := Bits) = Cert.DwInBIdeal.defs (F := Bits) :=
  congrArg (Pipeline.defs Cert.DwInBIdeal.pcfgs) same_bodies_dwInB

theorem frame_dwInB : Cert.quiescent_DwInB := fun m ρ _ => by
  rw [same_defs_dwInB]
  exact Cert.DwInBIdeal.Gen.frame (F := Bits) m ρ

theorem frame_dwInBIdeal : Cert.quiescent_DwInBIdeal := fun m ρ _ => Cert.DwInBIdeal.Gen.frame m ρ

theorem frame_dwInBRefIdeal : Cert.quiescent_DwInBRefIdeal :=
  fun m' g' _ => (θ_run _ _ _).mono (fun _ h => ⟨fun c => (h c).2, sem_eq_zero_of_no_sems rfl _⟩)
    (Cert.DwInBRefIdeal.Value.run_results m' g')

/-- Equal arguments give the two programs the same results. -/
theorem algebraic_dwInB : Cert.algebraic_DwInBIdeal_DwInBRefIdeal := fun m g m' g' _ hagree =>
  ⟨fun c => Cert.DwInBRefIdeal.Value.RES (m ((c.tc : Thread Cert.DwInBIdeal.nD Cert.DwInBIdeal.τ).loc Cert.DwInBIdeal.main_arg0)) (m ((c.tc : Thread Cert.DwInBIdeal.nD Cert.DwInBIdeal.τ).loc Cert.DwInBIdeal.main_arg1)) (m ((c.tc : Thread Cert.DwInBIdeal.nD Cert.DwInBIdeal.τ).loc Cert.DwInBIdeal.main_arg2)),
    (θ_run _ _ _).mono (fun r h c => ⟨((h.1 c).1 2).trans (Cert.DwInBIdeal.Value.equal m c), h.2 c⟩)
      (θ_run_and (Cert.DwInBIdeal.Gen.run_main m g) (Cert.DwInBIdeal.Gen.unchanged m g)),
    (θ_run _ _ _).mono (fun r h c => by
      obtain ⟨h0, ha⟩ := h c
      obtain ⟨a0, a1, a2⟩ := hagree c
      exact ⟨h0.trans (congr (congr (congrArg Cert.DwInBRefIdeal.Value.RES a0) a1) a2), ha⟩)
      (Cert.DwInBRefIdeal.Value.run_results m' g')⟩

/-! ## DwOut -/

theorem same_bodies_dwOut : Cert.DwOut.defs₀ (F := Bits) = Cert.DwOutIdeal.defs₀ (F := Bits) := by
  unfold Cert.DwOut.defs₀ Cert.DwOutIdeal.defs₀
  congr 1
  funext a b
  rcases a with ⟨_ | a, ha⟩
  · rfl
  · exact absurd ha (by omega)

theorem same_defs_dwOut : Cert.DwOut.defs (F := Bits) = Cert.DwOutIdeal.defs (F := Bits) :=
  congrArg (Pipeline.defs Cert.DwOutIdeal.pcfgs) same_bodies_dwOut

theorem frame_dwOut : Cert.quiescent_DwOut := fun m ρ _ => by
  rw [same_defs_dwOut]
  exact Cert.DwOutIdeal.Gen.frame (F := Bits) m ρ

theorem frame_dwOutIdeal : Cert.quiescent_DwOutIdeal := fun m ρ _ => Cert.DwOutIdeal.Gen.frame m ρ

theorem frame_dwOutRefIdeal : Cert.quiescent_DwOutRefIdeal :=
  fun m' g' _ => (θ_run _ _ _).mono (fun _ h => ⟨fun c => (h c).2, sem_eq_zero_of_no_sems rfl _⟩)
    (Cert.DwOutRefIdeal.Value.run_results m' g')

/-- Equal arguments give the two programs the same results. -/
theorem algebraic_dwOut : Cert.algebraic_DwOutIdeal_DwOutRefIdeal := fun m g m' g' _ hagree =>
  ⟨fun c => Cert.DwOutRefIdeal.Value.RES (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2)) (m ((c.tc : Thread Cert.DwOutIdeal.nD Cert.DwOutIdeal.τ).loc Cert.DwOutIdeal.main_arg3)) (m ((c.tc : Thread Cert.DwOutIdeal.nD Cert.DwOutIdeal.τ).loc Cert.DwOutIdeal.main_arg4)) (m ((c.tc : Thread Cert.DwOutIdeal.nD Cert.DwOutIdeal.τ).loc Cert.DwOutIdeal.main_arg5)),
    (θ_run _ _ _).mono (fun r h c => ⟨((h.1 c).1 2).trans (Cert.DwOutIdeal.Value.equal m c), h.2 c⟩)
      (θ_run_and (Cert.DwOutIdeal.Gen.run_main m g) (Cert.DwOutIdeal.Gen.unchanged m g)),
    (θ_run _ _ _).mono (fun r h c => by
      obtain ⟨h0, ha⟩ := h c
      obtain ⟨a0, a1, a2, a3, a4, a5⟩ := hagree c
      exact ⟨h0.trans (congr (congr (congr (congr (congr (congrArg Cert.DwOutRefIdeal.Value.RES a0) a1) a2) a3) a4) a5), ha⟩)
      (Cert.DwOutRefIdeal.Value.run_results m' g')⟩

/-! ## InGrad -/

theorem same_bodies_inGrad : Cert.InGrad.defs₀ (F := Bits) = Cert.InGradIdeal.defs₀ (F := Bits) := by
  unfold Cert.InGrad.defs₀ Cert.InGradIdeal.defs₀
  congr 1
  funext a b
  rcases a with ⟨_ | a, ha⟩
  · rfl
  · exact absurd ha (by omega)

theorem same_defs_inGrad : Cert.InGrad.defs (F := Bits) = Cert.InGradIdeal.defs (F := Bits) :=
  congrArg (Pipeline.defs Cert.InGradIdeal.pcfgs) same_bodies_inGrad

theorem frame_inGrad : Cert.quiescent_InGrad := fun m ρ _ => by
  rw [same_defs_inGrad]
  exact Cert.InGradIdeal.Gen.frame (F := Bits) m ρ

theorem frame_inGradIdeal : Cert.quiescent_InGradIdeal := fun m ρ _ => Cert.InGradIdeal.Gen.frame m ρ

theorem frame_inGradRefIdeal : Cert.quiescent_InGradRefIdeal :=
  fun m' g' _ => (θ_run _ _ _).mono (fun _ h => ⟨fun c => (h c).2.2, sem_eq_zero_of_no_sems rfl _⟩)
    (Cert.InGradRefIdeal.Value.run_results m' g')

/-- Equal arguments give the two programs the same results. -/
theorem algebraic_inGrad : Cert.algebraic_InGradIdeal_InGradRefIdeal := fun m g m' g' _ hagree =>
  ⟨fun c => Cert.InGradRefIdeal.Value.RES0 (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4)) (m ((c.tc : Thread Cert.InGradIdeal.nD Cert.InGradIdeal.τ).loc Cert.InGradIdeal.main_arg5)), fun c => Cert.InGradRefIdeal.Value.RES1 (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)),
    (θ_run _ _ _).mono (fun r h c => ⟨((h.1 c).1 6).trans (Cert.InGradIdeal.Value.equal0 m c), ((h.1 c).1 7).trans (Cert.InGradIdeal.Value.equal1 m c), h.2 c⟩)
      (θ_run_and (Cert.InGradIdeal.Gen.run_main m g) (Cert.InGradIdeal.Gen.unchanged m g)),
    (θ_run _ _ _).mono (fun r h c => by
      obtain ⟨h0, h1, ha⟩ := h c
      obtain ⟨a0, a1, a2, a3, a4, a5⟩ := hagree c
      exact ⟨h0.trans (congr (congr (congr (congr (congr (congrArg Cert.InGradRefIdeal.Value.RES0 a0) a1) a2) a3) a4) a5), h1.trans (congr (congr (congr (congrArg Cert.InGradRefIdeal.Value.RES1 a0) a1) a2) a3), ha⟩)
      (Cert.InGradRefIdeal.Value.run_results m' g')⟩

/-! ## LossHead -/

theorem same_bodies_lossHead : Cert.LossHead.defs₀ (F := Bits) = Cert.LossHeadIdeal.defs₀ (F := Bits) := by
  unfold Cert.LossHead.defs₀ Cert.LossHeadIdeal.defs₀
  congr 1
  funext a b
  rcases a with ⟨_ | a, ha⟩
  · rfl
  · exact absurd ha (by omega)

theorem same_defs_lossHead : Cert.LossHead.defs (F := Bits) = Cert.LossHeadIdeal.defs (F := Bits) :=
  congrArg (Pipeline.defs Cert.LossHeadIdeal.pcfgs) same_bodies_lossHead

theorem frame_lossHead : Cert.quiescent_LossHead := fun m ρ _ => by
  rw [same_defs_lossHead]
  exact Cert.LossHeadIdeal.Gen.frame (F := Bits) m ρ

theorem frame_lossHeadIdeal : Cert.quiescent_LossHeadIdeal := fun m ρ _ => Cert.LossHeadIdeal.Gen.frame m ρ

theorem frame_lossHeadRefIdeal : Cert.quiescent_LossHeadRefIdeal :=
  fun m' g' _ => (θ_run _ _ _).mono (fun _ h => ⟨fun c => (h c).2.2.2, sem_eq_zero_of_no_sems rfl _⟩)
    (Cert.LossHeadRefIdeal.Value.run_results m' g')

/-- Equal arguments give the two programs the same results. -/
theorem algebraic_lossHead : Cert.algebraic_LossHeadIdeal_LossHeadRefIdeal := fun m g m' g' _ hagree =>
  ⟨fun c => Cert.LossHeadRefIdeal.Value.RES0 (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)), fun c => Cert.LossHeadRefIdeal.Value.RES1 (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)), fun c => Cert.LossHeadRefIdeal.Value.RES2 (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)),
    (θ_run _ _ _).mono (fun r h c => ⟨((h.1 c).1 3).trans (Cert.LossHeadIdeal.Value.equal0 m c), ((h.1 c).1 4).trans (Cert.LossHeadIdeal.Value.equal1 m c), ((h.1 c).1 5).trans (Cert.LossHeadIdeal.Value.equal2 m c), h.2 c⟩)
      (θ_run_and (Cert.LossHeadIdeal.Gen.run_main m g) (Cert.LossHeadIdeal.Gen.unchanged m g)),
    (θ_run _ _ _).mono (fun r h c => by
      obtain ⟨h0, h1, h2, ha⟩ := h c
      obtain ⟨a0, a1, a2⟩ := hagree c
      exact ⟨h0.trans (congr (congr (congrArg Cert.LossHeadRefIdeal.Value.RES0 a0) a1) a2), h1.trans (congr (congr (congrArg Cert.LossHeadRefIdeal.Value.RES1 a0) a1) a2), h2.trans (congr (congr (congrArg Cert.LossHeadRefIdeal.Value.RES2 a0) a1) a2), ha⟩)
      (Cert.LossHeadRefIdeal.Value.run_results m' g')⟩

/-! ## DownGrad -/

theorem same_bodies_downGrad : Cert.DownGrad.defs₀ (F := Bits) = Cert.DownGradIdeal.defs₀ (F := Bits) := by
  unfold Cert.DownGrad.defs₀ Cert.DownGradIdeal.defs₀
  congr 1
  funext a b
  rcases a with ⟨_ | a, ha⟩
  · rfl
  · exact absurd ha (by omega)

theorem same_defs_downGrad : Cert.DownGrad.defs (F := Bits) = Cert.DownGradIdeal.defs (F := Bits) :=
  congrArg (Pipeline.defs Cert.DownGradIdeal.pcfgs) same_bodies_downGrad

theorem frame_downGrad : Cert.quiescent_DownGrad := fun m ρ _ => by
  rw [same_defs_downGrad]
  exact Cert.DownGradIdeal.Gen.frame (F := Bits) m ρ

theorem frame_downGradIdeal : Cert.quiescent_DownGradIdeal := fun m ρ _ => Cert.DownGradIdeal.Gen.frame m ρ

theorem frame_downGradRefIdeal : Cert.quiescent_DownGradRefIdeal :=
  fun m' g' _ => (θ_run _ _ _).mono (fun _ h => ⟨fun c => (h c).2, sem_eq_zero_of_no_sems rfl _⟩)
    (Cert.DownGradRefIdeal.Value.run_results m' g')

theorem frame_downGradIdeal_pre : Cert.quiescent_DownGradIdeal_pre_down_finite := fun m ρ _ => Cert.DownGradIdeal.Gen.frame m ρ

theorem frame_downGradRefIdeal_pre : Cert.quiescent_DownGradRefIdeal_pre_down_finite :=
  fun m' g' _ => (θ_run _ _ _).mono (fun _ h => ⟨fun c => (h c).2, sem_eq_zero_of_no_sems rfl _⟩)
    (Cert.DownGradRefIdeal.Value.run_results m' g')

/-- Equal arguments give the two programs the same results. -/
theorem algebraic_downGrad : Cert.algebraic_DownGradIdeal_DownGradRefIdeal_pre_down_finite := fun m g m' g' hpre hagree =>
  ⟨fun c => Cert.DownGradRefIdeal.Value.RES (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)) (m ((c.tc : Thread Cert.DownGradIdeal.nD Cert.DownGradIdeal.τ).loc Cert.DownGradIdeal.main_arg2)),
    (θ_run _ _ _).mono (fun r h c => ⟨((h.1 c).1 3).trans (Cert.DownGradIdeal.Value.equal m c (hpre c)), h.2 c⟩)
      (θ_run_and (Cert.DownGradIdeal.Gen.run_main m g) (Cert.DownGradIdeal.Gen.unchanged m g)),
    (θ_run _ _ _).mono (fun r h c => by
      obtain ⟨h0, ha⟩ := h c
      obtain ⟨a0, a1, a2⟩ := hagree c
      exact ⟨h0.trans (congr (congr (congrArg Cert.DownGradRefIdeal.Value.RES a0) a1) a2), ha⟩)
      (Cert.DownGradRefIdeal.Value.run_results m' g')⟩

/-! ## MixGrad -/

theorem same_bodies_mixGrad : Cert.MixGrad.defs₀ (F := Bits) = Cert.MixGradIdeal.defs₀ (F := Bits) := by
  unfold Cert.MixGrad.defs₀ Cert.MixGradIdeal.defs₀
  congr 1
  funext a b
  rcases a with ⟨_ | a, ha⟩
  · rfl
  · exact absurd ha (by omega)

theorem same_defs_mixGrad : Cert.MixGrad.defs (F := Bits) = Cert.MixGradIdeal.defs (F := Bits) :=
  congrArg (Pipeline.defs Cert.MixGradIdeal.pcfgs) same_bodies_mixGrad

theorem frame_mixGrad : Cert.quiescent_MixGrad := fun m ρ _ => by
  rw [same_defs_mixGrad]
  exact Cert.MixGradIdeal.Gen.frame (F := Bits) m ρ

theorem frame_mixGradIdeal : Cert.quiescent_MixGradIdeal := fun m ρ _ => Cert.MixGradIdeal.Gen.frame m ρ

theorem frame_mixGradRefIdeal : Cert.quiescent_MixGradRefIdeal :=
  fun m' g' _ => (θ_run _ _ _).mono (fun _ h => ⟨fun c => (h c).2.2.2.2, sem_eq_zero_of_no_sems rfl _⟩)
    (Cert.MixGradRefIdeal.Value.run_results m' g')

/-- Equal arguments give the two programs the same results. -/
theorem algebraic_mixGrad : Cert.algebraic_MixGradIdeal_MixGradRefIdeal := fun m g m' g' _ hagree =>
  ⟨fun c => Cert.MixGradRefIdeal.Value.RES0 (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)), fun c => Cert.MixGradRefIdeal.Value.RES1 (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg2)) (m ((c.tc : Thread Cert.MixGradIdeal.nD Cert.MixGradIdeal.τ).loc Cert.MixGradIdeal.main_arg3)) (m ((c.tc : Thread Cert.MixGradIdeal.nD Cert.MixGradIdeal.τ).loc Cert.MixGradIdeal.main_arg4)) (m ((c.tc : Thread Cert.MixGradIdeal.nD Cert.MixGradIdeal.τ).loc Cert.MixGradIdeal.main_arg5)), fun c => Cert.MixGradRefIdeal.Value.RES2 (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg2)) (m ((c.tc : Thread Cert.MixGradIdeal.nD Cert.MixGradIdeal.τ).loc Cert.MixGradIdeal.main_arg3)) (m ((c.tc : Thread Cert.MixGradIdeal.nD Cert.MixGradIdeal.τ).loc Cert.MixGradIdeal.main_arg4)) (m ((c.tc : Thread Cert.MixGradIdeal.nD Cert.MixGradIdeal.τ).loc Cert.MixGradIdeal.main_arg5)), fun c => Cert.MixGradRefIdeal.Value.RES3 (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg2)) (m ((c.tc : Thread Cert.MixGradIdeal.nD Cert.MixGradIdeal.τ).loc Cert.MixGradIdeal.main_arg3)) (m ((c.tc : Thread Cert.MixGradIdeal.nD Cert.MixGradIdeal.τ).loc Cert.MixGradIdeal.main_arg4)),
    (θ_run _ _ _).mono (fun r h c => ⟨((h.1 c).1 6).trans (Cert.MixGradIdeal.Value.equal0 m c), ((h.1 c).1 7).trans (Cert.MixGradIdeal.Value.equal1 m c), ((h.1 c).1 8).trans (Cert.MixGradIdeal.Value.equal2 m c), ((h.1 c).1 9).trans (Cert.MixGradIdeal.Value.equal3 m c), h.2 c⟩)
      (θ_run_and (Cert.MixGradIdeal.Gen.run_main m g) (Cert.MixGradIdeal.Gen.unchanged m g)),
    (θ_run _ _ _).mono (fun r h c => by
      obtain ⟨h0, h1, h2, h3, ha⟩ := h c
      obtain ⟨a0, a1, a2, a3, a4, a5⟩ := hagree c
      exact ⟨h0.trans (congr (congrArg Cert.MixGradRefIdeal.Value.RES0 a0) a1), h1.trans (congr (congr (congr (congr (congr (congrArg Cert.MixGradRefIdeal.Value.RES1 a0) a1) a2) a3) a4) a5), h2.trans (congr (congr (congr (congr (congr (congrArg Cert.MixGradRefIdeal.Value.RES2 a0) a1) a2) a3) a4) a5), h3.trans (congr (congr (congr (congr (congrArg Cert.MixGradRefIdeal.Value.RES3 a0) a1) a2) a3) a4), ha⟩)
      (Cert.MixGradRefIdeal.Value.run_results m' g')⟩

/-! ## InFwd -/

theorem same_bodies_inFwd : Cert.InFwd.defs₀ (F := Bits) = Cert.InFwdIdeal.defs₀ (F := Bits) := by
  unfold Cert.InFwd.defs₀ Cert.InFwdIdeal.defs₀
  congr 1
  funext a b
  rcases a with ⟨_ | a, ha⟩
  · rfl
  · exact absurd ha (by omega)

theorem same_defs_inFwd : Cert.InFwd.defs (F := Bits) = Cert.InFwdIdeal.defs (F := Bits) :=
  congrArg (Pipeline.defs Cert.InFwdIdeal.pcfgs) same_bodies_inFwd

theorem frame_inFwd : Cert.quiescent_InFwd := fun m ρ _ => by
  rw [same_defs_inFwd]
  exact Cert.InFwdIdeal.Gen.frame (F := Bits) m ρ

theorem frame_inFwdIdeal : Cert.quiescent_InFwdIdeal := fun m ρ _ => Cert.InFwdIdeal.Gen.frame m ρ

theorem frame_inFwdRefIdeal : Cert.quiescent_InFwdRefIdeal :=
  fun m' g' _ => (θ_run _ _ _).mono (fun _ h => ⟨fun c => (h c).2.2, sem_eq_zero_of_no_sems rfl _⟩)
    (Cert.InFwdRefIdeal.Value.run_results m' g')

/-- Equal arguments give the two programs the same results. -/
theorem algebraic_inFwd : Cert.algebraic_InFwdIdeal_InFwdRefIdeal := fun m g m' g' _ hagree =>
  ⟨fun c => Cert.InFwdRefIdeal.Value.RES0 (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)) (m ((c.tc : Thread Cert.InFwdIdeal.nD Cert.InFwdIdeal.τ).loc Cert.InFwdIdeal.main_arg2)), fun c => Cert.InFwdRefIdeal.Value.RES1 (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)),
    (θ_run _ _ _).mono (fun r h c => ⟨((h.1 c).1 3).trans (Cert.InFwdIdeal.Value.equal0 m c), ((h.1 c).1 4).trans (Cert.InFwdIdeal.Value.equal1 m c), h.2 c⟩)
      (θ_run_and (Cert.InFwdIdeal.Gen.run_main m g) (Cert.InFwdIdeal.Gen.unchanged m g)),
    (θ_run _ _ _).mono (fun r h c => by
      obtain ⟨h0, h1, ha⟩ := h c
      obtain ⟨a0, a1, a2⟩ := hagree c
      exact ⟨h0.trans (congr (congr (congrArg Cert.InFwdRefIdeal.Value.RES0 a0) a1) a2), h1.trans (congr (congrArg Cert.InFwdRefIdeal.Value.RES1 a0) a1), ha⟩)
      (Cert.InFwdRefIdeal.Value.run_results m' g')⟩

/-! ## DownFwd -/

theorem same_bodies_downFwd : Cert.DownFwd.defs₀ (F := Bits) = Cert.DownFwdIdeal.defs₀ (F := Bits) := by
  unfold Cert.DownFwd.defs₀ Cert.DownFwdIdeal.defs₀
  congr 1
  funext a b
  rcases a with ⟨_ | a, ha⟩
  · rfl
  · exact absurd ha (by omega)

theorem same_defs_downFwd : Cert.DownFwd.defs (F := Bits) = Cert.DownFwdIdeal.defs (F := Bits) :=
  congrArg (Pipeline.defs Cert.DownFwdIdeal.pcfgs) same_bodies_downFwd

theorem frame_downFwd : Cert.quiescent_DownFwd := fun m ρ _ => by
  rw [same_defs_downFwd]
  exact Cert.DownFwdIdeal.Gen.frame (F := Bits) m ρ

theorem frame_downFwdIdeal : Cert.quiescent_DownFwdIdeal := fun m ρ _ => Cert.DownFwdIdeal.Gen.frame m ρ

theorem frame_downFwdRefIdeal : Cert.quiescent_DownFwdRefIdeal :=
  fun m' g' _ => (θ_run _ _ _).mono (fun _ h => ⟨fun c => (h c).2, sem_eq_zero_of_no_sems rfl _⟩)
    (Cert.DownFwdRefIdeal.Value.run_results m' g')

/-- Equal arguments give the two programs the same results. -/
theorem algebraic_downFwd : Cert.algebraic_DownFwdIdeal_DownFwdRefIdeal := fun m g m' g' _ hagree =>
  ⟨fun c => Cert.DownFwdRefIdeal.Value.RES (m ((c.tc : Thread Cert.DownFwdIdeal.nD Cert.DownFwdIdeal.τ).loc Cert.DownFwdIdeal.main_arg0)) (m ((c.tc : Thread Cert.DownFwdIdeal.nD Cert.DownFwdIdeal.τ).loc Cert.DownFwdIdeal.main_arg1)) (m ((c.tc : Thread Cert.DownFwdIdeal.nD Cert.DownFwdIdeal.τ).loc Cert.DownFwdIdeal.main_arg2)),
    (θ_run _ _ _).mono (fun r h c => ⟨((h.1 c).1 3).trans (Cert.DownFwdIdeal.Value.equal m c), h.2 c⟩)
      (θ_run_and (Cert.DownFwdIdeal.Gen.run_main m g) (Cert.DownFwdIdeal.Gen.unchanged m g)),
    (θ_run _ _ _).mono (fun r h c => by
      obtain ⟨h0, ha⟩ := h c
      obtain ⟨a0, a1, a2⟩ := hagree c
      exact ⟨h0.trans (congr (congr (congrArg Cert.DownFwdRefIdeal.Value.RES a0) a1) a2), ha⟩)
      (Cert.DownFwdRefIdeal.Value.run_results m' g')⟩

/-! ## OutFwd -/

theorem same_bodies_outFwd : Cert.OutFwd.defs₀ (F := Bits) = Cert.OutFwdIdeal.defs₀ (F := Bits) := by
  unfold Cert.OutFwd.defs₀ Cert.OutFwdIdeal.defs₀
  congr 1
  funext a b
  rcases a with ⟨_ | a, ha⟩
  · rfl
  · exact absurd ha (by omega)

theorem same_defs_outFwd : Cert.OutFwd.defs (F := Bits) = Cert.OutFwdIdeal.defs (F := Bits) :=
  congrArg (Pipeline.defs Cert.OutFwdIdeal.pcfgs) same_bodies_outFwd

theorem frame_outFwd : Cert.quiescent_OutFwd := fun m ρ _ => by
  rw [same_defs_outFwd]
  exact Cert.OutFwdIdeal.Gen.frame (F := Bits) m ρ

theorem frame_outFwdIdeal : Cert.quiescent_OutFwdIdeal := fun m ρ _ => Cert.OutFwdIdeal.Gen.frame m ρ

theorem frame_outFwdRefIdeal : Cert.quiescent_OutFwdRefIdeal :=
  fun m' g' _ => (θ_run _ _ _).mono (fun _ h => ⟨fun c => (h c).2.2, sem_eq_zero_of_no_sems rfl _⟩)
    (Cert.OutFwdRefIdeal.Value.run_results m' g')

/-- Equal arguments give the two programs the same results. -/
theorem algebraic_outFwd : Cert.algebraic_OutFwdIdeal_OutFwdRefIdeal := fun m g m' g' _ hagree =>
  ⟨fun c => Cert.OutFwdRefIdeal.Value.RES0 (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5)) (m ((c.tc : Thread Cert.OutFwdIdeal.nD Cert.OutFwdIdeal.τ).loc Cert.OutFwdIdeal.main_arg6)), fun c => Cert.OutFwdRefIdeal.Value.RES1 (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5)),
    (θ_run _ _ _).mono (fun r h c => ⟨((h.1 c).1 7).trans (Cert.OutFwdIdeal.Value.equal0 m c), ((h.1 c).1 8).trans (Cert.OutFwdIdeal.Value.equal1 m c), h.2 c⟩)
      (θ_run_and (Cert.OutFwdIdeal.Gen.run_main m g) (Cert.OutFwdIdeal.Gen.unchanged m g)),
    (θ_run _ _ _).mono (fun r h c => by
      obtain ⟨h0, h1, ha⟩ := h c
      obtain ⟨a0, a1, a2, a3, a4, a5, a6⟩ := hagree c
      exact ⟨h0.trans (congr (congr (congr (congr (congr (congr (congrArg Cert.OutFwdRefIdeal.Value.RES0 a0) a1) a2) a3) a4) a5) a6), h1.trans (congr (congr (congr (congr (congrArg Cert.OutFwdRefIdeal.Value.RES1 a1) a2) a3) a4) a5), ha⟩)
      (Cert.OutFwdRefIdeal.Value.run_results m' g')⟩

/-! ## UpFwd -/

theorem same_bodies_upFwd : Cert.UpFwd.defs₀ (F := Bits) = Cert.UpFwdIdeal.defs₀ (F := Bits) := by
  unfold Cert.UpFwd.defs₀ Cert.UpFwdIdeal.defs₀
  congr 1
  funext a b
  rcases a with ⟨_ | a, ha⟩
  · rfl
  · exact absurd ha (by omega)

theorem same_defs_upFwd : Cert.UpFwd.defs (F := Bits) = Cert.UpFwdIdeal.defs (F := Bits) :=
  congrArg (Pipeline.defs Cert.UpFwdIdeal.pcfgs) same_bodies_upFwd

theorem frame_upFwd : Cert.quiescent_UpFwd := fun m ρ _ => by
  rw [same_defs_upFwd]
  exact Cert.UpFwdIdeal.Gen.frame (F := Bits) m ρ

theorem frame_upFwdIdeal : Cert.quiescent_UpFwdIdeal := fun m ρ _ => Cert.UpFwdIdeal.Gen.frame m ρ

theorem frame_upFwdRefIdeal : Cert.quiescent_UpFwdRefIdeal :=
  fun m' g' _ => (θ_run _ _ _).mono (fun _ h => ⟨fun c => (h c).2.2.2.2, sem_eq_zero_of_no_sems rfl _⟩)
    (Cert.UpFwdRefIdeal.Value.run_results m' g')

/-- Equal arguments give the two programs the same results. -/
theorem algebraic_upFwd : Cert.algebraic_UpFwdIdeal_UpFwdRefIdeal := fun m g m' g' _ hagree =>
  ⟨fun c => Cert.UpFwdRefIdeal.Value.RES0 (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)) (m ((c.tc : Thread Cert.UpFwdIdeal.nD Cert.UpFwdIdeal.τ).loc Cert.UpFwdIdeal.main_arg2)), fun c => Cert.UpFwdRefIdeal.Value.RES1 (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)), fun c => Cert.UpFwdRefIdeal.Value.RES2 (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)) (m ((c.tc : Thread Cert.UpFwdIdeal.nD Cert.UpFwdIdeal.τ).loc Cert.UpFwdIdeal.main_arg2)) (m ((c.tc : Thread Cert.UpFwdIdeal.nD Cert.UpFwdIdeal.τ).loc Cert.UpFwdIdeal.main_arg3)) (m ((c.tc : Thread Cert.UpFwdIdeal.nD Cert.UpFwdIdeal.τ).loc Cert.UpFwdIdeal.main_arg4)), fun c => Cert.UpFwdRefIdeal.Value.RES3 (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)) (m ((c.tc : Thread Cert.UpFwdIdeal.nD Cert.UpFwdIdeal.τ).loc Cert.UpFwdIdeal.main_arg2)) (m ((c.tc : Thread Cert.UpFwdIdeal.nD Cert.UpFwdIdeal.τ).loc Cert.UpFwdIdeal.main_arg3)) (m ((c.tc : Thread Cert.UpFwdIdeal.nD Cert.UpFwdIdeal.τ).loc Cert.UpFwdIdeal.main_arg4)),
    (θ_run _ _ _).mono (fun r h c => ⟨((h.1 c).1 5).trans (Cert.UpFwdIdeal.Value.equal0 m c), ((h.1 c).1 6).trans (Cert.UpFwdIdeal.Value.equal1 m c), ((h.1 c).1 7).trans (Cert.UpFwdIdeal.Value.equal2 m c), ((h.1 c).1 8).trans (Cert.UpFwdIdeal.Value.equal3 m c), h.2 c⟩)
      (θ_run_and (Cert.UpFwdIdeal.Gen.run_main m g) (Cert.UpFwdIdeal.Gen.unchanged m g)),
    (θ_run _ _ _).mono (fun r h c => by
      obtain ⟨h0, h1, h2, h3, ha⟩ := h c
      obtain ⟨a0, a1, a2, a3, a4⟩ := hagree c
      exact ⟨h0.trans (congr (congr (congrArg Cert.UpFwdRefIdeal.Value.RES0 a0) a1) a2), h1.trans (congr (congrArg Cert.UpFwdRefIdeal.Value.RES1 a0) a1), h2.trans (congr (congr (congr (congr (congrArg Cert.UpFwdRefIdeal.Value.RES2 a0) a1) a2) a3) a4), h3.trans (congr (congr (congr (congr (congrArg Cert.UpFwdRefIdeal.Value.RES3 a0) a1) a2) a3) a4), ha⟩)
      (Cert.UpFwdRefIdeal.Value.run_results m' g')⟩

/-! ## GateFwd -/

theorem same_bodies_gateFwd : Cert.GateFwd.defs₀ (F := Bits) = Cert.GateFwdIdeal.defs₀ (F := Bits) := by
  unfold Cert.GateFwd.defs₀ Cert.GateFwdIdeal.defs₀
  congr 1
  funext a b
  rcases a with ⟨_ | a, ha⟩
  · rfl
  · exact absurd ha (by omega)

theorem same_defs_gateFwd : Cert.GateFwd.defs (F := Bits) = Cert.GateFwdIdeal.defs (F := Bits) :=
  congrArg (Pipeline.defs Cert.GateFwdIdeal.pcfgs) same_bodies_gateFwd

theorem frame_gateFwd : Cert.quiescent_GateFwd := fun m ρ _ => by
  rw [same_defs_gateFwd]
  exact Cert.GateFwdIdeal.Gen.frame (F := Bits) m ρ

theorem frame_gateFwdIdeal : Cert.quiescent_GateFwdIdeal := fun m ρ _ => Cert.GateFwdIdeal.Gen.frame m ρ

theorem frame_gateFwdRefIdeal : Cert.quiescent_GateFwdRefIdeal :=
  fun m' g' _ => (θ_run _ _ _).mono (fun _ h => ⟨fun c => (h c).2, sem_eq_zero_of_no_sems rfl _⟩)
    (Cert.GateFwdRefIdeal.Value.run_results m' g')

/-- Equal arguments give the two programs the same results. -/
theorem algebraic_gateFwd : Cert.algebraic_GateFwdIdeal_GateFwdRefIdeal := fun m g m' g' _ hagree =>
  ⟨fun c => Cert.GateFwdRefIdeal.Value.RES (m ((c.tc : Thread Cert.GateFwdIdeal.nD Cert.GateFwdIdeal.τ).loc Cert.GateFwdIdeal.main_arg0)) (m ((c.tc : Thread Cert.GateFwdIdeal.nD Cert.GateFwdIdeal.τ).loc Cert.GateFwdIdeal.main_arg1)) (m ((c.tc : Thread Cert.GateFwdIdeal.nD Cert.GateFwdIdeal.τ).loc Cert.GateFwdIdeal.main_arg2)) (m ((c.tc : Thread Cert.GateFwdIdeal.nD Cert.GateFwdIdeal.τ).loc Cert.GateFwdIdeal.main_arg3)) (m ((c.tc : Thread Cert.GateFwdIdeal.nD Cert.GateFwdIdeal.τ).loc Cert.GateFwdIdeal.main_arg4)),
    (θ_run _ _ _).mono (fun r h c => ⟨((h.1 c).1 5).trans (Cert.GateFwdIdeal.Value.equal m c), h.2 c⟩)
      (θ_run_and (Cert.GateFwdIdeal.Gen.run_main m g) (Cert.GateFwdIdeal.Gen.unchanged m g)),
    (θ_run _ _ _).mono (fun r h c => by
      obtain ⟨h0, ha⟩ := h c
      obtain ⟨a0, a1, a2, a3, a4⟩ := hagree c
      exact ⟨h0.trans (congr (congr (congr (congr (congrArg Cert.GateFwdRefIdeal.Value.RES a0) a1) a2) a3) a4), ha⟩)
      (Cert.GateFwdRefIdeal.Value.run_results m' g')⟩

/-! ## AdamIn -/

theorem frame_adamIn : Cert.quiescent_AdamIn := fun m ρ _ => Cert.AdamIn.Gen.frame m ρ

/-- The two named constants denote the reciprocals they stand for. -/
theorem preserves_adamIn : Cert.preserves_AdamIn_AdamInIdeal :=
  ⟨IdealRules.named_const.statement Cert.AdamInIdeal.κ "m_scale" .f32 0x3FC48605#32 (((5463681 / 8388608)⁻¹ : ℝ) : EReal) rfl,
    IdealRules.named_const.statement Cert.AdamInIdeal.κ "v_scale" .f32 0x42C8E6D3#32 (((2672307 / 268435456)⁻¹ : ℝ) : EReal) rfl⟩

theorem frame_adamInIdeal : Cert.quiescent_AdamInIdeal := fun m ρ _ => Cert.AdamInIdeal.Gen.frame m ρ

theorem frame_adamInRefIdeal : Cert.quiescent_AdamInRefIdeal :=
  fun m' g' _ => (θ_run _ _ _).mono (fun _ h => ⟨fun c => (h c).2.2.2.2, sem_eq_zero_of_no_sems rfl _⟩)
    (Cert.AdamInRefIdeal.Value.run_results m' g')

/-- Equal arguments give the two programs the same results. -/
theorem algebraic_adamIn : Cert.algebraic_AdamInIdeal_AdamInRefIdeal := fun m g m' g' _ hagree =>
  ⟨fun c => Cert.AdamInRefIdeal.Value.RES0 (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)), fun c => Cert.AdamInRefIdeal.Value.RES1 (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)), fun c => Cert.AdamInRefIdeal.Value.RES2 (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)), fun c => Cert.AdamInRefIdeal.Value.RES3 (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg4)),
    (θ_run _ _ _).mono (fun r h c => ⟨((h.1 c).1 5).trans (Cert.AdamInIdeal.Value.equal0 m c), ((h.1 c).1 6).trans (Cert.AdamInIdeal.Value.equal1 m c), ((h.1 c).1 7).trans (Cert.AdamInIdeal.Value.equal2 m c), ((h.1 c).1 8).trans (Cert.AdamInIdeal.Value.equal3 m c), h.2 c⟩)
      (θ_run_and (Cert.AdamInIdeal.Gen.run_main m g) (Cert.AdamInIdeal.Gen.unchanged m g)),
    (θ_run _ _ _).mono (fun r h c => by
      obtain ⟨h0, h1, h2, h3, ha⟩ := h c
      obtain ⟨a0, a1, a2, a3, a4⟩ := hagree c
      exact ⟨h0.trans (congr (congrArg Cert.AdamInRefIdeal.Value.RES0 a1) a2), h1.trans (congr (congr (congr (congr (congrArg Cert.AdamInRefIdeal.Value.RES1 a0) a1) a2) a3) a4), h2.trans (congr (congr (congrArg Cert.AdamInRefIdeal.Value.RES2 a1) a2) a3), h3.trans (congr (congr (congrArg Cert.AdamInRefIdeal.Value.RES3 a1) a2) a4), ha⟩)
      (Cert.AdamInRefIdeal.Value.run_results m' g')⟩

/-! ## AdamOut -/

theorem frame_adamOut : Cert.quiescent_AdamOut := fun m ρ _ => Cert.AdamOut.Gen.frame m ρ

/-- The two named constants denote the reciprocals they stand for. -/
theorem preserves_adamOut : Cert.preserves_AdamOut_AdamOutIdeal :=
  ⟨IdealRules.named_const.statement Cert.AdamOutIdeal.κ "m_scale" .f32 0x3FC48605#32 (((5463681 / 8388608)⁻¹ : ℝ) : EReal) rfl,
    IdealRules.named_const.statement Cert.AdamOutIdeal.κ "v_scale" .f32 0x42C8E6D3#32 (((2672307 / 268435456)⁻¹ : ℝ) : EReal) rfl⟩

theorem frame_adamOutIdeal : Cert.quiescent_AdamOutIdeal := fun m ρ _ => Cert.AdamOutIdeal.Gen.frame m ρ

theorem frame_adamOutRefIdeal : Cert.quiescent_AdamOutRefIdeal :=
  fun m' g' _ => (θ_run _ _ _).mono (fun _ h => ⟨fun c => (h c).2.2.2.2, sem_eq_zero_of_no_sems rfl _⟩)
    (Cert.AdamOutRefIdeal.Value.run_results m' g')

/-- Equal arguments give the two programs the same results. -/
theorem algebraic_adamOut : Cert.algebraic_AdamOutIdeal_AdamOutRefIdeal := fun m g m' g' _ hagree =>
  ⟨fun c => Cert.AdamOutRefIdeal.Value.RES0 (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)), fun c => Cert.AdamOutRefIdeal.Value.RES1 (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)), fun c => Cert.AdamOutRefIdeal.Value.RES2 (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)), fun c => Cert.AdamOutRefIdeal.Value.RES3 (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg4)),
    (θ_run _ _ _).mono (fun r h c => ⟨((h.1 c).1 5).trans (Cert.AdamOutIdeal.Value.equal0 m c), ((h.1 c).1 6).trans (Cert.AdamOutIdeal.Value.equal1 m c), ((h.1 c).1 7).trans (Cert.AdamOutIdeal.Value.equal2 m c), ((h.1 c).1 8).trans (Cert.AdamOutIdeal.Value.equal3 m c), h.2 c⟩)
      (θ_run_and (Cert.AdamOutIdeal.Gen.run_main m g) (Cert.AdamOutIdeal.Gen.unchanged m g)),
    (θ_run _ _ _).mono (fun r h c => by
      obtain ⟨h0, h1, h2, h3, ha⟩ := h c
      obtain ⟨a0, a1, a2, a3, a4⟩ := hagree c
      exact ⟨h0.trans (congr (congrArg Cert.AdamOutRefIdeal.Value.RES0 a1) a2), h1.trans (congr (congr (congr (congr (congrArg Cert.AdamOutRefIdeal.Value.RES1 a0) a1) a2) a3) a4), h2.trans (congr (congr (congrArg Cert.AdamOutRefIdeal.Value.RES2 a1) a2) a3), h3.trans (congr (congr (congrArg Cert.AdamOutRefIdeal.Value.RES3 a1) a2) a4), ha⟩)
      (Cert.AdamOutRefIdeal.Value.run_results m' g')⟩

/-! ## AdamUp -/

theorem frame_adamUp : Cert.quiescent_AdamUp := fun m ρ _ => Cert.AdamUp.Gen.frame m ρ

/-- The two named constants denote the reciprocals they stand for. -/
theorem preserves_adamUp : Cert.preserves_AdamUp_AdamUpIdeal :=
  ⟨IdealRules.named_const.statement Cert.AdamUpIdeal.κ "m_scale" .f32 0x3FC48605#32 (((5463681 / 8388608)⁻¹ : ℝ) : EReal) rfl,
    IdealRules.named_const.statement Cert.AdamUpIdeal.κ "v_scale" .f32 0x42C8E6D3#32 (((2672307 / 268435456)⁻¹ : ℝ) : EReal) rfl⟩

theorem frame_adamUpIdeal : Cert.quiescent_AdamUpIdeal := fun m ρ _ => Cert.AdamUpIdeal.Gen.frame m ρ

theorem frame_adamUpRefIdeal : Cert.quiescent_AdamUpRefIdeal :=
  fun m' g' _ => (θ_run _ _ _).mono (fun _ h => ⟨fun c => (h c).2.2.2.2, sem_eq_zero_of_no_sems rfl _⟩)
    (Cert.AdamUpRefIdeal.Value.run_results m' g')

/-- Equal arguments give the two programs the same results. -/
theorem algebraic_adamUp : Cert.algebraic_AdamUpIdeal_AdamUpRefIdeal := fun m g m' g' _ hagree =>
  ⟨fun c => Cert.AdamUpRefIdeal.Value.RES0 (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)), fun c => Cert.AdamUpRefIdeal.Value.RES1 (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)), fun c => Cert.AdamUpRefIdeal.Value.RES2 (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)), fun c => Cert.AdamUpRefIdeal.Value.RES3 (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg4)),
    (θ_run _ _ _).mono (fun r h c => ⟨((h.1 c).1 5).trans (Cert.AdamUpIdeal.Value.equal0 m c), ((h.1 c).1 6).trans (Cert.AdamUpIdeal.Value.equal1 m c), ((h.1 c).1 7).trans (Cert.AdamUpIdeal.Value.equal2 m c), ((h.1 c).1 8).trans (Cert.AdamUpIdeal.Value.equal3 m c), h.2 c⟩)
      (θ_run_and (Cert.AdamUpIdeal.Gen.run_main m g) (Cert.AdamUpIdeal.Gen.unchanged m g)),
    (θ_run _ _ _).mono (fun r h c => by
      obtain ⟨h0, h1, h2, h3, ha⟩ := h c
      obtain ⟨a0, a1, a2, a3, a4⟩ := hagree c
      exact ⟨h0.trans (congr (congrArg Cert.AdamUpRefIdeal.Value.RES0 a1) a2), h1.trans (congr (congr (congr (congr (congrArg Cert.AdamUpRefIdeal.Value.RES1 a0) a1) a2) a3) a4), h2.trans (congr (congr (congrArg Cert.AdamUpRefIdeal.Value.RES2 a1) a2) a3), h3.trans (congr (congr (congrArg Cert.AdamUpRefIdeal.Value.RES3 a1) a2) a4), ha⟩)
      (Cert.AdamUpRefIdeal.Value.run_results m' g')⟩

/-! ## AdamDown -/

theorem frame_adamDown : Cert.quiescent_AdamDown := fun m ρ _ => Cert.AdamDown.Gen.frame m ρ

/-- The two named constants denote the reciprocals they stand for. -/
theorem preserves_adamDown : Cert.preserves_AdamDown_AdamDownIdeal :=
  ⟨IdealRules.named_const.statement Cert.AdamDownIdeal.κ "m_scale" .f32 0x3FC48605#32 (((5463681 / 8388608)⁻¹ : ℝ) : EReal) rfl,
    IdealRules.named_const.statement Cert.AdamDownIdeal.κ "v_scale" .f32 0x42C8E6D3#32 (((2672307 / 268435456)⁻¹ : ℝ) : EReal) rfl⟩

theorem frame_adamDownIdeal : Cert.quiescent_AdamDownIdeal := fun m ρ _ => Cert.AdamDownIdeal.Gen.frame m ρ

theorem frame_adamDownRefIdeal : Cert.quiescent_AdamDownRefIdeal :=
  fun m' g' _ => (θ_run _ _ _).mono (fun _ h => ⟨fun c => (h c).2.2.2.2, sem_eq_zero_of_no_sems rfl _⟩)
    (Cert.AdamDownRefIdeal.Value.run_results m' g')

/-- Equal arguments give the two programs the same results. -/
theorem algebraic_adamDown : Cert.algebraic_AdamDownIdeal_AdamDownRefIdeal := fun m g m' g' _ hagree =>
  ⟨fun c => Cert.AdamDownRefIdeal.Value.RES0 (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)), fun c => Cert.AdamDownRefIdeal.Value.RES1 (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)), fun c => Cert.AdamDownRefIdeal.Value.RES2 (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)), fun c => Cert.AdamDownRefIdeal.Value.RES3 (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg4)),
    (θ_run _ _ _).mono (fun r h c => ⟨((h.1 c).1 5).trans (Cert.AdamDownIdeal.Value.equal0 m c), ((h.1 c).1 6).trans (Cert.AdamDownIdeal.Value.equal1 m c), ((h.1 c).1 7).trans (Cert.AdamDownIdeal.Value.equal2 m c), ((h.1 c).1 8).trans (Cert.AdamDownIdeal.Value.equal3 m c), h.2 c⟩)
      (θ_run_and (Cert.AdamDownIdeal.Gen.run_main m g) (Cert.AdamDownIdeal.Gen.unchanged m g)),
    (θ_run _ _ _).mono (fun r h c => by
      obtain ⟨h0, h1, h2, h3, ha⟩ := h c
      obtain ⟨a0, a1, a2, a3, a4⟩ := hagree c
      exact ⟨h0.trans (congr (congrArg Cert.AdamDownRefIdeal.Value.RES0 a1) a2), h1.trans (congr (congr (congr (congr (congrArg Cert.AdamDownRefIdeal.Value.RES1 a0) a1) a2) a3) a4), h2.trans (congr (congr (congrArg Cert.AdamDownRefIdeal.Value.RES2 a1) a2) a3), h3.trans (congr (congr (congrArg Cert.AdamDownRefIdeal.Value.RES3 a1) a2) a4), ha⟩)
      (Cert.AdamDownRefIdeal.Value.run_results m' g')⟩

/-! ## AdamSmall -/

theorem frame_adamSmall : Cert.quiescent_AdamSmall := fun m ρ _ => Cert.AdamSmall.Gen.frame m ρ

/-- The two named constants denote the reciprocals they stand for. -/
theorem preserves_adamSmall : Cert.preserves_AdamSmall_AdamSmallIdeal :=
  ⟨IdealRules.named_const.statement Cert.AdamSmallIdeal.κ "m_scale" .f32 0x3FC48605#32 (((5463681 / 8388608)⁻¹ : ℝ) : EReal) rfl,
    IdealRules.named_const.statement Cert.AdamSmallIdeal.κ "v_scale" .f32 0x42C8E6D3#32 (((2672307 / 268435456)⁻¹ : ℝ) : EReal) rfl⟩

theorem frame_adamSmallIdeal : Cert.quiescent_AdamSmallIdeal := fun m ρ _ => Cert.AdamSmallIdeal.Gen.frame m ρ

theorem frame_adamSmallRefIdeal : Cert.quiescent_AdamSmallRefIdeal :=
  fun m' g' _ => (θ_run _ _ _).mono (fun _ h => ⟨fun c => (h c).2.2.2.2, sem_eq_zero_of_no_sems rfl _⟩)
    (Cert.AdamSmallRefIdeal.Value.run_results m' g')

/-- Equal arguments give the two programs the same results. -/
theorem algebraic_adamSmall : Cert.algebraic_AdamSmallIdeal_AdamSmallRefIdeal := fun m g m' g' _ hagree =>
  ⟨fun c => Cert.AdamSmallRefIdeal.Value.RES0 (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)), fun c => Cert.AdamSmallRefIdeal.Value.RES1 (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)), fun c => Cert.AdamSmallRefIdeal.Value.RES2 (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), fun c => Cert.AdamSmallRefIdeal.Value.RES3 (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg4)),
    (θ_run _ _ _).mono (fun r h c => ⟨((h.1 c).1 5).trans (Cert.AdamSmallIdeal.Value.equal0 m c), ((h.1 c).1 6).trans (Cert.AdamSmallIdeal.Value.equal1 m c), ((h.1 c).1 7).trans (Cert.AdamSmallIdeal.Value.equal2 m c), ((h.1 c).1 8).trans (Cert.AdamSmallIdeal.Value.equal3 m c), h.2 c⟩)
      (θ_run_and (Cert.AdamSmallIdeal.Gen.run_main m g) (Cert.AdamSmallIdeal.Gen.unchanged m g)),
    (θ_run _ _ _).mono (fun r h c => by
      obtain ⟨h0, h1, h2, h3, ha⟩ := h c
      obtain ⟨a0, a1, a2, a3, a4⟩ := hagree c
      exact ⟨h0.trans (congr (congrArg Cert.AdamSmallRefIdeal.Value.RES0 a1) a2), h1.trans (congr (congr (congr (congr (congrArg Cert.AdamSmallRefIdeal.Value.RES1 a0) a1) a2) a3) a4), h2.trans (congr (congr (congrArg Cert.AdamSmallRefIdeal.Value.RES2 a1) a2) a3), h3.trans (congr (congr (congrArg Cert.AdamSmallRefIdeal.Value.RES3 a1) a2) a4), ha⟩)
      (Cert.AdamSmallRefIdeal.Value.run_results m' g')⟩

/-! ## CastIn -/

theorem same_bodies_castIn : Cert.CastIn.defs₀ (F := Bits) = Cert.CastInIdeal.defs₀ (F := Bits) := by
  unfold Cert.CastIn.defs₀ Cert.CastInIdeal.defs₀
  congr 1
  funext a b
  rcases a with ⟨_ | a, ha⟩
  · rfl
  · exact absurd ha (by omega)

theorem same_defs_castIn : Cert.CastIn.defs (F := Bits) = Cert.CastInIdeal.defs (F := Bits) :=
  congrArg (Pipeline.defs Cert.CastInIdeal.pcfgs) same_bodies_castIn

theorem frame_castIn : Cert.quiescent_CastIn := fun m ρ _ => by
  rw [same_defs_castIn]
  exact Cert.CastInIdeal.Gen.frame (F := Bits) m ρ

theorem frame_castInIdeal : Cert.quiescent_CastInIdeal := fun m ρ _ => Cert.CastInIdeal.Gen.frame m ρ

theorem frame_castInRefIdeal : Cert.quiescent_CastInRefIdeal :=
  fun m' g' _ => (θ_run _ _ _).mono (fun _ h => ⟨fun c => (h c).2, sem_eq_zero_of_no_sems rfl _⟩)
    (Cert.CastInRefIdeal.Value.run_results m' g')

/-- Equal arguments give the two programs the same results. -/
theorem algebraic_castIn : Cert.algebraic_CastInIdeal_CastInRefIdeal := fun m g m' g' _ hagree =>
  ⟨fun c => Cert.CastInRefIdeal.Value.RES (m ((c.tc : Thread Cert.CastInIdeal.nD Cert.CastInIdeal.τ).loc Cert.CastInIdeal.main_arg0)),
    (θ_run _ _ _).mono (fun r h c => ⟨((h.1 c).1 1).trans (Cert.CastInIdeal.Value.equal m c), h.2 c⟩)
      (θ_run_and (Cert.CastInIdeal.Gen.run_main m g) (Cert.CastInIdeal.Gen.unchanged m g)),
    (θ_run _ _ _).mono (fun r h c => by
      obtain ⟨h0, ha⟩ := h c
      have a0 := hagree c
      exact ⟨h0.trans (congrArg Cert.CastInRefIdeal.Value.RES a0), ha⟩)
      (Cert.CastInRefIdeal.Value.run_results m' g')⟩

/-! ## CastOut -/

theorem same_bodies_castOut : Cert.CastOut.defs₀ (F := Bits) = Cert.CastOutIdeal.defs₀ (F := Bits) := by
  unfold Cert.CastOut.defs₀ Cert.CastOutIdeal.defs₀
  congr 1
  funext a b
  rcases a with ⟨_ | a, ha⟩
  · rfl
  · exact absurd ha (by omega)

theorem same_defs_castOut : Cert.CastOut.defs (F := Bits) = Cert.CastOutIdeal.defs (F := Bits) :=
  congrArg (Pipeline.defs Cert.CastOutIdeal.pcfgs) same_bodies_castOut

theorem frame_castOut : Cert.quiescent_CastOut := fun m ρ _ => by
  rw [same_defs_castOut]
  exact Cert.CastOutIdeal.Gen.frame (F := Bits) m ρ

theorem frame_castOutIdeal : Cert.quiescent_CastOutIdeal := fun m ρ _ => Cert.CastOutIdeal.Gen.frame m ρ

theorem frame_castOutRefIdeal : Cert.quiescent_CastOutRefIdeal :=
  fun m' g' _ => (θ_run _ _ _).mono (fun _ h => ⟨fun c => (h c).2, sem_eq_zero_of_no_sems rfl _⟩)
    (Cert.CastOutRefIdeal.Value.run_results m' g')

/-- Equal arguments give the two programs the same results. -/
theorem algebraic_castOut : Cert.algebraic_CastOutIdeal_CastOutRefIdeal := fun m g m' g' _ hagree =>
  ⟨fun c => Cert.CastOutRefIdeal.Value.RES (m ((c.tc : Thread Cert.CastOutIdeal.nD Cert.CastOutIdeal.τ).loc Cert.CastOutIdeal.main_arg0)),
    (θ_run _ _ _).mono (fun r h c => ⟨((h.1 c).1 1).trans (Cert.CastOutIdeal.Value.equal m c), h.2 c⟩)
      (θ_run_and (Cert.CastOutIdeal.Gen.run_main m g) (Cert.CastOutIdeal.Gen.unchanged m g)),
    (θ_run _ _ _).mono (fun r h c => by
      obtain ⟨h0, ha⟩ := h c
      have a0 := hagree c
      exact ⟨h0.trans (congrArg Cert.CastOutRefIdeal.Value.RES a0), ha⟩)
      (Cert.CastOutRefIdeal.Value.run_results m' g')⟩

/-! ## CastUp -/

theorem same_bodies_castUp : Cert.CastUp.defs₀ (F := Bits) = Cert.CastUpIdeal.defs₀ (F := Bits) := by
  unfold Cert.CastUp.defs₀ Cert.CastUpIdeal.defs₀
  congr 1
  funext a b
  rcases a with ⟨_ | a, ha⟩
  · rfl
  · exact absurd ha (by omega)

theorem same_defs_castUp : Cert.CastUp.defs (F := Bits) = Cert.CastUpIdeal.defs (F := Bits) :=
  congrArg (Pipeline.defs Cert.CastUpIdeal.pcfgs) same_bodies_castUp

theorem frame_castUp : Cert.quiescent_CastUp := fun m ρ _ => by
  rw [same_defs_castUp]
  exact Cert.CastUpIdeal.Gen.frame (F := Bits) m ρ

theorem frame_castUpIdeal : Cert.quiescent_CastUpIdeal := fun m ρ _ => Cert.CastUpIdeal.Gen.frame m ρ

theorem frame_castUpRefIdeal : Cert.quiescent_CastUpRefIdeal :=
  fun m' g' _ => (θ_run _ _ _).mono (fun _ h => ⟨fun c => (h c).2, sem_eq_zero_of_no_sems rfl _⟩)
    (Cert.CastUpRefIdeal.Value.run_results m' g')

/-- Equal arguments give the two programs the same results. -/
theorem algebraic_castUp : Cert.algebraic_CastUpIdeal_CastUpRefIdeal := fun m g m' g' _ hagree =>
  ⟨fun c => Cert.CastUpRefIdeal.Value.RES (m ((c.tc : Thread Cert.CastUpIdeal.nD Cert.CastUpIdeal.τ).loc Cert.CastUpIdeal.main_arg0)),
    (θ_run _ _ _).mono (fun r h c => ⟨((h.1 c).1 1).trans (Cert.CastUpIdeal.Value.equal m c), h.2 c⟩)
      (θ_run_and (Cert.CastUpIdeal.Gen.run_main m g) (Cert.CastUpIdeal.Gen.unchanged m g)),
    (θ_run _ _ _).mono (fun r h c => by
      obtain ⟨h0, ha⟩ := h c
      have a0 := hagree c
      exact ⟨h0.trans (congrArg Cert.CastUpRefIdeal.Value.RES a0), ha⟩)
      (Cert.CastUpRefIdeal.Value.run_results m' g')⟩

/-! ## CastDown -/

theorem same_bodies_castDown : Cert.CastDown.defs₀ (F := Bits) = Cert.CastDownIdeal.defs₀ (F := Bits) := by
  unfold Cert.CastDown.defs₀ Cert.CastDownIdeal.defs₀
  congr 1
  funext a b
  rcases a with ⟨_ | a, ha⟩
  · rfl
  · exact absurd ha (by omega)

theorem same_defs_castDown : Cert.CastDown.defs (F := Bits) = Cert.CastDownIdeal.defs (F := Bits) :=
  congrArg (Pipeline.defs Cert.CastDownIdeal.pcfgs) same_bodies_castDown

theorem frame_castDown : Cert.quiescent_CastDown := fun m ρ _ => by
  rw [same_defs_castDown]
  exact Cert.CastDownIdeal.Gen.frame (F := Bits) m ρ

theorem frame_castDownIdeal : Cert.quiescent_CastDownIdeal := fun m ρ _ => Cert.CastDownIdeal.Gen.frame m ρ

theorem frame_castDownRefIdeal : Cert.quiescent_CastDownRefIdeal :=
  fun m' g' _ => (θ_run _ _ _).mono (fun _ h => ⟨fun c => (h c).2, sem_eq_zero_of_no_sems rfl _⟩)
    (Cert.CastDownRefIdeal.Value.run_results m' g')

/-- Equal arguments give the two programs the same results. -/
theorem algebraic_castDown : Cert.algebraic_CastDownIdeal_CastDownRefIdeal := fun m g m' g' _ hagree =>
  ⟨fun c => Cert.CastDownRefIdeal.Value.RES (m ((c.tc : Thread Cert.CastDownIdeal.nD Cert.CastDownIdeal.τ).loc Cert.CastDownIdeal.main_arg0)),
    (θ_run _ _ _).mono (fun r h c => ⟨((h.1 c).1 1).trans (Cert.CastDownIdeal.Value.equal m c), h.2 c⟩)
      (θ_run_and (Cert.CastDownIdeal.Gen.run_main m g) (Cert.CastDownIdeal.Gen.unchanged m g)),
    (θ_run _ _ _).mono (fun r h c => by
      obtain ⟨h0, ha⟩ := h c
      have a0 := hagree c
      exact ⟨h0.trans (congrArg Cert.CastDownRefIdeal.Value.RES a0), ha⟩)
      (Cert.CastDownRefIdeal.Value.run_results m' g')⟩

theorem claim : Cert.Claim := ⟨Cert.Kernel.Gen.facts, Cert.KernelIdeal.Gen.facts, Cert.ReferenceIdeal.Gen.facts, Cert.UpGrad.Gen.facts, Cert.UpGradIdeal.Gen.facts, Cert.UpGradRefIdeal.Gen.facts, Cert.DwUp.Gen.facts, Cert.DwUpIdeal.Gen.facts, Cert.DwUpRefIdeal.Gen.facts, Cert.DwDown.Gen.facts, Cert.DwDownIdeal.Gen.facts, Cert.DwDownRefIdeal.Gen.facts, Cert.DwInA.Gen.facts, Cert.DwInAIdeal.Gen.facts, Cert.DwInARefIdeal.Gen.facts, Cert.DwInB.Gen.facts, Cert.DwInBIdeal.Gen.facts, Cert.DwInBRefIdeal.Gen.facts, Cert.DwOut.Gen.facts, Cert.DwOutIdeal.Gen.facts, Cert.DwOutRefIdeal.Gen.facts, Cert.InGrad.Gen.facts, Cert.InGradIdeal.Gen.facts, Cert.InGradRefIdeal.Gen.facts, Cert.LossHead.Gen.facts, Cert.LossHeadIdeal.Gen.facts, Cert.LossHeadRefIdeal.Gen.facts, Cert.DownGrad.Gen.facts, Cert.DownGradIdeal.Gen.facts, Cert.DownGradRefIdeal.Gen.facts, Cert.MixGrad.Gen.facts, Cert.MixGradIdeal.Gen.facts, Cert.MixGradRefIdeal.Gen.facts, Cert.InFwd.Gen.facts, Cert.InFwdIdeal.Gen.facts, Cert.InFwdRefIdeal.Gen.facts, Cert.DownFwd.Gen.facts, Cert.DownFwdIdeal.Gen.facts, Cert.DownFwdRefIdeal.Gen.facts, Cert.OutFwd.Gen.facts, Cert.OutFwdIdeal.Gen.facts, Cert.OutFwdRefIdeal.Gen.facts, Cert.UpFwd.Gen.facts, Cert.UpFwdIdeal.Gen.facts, Cert.UpFwdRefIdeal.Gen.facts, Cert.GateFwd.Gen.facts, Cert.GateFwdIdeal.Gen.facts, Cert.GateFwdRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamSmall.Gen.facts, Cert.AdamSmallIdeal.Gen.facts, Cert.AdamSmallRefIdeal.Gen.facts, Cert.CastIn.Gen.facts, Cert.CastInIdeal.Gen.facts, Cert.CastInRefIdeal.Gen.facts, Cert.CastOut.Gen.facts, Cert.CastOutIdeal.Gen.facts, Cert.CastOutRefIdeal.Gen.facts, Cert.CastUp.Gen.facts, Cert.CastUpIdeal.Gen.facts, Cert.CastUpRefIdeal.Gen.facts, Cert.CastDown.Gen.facts, Cert.CastDownIdeal.Gen.facts, Cert.CastDownRefIdeal.Gen.facts, Cert.Pre_down_finite.Gen.facts,
  frame_kernel, frame_kernelIdeal, frame_referenceIdeal, frame_upGrad, frame_upGradIdeal, frame_upGradRefIdeal, frame_dwUp, frame_dwUpIdeal, frame_dwUpRefIdeal, frame_dwDown, frame_dwDownIdeal, frame_dwDownRefIdeal, frame_dwInA, frame_dwInAIdeal, frame_dwInARefIdeal, frame_dwInB, frame_dwInBIdeal, frame_dwInBRefIdeal, frame_dwOut, frame_dwOutIdeal, frame_dwOutRefIdeal, frame_inGrad, frame_inGradIdeal, frame_inGradRefIdeal, frame_lossHead, frame_lossHeadIdeal, frame_lossHeadRefIdeal, frame_downGrad, frame_downGradIdeal, frame_downGradIdeal_pre, frame_downGradRefIdeal, frame_downGradRefIdeal_pre, frame_mixGrad, frame_mixGradIdeal, frame_mixGradRefIdeal, frame_inFwd, frame_inFwdIdeal, frame_inFwdRefIdeal, frame_downFwd, frame_downFwdIdeal, frame_downFwdRefIdeal, frame_outFwd, frame_outFwdIdeal, frame_outFwdRefIdeal, frame_upFwd, frame_upFwdIdeal, frame_upFwdRefIdeal, frame_gateFwd, frame_gateFwdIdeal, frame_gateFwdRefIdeal, frame_adamIn, frame_adamInIdeal, frame_adamInRefIdeal, frame_adamOut, frame_adamOutIdeal, frame_adamOutRefIdeal, frame_adamUp, frame_adamUpIdeal, frame_adamUpRefIdeal, frame_adamDown, frame_adamDownIdeal, frame_adamDownRefIdeal, frame_adamSmall, frame_adamSmallIdeal, frame_adamSmallRefIdeal, frame_castIn, frame_castInIdeal, frame_castInRefIdeal, frame_castOut, frame_castOutIdeal, frame_castOutRefIdeal, frame_castUp, frame_castUpIdeal, frame_castUpRefIdeal, frame_castDown, frame_castDownIdeal, frame_castDownRefIdeal,
  trivial, algebraic, trivial, algebraic_upGrad, trivial, algebraic_dwUp, trivial, algebraic_dwDown, trivial, algebraic_dwInA, trivial, algebraic_dwInB, trivial, algebraic_dwOut, trivial, algebraic_inGrad, trivial, algebraic_lossHead, trivial, algebraic_downGrad, trivial, algebraic_mixGrad, trivial, algebraic_inFwd, trivial, algebraic_downFwd, trivial, algebraic_outFwd, trivial, algebraic_upFwd, trivial, algebraic_gateFwd, preserves_adamIn, algebraic_adamIn, preserves_adamOut, algebraic_adamOut, preserves_adamUp, algebraic_adamUp, preserves_adamDown, algebraic_adamDown, preserves_adamSmall, algebraic_adamSmall, trivial, algebraic_castIn, trivial, algebraic_castOut, trivial, algebraic_castUp, trivial, algebraic_castDown⟩

end Cert.Proof

end
